-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Scatter0a (m : (ℓ : Loc Cert.Scatter0a.nD Cert.Scatter0a.τ Cert.Scatter0a.sig) → Buf (Elt Bits) ℓ) : Prop :=
  True

def Pre_Scatter0aIdeal (m : (ℓ : Loc Cert.Scatter0aIdeal.nD Cert.Scatter0aIdeal.τ Cert.Scatter0aIdeal.sig) → Buf (Elt Ideal) ℓ) : Prop :=
  True

def Pre_Scatter0aRefIdeal (m : (ℓ : Loc Cert.Scatter0aRefIdeal.nD Cert.Scatter0aRefIdeal.τ Cert.Scatter0aRefIdeal.sig) → Buf (Elt Ideal) ℓ) : Prop :=
  True

def Pre_Scatter0aRef (m : (ℓ : Loc Cert.Scatter0aRef.nD Cert.Scatter0aRef.τ Cert.Scatter0aRef.sig) → Buf (Elt Bits) ℓ) : Prop :=
  True

def Pre_Scatter0b (m : (ℓ : Loc Cert.Scatter0b.nD Cert.Scatter0b.τ Cert.Scatter0b.sig) → Buf (Elt Bits) ℓ) : Prop :=
  True

def Pre_Scatter0bIdeal (m : (ℓ : Loc Cert.Scatter0bIdeal.nD Cert.Scatter0bIdeal.τ Cert.Scatter0bIdeal.sig) → Buf (Elt Ideal) ℓ) : Prop :=
  True

def Pre_Scatter0bRefIdeal (m : (ℓ : Loc Cert.Scatter0bRefIdeal.nD Cert.Scatter0bRefIdeal.τ Cert.Scatter0bRefIdeal.sig) → Buf (Elt Ideal) ℓ) : Prop :=
  True

def Pre_Scatter0bRef (m : (ℓ : Loc Cert.Scatter0bRef.nD Cert.Scatter0bRef.τ Cert.Scatter0bRef.sig) → Buf (Elt Bits) ℓ) : Prop :=
  True

def Pre_GatherE (m : (ℓ : Loc Cert.GatherE.nD Cert.GatherE.τ Cert.GatherE.sig) → Buf (Elt Bits) ℓ) : Prop :=
  True

def Pre_GatherEIdeal (m : (ℓ : Loc Cert.GatherEIdeal.nD Cert.GatherEIdeal.τ Cert.GatherEIdeal.sig) → Buf (Elt Ideal) ℓ) : Prop :=
  True

def Pre_GatherERefIdeal (m : (ℓ : Loc Cert.GatherERefIdeal.nD Cert.GatherERefIdeal.τ Cert.GatherERefIdeal.sig) → Buf (Elt Ideal) ℓ) : Prop :=
  True

def Pre_GatherERef (m : (ℓ : Loc Cert.GatherERef.nD Cert.GatherERef.τ Cert.GatherERef.sig) → Buf (Elt Bits) ℓ) : Prop :=
  True

def Pre_GatherB (m : (ℓ : Loc Cert.GatherB.nD Cert.GatherB.τ Cert.GatherB.sig) → Buf (Elt Bits) ℓ) : Prop :=
  True

def Pre_GatherBIdeal (m : (ℓ : Loc Cert.GatherBIdeal.nD Cert.GatherBIdeal.τ Cert.GatherBIdeal.sig) → Buf (Elt Ideal) ℓ) : Prop :=
  True

def Pre_GatherBRefIdeal (m : (ℓ : Loc Cert.GatherBRefIdeal.nD Cert.GatherBRefIdeal.τ Cert.GatherBRefIdeal.sig) → Buf (Elt Ideal) ℓ) : Prop :=
  True

def Pre_GatherBRef (m : (ℓ : Loc Cert.GatherBRef.nD Cert.GatherBRef.τ Cert.GatherBRef.sig) → Buf (Elt Bits) ℓ) : Prop :=
  True

def Pre_GatherC (m : (ℓ : Loc Cert.GatherC.nD Cert.GatherC.τ Cert.GatherC.sig) → Buf (Elt Bits) ℓ) : Prop :=
  True

def Pre_GatherCIdeal (m : (ℓ : Loc Cert.GatherCIdeal.nD Cert.GatherCIdeal.τ Cert.GatherCIdeal.sig) → Buf (Elt Ideal) ℓ) : Prop :=
  True

def Pre_GatherCRefIdeal (m : (ℓ : Loc Cert.GatherCRefIdeal.nD Cert.GatherCRefIdeal.τ Cert.GatherCRefIdeal.sig) → Buf (Elt Ideal) ℓ) : Prop :=
  True

def Pre_GatherCRef (m : (ℓ : Loc Cert.GatherCRef.nD Cert.GatherCRef.τ Cert.GatherCRef.sig) → Buf (Elt Bits) ℓ) : Prop :=
  True

def Pre_GatherD (m : (ℓ : Loc Cert.GatherD.nD Cert.GatherD.τ Cert.GatherD.sig) → Buf (Elt Bits) ℓ) : Prop :=
  True

def Pre_GatherDIdeal (m : (ℓ : Loc Cert.GatherDIdeal.nD Cert.GatherDIdeal.τ Cert.GatherDIdeal.sig) → Buf (Elt Ideal) ℓ) : Prop :=
  True

def Pre_GatherDRefIdeal (m : (ℓ : Loc Cert.GatherDRefIdeal.nD Cert.GatherDRefIdeal.τ Cert.GatherDRefIdeal.sig) → Buf (Elt Ideal) ℓ) : Prop :=
  True

def Pre_GatherDRef (m : (ℓ : Loc Cert.GatherDRef.nD Cert.GatherDRef.τ Cert.GatherDRef.sig) → Buf (Elt Bits) ℓ) : Prop :=
  True

def Pre_GatherA (m : (ℓ : Loc Cert.GatherA.nD Cert.GatherA.τ Cert.GatherA.sig) → Buf (Elt Bits) ℓ) : Prop :=
  True

def Pre_GatherAIdeal (m : (ℓ : Loc Cert.GatherAIdeal.nD Cert.GatherAIdeal.τ Cert.GatherAIdeal.sig) → Buf (Elt Ideal) ℓ) : Prop :=
  True

def Pre_GatherARefIdeal (m : (ℓ : Loc Cert.GatherARefIdeal.nD Cert.GatherARefIdeal.τ Cert.GatherARefIdeal.sig) → Buf (Elt Ideal) ℓ) : Prop :=
  True

def Pre_GatherARef (m : (ℓ : Loc Cert.GatherARef.nD Cert.GatherARef.τ Cert.GatherARef.sig) → Buf (Elt Bits) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamGains (m : (ℓ : Loc Cert.AdamGains.nD Cert.AdamGains.τ Cert.AdamGains.sig) → Buf (Elt Bits) ℓ) : Prop :=
  True

def Pre_AdamGainsIdeal (m : (ℓ : Loc Cert.AdamGainsIdeal.nD Cert.AdamGainsIdeal.τ Cert.AdamGainsIdeal.sig) → Buf (Elt Ideal) ℓ) : Prop :=
  True

def Pre_AdamGainsRefIdeal (m : (ℓ : Loc Cert.AdamGainsRefIdeal.nD Cert.AdamGainsRefIdeal.τ Cert.AdamGainsRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpRefIdeal (m : (ℓ : Loc Cert.GradUpRefIdeal.nD Cert.GradUpRefIdeal.τ Cert.GradUpRefIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_DCat (m : (ℓ : Loc Cert.DCat.nD Cert.DCat.τ Cert.DCat.sig) → Buf (Elt Bits) ℓ) : Prop :=
  True

def Pre_DCatIdeal (m : (ℓ : Loc Cert.DCatIdeal.nD Cert.DCatIdeal.τ Cert.DCatIdeal.sig) → Buf (Elt Ideal) ℓ) : Prop :=
  True

def Pre_DCatRefIdeal (m : (ℓ : Loc Cert.DCatRefIdeal.nD Cert.DCatRefIdeal.τ Cert.DCatRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Scatter0a [hScatter0a : Cert.Scatter0a.Facts] : Prop :=
  ∀ (m : (ℓ : Loc Cert.Scatter0a.nD Cert.Scatter0a.τ Cert.Scatter0a.sig) → Buf (Elt Bits) ℓ) (g : Dev Cert.Scatter0a.nD → PrngReg), Pre_Scatter0a m →
    θ_run (Cert.Scatter0a.defs (F := Bits)) (Cert.Scatter0a.threads (F := Bits)) ⟨m, fun _ => 0, g⟩ (fun r => (∀ c : Dev Cert.Scatter0a.nD,
      r.2.mem ((c.tc : Thread Cert.Scatter0a.nD Cert.Scatter0a.τ).loc Cert.Scatter0a.main_arg0) = m ((c.tc : Thread Cert.Scatter0a.nD Cert.Scatter0a.τ).loc Cert.Scatter0a.main_arg0)
      ∧ r.2.mem ((c.tc : Thread Cert.Scatter0a.nD Cert.Scatter0a.τ).loc Cert.Scatter0a.main_arg1) = m ((c.tc : Thread Cert.Scatter0a.nD Cert.Scatter0a.τ).loc Cert.Scatter0a.main_arg1)
      ∧ r.2.mem ((c.tc : Thread Cert.Scatter0a.nD Cert.Scatter0a.τ).loc Cert.Scatter0a.main_arg2) = m ((c.tc : Thread Cert.Scatter0a.nD Cert.Scatter0a.τ).loc Cert.Scatter0a.main_arg2))
      ∧ r.2.sem = fun _ => 0)

def quiescent_Scatter0aIdeal [hScatter0aIdeal : Cert.Scatter0aIdeal.Facts] : Prop :=
  ∀ (m : (ℓ : Loc Cert.Scatter0aIdeal.nD Cert.Scatter0aIdeal.τ Cert.Scatter0aIdeal.sig) → Buf (Elt Ideal) ℓ) (g : Dev Cert.Scatter0aIdeal.nD → PrngReg), Pre_Scatter0aIdeal m →
    θ_run (Cert.Scatter0aIdeal.defs (F := Ideal)) (Cert.Scatter0aIdeal.threads (F := Ideal)) ⟨m, fun _ => 0, g⟩ (fun r => (∀ c : Dev Cert.Scatter0aIdeal.nD,
      r.2.mem ((c.tc : Thread Cert.Scatter0aIdeal.nD Cert.Scatter0aIdeal.τ).loc Cert.Scatter0aIdeal.main_arg0) = m ((c.tc : Thread Cert.Scatter0aIdeal.nD Cert.Scatter0aIdeal.τ).loc Cert.Scatter0aIdeal.main_arg0)
      ∧ r.2.mem ((c.tc : Thread Cert.Scatter0aIdeal.nD Cert.Scatter0aIdeal.τ).loc Cert.Scatter0aIdeal.main_arg1) = m ((c.tc : Thread Cert.Scatter0aIdeal.nD Cert.Scatter0aIdeal.τ).loc Cert.Scatter0aIdeal.main_arg1)
      ∧ r.2.mem ((c.tc : Thread Cert.Scatter0aIdeal.nD Cert.Scatter0aIdeal.τ).loc Cert.Scatter0aIdeal.main_arg2) = m ((c.tc : Thread Cert.Scatter0aIdeal.nD Cert.Scatter0aIdeal.τ).loc Cert.Scatter0aIdeal.main_arg2))
      ∧ r.2.sem = fun _ => 0)

def quiescent_Scatter0aRefIdeal [hScatter0aRefIdeal : Cert.Scatter0aRefIdeal.Facts] : Prop :=
  ∀ (m : (ℓ : Loc Cert.Scatter0aRefIdeal.nD Cert.Scatter0aRefIdeal.τ Cert.Scatter0aRefIdeal.sig) → Buf (Elt Ideal) ℓ) (g : Dev Cert.Scatter0aRefIdeal.nD → PrngReg), Pre_Scatter0aRefIdeal m →
    θ_run (Cert.Scatter0aRefIdeal.defs (F := Ideal)) (onTc (τ := Cert.Scatter0aRefIdeal.τ) (Cert.Scatter0aRefIdeal.main (F := Ideal))) ⟨m, fun _ => 0, g⟩ (fun r => (∀ c : Dev Cert.Scatter0aRefIdeal.nD,
      r.2.mem ((c.tc : Thread Cert.Scatter0aRefIdeal.nD Cert.Scatter0aRefIdeal.τ).loc Cert.Scatter0aRefIdeal.main_arg0) = m ((c.tc : Thread Cert.Scatter0aRefIdeal.nD Cert.Scatter0aRefIdeal.τ).loc Cert.Scatter0aRefIdeal.main_arg0)
      ∧ r.2.mem ((c.tc : Thread Cert.Scatter0aRefIdeal.nD Cert.Scatter0aRefIdeal.τ).loc Cert.Scatter0aRefIdeal.main_arg1) = m ((c.tc : Thread Cert.Scatter0aRefIdeal.nD Cert.Scatter0aRefIdeal.τ).loc Cert.Scatter0aRefIdeal.main_arg1)
      ∧ r.2.mem ((c.tc : Thread Cert.Scatter0aRefIdeal.nD Cert.Scatter0aRefIdeal.τ).loc Cert.Scatter0aRefIdeal.main_arg2) = m ((c.tc : Thread Cert.Scatter0aRefIdeal.nD Cert.Scatter0aRefIdeal.τ).loc Cert.Scatter0aRefIdeal.main_arg2))
      ∧ r.2.sem = fun _ => 0)

def quiescent_Scatter0aRef [hScatter0aRef : Cert.Scatter0aRef.Facts] : Prop :=
  ∀ (m : (ℓ : Loc Cert.Scatter0aRef.nD Cert.Scatter0aRef.τ Cert.Scatter0aRef.sig) → Buf (Elt Bits) ℓ) (g : Dev Cert.Scatter0aRef.nD → PrngReg), Pre_Scatter0aRef m →
    θ_run (Cert.Scatter0aRef.defs (F := Bits)) (onTc (τ := Cert.Scatter0aRef.τ) (Cert.Scatter0aRef.main (F := Bits))) ⟨m, fun _ => 0, g⟩ (fun r => (∀ c : Dev Cert.Scatter0aRef.nD,
      r.2.mem ((c.tc : Thread Cert.Scatter0aRef.nD Cert.Scatter0aRef.τ).loc Cert.Scatter0aRef.main_arg0) = m ((c.tc : Thread Cert.Scatter0aRef.nD Cert.Scatter0aRef.τ).loc Cert.Scatter0aRef.main_arg0)
      ∧ r.2.mem ((c.tc : Thread Cert.Scatter0aRef.nD Cert.Scatter0aRef.τ).loc Cert.Scatter0aRef.main_arg1) = m ((c.tc : Thread Cert.Scatter0aRef.nD Cert.Scatter0aRef.τ).loc Cert.Scatter0aRef.main_arg1)
      ∧ r.2.mem ((c.tc : Thread Cert.Scatter0aRef.nD Cert.Scatter0aRef.τ).loc Cert.Scatter0aRef.main_arg2) = m ((c.tc : Thread Cert.Scatter0aRef.nD Cert.Scatter0aRef.τ).loc Cert.Scatter0aRef.main_arg2))
      ∧ r.2.sem = fun _ => 0)

def quiescent_Scatter0b [hScatter0b : Cert.Scatter0b.Facts] : Prop :=
  ∀ (m : (ℓ : Loc Cert.Scatter0b.nD Cert.Scatter0b.τ Cert.Scatter0b.sig) → Buf (Elt Bits) ℓ) (g : Dev Cert.Scatter0b.nD → PrngReg), Pre_Scatter0b m →
    θ_run (Cert.Scatter0b.defs (F := Bits)) (Cert.Scatter0b.threads (F := Bits)) ⟨m, fun _ => 0, g⟩ (fun r => (∀ c : Dev Cert.Scatter0b.nD,
      r.2.mem ((c.tc : Thread Cert.Scatter0b.nD Cert.Scatter0b.τ).loc Cert.Scatter0b.main_arg0) = m ((c.tc : Thread Cert.Scatter0b.nD Cert.Scatter0b.τ).loc Cert.Scatter0b.main_arg0)
      ∧ r.2.mem ((c.tc : Thread Cert.Scatter0b.nD Cert.Scatter0b.τ).loc Cert.Scatter0b.main_arg1) = m ((c.tc : Thread Cert.Scatter0b.nD Cert.Scatter0b.τ).loc Cert.Scatter0b.main_arg1))
      ∧ r.2.sem = fun _ => 0)

def quiescent_Scatter0bIdeal [hScatter0bIdeal : Cert.Scatter0bIdeal.Facts] : Prop :=
  ∀ (m : (ℓ : Loc Cert.Scatter0bIdeal.nD Cert.Scatter0bIdeal.τ Cert.Scatter0bIdeal.sig) → Buf (Elt Ideal) ℓ) (g : Dev Cert.Scatter0bIdeal.nD → PrngReg), Pre_Scatter0bIdeal m →
    θ_run (Cert.Scatter0bIdeal.defs (F := Ideal)) (Cert.Scatter0bIdeal.threads (F := Ideal)) ⟨m, fun _ => 0, g⟩ (fun r => (∀ c : Dev Cert.Scatter0bIdeal.nD,
      r.2.mem ((c.tc : Thread Cert.Scatter0bIdeal.nD Cert.Scatter0bIdeal.τ).loc Cert.Scatter0bIdeal.main_arg0) = m ((c.tc : Thread Cert.Scatter0bIdeal.nD Cert.Scatter0bIdeal.τ).loc Cert.Scatter0bIdeal.main_arg0)
      ∧ r.2.mem ((c.tc : Thread Cert.Scatter0bIdeal.nD Cert.Scatter0bIdeal.τ).loc Cert.Scatter0bIdeal.main_arg1) = m ((c.tc : Thread Cert.Scatter0bIdeal.nD Cert.Scatter0bIdeal.τ).loc Cert.Scatter0bIdeal.main_arg1))
      ∧ r.2.sem = fun _ => 0)

def quiescent_Scatter0bRefIdeal [hScatter0bRefIdeal : Cert.Scatter0bRefIdeal.Facts] : Prop :=
  ∀ (m : (ℓ : Loc Cert.Scatter0bRefIdeal.nD Cert.Scatter0bRefIdeal.τ Cert.Scatter0bRefIdeal.sig) → Buf (Elt Ideal) ℓ) (g : Dev Cert.Scatter0bRefIdeal.nD → PrngReg), Pre_Scatter0bRefIdeal m →
    θ_run (Cert.Scatter0bRefIdeal.defs (F := Ideal)) (onTc (τ := Cert.Scatter0bRefIdeal.τ) (Cert.Scatter0bRefIdeal.main (F := Ideal))) ⟨m, fun _ => 0, g⟩ (fun r => (∀ c : Dev Cert.Scatter0bRefIdeal.nD,
      r.2.mem ((c.tc : Thread Cert.Scatter0bRefIdeal.nD Cert.Scatter0bRefIdeal.τ).loc Cert.Scatter0bRefIdeal.main_arg0) = m ((c.tc : Thread Cert.Scatter0bRefIdeal.nD Cert.Scatter0bRefIdeal.τ).loc Cert.Scatter0bRefIdeal.main_arg0)
      ∧ r.2.mem ((c.tc : Thread Cert.Scatter0bRefIdeal.nD Cert.Scatter0bRefIdeal.τ).loc Cert.Scatter0bRefIdeal.main_arg1) = m ((c.tc : Thread Cert.Scatter0bRefIdeal.nD Cert.Scatter0bRefIdeal.τ).loc Cert.Scatter0bRefIdeal.main_arg1))
      ∧ r.2.sem = fun _ => 0)

def quiescent_Scatter0bRef [hScatter0bRef : Cert.Scatter0bRef.Facts] : Prop :=
  ∀ (m : (ℓ : Loc Cert.Scatter0bRef.nD Cert.Scatter0bRef.τ Cert.Scatter0bRef.sig) → Buf (Elt Bits) ℓ) (g : Dev Cert.Scatter0bRef.nD → PrngReg), Pre_Scatter0bRef m →
    θ_run (Cert.Scatter0bRef.defs (F := Bits)) (onTc (τ := Cert.Scatter0bRef.τ) (Cert.Scatter0bRef.main (F := Bits))) ⟨m, fun _ => 0, g⟩ (fun r => (∀ c : Dev Cert.Scatter0bRef.nD,
      r.2.mem ((c.tc : Thread Cert.Scatter0bRef.nD Cert.Scatter0bRef.τ).loc Cert.Scatter0bRef.main_arg0) = m ((c.tc : Thread Cert.Scatter0bRef.nD Cert.Scatter0bRef.τ).loc Cert.Scatter0bRef.main_arg0)
      ∧ r.2.mem ((c.tc : Thread Cert.Scatter0bRef.nD Cert.Scatter0bRef.τ).loc Cert.Scatter0bRef.main_arg1) = m ((c.tc : Thread Cert.Scatter0bRef.nD Cert.Scatter0bRef.τ).loc Cert.Scatter0bRef.main_arg1))
      ∧ r.2.sem = fun _ => 0)

def quiescent_GatherE [hGatherE : Cert.GatherE.Facts] : Prop :=
  ∀ (m : (ℓ : Loc Cert.GatherE.nD Cert.GatherE.τ Cert.GatherE.sig) → Buf (Elt Bits) ℓ) (g : Dev Cert.GatherE.nD → PrngReg), Pre_GatherE m →
    θ_run (Cert.GatherE.defs (F := Bits)) (Cert.GatherE.threads (F := Bits)) ⟨m, fun _ => 0, g⟩ (fun r => (∀ c : Dev Cert.GatherE.nD,
      r.2.mem ((c.tc : Thread Cert.GatherE.nD Cert.GatherE.τ).loc Cert.GatherE.main_arg0) = m ((c.tc : Thread Cert.GatherE.nD Cert.GatherE.τ).loc Cert.GatherE.main_arg0)
      ∧ r.2.mem ((c.tc : Thread Cert.GatherE.nD Cert.GatherE.τ).loc Cert.GatherE.main_arg1) = m ((c.tc : Thread Cert.GatherE.nD Cert.GatherE.τ).loc Cert.GatherE.main_arg1))
      ∧ r.2.sem = fun _ => 0)

def quiescent_GatherEIdeal [hGatherEIdeal : Cert.GatherEIdeal.Facts] : Prop :=
  ∀ (m : (ℓ : Loc Cert.GatherEIdeal.nD Cert.GatherEIdeal.τ Cert.GatherEIdeal.sig) → Buf (Elt Ideal) ℓ) (g : Dev Cert.GatherEIdeal.nD → PrngReg), Pre_GatherEIdeal m →
    θ_run (Cert.GatherEIdeal.defs (F := Ideal)) (Cert.GatherEIdeal.threads (F := Ideal)) ⟨m, fun _ => 0, g⟩ (fun r => (∀ c : Dev Cert.GatherEIdeal.nD,
      r.2.mem ((c.tc : Thread Cert.GatherEIdeal.nD Cert.GatherEIdeal.τ).loc Cert.GatherEIdeal.main_arg0) = m ((c.tc : Thread Cert.GatherEIdeal.nD Cert.GatherEIdeal.τ).loc Cert.GatherEIdeal.main_arg0)
      ∧ r.2.mem ((c.tc : Thread Cert.GatherEIdeal.nD Cert.GatherEIdeal.τ).loc Cert.GatherEIdeal.main_arg1) = m ((c.tc : Thread Cert.GatherEIdeal.nD Cert.GatherEIdeal.τ).loc Cert.GatherEIdeal.main_arg1))
      ∧ r.2.sem = fun _ => 0)

def quiescent_GatherERefIdeal [hGatherERefIdeal : Cert.GatherERefIdeal.Facts] : Prop :=
  ∀ (m : (ℓ : Loc Cert.GatherERefIdeal.nD Cert.GatherERefIdeal.τ Cert.GatherERefIdeal.sig) → Buf (Elt Ideal) ℓ) (g : Dev Cert.GatherERefIdeal.nD → PrngReg), Pre_GatherERefIdeal m →
    θ_run (Cert.GatherERefIdeal.defs (F := Ideal)) (onTc (τ := Cert.GatherERefIdeal.τ) (Cert.GatherERefIdeal.main (F := Ideal))) ⟨m, fun _ => 0, g⟩ (fun r => (∀ c : Dev Cert.GatherERefIdeal.nD,
      r.2.mem ((c.tc : Thread Cert.GatherERefIdeal.nD Cert.GatherERefIdeal.τ).loc Cert.GatherERefIdeal.main_arg0) = m ((c.tc : Thread Cert.GatherERefIdeal.nD Cert.GatherERefIdeal.τ).loc Cert.GatherERefIdeal.main_arg0)
      ∧ r.2.mem ((c.tc : Thread Cert.GatherERefIdeal.nD Cert.GatherERefIdeal.τ).loc Cert.GatherERefIdeal.main_arg1) = m ((c.tc : Thread Cert.GatherERefIdeal.nD Cert.GatherERefIdeal.τ).loc Cert.GatherERefIdeal.main_arg1))
      ∧ r.2.sem = fun _ => 0)

def quiescent_GatherERef [hGatherERef : Cert.GatherERef.Facts] : Prop :=
  ∀ (m : (ℓ : Loc Cert.GatherERef.nD Cert.GatherERef.τ Cert.GatherERef.sig) → Buf (Elt Bits) ℓ) (g : Dev Cert.GatherERef.nD → PrngReg), Pre_GatherERef m →
    θ_run (Cert.GatherERef.defs (F := Bits)) (onTc (τ := Cert.GatherERef.τ) (Cert.GatherERef.main (F := Bits))) ⟨m, fun _ => 0, g⟩ (fun r => (∀ c : Dev Cert.GatherERef.nD,
      r.2.mem ((c.tc : Thread Cert.GatherERef.nD Cert.GatherERef.τ).loc Cert.GatherERef.main_arg0) = m ((c.tc : Thread Cert.GatherERef.nD Cert.GatherERef.τ).loc Cert.GatherERef.main_arg0)
      ∧ r.2.mem ((c.tc : Thread Cert.GatherERef.nD Cert.GatherERef.τ).loc Cert.GatherERef.main_arg1) = m ((c.tc : Thread Cert.GatherERef.nD Cert.GatherERef.τ).loc Cert.GatherERef.main_arg1))
      ∧ r.2.sem = fun _ => 0)

def quiescent_GatherB [hGatherB : Cert.GatherB.Facts] : Prop :=
  ∀ (m : (ℓ : Loc Cert.GatherB.nD Cert.GatherB.τ Cert.GatherB.sig) → Buf (Elt Bits) ℓ) (g : Dev Cert.GatherB.nD → PrngReg), Pre_GatherB m →
    θ_run (Cert.GatherB.defs (F := Bits)) (Cert.GatherB.threads (F := Bits)) ⟨m, fun _ => 0, g⟩ (fun r => (∀ c : Dev Cert.GatherB.nD,
      r.2.mem ((c.tc : Thread Cert.GatherB.nD Cert.GatherB.τ).loc Cert.GatherB.main_arg0) = m ((c.tc : Thread Cert.GatherB.nD Cert.GatherB.τ).loc Cert.GatherB.main_arg0)
      ∧ r.2.mem ((c.tc : Thread Cert.GatherB.nD Cert.GatherB.τ).loc Cert.GatherB.main_arg1) = m ((c.tc : Thread Cert.GatherB.nD Cert.GatherB.τ).loc Cert.GatherB.main_arg1))
      ∧ r.2.sem = fun _ => 0)

def quiescent_GatherBIdeal [hGatherBIdeal : Cert.GatherBIdeal.Facts] : Prop :=
  ∀ (m : (ℓ : Loc Cert.GatherBIdeal.nD Cert.GatherBIdeal.τ Cert.GatherBIdeal.sig) → Buf (Elt Ideal) ℓ) (g : Dev Cert.GatherBIdeal.nD → PrngReg), Pre_GatherBIdeal m →
    θ_run (Cert.GatherBIdeal.defs (F := Ideal)) (Cert.GatherBIdeal.threads (F := Ideal)) ⟨m, fun _ => 0, g⟩ (fun r => (∀ c : Dev Cert.GatherBIdeal.nD,
      r.2.mem ((c.tc : Thread Cert.GatherBIdeal.nD Cert.GatherBIdeal.τ).loc Cert.GatherBIdeal.main_arg0) = m ((c.tc : Thread Cert.GatherBIdeal.nD Cert.GatherBIdeal.τ).loc Cert.GatherBIdeal.main_arg0)
      ∧ r.2.mem ((c.tc : Thread Cert.GatherBIdeal.nD Cert.GatherBIdeal.τ).loc Cert.GatherBIdeal.main_arg1) = m ((c.tc : Thread Cert.GatherBIdeal.nD Cert.GatherBIdeal.τ).loc Cert.GatherBIdeal.main_arg1))
      ∧ r.2.sem = fun _ => 0)

def quiescent_GatherBRefIdeal [hGatherBRefIdeal : Cert.GatherBRefIdeal.Facts] : Prop :=
  ∀ (m : (ℓ : Loc Cert.GatherBRefIdeal.nD Cert.GatherBRefIdeal.τ Cert.GatherBRefIdeal.sig) → Buf (Elt Ideal) ℓ) (g : Dev Cert.GatherBRefIdeal.nD → PrngReg), Pre_GatherBRefIdeal m →
    θ_run (Cert.GatherBRefIdeal.defs (F := Ideal)) (onTc (τ := Cert.GatherBRefIdeal.τ) (Cert.GatherBRefIdeal.main (F := Ideal))) ⟨m, fun _ => 0, g⟩ (fun r => (∀ c : Dev Cert.GatherBRefIdeal.nD,
      r.2.mem ((c.tc : Thread Cert.GatherBRefIdeal.nD Cert.GatherBRefIdeal.τ).loc Cert.GatherBRefIdeal.main_arg0) = m ((c.tc : Thread Cert.GatherBRefIdeal.nD Cert.GatherBRefIdeal.τ).loc Cert.GatherBRefIdeal.main_arg0)
      ∧ r.2.mem ((c.tc : Thread Cert.GatherBRefIdeal.nD Cert.GatherBRefIdeal.τ).loc Cert.GatherBRefIdeal.main_arg1) = m ((c.tc : Thread Cert.GatherBRefIdeal.nD Cert.GatherBRefIdeal.τ).loc Cert.GatherBRefIdeal.main_arg1))
      ∧ r.2.sem = fun _ => 0)

def quiescent_GatherBRef [hGatherBRef : Cert.GatherBRef.Facts] : Prop :=
  ∀ (m : (ℓ : Loc Cert.GatherBRef.nD Cert.GatherBRef.τ Cert.GatherBRef.sig) → Buf (Elt Bits) ℓ) (g : Dev Cert.GatherBRef.nD → PrngReg), Pre_GatherBRef m →
    θ_run (Cert.GatherBRef.defs (F := Bits)) (onTc (τ := Cert.GatherBRef.τ) (Cert.GatherBRef.main (F := Bits))) ⟨m, fun _ => 0, g⟩ (fun r => (∀ c : Dev Cert.GatherBRef.nD,
      r.2.mem ((c.tc : Thread Cert.GatherBRef.nD Cert.GatherBRef.τ).loc Cert.GatherBRef.main_arg0) = m ((c.tc : Thread Cert.GatherBRef.nD Cert.GatherBRef.τ).loc Cert.GatherBRef.main_arg0)
      ∧ r.2.mem ((c.tc : Thread Cert.GatherBRef.nD Cert.GatherBRef.τ).loc Cert.GatherBRef.main_arg1) = m ((c.tc : Thread Cert.GatherBRef.nD Cert.GatherBRef.τ).loc Cert.GatherBRef.main_arg1))
      ∧ r.2.sem = fun _ => 0)

def quiescent_GatherC [hGatherC : Cert.GatherC.Facts] : Prop :=
  ∀ (m : (ℓ : Loc Cert.GatherC.nD Cert.GatherC.τ Cert.GatherC.sig) → Buf (Elt Bits) ℓ) (g : Dev Cert.GatherC.nD → PrngReg), Pre_GatherC m →
    θ_run (Cert.GatherC.defs (F := Bits)) (Cert.GatherC.threads (F := Bits)) ⟨m, fun _ => 0, g⟩ (fun r => (∀ c : Dev Cert.GatherC.nD,
      r.2.mem ((c.tc : Thread Cert.GatherC.nD Cert.GatherC.τ).loc Cert.GatherC.main_arg0) = m ((c.tc : Thread Cert.GatherC.nD Cert.GatherC.τ).loc Cert.GatherC.main_arg0))
      ∧ r.2.sem = fun _ => 0)

def quiescent_GatherCIdeal [hGatherCIdeal : Cert.GatherCIdeal.Facts] : Prop :=
  ∀ (m : (ℓ : Loc Cert.GatherCIdeal.nD Cert.GatherCIdeal.τ Cert.GatherCIdeal.sig) → Buf (Elt Ideal) ℓ) (g : Dev Cert.GatherCIdeal.nD → PrngReg), Pre_GatherCIdeal m →
    θ_run (Cert.GatherCIdeal.defs (F := Ideal)) (Cert.GatherCIdeal.threads (F := Ideal)) ⟨m, fun _ => 0, g⟩ (fun r => (∀ c : Dev Cert.GatherCIdeal.nD,
      r.2.mem ((c.tc : Thread Cert.GatherCIdeal.nD Cert.GatherCIdeal.τ).loc Cert.GatherCIdeal.main_arg0) = m ((c.tc : Thread Cert.GatherCIdeal.nD Cert.GatherCIdeal.τ).loc Cert.GatherCIdeal.main_arg0))
      ∧ r.2.sem = fun _ => 0)

def quiescent_GatherCRefIdeal [hGatherCRefIdeal : Cert.GatherCRefIdeal.Facts] : Prop :=
  ∀ (m : (ℓ : Loc Cert.GatherCRefIdeal.nD Cert.GatherCRefIdeal.τ Cert.GatherCRefIdeal.sig) → Buf (Elt Ideal) ℓ) (g : Dev Cert.GatherCRefIdeal.nD → PrngReg), Pre_GatherCRefIdeal m →
    θ_run (Cert.GatherCRefIdeal.defs (F := Ideal)) (onTc (τ := Cert.GatherCRefIdeal.τ) (Cert.GatherCRefIdeal.main (F := Ideal))) ⟨m, fun _ => 0, g⟩ (fun r => (∀ c : Dev Cert.GatherCRefIdeal.nD,
      r.2.mem ((c.tc : Thread Cert.GatherCRefIdeal.nD Cert.GatherCRefIdeal.τ).loc Cert.GatherCRefIdeal.main_arg0) = m ((c.tc : Thread Cert.GatherCRefIdeal.nD Cert.GatherCRefIdeal.τ).loc Cert.GatherCRefIdeal.main_arg0))
      ∧ r.2.sem = fun _ => 0)

def quiescent_GatherCRef [hGatherCRef : Cert.GatherCRef.Facts] : Prop :=
  ∀ (m : (ℓ : Loc Cert.GatherCRef.nD Cert.GatherCRef.τ Cert.GatherCRef.sig) → Buf (Elt Bits) ℓ) (g : Dev Cert.GatherCRef.nD → PrngReg), Pre_GatherCRef m →
    θ_run (Cert.GatherCRef.defs (F := Bits)) (onTc (τ := Cert.GatherCRef.τ) (Cert.GatherCRef.main (F := Bits))) ⟨m, fun _ => 0, g⟩ (fun r => (∀ c : Dev Cert.GatherCRef.nD,
      r.2.mem ((c.tc : Thread Cert.GatherCRef.nD Cert.GatherCRef.τ).loc Cert.GatherCRef.main_arg0) = m ((c.tc : Thread Cert.GatherCRef.nD Cert.GatherCRef.τ).loc Cert.GatherCRef.main_arg0))
      ∧ r.2.sem = fun _ => 0)

def quiescent_GatherD [hGatherD : Cert.GatherD.Facts] : Prop :=
  ∀ (m : (ℓ : Loc Cert.GatherD.nD Cert.GatherD.τ Cert.GatherD.sig) → Buf (Elt Bits) ℓ) (g : Dev Cert.GatherD.nD → PrngReg), Pre_GatherD m →
    θ_run (Cert.GatherD.defs (F := Bits)) (Cert.GatherD.threads (F := Bits)) ⟨m, fun _ => 0, g⟩ (fun r => (∀ c : Dev Cert.GatherD.nD,
      r.2.mem ((c.tc : Thread Cert.GatherD.nD Cert.GatherD.τ).loc Cert.GatherD.main_arg0) = m ((c.tc : Thread Cert.GatherD.nD Cert.GatherD.τ).loc Cert.GatherD.main_arg0)
      ∧ r.2.mem ((c.tc : Thread Cert.GatherD.nD Cert.GatherD.τ).loc Cert.GatherD.main_arg1) = m ((c.tc : Thread Cert.GatherD.nD Cert.GatherD.τ).loc Cert.GatherD.main_arg1))
      ∧ r.2.sem = fun _ => 0)

def quiescent_GatherDIdeal [hGatherDIdeal : Cert.GatherDIdeal.Facts] : Prop :=
  ∀ (m : (ℓ : Loc Cert.GatherDIdeal.nD Cert.GatherDIdeal.τ Cert.GatherDIdeal.sig) → Buf (Elt Ideal) ℓ) (g : Dev Cert.GatherDIdeal.nD → PrngReg), Pre_GatherDIdeal m →
    θ_run (Cert.GatherDIdeal.defs (F := Ideal)) (Cert.GatherDIdeal.threads (F := Ideal)) ⟨m, fun _ => 0, g⟩ (fun r => (∀ c : Dev Cert.GatherDIdeal.nD,
      r.2.mem ((c.tc : Thread Cert.GatherDIdeal.nD Cert.GatherDIdeal.τ).loc Cert.GatherDIdeal.main_arg0) = m ((c.tc : Thread Cert.GatherDIdeal.nD Cert.GatherDIdeal.τ).loc Cert.GatherDIdeal.main_arg0)
      ∧ r.2.mem ((c.tc : Thread Cert.GatherDIdeal.nD Cert.GatherDIdeal.τ).loc Cert.GatherDIdeal.main_arg1) = m ((c.tc : Thread Cert.GatherDIdeal.nD Cert.GatherDIdeal.τ).loc Cert.GatherDIdeal.main_arg1))
      ∧ r.2.sem = fun _ => 0)

def quiescent_GatherDRefIdeal [hGatherDRefIdeal : Cert.GatherDRefIdeal.Facts] : Prop :=
  ∀ (m : (ℓ : Loc Cert.GatherDRefIdeal.nD Cert.GatherDRefIdeal.τ Cert.GatherDRefIdeal.sig) → Buf (Elt Ideal) ℓ) (g : Dev Cert.GatherDRefIdeal.nD → PrngReg), Pre_GatherDRefIdeal m →
    θ_run (Cert.GatherDRefIdeal.defs (F := Ideal)) (onTc (τ := Cert.GatherDRefIdeal.τ) (Cert.GatherDRefIdeal.main (F := Ideal))) ⟨m, fun _ => 0, g⟩ (fun r => (∀ c : Dev Cert.GatherDRefIdeal.nD,
      r.2.mem ((c.tc : Thread Cert.GatherDRefIdeal.nD Cert.GatherDRefIdeal.τ).loc Cert.GatherDRefIdeal.main_arg0) = m ((c.tc : Thread Cert.GatherDRefIdeal.nD Cert.GatherDRefIdeal.τ).loc Cert.GatherDRefIdeal.main_arg0)
      ∧ r.2.mem ((c.tc : Thread Cert.GatherDRefIdeal.nD Cert.GatherDRefIdeal.τ).loc Cert.GatherDRefIdeal.main_arg1) = m ((c.tc : Thread Cert.GatherDRefIdeal.nD Cert.GatherDRefIdeal.τ).loc Cert.GatherDRefIdeal.main_arg1))
      ∧ r.2.sem = fun _ => 0)

def quiescent_GatherDRef [hGatherDRef : Cert.GatherDRef.Facts] : Prop :=
  ∀ (m : (ℓ : Loc Cert.GatherDRef.nD Cert.GatherDRef.τ Cert.GatherDRef.sig) → Buf (Elt Bits) ℓ) (g : Dev Cert.GatherDRef.nD → PrngReg), Pre_GatherDRef m →
    θ_run (Cert.GatherDRef.defs (F := Bits)) (onTc (τ := Cert.GatherDRef.τ) (Cert.GatherDRef.main (F := Bits))) ⟨m, fun _ => 0, g⟩ (fun r => (∀ c : Dev Cert.GatherDRef.nD,
      r.2.mem ((c.tc : Thread Cert.GatherDRef.nD Cert.GatherDRef.τ).loc Cert.GatherDRef.main_arg0) = m ((c.tc : Thread Cert.GatherDRef.nD Cert.GatherDRef.τ).loc Cert.GatherDRef.main_arg0)
      ∧ r.2.mem ((c.tc : Thread Cert.GatherDRef.nD Cert.GatherDRef.τ).loc Cert.GatherDRef.main_arg1) = m ((c.tc : Thread Cert.GatherDRef.nD Cert.GatherDRef.τ).loc Cert.GatherDRef.main_arg1))
      ∧ r.2.sem = fun _ => 0)

def quiescent_GatherA [hGatherA : Cert.GatherA.Facts] : Prop :=
  ∀ (m : (ℓ : Loc Cert.GatherA.nD Cert.GatherA.τ Cert.GatherA.sig) → Buf (Elt Bits) ℓ) (g : Dev Cert.GatherA.nD → PrngReg), Pre_GatherA m →
    θ_run (Cert.GatherA.defs (F := Bits)) (Cert.GatherA.threads (F := Bits)) ⟨m, fun _ => 0, g⟩ (fun r => (∀ c : Dev Cert.GatherA.nD,
      r.2.mem ((c.tc : Thread Cert.GatherA.nD Cert.GatherA.τ).loc Cert.GatherA.main_arg0) = m ((c.tc : Thread Cert.GatherA.nD Cert.GatherA.τ).loc Cert.GatherA.main_arg0)
      ∧ r.2.mem ((c.tc : Thread Cert.GatherA.nD Cert.GatherA.τ).loc Cert.GatherA.main_arg1) = m ((c.tc : Thread Cert.GatherA.nD Cert.GatherA.τ).loc Cert.GatherA.main_arg1)
      ∧ r.2.mem ((c.tc : Thread Cert.GatherA.nD Cert.GatherA.τ).loc Cert.GatherA.main_arg2) = m ((c.tc : Thread Cert.GatherA.nD Cert.GatherA.τ).loc Cert.GatherA.main_arg2))
      ∧ r.2.sem = fun _ => 0)

def quiescent_GatherAIdeal [hGatherAIdeal : Cert.GatherAIdeal.Facts] : Prop :=
  ∀ (m : (ℓ : Loc Cert.GatherAIdeal.nD Cert.GatherAIdeal.τ Cert.GatherAIdeal.sig) → Buf (Elt Ideal) ℓ) (g : Dev Cert.GatherAIdeal.nD → PrngReg), Pre_GatherAIdeal m →
    θ_run (Cert.GatherAIdeal.defs (F := Ideal)) (Cert.GatherAIdeal.threads (F := Ideal)) ⟨m, fun _ => 0, g⟩ (fun r => (∀ c : Dev Cert.GatherAIdeal.nD,
      r.2.mem ((c.tc : Thread Cert.GatherAIdeal.nD Cert.GatherAIdeal.τ).loc Cert.GatherAIdeal.main_arg0) = m ((c.tc : Thread Cert.GatherAIdeal.nD Cert.GatherAIdeal.τ).loc Cert.GatherAIdeal.main_arg0)
      ∧ r.2.mem ((c.tc : Thread Cert.GatherAIdeal.nD Cert.GatherAIdeal.τ).loc Cert.GatherAIdeal.main_arg1) = m ((c.tc : Thread Cert.GatherAIdeal.nD Cert.GatherAIdeal.τ).loc Cert.GatherAIdeal.main_arg1)
      ∧ r.2.mem ((c.tc : Thread Cert.GatherAIdeal.nD Cert.GatherAIdeal.τ).loc Cert.GatherAIdeal.main_arg2) = m ((c.tc : Thread Cert.GatherAIdeal.nD Cert.GatherAIdeal.τ).loc Cert.GatherAIdeal.main_arg2))
      ∧ r.2.sem = fun _ => 0)

def quiescent_GatherARefIdeal [hGatherARefIdeal : Cert.GatherARefIdeal.Facts] : Prop :=
  ∀ (m : (ℓ : Loc Cert.GatherARefIdeal.nD Cert.GatherARefIdeal.τ Cert.GatherARefIdeal.sig) → Buf (Elt Ideal) ℓ) (g : Dev Cert.GatherARefIdeal.nD → PrngReg), Pre_GatherARefIdeal m →
    θ_run (Cert.GatherARefIdeal.defs (F := Ideal)) (onTc (τ := Cert.GatherARefIdeal.τ) (Cert.GatherARefIdeal.main (F := Ideal))) ⟨m, fun _ => 0, g⟩ (fun r => (∀ c : Dev Cert.GatherARefIdeal.nD,
      r.2.mem ((c.tc : Thread Cert.GatherARefIdeal.nD Cert.GatherARefIdeal.τ).loc Cert.GatherARefIdeal.main_arg0) = m ((c.tc : Thread Cert.GatherARefIdeal.nD Cert.GatherARefIdeal.τ).loc Cert.GatherARefIdeal.main_arg0)
      ∧ r.2.mem ((c.tc : Thread Cert.GatherARefIdeal.nD Cert.GatherARefIdeal.τ).loc Cert.GatherARefIdeal.main_arg1) = m ((c.tc : Thread Cert.GatherARefIdeal.nD Cert.GatherARefIdeal.τ).loc Cert.GatherARefIdeal.main_arg1)
      ∧ r.2.mem ((c.tc : Thread Cert.GatherARefIdeal.nD Cert.GatherARefIdeal.τ).loc Cert.GatherARefIdeal.main_arg2) = m ((c.tc : Thread Cert.GatherARefIdeal.nD Cert.GatherARefIdeal.τ).loc Cert.GatherARefIdeal.main_arg2))
      ∧ r.2.sem = fun _ => 0)

def quiescent_GatherARef [hGatherARef : Cert.GatherARef.Facts] : Prop :=
  ∀ (m : (ℓ : Loc Cert.GatherARef.nD Cert.GatherARef.τ Cert.GatherARef.sig) → Buf (Elt Bits) ℓ) (g : Dev Cert.GatherARef.nD → PrngReg), Pre_GatherARef m →
    θ_run (Cert.GatherARef.defs (F := Bits)) (onTc (τ := Cert.GatherARef.τ) (Cert.GatherARef.main (F := Bits))) ⟨m, fun _ => 0, g⟩ (fun r => (∀ c : Dev Cert.GatherARef.nD,
      r.2.mem ((c.tc : Thread Cert.GatherARef.nD Cert.GatherARef.τ).loc Cert.GatherARef.main_arg0) = m ((c.tc : Thread Cert.GatherARef.nD Cert.GatherARef.τ).loc Cert.GatherARef.main_arg0)
      ∧ r.2.mem ((c.tc : Thread Cert.GatherARef.nD Cert.GatherARef.τ).loc Cert.GatherARef.main_arg1) = m ((c.tc : Thread Cert.GatherARef.nD Cert.GatherARef.τ).loc Cert.GatherARef.main_arg1)
      ∧ r.2.mem ((c.tc : Thread Cert.GatherARef.nD Cert.GatherARef.τ).loc Cert.GatherARef.main_arg2) = m ((c.tc : Thread Cert.GatherARef.nD Cert.GatherARef.τ).loc Cert.GatherARef.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3)
      ∧ r.2.mem ((c.tc : Thread Cert.AdamConv.nD Cert.AdamConv.τ).loc Cert.AdamConv.main_arg4) = m ((c.tc : Thread Cert.AdamConv.nD Cert.AdamConv.τ).loc Cert.AdamConv.main_arg4))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
      ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3)
      ∧ r.2.mem ((c.tc : Thread Cert.AdamConvRefIdeal.nD Cert.AdamConvRefIdeal.τ).loc Cert.AdamConvRefIdeal.main_arg4) = m ((c.tc : Thread Cert.AdamConvRefIdeal.nD Cert.AdamConvRefIdeal.τ).loc Cert.AdamConvRefIdeal.main_arg4))
      ∧ r.2.sem = fun _ => 0)

def quiescent_AdamGains [hAdamGains : Cert.AdamGains.Facts] : Prop :=
  ∀ (m : (ℓ : Loc Cert.AdamGains.nD Cert.AdamGains.τ Cert.AdamGains.sig) → Buf (Elt Bits) ℓ) (g : Dev Cert.AdamGains.nD → PrngReg), Pre_AdamGains m →
    θ_run (Cert.AdamGains.defs (F := Bits)) (onTc (τ := Cert.AdamGains.τ) (Cert.AdamGains.main (F := Bits))) ⟨m, fun _ => 0, g⟩ (fun r => (∀ c : Dev Cert.AdamGains.nD,
      r.2.mem ((c.tc : Thread Cert.AdamGains.nD Cert.AdamGains.τ).loc Cert.AdamGains.main_arg0) = m ((c.tc : Thread Cert.AdamGains.nD Cert.AdamGains.τ).loc Cert.AdamGains.main_arg0)
      ∧ r.2.mem ((c.tc : Thread Cert.AdamGains.nD Cert.AdamGains.τ).loc Cert.AdamGains.main_arg1) = m ((c.tc : Thread Cert.AdamGains.nD Cert.AdamGains.τ).loc Cert.AdamGains.main_arg1)
      ∧ r.2.mem ((c.tc : Thread Cert.AdamGains.nD Cert.AdamGains.τ).loc Cert.AdamGains.main_arg2) = m ((c.tc : Thread Cert.AdamGains.nD Cert.AdamGains.τ).loc Cert.AdamGains.main_arg2)
      ∧ r.2.mem ((c.tc : Thread Cert.AdamGains.nD Cert.AdamGains.τ).loc Cert.AdamGains.main_arg3) = m ((c.tc : Thread Cert.AdamGains.nD Cert.AdamGains.τ).loc Cert.AdamGains.main_arg3))
      ∧ r.2.sem = fun _ => 0)

def quiescent_AdamGainsIdeal [hAdamGainsIdeal : Cert.AdamGainsIdeal.Facts] : Prop :=
  ∀ (m : (ℓ : Loc Cert.AdamGainsIdeal.nD Cert.AdamGainsIdeal.τ Cert.AdamGainsIdeal.sig) → Buf (Elt Ideal) ℓ) (g : Dev Cert.AdamGainsIdeal.nD → PrngReg), Pre_AdamGainsIdeal m →
    θ_run (Cert.AdamGainsIdeal.defs (F := Ideal)) (onTc (τ := Cert.AdamGainsIdeal.τ) (Cert.AdamGainsIdeal.main (F := Ideal))) ⟨m, fun _ => 0, g⟩ (fun r => (∀ c : Dev Cert.AdamGainsIdeal.nD,
      r.2.mem ((c.tc : Thread Cert.AdamGainsIdeal.nD Cert.AdamGainsIdeal.τ).loc Cert.AdamGainsIdeal.main_arg0) = m ((c.tc : Thread Cert.AdamGainsIdeal.nD Cert.AdamGainsIdeal.τ).loc Cert.AdamGainsIdeal.main_arg0)
      ∧ r.2.mem ((c.tc : Thread Cert.AdamGainsIdeal.nD Cert.AdamGainsIdeal.τ).loc Cert.AdamGainsIdeal.main_arg1) = m ((c.tc : Thread Cert.AdamGainsIdeal.nD Cert.AdamGainsIdeal.τ).loc Cert.AdamGainsIdeal.main_arg1)
      ∧ r.2.mem ((c.tc : Thread Cert.AdamGainsIdeal.nD Cert.AdamGainsIdeal.τ).loc Cert.AdamGainsIdeal.main_arg2) = m ((c.tc : Thread Cert.AdamGainsIdeal.nD Cert.AdamGainsIdeal.τ).loc Cert.AdamGainsIdeal.main_arg2)
      ∧ r.2.mem ((c.tc : Thread Cert.AdamGainsIdeal.nD Cert.AdamGainsIdeal.τ).loc Cert.AdamGainsIdeal.main_arg3) = m ((c.tc : Thread Cert.AdamGainsIdeal.nD Cert.AdamGainsIdeal.τ).loc Cert.AdamGainsIdeal.main_arg3))
      ∧ r.2.sem = fun _ => 0)

def quiescent_AdamGainsRefIdeal [hAdamGainsRefIdeal : Cert.AdamGainsRefIdeal.Facts] : Prop :=
  ∀ (m : (ℓ : Loc Cert.AdamGainsRefIdeal.nD Cert.AdamGainsRefIdeal.τ Cert.AdamGainsRefIdeal.sig) → Buf (Elt Ideal) ℓ) (g : Dev Cert.AdamGainsRefIdeal.nD → PrngReg), Pre_AdamGainsRefIdeal m →
    θ_run (Cert.AdamGainsRefIdeal.defs (F := Ideal)) (onTc (τ := Cert.AdamGainsRefIdeal.τ) (Cert.AdamGainsRefIdeal.main (F := Ideal))) ⟨m, fun _ => 0, g⟩ (fun r => (∀ c : Dev Cert.AdamGainsRefIdeal.nD,
      r.2.mem ((c.tc : Thread Cert.AdamGainsRefIdeal.nD Cert.AdamGainsRefIdeal.τ).loc Cert.AdamGainsRefIdeal.main_arg0) = m ((c.tc : Thread Cert.AdamGainsRefIdeal.nD Cert.AdamGainsRefIdeal.τ).loc Cert.AdamGainsRefIdeal.main_arg0)
      ∧ r.2.mem ((c.tc : Thread Cert.AdamGainsRefIdeal.nD Cert.AdamGainsRefIdeal.τ).loc Cert.AdamGainsRefIdeal.main_arg1) = m ((c.tc : Thread Cert.AdamGainsRefIdeal.nD Cert.AdamGainsRefIdeal.τ).loc Cert.AdamGainsRefIdeal.main_arg1)
      ∧ r.2.mem ((c.tc : Thread Cert.AdamGainsRefIdeal.nD Cert.AdamGainsRefIdeal.τ).loc Cert.AdamGainsRefIdeal.main_arg2) = m ((c.tc : Thread Cert.AdamGainsRefIdeal.nD Cert.AdamGainsRefIdeal.τ).loc Cert.AdamGainsRefIdeal.main_arg2)
      ∧ r.2.mem ((c.tc : Thread Cert.AdamGainsRefIdeal.nD Cert.AdamGainsRefIdeal.τ).loc Cert.AdamGainsRefIdeal.main_arg3) = m ((c.tc : Thread Cert.AdamGainsRefIdeal.nD Cert.AdamGainsRefIdeal.τ).loc Cert.AdamGainsRefIdeal.main_arg3))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3)
      ∧ r.2.mem ((c.tc : Thread Cert.GradX.nD Cert.GradX.τ).loc Cert.GradX.main_arg4) = m ((c.tc : Thread Cert.GradX.nD Cert.GradX.τ).loc Cert.GradX.main_arg4))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2)
      ∧ r.2.mem ((c.tc : Thread Cert.GradXRefIdeal.nD Cert.GradXRefIdeal.τ).loc Cert.GradXRefIdeal.main_arg3) = m ((c.tc : Thread Cert.GradXRefIdeal.nD Cert.GradXRefIdeal.τ).loc Cert.GradXRefIdeal.main_arg3)
      ∧ r.2.mem ((c.tc : Thread Cert.GradXRefIdeal.nD Cert.GradXRefIdeal.τ).loc Cert.GradXRefIdeal.main_arg4) = m ((c.tc : Thread Cert.GradXRefIdeal.nD Cert.GradXRefIdeal.τ).loc Cert.GradXRefIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_DCat [hDCat : Cert.DCat.Facts] : Prop :=
  ∀ (m : (ℓ : Loc Cert.DCat.nD Cert.DCat.τ Cert.DCat.sig) → Buf (Elt Bits) ℓ) (g : Dev Cert.DCat.nD → PrngReg), Pre_DCat m →
    θ_run (Cert.DCat.defs (F := Bits)) (onTc (τ := Cert.DCat.τ) (Cert.DCat.main (F := Bits))) ⟨m, fun _ => 0, g⟩ (fun r => (∀ c : Dev Cert.DCat.nD,
      r.2.mem ((c.tc : Thread Cert.DCat.nD Cert.DCat.τ).loc Cert.DCat.main_arg0) = m ((c.tc : Thread Cert.DCat.nD Cert.DCat.τ).loc Cert.DCat.main_arg0)
      ∧ r.2.mem ((c.tc : Thread Cert.DCat.nD Cert.DCat.τ).loc Cert.DCat.main_arg1) = m ((c.tc : Thread Cert.DCat.nD Cert.DCat.τ).loc Cert.DCat.main_arg1))
      ∧ r.2.sem = fun _ => 0)

def quiescent_DCatIdeal [hDCatIdeal : Cert.DCatIdeal.Facts] : Prop :=
  ∀ (m : (ℓ : Loc Cert.DCatIdeal.nD Cert.DCatIdeal.τ Cert.DCatIdeal.sig) → Buf (Elt Ideal) ℓ) (g : Dev Cert.DCatIdeal.nD → PrngReg), Pre_DCatIdeal m →
    θ_run (Cert.DCatIdeal.defs (F := Ideal)) (onTc (τ := Cert.DCatIdeal.τ) (Cert.DCatIdeal.main (F := Ideal))) ⟨m, fun _ => 0, g⟩ (fun r => (∀ c : Dev Cert.DCatIdeal.nD,
      r.2.mem ((c.tc : Thread Cert.DCatIdeal.nD Cert.DCatIdeal.τ).loc Cert.DCatIdeal.main_arg0) = m ((c.tc : Thread Cert.DCatIdeal.nD Cert.DCatIdeal.τ).loc Cert.DCatIdeal.main_arg0)
      ∧ r.2.mem ((c.tc : Thread Cert.DCatIdeal.nD Cert.DCatIdeal.τ).loc Cert.DCatIdeal.main_arg1) = m ((c.tc : Thread Cert.DCatIdeal.nD Cert.DCatIdeal.τ).loc Cert.DCatIdeal.main_arg1))
      ∧ r.2.sem = fun _ => 0)

def quiescent_DCatRefIdeal [hDCatRefIdeal : Cert.DCatRefIdeal.Facts] : Prop :=
  ∀ (m : (ℓ : Loc Cert.DCatRefIdeal.nD Cert.DCatRefIdeal.τ Cert.DCatRefIdeal.sig) → Buf (Elt Ideal) ℓ) (g : Dev Cert.DCatRefIdeal.nD → PrngReg), Pre_DCatRefIdeal m →
    θ_run (Cert.DCatRefIdeal.defs (F := Ideal)) (onTc (τ := Cert.DCatRefIdeal.τ) (Cert.DCatRefIdeal.main (F := Ideal))) ⟨m, fun _ => 0, g⟩ (fun r => (∀ c : Dev Cert.DCatRefIdeal.nD,
      r.2.mem ((c.tc : Thread Cert.DCatRefIdeal.nD Cert.DCatRefIdeal.τ).loc Cert.DCatRefIdeal.main_arg0) = m ((c.tc : Thread Cert.DCatRefIdeal.nD Cert.DCatRefIdeal.τ).loc Cert.DCatRefIdeal.main_arg0)
      ∧ r.2.mem ((c.tc : Thread Cert.DCatRefIdeal.nD Cert.DCatRefIdeal.τ).loc Cert.DCatRefIdeal.main_arg1) = m ((c.tc : Thread Cert.DCatRefIdeal.nD Cert.DCatRefIdeal.τ).loc Cert.DCatRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 1024, 3072]⟩ ⟨3, ![8, 1024, 3072]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨4, ![1, 8, 128, 1024]⟩ ⟨4, ![8, 8, 128, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 8, 704, 1024]⟩ ⟨4, ![8, 8, 704, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 8, 352, 1024]⟩ ⟨4, ![8, 8, 352, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![1, 8, 3, 768]⟩ ⟨4, ![8, 8, 3, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v1)) (v1 : Buf (Elt Ideal) (((0 : Dev Cert.ReferenceIdeal.nD).tc : Thread Cert.ReferenceIdeal.nD Cert.ReferenceIdeal.τ).loc Cert.ReferenceIdeal.main_v2)) (v2 : Buf (Elt Ideal) (((0 : Dev Cert.ReferenceIdeal.nD).tc : Thread Cert.ReferenceIdeal.nD Cert.ReferenceIdeal.τ).loc Cert.ReferenceIdeal.main_v3)) (v3 : Buf (Elt Ideal) (((0 : Dev Cert.ReferenceIdeal.nD).tc : Thread Cert.ReferenceIdeal.nD Cert.ReferenceIdeal.τ).loc Cert.ReferenceIdeal.main_v4)) (v4 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = Layout.block ⟨4, ![1, 8, 1024, 384]⟩ ⟨4, ![8, 8, 1024, 384]⟩ 0 8 c v0
          ∧ r.2.mem ((c.tc : Thread Cert.KernelIdeal.nD Cert.KernelIdeal.τ).loc Cert.KernelIdeal.main_v8) = Layout.block ⟨4, ![1, 8, 128, 1024]⟩ ⟨4, ![8, 8, 128, 1024]⟩ 0 8 c v1
          ∧ r.2.mem ((c.tc : Thread Cert.KernelIdeal.nD Cert.KernelIdeal.τ).loc Cert.KernelIdeal.main_v9) = Layout.block ⟨4, ![1, 8, 704, 1024]⟩ ⟨4, ![8, 8, 704, 1024]⟩ 0 8 c v2
          ∧ r.2.mem ((c.tc : Thread Cert.KernelIdeal.nD Cert.KernelIdeal.τ).loc Cert.KernelIdeal.main_v10) = Layout.block ⟨4, ![1, 8, 352, 1024]⟩ ⟨4, ![8, 8, 352, 1024]⟩ 0 8 c v3
          ∧ r.2.mem ((c.tc : Thread Cert.KernelIdeal.nD Cert.KernelIdeal.τ).loc Cert.KernelIdeal.main_v11) = Layout.block ⟨4, ![1, 8, 3, 768]⟩ ⟨4, ![8, 8, 3, 768]⟩ 0 8 c v4
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_v2) = v1
          ∧ r.2.mem (((0 : Dev Cert.ReferenceIdeal.nD).tc : Thread Cert.ReferenceIdeal.nD Cert.ReferenceIdeal.τ).loc Cert.ReferenceIdeal.main_v3) = v2
          ∧ r.2.mem (((0 : Dev Cert.ReferenceIdeal.nD).tc : Thread Cert.ReferenceIdeal.nD Cert.ReferenceIdeal.τ).loc Cert.ReferenceIdeal.main_v4) = v3
          ∧ r.2.mem (((0 : Dev Cert.ReferenceIdeal.nD).tc : Thread Cert.ReferenceIdeal.nD Cert.ReferenceIdeal.τ).loc Cert.ReferenceIdeal.main_v5) = v4
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨3, ![1, 1024, 3072]⟩ ⟨3, ![8, 1024, 3072]⟩ 0 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨4, ![1, 8, 128, 1024]⟩ ⟨4, ![8, 8, 128, 1024]⟩ 0 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨4, ![1, 8, 704, 1024]⟩ ⟨4, ![8, 8, 704, 1024]⟩ 0 8 c (m' (((0 : Dev Cert.Reference.nD).tc : Thread Cert.Reference.nD Cert.Reference.τ).loc Cert.Reference.main_arg2))
      ∧ m ((c.tc : Thread Cert.Kernel.nD Cert.Kernel.τ).loc Cert.Kernel.main_arg3) = Layout.block ⟨4, ![1, 8, 352, 1024]⟩ ⟨4, ![8, 8, 352, 1024]⟩ 0 8 c (m' (((0 : Dev Cert.Reference.nD).tc : Thread Cert.Reference.nD Cert.Reference.τ).loc Cert.Reference.main_arg3))
      ∧ m ((c.tc : Thread Cert.Kernel.nD Cert.Kernel.τ).loc Cert.Kernel.main_arg4) = Layout.block ⟨4, ![1, 8, 3, 768]⟩ ⟨4, ![8, 8, 3, 768]⟩ 0 8 c (m' (((0 : Dev Cert.Reference.nD).tc : Thread Cert.Reference.nD Cert.Reference.τ).loc Cert.Reference.main_arg4))) →
    ∃ (v0 : Buf (Elt Bits) (((0 : Dev Cert.Reference.nD).tc : Thread Cert.Reference.nD Cert.Reference.τ).loc Cert.Reference.main_v1)) (v1 : Buf (Elt Bits) (((0 : Dev Cert.Reference.nD).tc : Thread Cert.Reference.nD Cert.Reference.τ).loc Cert.Reference.main_v2)) (v2 : Buf (Elt Bits) (((0 : Dev Cert.Reference.nD).tc : Thread Cert.Reference.nD Cert.Reference.τ).loc Cert.Reference.main_v3)) (v3 : Buf (Elt Bits) (((0 : Dev Cert.Reference.nD).tc : Thread Cert.Reference.nD Cert.Reference.τ).loc Cert.Reference.main_v4)) (v4 : Buf (Elt Bits) (((0 : Dev Cert.Reference.nD).tc : Thread Cert.Reference.nD Cert.Reference.τ).loc Cert.Reference.main_v5)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v7) = Layout.block ⟨4, ![1, 8, 1024, 384]⟩ ⟨4, ![8, 8, 1024, 384]⟩ 0 8 c v0
          ∧ r.2.mem ((c.tc : Thread Cert.Kernel.nD Cert.Kernel.τ).loc Cert.Kernel.main_v8) = Layout.block ⟨4, ![1, 8, 128, 1024]⟩ ⟨4, ![8, 8, 128, 1024]⟩ 0 8 c v1
          ∧ r.2.mem ((c.tc : Thread Cert.Kernel.nD Cert.Kernel.τ).loc Cert.Kernel.main_v9) = Layout.block ⟨4, ![1, 8, 704, 1024]⟩ ⟨4, ![8, 8, 704, 1024]⟩ 0 8 c v2
          ∧ r.2.mem ((c.tc : Thread Cert.Kernel.nD Cert.Kernel.τ).loc Cert.Kernel.main_v10) = Layout.block ⟨4, ![1, 8, 352, 1024]⟩ ⟨4, ![8, 8, 352, 1024]⟩ 0 8 c v3
          ∧ r.2.mem ((c.tc : Thread Cert.Kernel.nD Cert.Kernel.τ).loc Cert.Kernel.main_v11) = Layout.block ⟨4, ![1, 8, 3, 768]⟩ ⟨4, ![8, 8, 3, 768]⟩ 0 8 c v4
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v1) = v0
          ∧ r.2.mem (((0 : Dev Cert.Reference.nD).tc : Thread Cert.Reference.nD Cert.Reference.τ).loc Cert.Reference.main_v2) = v1
          ∧ r.2.mem (((0 : Dev Cert.Reference.nD).tc : Thread Cert.Reference.nD Cert.Reference.τ).loc Cert.Reference.main_v3) = v2
          ∧ r.2.mem (((0 : Dev Cert.Reference.nD).tc : Thread Cert.Reference.nD Cert.Reference.τ).loc Cert.Reference.main_v4) = v3
          ∧ r.2.mem (((0 : Dev Cert.Reference.nD).tc : Thread Cert.Reference.nD Cert.Reference.τ).loc Cert.Reference.main_v5) = v4
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2)
          ∧ r.2.mem (((0 : Dev Cert.Reference.nD).tc : Thread Cert.Reference.nD Cert.Reference.τ).loc Cert.Reference.main_arg3) = m' (((0 : Dev Cert.Reference.nD).tc : Thread Cert.Reference.nD Cert.Reference.τ).loc Cert.Reference.main_arg3)
          ∧ r.2.mem (((0 : Dev Cert.Reference.nD).tc : Thread Cert.Reference.nD Cert.Reference.τ).loc Cert.Reference.main_arg4) = m' (((0 : Dev Cert.Reference.nD).tc : Thread Cert.Reference.nD Cert.Reference.τ).loc Cert.Reference.main_arg4))

def preserves_Scatter0a_Scatter0aIdeal : Prop :=
  True

def algebraic_Scatter0aIdeal_Scatter0aRefIdeal [hScatter0aIdeal : Cert.Scatter0aIdeal.Facts] [hScatter0aRefIdeal : Cert.Scatter0aRefIdeal.Facts] : Prop :=
  ∀ (m : (ℓ : Loc Cert.Scatter0aIdeal.nD Cert.Scatter0aIdeal.τ Cert.Scatter0aIdeal.sig) → Buf (Elt Ideal) ℓ) (g : Dev Cert.Scatter0aIdeal.nD → PrngReg)
    (m' : (ℓ : Loc Cert.Scatter0aRefIdeal.nD Cert.Scatter0aRefIdeal.τ Cert.Scatter0aRefIdeal.sig) → Buf (Elt Ideal) ℓ) (g' : Dev Cert.Scatter0aRefIdeal.nD → PrngReg), Pre_Scatter0aIdeal m →
    (∀ c : Dev Cert.Scatter0aIdeal.nD,
      m ((c.tc : Thread Cert.Scatter0aIdeal.nD Cert.Scatter0aIdeal.τ).loc Cert.Scatter0aIdeal.main_arg0) = Layout.block ⟨4, ![1, 8, 128, 1024]⟩ ⟨4, ![8, 8, 128, 1024]⟩ 0 8 c (m' (((0 : Dev Cert.Scatter0aRefIdeal.nD).tc : Thread Cert.Scatter0aRefIdeal.nD Cert.Scatter0aRefIdeal.τ).loc Cert.Scatter0aRefIdeal.main_arg0))
      ∧ m ((c.tc : Thread Cert.Scatter0aIdeal.nD Cert.Scatter0aIdeal.τ).loc Cert.Scatter0aIdeal.main_arg1) = Layout.block ⟨4, ![1, 8, 704, 1024]⟩ ⟨4, ![8, 8, 704, 1024]⟩ 0 8 c (m' (((0 : Dev Cert.Scatter0aRefIdeal.nD).tc : Thread Cert.Scatter0aRefIdeal.nD Cert.Scatter0aRefIdeal.τ).loc Cert.Scatter0aRefIdeal.main_arg1))
      ∧ m ((c.tc : Thread Cert.Scatter0aIdeal.nD Cert.Scatter0aIdeal.τ).loc Cert.Scatter0aIdeal.main_arg2) = Layout.block ⟨4, ![1, 8, 352, 1024]⟩ ⟨4, ![8, 8, 352, 1024]⟩ 0 8 c (m' (((0 : Dev Cert.Scatter0aRefIdeal.nD).tc : Thread Cert.Scatter0aRefIdeal.nD Cert.Scatter0aRefIdeal.τ).loc Cert.Scatter0aRefIdeal.main_arg2))) →
    ∃ (v0 : Buf (Elt Ideal) (((0 : Dev Cert.Scatter0aRefIdeal.nD).tc : Thread Cert.Scatter0aRefIdeal.nD Cert.Scatter0aRefIdeal.τ).loc Cert.Scatter0aRefIdeal.main_v0)) (v1 : Buf (Elt Ideal) (((0 : Dev Cert.Scatter0aRefIdeal.nD).tc : Thread Cert.Scatter0aRefIdeal.nD Cert.Scatter0aRefIdeal.τ).loc Cert.Scatter0aRefIdeal.main_v1)) (v2 : Buf (Elt Ideal) (((0 : Dev Cert.Scatter0aRefIdeal.nD).tc : Thread Cert.Scatter0aRefIdeal.nD Cert.Scatter0aRefIdeal.τ).loc Cert.Scatter0aRefIdeal.main_v2)),
      θ_run (Cert.Scatter0aIdeal.defs (F := Ideal)) (Cert.Scatter0aIdeal.threads (F := Ideal)) ⟨m, fun _ => 0, g⟩ (fun r => ∀ c : Dev Cert.Scatter0aIdeal.nD,
          r.2.mem ((c.tc : Thread Cert.Scatter0aIdeal.nD Cert.Scatter0aIdeal.τ).loc Cert.Scatter0aIdeal.main_v5) = Layout.block ⟨4, ![1, 8, 128, 1024]⟩ ⟨4, ![8, 8, 128, 1024]⟩ 0 8 c v0
          ∧ r.2.mem ((c.tc : Thread Cert.Scatter0aIdeal.nD Cert.Scatter0aIdeal.τ).loc Cert.Scatter0aIdeal.main_v6) = Layout.block ⟨4, ![1, 8, 704, 1024]⟩ ⟨4, ![8, 8, 704, 1024]⟩ 0 8 c v1
          ∧ r.2.mem ((c.tc : Thread Cert.Scatter0aIdeal.nD Cert.Scatter0aIdeal.τ).loc Cert.Scatter0aIdeal.main_v7) = Layout.block ⟨4, ![1, 8, 352, 1024]⟩ ⟨4, ![8, 8, 352, 1024]⟩ 0 8 c v2
          ∧ r.2.mem ((c.tc : Thread Cert.Scatter0aIdeal.nD Cert.Scatter0aIdeal.τ).loc Cert.Scatter0aIdeal.main_arg0) = m ((c.tc : Thread Cert.Scatter0aIdeal.nD Cert.Scatter0aIdeal.τ).loc Cert.Scatter0aIdeal.main_arg0)
          ∧ r.2.mem ((c.tc : Thread Cert.Scatter0aIdeal.nD Cert.Scatter0aIdeal.τ).loc Cert.Scatter0aIdeal.main_arg1) = m ((c.tc : Thread Cert.Scatter0aIdeal.nD Cert.Scatter0aIdeal.τ).loc Cert.Scatter0aIdeal.main_arg1)
          ∧ r.2.mem ((c.tc : Thread Cert.Scatter0aIdeal.nD Cert.Scatter0aIdeal.τ).loc Cert.Scatter0aIdeal.main_arg2) = m ((c.tc : Thread Cert.Scatter0aIdeal.nD Cert.Scatter0aIdeal.τ).loc Cert.Scatter0aIdeal.main_arg2))
      ∧ θ_run (Cert.Scatter0aRefIdeal.defs (F := Ideal)) (onTc (τ := Cert.Scatter0aRefIdeal.τ) (Cert.Scatter0aRefIdeal.main (F := Ideal))) ⟨m', fun _ => 0, g'⟩ (fun r =>
          r.2.mem (((0 : Dev Cert.Scatter0aRefIdeal.nD).tc : Thread Cert.Scatter0aRefIdeal.nD Cert.Scatter0aRefIdeal.τ).loc Cert.Scatter0aRefIdeal.main_v0) = v0
          ∧ r.2.mem (((0 : Dev Cert.Scatter0aRefIdeal.nD).tc : Thread Cert.Scatter0aRefIdeal.nD Cert.Scatter0aRefIdeal.τ).loc Cert.Scatter0aRefIdeal.main_v1) = v1
          ∧ r.2.mem (((0 : Dev Cert.Scatter0aRefIdeal.nD).tc : Thread Cert.Scatter0aRefIdeal.nD Cert.Scatter0aRefIdeal.τ).loc Cert.Scatter0aRefIdeal.main_v2) = v2
          ∧ r.2.mem (((0 : Dev Cert.Scatter0aRefIdeal.nD).tc : Thread Cert.Scatter0aRefIdeal.nD Cert.Scatter0aRefIdeal.τ).loc Cert.Scatter0aRefIdeal.main_arg0) = m' (((0 : Dev Cert.Scatter0aRefIdeal.nD).tc : Thread Cert.Scatter0aRefIdeal.nD Cert.Scatter0aRefIdeal.τ).loc Cert.Scatter0aRefIdeal.main_arg0)
          ∧ r.2.mem (((0 : Dev Cert.Scatter0aRefIdeal.nD).tc : Thread Cert.Scatter0aRefIdeal.nD Cert.Scatter0aRefIdeal.τ).loc Cert.Scatter0aRefIdeal.main_arg1) = m' (((0 : Dev Cert.Scatter0aRefIdeal.nD).tc : Thread Cert.Scatter0aRefIdeal.nD Cert.Scatter0aRefIdeal.τ).loc Cert.Scatter0aRefIdeal.main_arg1)
          ∧ r.2.mem (((0 : Dev Cert.Scatter0aRefIdeal.nD).tc : Thread Cert.Scatter0aRefIdeal.nD Cert.Scatter0aRefIdeal.τ).loc Cert.Scatter0aRefIdeal.main_arg2) = m' (((0 : Dev Cert.Scatter0aRefIdeal.nD).tc : Thread Cert.Scatter0aRefIdeal.nD Cert.Scatter0aRefIdeal.τ).loc Cert.Scatter0aRefIdeal.main_arg2))

def bitexact_Scatter0a_Scatter0aRef [hScatter0a : Cert.Scatter0a.Facts] [hScatter0aRef : Cert.Scatter0aRef.Facts] : Prop :=
  ∀ (m : (ℓ : Loc Cert.Scatter0a.nD Cert.Scatter0a.τ Cert.Scatter0a.sig) → Buf (Elt Bits) ℓ) (g : Dev Cert.Scatter0a.nD → PrngReg)
    (m' : (ℓ : Loc Cert.Scatter0aRef.nD Cert.Scatter0aRef.τ Cert.Scatter0aRef.sig) → Buf (Elt Bits) ℓ) (g' : Dev Cert.Scatter0aRef.nD → PrngReg), Pre_Scatter0a m →
    (∀ c : Dev Cert.Scatter0a.nD,
      m ((c.tc : Thread Cert.Scatter0a.nD Cert.Scatter0a.τ).loc Cert.Scatter0a.main_arg0) = Layout.block ⟨4, ![1, 8, 128, 1024]⟩ ⟨4, ![8, 8, 128, 1024]⟩ 0 8 c (m' (((0 : Dev Cert.Scatter0aRef.nD).tc : Thread Cert.Scatter0aRef.nD Cert.Scatter0aRef.τ).loc Cert.Scatter0aRef.main_arg0))
      ∧ m ((c.tc : Thread Cert.Scatter0a.nD Cert.Scatter0a.τ).loc Cert.Scatter0a.main_arg1) = Layout.block ⟨4, ![1, 8, 704, 1024]⟩ ⟨4, ![8, 8, 704, 1024]⟩ 0 8 c (m' (((0 : Dev Cert.Scatter0aRef.nD).tc : Thread Cert.Scatter0aRef.nD Cert.Scatter0aRef.τ).loc Cert.Scatter0aRef.main_arg1))
      ∧ m ((c.tc : Thread Cert.Scatter0a.nD Cert.Scatter0a.τ).loc Cert.Scatter0a.main_arg2) = Layout.block ⟨4, ![1, 8, 352, 1024]⟩ ⟨4, ![8, 8, 352, 1024]⟩ 0 8 c (m' (((0 : Dev Cert.Scatter0aRef.nD).tc : Thread Cert.Scatter0aRef.nD Cert.Scatter0aRef.τ).loc Cert.Scatter0aRef.main_arg2))) →
    ∃ (v0 : Buf (Elt Bits) (((0 : Dev Cert.Scatter0aRef.nD).tc : Thread Cert.Scatter0aRef.nD Cert.Scatter0aRef.τ).loc Cert.Scatter0aRef.main_v0)) (v1 : Buf (Elt Bits) (((0 : Dev Cert.Scatter0aRef.nD).tc : Thread Cert.Scatter0aRef.nD Cert.Scatter0aRef.τ).loc Cert.Scatter0aRef.main_v1)) (v2 : Buf (Elt Bits) (((0 : Dev Cert.Scatter0aRef.nD).tc : Thread Cert.Scatter0aRef.nD Cert.Scatter0aRef.τ).loc Cert.Scatter0aRef.main_v2)),
      θ_run (Cert.Scatter0a.defs (F := Bits)) (Cert.Scatter0a.threads (F := Bits)) ⟨m, fun _ => 0, g⟩ (fun r => ∀ c : Dev Cert.Scatter0a.nD,
          r.2.mem ((c.tc : Thread Cert.Scatter0a.nD Cert.Scatter0a.τ).loc Cert.Scatter0a.main_v5) = Layout.block ⟨4, ![1, 8, 128, 1024]⟩ ⟨4, ![8, 8, 128, 1024]⟩ 0 8 c v0
          ∧ r.2.mem ((c.tc : Thread Cert.Scatter0a.nD Cert.Scatter0a.τ).loc Cert.Scatter0a.main_v6) = Layout.block ⟨4, ![1, 8, 704, 1024]⟩ ⟨4, ![8, 8, 704, 1024]⟩ 0 8 c v1
          ∧ r.2.mem ((c.tc : Thread Cert.Scatter0a.nD Cert.Scatter0a.τ).loc Cert.Scatter0a.main_v7) = Layout.block ⟨4, ![1, 8, 352, 1024]⟩ ⟨4, ![8, 8, 352, 1024]⟩ 0 8 c v2
          ∧ r.2.mem ((c.tc : Thread Cert.Scatter0a.nD Cert.Scatter0a.τ).loc Cert.Scatter0a.main_arg0) = m ((c.tc : Thread Cert.Scatter0a.nD Cert.Scatter0a.τ).loc Cert.Scatter0a.main_arg0)
          ∧ r.2.mem ((c.tc : Thread Cert.Scatter0a.nD Cert.Scatter0a.τ).loc Cert.Scatter0a.main_arg1) = m ((c.tc : Thread Cert.Scatter0a.nD Cert.Scatter0a.τ).loc Cert.Scatter0a.main_arg1)
          ∧ r.2.mem ((c.tc : Thread Cert.Scatter0a.nD Cert.Scatter0a.τ).loc Cert.Scatter0a.main_arg2) = m ((c.tc : Thread Cert.Scatter0a.nD Cert.Scatter0a.τ).loc Cert.Scatter0a.main_arg2))
      ∧ θ_run (Cert.Scatter0aRef.defs (F := Bits)) (onTc (τ := Cert.Scatter0aRef.τ) (Cert.Scatter0aRef.main (F := Bits))) ⟨m', fun _ => 0, g'⟩ (fun r =>
          r.2.mem (((0 : Dev Cert.Scatter0aRef.nD).tc : Thread Cert.Scatter0aRef.nD Cert.Scatter0aRef.τ).loc Cert.Scatter0aRef.main_v0) = v0
          ∧ r.2.mem (((0 : Dev Cert.Scatter0aRef.nD).tc : Thread Cert.Scatter0aRef.nD Cert.Scatter0aRef.τ).loc Cert.Scatter0aRef.main_v1) = v1
          ∧ r.2.mem (((0 : Dev Cert.Scatter0aRef.nD).tc : Thread Cert.Scatter0aRef.nD Cert.Scatter0aRef.τ).loc Cert.Scatter0aRef.main_v2) = v2
          ∧ r.2.mem (((0 : Dev Cert.Scatter0aRef.nD).tc : Thread Cert.Scatter0aRef.nD Cert.Scatter0aRef.τ).loc Cert.Scatter0aRef.main_arg0) = m' (((0 : Dev Cert.Scatter0aRef.nD).tc : Thread Cert.Scatter0aRef.nD Cert.Scatter0aRef.τ).loc Cert.Scatter0aRef.main_arg0)
          ∧ r.2.mem (((0 : Dev Cert.Scatter0aRef.nD).tc : Thread Cert.Scatter0aRef.nD Cert.Scatter0aRef.τ).loc Cert.Scatter0aRef.main_arg1) = m' (((0 : Dev Cert.Scatter0aRef.nD).tc : Thread Cert.Scatter0aRef.nD Cert.Scatter0aRef.τ).loc Cert.Scatter0aRef.main_arg1)
          ∧ r.2.mem (((0 : Dev Cert.Scatter0aRef.nD).tc : Thread Cert.Scatter0aRef.nD Cert.Scatter0aRef.τ).loc Cert.Scatter0aRef.main_arg2) = m' (((0 : Dev Cert.Scatter0aRef.nD).tc : Thread Cert.Scatter0aRef.nD Cert.Scatter0aRef.τ).loc Cert.Scatter0aRef.main_arg2))

def preserves_Scatter0b_Scatter0bIdeal : Prop :=
  True

def algebraic_Scatter0bIdeal_Scatter0bRefIdeal [hScatter0bIdeal : Cert.Scatter0bIdeal.Facts] [hScatter0bRefIdeal : Cert.Scatter0bRefIdeal.Facts] : Prop :=
  ∀ (m : (ℓ : Loc Cert.Scatter0bIdeal.nD Cert.Scatter0bIdeal.τ Cert.Scatter0bIdeal.sig) → Buf (Elt Ideal) ℓ) (g : Dev Cert.Scatter0bIdeal.nD → PrngReg)
    (m' : (ℓ : Loc Cert.Scatter0bRefIdeal.nD Cert.Scatter0bRefIdeal.τ Cert.Scatter0bRefIdeal.sig) → Buf (Elt Ideal) ℓ) (g' : Dev Cert.Scatter0bRefIdeal.nD → PrngReg), Pre_Scatter0bIdeal m →
    (∀ c : Dev Cert.Scatter0bIdeal.nD,
      m ((c.tc : Thread Cert.Scatter0bIdeal.nD Cert.Scatter0bIdeal.τ).loc Cert.Scatter0bIdeal.main_arg0) = Layout.block ⟨3, ![1, 1024, 3072]⟩ ⟨3, ![8, 1024, 3072]⟩ 0 8 c (m' (((0 : Dev Cert.Scatter0bRefIdeal.nD).tc : Thread Cert.Scatter0bRefIdeal.nD Cert.Scatter0bRefIdeal.τ).loc Cert.Scatter0bRefIdeal.main_arg0))
      ∧ m ((c.tc : Thread Cert.Scatter0bIdeal.nD Cert.Scatter0bIdeal.τ).loc Cert.Scatter0bIdeal.main_arg1) = Layout.block ⟨4, ![1, 8, 3, 768]⟩ ⟨4, ![8, 8, 3, 768]⟩ 0 8 c (m' (((0 : Dev Cert.Scatter0bRefIdeal.nD).tc : Thread Cert.Scatter0bRefIdeal.nD Cert.Scatter0bRefIdeal.τ).loc Cert.Scatter0bRefIdeal.main_arg1))) →
    ∃ (v0 : Buf (Elt Ideal) (((0 : Dev Cert.Scatter0bRefIdeal.nD).tc : Thread Cert.Scatter0bRefIdeal.nD Cert.Scatter0bRefIdeal.τ).loc Cert.Scatter0bRefIdeal.main_v1)) (v1 : Buf (Elt Ideal) (((0 : Dev Cert.Scatter0bRefIdeal.nD).tc : Thread Cert.Scatter0bRefIdeal.nD Cert.Scatter0bRefIdeal.τ).loc Cert.Scatter0bRefIdeal.main_v2)),
      θ_run (Cert.Scatter0bIdeal.defs (F := Ideal)) (Cert.Scatter0bIdeal.threads (F := Ideal)) ⟨m, fun _ => 0, g⟩ (fun r => ∀ c : Dev Cert.Scatter0bIdeal.nD,
          r.2.mem ((c.tc : Thread Cert.Scatter0bIdeal.nD Cert.Scatter0bIdeal.τ).loc Cert.Scatter0bIdeal.main_v4) = Layout.block ⟨4, ![1, 8, 1024, 384]⟩ ⟨4, ![8, 8, 1024, 384]⟩ 0 8 c v0
          ∧ r.2.mem ((c.tc : Thread Cert.Scatter0bIdeal.nD Cert.Scatter0bIdeal.τ).loc Cert.Scatter0bIdeal.main_v5) = Layout.block ⟨4, ![1, 8, 3, 768]⟩ ⟨4, ![8, 8, 3, 768]⟩ 0 8 c v1
          ∧ r.2.mem ((c.tc : Thread Cert.Scatter0bIdeal.nD Cert.Scatter0bIdeal.τ).loc Cert.Scatter0bIdeal.main_arg0) = m ((c.tc : Thread Cert.Scatter0bIdeal.nD Cert.Scatter0bIdeal.τ).loc Cert.Scatter0bIdeal.main_arg0)
          ∧ r.2.mem ((c.tc : Thread Cert.Scatter0bIdeal.nD Cert.Scatter0bIdeal.τ).loc Cert.Scatter0bIdeal.main_arg1) = m ((c.tc : Thread Cert.Scatter0bIdeal.nD Cert.Scatter0bIdeal.τ).loc Cert.Scatter0bIdeal.main_arg1))
      ∧ θ_run (Cert.Scatter0bRefIdeal.defs (F := Ideal)) (onTc (τ := Cert.Scatter0bRefIdeal.τ) (Cert.Scatter0bRefIdeal.main (F := Ideal))) ⟨m', fun _ => 0, g'⟩ (fun r =>
          r.2.mem (((0 : Dev Cert.Scatter0bRefIdeal.nD).tc : Thread Cert.Scatter0bRefIdeal.nD Cert.Scatter0bRefIdeal.τ).loc Cert.Scatter0bRefIdeal.main_v1) = v0
          ∧ r.2.mem (((0 : Dev Cert.Scatter0bRefIdeal.nD).tc : Thread Cert.Scatter0bRefIdeal.nD Cert.Scatter0bRefIdeal.τ).loc Cert.Scatter0bRefIdeal.main_v2) = v1
          ∧ r.2.mem (((0 : Dev Cert.Scatter0bRefIdeal.nD).tc : Thread Cert.Scatter0bRefIdeal.nD Cert.Scatter0bRefIdeal.τ).loc Cert.Scatter0bRefIdeal.main_arg0) = m' (((0 : Dev Cert.Scatter0bRefIdeal.nD).tc : Thread Cert.Scatter0bRefIdeal.nD Cert.Scatter0bRefIdeal.τ).loc Cert.Scatter0bRefIdeal.main_arg0)
          ∧ r.2.mem (((0 : Dev Cert.Scatter0bRefIdeal.nD).tc : Thread Cert.Scatter0bRefIdeal.nD Cert.Scatter0bRefIdeal.τ).loc Cert.Scatter0bRefIdeal.main_arg1) = m' (((0 : Dev Cert.Scatter0bRefIdeal.nD).tc : Thread Cert.Scatter0bRefIdeal.nD Cert.Scatter0bRefIdeal.τ).loc Cert.Scatter0bRefIdeal.main_arg1))

def bitexact_Scatter0b_Scatter0bRef [hScatter0b : Cert.Scatter0b.Facts] [hScatter0bRef : Cert.Scatter0bRef.Facts] : Prop :=
  ∀ (m : (ℓ : Loc Cert.Scatter0b.nD Cert.Scatter0b.τ Cert.Scatter0b.sig) → Buf (Elt Bits) ℓ) (g : Dev Cert.Scatter0b.nD → PrngReg)
    (m' : (ℓ : Loc Cert.Scatter0bRef.nD Cert.Scatter0bRef.τ Cert.Scatter0bRef.sig) → Buf (Elt Bits) ℓ) (g' : Dev Cert.Scatter0bRef.nD → PrngReg), Pre_Scatter0b m →
    (∀ c : Dev Cert.Scatter0b.nD,
      m ((c.tc : Thread Cert.Scatter0b.nD Cert.Scatter0b.τ).loc Cert.Scatter0b.main_arg0) = Layout.block ⟨3, ![1, 1024, 3072]⟩ ⟨3, ![8, 1024, 3072]⟩ 0 8 c (m' (((0 : Dev Cert.Scatter0bRef.nD).tc : Thread Cert.Scatter0bRef.nD Cert.Scatter0bRef.τ).loc Cert.Scatter0bRef.main_arg0))
      ∧ m ((c.tc : Thread Cert.Scatter0b.nD Cert.Scatter0b.τ).loc Cert.Scatter0b.main_arg1) = Layout.block ⟨4, ![1, 8, 3, 768]⟩ ⟨4, ![8, 8, 3, 768]⟩ 0 8 c (m' (((0 : Dev Cert.Scatter0bRef.nD).tc : Thread Cert.Scatter0bRef.nD Cert.Scatter0bRef.τ).loc Cert.Scatter0bRef.main_arg1))) →
    ∃ (v0 : Buf (Elt Bits) (((0 : Dev Cert.Scatter0bRef.nD).tc : Thread Cert.Scatter0bRef.nD Cert.Scatter0bRef.τ).loc Cert.Scatter0bRef.main_v1)) (v1 : Buf (Elt Bits) (((0 : Dev Cert.Scatter0bRef.nD).tc : Thread Cert.Scatter0bRef.nD Cert.Scatter0bRef.τ).loc Cert.Scatter0bRef.main_v2)),
      θ_run (Cert.Scatter0b.defs (F := Bits)) (Cert.Scatter0b.threads (F := Bits)) ⟨m, fun _ => 0, g⟩ (fun r => ∀ c : Dev Cert.Scatter0b.nD,
          r.2.mem ((c.tc : Thread Cert.Scatter0b.nD Cert.Scatter0b.τ).loc Cert.Scatter0b.main_v4) = Layout.block ⟨4, ![1, 8, 1024, 384]⟩ ⟨4, ![8, 8, 1024, 384]⟩ 0 8 c v0
          ∧ r.2.mem ((c.tc : Thread Cert.Scatter0b.nD Cert.Scatter0b.τ).loc Cert.Scatter0b.main_v5) = Layout.block ⟨4, ![1, 8, 3, 768]⟩ ⟨4, ![8, 8, 3, 768]⟩ 0 8 c v1
          ∧ r.2.mem ((c.tc : Thread Cert.Scatter0b.nD Cert.Scatter0b.τ).loc Cert.Scatter0b.main_arg0) = m ((c.tc : Thread Cert.Scatter0b.nD Cert.Scatter0b.τ).loc Cert.Scatter0b.main_arg0)
          ∧ r.2.mem ((c.tc : Thread Cert.Scatter0b.nD Cert.Scatter0b.τ).loc Cert.Scatter0b.main_arg1) = m ((c.tc : Thread Cert.Scatter0b.nD Cert.Scatter0b.τ).loc Cert.Scatter0b.main_arg1))
      ∧ θ_run (Cert.Scatter0bRef.defs (F := Bits)) (onTc (τ := Cert.Scatter0bRef.τ) (Cert.Scatter0bRef.main (F := Bits))) ⟨m', fun _ => 0, g'⟩ (fun r =>
          r.2.mem (((0 : Dev Cert.Scatter0bRef.nD).tc : Thread Cert.Scatter0bRef.nD Cert.Scatter0bRef.τ).loc Cert.Scatter0bRef.main_v1) = v0
          ∧ r.2.mem (((0 : Dev Cert.Scatter0bRef.nD).tc : Thread Cert.Scatter0bRef.nD Cert.Scatter0bRef.τ).loc Cert.Scatter0bRef.main_v2) = v1
          ∧ r.2.mem (((0 : Dev Cert.Scatter0bRef.nD).tc : Thread Cert.Scatter0bRef.nD Cert.Scatter0bRef.τ).loc Cert.Scatter0bRef.main_arg0) = m' (((0 : Dev Cert.Scatter0bRef.nD).tc : Thread Cert.Scatter0bRef.nD Cert.Scatter0bRef.τ).loc Cert.Scatter0bRef.main_arg0)
          ∧ r.2.mem (((0 : Dev Cert.Scatter0bRef.nD).tc : Thread Cert.Scatter0bRef.nD Cert.Scatter0bRef.τ).loc Cert.Scatter0bRef.main_arg1) = m' (((0 : Dev Cert.Scatter0bRef.nD).tc : Thread Cert.Scatter0bRef.nD Cert.Scatter0bRef.τ).loc Cert.Scatter0bRef.main_arg1))

def preserves_GatherE_GatherEIdeal : Prop :=
  True

def algebraic_GatherEIdeal_GatherERefIdeal [hGatherEIdeal : Cert.GatherEIdeal.Facts] [hGatherERefIdeal : Cert.GatherERefIdeal.Facts] : Prop :=
  ∀ (m : (ℓ : Loc Cert.GatherEIdeal.nD Cert.GatherEIdeal.τ Cert.GatherEIdeal.sig) → Buf (Elt Ideal) ℓ) (g : Dev Cert.GatherEIdeal.nD → PrngReg)
    (m' : (ℓ : Loc Cert.GatherERefIdeal.nD Cert.GatherERefIdeal.τ Cert.GatherERefIdeal.sig) → Buf (Elt Ideal) ℓ) (g' : Dev Cert.GatherERefIdeal.nD → PrngReg), Pre_GatherEIdeal m →
    (∀ c : Dev Cert.GatherEIdeal.nD,
      m ((c.tc : Thread Cert.GatherEIdeal.nD Cert.GatherEIdeal.τ).loc Cert.GatherEIdeal.main_arg0) = Layout.block ⟨3, ![2, 1024, 704]⟩ ⟨3, ![2, 1024, 5632]⟩ 2 8 c (m' (((0 : Dev Cert.GatherERefIdeal.nD).tc : Thread Cert.GatherERefIdeal.nD Cert.GatherERefIdeal.τ).loc Cert.GatherERefIdeal.main_arg0))
      ∧ m ((c.tc : Thread Cert.GatherEIdeal.nD Cert.GatherEIdeal.τ).loc Cert.GatherEIdeal.main_arg1) = Layout.block ⟨3, ![2, 352, 1024]⟩ ⟨3, ![2, 2816, 1024]⟩ 1 8 c (m' (((0 : Dev Cert.GatherERefIdeal.nD).tc : Thread Cert.GatherERefIdeal.nD Cert.GatherERefIdeal.τ).loc Cert.GatherERefIdeal.main_arg1))) →
    ∃ (v0 : Buf (Elt Ideal) (((0 : Dev Cert.GatherERefIdeal.nD).tc : Thread Cert.GatherERefIdeal.nD Cert.GatherERefIdeal.τ).loc Cert.GatherERefIdeal.main_v4)) (v1 : Buf (Elt Ideal) (((0 : Dev Cert.GatherERefIdeal.nD).tc : Thread Cert.GatherERefIdeal.nD Cert.GatherERefIdeal.τ).loc Cert.GatherERefIdeal.main_v8)),
      θ_run (Cert.GatherEIdeal.defs (F := Ideal)) (Cert.GatherEIdeal.threads (F := Ideal)) ⟨m, fun _ => 0, g⟩ (fun r => ∀ c : Dev Cert.GatherEIdeal.nD,
          r.2.mem ((c.tc : Thread Cert.GatherEIdeal.nD Cert.GatherEIdeal.τ).loc Cert.GatherEIdeal.main_v8_0) = v0
          ∧ r.2.mem ((c.tc : Thread Cert.GatherEIdeal.nD Cert.GatherEIdeal.τ).loc Cert.GatherEIdeal.main_v8_1) = v1
          ∧ r.2.mem ((c.tc : Thread Cert.GatherEIdeal.nD Cert.GatherEIdeal.τ).loc Cert.GatherEIdeal.main_arg0) = m ((c.tc : Thread Cert.GatherEIdeal.nD Cert.GatherEIdeal.τ).loc Cert.GatherEIdeal.main_arg0)
          ∧ r.2.mem ((c.tc : Thread Cert.GatherEIdeal.nD Cert.GatherEIdeal.τ).loc Cert.GatherEIdeal.main_arg1) = m ((c.tc : Thread Cert.GatherEIdeal.nD Cert.GatherEIdeal.τ).loc Cert.GatherEIdeal.main_arg1))
      ∧ θ_run (Cert.GatherERefIdeal.defs (F := Ideal)) (onTc (τ := Cert.GatherERefIdeal.τ) (Cert.GatherERefIdeal.main (F := Ideal))) ⟨m', fun _ => 0, g'⟩ (fun r =>
          r.2.mem (((0 : Dev Cert.GatherERefIdeal.nD).tc : Thread Cert.GatherERefIdeal.nD Cert.GatherERefIdeal.τ).loc Cert.GatherERefIdeal.main_v4) = v0
          ∧ r.2.mem (((0 : Dev Cert.GatherERefIdeal.nD).tc : Thread Cert.GatherERefIdeal.nD Cert.GatherERefIdeal.τ).loc Cert.GatherERefIdeal.main_v8) = v1
          ∧ r.2.mem (((0 : Dev Cert.GatherERefIdeal.nD).tc : Thread Cert.GatherERefIdeal.nD Cert.GatherERefIdeal.τ).loc Cert.GatherERefIdeal.main_arg0) = m' (((0 : Dev Cert.GatherERefIdeal.nD).tc : Thread Cert.GatherERefIdeal.nD Cert.GatherERefIdeal.τ).loc Cert.GatherERefIdeal.main_arg0)
          ∧ r.2.mem (((0 : Dev Cert.GatherERefIdeal.nD).tc : Thread Cert.GatherERefIdeal.nD Cert.GatherERefIdeal.τ).loc Cert.GatherERefIdeal.main_arg1) = m' (((0 : Dev Cert.GatherERefIdeal.nD).tc : Thread Cert.GatherERefIdeal.nD Cert.GatherERefIdeal.τ).loc Cert.GatherERefIdeal.main_arg1))

def bitexact_GatherE_GatherERef [hGatherE : Cert.GatherE.Facts] [hGatherERef : Cert.GatherERef.Facts] : Prop :=
  ∀ (m : (ℓ : Loc Cert.GatherE.nD Cert.GatherE.τ Cert.GatherE.sig) → Buf (Elt Bits) ℓ) (g : Dev Cert.GatherE.nD → PrngReg)
    (m' : (ℓ : Loc Cert.GatherERef.nD Cert.GatherERef.τ Cert.GatherERef.sig) → Buf (Elt Bits) ℓ) (g' : Dev Cert.GatherERef.nD → PrngReg), Pre_GatherE m →
    (∀ c : Dev Cert.GatherE.nD,
      m ((c.tc : Thread Cert.GatherE.nD Cert.GatherE.τ).loc Cert.GatherE.main_arg0) = Layout.block ⟨3, ![2, 1024, 704]⟩ ⟨3, ![2, 1024, 5632]⟩ 2 8 c (m' (((0 : Dev Cert.GatherERef.nD).tc : Thread Cert.GatherERef.nD Cert.GatherERef.τ).loc Cert.GatherERef.main_arg0))
      ∧ m ((c.tc : Thread Cert.GatherE.nD Cert.GatherE.τ).loc Cert.GatherE.main_arg1) = Layout.block ⟨3, ![2, 352, 1024]⟩ ⟨3, ![2, 2816, 1024]⟩ 1 8 c (m' (((0 : Dev Cert.GatherERef.nD).tc : Thread Cert.GatherERef.nD Cert.GatherERef.τ).loc Cert.GatherERef.main_arg1))) →
    ∃ (v0 : Buf (Elt Bits) (((0 : Dev Cert.GatherERef.nD).tc : Thread Cert.GatherERef.nD Cert.GatherERef.τ).loc Cert.GatherERef.main_v4)) (v1 : Buf (Elt Bits) (((0 : Dev Cert.GatherERef.nD).tc : Thread Cert.GatherERef.nD Cert.GatherERef.τ).loc Cert.GatherERef.main_v8)),
      θ_run (Cert.GatherE.defs (F := Bits)) (Cert.GatherE.threads (F := Bits)) ⟨m, fun _ => 0, g⟩ (fun r => ∀ c : Dev Cert.GatherE.nD,
          r.2.mem ((c.tc : Thread Cert.GatherE.nD Cert.GatherE.τ).loc Cert.GatherE.main_v8_0) = v0
          ∧ r.2.mem ((c.tc : Thread Cert.GatherE.nD Cert.GatherE.τ).loc Cert.GatherE.main_v8_1) = v1
          ∧ r.2.mem ((c.tc : Thread Cert.GatherE.nD Cert.GatherE.τ).loc Cert.GatherE.main_arg0) = m ((c.tc : Thread Cert.GatherE.nD Cert.GatherE.τ).loc Cert.GatherE.main_arg0)
          ∧ r.2.mem ((c.tc : Thread Cert.GatherE.nD Cert.GatherE.τ).loc Cert.GatherE.main_arg1) = m ((c.tc : Thread Cert.GatherE.nD Cert.GatherE.τ).loc Cert.GatherE.main_arg1))
      ∧ θ_run (Cert.GatherERef.defs (F := Bits)) (onTc (τ := Cert.GatherERef.τ) (Cert.GatherERef.main (F := Bits))) ⟨m', fun _ => 0, g'⟩ (fun r =>
          r.2.mem (((0 : Dev Cert.GatherERef.nD).tc : Thread Cert.GatherERef.nD Cert.GatherERef.τ).loc Cert.GatherERef.main_v4) = v0
          ∧ r.2.mem (((0 : Dev Cert.GatherERef.nD).tc : Thread Cert.GatherERef.nD Cert.GatherERef.τ).loc Cert.GatherERef.main_v8) = v1
          ∧ r.2.mem (((0 : Dev Cert.GatherERef.nD).tc : Thread Cert.GatherERef.nD Cert.GatherERef.τ).loc Cert.GatherERef.main_arg0) = m' (((0 : Dev Cert.GatherERef.nD).tc : Thread Cert.GatherERef.nD Cert.GatherERef.τ).loc Cert.GatherERef.main_arg0)
          ∧ r.2.mem (((0 : Dev Cert.GatherERef.nD).tc : Thread Cert.GatherERef.nD Cert.GatherERef.τ).loc Cert.GatherERef.main_arg1) = m' (((0 : Dev Cert.GatherERef.nD).tc : Thread Cert.GatherERef.nD Cert.GatherERef.τ).loc Cert.GatherERef.main_arg1))

def preserves_GatherB_GatherBIdeal : Prop :=
  True

def algebraic_GatherBIdeal_GatherBRefIdeal [hGatherBIdeal : Cert.GatherBIdeal.Facts] [hGatherBRefIdeal : Cert.GatherBRefIdeal.Facts] : Prop :=
  ∀ (m : (ℓ : Loc Cert.GatherBIdeal.nD Cert.GatherBIdeal.τ Cert.GatherBIdeal.sig) → Buf (Elt Ideal) ℓ) (g : Dev Cert.GatherBIdeal.nD → PrngReg)
    (m' : (ℓ : Loc Cert.GatherBRefIdeal.nD Cert.GatherBRefIdeal.τ Cert.GatherBRefIdeal.sig) → Buf (Elt Ideal) ℓ) (g' : Dev Cert.GatherBRefIdeal.nD → PrngReg), Pre_GatherBIdeal m →
    (∀ c : Dev Cert.GatherBIdeal.nD,
      m ((c.tc : Thread Cert.GatherBIdeal.nD Cert.GatherBIdeal.τ).loc Cert.GatherBIdeal.main_arg0) = Layout.block ⟨3, ![2, 128, 1024]⟩ ⟨3, ![2, 1024, 1024]⟩ 1 8 c (m' (((0 : Dev Cert.GatherBRefIdeal.nD).tc : Thread Cert.GatherBRefIdeal.nD Cert.GatherBRefIdeal.τ).loc Cert.GatherBRefIdeal.main_arg0))
      ∧ m ((c.tc : Thread Cert.GatherBIdeal.nD Cert.GatherBIdeal.τ).loc Cert.GatherBIdeal.main_arg1) = Layout.block ⟨3, ![2, 1024, 704]⟩ ⟨3, ![2, 1024, 5632]⟩ 2 8 c (m' (((0 : Dev Cert.GatherBRefIdeal.nD).tc : Thread Cert.GatherBRefIdeal.nD Cert.GatherBRefIdeal.τ).loc Cert.GatherBRefIdeal.main_arg1))) →
    ∃ (v0 : Buf (Elt Ideal) (((0 : Dev Cert.GatherBRefIdeal.nD).tc : Thread Cert.GatherBRefIdeal.nD Cert.GatherBRefIdeal.τ).loc Cert.GatherBRefIdeal.main_v3)) (v1 : Buf (Elt Ideal) (((0 : Dev Cert.GatherBRefIdeal.nD).tc : Thread Cert.GatherBRefIdeal.nD Cert.GatherBRefIdeal.τ).loc Cert.GatherBRefIdeal.main_v8)),
      θ_run (Cert.GatherBIdeal.defs (F := Ideal)) (Cert.GatherBIdeal.threads (F := Ideal)) ⟨m, fun _ => 0, g⟩ (fun r => ∀ c : Dev Cert.GatherBIdeal.nD,
          r.2.mem ((c.tc : Thread Cert.GatherBIdeal.nD Cert.GatherBIdeal.τ).loc Cert.GatherBIdeal.main_v8_0) = v0
          ∧ r.2.mem ((c.tc : Thread Cert.GatherBIdeal.nD Cert.GatherBIdeal.τ).loc Cert.GatherBIdeal.main_v8_1) = v1
          ∧ r.2.mem ((c.tc : Thread Cert.GatherBIdeal.nD Cert.GatherBIdeal.τ).loc Cert.GatherBIdeal.main_arg0) = m ((c.tc : Thread Cert.GatherBIdeal.nD Cert.GatherBIdeal.τ).loc Cert.GatherBIdeal.main_arg0)
          ∧ r.2.mem ((c.tc : Thread Cert.GatherBIdeal.nD Cert.GatherBIdeal.τ).loc Cert.GatherBIdeal.main_arg1) = m ((c.tc : Thread Cert.GatherBIdeal.nD Cert.GatherBIdeal.τ).loc Cert.GatherBIdeal.main_arg1))
      ∧ θ_run (Cert.GatherBRefIdeal.defs (F := Ideal)) (onTc (τ := Cert.GatherBRefIdeal.τ) (Cert.GatherBRefIdeal.main (F := Ideal))) ⟨m', fun _ => 0, g'⟩ (fun r =>
          r.2.mem (((0 : Dev Cert.GatherBRefIdeal.nD).tc : Thread Cert.GatherBRefIdeal.nD Cert.GatherBRefIdeal.τ).loc Cert.GatherBRefIdeal.main_v3) = v0
          ∧ r.2.mem (((0 : Dev Cert.GatherBRefIdeal.nD).tc : Thread Cert.GatherBRefIdeal.nD Cert.GatherBRefIdeal.τ).loc Cert.GatherBRefIdeal.main_v8) = v1
          ∧ r.2.mem (((0 : Dev Cert.GatherBRefIdeal.nD).tc : Thread Cert.GatherBRefIdeal.nD Cert.GatherBRefIdeal.τ).loc Cert.GatherBRefIdeal.main_arg0) = m' (((0 : Dev Cert.GatherBRefIdeal.nD).tc : Thread Cert.GatherBRefIdeal.nD Cert.GatherBRefIdeal.τ).loc Cert.GatherBRefIdeal.main_arg0)
          ∧ r.2.mem (((0 : Dev Cert.GatherBRefIdeal.nD).tc : Thread Cert.GatherBRefIdeal.nD Cert.GatherBRefIdeal.τ).loc Cert.GatherBRefIdeal.main_arg1) = m' (((0 : Dev Cert.GatherBRefIdeal.nD).tc : Thread Cert.GatherBRefIdeal.nD Cert.GatherBRefIdeal.τ).loc Cert.GatherBRefIdeal.main_arg1))

def bitexact_GatherB_GatherBRef [hGatherB : Cert.GatherB.Facts] [hGatherBRef : Cert.GatherBRef.Facts] : Prop :=
  ∀ (m : (ℓ : Loc Cert.GatherB.nD Cert.GatherB.τ Cert.GatherB.sig) → Buf (Elt Bits) ℓ) (g : Dev Cert.GatherB.nD → PrngReg)
    (m' : (ℓ : Loc Cert.GatherBRef.nD Cert.GatherBRef.τ Cert.GatherBRef.sig) → Buf (Elt Bits) ℓ) (g' : Dev Cert.GatherBRef.nD → PrngReg), Pre_GatherB m →
    (∀ c : Dev Cert.GatherB.nD,
      m ((c.tc : Thread Cert.GatherB.nD Cert.GatherB.τ).loc Cert.GatherB.main_arg0) = Layout.block ⟨3, ![2, 128, 1024]⟩ ⟨3, ![2, 1024, 1024]⟩ 1 8 c (m' (((0 : Dev Cert.GatherBRef.nD).tc : Thread Cert.GatherBRef.nD Cert.GatherBRef.τ).loc Cert.GatherBRef.main_arg0))
      ∧ m ((c.tc : Thread Cert.GatherB.nD Cert.GatherB.τ).loc Cert.GatherB.main_arg1) = Layout.block ⟨3, ![2, 1024, 704]⟩ ⟨3, ![2, 1024, 5632]⟩ 2 8 c (m' (((0 : Dev Cert.GatherBRef.nD).tc : Thread Cert.GatherBRef.nD Cert.GatherBRef.τ).loc Cert.GatherBRef.main_arg1))) →
    ∃ (v0 : Buf (Elt Bits) (((0 : Dev Cert.GatherBRef.nD).tc : Thread Cert.GatherBRef.nD Cert.GatherBRef.τ).loc Cert.GatherBRef.main_v3)) (v1 : Buf (Elt Bits) (((0 : Dev Cert.GatherBRef.nD).tc : Thread Cert.GatherBRef.nD Cert.GatherBRef.τ).loc Cert.GatherBRef.main_v8)),
      θ_run (Cert.GatherB.defs (F := Bits)) (Cert.GatherB.threads (F := Bits)) ⟨m, fun _ => 0, g⟩ (fun r => ∀ c : Dev Cert.GatherB.nD,
          r.2.mem ((c.tc : Thread Cert.GatherB.nD Cert.GatherB.τ).loc Cert.GatherB.main_v8_0) = v0
          ∧ r.2.mem ((c.tc : Thread Cert.GatherB.nD Cert.GatherB.τ).loc Cert.GatherB.main_v8_1) = v1
          ∧ r.2.mem ((c.tc : Thread Cert.GatherB.nD Cert.GatherB.τ).loc Cert.GatherB.main_arg0) = m ((c.tc : Thread Cert.GatherB.nD Cert.GatherB.τ).loc Cert.GatherB.main_arg0)
          ∧ r.2.mem ((c.tc : Thread Cert.GatherB.nD Cert.GatherB.τ).loc Cert.GatherB.main_arg1) = m ((c.tc : Thread Cert.GatherB.nD Cert.GatherB.τ).loc Cert.GatherB.main_arg1))
      ∧ θ_run (Cert.GatherBRef.defs (F := Bits)) (onTc (τ := Cert.GatherBRef.τ) (Cert.GatherBRef.main (F := Bits))) ⟨m', fun _ => 0, g'⟩ (fun r =>
          r.2.mem (((0 : Dev Cert.GatherBRef.nD).tc : Thread Cert.GatherBRef.nD Cert.GatherBRef.τ).loc Cert.GatherBRef.main_v3) = v0
          ∧ r.2.mem (((0 : Dev Cert.GatherBRef.nD).tc : Thread Cert.GatherBRef.nD Cert.GatherBRef.τ).loc Cert.GatherBRef.main_v8) = v1
          ∧ r.2.mem (((0 : Dev Cert.GatherBRef.nD).tc : Thread Cert.GatherBRef.nD Cert.GatherBRef.τ).loc Cert.GatherBRef.main_arg0) = m' (((0 : Dev Cert.GatherBRef.nD).tc : Thread Cert.GatherBRef.nD Cert.GatherBRef.τ).loc Cert.GatherBRef.main_arg0)
          ∧ r.2.mem (((0 : Dev Cert.GatherBRef.nD).tc : Thread Cert.GatherBRef.nD Cert.GatherBRef.τ).loc Cert.GatherBRef.main_arg1) = m' (((0 : Dev Cert.GatherBRef.nD).tc : Thread Cert.GatherBRef.nD Cert.GatherBRef.τ).loc Cert.GatherBRef.main_arg1))

def preserves_GatherC_GatherCIdeal : Prop :=
  True

def algebraic_GatherCIdeal_GatherCRefIdeal [hGatherCIdeal : Cert.GatherCIdeal.Facts] [hGatherCRefIdeal : Cert.GatherCRefIdeal.Facts] : Prop :=
  ∀ (m : (ℓ : Loc Cert.GatherCIdeal.nD Cert.GatherCIdeal.τ Cert.GatherCIdeal.sig) → Buf (Elt Ideal) ℓ) (g : Dev Cert.GatherCIdeal.nD → PrngReg)
    (m' : (ℓ : Loc Cert.GatherCRefIdeal.nD Cert.GatherCRefIdeal.τ Cert.GatherCRefIdeal.sig) → Buf (Elt Ideal) ℓ) (g' : Dev Cert.GatherCRefIdeal.nD → PrngReg), Pre_GatherCIdeal m →
    (∀ c : Dev Cert.GatherCIdeal.nD,
      m ((c.tc : Thread Cert.GatherCIdeal.nD Cert.GatherCIdeal.τ).loc Cert.GatherCIdeal.main_arg0) = Layout.block ⟨3, ![2, 352, 1024]⟩ ⟨3, ![2, 2816, 1024]⟩ 1 8 c (m' (((0 : Dev Cert.GatherCRefIdeal.nD).tc : Thread Cert.GatherCRefIdeal.nD Cert.GatherCRefIdeal.τ).loc Cert.GatherCRefIdeal.main_arg0))) →
    ∃ (v0 : Buf (Elt Ideal) (((0 : Dev Cert.GatherCRefIdeal.nD).tc : Thread Cert.GatherCRefIdeal.nD Cert.GatherCRefIdeal.τ).loc Cert.GatherCRefIdeal.main_v3)),
      θ_run (Cert.GatherCIdeal.defs (F := Ideal)) (Cert.GatherCIdeal.threads (F := Ideal)) ⟨m, fun _ => 0, g⟩ (fun r => ∀ c : Dev Cert.GatherCIdeal.nD,
          r.2.mem ((c.tc : Thread Cert.GatherCIdeal.nD Cert.GatherCIdeal.τ).loc Cert.GatherCIdeal.main_v4) = v0
          ∧ r.2.mem ((c.tc : Thread Cert.GatherCIdeal.nD Cert.GatherCIdeal.τ).loc Cert.GatherCIdeal.main_arg0) = m ((c.tc : Thread Cert.GatherCIdeal.nD Cert.GatherCIdeal.τ).loc Cert.GatherCIdeal.main_arg0))
      ∧ θ_run (Cert.GatherCRefIdeal.defs (F := Ideal)) (onTc (τ := Cert.GatherCRefIdeal.τ) (Cert.GatherCRefIdeal.main (F := Ideal))) ⟨m', fun _ => 0, g'⟩ (fun r =>
          r.2.mem (((0 : Dev Cert.GatherCRefIdeal.nD).tc : Thread Cert.GatherCRefIdeal.nD Cert.GatherCRefIdeal.τ).loc Cert.GatherCRefIdeal.main_v3) = v0
          ∧ r.2.mem (((0 : Dev Cert.GatherCRefIdeal.nD).tc : Thread Cert.GatherCRefIdeal.nD Cert.GatherCRefIdeal.τ).loc Cert.GatherCRefIdeal.main_arg0) = m' (((0 : Dev Cert.GatherCRefIdeal.nD).tc : Thread Cert.GatherCRefIdeal.nD Cert.GatherCRefIdeal.τ).loc Cert.GatherCRefIdeal.main_arg0))

def bitexact_GatherC_GatherCRef [hGatherC : Cert.GatherC.Facts] [hGatherCRef : Cert.GatherCRef.Facts] : Prop :=
  ∀ (m : (ℓ : Loc Cert.GatherC.nD Cert.GatherC.τ Cert.GatherC.sig) → Buf (Elt Bits) ℓ) (g : Dev Cert.GatherC.nD → PrngReg)
    (m' : (ℓ : Loc Cert.GatherCRef.nD Cert.GatherCRef.τ Cert.GatherCRef.sig) → Buf (Elt Bits) ℓ) (g' : Dev Cert.GatherCRef.nD → PrngReg), Pre_GatherC m →
    (∀ c : Dev Cert.GatherC.nD,
      m ((c.tc : Thread Cert.GatherC.nD Cert.GatherC.τ).loc Cert.GatherC.main_arg0) = Layout.block ⟨3, ![2, 352, 1024]⟩ ⟨3, ![2, 2816, 1024]⟩ 1 8 c (m' (((0 : Dev Cert.GatherCRef.nD).tc : Thread Cert.GatherCRef.nD Cert.GatherCRef.τ).loc Cert.GatherCRef.main_arg0))) →
    ∃ (v0 : Buf (Elt Bits) (((0 : Dev Cert.GatherCRef.nD).tc : Thread Cert.GatherCRef.nD Cert.GatherCRef.τ).loc Cert.GatherCRef.main_v3)),
      θ_run (Cert.GatherC.defs (F := Bits)) (Cert.GatherC.threads (F := Bits)) ⟨m, fun _ => 0, g⟩ (fun r => ∀ c : Dev Cert.GatherC.nD,
          r.2.mem ((c.tc : Thread Cert.GatherC.nD Cert.GatherC.τ).loc Cert.GatherC.main_v4) = v0
          ∧ r.2.mem ((c.tc : Thread Cert.GatherC.nD Cert.GatherC.τ).loc Cert.GatherC.main_arg0) = m ((c.tc : Thread Cert.GatherC.nD Cert.GatherC.τ).loc Cert.GatherC.main_arg0))
      ∧ θ_run (Cert.GatherCRef.defs (F := Bits)) (onTc (τ := Cert.GatherCRef.τ) (Cert.GatherCRef.main (F := Bits))) ⟨m', fun _ => 0, g'⟩ (fun r =>
          r.2.mem (((0 : Dev Cert.GatherCRef.nD).tc : Thread Cert.GatherCRef.nD Cert.GatherCRef.τ).loc Cert.GatherCRef.main_v3) = v0
          ∧ r.2.mem (((0 : Dev Cert.GatherCRef.nD).tc : Thread Cert.GatherCRef.nD Cert.GatherCRef.τ).loc Cert.GatherCRef.main_arg0) = m' (((0 : Dev Cert.GatherCRef.nD).tc : Thread Cert.GatherCRef.nD Cert.GatherCRef.τ).loc Cert.GatherCRef.main_arg0))

def preserves_GatherD_GatherDIdeal : Prop :=
  True

def algebraic_GatherDIdeal_GatherDRefIdeal [hGatherDIdeal : Cert.GatherDIdeal.Facts] [hGatherDRefIdeal : Cert.GatherDRefIdeal.Facts] : Prop :=
  ∀ (m : (ℓ : Loc Cert.GatherDIdeal.nD Cert.GatherDIdeal.τ Cert.GatherDIdeal.sig) → Buf (Elt Ideal) ℓ) (g : Dev Cert.GatherDIdeal.nD → PrngReg)
    (m' : (ℓ : Loc Cert.GatherDRefIdeal.nD Cert.GatherDRefIdeal.τ Cert.GatherDRefIdeal.sig) → Buf (Elt Ideal) ℓ) (g' : Dev Cert.GatherDRefIdeal.nD → PrngReg), Pre_GatherDIdeal m →
    (∀ c : Dev Cert.GatherDIdeal.nD,
      m ((c.tc : Thread Cert.GatherDIdeal.nD Cert.GatherDIdeal.τ).loc Cert.GatherDIdeal.main_arg0) = Layout.block ⟨3, ![2, 1024, 384]⟩ ⟨3, ![2, 1024, 3072]⟩ 2 8 c (m' (((0 : Dev Cert.GatherDRefIdeal.nD).tc : Thread Cert.GatherDRefIdeal.nD Cert.GatherDRefIdeal.τ).loc Cert.GatherDRefIdeal.main_arg0))
      ∧ m ((c.tc : Thread Cert.GatherDIdeal.nD Cert.GatherDIdeal.τ).loc Cert.GatherDIdeal.main_arg1) = Layout.block ⟨3, ![2, 128, 1024]⟩ ⟨3, ![2, 1024, 1024]⟩ 1 8 c (m' (((0 : Dev Cert.GatherDRefIdeal.nD).tc : Thread Cert.GatherDRefIdeal.nD Cert.GatherDRefIdeal.τ).loc Cert.GatherDRefIdeal.main_arg1))) →
    ∃ (v0 : Buf (Elt Ideal) (((0 : Dev Cert.GatherDRefIdeal.nD).tc : Thread Cert.GatherDRefIdeal.nD Cert.GatherDRefIdeal.τ).loc Cert.GatherDRefIdeal.main_v2)) (v1 : Buf (Elt Ideal) (((0 : Dev Cert.GatherDRefIdeal.nD).tc : Thread Cert.GatherDRefIdeal.nD Cert.GatherDRefIdeal.τ).loc Cert.GatherDRefIdeal.main_v6)),
      θ_run (Cert.GatherDIdeal.defs (F := Ideal)) (Cert.GatherDIdeal.threads (F := Ideal)) ⟨m, fun _ => 0, g⟩ (fun r => ∀ c : Dev Cert.GatherDIdeal.nD,
          r.2.mem ((c.tc : Thread Cert.GatherDIdeal.nD Cert.GatherDIdeal.τ).loc Cert.GatherDIdeal.main_v7_0) = v0
          ∧ r.2.mem ((c.tc : Thread Cert.GatherDIdeal.nD Cert.GatherDIdeal.τ).loc Cert.GatherDIdeal.main_v7_1) = v1
          ∧ r.2.mem ((c.tc : Thread Cert.GatherDIdeal.nD Cert.GatherDIdeal.τ).loc Cert.GatherDIdeal.main_arg0) = m ((c.tc : Thread Cert.GatherDIdeal.nD Cert.GatherDIdeal.τ).loc Cert.GatherDIdeal.main_arg0)
          ∧ r.2.mem ((c.tc : Thread Cert.GatherDIdeal.nD Cert.GatherDIdeal.τ).loc Cert.GatherDIdeal.main_arg1) = m ((c.tc : Thread Cert.GatherDIdeal.nD Cert.GatherDIdeal.τ).loc Cert.GatherDIdeal.main_arg1))
      ∧ θ_run (Cert.GatherDRefIdeal.defs (F := Ideal)) (onTc (τ := Cert.GatherDRefIdeal.τ) (Cert.GatherDRefIdeal.main (F := Ideal))) ⟨m', fun _ => 0, g'⟩ (fun r =>
          r.2.mem (((0 : Dev Cert.GatherDRefIdeal.nD).tc : Thread Cert.GatherDRefIdeal.nD Cert.GatherDRefIdeal.τ).loc Cert.GatherDRefIdeal.main_v2) = v0
          ∧ r.2.mem (((0 : Dev Cert.GatherDRefIdeal.nD).tc : Thread Cert.GatherDRefIdeal.nD Cert.GatherDRefIdeal.τ).loc Cert.GatherDRefIdeal.main_v6) = v1
          ∧ r.2.mem (((0 : Dev Cert.GatherDRefIdeal.nD).tc : Thread Cert.GatherDRefIdeal.nD Cert.GatherDRefIdeal.τ).loc Cert.GatherDRefIdeal.main_arg0) = m' (((0 : Dev Cert.GatherDRefIdeal.nD).tc : Thread Cert.GatherDRefIdeal.nD Cert.GatherDRefIdeal.τ).loc Cert.GatherDRefIdeal.main_arg0)
          ∧ r.2.mem (((0 : Dev Cert.GatherDRefIdeal.nD).tc : Thread Cert.GatherDRefIdeal.nD Cert.GatherDRefIdeal.τ).loc Cert.GatherDRefIdeal.main_arg1) = m' (((0 : Dev Cert.GatherDRefIdeal.nD).tc : Thread Cert.GatherDRefIdeal.nD Cert.GatherDRefIdeal.τ).loc Cert.GatherDRefIdeal.main_arg1))

def bitexact_GatherD_GatherDRef [hGatherD : Cert.GatherD.Facts] [hGatherDRef : Cert.GatherDRef.Facts] : Prop :=
  ∀ (m : (ℓ : Loc Cert.GatherD.nD Cert.GatherD.τ Cert.GatherD.sig) → Buf (Elt Bits) ℓ) (g : Dev Cert.GatherD.nD → PrngReg)
    (m' : (ℓ : Loc Cert.GatherDRef.nD Cert.GatherDRef.τ Cert.GatherDRef.sig) → Buf (Elt Bits) ℓ) (g' : Dev Cert.GatherDRef.nD → PrngReg), Pre_GatherD m →
    (∀ c : Dev Cert.GatherD.nD,
      m ((c.tc : Thread Cert.GatherD.nD Cert.GatherD.τ).loc Cert.GatherD.main_arg0) = Layout.block ⟨3, ![2, 1024, 384]⟩ ⟨3, ![2, 1024, 3072]⟩ 2 8 c (m' (((0 : Dev Cert.GatherDRef.nD).tc : Thread Cert.GatherDRef.nD Cert.GatherDRef.τ).loc Cert.GatherDRef.main_arg0))
      ∧ m ((c.tc : Thread Cert.GatherD.nD Cert.GatherD.τ).loc Cert.GatherD.main_arg1) = Layout.block ⟨3, ![2, 128, 1024]⟩ ⟨3, ![2, 1024, 1024]⟩ 1 8 c (m' (((0 : Dev Cert.GatherDRef.nD).tc : Thread Cert.GatherDRef.nD Cert.GatherDRef.τ).loc Cert.GatherDRef.main_arg1))) →
    ∃ (v0 : Buf (Elt Bits) (((0 : Dev Cert.GatherDRef.nD).tc : Thread Cert.GatherDRef.nD Cert.GatherDRef.τ).loc Cert.GatherDRef.main_v2)) (v1 : Buf (Elt Bits) (((0 : Dev Cert.GatherDRef.nD).tc : Thread Cert.GatherDRef.nD Cert.GatherDRef.τ).loc Cert.GatherDRef.main_v6)),
      θ_run (Cert.GatherD.defs (F := Bits)) (Cert.GatherD.threads (F := Bits)) ⟨m, fun _ => 0, g⟩ (fun r => ∀ c : Dev Cert.GatherD.nD,
          r.2.mem ((c.tc : Thread Cert.GatherD.nD Cert.GatherD.τ).loc Cert.GatherD.main_v7_0) = v0
          ∧ r.2.mem ((c.tc : Thread Cert.GatherD.nD Cert.GatherD.τ).loc Cert.GatherD.main_v7_1) = v1
          ∧ r.2.mem ((c.tc : Thread Cert.GatherD.nD Cert.GatherD.τ).loc Cert.GatherD.main_arg0) = m ((c.tc : Thread Cert.GatherD.nD Cert.GatherD.τ).loc Cert.GatherD.main_arg0)
          ∧ r.2.mem ((c.tc : Thread Cert.GatherD.nD Cert.GatherD.τ).loc Cert.GatherD.main_arg1) = m ((c.tc : Thread Cert.GatherD.nD Cert.GatherD.τ).loc Cert.GatherD.main_arg1))
      ∧ θ_run (Cert.GatherDRef.defs (F := Bits)) (onTc (τ := Cert.GatherDRef.τ) (Cert.GatherDRef.main (F := Bits))) ⟨m', fun _ => 0, g'⟩ (fun r =>
          r.2.mem (((0 : Dev Cert.GatherDRef.nD).tc : Thread Cert.GatherDRef.nD Cert.GatherDRef.τ).loc Cert.GatherDRef.main_v2) = v0
          ∧ r.2.mem (((0 : Dev Cert.GatherDRef.nD).tc : Thread Cert.GatherDRef.nD Cert.GatherDRef.τ).loc Cert.GatherDRef.main_v6) = v1
          ∧ r.2.mem (((0 : Dev Cert.GatherDRef.nD).tc : Thread Cert.GatherDRef.nD Cert.GatherDRef.τ).loc Cert.GatherDRef.main_arg0) = m' (((0 : Dev Cert.GatherDRef.nD).tc : Thread Cert.GatherDRef.nD Cert.GatherDRef.τ).loc Cert.GatherDRef.main_arg0)
          ∧ r.2.mem (((0 : Dev Cert.GatherDRef.nD).tc : Thread Cert.GatherDRef.nD Cert.GatherDRef.τ).loc Cert.GatherDRef.main_arg1) = m' (((0 : Dev Cert.GatherDRef.nD).tc : Thread Cert.GatherDRef.nD Cert.GatherDRef.τ).loc Cert.GatherDRef.main_arg1))

def preserves_GatherA_GatherAIdeal : Prop :=
  True

def algebraic_GatherAIdeal_GatherARefIdeal [hGatherAIdeal : Cert.GatherAIdeal.Facts] [hGatherARefIdeal : Cert.GatherARefIdeal.Facts] : Prop :=
  ∀ (m : (ℓ : Loc Cert.GatherAIdeal.nD Cert.GatherAIdeal.τ Cert.GatherAIdeal.sig) → Buf (Elt Ideal) ℓ) (g : Dev Cert.GatherAIdeal.nD → PrngReg)
    (m' : (ℓ : Loc Cert.GatherARefIdeal.nD Cert.GatherARefIdeal.τ Cert.GatherARefIdeal.sig) → Buf (Elt Ideal) ℓ) (g' : Dev Cert.GatherARefIdeal.nD → PrngReg), Pre_GatherAIdeal m →
    (∀ c : Dev Cert.GatherAIdeal.nD,
      m ((c.tc : Thread Cert.GatherAIdeal.nD Cert.GatherAIdeal.τ).loc Cert.GatherAIdeal.main_arg0) = Layout.block ⟨3, ![2, 3, 704]⟩ ⟨3, ![2, 3, 5632]⟩ 2 8 c (m' (((0 : Dev Cert.GatherARefIdeal.nD).tc : Thread Cert.GatherARefIdeal.nD Cert.GatherARefIdeal.τ).loc Cert.GatherARefIdeal.main_arg0))
      ∧ m ((c.tc : Thread Cert.GatherAIdeal.nD Cert.GatherAIdeal.τ).loc Cert.GatherAIdeal.main_arg1) = Layout.block ⟨3, ![2, 3, 64]⟩ ⟨3, ![2, 3, 512]⟩ 2 8 c (m' (((0 : Dev Cert.GatherARefIdeal.nD).tc : Thread Cert.GatherARefIdeal.nD Cert.GatherARefIdeal.τ).loc Cert.GatherARefIdeal.main_arg1))
      ∧ m ((c.tc : Thread Cert.GatherAIdeal.nD Cert.GatherAIdeal.τ).loc Cert.GatherAIdeal.main_arg2) = Layout.block ⟨3, ![2, 1024, 384]⟩ ⟨3, ![2, 1024, 3072]⟩ 2 8 c (m' (((0 : Dev Cert.GatherARefIdeal.nD).tc : Thread Cert.GatherARefIdeal.nD Cert.GatherARefIdeal.τ).loc Cert.GatherARefIdeal.main_arg2))) →
    ∃ (v0 : Buf (Elt Ideal) (((0 : Dev Cert.GatherARefIdeal.nD).tc : Thread Cert.GatherARefIdeal.nD Cert.GatherARefIdeal.τ).loc Cert.GatherARefIdeal.main_v4)) (v1 : Buf (Elt Ideal) (((0 : Dev Cert.GatherARefIdeal.nD).tc : Thread Cert.GatherARefIdeal.nD Cert.GatherARefIdeal.τ).loc Cert.GatherARefIdeal.main_v7)),
      θ_run (Cert.GatherAIdeal.defs (F := Ideal)) (Cert.GatherAIdeal.threads (F := Ideal)) ⟨m, fun _ => 0, g⟩ (fun r => ∀ c : Dev Cert.GatherAIdeal.nD,
          r.2.mem ((c.tc : Thread Cert.GatherAIdeal.nD Cert.GatherAIdeal.τ).loc Cert.GatherAIdeal.main_v5_0) = v0
          ∧ r.2.mem ((c.tc : Thread Cert.GatherAIdeal.nD Cert.GatherAIdeal.τ).loc Cert.GatherAIdeal.main_v5_1) = v1
          ∧ r.2.mem ((c.tc : Thread Cert.GatherAIdeal.nD Cert.GatherAIdeal.τ).loc Cert.GatherAIdeal.main_arg0) = m ((c.tc : Thread Cert.GatherAIdeal.nD Cert.GatherAIdeal.τ).loc Cert.GatherAIdeal.main_arg0)
          ∧ r.2.mem ((c.tc : Thread Cert.GatherAIdeal.nD Cert.GatherAIdeal.τ).loc Cert.GatherAIdeal.main_arg1) = m ((c.tc : Thread Cert.GatherAIdeal.nD Cert.GatherAIdeal.τ).loc Cert.GatherAIdeal.main_arg1)
          ∧ r.2.mem ((c.tc : Thread Cert.GatherAIdeal.nD Cert.GatherAIdeal.τ).loc Cert.GatherAIdeal.main_arg2) = m ((c.tc : Thread Cert.GatherAIdeal.nD Cert.GatherAIdeal.τ).loc Cert.GatherAIdeal.main_arg2))
      ∧ θ_run (Cert.GatherARefIdeal.defs (F := Ideal)) (onTc (τ := Cert.GatherARefIdeal.τ) (Cert.GatherARefIdeal.main (F := Ideal))) ⟨m', fun _ => 0, g'⟩ (fun r =>
          r.2.mem (((0 : Dev Cert.GatherARefIdeal.nD).tc : Thread Cert.GatherARefIdeal.nD Cert.GatherARefIdeal.τ).loc Cert.GatherARefIdeal.main_v4) = v0
          ∧ r.2.mem (((0 : Dev Cert.GatherARefIdeal.nD).tc : Thread Cert.GatherARefIdeal.nD Cert.GatherARefIdeal.τ).loc Cert.GatherARefIdeal.main_v7) = v1
          ∧ r.2.mem (((0 : Dev Cert.GatherARefIdeal.nD).tc : Thread Cert.GatherARefIdeal.nD Cert.GatherARefIdeal.τ).loc Cert.GatherARefIdeal.main_arg0) = m' (((0 : Dev Cert.GatherARefIdeal.nD).tc : Thread Cert.GatherARefIdeal.nD Cert.GatherARefIdeal.τ).loc Cert.GatherARefIdeal.main_arg0)
          ∧ r.2.mem (((0 : Dev Cert.GatherARefIdeal.nD).tc : Thread Cert.GatherARefIdeal.nD Cert.GatherARefIdeal.τ).loc Cert.GatherARefIdeal.main_arg1) = m' (((0 : Dev Cert.GatherARefIdeal.nD).tc : Thread Cert.GatherARefIdeal.nD Cert.GatherARefIdeal.τ).loc Cert.GatherARefIdeal.main_arg1)
          ∧ r.2.mem (((0 : Dev Cert.GatherARefIdeal.nD).tc : Thread Cert.GatherARefIdeal.nD Cert.GatherARefIdeal.τ).loc Cert.GatherARefIdeal.main_arg2) = m' (((0 : Dev Cert.GatherARefIdeal.nD).tc : Thread Cert.GatherARefIdeal.nD Cert.GatherARefIdeal.τ).loc Cert.GatherARefIdeal.main_arg2))

def bitexact_GatherA_GatherARef [hGatherA : Cert.GatherA.Facts] [hGatherARef : Cert.GatherARef.Facts] : Prop :=
  ∀ (m : (ℓ : Loc Cert.GatherA.nD Cert.GatherA.τ Cert.GatherA.sig) → Buf (Elt Bits) ℓ) (g : Dev Cert.GatherA.nD → PrngReg)
    (m' : (ℓ : Loc Cert.GatherARef.nD Cert.GatherARef.τ Cert.GatherARef.sig) → Buf (Elt Bits) ℓ) (g' : Dev Cert.GatherARef.nD → PrngReg), Pre_GatherA m →
    (∀ c : Dev Cert.GatherA.nD,
      m ((c.tc : Thread Cert.GatherA.nD Cert.GatherA.τ).loc Cert.GatherA.main_arg0) = Layout.block ⟨3, ![2, 3, 704]⟩ ⟨3, ![2, 3, 5632]⟩ 2 8 c (m' (((0 : Dev Cert.GatherARef.nD).tc : Thread Cert.GatherARef.nD Cert.GatherARef.τ).loc Cert.GatherARef.main_arg0))
      ∧ m ((c.tc : Thread Cert.GatherA.nD Cert.GatherA.τ).loc Cert.GatherA.main_arg1) = Layout.block ⟨3, ![2, 3, 64]⟩ ⟨3, ![2, 3, 512]⟩ 2 8 c (m' (((0 : Dev Cert.GatherARef.nD).tc : Thread Cert.GatherARef.nD Cert.GatherARef.τ).loc Cert.GatherARef.main_arg1))
      ∧ m ((c.tc : Thread Cert.GatherA.nD Cert.GatherA.τ).loc Cert.GatherA.main_arg2) = Layout.block ⟨3, ![2, 1024, 384]⟩ ⟨3, ![2, 1024, 3072]⟩ 2 8 c (m' (((0 : Dev Cert.GatherARef.nD).tc : Thread Cert.GatherARef.nD Cert.GatherARef.τ).loc Cert.GatherARef.main_arg2))) →
    ∃ (v0 : Buf (Elt Bits) (((0 : Dev Cert.GatherARef.nD).tc : Thread Cert.GatherARef.nD Cert.GatherARef.τ).loc Cert.GatherARef.main_v4)) (v1 : Buf (Elt Bits) (((0 : Dev Cert.GatherARef.nD).tc : Thread Cert.GatherARef.nD Cert.GatherARef.τ).loc Cert.GatherARef.main_v7)),
      θ_run (Cert.GatherA.defs (F := Bits)) (Cert.GatherA.threads (F := Bits)) ⟨m, fun _ => 0, g⟩ (fun r => ∀ c : Dev Cert.GatherA.nD,
          r.2.mem ((c.tc : Thread Cert.GatherA.nD Cert.GatherA.τ).loc Cert.GatherA.main_v5_0) = v0
          ∧ r.2.mem ((c.tc : Thread Cert.GatherA.nD Cert.GatherA.τ).loc Cert.GatherA.main_v5_1) = v1
          ∧ r.2.mem ((c.tc : Thread Cert.GatherA.nD Cert.GatherA.τ).loc Cert.GatherA.main_arg0) = m ((c.tc : Thread Cert.GatherA.nD Cert.GatherA.τ).loc Cert.GatherA.main_arg0)
          ∧ r.2.mem ((c.tc : Thread Cert.GatherA.nD Cert.GatherA.τ).loc Cert.GatherA.main_arg1) = m ((c.tc : Thread Cert.GatherA.nD Cert.GatherA.τ).loc Cert.GatherA.main_arg1)
          ∧ r.2.mem ((c.tc : Thread Cert.GatherA.nD Cert.GatherA.τ).loc Cert.GatherA.main_arg2) = m ((c.tc : Thread Cert.GatherA.nD Cert.GatherA.τ).loc Cert.GatherA.main_arg2))
      ∧ θ_run (Cert.GatherARef.defs (F := Bits)) (onTc (τ := Cert.GatherARef.τ) (Cert.GatherARef.main (F := Bits))) ⟨m', fun _ => 0, g'⟩ (fun r =>
          r.2.mem (((0 : Dev Cert.GatherARef.nD).tc : Thread Cert.GatherARef.nD Cert.GatherARef.τ).loc Cert.GatherARef.main_v4) = v0
          ∧ r.2.mem (((0 : Dev Cert.GatherARef.nD).tc : Thread Cert.GatherARef.nD Cert.GatherARef.τ).loc Cert.GatherARef.main_v7) = v1
          ∧ r.2.mem (((0 : Dev Cert.GatherARef.nD).tc : Thread Cert.GatherARef.nD Cert.GatherARef.τ).loc Cert.GatherARef.main_arg0) = m' (((0 : Dev Cert.GatherARef.nD).tc : Thread Cert.GatherARef.nD Cert.GatherARef.τ).loc Cert.GatherARef.main_arg0)
          ∧ r.2.mem (((0 : Dev Cert.GatherARef.nD).tc : Thread Cert.GatherARef.nD Cert.GatherARef.τ).loc Cert.GatherARef.main_arg1) = m' (((0 : Dev Cert.GatherARef.nD).tc : Thread Cert.GatherARef.nD Cert.GatherARef.τ).loc Cert.GatherARef.main_arg1)
          ∧ r.2.mem (((0 : Dev Cert.GatherARef.nD).tc : Thread Cert.GatherARef.nD Cert.GatherARef.τ).loc Cert.GatherARef.main_arg2) = m' (((0 : Dev Cert.GatherARef.nD).tc : Thread Cert.GatherARef.nD Cert.GatherARef.τ).loc Cert.GatherARef.main_arg2))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v6) = v0 c
          ∧ r.2.mem ((c.tc : Thread Cert.AdamInRefIdeal.nD Cert.AdamInRefIdeal.τ).loc Cert.AdamInRefIdeal.main_v30) = v1 c
          ∧ r.2.mem ((c.tc : Thread Cert.AdamInRefIdeal.nD Cert.AdamInRefIdeal.τ).loc Cert.AdamInRefIdeal.main_v11) = v2 c
          ∧ r.2.mem ((c.tc : Thread Cert.AdamInRefIdeal.nD Cert.AdamInRefIdeal.τ).loc Cert.AdamInRefIdeal.main_v17) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v6) = v0 c
          ∧ r.2.mem ((c.tc : Thread Cert.AdamOutRefIdeal.nD Cert.AdamOutRefIdeal.τ).loc Cert.AdamOutRefIdeal.main_v30) = v1 c
          ∧ r.2.mem ((c.tc : Thread Cert.AdamOutRefIdeal.nD Cert.AdamOutRefIdeal.τ).loc Cert.AdamOutRefIdeal.main_v11) = v2 c
          ∧ r.2.mem ((c.tc : Thread Cert.AdamOutRefIdeal.nD Cert.AdamOutRefIdeal.τ).loc Cert.AdamOutRefIdeal.main_v17) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v6) = v0 c
          ∧ r.2.mem ((c.tc : Thread Cert.AdamUpRefIdeal.nD Cert.AdamUpRefIdeal.τ).loc Cert.AdamUpRefIdeal.main_v30) = v1 c
          ∧ r.2.mem ((c.tc : Thread Cert.AdamUpRefIdeal.nD Cert.AdamUpRefIdeal.τ).loc Cert.AdamUpRefIdeal.main_v11) = v2 c
          ∧ r.2.mem ((c.tc : Thread Cert.AdamUpRefIdeal.nD Cert.AdamUpRefIdeal.τ).loc Cert.AdamUpRefIdeal.main_v17) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v6) = v0 c
          ∧ r.2.mem ((c.tc : Thread Cert.AdamDownRefIdeal.nD Cert.AdamDownRefIdeal.τ).loc Cert.AdamDownRefIdeal.main_v30) = v1 c
          ∧ r.2.mem ((c.tc : Thread Cert.AdamDownRefIdeal.nD Cert.AdamDownRefIdeal.τ).loc Cert.AdamDownRefIdeal.main_v11) = v2 c
          ∧ r.2.mem ((c.tc : Thread Cert.AdamDownRefIdeal.nD Cert.AdamDownRefIdeal.τ).loc Cert.AdamDownRefIdeal.main_v17) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)
      ∧ m' ((c.tc : Thread Cert.AdamConvRefIdeal.nD Cert.AdamConvRefIdeal.τ).loc Cert.AdamConvRefIdeal.main_arg4) = m ((c.tc : Thread Cert.AdamConvIdeal.nD Cert.AdamConvIdeal.τ).loc Cert.AdamConvIdeal.main_arg4)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
          ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v4) = v0 c
          ∧ r.2.mem ((c.tc : Thread Cert.AdamConvRefIdeal.nD Cert.AdamConvRefIdeal.τ).loc Cert.AdamConvRefIdeal.main_v28) = v1 c
          ∧ r.2.mem ((c.tc : Thread Cert.AdamConvRefIdeal.nD Cert.AdamConvRefIdeal.τ).loc Cert.AdamConvRefIdeal.main_v9) = v2 c
          ∧ r.2.mem ((c.tc : Thread Cert.AdamConvRefIdeal.nD Cert.AdamConvRefIdeal.τ).loc Cert.AdamConvRefIdeal.main_v15) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3)
          ∧ r.2.mem ((c.tc : Thread Cert.AdamConvRefIdeal.nD Cert.AdamConvRefIdeal.τ).loc Cert.AdamConvRefIdeal.main_arg4) = m' ((c.tc : Thread Cert.AdamConvRefIdeal.nD Cert.AdamConvRefIdeal.τ).loc Cert.AdamConvRefIdeal.main_arg4))

def preserves_AdamGains_AdamGainsIdeal : Prop :=
  True

def algebraic_AdamGainsIdeal_AdamGainsRefIdeal [hAdamGainsIdeal : Cert.AdamGainsIdeal.Facts] [hAdamGainsRefIdeal : Cert.AdamGainsRefIdeal.Facts] : Prop :=
  ∀ (m : (ℓ : Loc Cert.AdamGainsIdeal.nD Cert.AdamGainsIdeal.τ Cert.AdamGainsIdeal.sig) → Buf (Elt Ideal) ℓ) (g : Dev Cert.AdamGainsIdeal.nD → PrngReg)
    (m' : (ℓ : Loc Cert.AdamGainsRefIdeal.nD Cert.AdamGainsRefIdeal.τ Cert.AdamGainsRefIdeal.sig) → Buf (Elt Ideal) ℓ) (g' : Dev Cert.AdamGainsRefIdeal.nD → PrngReg), Pre_AdamGainsIdeal m →
    (∀ c : Dev Cert.AdamGainsIdeal.nD,
      m' ((c.tc : Thread Cert.AdamGainsRefIdeal.nD Cert.AdamGainsRefIdeal.τ).loc Cert.AdamGainsRefIdeal.main_arg0) = m ((c.tc : Thread Cert.AdamGainsIdeal.nD Cert.AdamGainsIdeal.τ).loc Cert.AdamGainsIdeal.main_arg0)
      ∧ m' ((c.tc : Thread Cert.AdamGainsRefIdeal.nD Cert.AdamGainsRefIdeal.τ).loc Cert.AdamGainsRefIdeal.main_arg1) = m ((c.tc : Thread Cert.AdamGainsIdeal.nD Cert.AdamGainsIdeal.τ).loc Cert.AdamGainsIdeal.main_arg1)
      ∧ m' ((c.tc : Thread Cert.AdamGainsRefIdeal.nD Cert.AdamGainsRefIdeal.τ).loc Cert.AdamGainsRefIdeal.main_arg2) = m ((c.tc : Thread Cert.AdamGainsIdeal.nD Cert.AdamGainsIdeal.τ).loc Cert.AdamGainsIdeal.main_arg2)
      ∧ m' ((c.tc : Thread Cert.AdamGainsRefIdeal.nD Cert.AdamGainsRefIdeal.τ).loc Cert.AdamGainsRefIdeal.main_arg3) = m ((c.tc : Thread Cert.AdamGainsIdeal.nD Cert.AdamGainsIdeal.τ).loc Cert.AdamGainsIdeal.main_arg3)) →
    ∃ (v0 : (c : Dev Cert.AdamGainsIdeal.nD) → Buf (Elt Ideal) ((c.tc : Thread Cert.AdamGainsIdeal.nD Cert.AdamGainsIdeal.τ).loc Cert.AdamGainsIdeal.main_v0_0)) (v1 : (c : Dev Cert.AdamGainsIdeal.nD) → Buf (Elt Ideal) ((c.tc : Thread Cert.AdamGainsIdeal.nD Cert.AdamGainsIdeal.τ).loc Cert.AdamGainsIdeal.main_v0_1)) (v2 : (c : Dev Cert.AdamGainsIdeal.nD) → Buf (Elt Ideal) ((c.tc : Thread Cert.AdamGainsIdeal.nD Cert.AdamGainsIdeal.τ).loc Cert.AdamGainsIdeal.main_v0_2)) (v3 : (c : Dev Cert.AdamGainsIdeal.nD) → Buf (Elt Ideal) ((c.tc : Thread Cert.AdamGainsIdeal.nD Cert.AdamGainsIdeal.τ).loc Cert.AdamGainsIdeal.main_v0_3)),
      θ_run (Cert.AdamGainsIdeal.defs (F := Ideal)) (onTc (τ := Cert.AdamGainsIdeal.τ) (Cert.AdamGainsIdeal.main (F := Ideal))) ⟨m, fun _ => 0, g⟩ (fun r => ∀ c : Dev Cert.AdamGainsIdeal.nD,
          r.2.mem ((c.tc : Thread Cert.AdamGainsIdeal.nD Cert.AdamGainsIdeal.τ).loc Cert.AdamGainsIdeal.main_v0_0) = v0 c
          ∧ r.2.mem ((c.tc : Thread Cert.AdamGainsIdeal.nD Cert.AdamGainsIdeal.τ).loc Cert.AdamGainsIdeal.main_v0_1) = v1 c
          ∧ r.2.mem ((c.tc : Thread Cert.AdamGainsIdeal.nD Cert.AdamGainsIdeal.τ).loc Cert.AdamGainsIdeal.main_v0_2) = v2 c
          ∧ r.2.mem ((c.tc : Thread Cert.AdamGainsIdeal.nD Cert.AdamGainsIdeal.τ).loc Cert.AdamGainsIdeal.main_v0_3) = v3 c
          ∧ r.2.mem ((c.tc : Thread Cert.AdamGainsIdeal.nD Cert.AdamGainsIdeal.τ).loc Cert.AdamGainsIdeal.main_arg0) = m ((c.tc : Thread Cert.AdamGainsIdeal.nD Cert.AdamGainsIdeal.τ).loc Cert.AdamGainsIdeal.main_arg0)
          ∧ r.2.mem ((c.tc : Thread Cert.AdamGainsIdeal.nD Cert.AdamGainsIdeal.τ).loc Cert.AdamGainsIdeal.main_arg1) = m ((c.tc : Thread Cert.AdamGainsIdeal.nD Cert.AdamGainsIdeal.τ).loc Cert.AdamGainsIdeal.main_arg1)
          ∧ r.2.mem ((c.tc : Thread Cert.AdamGainsIdeal.nD Cert.AdamGainsIdeal.τ).loc Cert.AdamGainsIdeal.main_arg2) = m ((c.tc : Thread Cert.AdamGainsIdeal.nD Cert.AdamGainsIdeal.τ).loc Cert.AdamGainsIdeal.main_arg2)
          ∧ r.2.mem ((c.tc : Thread Cert.AdamGainsIdeal.nD Cert.AdamGainsIdeal.τ).loc Cert.AdamGainsIdeal.main_arg3) = m ((c.tc : Thread Cert.AdamGainsIdeal.nD Cert.AdamGainsIdeal.τ).loc Cert.AdamGainsIdeal.main_arg3))
      ∧ θ_run (Cert.AdamGainsRefIdeal.defs (F := Ideal)) (onTc (τ := Cert.AdamGainsRefIdeal.τ) (Cert.AdamGainsRefIdeal.main (F := Ideal))) ⟨m', fun _ => 0, g'⟩ (fun r => ∀ c : Dev Cert.AdamGainsRefIdeal.nD,
          r.2.mem ((c.tc : Thread Cert.AdamGainsRefIdeal.nD Cert.AdamGainsRefIdeal.τ).loc Cert.AdamGainsRefIdeal.main_v1) = v0 c
          ∧ r.2.mem ((c.tc : Thread Cert.AdamGainsRefIdeal.nD Cert.AdamGainsRefIdeal.τ).loc Cert.AdamGainsRefIdeal.main_v25) = v1 c
          ∧ r.2.mem ((c.tc : Thread Cert.AdamGainsRefIdeal.nD Cert.AdamGainsRefIdeal.τ).loc Cert.AdamGainsRefIdeal.main_v6) = v2 c
          ∧ r.2.mem ((c.tc : Thread Cert.AdamGainsRefIdeal.nD Cert.AdamGainsRefIdeal.τ).loc Cert.AdamGainsRefIdeal.main_v12) = v3 c
          ∧ r.2.mem ((c.tc : Thread Cert.AdamGainsRefIdeal.nD Cert.AdamGainsRefIdeal.τ).loc Cert.AdamGainsRefIdeal.main_arg0) = m' ((c.tc : Thread Cert.AdamGainsRefIdeal.nD Cert.AdamGainsRefIdeal.τ).loc Cert.AdamGainsRefIdeal.main_arg0)
          ∧ r.2.mem ((c.tc : Thread Cert.AdamGainsRefIdeal.nD Cert.AdamGainsRefIdeal.τ).loc Cert.AdamGainsRefIdeal.main_arg1) = m' ((c.tc : Thread Cert.AdamGainsRefIdeal.nD Cert.AdamGainsRefIdeal.τ).loc Cert.AdamGainsRefIdeal.main_arg1)
          ∧ r.2.mem ((c.tc : Thread Cert.AdamGainsRefIdeal.nD Cert.AdamGainsRefIdeal.τ).loc Cert.AdamGainsRefIdeal.main_arg2) = m' ((c.tc : Thread Cert.AdamGainsRefIdeal.nD Cert.AdamGainsRefIdeal.τ).loc Cert.AdamGainsRefIdeal.main_arg2)
          ∧ r.2.mem ((c.tc : Thread Cert.AdamGainsRefIdeal.nD Cert.AdamGainsRefIdeal.τ).loc Cert.AdamGainsRefIdeal.main_arg3) = m' ((c.tc : Thread Cert.AdamGainsRefIdeal.nD Cert.AdamGainsRefIdeal.τ).loc Cert.AdamGainsRefIdeal.main_arg3))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)
      ∧ m' ((c.tc : Thread Cert.GradXRefIdeal.nD Cert.GradXRefIdeal.τ).loc Cert.GradXRefIdeal.main_arg3) = m ((c.tc : Thread Cert.GradXIdeal.nD Cert.GradXIdeal.τ).loc Cert.GradXIdeal.main_arg3)
      ∧ m' ((c.tc : Thread Cert.GradXRefIdeal.nD Cert.GradXRefIdeal.τ).loc Cert.GradXRefIdeal.main_arg4) = m ((c.tc : Thread Cert.GradXIdeal.nD Cert.GradXIdeal.τ).loc Cert.GradXIdeal.main_arg4)) →
    ∃ (v0 : (c : Dev Cert.GradXIdeal.nD) → Buf (Elt Ideal) ((c.tc : Thread Cert.GradXIdeal.nD Cert.GradXIdeal.τ).loc Cert.GradXIdeal.main_v0_0)) (v1 : (c : Dev Cert.GradXIdeal.nD) → Buf (Elt Ideal) ((c.tc : Thread Cert.GradXIdeal.nD Cert.GradXIdeal.τ).loc Cert.GradXIdeal.main_v0_1)) (v2 : (c : Dev Cert.GradXIdeal.nD) → Buf (Elt Ideal) ((c.tc : Thread Cert.GradXIdeal.nD Cert.GradXIdeal.τ).loc Cert.GradXIdeal.main_v0_2)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0_0) = v0 c
          ∧ r.2.mem ((c.tc : Thread Cert.GradXIdeal.nD Cert.GradXIdeal.τ).loc Cert.GradXIdeal.main_v0_1) = v1 c
          ∧ r.2.mem ((c.tc : Thread Cert.GradXIdeal.nD Cert.GradXIdeal.τ).loc Cert.GradXIdeal.main_v0_2) = v2 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
          ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v38) = v0 c
          ∧ r.2.mem ((c.tc : Thread Cert.GradXRefIdeal.nD Cert.GradXRefIdeal.τ).loc Cert.GradXRefIdeal.main_v39) = v1 c
          ∧ r.2.mem ((c.tc : Thread Cert.GradXRefIdeal.nD Cert.GradXRefIdeal.τ).loc Cert.GradXRefIdeal.main_v21) = v2 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2)
          ∧ r.2.mem ((c.tc : Thread Cert.GradXRefIdeal.nD Cert.GradXRefIdeal.τ).loc Cert.GradXRefIdeal.main_arg3) = m' ((c.tc : Thread Cert.GradXRefIdeal.nD Cert.GradXRefIdeal.τ).loc Cert.GradXRefIdeal.main_arg3)
          ∧ r.2.mem ((c.tc : Thread Cert.GradXRefIdeal.nD Cert.GradXRefIdeal.τ).loc Cert.GradXRefIdeal.main_arg4) = m' ((c.tc : Thread Cert.GradXRefIdeal.nD Cert.GradXRefIdeal.τ).loc Cert.GradXRefIdeal.main_arg4))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v49) = v0 c
          ∧ r.2.mem ((c.tc : Thread Cert.LossHeadRefIdeal.nD Cert.LossHeadRefIdeal.τ).loc Cert.LossHeadRefIdeal.main_v48) = v1 c
          ∧ r.2.mem ((c.tc : Thread Cert.LossHeadRefIdeal.nD Cert.LossHeadRefIdeal.τ).loc Cert.LossHeadRefIdeal.main_v50) = v2 c
          ∧ r.2.mem ((c.tc : Thread Cert.LossHeadRefIdeal.nD Cert.LossHeadRefIdeal.τ).loc Cert.LossHeadRefIdeal.main_v32) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v4) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v4) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_GradUp_GradUpIdeal : Prop :=
  True

def algebraic_GradUpIdeal_GradUpRefIdeal [hGradUpIdeal : Cert.GradUpIdeal.Facts] [hGradUpRefIdeal : Cert.GradUpRefIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m' ((c.tc : Thread Cert.GradUpRefIdeal.nD Cert.GradUpRefIdeal.τ).loc Cert.GradUpRefIdeal.main_arg0) = m ((c.tc : Thread Cert.GradUpIdeal.nD Cert.GradUpIdeal.τ).loc Cert.GradUpIdeal.main_arg0)
      ∧ m' ((c.tc : Thread Cert.GradUpRefIdeal.nD Cert.GradUpRefIdeal.τ).loc Cert.GradUpRefIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v0)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v0) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpRefIdeal.defs (F := Ideal)) (onTc (τ := Cert.GradUpRefIdeal.τ) (Cert.GradUpRefIdeal.main (F := Ideal))) ⟨m', fun _ => 0, g'⟩ (fun r => ∀ c : Dev Cert.GradUpRefIdeal.nD,
          r.2.mem ((c.tc : Thread Cert.GradUpRefIdeal.nD Cert.GradUpRefIdeal.τ).loc Cert.GradUpRefIdeal.main_v3) = v0 c
          ∧ r.2.mem ((c.tc : Thread Cert.GradUpRefIdeal.nD Cert.GradUpRefIdeal.τ).loc Cert.GradUpRefIdeal.main_arg0) = m' ((c.tc : Thread Cert.GradUpRefIdeal.nD Cert.GradUpRefIdeal.τ).loc Cert.GradUpRefIdeal.main_arg0)
          ∧ r.2.mem ((c.tc : Thread Cert.GradUpRefIdeal.nD Cert.GradUpRefIdeal.τ).loc Cert.GradUpRefIdeal.main_arg1) = m' ((c.tc : Thread Cert.GradUpRefIdeal.nD Cert.GradUpRefIdeal.τ).loc Cert.GradUpRefIdeal.main_arg1))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v3) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)) →
    ∃ (v0 : (c : Dev Cert.NormInIdeal.nD) → Buf (Elt Ideal) ((c.tc : Thread Cert.NormInIdeal.nD Cert.NormInIdeal.τ).loc Cert.NormInIdeal.main_v0)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0) = v0 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v12) = v0 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v0)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v2) = v0 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_v16) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v4) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_DCat_DCatIdeal : Prop :=
  True

def algebraic_DCatIdeal_DCatRefIdeal [hDCatIdeal : Cert.DCatIdeal.Facts] [hDCatRefIdeal : Cert.DCatRefIdeal.Facts] : Prop :=
  ∀ (m : (ℓ : Loc Cert.DCatIdeal.nD Cert.DCatIdeal.τ Cert.DCatIdeal.sig) → Buf (Elt Ideal) ℓ) (g : Dev Cert.DCatIdeal.nD → PrngReg)
    (m' : (ℓ : Loc Cert.DCatRefIdeal.nD Cert.DCatRefIdeal.τ Cert.DCatRefIdeal.sig) → Buf (Elt Ideal) ℓ) (g' : Dev Cert.DCatRefIdeal.nD → PrngReg), Pre_DCatIdeal m →
    (∀ c : Dev Cert.DCatIdeal.nD,
      m' ((c.tc : Thread Cert.DCatRefIdeal.nD Cert.DCatRefIdeal.τ).loc Cert.DCatRefIdeal.main_arg0) = m ((c.tc : Thread Cert.DCatIdeal.nD Cert.DCatIdeal.τ).loc Cert.DCatIdeal.main_arg0)
      ∧ m' ((c.tc : Thread Cert.DCatRefIdeal.nD Cert.DCatRefIdeal.τ).loc Cert.DCatRefIdeal.main_arg1) = m ((c.tc : Thread Cert.DCatIdeal.nD Cert.DCatIdeal.τ).loc Cert.DCatIdeal.main_arg1)) →
    ∃ (v0 : (c : Dev Cert.DCatIdeal.nD) → Buf (Elt Ideal) ((c.tc : Thread Cert.DCatIdeal.nD Cert.DCatIdeal.τ).loc Cert.DCatIdeal.main_v0)),
      θ_run (Cert.DCatIdeal.defs (F := Ideal)) (onTc (τ := Cert.DCatIdeal.τ) (Cert.DCatIdeal.main (F := Ideal))) ⟨m, fun _ => 0, g⟩ (fun r => ∀ c : Dev Cert.DCatIdeal.nD,
          r.2.mem ((c.tc : Thread Cert.DCatIdeal.nD Cert.DCatIdeal.τ).loc Cert.DCatIdeal.main_v0) = v0 c
          ∧ r.2.mem ((c.tc : Thread Cert.DCatIdeal.nD Cert.DCatIdeal.τ).loc Cert.DCatIdeal.main_arg0) = m ((c.tc : Thread Cert.DCatIdeal.nD Cert.DCatIdeal.τ).loc Cert.DCatIdeal.main_arg0)
          ∧ r.2.mem ((c.tc : Thread Cert.DCatIdeal.nD Cert.DCatIdeal.τ).loc Cert.DCatIdeal.main_arg1) = m ((c.tc : Thread Cert.DCatIdeal.nD Cert.DCatIdeal.τ).loc Cert.DCatIdeal.main_arg1))
      ∧ θ_run (Cert.DCatRefIdeal.defs (F := Ideal)) (onTc (τ := Cert.DCatRefIdeal.τ) (Cert.DCatRefIdeal.main (F := Ideal))) ⟨m', fun _ => 0, g'⟩ (fun r => ∀ c : Dev Cert.DCatRefIdeal.nD,
          r.2.mem ((c.tc : Thread Cert.DCatRefIdeal.nD Cert.DCatRefIdeal.τ).loc Cert.DCatRefIdeal.main_v4) = v0 c
          ∧ r.2.mem ((c.tc : Thread Cert.DCatRefIdeal.nD Cert.DCatRefIdeal.τ).loc Cert.DCatRefIdeal.main_arg0) = m' ((c.tc : Thread Cert.DCatRefIdeal.nD Cert.DCatRefIdeal.τ).loc Cert.DCatRefIdeal.main_arg0)
          ∧ r.2.mem ((c.tc : Thread Cert.DCatRefIdeal.nD Cert.DCatRefIdeal.τ).loc Cert.DCatRefIdeal.main_arg1) = m' ((c.tc : Thread Cert.DCatRefIdeal.nD Cert.DCatRefIdeal.τ).loc Cert.DCatRefIdeal.main_arg1))

def Claim : Prop :=
  ∃ (hKernel : Cert.Kernel.Facts) (hKernelIdeal : Cert.KernelIdeal.Facts) (hReferenceIdeal : Cert.ReferenceIdeal.Facts) (hReference : Cert.Reference.Facts) (hScatter0a : Cert.Scatter0a.Facts) (hScatter0aIdeal : Cert.Scatter0aIdeal.Facts) (hScatter0aRefIdeal : Cert.Scatter0aRefIdeal.Facts) (hScatter0aRef : Cert.Scatter0aRef.Facts) (hScatter0b : Cert.Scatter0b.Facts) (hScatter0bIdeal : Cert.Scatter0bIdeal.Facts) (hScatter0bRefIdeal : Cert.Scatter0bRefIdeal.Facts) (hScatter0bRef : Cert.Scatter0bRef.Facts) (hGatherE : Cert.GatherE.Facts) (hGatherEIdeal : Cert.GatherEIdeal.Facts) (hGatherERefIdeal : Cert.GatherERefIdeal.Facts) (hGatherERef : Cert.GatherERef.Facts) (hGatherB : Cert.GatherB.Facts) (hGatherBIdeal : Cert.GatherBIdeal.Facts) (hGatherBRefIdeal : Cert.GatherBRefIdeal.Facts) (hGatherBRef : Cert.GatherBRef.Facts) (hGatherC : Cert.GatherC.Facts) (hGatherCIdeal : Cert.GatherCIdeal.Facts) (hGatherCRefIdeal : Cert.GatherCRefIdeal.Facts) (hGatherCRef : Cert.GatherCRef.Facts) (hGatherD : Cert.GatherD.Facts) (hGatherDIdeal : Cert.GatherDIdeal.Facts) (hGatherDRefIdeal : Cert.GatherDRefIdeal.Facts) (hGatherDRef : Cert.GatherDRef.Facts) (hGatherA : Cert.GatherA.Facts) (hGatherAIdeal : Cert.GatherAIdeal.Facts) (hGatherARefIdeal : Cert.GatherARefIdeal.Facts) (hGatherARef : Cert.GatherARef.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamConv : Cert.AdamConv.Facts) (hAdamConvIdeal : Cert.AdamConvIdeal.Facts) (hAdamConvRefIdeal : Cert.AdamConvRefIdeal.Facts) (hAdamGains : Cert.AdamGains.Facts) (hAdamGainsIdeal : Cert.AdamGainsIdeal.Facts) (hAdamGainsRefIdeal : Cert.AdamGainsRefIdeal.Facts) (hGradX : Cert.GradX.Facts) (hGradXIdeal : Cert.GradXIdeal.Facts) (hGradXRefIdeal : Cert.GradXRefIdeal.Facts) (hLossHead : Cert.LossHead.Facts) (hLossHeadIdeal : Cert.LossHeadIdeal.Facts) (hLossHeadRefIdeal : Cert.LossHeadRefIdeal.Facts) (hGradIn : Cert.GradIn.Facts) (hGradInIdeal : Cert.GradInIdeal.Facts) (hGradInRefIdeal : Cert.GradInRefIdeal.Facts) (hGradOut : Cert.GradOut.Facts) (hGradOutIdeal : Cert.GradOutIdeal.Facts) (hGradOutRefIdeal : Cert.GradOutRefIdeal.Facts) (hGradUp : Cert.GradUp.Facts) (hGradUpIdeal : Cert.GradUpIdeal.Facts) (hGradUpRefIdeal : Cert.GradUpRefIdeal.Facts) (hGradDown : Cert.GradDown.Facts) (hGradDownIdeal : Cert.GradDownIdeal.Facts) (hGradDownRefIdeal : Cert.GradDownRefIdeal.Facts) (hNormIn : Cert.NormIn.Facts) (hNormInIdeal : Cert.NormInIdeal.Facts) (hNormInRefIdeal : Cert.NormInRefIdeal.Facts) (hProject : Cert.Project.Facts) (hProjectIdeal : Cert.ProjectIdeal.Facts) (hProjectRefIdeal : Cert.ProjectRefIdeal.Facts) (hMixOut : Cert.MixOut.Facts) (hMixOutIdeal : Cert.MixOutIdeal.Facts) (hMixOutRefIdeal : Cert.MixOutRefIdeal.Facts) (hFfnUp : Cert.FfnUp.Facts) (hFfnUpIdeal : Cert.FfnUpIdeal.Facts) (hFfnUpRefIdeal : Cert.FfnUpRefIdeal.Facts) (hDCat : Cert.DCat.Facts) (hDCatIdeal : Cert.DCatIdeal.Facts) (hDCatRefIdeal : Cert.DCatRefIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Scatter0a (hScatter0a := hScatter0a)
    ∧ quiescent_Scatter0aIdeal (hScatter0aIdeal := hScatter0aIdeal)
    ∧ quiescent_Scatter0aRefIdeal (hScatter0aRefIdeal := hScatter0aRefIdeal)
    ∧ quiescent_Scatter0aRef (hScatter0aRef := hScatter0aRef)
    ∧ quiescent_Scatter0b (hScatter0b := hScatter0b)
    ∧ quiescent_Scatter0bIdeal (hScatter0bIdeal := hScatter0bIdeal)
    ∧ quiescent_Scatter0bRefIdeal (hScatter0bRefIdeal := hScatter0bRefIdeal)
    ∧ quiescent_Scatter0bRef (hScatter0bRef := hScatter0bRef)
    ∧ quiescent_GatherE (hGatherE := hGatherE)
    ∧ quiescent_GatherEIdeal (hGatherEIdeal := hGatherEIdeal)
    ∧ quiescent_GatherERefIdeal (hGatherERefIdeal := hGatherERefIdeal)
    ∧ quiescent_GatherERef (hGatherERef := hGatherERef)
    ∧ quiescent_GatherB (hGatherB := hGatherB)
    ∧ quiescent_GatherBIdeal (hGatherBIdeal := hGatherBIdeal)
    ∧ quiescent_GatherBRefIdeal (hGatherBRefIdeal := hGatherBRefIdeal)
    ∧ quiescent_GatherBRef (hGatherBRef := hGatherBRef)
    ∧ quiescent_GatherC (hGatherC := hGatherC)
    ∧ quiescent_GatherCIdeal (hGatherCIdeal := hGatherCIdeal)
    ∧ quiescent_GatherCRefIdeal (hGatherCRefIdeal := hGatherCRefIdeal)
    ∧ quiescent_GatherCRef (hGatherCRef := hGatherCRef)
    ∧ quiescent_GatherD (hGatherD := hGatherD)
    ∧ quiescent_GatherDIdeal (hGatherDIdeal := hGatherDIdeal)
    ∧ quiescent_GatherDRefIdeal (hGatherDRefIdeal := hGatherDRefIdeal)
    ∧ quiescent_GatherDRef (hGatherDRef := hGatherDRef)
    ∧ quiescent_GatherA (hGatherA := hGatherA)
    ∧ quiescent_GatherAIdeal (hGatherAIdeal := hGatherAIdeal)
    ∧ quiescent_GatherARefIdeal (hGatherARefIdeal := hGatherARefIdeal)
    ∧ quiescent_GatherARef (hGatherARef := hGatherARef)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamGains (hAdamGains := hAdamGains)
    ∧ quiescent_AdamGainsIdeal (hAdamGainsIdeal := hAdamGainsIdeal)
    ∧ quiescent_AdamGainsRefIdeal (hAdamGainsRefIdeal := hAdamGainsRefIdeal)
    ∧ quiescent_GradX (hGradX := hGradX)
    ∧ quiescent_GradXIdeal (hGradXIdeal := hGradXIdeal)
    ∧ quiescent_GradXRefIdeal (hGradXRefIdeal := hGradXRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_GradUp (hGradUp := hGradUp)
    ∧ quiescent_GradUpIdeal (hGradUpIdeal := hGradUpIdeal)
    ∧ quiescent_GradUpRefIdeal (hGradUpRefIdeal := hGradUpRefIdeal)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_NormIn (hNormIn := hNormIn)
    ∧ quiescent_NormInIdeal (hNormInIdeal := hNormInIdeal)
    ∧ quiescent_NormInRefIdeal (hNormInRefIdeal := hNormInRefIdeal)
    ∧ quiescent_Project (hProject := hProject)
    ∧ quiescent_ProjectIdeal (hProjectIdeal := hProjectIdeal)
    ∧ quiescent_ProjectRefIdeal (hProjectRefIdeal := hProjectRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_DCat (hDCat := hDCat)
    ∧ quiescent_DCatIdeal (hDCatIdeal := hDCatIdeal)
    ∧ quiescent_DCatRefIdeal (hDCatRefIdeal := hDCatRefIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Scatter0a_Scatter0aIdeal
    ∧ algebraic_Scatter0aIdeal_Scatter0aRefIdeal (hScatter0aIdeal := hScatter0aIdeal) (hScatter0aRefIdeal := hScatter0aRefIdeal)
    ∧ bitexact_Scatter0a_Scatter0aRef (hScatter0a := hScatter0a) (hScatter0aRef := hScatter0aRef)
    ∧ preserves_Scatter0b_Scatter0bIdeal
    ∧ algebraic_Scatter0bIdeal_Scatter0bRefIdeal (hScatter0bIdeal := hScatter0bIdeal) (hScatter0bRefIdeal := hScatter0bRefIdeal)
    ∧ bitexact_Scatter0b_Scatter0bRef (hScatter0b := hScatter0b) (hScatter0bRef := hScatter0bRef)
    ∧ preserves_GatherE_GatherEIdeal
    ∧ algebraic_GatherEIdeal_GatherERefIdeal (hGatherEIdeal := hGatherEIdeal) (hGatherERefIdeal := hGatherERefIdeal)
    ∧ bitexact_GatherE_GatherERef (hGatherE := hGatherE) (hGatherERef := hGatherERef)
    ∧ preserves_GatherB_GatherBIdeal
    ∧ algebraic_GatherBIdeal_GatherBRefIdeal (hGatherBIdeal := hGatherBIdeal) (hGatherBRefIdeal := hGatherBRefIdeal)
    ∧ bitexact_GatherB_GatherBRef (hGatherB := hGatherB) (hGatherBRef := hGatherBRef)
    ∧ preserves_GatherC_GatherCIdeal
    ∧ algebraic_GatherCIdeal_GatherCRefIdeal (hGatherCIdeal := hGatherCIdeal) (hGatherCRefIdeal := hGatherCRefIdeal)
    ∧ bitexact_GatherC_GatherCRef (hGatherC := hGatherC) (hGatherCRef := hGatherCRef)
    ∧ preserves_GatherD_GatherDIdeal
    ∧ algebraic_GatherDIdeal_GatherDRefIdeal (hGatherDIdeal := hGatherDIdeal) (hGatherDRefIdeal := hGatherDRefIdeal)
    ∧ bitexact_GatherD_GatherDRef (hGatherD := hGatherD) (hGatherDRef := hGatherDRef)
    ∧ preserves_GatherA_GatherAIdeal
    ∧ algebraic_GatherAIdeal_GatherARefIdeal (hGatherAIdeal := hGatherAIdeal) (hGatherARefIdeal := hGatherARefIdeal)
    ∧ bitexact_GatherA_GatherARef (hGatherA := hGatherA) (hGatherARef := hGatherARef)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamGains_AdamGainsIdeal
    ∧ algebraic_AdamGainsIdeal_AdamGainsRefIdeal (hAdamGainsIdeal := hAdamGainsIdeal) (hAdamGainsRefIdeal := hAdamGainsRefIdeal)
    ∧ preserves_GradX_GradXIdeal
    ∧ algebraic_GradXIdeal_GradXRefIdeal (hGradXIdeal := hGradXIdeal) (hGradXRefIdeal := hGradXRefIdeal)
    ∧ preserves_LossHead_LossHeadIdeal
    ∧ algebraic_LossHeadIdeal_LossHeadRefIdeal (hLossHeadIdeal := hLossHeadIdeal) (hLossHeadRefIdeal := hLossHeadRefIdeal)
    ∧ preserves_GradIn_GradInIdeal
    ∧ algebraic_GradInIdeal_GradInRefIdeal (hGradInIdeal := hGradInIdeal) (hGradInRefIdeal := hGradInRefIdeal)
    ∧ preserves_GradOut_GradOutIdeal
    ∧ algebraic_GradOutIdeal_GradOutRefIdeal (hGradOutIdeal := hGradOutIdeal) (hGradOutRefIdeal := hGradOutRefIdeal)
    ∧ preserves_GradUp_GradUpIdeal
    ∧ algebraic_GradUpIdeal_GradUpRefIdeal (hGradUpIdeal := hGradUpIdeal) (hGradUpRefIdeal := hGradUpRefIdeal)
    ∧ preserves_GradDown_GradDownIdeal
    ∧ algebraic_GradDownIdeal_GradDownRefIdeal (hGradDownIdeal := hGradDownIdeal) (hGradDownRefIdeal := hGradDownRefIdeal)
    ∧ preserves_NormIn_NormInIdeal
    ∧ algebraic_NormInIdeal_NormInRefIdeal (hNormInIdeal := hNormInIdeal) (hNormInRefIdeal := hNormInRefIdeal)
    ∧ preserves_Project_ProjectIdeal
    ∧ algebraic_ProjectIdeal_ProjectRefIdeal (hProjectIdeal := hProjectIdeal) (hProjectRefIdeal := hProjectRefIdeal)
    ∧ preserves_MixOut_MixOutIdeal
    ∧ algebraic_MixOutIdeal_MixOutRefIdeal (hMixOutIdeal := hMixOutIdeal) (hMixOutRefIdeal := hMixOutRefIdeal)
    ∧ preserves_FfnUp_FfnUpIdeal
    ∧ algebraic_FfnUpIdeal_FfnUpRefIdeal (hFfnUpIdeal := hFfnUpIdeal) (hFfnUpRefIdeal := hFfnUpRefIdeal)
    ∧ preserves_DCat_DCatIdeal
    ∧ algebraic_DCatIdeal_DCatRefIdeal (hDCatIdeal := hDCatIdeal) (hDCatRefIdeal := hDCatRefIdeal)
-- ==== Kernel.lean ====
abbrev S1x1024x3072 : Shape := ⟨3, ![1, 1024, 3072]⟩
abbrev S1x8x128x1024 : Shape := ⟨4, ![1, 8, 128, 1024]⟩
abbrev S1x8x704x1024 : Shape := ⟨4, ![1, 8, 704, 1024]⟩
abbrev S1x8x352x1024 : Shape := ⟨4, ![1, 8, 352, 1024]⟩
abbrev S1x8x3x768 : Shape := ⟨4, ![1, 8, 3, 768]⟩
abbrev S1024x3072 : Shape := ⟨2, ![1024, 3072]⟩
abbrev S8x128x1024 : Shape := ⟨3, ![8, 128, 1024]⟩
abbrev S8x704x1024 : Shape := ⟨3, ![8, 704, 1024]⟩
abbrev S8x352x1024 : Shape := ⟨3, ![8, 352, 1024]⟩
abbrev S8x3x768 : Shape := ⟨3, ![8, 3, 768]⟩
abbrev S8x1024x384 : Shape := ⟨3, ![8, 1024, 384]⟩
abbrev S5x7 : Shape := ⟨2, ![5, 7]⟩
abbrev S5 : Shape := ⟨1, ![5]⟩
abbrev S_ : Shape := ⟨0, ![]⟩
abbrev S1 : Shape := ⟨1, ![1]⟩
abbrev S1x1024x384 : Shape := ⟨3, ![1, 1024, 384]⟩
abbrev S1024x384 : Shape := ⟨2, ![1024, 384]⟩
abbrev S1x128x1024 : Shape := ⟨3, ![1, 128, 1024]⟩
abbrev S128x1024 : Shape := ⟨2, ![128, 1024]⟩
abbrev S1x704x1024 : Shape := ⟨3, ![1, 704, 1024]⟩
abbrev S704x1024 : Shape := ⟨2, ![704, 1024]⟩
abbrev S1x352x1024 : Shape := ⟨3, ![1, 352, 1024]⟩
abbrev S352x1024 : Shape := ⟨2, ![352, 1024]⟩
abbrev S1x3x768 : Shape := ⟨3, ![1, 3, 768]⟩
abbrev S3x768 : Shape := ⟨2, ![3, 768]⟩
abbrev S1x1 : Shape := ⟨2, ![1, 1]⟩
abbrev S1x8x1024x384 : Shape := ⟨4, ![1, 8, 1024, 384]⟩

abbrev nBuf : Table → Nat
  | .hbm => 20
  | _ => 0

abbrev bufTy : (tb : Table) → Fin (nBuf tb) → BufTy
  | .hbm, ⟨0, _⟩ => ⟨S1x1024x3072, .bf16⟩
  | .hbm, ⟨1, _⟩ => ⟨S1x8x128x1024, .bf16⟩
  | .hbm, ⟨2, _⟩ => ⟨S1x8x704x1024, .bf16⟩
  | .hbm, ⟨3, _⟩ => ⟨S1x8x352x1024, .bf16⟩
  | .hbm, ⟨4, _⟩ => ⟨S1x8x3x768, .f32⟩
  | .hbm, ⟨5, _⟩ => ⟨S1024x3072, .bf16⟩
  | .hbm, ⟨6, _⟩ => ⟨S8x128x1024, .bf16⟩
  | .hbm, ⟨7, _⟩ => ⟨S8x704x1024, .bf16⟩
  | .hbm, ⟨8, _⟩ => ⟨S8x352x1024, .bf16⟩
  | .hbm, ⟨9, _⟩ => ⟨S8x3x768, .f32⟩
  | .hbm, ⟨10, _⟩ => ⟨S8x1024x384, .bf16⟩
  | .hbm, ⟨11, _⟩ => ⟨S8x128x1024, .bf16⟩
  | .hbm, ⟨12, _⟩ => ⟨S8x704x1024, .bf16⟩
  | .hbm, ⟨13, _⟩ => ⟨S8x352x1024, .bf16⟩
  | .hbm, ⟨14, _⟩ => ⟨S8x3x768, .f32⟩
  | .hbm, ⟨15, _⟩ => ⟨S1x8x1024x384, .bf16⟩
  | .hbm, ⟨16, _⟩ => ⟨S1x8x128x1024, .bf16⟩
  | .hbm, ⟨17, _⟩ => ⟨S1x8x704x1024, .bf16⟩
  | .hbm, ⟨18, _⟩ => ⟨S1x8x352x1024, .bf16⟩
  | .hbm, ⟨19, _⟩ => ⟨S1x8x3x768, .f32⟩
  | _, _ => ⟨S1x1024x3072, .bf16⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 75 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => false
  | ⟨65, _⟩ => false
  | ⟨66, _⟩ => false
  | ⟨67, _⟩ => false
  | ⟨68, _⟩ => false
  | ⟨69, _⟩ => false
  | ⟨70, _⟩ => false
  | ⟨71, _⟩ => false
  | ⟨72, _⟩ => false
  | ⟨73, _⟩ => false
  | ⟨74, _⟩ => false
  | _ => false

abbrev sig : RefSig :=
  (ofTables nBuf rfl bufTy 5 75 bufScoped semScoped dmaSemScoped tileCredit tileCredit_eq_zero tileCredit_pos).withBarriers [(4, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v6_4 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v1_scs : Ref sig .scScalar := ⟨.hbm, 5, rfl⟩
abbrev main_v2_scs : Ref sig .scScalar := ⟨.hbm, 6, rfl⟩
abbrev main_v3_scs : Ref sig .scScalar := ⟨.hbm, 7, rfl⟩
abbrev main_v4_scs : Ref sig .scScalar := ⟨.hbm, 8, rfl⟩
abbrev main_v5_scs : Ref sig .scScalar := ⟨.hbm, 9, rfl⟩
abbrev main_v6_0_scs : Ref sig .scScalar := ⟨.hbm, 10, rfl⟩
abbrev main_v6_1_scs : Ref sig .scScalar := ⟨.hbm, 11, rfl⟩
abbrev main_v6_2_scs : Ref sig .scScalar := ⟨.hbm, 12, rfl⟩
abbrev main_v6_3_scs : Ref sig .scScalar := ⟨.hbm, 13, rfl⟩
abbrev main_v6_4_scs : Ref sig .scScalar := ⟨.hbm, 14, rfl⟩
abbrev sc_start : Sem sig := 0
abbrev sc_done : Sem sig := 1
abbrev sc_go : Sem sig := 2
abbrev sc_taskDone : Sem sig := 3
abbrev barrier4 : Sem sig := 4

abbrev nD : Nat := 8
abbrev τ : Topo := Topo.v7x

variable {F : FTy → Type} [FloatOps F]

abbrev grid0 : Pipeline.Grid := ⟨1, ![1], ![false]⟩

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v19 : BitVec 32 := Scalar.muli v2 c4_i32_9
  let v20 : BitVec 32 := Scalar.addi c0_i32 v19
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_5 v5
  let c2_i32_10 : BitVec 32 := 2#32
  let v21 : BitVec 32 := Scalar.muli v14 c2_i32_10
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_11 : BitVec 32 := 1#32
  let v23 : BitVec 32 := Scalar.muli v8 c1_i32_11
  let v24 : BitVec 32 := Scalar.addi v22 v23
  v24.toNat
def k0_dev2 (d0 : Dev nD) : Nat :=
  let c0_i32_17 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_12 v2
  let c4_i32_16 : BitVec 32 := 4#32
  let v30 : BitVec 32 := Scalar.muli v25 c4_i32_16
  let v31 : BitVec 32 := Scalar.addi c0_i32_17 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v32 : BitVec 32 := Scalar.muli v5 c2_i32_18
  let v33 : BitVec 32 := Scalar.addi v31 v32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v34 : BitVec 32 := Scalar.muli v8 c1_i32_19
  let v35 : BitVec 32 := Scalar.addi v33 v34
  v35.toNat
def k0_dev3 (d0 : Dev nD) : Nat :=
  let c0_i32_26 : BitVec 32 := 0#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_20 v2
  let c4_i32_25 : BitVec 32 := 4#32
  let v42 : BitVec 32 := Scalar.muli v36 c4_i32_25
  let v43 : BitVec 32 := Scalar.addi c0_i32_26 v42
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.subi c1_i32_21 v5
  let c2_i32_27 : BitVec 32 := 2#32
  let v44 : BitVec 32 := Scalar.muli v37 c2_i32_27
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v46 : BitVec 32 := Scalar.muli v8 c1_i32_28
  let v47 : BitVec 32 := Scalar.addi v45 v46
  v47.toNat
def k0_dev4 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v54 : BitVec 32 := Scalar.muli v2 c4_i32_34
  let v55 : BitVec 32 := Scalar.addi c0_i32_35 v54
  let c1_i32_29 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_29 v5
  let c2_i32_36 : BitVec 32 := 2#32
  let v56 : BitVec 32 := Scalar.muli v48 c2_i32_36
  let v57 : BitVec 32 := Scalar.addi v55 v56
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_30 v8
  let c1_i32_37 : BitVec 32 := 1#32
  let v58 : BitVec 32 := Scalar.muli v49 c1_i32_37
  let v59 : BitVec 32 := Scalar.addi v57 v58
  v59.toNat
def k0_dev5 (d0 : Dev nD) : Nat :=
  let c0_i32_44 : BitVec 32 := 0#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v60 : BitVec 32 := Scalar.subi c1_i32_38 v2
  let c4_i32_43 : BitVec 32 := 4#32
  let v66 : BitVec 32 := Scalar.muli v60 c4_i32_43
  let v67 : BitVec 32 := Scalar.addi c0_i32_44 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v68 : BitVec 32 := Scalar.muli v5 c2_i32_45
  let v69 : BitVec 32 := Scalar.addi v67 v68
  let c1_i32_39 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v61 : BitVec 32 := Scalar.subi c1_i32_39 v8
  let c1_i32_46 : BitVec 32 := 1#32
  let v70 : BitVec 32 := Scalar.muli v61 c1_i32_46
  let v71 : BitVec 32 := Scalar.addi v69 v70
  v71.toNat
def k0_dev6 (d0 : Dev nD) : Nat :=
  let c0_i32_54 : BitVec 32 := 0#32
  let c1_i32_47 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v72 : BitVec 32 := Scalar.subi c1_i32_47 v2
  let c4_i32_53 : BitVec 32 := 4#32
  let v79 : BitVec 32 := Scalar.muli v72 c4_i32_53
  let v80 : BitVec 32 := Scalar.addi c0_i32_54 v79
  let c1_i32_48 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v73 : BitVec 32 := Scalar.subi c1_i32_48 v5
  let c2_i32_55 : BitVec 32 := 2#32
  let v81 : BitVec 32 := Scalar.muli v73 c2_i32_55
  let v82 : BitVec 32 := Scalar.addi v80 v81
  let c1_i32_49 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v74 : BitVec 32 := Scalar.subi c1_i32_49 v8
  let c1_i32_56 : BitVec 32 := 1#32
  let v83 : BitVec 32 := Scalar.muli v74 c1_i32_56
  let v84 : BitVec 32 := Scalar.addi v82 v83
  v84.toNat
def k0_dev7 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v90 : BitVec 32 := Scalar.muli v2 c4_i32_61
  let v91 : BitVec 32 := Scalar.addi c0_i32_62 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v92 : BitVec 32 := Scalar.muli v5 c2_i32_63
  let v93 : BitVec 32 := Scalar.addi v91 v92
  let c1_i32_57 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v85 : BitVec 32 := Scalar.subi c1_i32_57 v8
  let c1_i32_64 : BitVec 32 := 1#32
  let v94 : BitVec 32 := Scalar.muli v85 c1_i32_64
  let v95 : BitVec 32 := Scalar.addi v93 v94
  v95.toNat
def k0_mult1 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32 : BitVec 32 := 384#32
  let v96 : BitVec 32 := Scalar.muli v12 c384_i32
  v96
def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_66 : BitVec 32 := 0#32
  let c0_i32_67 : BitVec 32 := 0#32
  ![v12.toNat, 0, 0]
def k0_off2 (d0 : Dev nD) : Fin 2 → Nat :=
  let c0_i32_68 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32 : BitVec 32 := 384#32
  let v96 : BitVec 32 := Scalar.muli v12 c384_i32
  let v97 : BitVec 32 := v96
  ![0, v97.toNat]
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_70 : BitVec 32 := 0#32
  let c0_i32_71 : BitVec 32 := 0#32
  ![v12.toNat, 0, 0]
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_75 : BitVec 32 := 0#32
  let c0_i32_76 : BitVec 32 := 0#32
  ![v12.toNat, 0, 0]
def k0_off5 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_79 : BitVec 32 := 0#32
  let c0_i32_80 : BitVec 32 := 0#32
  ![v12.toNat, 0, 0]
def k0_off6 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_84 : BitVec 32 := 0#32
  let c0_i32_85 : BitVec 32 := 0#32
  ![v12.toNat, 0, 0]
def k0_mult2 (d0 : Dev nD) : BitVec 32 :=
  let c4_i32_89 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v128 : BitVec 32 := Scalar.muli c4_i32_89 v2
  let c2_i32_90 : BitVec 32 := 2#32
  let c1_i32_88 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v127 : BitVec 32 := Scalar.subi c1_i32_88 v5
  let v129 : BitVec 32 := Scalar.muli c2_i32_90 v127
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v131 : BitVec 32 := Scalar.addi v130 v8
  let c384_i32_91 : BitVec 32 := 384#32
  let v132 : BitVec 32 := Scalar.muli v131 c384_i32_91
  v132
def k0_off7 (d0 : Dev nD) : Fin 2 → Nat :=
  let c0_i32_102 : BitVec 32 := 0#32
  let c4_i32_89 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v128 : BitVec 32 := Scalar.muli c4_i32_89 v2
  let c2_i32_90 : BitVec 32 := 2#32
  let c1_i32_88 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v127 : BitVec 32 := Scalar.subi c1_i32_88 v5
  let v129 : BitVec 32 := Scalar.muli c2_i32_90 v127
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v131 : BitVec 32 := Scalar.addi v130 v8
  let c384_i32_91 : BitVec 32 := 384#32
  let v132 : BitVec 32 := Scalar.muli v131 c384_i32_91
  let v133 : BitVec 32 := v132
  ![0, v133.toNat]
def k0_dev8 (d0 : Dev nD) : Nat :=
  let c0_i32_97 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_96 : BitVec 32 := 4#32
  let v134 : BitVec 32 := Scalar.muli v2 c4_i32_96
  let v135 : BitVec 32 := Scalar.addi c0_i32_97 v134
  let c1_i32_88 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v127 : BitVec 32 := Scalar.subi c1_i32_88 v5
  let c2_i32_98 : BitVec 32 := 2#32
  let v136 : BitVec 32 := Scalar.muli v127 c2_i32_98
  let v137 : BitVec 32 := Scalar.addi v135 v136
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_99 : BitVec 32 := 1#32
  let v138 : BitVec 32 := Scalar.muli v8 c1_i32_99
  let v139 : BitVec 32 := Scalar.addi v137 v138
  v139.toNat
def k0_off8 (d0 : Dev nD) : Fin 3 → Nat :=
  let c4_i32_89 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v128 : BitVec 32 := Scalar.muli c4_i32_89 v2
  let c2_i32_90 : BitVec 32 := 2#32
  let c1_i32_88 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v127 : BitVec 32 := Scalar.subi c1_i32_88 v5
  let v129 : BitVec 32 := Scalar.muli c2_i32_90 v127
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v131 : BitVec 32 := Scalar.addi v130 v8
  let c0_i32_113 : BitVec 32 := 0#32
  let c0_i32_114 : BitVec 32 := 0#32
  ![v131.toNat, 0, 0]
def k0_dev9 (d0 : Dev nD) : Nat :=
  let c0_i32_108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_107 : BitVec 32 := 4#32
  let v147 : BitVec 32 := Scalar.muli v2 c4_i32_107
  let v148 : BitVec 32 := Scalar.addi c0_i32_108 v147
  let c1_i32_88 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v127 : BitVec 32 := Scalar.subi c1_i32_88 v5
  let c2_i32_109 : BitVec 32 := 2#32
  let v149 : BitVec 32 := Scalar.muli v127 c2_i32_109
  let v150 : BitVec 32 := Scalar.addi v148 v149
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v151 : BitVec 32 := Scalar.muli v8 c1_i32_110
  let v152 : BitVec 32 := Scalar.addi v150 v151
  v152.toNat
def k0_off9 (d0 : Dev nD) : Fin 3 → Nat :=
  let c4_i32_89 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v128 : BitVec 32 := Scalar.muli c4_i32_89 v2
  let c2_i32_90 : BitVec 32 := 2#32
  let c1_i32_88 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v127 : BitVec 32 := Scalar.subi c1_i32_88 v5
  let v129 : BitVec 32 := Scalar.muli c2_i32_90 v127
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v131 : BitVec 32 := Scalar.addi v130 v8
  let c0_i32_125 : BitVec 32 := 0#32
  let c0_i32_126 : BitVec 32 := 0#32
  ![v131.toNat, 0, 0]
def k0_dev10 (d0 : Dev nD) : Nat :=
  let c0_i32_120 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_119 : BitVec 32 := 4#32
  let v161 : BitVec 32 := Scalar.muli v2 c4_i32_119
  let v162 : BitVec 32 := Scalar.addi c0_i32_120 v161
  let c1_i32_88 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v127 : BitVec 32 := Scalar.subi c1_i32_88 v5
  let c2_i32_121 : BitVec 32 := 2#32
  let v163 : BitVec 32 := Scalar.muli v127 c2_i32_121
  let v164 : BitVec 32 := Scalar.addi v162 v163
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v165 : BitVec 32 := Scalar.muli v8 c1_i32_122
  let v166 : BitVec 32 := Scalar.addi v164 v165
  v166.toNat
def k0_off10 (d0 : Dev nD) : Fin 3 → Nat :=
  let c4_i32_89 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v128 : BitVec 32 := Scalar.muli c4_i32_89 v2
  let c2_i32_90 : BitVec 32 := 2#32
  let c1_i32_88 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v127 : BitVec 32 := Scalar.subi c1_i32_88 v5
  let v129 : BitVec 32 := Scalar.muli c2_i32_90 v127
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v131 : BitVec 32 := Scalar.addi v130 v8
  let c0_i32_137 : BitVec 32 := 0#32
  let c0_i32_138 : BitVec 32 := 0#32
  ![v131.toNat, 0, 0]
def k0_dev11 (d0 : Dev nD) : Nat :=
  let c0_i32_132 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_131 : BitVec 32 := 4#32
  let v175 : BitVec 32 := Scalar.muli v2 c4_i32_131
  let v176 : BitVec 32 := Scalar.addi c0_i32_132 v175
  let c1_i32_88 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v127 : BitVec 32 := Scalar.subi c1_i32_88 v5
  let c2_i32_133 : BitVec 32 := 2#32
  let v177 : BitVec 32 := Scalar.muli v127 c2_i32_133
  let v178 : BitVec 32 := Scalar.addi v176 v177
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_134 : BitVec 32 := 1#32
  let v179 : BitVec 32 := Scalar.muli v8 c1_i32_134
  let v180 : BitVec 32 := Scalar.addi v178 v179
  v180.toNat
def k0_off11 (d0 : Dev nD) : Fin 3 → Nat :=
  let c4_i32_89 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v128 : BitVec 32 := Scalar.muli c4_i32_89 v2
  let c2_i32_90 : BitVec 32 := 2#32
  let c1_i32_88 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v127 : BitVec 32 := Scalar.subi c1_i32_88 v5
  let v129 : BitVec 32 := Scalar.muli c2_i32_90 v127
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v131 : BitVec 32 := Scalar.addi v130 v8
  let c0_i32_149 : BitVec 32 := 0#32
  let c0_i32_150 : BitVec 32 := 0#32
  ![v131.toNat, 0, 0]
def k0_dev12 (d0 : Dev nD) : Nat :=
  let c0_i32_144 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_143 : BitVec 32 := 4#32
  let v189 : BitVec 32 := Scalar.muli v2 c4_i32_143
  let v190 : BitVec 32 := Scalar.addi c0_i32_144 v189
  let c1_i32_88 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v127 : BitVec 32 := Scalar.subi c1_i32_88 v5
  let c2_i32_145 : BitVec 32 := 2#32
  let v191 : BitVec 32 := Scalar.muli v127 c2_i32_145
  let v192 : BitVec 32 := Scalar.addi v190 v191
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_146 : BitVec 32 := 1#32
  let v193 : BitVec 32 := Scalar.muli v8 c1_i32_146
  let v194 : BitVec 32 := Scalar.addi v192 v193
  v194.toNat
def k0_mult3 (d0 : Dev nD) : BitVec 32 :=
  let c4_i32_152 : BitVec 32 := 4#32
  let c1_i32_151 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v203 : BitVec 32 := Scalar.subi c1_i32_151 v2
  let v204 : BitVec 32 := Scalar.muli c4_i32_152 v203
  let c2_i32_153 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v205 : BitVec 32 := Scalar.muli c2_i32_153 v5
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v207 : BitVec 32 := Scalar.addi v206 v8
  let c384_i32_154 : BitVec 32 := 384#32
  let v208 : BitVec 32 := Scalar.muli v207 c384_i32_154
  v208
def k0_off12 (d0 : Dev nD) : Fin 2 → Nat :=
  let c0_i32_165 : BitVec 32 := 0#32
  let c4_i32_152 : BitVec 32 := 4#32
  let c1_i32_151 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v203 : BitVec 32 := Scalar.subi c1_i32_151 v2
  let v204 : BitVec 32 := Scalar.muli c4_i32_152 v203
  let c2_i32_153 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v205 : BitVec 32 := Scalar.muli c2_i32_153 v5
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v207 : BitVec 32 := Scalar.addi v206 v8
  let c384_i32_154 : BitVec 32 := 384#32
  let v208 : BitVec 32 := Scalar.muli v207 c384_i32_154
  let v209 : BitVec 32 := v208
  ![0, v209.toNat]
def k0_dev13 (d0 : Dev nD) : Nat :=
  let c0_i32_160 : BitVec 32 := 0#32
  let c1_i32_151 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v203 : BitVec 32 := Scalar.subi c1_i32_151 v2
  let c4_i32_159 : BitVec 32 := 4#32
  let v210 : BitVec 32 := Scalar.muli v203 c4_i32_159
  let v211 : BitVec 32 := Scalar.addi c0_i32_160 v210
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_161 : BitVec 32 := 2#32
  let v212 : BitVec 32 := Scalar.muli v5 c2_i32_161
  let v213 : BitVec 32 := Scalar.addi v211 v212
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_162 : BitVec 32 := 1#32
  let v214 : BitVec 32 := Scalar.muli v8 c1_i32_162
  let v215 : BitVec 32 := Scalar.addi v213 v214
  v215.toNat
def k0_off13 (d0 : Dev nD) : Fin 3 → Nat :=
  let c4_i32_152 : BitVec 32 := 4#32
  let c1_i32_151 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v203 : BitVec 32 := Scalar.subi c1_i32_151 v2
  let v204 : BitVec 32 := Scalar.muli c4_i32_152 v203
  let c2_i32_153 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v205 : BitVec 32 := Scalar.muli c2_i32_153 v5
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v207 : BitVec 32 := Scalar.addi v206 v8
  let c0_i32_176 : BitVec 32 := 0#32
  let c0_i32_177 : BitVec 32 := 0#32
  ![v207.toNat, 0, 0]
def k0_dev14 (d0 : Dev nD) : Nat :=
  let c0_i32_171 : BitVec 32 := 0#32
  let c1_i32_151 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v203 : BitVec 32 := Scalar.subi c1_i32_151 v2
  let c4_i32_170 : BitVec 32 := 4#32
  let v223 : BitVec 32 := Scalar.muli v203 c4_i32_170
  let v224 : BitVec 32 := Scalar.addi c0_i32_171 v223
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_172 : BitVec 32 := 2#32
  let v225 : BitVec 32 := Scalar.muli v5 c2_i32_172
  let v226 : BitVec 32 := Scalar.addi v224 v225
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_173 : BitVec 32 := 1#32
  let v227 : BitVec 32 := Scalar.muli v8 c1_i32_173
  let v228 : BitVec 32 := Scalar.addi v226 v227
  v228.toNat
def k0_off14 (d0 : Dev nD) : Fin 3 → Nat :=
  let c4_i32_152 : BitVec 32 := 4#32
  let c1_i32_151 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v203 : BitVec 32 := Scalar.subi c1_i32_151 v2
  let v204 : BitVec 32 := Scalar.muli c4_i32_152 v203
  let c2_i32_153 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v205 : BitVec 32 := Scalar.muli c2_i32_153 v5
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v207 : BitVec 32 := Scalar.addi v206 v8
  let c0_i32_188 : BitVec 32 := 0#32
  let c0_i32_189 : BitVec 32 := 0#32
  ![v207.toNat, 0, 0]
def k0_dev15 (d0 : Dev nD) : Nat :=
  let c0_i32_183 : BitVec 32 := 0#32
  let c1_i32_151 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v203 : BitVec 32 := Scalar.subi c1_i32_151 v2
  let c4_i32_182 : BitVec 32 := 4#32
  let v237 : BitVec 32 := Scalar.muli v203 c4_i32_182
  let v238 : BitVec 32 := Scalar.addi c0_i32_183 v237
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_184 : BitVec 32 := 2#32
  let v239 : BitVec 32 := Scalar.muli v5 c2_i32_184
  let v240 : BitVec 32 := Scalar.addi v238 v239
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_185 : BitVec 32 := 1#32
  let v241 : BitVec 32 := Scalar.muli v8 c1_i32_185
  let v242 : BitVec 32 := Scalar.addi v240 v241
  v242.toNat
def k0_off15 (d0 : Dev nD) : Fin 3 → Nat :=
  let c4_i32_152 : BitVec 32 := 4#32
  let c1_i32_151 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v203 : BitVec 32 := Scalar.subi c1_i32_151 v2
  let v204 : BitVec 32 := Scalar.muli c4_i32_152 v203
  let c2_i32_153 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v205 : BitVec 32 := Scalar.muli c2_i32_153 v5
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v207 : BitVec 32 := Scalar.addi v206 v8
  let c0_i32_200 : BitVec 32 := 0#32
  let c0_i32_201 : BitVec 32 := 0#32
  ![v207.toNat, 0, 0]
def k0_dev16 (d0 : Dev nD) : Nat :=
  let c0_i32_195 : BitVec 32 := 0#32
  let c1_i32_151 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v203 : BitVec 32 := Scalar.subi c1_i32_151 v2
  let c4_i32_194 : BitVec 32 := 4#32
  let v251 : BitVec 32 := Scalar.muli v203 c4_i32_194
  let v252 : BitVec 32 := Scalar.addi c0_i32_195 v251
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_196 : BitVec 32 := 2#32
  let v253 : BitVec 32 := Scalar.muli v5 c2_i32_196
  let v254 : BitVec 32 := Scalar.addi v252 v253
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_197 : BitVec 32 := 1#32
  let v255 : BitVec 32 := Scalar.muli v8 c1_i32_197
  let v256 : BitVec 32 := Scalar.addi v254 v255
  v256.toNat
def k0_off16 (d0 : Dev nD) : Fin 3 → Nat :=
  let c4_i32_152 : BitVec 32 := 4#32
  let c1_i32_151 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v203 : BitVec 32 := Scalar.subi c1_i32_151 v2
  let v204 : BitVec 32 := Scalar.muli c4_i32_152 v203
  let c2_i32_153 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v205 : BitVec 32 := Scalar.muli c2_i32_153 v5
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v207 : BitVec 32 := Scalar.addi v206 v8
  let c0_i32_212 : BitVec 32 := 0#32
  let c0_i32_213 : BitVec 32 := 0#32
  ![v207.toNat, 0, 0]
def k0_dev17 (d0 : Dev nD) : Nat :=
  let c0_i32_207 : BitVec 32 := 0#32
  let c1_i32_151 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v203 : BitVec 32 := Scalar.subi c1_i32_151 v2
  let c4_i32_206 : BitVec 32 := 4#32
  let v265 : BitVec 32 := Scalar.muli v203 c4_i32_206
  let v266 : BitVec 32 := Scalar.addi c0_i32_207 v265
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_208 : BitVec 32 := 2#32
  let v267 : BitVec 32 := Scalar.muli v5 c2_i32_208
  let v268 : BitVec 32 := Scalar.addi v266 v267
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_209 : BitVec 32 := 1#32
  let v269 : BitVec 32 := Scalar.muli v8 c1_i32_209
  let v270 : BitVec 32 := Scalar.addi v268 v269
  v270.toNat
def k0_mult4 (d0 : Dev nD) : BitVec 32 :=
  let c4_i32_216 : BitVec 32 := 4#32
  let c1_i32_214 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v279 : BitVec 32 := Scalar.subi c1_i32_214 v2
  let v281 : BitVec 32 := Scalar.muli c4_i32_216 v279
  let c2_i32_217 : BitVec 32 := 2#32
  let c1_i32_215 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v280 : BitVec 32 := Scalar.subi c1_i32_215 v5
  let v282 : BitVec 32 := Scalar.muli c2_i32_217 v280
  let v283 : BitVec 32 := Scalar.addi v281 v282
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v284 : BitVec 32 := Scalar.addi v283 v8
  let c384_i32_218 : BitVec 32 := 384#32
  let v285 : BitVec 32 := Scalar.muli v284 c384_i32_218
  v285
def k0_off17 (d0 : Dev nD) : Fin 2 → Nat :=
  let c0_i32_228 : BitVec 32 := 0#32
  let c4_i32_216 : BitVec 32 := 4#32
  let c1_i32_214 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v279 : BitVec 32 := Scalar.subi c1_i32_214 v2
  let v281 : BitVec 32 := Scalar.muli c4_i32_216 v279
  let c2_i32_217 : BitVec 32 := 2#32
  let c1_i32_215 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v280 : BitVec 32 := Scalar.subi c1_i32_215 v5
  let v282 : BitVec 32 := Scalar.muli c2_i32_217 v280
  let v283 : BitVec 32 := Scalar.addi v281 v282
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v284 : BitVec 32 := Scalar.addi v283 v8
  let c384_i32_218 : BitVec 32 := 384#32
  let v285 : BitVec 32 := Scalar.muli v284 c384_i32_218
  let v286 : BitVec 32 := v285
  ![0, v286.toNat]
def k0_dev18 (d0 : Dev nD) : Nat :=
  let c0_i32_223 : BitVec 32 := 0#32
  let c1_i32_214 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v279 : BitVec 32 := Scalar.subi c1_i32_214 v2
  let c4_i32_222 : BitVec 32 := 4#32
  let v287 : BitVec 32 := Scalar.muli v279 c4_i32_222
  let v288 : BitVec 32 := Scalar.addi c0_i32_223 v287
  let c1_i32_215 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v280 : BitVec 32 := Scalar.subi c1_i32_215 v5
  let c2_i32_224 : BitVec 32 := 2#32
  let v289 : BitVec 32 := Scalar.muli v280 c2_i32_224
  let v290 : BitVec 32 := Scalar.addi v288 v289
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_225 : BitVec 32 := 1#32
  let v291 : BitVec 32 := Scalar.muli v8 c1_i32_225
  let v292 : BitVec 32 := Scalar.addi v290 v291
  v292.toNat
def k0_off18 (d0 : Dev nD) : Fin 3 → Nat :=
  let c4_i32_216 : BitVec 32 := 4#32
  let c1_i32_214 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v279 : BitVec 32 := Scalar.subi c1_i32_214 v2
  let v281 : BitVec 32 := Scalar.muli c4_i32_216 v279
  let c2_i32_217 : BitVec 32 := 2#32
  let c1_i32_215 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v280 : BitVec 32 := Scalar.subi c1_i32_215 v5
  let v282 : BitVec 32 := Scalar.muli c2_i32_217 v280
  let v283 : BitVec 32 := Scalar.addi v281 v282
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v284 : BitVec 32 := Scalar.addi v283 v8
  let c0_i32_239 : BitVec 32 := 0#32
  let c0_i32_240 : BitVec 32 := 0#32
  ![v284.toNat, 0, 0]
def k0_dev19 (d0 : Dev nD) : Nat :=
  let c0_i32_234 : BitVec 32 := 0#32
  let c1_i32_214 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v279 : BitVec 32 := Scalar.subi c1_i32_214 v2
  let c4_i32_233 : BitVec 32 := 4#32
  let v300 : BitVec 32 := Scalar.muli v279 c4_i32_233
  let v301 : BitVec 32 := Scalar.addi c0_i32_234 v300
  let c1_i32_215 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v280 : BitVec 32 := Scalar.subi c1_i32_215 v5
  let c2_i32_235 : BitVec 32 := 2#32
  let v302 : BitVec 32 := Scalar.muli v280 c2_i32_235
  let v303 : BitVec 32 := Scalar.addi v301 v302
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_236 : BitVec 32 := 1#32
  let v304 : BitVec 32 := Scalar.muli v8 c1_i32_236
  let v305 : BitVec 32 := Scalar.addi v303 v304
  v305.toNat
def k0_off19 (d0 : Dev nD) : Fin 3 → Nat :=
  let c4_i32_216 : BitVec 32 := 4#32
  let c1_i32_214 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v279 : BitVec 32 := Scalar.subi c1_i32_214 v2
  let v281 : BitVec 32 := Scalar.muli c4_i32_216 v279
  let c2_i32_217 : BitVec 32 := 2#32
  let c1_i32_215 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v280 : BitVec 32 := Scalar.subi c1_i32_215 v5
  let v282 : BitVec 32 := Scalar.muli c2_i32_217 v280
  let v283 : BitVec 32 := Scalar.addi v281 v282
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v284 : BitVec 32 := Scalar.addi v283 v8
  let c0_i32_251 : BitVec 32 := 0#32
  let c0_i32_252 : BitVec 32 := 0#32
  ![v284.toNat, 0, 0]
def k0_dev20 (d0 : Dev nD) : Nat :=
  let c0_i32_246 : BitVec 32 := 0#32
  let c1_i32_214 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v279 : BitVec 32 := Scalar.subi c1_i32_214 v2
  let c4_i32_245 : BitVec 32 := 4#32
  let v314 : BitVec 32 := Scalar.muli v279 c4_i32_245
  let v315 : BitVec 32 := Scalar.addi c0_i32_246 v314
  let c1_i32_215 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v280 : BitVec 32 := Scalar.subi c1_i32_215 v5
  let c2_i32_247 : BitVec 32 := 2#32
  let v316 : BitVec 32 := Scalar.muli v280 c2_i32_247
  let v317 : BitVec 32 := Scalar.addi v315 v316
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_248 : BitVec 32 := 1#32
  let v318 : BitVec 32 := Scalar.muli v8 c1_i32_248
  let v319 : BitVec 32 := Scalar.addi v317 v318
  v319.toNat
def k0_off20 (d0 : Dev nD) : Fin 3 → Nat :=
  let c4_i32_216 : BitVec 32 := 4#32
  let c1_i32_214 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v279 : BitVec 32 := Scalar.subi c1_i32_214 v2
  let v281 : BitVec 32 := Scalar.muli c4_i32_216 v279
  let c2_i32_217 : BitVec 32 := 2#32
  let c1_i32_215 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v280 : BitVec 32 := Scalar.subi c1_i32_215 v5
  let v282 : BitVec 32 := Scalar.muli c2_i32_217 v280
  let v283 : BitVec 32 := Scalar.addi v281 v282
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v284 : BitVec 32 := Scalar.addi v283 v8
  let c0_i32_263 : BitVec 32 := 0#32
  let c0_i32_264 : BitVec 32 := 0#32
  ![v284.toNat, 0, 0]
def k0_dev21 (d0 : Dev nD) : Nat :=
  let c0_i32_258 : BitVec 32 := 0#32
  let c1_i32_214 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v279 : BitVec 32 := Scalar.subi c1_i32_214 v2
  let c4_i32_257 : BitVec 32 := 4#32
  let v328 : BitVec 32 := Scalar.muli v279 c4_i32_257
  let v329 : BitVec 32 := Scalar.addi c0_i32_258 v328
  let c1_i32_215 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v280 : BitVec 32 := Scalar.subi c1_i32_215 v5
  let c2_i32_259 : BitVec 32 := 2#32
  let v330 : BitVec 32 := Scalar.muli v280 c2_i32_259
  let v331 : BitVec 32 := Scalar.addi v329 v330
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_260 : BitVec 32 := 1#32
  let v332 : BitVec 32 := Scalar.muli v8 c1_i32_260
  let v333 : BitVec 32 := Scalar.addi v331 v332
  v333.toNat
def k0_off21 (d0 : Dev nD) : Fin 3 → Nat :=
  let c4_i32_216 : BitVec 32 := 4#32
  let c1_i32_214 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v279 : BitVec 32 := Scalar.subi c1_i32_214 v2
  let v281 : BitVec 32 := Scalar.muli c4_i32_216 v279
  let c2_i32_217 : BitVec 32 := 2#32
  let c1_i32_215 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v280 : BitVec 32 := Scalar.subi c1_i32_215 v5
  let v282 : BitVec 32 := Scalar.muli c2_i32_217 v280
  let v283 : BitVec 32 := Scalar.addi v281 v282
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v284 : BitVec 32 := Scalar.addi v283 v8
  let c0_i32_275 : BitVec 32 := 0#32
  let c0_i32_276 : BitVec 32 := 0#32
  ![v284.toNat, 0, 0]
def k0_dev22 (d0 : Dev nD) : Nat :=
  let c0_i32_270 : BitVec 32 := 0#32
  let c1_i32_214 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v279 : BitVec 32 := Scalar.subi c1_i32_214 v2
  let c4_i32_269 : BitVec 32 := 4#32
  let v342 : BitVec 32 := Scalar.muli v279 c4_i32_269
  let v343 : BitVec 32 := Scalar.addi c0_i32_270 v342
  let c1_i32_215 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v280 : BitVec 32 := Scalar.subi c1_i32_215 v5
  let c2_i32_271 : BitVec 32 := 2#32
  let v344 : BitVec 32 := Scalar.muli v280 c2_i32_271
  let v345 : BitVec 32 := Scalar.addi v343 v344
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_272 : BitVec 32 := 1#32
  let v346 : BitVec 32 := Scalar.muli v8 c1_i32_272
  let v347 : BitVec 32 := Scalar.addi v345 v346
  v347.toNat
def k0_mult5 (d0 : Dev nD) : BitVec 32 :=
  let c4_i32_279 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v358 : BitVec 32 := Scalar.muli c4_i32_279 v2
  let c2_i32_280 : BitVec 32 := 2#32
  let c1_i32_277 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v356 : BitVec 32 := Scalar.subi c1_i32_277 v5
  let v359 : BitVec 32 := Scalar.muli c2_i32_280 v356
  let v360 : BitVec 32 := Scalar.addi v358 v359
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v357 : BitVec 32 := Scalar.subi c1_i32_278 v8
  let v361 : BitVec 32 := Scalar.addi v360 v357
  let c384_i32_281 : BitVec 32 := 384#32
  let v362 : BitVec 32 := Scalar.muli v361 c384_i32_281
  v362
def k0_off22 (d0 : Dev nD) : Fin 2 → Nat :=
  let c0_i32_292 : BitVec 32 := 0#32
  let c4_i32_279 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v358 : BitVec 32 := Scalar.muli c4_i32_279 v2
  let c2_i32_280 : BitVec 32 := 2#32
  let c1_i32_277 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v356 : BitVec 32 := Scalar.subi c1_i32_277 v5
  let v359 : BitVec 32 := Scalar.muli c2_i32_280 v356
  let v360 : BitVec 32 := Scalar.addi v358 v359
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v357 : BitVec 32 := Scalar.subi c1_i32_278 v8
  let v361 : BitVec 32 := Scalar.addi v360 v357
  let c384_i32_281 : BitVec 32 := 384#32
  let v362 : BitVec 32 := Scalar.muli v361 c384_i32_281
  let v363 : BitVec 32 := v362
  ![0, v363.toNat]
def k0_dev23 (d0 : Dev nD) : Nat :=
  let c0_i32_287 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_286 : BitVec 32 := 4#32
  let v364 : BitVec 32 := Scalar.muli v2 c4_i32_286
  let v365 : BitVec 32 := Scalar.addi c0_i32_287 v364
  let c1_i32_277 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v356 : BitVec 32 := Scalar.subi c1_i32_277 v5
  let c2_i32_288 : BitVec 32 := 2#32
  let v366 : BitVec 32 := Scalar.muli v356 c2_i32_288
  let v367 : BitVec 32 := Scalar.addi v365 v366
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v357 : BitVec 32 := Scalar.subi c1_i32_278 v8
  let c1_i32_289 : BitVec 32 := 1#32
  let v368 : BitVec 32 := Scalar.muli v357 c1_i32_289
  let v369 : BitVec 32 := Scalar.addi v367 v368
  v369.toNat
def k0_off23 (d0 : Dev nD) : Fin 3 → Nat :=
  let c4_i32_279 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v358 : BitVec 32 := Scalar.muli c4_i32_279 v2
  let c2_i32_280 : BitVec 32 := 2#32
  let c1_i32_277 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v356 : BitVec 32 := Scalar.subi c1_i32_277 v5
  let v359 : BitVec 32 := Scalar.muli c2_i32_280 v356
  let v360 : BitVec 32 := Scalar.addi v358 v359
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v357 : BitVec 32 := Scalar.subi c1_i32_278 v8
  let v361 : BitVec 32 := Scalar.addi v360 v357
  let c0_i32_303 : BitVec 32 := 0#32
  let c0_i32_304 : BitVec 32 := 0#32
  ![v361.toNat, 0, 0]
def k0_dev24 (d0 : Dev nD) : Nat :=
  let c0_i32_298 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_297 : BitVec 32 := 4#32
  let v377 : BitVec 32 := Scalar.muli v2 c4_i32_297
  let v378 : BitVec 32 := Scalar.addi c0_i32_298 v377
  let c1_i32_277 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v356 : BitVec 32 := Scalar.subi c1_i32_277 v5
  let c2_i32_299 : BitVec 32 := 2#32
  let v379 : BitVec 32 := Scalar.muli v356 c2_i32_299
  let v380 : BitVec 32 := Scalar.addi v378 v379
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v357 : BitVec 32 := Scalar.subi c1_i32_278 v8
  let c1_i32_300 : BitVec 32 := 1#32
  let v381 : BitVec 32 := Scalar.muli v357 c1_i32_300
  let v382 : BitVec 32 := Scalar.addi v380 v381
  v382.toNat
def k0_off24 (d0 : Dev nD) : Fin 3 → Nat :=
  let c4_i32_279 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v358 : BitVec 32 := Scalar.muli c4_i32_279 v2
  let c2_i32_280 : BitVec 32 := 2#32
  let c1_i32_277 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v356 : BitVec 32 := Scalar.subi c1_i32_277 v5
  let v359 : BitVec 32 := Scalar.muli c2_i32_280 v356
  let v360 : BitVec 32 := Scalar.addi v358 v359
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v357 : BitVec 32 := Scalar.subi c1_i32_278 v8
  let v361 : BitVec 32 := Scalar.addi v360 v357
  let c0_i32_315 : BitVec 32 := 0#32
  let c0_i32_316 : BitVec 32 := 0#32
  ![v361.toNat, 0, 0]
def k0_dev25 (d0 : Dev nD) : Nat :=
  let c0_i32_310 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_309 : BitVec 32 := 4#32
  let v391 : BitVec 32 := Scalar.muli v2 c4_i32_309
  let v392 : BitVec 32 := Scalar.addi c0_i32_310 v391
  let c1_i32_277 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v356 : BitVec 32 := Scalar.subi c1_i32_277 v5
  let c2_i32_311 : BitVec 32 := 2#32
  let v393 : BitVec 32 := Scalar.muli v356 c2_i32_311
  let v394 : BitVec 32 := Scalar.addi v392 v393
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v357 : BitVec 32 := Scalar.subi c1_i32_278 v8
  let c1_i32_312 : BitVec 32 := 1#32
  let v395 : BitVec 32 := Scalar.muli v357 c1_i32_312
  let v396 : BitVec 32 := Scalar.addi v394 v395
  v396.toNat
def k0_off25 (d0 : Dev nD) : Fin 3 → Nat :=
  let c4_i32_279 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v358 : BitVec 32 := Scalar.muli c4_i32_279 v2
  let c2_i32_280 : BitVec 32 := 2#32
  let c1_i32_277 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v356 : BitVec 32 := Scalar.subi c1_i32_277 v5
  let v359 : BitVec 32 := Scalar.muli c2_i32_280 v356
  let v360 : BitVec 32 := Scalar.addi v358 v359
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v357 : BitVec 32 := Scalar.subi c1_i32_278 v8
  let v361 : BitVec 32 := Scalar.addi v360 v357
  let c0_i32_327 : BitVec 32 := 0#32
  let c0_i32_328 : BitVec 32 := 0#32
  ![v361.toNat, 0, 0]
def k0_dev26 (d0 : Dev nD) : Nat :=
  let c0_i32_322 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_321 : BitVec 32 := 4#32
  let v405 : BitVec 32 := Scalar.muli v2 c4_i32_321
  let v406 : BitVec 32 := Scalar.addi c0_i32_322 v405
  let c1_i32_277 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v356 : BitVec 32 := Scalar.subi c1_i32_277 v5
  let c2_i32_323 : BitVec 32 := 2#32
  let v407 : BitVec 32 := Scalar.muli v356 c2_i32_323
  let v408 : BitVec 32 := Scalar.addi v406 v407
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v357 : BitVec 32 := Scalar.subi c1_i32_278 v8
  let c1_i32_324 : BitVec 32 := 1#32
  let v409 : BitVec 32 := Scalar.muli v357 c1_i32_324
  let v410 : BitVec 32 := Scalar.addi v408 v409
  v410.toNat
def k0_off26 (d0 : Dev nD) : Fin 3 → Nat :=
  let c4_i32_279 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v358 : BitVec 32 := Scalar.muli c4_i32_279 v2
  let c2_i32_280 : BitVec 32 := 2#32
  let c1_i32_277 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v356 : BitVec 32 := Scalar.subi c1_i32_277 v5
  let v359 : BitVec 32 := Scalar.muli c2_i32_280 v356
  let v360 : BitVec 32 := Scalar.addi v358 v359
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v357 : BitVec 32 := Scalar.subi c1_i32_278 v8
  let v361 : BitVec 32 := Scalar.addi v360 v357
  let c0_i32_339 : BitVec 32 := 0#32
  let c0_i32_340 : BitVec 32 := 0#32
  ![v361.toNat, 0, 0]
def k0_dev27 (d0 : Dev nD) : Nat :=
  let c0_i32_334 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_333 : BitVec 32 := 4#32
  let v419 : BitVec 32 := Scalar.muli v2 c4_i32_333
  let v420 : BitVec 32 := Scalar.addi c0_i32_334 v419
  let c1_i32_277 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v356 : BitVec 32 := Scalar.subi c1_i32_277 v5
  let c2_i32_335 : BitVec 32 := 2#32
  let v421 : BitVec 32 := Scalar.muli v356 c2_i32_335
  let v422 : BitVec 32 := Scalar.addi v420 v421
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v357 : BitVec 32 := Scalar.subi c1_i32_278 v8
  let c1_i32_336 : BitVec 32 := 1#32
  let v423 : BitVec 32 := Scalar.muli v357 c1_i32_336
  let v424 : BitVec 32 := Scalar.addi v422 v423
  v424.toNat
def k0_mult6 (d0 : Dev nD) : BitVec 32 :=
  let c4_i32_343 : BitVec 32 := 4#32
  let c1_i32_341 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v433 : BitVec 32 := Scalar.subi c1_i32_341 v2
  let v435 : BitVec 32 := Scalar.muli c4_i32_343 v433
  let c2_i32_344 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v436 : BitVec 32 := Scalar.muli c2_i32_344 v5
  let v437 : BitVec 32 := Scalar.addi v435 v436
  let c1_i32_342 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v434 : BitVec 32 := Scalar.subi c1_i32_342 v8
  let v438 : BitVec 32 := Scalar.addi v437 v434
  let c384_i32_345 : BitVec 32 := 384#32
  let v439 : BitVec 32 := Scalar.muli v438 c384_i32_345
  v439
def k0_off27 (d0 : Dev nD) : Fin 2 → Nat :=
  let c0_i32_356 : BitVec 32 := 0#32
  let c4_i32_343 : BitVec 32 := 4#32
  let c1_i32_341 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v433 : BitVec 32 := Scalar.subi c1_i32_341 v2
  let v435 : BitVec 32 := Scalar.muli c4_i32_343 v433
  let c2_i32_344 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v436 : BitVec 32 := Scalar.muli c2_i32_344 v5
  let v437 : BitVec 32 := Scalar.addi v435 v436
  let c1_i32_342 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v434 : BitVec 32 := Scalar.subi c1_i32_342 v8
  let v438 : BitVec 32 := Scalar.addi v437 v434
  let c384_i32_345 : BitVec 32 := 384#32
  let v439 : BitVec 32 := Scalar.muli v438 c384_i32_345
  let v440 : BitVec 32 := v439
  ![0, v440.toNat]
def k0_dev28 (d0 : Dev nD) : Nat :=
  let c0_i32_351 : BitVec 32 := 0#32
  let c1_i32_341 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v433 : BitVec 32 := Scalar.subi c1_i32_341 v2
  let c4_i32_350 : BitVec 32 := 4#32
  let v441 : BitVec 32 := Scalar.muli v433 c4_i32_350
  let v442 : BitVec 32 := Scalar.addi c0_i32_351 v441
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_352 : BitVec 32 := 2#32
  let v443 : BitVec 32 := Scalar.muli v5 c2_i32_352
  let v444 : BitVec 32 := Scalar.addi v442 v443
  let c1_i32_342 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v434 : BitVec 32 := Scalar.subi c1_i32_342 v8
  let c1_i32_353 : BitVec 32 := 1#32
  let v445 : BitVec 32 := Scalar.muli v434 c1_i32_353
  let v446 : BitVec 32 := Scalar.addi v444 v445
  v446.toNat
def k0_off28 (d0 : Dev nD) : Fin 3 → Nat :=
  let c4_i32_343 : BitVec 32 := 4#32
  let c1_i32_341 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v433 : BitVec 32 := Scalar.subi c1_i32_341 v2
  let v435 : BitVec 32 := Scalar.muli c4_i32_343 v433
  let c2_i32_344 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v436 : BitVec 32 := Scalar.muli c2_i32_344 v5
  let v437 : BitVec 32 := Scalar.addi v435 v436
  let c1_i32_342 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v434 : BitVec 32 := Scalar.subi c1_i32_342 v8
  let v438 : BitVec 32 := Scalar.addi v437 v434
  let c0_i32_367 : BitVec 32 := 0#32
  let c0_i32_368 : BitVec 32 := 0#32
  ![v438.toNat, 0, 0]
def k0_dev29 (d0 : Dev nD) : Nat :=
  let c0_i32_362 : BitVec 32 := 0#32
  let c1_i32_341 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v433 : BitVec 32 := Scalar.subi c1_i32_341 v2
  let c4_i32_361 : BitVec 32 := 4#32
  let v454 : BitVec 32 := Scalar.muli v433 c4_i32_361
  let v455 : BitVec 32 := Scalar.addi c0_i32_362 v454
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_363 : BitVec 32 := 2#32
  let v456 : BitVec 32 := Scalar.muli v5 c2_i32_363
  let v457 : BitVec 32 := Scalar.addi v455 v456
  let c1_i32_342 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v434 : BitVec 32 := Scalar.subi c1_i32_342 v8
  let c1_i32_364 : BitVec 32 := 1#32
  let v458 : BitVec 32 := Scalar.muli v434 c1_i32_364
  let v459 : BitVec 32 := Scalar.addi v457 v458
  v459.toNat
def k0_off29 (d0 : Dev nD) : Fin 3 → Nat :=
  let c4_i32_343 : BitVec 32 := 4#32
  let c1_i32_341 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v433 : BitVec 32 := Scalar.subi c1_i32_341 v2
  let v435 : BitVec 32 := Scalar.muli c4_i32_343 v433
  let c2_i32_344 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v436 : BitVec 32 := Scalar.muli c2_i32_344 v5
  let v437 : BitVec 32 := Scalar.addi v435 v436
  let c1_i32_342 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v434 : BitVec 32 := Scalar.subi c1_i32_342 v8
  let v438 : BitVec 32 := Scalar.addi v437 v434
  let c0_i32_379 : BitVec 32 := 0#32
  let c0_i32_380 : BitVec 32 := 0#32
  ![v438.toNat, 0, 0]
def k0_dev30 (d0 : Dev nD) : Nat :=
  let c0_i32_374 : BitVec 32 := 0#32
  let c1_i32_341 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v433 : BitVec 32 := Scalar.subi c1_i32_341 v2
  let c4_i32_373 : BitVec 32 := 4#32
  let v468 : BitVec 32 := Scalar.muli v433 c4_i32_373
  let v469 : BitVec 32 := Scalar.addi c0_i32_374 v468
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_375 : BitVec 32 := 2#32
  let v470 : BitVec 32 := Scalar.muli v5 c2_i32_375
  let v471 : BitVec 32 := Scalar.addi v469 v470
  let c1_i32_342 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v434 : BitVec 32 := Scalar.subi c1_i32_342 v8
  let c1_i32_376 : BitVec 32 := 1#32
  let v472 : BitVec 32 := Scalar.muli v434 c1_i32_376
  let v473 : BitVec 32 := Scalar.addi v471 v472
  v473.toNat
def k0_off30 (d0 : Dev nD) : Fin 3 → Nat :=
  let c4_i32_343 : BitVec 32 := 4#32
  let c1_i32_341 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v433 : BitVec 32 := Scalar.subi c1_i32_341 v2
  let v435 : BitVec 32 := Scalar.muli c4_i32_343 v433
  let c2_i32_344 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v436 : BitVec 32 := Scalar.muli c2_i32_344 v5
  let v437 : BitVec 32 := Scalar.addi v435 v436
  let c1_i32_342 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v434 : BitVec 32 := Scalar.subi c1_i32_342 v8
  let v438 : BitVec 32 := Scalar.addi v437 v434
  let c0_i32_391 : BitVec 32 := 0#32
  let c0_i32_392 : BitVec 32 := 0#32
  ![v438.toNat, 0, 0]
def k0_dev31 (d0 : Dev nD) : Nat :=
  let c0_i32_386 : BitVec 32 := 0#32
  let c1_i32_341 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v433 : BitVec 32 := Scalar.subi c1_i32_341 v2
  let c4_i32_385 : BitVec 32 := 4#32
  let v482 : BitVec 32 := Scalar.muli v433 c4_i32_385
  let v483 : BitVec 32 := Scalar.addi c0_i32_386 v482
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_387 : BitVec 32 := 2#32
  let v484 : BitVec 32 := Scalar.muli v5 c2_i32_387
  let v485 : BitVec 32 := Scalar.addi v483 v484
  let c1_i32_342 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v434 : BitVec 32 := Scalar.subi c1_i32_342 v8
  let c1_i32_388 : BitVec 32 := 1#32
  let v486 : BitVec 32 := Scalar.muli v434 c1_i32_388
  let v487 : BitVec 32 := Scalar.addi v485 v486
  v487.toNat
def k0_off31 (d0 : Dev nD) : Fin 3 → Nat :=
  let c4_i32_343 : BitVec 32 := 4#32
  let c1_i32_341 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v433 : BitVec 32 := Scalar.subi c1_i32_341 v2
  let v435 : BitVec 32 := Scalar.muli c4_i32_343 v433
  let c2_i32_344 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v436 : BitVec 32 := Scalar.muli c2_i32_344 v5
  let v437 : BitVec 32 := Scalar.addi v435 v436
  let c1_i32_342 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v434 : BitVec 32 := Scalar.subi c1_i32_342 v8
  let v438 : BitVec 32 := Scalar.addi v437 v434
  let c0_i32_403 : BitVec 32 := 0#32
  let c0_i32_404 : BitVec 32 := 0#32
  ![v438.toNat, 0, 0]
def k0_dev32 (d0 : Dev nD) : Nat :=
  let c0_i32_398 : BitVec 32 := 0#32
  let c1_i32_341 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v433 : BitVec 32 := Scalar.subi c1_i32_341 v2
  let c4_i32_397 : BitVec 32 := 4#32
  let v496 : BitVec 32 := Scalar.muli v433 c4_i32_397
  let v497 : BitVec 32 := Scalar.addi c0_i32_398 v496
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_399 : BitVec 32 := 2#32
  let v498 : BitVec 32 := Scalar.muli v5 c2_i32_399
  let v499 : BitVec 32 := Scalar.addi v497 v498
  let c1_i32_342 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v434 : BitVec 32 := Scalar.subi c1_i32_342 v8
  let c1_i32_400 : BitVec 32 := 1#32
  let v500 : BitVec 32 := Scalar.muli v434 c1_i32_400
  let v501 : BitVec 32 := Scalar.addi v499 v500
  v501.toNat
def k0_mult7 (d0 : Dev nD) : BitVec 32 :=
  let c4_i32_408 : BitVec 32 := 4#32
  let c1_i32_405 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v510 : BitVec 32 := Scalar.subi c1_i32_405 v2
  let v513 : BitVec 32 := Scalar.muli c4_i32_408 v510
  let c2_i32_409 : BitVec 32 := 2#32
  let c1_i32_406 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v511 : BitVec 32 := Scalar.subi c1_i32_406 v5
  let v514 : BitVec 32 := Scalar.muli c2_i32_409 v511
  let v515 : BitVec 32 := Scalar.addi v513 v514
  let c1_i32_407 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v512 : BitVec 32 := Scalar.subi c1_i32_407 v8
  let v516 : BitVec 32 := Scalar.addi v515 v512
  let c384_i32_410 : BitVec 32 := 384#32
  let v517 : BitVec 32 := Scalar.muli v516 c384_i32_410
  v517
def k0_off32 (d0 : Dev nD) : Fin 2 → Nat :=
  let c0_i32_420 : BitVec 32 := 0#32
  let c4_i32_408 : BitVec 32 := 4#32
  let c1_i32_405 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v510 : BitVec 32 := Scalar.subi c1_i32_405 v2
  let v513 : BitVec 32 := Scalar.muli c4_i32_408 v510
  let c2_i32_409 : BitVec 32 := 2#32
  let c1_i32_406 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v511 : BitVec 32 := Scalar.subi c1_i32_406 v5
  let v514 : BitVec 32 := Scalar.muli c2_i32_409 v511
  let v515 : BitVec 32 := Scalar.addi v513 v514
  let c1_i32_407 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v512 : BitVec 32 := Scalar.subi c1_i32_407 v8
  let v516 : BitVec 32 := Scalar.addi v515 v512
  let c384_i32_410 : BitVec 32 := 384#32
  let v517 : BitVec 32 := Scalar.muli v516 c384_i32_410
  let v518 : BitVec 32 := v517
  ![0, v518.toNat]
def k0_dev33 (d0 : Dev nD) : Nat :=
  let c0_i32_415 : BitVec 32 := 0#32
  let c1_i32_405 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v510 : BitVec 32 := Scalar.subi c1_i32_405 v2
  let c4_i32_414 : BitVec 32 := 4#32
  let v519 : BitVec 32 := Scalar.muli v510 c4_i32_414
  let v520 : BitVec 32 := Scalar.addi c0_i32_415 v519
  let c1_i32_406 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v511 : BitVec 32 := Scalar.subi c1_i32_406 v5
  let c2_i32_416 : BitVec 32 := 2#32
  let v521 : BitVec 32 := Scalar.muli v511 c2_i32_416
  let v522 : BitVec 32 := Scalar.addi v520 v521
  let c1_i32_407 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v512 : BitVec 32 := Scalar.subi c1_i32_407 v8
  let c1_i32_417 : BitVec 32 := 1#32
  let v523 : BitVec 32 := Scalar.muli v512 c1_i32_417
  let v524 : BitVec 32 := Scalar.addi v522 v523
  v524.toNat
def k0_off33 (d0 : Dev nD) : Fin 3 → Nat :=
  let c4_i32_408 : BitVec 32 := 4#32
  let c1_i32_405 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v510 : BitVec 32 := Scalar.subi c1_i32_405 v2
  let v513 : BitVec 32 := Scalar.muli c4_i32_408 v510
  let c2_i32_409 : BitVec 32 := 2#32
  let c1_i32_406 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v511 : BitVec 32 := Scalar.subi c1_i32_406 v5
  let v514 : BitVec 32 := Scalar.muli c2_i32_409 v511
  let v515 : BitVec 32 := Scalar.addi v513 v514
  let c1_i32_407 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v512 : BitVec 32 := Scalar.subi c1_i32_407 v8
  let v516 : BitVec 32 := Scalar.addi v515 v512
  let c0_i32_431 : BitVec 32 := 0#32
  let c0_i32_432 : BitVec 32 := 0#32
  ![v516.toNat, 0, 0]
def k0_dev34 (d0 : Dev nD) : Nat :=
  let c0_i32_426 : BitVec 32 := 0#32
  let c1_i32_405 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v510 : BitVec 32 := Scalar.subi c1_i32_405 v2
  let c4_i32_425 : BitVec 32 := 4#32
  let v532 : BitVec 32 := Scalar.muli v510 c4_i32_425
  let v533 : BitVec 32 := Scalar.addi c0_i32_426 v532
  let c1_i32_406 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v511 : BitVec 32 := Scalar.subi c1_i32_406 v5
  let c2_i32_427 : BitVec 32 := 2#32
  let v534 : BitVec 32 := Scalar.muli v511 c2_i32_427
  let v535 : BitVec 32 := Scalar.addi v533 v534
  let c1_i32_407 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v512 : BitVec 32 := Scalar.subi c1_i32_407 v8
  let c1_i32_428 : BitVec 32 := 1#32
  let v536 : BitVec 32 := Scalar.muli v512 c1_i32_428
  let v537 : BitVec 32 := Scalar.addi v535 v536
  v537.toNat
def k0_off34 (d0 : Dev nD) : Fin 3 → Nat :=
  let c4_i32_408 : BitVec 32 := 4#32
  let c1_i32_405 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v510 : BitVec 32 := Scalar.subi c1_i32_405 v2
  let v513 : BitVec 32 := Scalar.muli c4_i32_408 v510
  let c2_i32_409 : BitVec 32 := 2#32
  let c1_i32_406 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v511 : BitVec 32 := Scalar.subi c1_i32_406 v5
  let v514 : BitVec 32 := Scalar.muli c2_i32_409 v511
  let v515 : BitVec 32 := Scalar.addi v513 v514
  let c1_i32_407 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v512 : BitVec 32 := Scalar.subi c1_i32_407 v8
  let v516 : BitVec 32 := Scalar.addi v515 v512
  let c0_i32_443 : BitVec 32 := 0#32
  let c0_i32_444 : BitVec 32 := 0#32
  ![v516.toNat, 0, 0]
def k0_dev35 (d0 : Dev nD) : Nat :=
  let c0_i32_438 : BitVec 32 := 0#32
  let c1_i32_405 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v510 : BitVec 32 := Scalar.subi c1_i32_405 v2
  let c4_i32_437 : BitVec 32 := 4#32
  let v546 : BitVec 32 := Scalar.muli v510 c4_i32_437
  let v547 : BitVec 32 := Scalar.addi c0_i32_438 v546
  let c1_i32_406 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v511 : BitVec 32 := Scalar.subi c1_i32_406 v5
  let c2_i32_439 : BitVec 32 := 2#32
  let v548 : BitVec 32 := Scalar.muli v511 c2_i32_439
  let v549 : BitVec 32 := Scalar.addi v547 v548
  let c1_i32_407 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v512 : BitVec 32 := Scalar.subi c1_i32_407 v8
  let c1_i32_440 : BitVec 32 := 1#32
  let v550 : BitVec 32 := Scalar.muli v512 c1_i32_440
  let v551 : BitVec 32 := Scalar.addi v549 v550
  v551.toNat
def k0_off35 (d0 : Dev nD) : Fin 3 → Nat :=
  let c4_i32_408 : BitVec 32 := 4#32
  let c1_i32_405 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v510 : BitVec 32 := Scalar.subi c1_i32_405 v2
  let v513 : BitVec 32 := Scalar.muli c4_i32_408 v510
  let c2_i32_409 : BitVec 32 := 2#32
  let c1_i32_406 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v511 : BitVec 32 := Scalar.subi c1_i32_406 v5
  let v514 : BitVec 32 := Scalar.muli c2_i32_409 v511
  let v515 : BitVec 32 := Scalar.addi v513 v514
  let c1_i32_407 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v512 : BitVec 32 := Scalar.subi c1_i32_407 v8
  let v516 : BitVec 32 := Scalar.addi v515 v512
  let c0_i32_455 : BitVec 32 := 0#32
  let c0_i32_456 : BitVec 32 := 0#32
  ![v516.toNat, 0, 0]
def k0_dev36 (d0 : Dev nD) : Nat :=
  let c0_i32_450 : BitVec 32 := 0#32
  let c1_i32_405 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v510 : BitVec 32 := Scalar.subi c1_i32_405 v2
  let c4_i32_449 : BitVec 32 := 4#32
  let v560 : BitVec 32 := Scalar.muli v510 c4_i32_449
  let v561 : BitVec 32 := Scalar.addi c0_i32_450 v560
  let c1_i32_406 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v511 : BitVec 32 := Scalar.subi c1_i32_406 v5
  let c2_i32_451 : BitVec 32 := 2#32
  let v562 : BitVec 32 := Scalar.muli v511 c2_i32_451
  let v563 : BitVec 32 := Scalar.addi v561 v562
  let c1_i32_407 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v512 : BitVec 32 := Scalar.subi c1_i32_407 v8
  let c1_i32_452 : BitVec 32 := 1#32
  let v564 : BitVec 32 := Scalar.muli v512 c1_i32_452
  let v565 : BitVec 32 := Scalar.addi v563 v564
  v565.toNat
def k0_off36 (d0 : Dev nD) : Fin 3 → Nat :=
  let c4_i32_408 : BitVec 32 := 4#32
  let c1_i32_405 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v510 : BitVec 32 := Scalar.subi c1_i32_405 v2
  let v513 : BitVec 32 := Scalar.muli c4_i32_408 v510
  let c2_i32_409 : BitVec 32 := 2#32
  let c1_i32_406 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v511 : BitVec 32 := Scalar.subi c1_i32_406 v5
  let v514 : BitVec 32 := Scalar.muli c2_i32_409 v511
  let v515 : BitVec 32 := Scalar.addi v513 v514
  let c1_i32_407 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v512 : BitVec 32 := Scalar.subi c1_i32_407 v8
  let v516 : BitVec 32 := Scalar.addi v515 v512
  let c0_i32_467 : BitVec 32 := 0#32
  let c0_i32_468 : BitVec 32 := 0#32
  ![v516.toNat, 0, 0]
def k0_dev37 (d0 : Dev nD) : Nat :=
  let c0_i32_462 : BitVec 32 := 0#32
  let c1_i32_405 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v510 : BitVec 32 := Scalar.subi c1_i32_405 v2
  let c4_i32_461 : BitVec 32 := 4#32
  let v574 : BitVec 32 := Scalar.muli v510 c4_i32_461
  let v575 : BitVec 32 := Scalar.addi c0_i32_462 v574
  let c1_i32_406 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v511 : BitVec 32 := Scalar.subi c1_i32_406 v5
  let c2_i32_463 : BitVec 32 := 2#32
  let v576 : BitVec 32 := Scalar.muli v511 c2_i32_463
  let v577 : BitVec 32 := Scalar.addi v575 v576
  let c1_i32_407 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v512 : BitVec 32 := Scalar.subi c1_i32_407 v8
  let c1_i32_464 : BitVec 32 := 1#32
  let v578 : BitVec 32 := Scalar.muli v512 c1_i32_464
  let v579 : BitVec 32 := Scalar.addi v577 v578
  v579.toNat
def k0_mult8 (d0 : Dev nD) : BitVec 32 :=
  let c4_i32_470 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v589 : BitVec 32 := Scalar.muli c4_i32_470 v2
  let c2_i32_471 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v590 : BitVec 32 := Scalar.muli c2_i32_471 v5
  let v591 : BitVec 32 := Scalar.addi v589 v590
  let c1_i32_469 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v588 : BitVec 32 := Scalar.subi c1_i32_469 v8
  let v592 : BitVec 32 := Scalar.addi v591 v588
  let c384_i32_472 : BitVec 32 := 384#32
  let v593 : BitVec 32 := Scalar.muli v592 c384_i32_472
  v593
def k0_off37 (d0 : Dev nD) : Fin 2 → Nat :=
  let c0_i32_483 : BitVec 32 := 0#32
  let c4_i32_470 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v589 : BitVec 32 := Scalar.muli c4_i32_470 v2
  let c2_i32_471 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v590 : BitVec 32 := Scalar.muli c2_i32_471 v5
  let v591 : BitVec 32 := Scalar.addi v589 v590
  let c1_i32_469 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v588 : BitVec 32 := Scalar.subi c1_i32_469 v8
  let v592 : BitVec 32 := Scalar.addi v591 v588
  let c384_i32_472 : BitVec 32 := 384#32
  let v593 : BitVec 32 := Scalar.muli v592 c384_i32_472
  let v594 : BitVec 32 := v593
  ![0, v594.toNat]
def k0_dev38 (d0 : Dev nD) : Nat :=
  let c0_i32_478 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_477 : BitVec 32 := 4#32
  let v595 : BitVec 32 := Scalar.muli v2 c4_i32_477
  let v596 : BitVec 32 := Scalar.addi c0_i32_478 v595
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_479 : BitVec 32 := 2#32
  let v597 : BitVec 32 := Scalar.muli v5 c2_i32_479
  let v598 : BitVec 32 := Scalar.addi v596 v597
  let c1_i32_469 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v588 : BitVec 32 := Scalar.subi c1_i32_469 v8
  let c1_i32_480 : BitVec 32 := 1#32
  let v599 : BitVec 32 := Scalar.muli v588 c1_i32_480
  let v600 : BitVec 32 := Scalar.addi v598 v599
  v600.toNat
def k0_off38 (d0 : Dev nD) : Fin 3 → Nat :=
  let c4_i32_470 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v589 : BitVec 32 := Scalar.muli c4_i32_470 v2
  let c2_i32_471 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v590 : BitVec 32 := Scalar.muli c2_i32_471 v5
  let v591 : BitVec 32 := Scalar.addi v589 v590
  let c1_i32_469 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v588 : BitVec 32 := Scalar.subi c1_i32_469 v8
  let v592 : BitVec 32 := Scalar.addi v591 v588
  let c0_i32_494 : BitVec 32 := 0#32
  let c0_i32_495 : BitVec 32 := 0#32
  ![v592.toNat, 0, 0]
def k0_dev39 (d0 : Dev nD) : Nat :=
  let c0_i32_489 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_488 : BitVec 32 := 4#32
  let v608 : BitVec 32 := Scalar.muli v2 c4_i32_488
  let v609 : BitVec 32 := Scalar.addi c0_i32_489 v608
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_490 : BitVec 32 := 2#32
  let v610 : BitVec 32 := Scalar.muli v5 c2_i32_490
  let v611 : BitVec 32 := Scalar.addi v609 v610
  let c1_i32_469 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v588 : BitVec 32 := Scalar.subi c1_i32_469 v8
  let c1_i32_491 : BitVec 32 := 1#32
  let v612 : BitVec 32 := Scalar.muli v588 c1_i32_491
  let v613 : BitVec 32 := Scalar.addi v611 v612
  v613.toNat
def k0_off39 (d0 : Dev nD) : Fin 3 → Nat :=
  let c4_i32_470 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v589 : BitVec 32 := Scalar.muli c4_i32_470 v2
  let c2_i32_471 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v590 : BitVec 32 := Scalar.muli c2_i32_471 v5
  let v591 : BitVec 32 := Scalar.addi v589 v590
  let c1_i32_469 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v588 : BitVec 32 := Scalar.subi c1_i32_469 v8
  let v592 : BitVec 32 := Scalar.addi v591 v588
  let c0_i32_506 : BitVec 32 := 0#32
  let c0_i32_507 : BitVec 32 := 0#32
  ![v592.toNat, 0, 0]
def k0_dev40 (d0 : Dev nD) : Nat :=
  let c0_i32_501 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_500 : BitVec 32 := 4#32
  let v622 : BitVec 32 := Scalar.muli v2 c4_i32_500
  let v623 : BitVec 32 := Scalar.addi c0_i32_501 v622
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_502 : BitVec 32 := 2#32
  let v624 : BitVec 32 := Scalar.muli v5 c2_i32_502
  let v625 : BitVec 32 := Scalar.addi v623 v624
  let c1_i32_469 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v588 : BitVec 32 := Scalar.subi c1_i32_469 v8
  let c1_i32_503 : BitVec 32 := 1#32
  let v626 : BitVec 32 := Scalar.muli v588 c1_i32_503
  let v627 : BitVec 32 := Scalar.addi v625 v626
  v627.toNat
def k0_off40 (d0 : Dev nD) : Fin 3 → Nat :=
  let c4_i32_470 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v589 : BitVec 32 := Scalar.muli c4_i32_470 v2
  let c2_i32_471 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v590 : BitVec 32 := Scalar.muli c2_i32_471 v5
  let v591 : BitVec 32 := Scalar.addi v589 v590
  let c1_i32_469 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v588 : BitVec 32 := Scalar.subi c1_i32_469 v8
  let v592 : BitVec 32 := Scalar.addi v591 v588
  let c0_i32_518 : BitVec 32 := 0#32
  let c0_i32_519 : BitVec 32 := 0#32
  ![v592.toNat, 0, 0]
def k0_dev41 (d0 : Dev nD) : Nat :=
  let c0_i32_513 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_512 : BitVec 32 := 4#32
  let v636 : BitVec 32 := Scalar.muli v2 c4_i32_512
  let v637 : BitVec 32 := Scalar.addi c0_i32_513 v636
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_514 : BitVec 32 := 2#32
  let v638 : BitVec 32 := Scalar.muli v5 c2_i32_514
  let v639 : BitVec 32 := Scalar.addi v637 v638
  let c1_i32_469 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v588 : BitVec 32 := Scalar.subi c1_i32_469 v8
  let c1_i32_515 : BitVec 32 := 1#32
  let v640 : BitVec 32 := Scalar.muli v588 c1_i32_515
  let v641 : BitVec 32 := Scalar.addi v639 v640
  v641.toNat
def k0_off41 (d0 : Dev nD) : Fin 3 → Nat :=
  let c4_i32_470 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v589 : BitVec 32 := Scalar.muli c4_i32_470 v2
  let c2_i32_471 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v590 : BitVec 32 := Scalar.muli c2_i32_471 v5
  let v591 : BitVec 32 := Scalar.addi v589 v590
  let c1_i32_469 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v588 : BitVec 32 := Scalar.subi c1_i32_469 v8
  let v592 : BitVec 32 := Scalar.addi v591 v588
  let c0_i32_530 : BitVec 32 := 0#32
  let c0_i32_531 : BitVec 32 := 0#32
  ![v592.toNat, 0, 0]
def k0_dev42 (d0 : Dev nD) : Nat :=
  let c0_i32_525 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_524 : BitVec 32 := 4#32
  let v650 : BitVec 32 := Scalar.muli v2 c4_i32_524
  let v651 : BitVec 32 := Scalar.addi c0_i32_525 v650
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_526 : BitVec 32 := 2#32
  let v652 : BitVec 32 := Scalar.muli v5 c2_i32_526
  let v653 : BitVec 32 := Scalar.addi v651 v652
  let c1_i32_469 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v588 : BitVec 32 := Scalar.subi c1_i32_469 v8
  let c1_i32_527 : BitVec 32 := 1#32
  let v654 : BitVec 32 := Scalar.muli v588 c1_i32_527
  let v655 : BitVec 32 := Scalar.addi v653 v654
  v655.toNat
def k0_mult9 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_535 : BitVec 32 := 384#32
  let v669 : BitVec 32 := Scalar.muli v12 c384_i32_535
  v669
def k0_off42 (d0 : Dev nD) : Fin 3 → Nat :=
  let c4_i32_533 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v665 : BitVec 32 := Scalar.muli c4_i32_533 v2
  let c2_i32_534 : BitVec 32 := 2#32
  let c1_i32_532 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v664 : BitVec 32 := Scalar.subi c1_i32_532 v5
  let v666 : BitVec 32 := Scalar.muli c2_i32_534 v664
  let v667 : BitVec 32 := Scalar.addi v665 v666
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v668 : BitVec 32 := Scalar.addi v667 v8
  let c0_i32_544 : BitVec 32 := 0#32
  let c0_i32_545 : BitVec 32 := 0#32
  ![v668.toNat, 0, 0]
def k0_mult10 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_598 : BitVec 32 := 384#32
  let v735 : BitVec 32 := Scalar.muli v12 c384_i32_598
  v735
def k0_off43 (d0 : Dev nD) : Fin 3 → Nat :=
  let c4_i32_596 : BitVec 32 := 4#32
  let c1_i32_595 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v730 : BitVec 32 := Scalar.subi c1_i32_595 v2
  let v731 : BitVec 32 := Scalar.muli c4_i32_596 v730
  let c2_i32_597 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v732 : BitVec 32 := Scalar.muli c2_i32_597 v5
  let v733 : BitVec 32 := Scalar.addi v731 v732
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v734 : BitVec 32 := Scalar.addi v733 v8
  let c0_i32_607 : BitVec 32 := 0#32
  let c0_i32_608 : BitVec 32 := 0#32
  ![v734.toNat, 0, 0]
def k0_mult11 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_662 : BitVec 32 := 384#32
  let v802 : BitVec 32 := Scalar.muli v12 c384_i32_662
  v802
def k0_off44 (d0 : Dev nD) : Fin 3 → Nat :=
  let c4_i32_660 : BitVec 32 := 4#32
  let c1_i32_658 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v796 : BitVec 32 := Scalar.subi c1_i32_658 v2
  let v798 : BitVec 32 := Scalar.muli c4_i32_660 v796
  let c2_i32_661 : BitVec 32 := 2#32
  let c1_i32_659 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v797 : BitVec 32 := Scalar.subi c1_i32_659 v5
  let v799 : BitVec 32 := Scalar.muli c2_i32_661 v797
  let v800 : BitVec 32 := Scalar.addi v798 v799
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v801 : BitVec 32 := Scalar.addi v800 v8
  let c0_i32_671 : BitVec 32 := 0#32
  let c0_i32_672 : BitVec 32 := 0#32
  ![v801.toNat, 0, 0]
def k0_mult12 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_726 : BitVec 32 := 384#32
  let v869 : BitVec 32 := Scalar.muli v12 c384_i32_726
  v869
def k0_off45 (d0 : Dev nD) : Fin 3 → Nat :=
  let c4_i32_724 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v865 : BitVec 32 := Scalar.muli c4_i32_724 v2
  let c2_i32_725 : BitVec 32 := 2#32
  let c1_i32_722 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v863 : BitVec 32 := Scalar.subi c1_i32_722 v5
  let v866 : BitVec 32 := Scalar.muli c2_i32_725 v863
  let v867 : BitVec 32 := Scalar.addi v865 v866
  let c1_i32_723 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v864 : BitVec 32 := Scalar.subi c1_i32_723 v8
  let v868 : BitVec 32 := Scalar.addi v867 v864
  let c0_i32_735 : BitVec 32 := 0#32
  let c0_i32_736 : BitVec 32 := 0#32
  ![v868.toNat, 0, 0]
def k0_mult13 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_790 : BitVec 32 := 384#32
  let v936 : BitVec 32 := Scalar.muli v12 c384_i32_790
  v936
def k0_off46 (d0 : Dev nD) : Fin 3 → Nat :=
  let c4_i32_788 : BitVec 32 := 4#32
  let c1_i32_786 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v930 : BitVec 32 := Scalar.subi c1_i32_786 v2
  let v932 : BitVec 32 := Scalar.muli c4_i32_788 v930
  let c2_i32_789 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v933 : BitVec 32 := Scalar.muli c2_i32_789 v5
  let v934 : BitVec 32 := Scalar.addi v932 v933
  let c1_i32_787 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v931 : BitVec 32 := Scalar.subi c1_i32_787 v8
  let v935 : BitVec 32 := Scalar.addi v934 v931
  let c0_i32_799 : BitVec 32 := 0#32
  let c0_i32_800 : BitVec 32 := 0#32
  ![v935.toNat, 0, 0]
def k0_mult14 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_855 : BitVec 32 := 384#32
  let v1004 : BitVec 32 := Scalar.muli v12 c384_i32_855
  v1004
def k0_off47 (d0 : Dev nD) : Fin 3 → Nat :=
  let c4_i32_853 : BitVec 32 := 4#32
  let c1_i32_850 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v997 : BitVec 32 := Scalar.subi c1_i32_850 v2
  let v1000 : BitVec 32 := Scalar.muli c4_i32_853 v997
  let c2_i32_854 : BitVec 32 := 2#32
  let c1_i32_851 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v998 : BitVec 32 := Scalar.subi c1_i32_851 v5
  let v1001 : BitVec 32 := Scalar.muli c2_i32_854 v998
  let v1002 : BitVec 32 := Scalar.addi v1000 v1001
  let c1_i32_852 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v999 : BitVec 32 := Scalar.subi c1_i32_852 v8
  let v1003 : BitVec 32 := Scalar.addi v1002 v999
  let c0_i32_864 : BitVec 32 := 0#32
  let c0_i32_865 : BitVec 32 := 0#32
  ![v1003.toNat, 0, 0]
def k0_mult15 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_918 : BitVec 32 := 384#32
  let v1070 : BitVec 32 := Scalar.muli v12 c384_i32_918
  v1070
def k0_off48 (d0 : Dev nD) : Fin 3 → Nat :=
  let c4_i32_916 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1066 : BitVec 32 := Scalar.muli c4_i32_916 v2
  let c2_i32_917 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1067 : BitVec 32 := Scalar.muli c2_i32_917 v5
  let v1068 : BitVec 32 := Scalar.addi v1066 v1067
  let c1_i32_915 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1065 : BitVec 32 := Scalar.subi c1_i32_915 v8
  let v1069 : BitVec 32 := Scalar.addi v1068 v1065
  let c0_i32_927 : BitVec 32 := 0#32
  let c0_i32_928 : BitVec 32 := 0#32
  ![v1069.toNat, 0, 0]
def k0_mult16 (d0 : Dev nD) : BitVec 32 :=
  let c4_i32_979 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1132 : BitVec 32 := Scalar.muli c4_i32_979 v2
  let c2_i32_980 : BitVec 32 := 2#32
  let c1_i32_978 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1131 : BitVec 32 := Scalar.subi c1_i32_978 v5
  let v1133 : BitVec 32 := Scalar.muli c2_i32_980 v1131
  let v1134 : BitVec 32 := Scalar.addi v1132 v1133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1135 : BitVec 32 := Scalar.addi v1134 v8
  let c384_i32_981 : BitVec 32 := 384#32
  let v1136 : BitVec 32 := Scalar.muli v1135 c384_i32_981
  v1136
def k0_mult17 (d0 : Dev nD) : BitVec 32 :=
  let c4_i32_1027 : BitVec 32 := 4#32
  let c1_i32_1026 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1167 : BitVec 32 := Scalar.subi c1_i32_1026 v2
  let v1168 : BitVec 32 := Scalar.muli c4_i32_1027 v1167
  let c2_i32_1028 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1169 : BitVec 32 := Scalar.muli c2_i32_1028 v5
  let v1170 : BitVec 32 := Scalar.addi v1168 v1169
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1171 : BitVec 32 := Scalar.addi v1170 v8
  let c384_i32_1029 : BitVec 32 := 384#32
  let v1172 : BitVec 32 := Scalar.muli v1171 c384_i32_1029
  v1172
def k0_mult18 (d0 : Dev nD) : BitVec 32 :=
  let c4_i32_1076 : BitVec 32 := 4#32
  let c1_i32_1074 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1203 : BitVec 32 := Scalar.subi c1_i32_1074 v2
  let v1205 : BitVec 32 := Scalar.muli c4_i32_1076 v1203
  let c2_i32_1077 : BitVec 32 := 2#32
  let c1_i32_1075 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1204 : BitVec 32 := Scalar.subi c1_i32_1075 v5
  let v1206 : BitVec 32 := Scalar.muli c2_i32_1077 v1204
  let v1207 : BitVec 32 := Scalar.addi v1205 v1206
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1208 : BitVec 32 := Scalar.addi v1207 v8
  let c384_i32_1078 : BitVec 32 := 384#32
  let v1209 : BitVec 32 := Scalar.muli v1208 c384_i32_1078
  v1209
def k0_mult19 (d0 : Dev nD) : BitVec 32 :=
  let c4_i32_1125 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1242 : BitVec 32 := Scalar.muli c4_i32_1125 v2
  let c2_i32_1126 : BitVec 32 := 2#32
  let c1_i32_1123 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1240 : BitVec 32 := Scalar.subi c1_i32_1123 v5
  let v1243 : BitVec 32 := Scalar.muli c2_i32_1126 v1240
  let v1244 : BitVec 32 := Scalar.addi v1242 v1243
  let c1_i32_1124 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1241 : BitVec 32 := Scalar.subi c1_i32_1124 v8
  let v1245 : BitVec 32 := Scalar.addi v1244 v1241
  let c384_i32_1127 : BitVec 32 := 384#32
  let v1246 : BitVec 32 := Scalar.muli v1245 c384_i32_1127
  v1246
def k0_mult20 (d0 : Dev nD) : BitVec 32 :=
  let c4_i32_1174 : BitVec 32 := 4#32
  let c1_i32_1172 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1277 : BitVec 32 := Scalar.subi c1_i32_1172 v2
  let v1279 : BitVec 32 := Scalar.muli c4_i32_1174 v1277
  let c2_i32_1175 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1280 : BitVec 32 := Scalar.muli c2_i32_1175 v5
  let v1281 : BitVec 32 := Scalar.addi v1279 v1280
  let c1_i32_1173 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1278 : BitVec 32 := Scalar.subi c1_i32_1173 v8
  let v1282 : BitVec 32 := Scalar.addi v1281 v1278
  let c384_i32_1176 : BitVec 32 := 384#32
  let v1283 : BitVec 32 := Scalar.muli v1282 c384_i32_1176
  v1283
def k0_mult21 (d0 : Dev nD) : BitVec 32 :=
  let c4_i32_1224 : BitVec 32 := 4#32
  let c1_i32_1221 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1314 : BitVec 32 := Scalar.subi c1_i32_1221 v2
  let v1317 : BitVec 32 := Scalar.muli c4_i32_1224 v1314
  let c2_i32_1225 : BitVec 32 := 2#32
  let c1_i32_1222 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1315 : BitVec 32 := Scalar.subi c1_i32_1222 v5
  let v1318 : BitVec 32 := Scalar.muli c2_i32_1225 v1315
  let v1319 : BitVec 32 := Scalar.addi v1317 v1318
  let c1_i32_1223 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1316 : BitVec 32 := Scalar.subi c1_i32_1223 v8
  let v1320 : BitVec 32 := Scalar.addi v1319 v1316
  let c384_i32_1226 : BitVec 32 := 384#32
  let v1321 : BitVec 32 := Scalar.muli v1320 c384_i32_1226
  v1321
def k0_mult22 (d0 : Dev nD) : BitVec 32 :=
  let c4_i32_1272 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1353 : BitVec 32 := Scalar.muli c4_i32_1272 v2
  let c2_i32_1273 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1354 : BitVec 32 := Scalar.muli c2_i32_1273 v5
  let v1355 : BitVec 32 := Scalar.addi v1353 v1354
  let c1_i32_1271 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1352 : BitVec 32 := Scalar.subi c1_i32_1271 v8
  let v1356 : BitVec 32 := Scalar.addi v1355 v1352
  let c384_i32_1274 : BitVec 32 := 384#32
  let v1357 : BitVec 32 := Scalar.muli v1356 c384_i32_1274
  v1357
abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S8x1024x3072 : Shape := ⟨3, ![8, 1024, 3072]⟩
abbrev S8x8x128x1024 : Shape := ⟨4, ![8, 8, 128, 1024]⟩
abbrev S8x8x704x1024 : Shape := ⟨4, ![8, 8, 704, 1024]⟩
abbrev S8x8x352x1024 : Shape := ⟨4, ![8, 8, 352, 1024]⟩
abbrev S8x8x3x768 : Shape := ⟨4, ![8, 8, 3, 768]⟩
abbrev S8x1024x8x384 : Shape := ⟨4, ![8, 1024, 8, 384]⟩
abbrev S8x8x1024x384 : Shape := ⟨4, ![8, 8, 1024, 384]⟩

abbrev nBuf : Space → Nat
  | .hbm => 11
  | .vmem => 0
  | .smem => 0
  | _ => 0

abbrev bufTy : (tb : Table) → Fin (tcTables nBuf tb) → BufTy
  | .hbm, ⟨0, _⟩ => ⟨S8x1024x3072, .bf16⟩
  | .hbm, ⟨1, _⟩ => ⟨S8x8x128x1024, .bf16⟩
  | .hbm, ⟨2, _⟩ => ⟨S8x8x704x1024, .bf16⟩
  | .hbm, ⟨3, _⟩ => ⟨S8x8x352x1024, .bf16⟩
  | .hbm, ⟨4, _⟩ => ⟨S8x8x3x768, .f32⟩
  | .hbm, ⟨5, _⟩ => ⟨S8x1024x8x384, .bf16⟩
  | .hbm, ⟨6, _⟩ => ⟨S8x8x1024x384, .bf16⟩
  | .hbm, ⟨7, _⟩ => ⟨S8x8x128x1024, .bf16⟩
  | .hbm, ⟨8, _⟩ => ⟨S8x8x704x1024, .bf16⟩
  | .hbm, ⟨9, _⟩ => ⟨S8x8x352x1024, .bf16⟩
  | .hbm, ⟨10, _⟩ => ⟨S8x8x3x768, .f32⟩
  | _, _ => ⟨S8x1024x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Scatter0a.lean ====
abbrev S1x8x128x1024 : Shape := ⟨4, ![1, 8, 128, 1024]⟩
abbrev S1x8x704x1024 : Shape := ⟨4, ![1, 8, 704, 1024]⟩
abbrev S1x8x352x1024 : Shape := ⟨4, ![1, 8, 352, 1024]⟩
abbrev S8x128x1024 : Shape := ⟨3, ![8, 128, 1024]⟩
abbrev S8x704x1024 : Shape := ⟨3, ![8, 704, 1024]⟩
abbrev S8x352x1024 : Shape := ⟨3, ![8, 352, 1024]⟩
abbrev S3x7 : Shape := ⟨2, ![3, 7]⟩
abbrev S3 : Shape := ⟨1, ![3]⟩
abbrev S_ : Shape := ⟨0, ![]⟩
abbrev S1 : Shape := ⟨1, ![1]⟩
abbrev S1x128x1024 : Shape := ⟨3, ![1, 128, 1024]⟩
abbrev S128x1024 : Shape := ⟨2, ![128, 1024]⟩
abbrev S1x704x1024 : Shape := ⟨3, ![1, 704, 1024]⟩
abbrev S704x1024 : Shape := ⟨2, ![704, 1024]⟩
abbrev S1x352x1024 : Shape := ⟨3, ![1, 352, 1024]⟩
abbrev S352x1024 : Shape := ⟨2, ![352, 1024]⟩
abbrev S1x1 : Shape := ⟨2, ![1, 1]⟩

abbrev nBuf : Table → Nat
  | .hbm => 12
  | _ => 0

abbrev bufTy : (tb : Table) → Fin (nBuf tb) → BufTy
  | .hbm, ⟨0, _⟩ => ⟨S1x8x128x1024, .bf16⟩
  | .hbm, ⟨1, _⟩ => ⟨S1x8x704x1024, .bf16⟩
  | .hbm, ⟨2, _⟩ => ⟨S1x8x352x1024, .bf16⟩
  | .hbm, ⟨3, _⟩ => ⟨S8x128x1024, .bf16⟩
  | .hbm, ⟨4, _⟩ => ⟨S8x704x1024, .bf16⟩
  | .hbm, ⟨5, _⟩ => ⟨S8x352x1024, .bf16⟩
  | .hbm, ⟨6, _⟩ => ⟨S8x128x1024, .bf16⟩
  | .hbm, ⟨7, _⟩ => ⟨S8x704x1024, .bf16⟩
  | .hbm, ⟨8, _⟩ => ⟨S8x352x1024, .bf16⟩
  | .hbm, ⟨9, _⟩ => ⟨S1x8x128x1024, .bf16⟩
  | .hbm, ⟨10, _⟩ => ⟨S1x8x704x1024, .bf16⟩
  | .hbm, ⟨11, _⟩ => ⟨S1x8x352x1024, .bf16⟩
  | _, _ => ⟨S1x8x128x1024, .bf16⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 45 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | _ => false

abbrev sig : RefSig :=
  (ofTables nBuf rfl bufTy 5 45 bufScoped semScoped dmaSemScoped tileCredit tileCredit_eq_zero tileCredit_pos).withBarriers [(5, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v1_scs : Ref sig .scScalar := ⟨.hbm, 3, rfl⟩
abbrev main_v2_scs : Ref sig .scScalar := ⟨.hbm, 4, rfl⟩
abbrev main_v3_scs : Ref sig .scScalar := ⟨.hbm, 5, rfl⟩
abbrev main_v4_0_scs : Ref sig .scScalar := ⟨.hbm, 6, rfl⟩
abbrev main_v4_1_scs : Ref sig .scScalar := ⟨.hbm, 7, rfl⟩
abbrev main_v4_2_scs : Ref sig .scScalar := ⟨.hbm, 8, rfl⟩
abbrev sc_start : Sem sig := 0
abbrev sc_done : Sem sig := 1
abbrev sc_go : Sem sig := 2
abbrev sc_taskDone : Sem sig := 3
abbrev barrier5 : Sem sig := 4

abbrev nD : Nat := 8
abbrev τ : Topo := Topo.v7x

variable {F : FTy → Type} [FloatOps F]

abbrev grid0 : Pipeline.Grid := ⟨1, ![1], ![false]⟩

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v19 : BitVec 32 := Scalar.muli v2 c4_i32_9
  let v20 : BitVec 32 := Scalar.addi c0_i32 v19
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_5 v5
  let c2_i32_10 : BitVec 32 := 2#32
  let v21 : BitVec 32 := Scalar.muli v14 c2_i32_10
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_11 : BitVec 32 := 1#32
  let v23 : BitVec 32 := Scalar.muli v8 c1_i32_11
  let v24 : BitVec 32 := Scalar.addi v22 v23
  v24.toNat
def k0_dev2 (d0 : Dev nD) : Nat :=
  let c0_i32_17 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_12 v2
  let c4_i32_16 : BitVec 32 := 4#32
  let v30 : BitVec 32 := Scalar.muli v25 c4_i32_16
  let v31 : BitVec 32 := Scalar.addi c0_i32_17 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v32 : BitVec 32 := Scalar.muli v5 c2_i32_18
  let v33 : BitVec 32 := Scalar.addi v31 v32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v34 : BitVec 32 := Scalar.muli v8 c1_i32_19
  let v35 : BitVec 32 := Scalar.addi v33 v34
  v35.toNat
def k0_dev3 (d0 : Dev nD) : Nat :=
  let c0_i32_26 : BitVec 32 := 0#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_20 v2
  let c4_i32_25 : BitVec 32 := 4#32
  let v42 : BitVec 32 := Scalar.muli v36 c4_i32_25
  let v43 : BitVec 32 := Scalar.addi c0_i32_26 v42
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.subi c1_i32_21 v5
  let c2_i32_27 : BitVec 32 := 2#32
  let v44 : BitVec 32 := Scalar.muli v37 c2_i32_27
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v46 : BitVec 32 := Scalar.muli v8 c1_i32_28
  let v47 : BitVec 32 := Scalar.addi v45 v46
  v47.toNat
def k0_dev4 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v54 : BitVec 32 := Scalar.muli v2 c4_i32_34
  let v55 : BitVec 32 := Scalar.addi c0_i32_35 v54
  let c1_i32_29 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_29 v5
  let c2_i32_36 : BitVec 32 := 2#32
  let v56 : BitVec 32 := Scalar.muli v48 c2_i32_36
  let v57 : BitVec 32 := Scalar.addi v55 v56
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_30 v8
  let c1_i32_37 : BitVec 32 := 1#32
  let v58 : BitVec 32 := Scalar.muli v49 c1_i32_37
  let v59 : BitVec 32 := Scalar.addi v57 v58
  v59.toNat
def k0_dev5 (d0 : Dev nD) : Nat :=
  let c0_i32_44 : BitVec 32 := 0#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v60 : BitVec 32 := Scalar.subi c1_i32_38 v2
  let c4_i32_43 : BitVec 32 := 4#32
  let v66 : BitVec 32 := Scalar.muli v60 c4_i32_43
  let v67 : BitVec 32 := Scalar.addi c0_i32_44 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v68 : BitVec 32 := Scalar.muli v5 c2_i32_45
  let v69 : BitVec 32 := Scalar.addi v67 v68
  let c1_i32_39 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v61 : BitVec 32 := Scalar.subi c1_i32_39 v8
  let c1_i32_46 : BitVec 32 := 1#32
  let v70 : BitVec 32 := Scalar.muli v61 c1_i32_46
  let v71 : BitVec 32 := Scalar.addi v69 v70
  v71.toNat
def k0_dev6 (d0 : Dev nD) : Nat :=
  let c0_i32_54 : BitVec 32 := 0#32
  let c1_i32_47 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v72 : BitVec 32 := Scalar.subi c1_i32_47 v2
  let c4_i32_53 : BitVec 32 := 4#32
  let v79 : BitVec 32 := Scalar.muli v72 c4_i32_53
  let v80 : BitVec 32 := Scalar.addi c0_i32_54 v79
  let c1_i32_48 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v73 : BitVec 32 := Scalar.subi c1_i32_48 v5
  let c2_i32_55 : BitVec 32 := 2#32
  let v81 : BitVec 32 := Scalar.muli v73 c2_i32_55
  let v82 : BitVec 32 := Scalar.addi v80 v81
  let c1_i32_49 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v74 : BitVec 32 := Scalar.subi c1_i32_49 v8
  let c1_i32_56 : BitVec 32 := 1#32
  let v83 : BitVec 32 := Scalar.muli v74 c1_i32_56
  let v84 : BitVec 32 := Scalar.addi v82 v83
  v84.toNat
def k0_dev7 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v90 : BitVec 32 := Scalar.muli v2 c4_i32_61
  let v91 : BitVec 32 := Scalar.addi c0_i32_62 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v92 : BitVec 32 := Scalar.muli v5 c2_i32_63
  let v93 : BitVec 32 := Scalar.addi v91 v92
  let c1_i32_57 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v85 : BitVec 32 := Scalar.subi c1_i32_57 v8
  let c1_i32_64 : BitVec 32 := 1#32
  let v94 : BitVec 32 := Scalar.muli v85 c1_i32_64
  let v95 : BitVec 32 := Scalar.addi v93 v94
  v95.toNat
def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_66 : BitVec 32 := 0#32
  let c0_i32_67 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_71 : BitVec 32 := 0#32
  let c0_i32_72 : BitVec 32 := 0#32
  ![v12.toNat, 0, 0]
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_76 : BitVec 32 := 0#32
  let c0_i32_77 : BitVec 32 := 0#32
  ![v12.toNat, 0, 0]
def k0_off4 (d0 : Dev nD) : Fin 3 → Nat :=
  let c4_i32_81 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v115 : BitVec 32 := Scalar.muli c4_i32_81 v2
  let c2_i32_82 : BitVec 32 := 2#32
  let c1_i32_80 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v114 : BitVec 32 := Scalar.subi c1_i32_80 v5
  let v116 : BitVec 32 := Scalar.muli c2_i32_82 v114
  let v117 : BitVec 32 := Scalar.addi v115 v116
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v118 : BitVec 32 := Scalar.addi v117 v8
  let c0_i32_93 : BitVec 32 := 0#32
  let c0_i32_94 : BitVec 32 := 0#32
  ![v118.toNat, 0, 0]
def k0_dev8 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_87 : BitVec 32 := 4#32
  let v119 : BitVec 32 := Scalar.muli v2 c4_i32_87
  let v120 : BitVec 32 := Scalar.addi c0_i32_88 v119
  let c1_i32_80 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v114 : BitVec 32 := Scalar.subi c1_i32_80 v5
  let c2_i32_89 : BitVec 32 := 2#32
  let v121 : BitVec 32 := Scalar.muli v114 c2_i32_89
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_90 : BitVec 32 := 1#32
  let v123 : BitVec 32 := Scalar.muli v8 c1_i32_90
  let v124 : BitVec 32 := Scalar.addi v122 v123
  v124.toNat
def k0_off5 (d0 : Dev nD) : Fin 3 → Nat :=
  let c4_i32_81 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v115 : BitVec 32 := Scalar.muli c4_i32_81 v2
  let c2_i32_82 : BitVec 32 := 2#32
  let c1_i32_80 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v114 : BitVec 32 := Scalar.subi c1_i32_80 v5
  let v116 : BitVec 32 := Scalar.muli c2_i32_82 v114
  let v117 : BitVec 32 := Scalar.addi v115 v116
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v118 : BitVec 32 := Scalar.addi v117 v8
  let c0_i32_105 : BitVec 32 := 0#32
  let c0_i32_106 : BitVec 32 := 0#32
  ![v118.toNat, 0, 0]
def k0_dev9 (d0 : Dev nD) : Nat :=
  let c0_i32_100 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_99 : BitVec 32 := 4#32
  let v133 : BitVec 32 := Scalar.muli v2 c4_i32_99
  let v134 : BitVec 32 := Scalar.addi c0_i32_100 v133
  let c1_i32_80 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v114 : BitVec 32 := Scalar.subi c1_i32_80 v5
  let c2_i32_101 : BitVec 32 := 2#32
  let v135 : BitVec 32 := Scalar.muli v114 c2_i32_101
  let v136 : BitVec 32 := Scalar.addi v134 v135
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v137 : BitVec 32 := Scalar.muli v8 c1_i32_102
  let v138 : BitVec 32 := Scalar.addi v136 v137
  v138.toNat
def k0_off6 (d0 : Dev nD) : Fin 3 → Nat :=
  let c4_i32_81 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v115 : BitVec 32 := Scalar.muli c4_i32_81 v2
  let c2_i32_82 : BitVec 32 := 2#32
  let c1_i32_80 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v114 : BitVec 32 := Scalar.subi c1_i32_80 v5
  let v116 : BitVec 32 := Scalar.muli c2_i32_82 v114
  let v117 : BitVec 32 := Scalar.addi v115 v116
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v118 : BitVec 32 := Scalar.addi v117 v8
  let c0_i32_117 : BitVec 32 := 0#32
  let c0_i32_118 : BitVec 32 := 0#32
  ![v118.toNat, 0, 0]
def k0_dev10 (d0 : Dev nD) : Nat :=
  let c0_i32_112 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_111 : BitVec 32 := 4#32
  let v147 : BitVec 32 := Scalar.muli v2 c4_i32_111
  let v148 : BitVec 32 := Scalar.addi c0_i32_112 v147
  let c1_i32_80 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v114 : BitVec 32 := Scalar.subi c1_i32_80 v5
  let c2_i32_113 : BitVec 32 := 2#32
  let v149 : BitVec 32 := Scalar.muli v114 c2_i32_113
  let v150 : BitVec 32 := Scalar.addi v148 v149
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_114 : BitVec 32 := 1#32
  let v151 : BitVec 32 := Scalar.muli v8 c1_i32_114
  let v152 : BitVec 32 := Scalar.addi v150 v151
  v152.toNat
def k0_off7 (d0 : Dev nD) : Fin 3 → Nat :=
  let c4_i32_120 : BitVec 32 := 4#32
  let c1_i32_119 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v161 : BitVec 32 := Scalar.subi c1_i32_119 v2
  let v162 : BitVec 32 := Scalar.muli c4_i32_120 v161
  let c2_i32_121 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v163 : BitVec 32 := Scalar.muli c2_i32_121 v5
  let v164 : BitVec 32 := Scalar.addi v162 v163
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v165 : BitVec 32 := Scalar.addi v164 v8
  let c0_i32_131 : BitVec 32 := 0#32
  let c0_i32_132 : BitVec 32 := 0#32
  ![v165.toNat, 0, 0]
def k0_dev11 (d0 : Dev nD) : Nat :=
  let c0_i32_126 : BitVec 32 := 0#32
  let c1_i32_119 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v161 : BitVec 32 := Scalar.subi c1_i32_119 v2
  let c4_i32_125 : BitVec 32 := 4#32
  let v166 : BitVec 32 := Scalar.muli v161 c4_i32_125
  let v167 : BitVec 32 := Scalar.addi c0_i32_126 v166
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_127 : BitVec 32 := 2#32
  let v168 : BitVec 32 := Scalar.muli v5 c2_i32_127
  let v169 : BitVec 32 := Scalar.addi v167 v168
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_128 : BitVec 32 := 1#32
  let v170 : BitVec 32 := Scalar.muli v8 c1_i32_128
  let v171 : BitVec 32 := Scalar.addi v169 v170
  v171.toNat
def k0_off8 (d0 : Dev nD) : Fin 3 → Nat :=
  let c4_i32_120 : BitVec 32 := 4#32
  let c1_i32_119 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v161 : BitVec 32 := Scalar.subi c1_i32_119 v2
  let v162 : BitVec 32 := Scalar.muli c4_i32_120 v161
  let c2_i32_121 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v163 : BitVec 32 := Scalar.muli c2_i32_121 v5
  let v164 : BitVec 32 := Scalar.addi v162 v163
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v165 : BitVec 32 := Scalar.addi v164 v8
  let c0_i32_143 : BitVec 32 := 0#32
  let c0_i32_144 : BitVec 32 := 0#32
  ![v165.toNat, 0, 0]
def k0_dev12 (d0 : Dev nD) : Nat :=
  let c0_i32_138 : BitVec 32 := 0#32
  let c1_i32_119 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v161 : BitVec 32 := Scalar.subi c1_i32_119 v2
  let c4_i32_137 : BitVec 32 := 4#32
  let v180 : BitVec 32 := Scalar.muli v161 c4_i32_137
  let v181 : BitVec 32 := Scalar.addi c0_i32_138 v180
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_139 : BitVec 32 := 2#32
  let v182 : BitVec 32 := Scalar.muli v5 c2_i32_139
  let v183 : BitVec 32 := Scalar.addi v181 v182
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_140 : BitVec 32 := 1#32
  let v184 : BitVec 32 := Scalar.muli v8 c1_i32_140
  let v185 : BitVec 32 := Scalar.addi v183 v184
  v185.toNat
def k0_off9 (d0 : Dev nD) : Fin 3 → Nat :=
  let c4_i32_120 : BitVec 32 := 4#32
  let c1_i32_119 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v161 : BitVec 32 := Scalar.subi c1_i32_119 v2
  let v162 : BitVec 32 := Scalar.muli c4_i32_120 v161
  let c2_i32_121 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v163 : BitVec 32 := Scalar.muli c2_i32_121 v5
  let v164 : BitVec 32 := Scalar.addi v162 v163
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v165 : BitVec 32 := Scalar.addi v164 v8
  let c0_i32_155 : BitVec 32 := 0#32
  let c0_i32_156 : BitVec 32 := 0#32
  ![v165.toNat, 0, 0]
def k0_dev13 (d0 : Dev nD) : Nat :=
  let c0_i32_150 : BitVec 32 := 0#32
  let c1_i32_119 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v161 : BitVec 32 := Scalar.subi c1_i32_119 v2
  let c4_i32_149 : BitVec 32 := 4#32
  let v194 : BitVec 32 := Scalar.muli v161 c4_i32_149
  let v195 : BitVec 32 := Scalar.addi c0_i32_150 v194
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_151 : BitVec 32 := 2#32
  let v196 : BitVec 32 := Scalar.muli v5 c2_i32_151
  let v197 : BitVec 32 := Scalar.addi v195 v196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_152 : BitVec 32 := 1#32
  let v198 : BitVec 32 := Scalar.muli v8 c1_i32_152
  let v199 : BitVec 32 := Scalar.addi v197 v198
  v199.toNat
def k0_off10 (d0 : Dev nD) : Fin 3 → Nat :=
  let c4_i32_159 : BitVec 32 := 4#32
  let c1_i32_157 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v208 : BitVec 32 := Scalar.subi c1_i32_157 v2
  let v210 : BitVec 32 := Scalar.muli c4_i32_159 v208
  let c2_i32_160 : BitVec 32 := 2#32
  let c1_i32_158 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v209 : BitVec 32 := Scalar.subi c1_i32_158 v5
  let v211 : BitVec 32 := Scalar.muli c2_i32_160 v209
  let v212 : BitVec 32 := Scalar.addi v210 v211
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v213 : BitVec 32 := Scalar.addi v212 v8
  let c0_i32_170 : BitVec 32 := 0#32
  let c0_i32_171 : BitVec 32 := 0#32
  ![v213.toNat, 0, 0]
def k0_dev14 (d0 : Dev nD) : Nat :=
  let c0_i32_165 : BitVec 32 := 0#32
  let c1_i32_157 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v208 : BitVec 32 := Scalar.subi c1_i32_157 v2
  let c4_i32_164 : BitVec 32 := 4#32
  let v214 : BitVec 32 := Scalar.muli v208 c4_i32_164
  let v215 : BitVec 32 := Scalar.addi c0_i32_165 v214
  let c1_i32_158 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v209 : BitVec 32 := Scalar.subi c1_i32_158 v5
  let c2_i32_166 : BitVec 32 := 2#32
  let v216 : BitVec 32 := Scalar.muli v209 c2_i32_166
  let v217 : BitVec 32 := Scalar.addi v215 v216
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_167 : BitVec 32 := 1#32
  let v218 : BitVec 32 := Scalar.muli v8 c1_i32_167
  let v219 : BitVec 32 := Scalar.addi v217 v218
  v219.toNat
def k0_off11 (d0 : Dev nD) : Fin 3 → Nat :=
  let c4_i32_159 : BitVec 32 := 4#32
  let c1_i32_157 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v208 : BitVec 32 := Scalar.subi c1_i32_157 v2
  let v210 : BitVec 32 := Scalar.muli c4_i32_159 v208
  let c2_i32_160 : BitVec 32 := 2#32
  let c1_i32_158 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v209 : BitVec 32 := Scalar.subi c1_i32_158 v5
  let v211 : BitVec 32 := Scalar.muli c2_i32_160 v209
  let v212 : BitVec 32 := Scalar.addi v210 v211
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v213 : BitVec 32 := Scalar.addi v212 v8
  let c0_i32_182 : BitVec 32 := 0#32
  let c0_i32_183 : BitVec 32 := 0#32
  ![v213.toNat, 0, 0]
def k0_dev15 (d0 : Dev nD) : Nat :=
  let c0_i32_177 : BitVec 32 := 0#32
  let c1_i32_157 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v208 : BitVec 32 := Scalar.subi c1_i32_157 v2
  let c4_i32_176 : BitVec 32 := 4#32
  let v228 : BitVec 32 := Scalar.muli v208 c4_i32_176
  let v229 : BitVec 32 := Scalar.addi c0_i32_177 v228
  let c1_i32_158 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v209 : BitVec 32 := Scalar.subi c1_i32_158 v5
  let c2_i32_178 : BitVec 32 := 2#32
  let v230 : BitVec 32 := Scalar.muli v209 c2_i32_178
  let v231 : BitVec 32 := Scalar.addi v229 v230
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_179 : BitVec 32 := 1#32
  let v232 : BitVec 32 := Scalar.muli v8 c1_i32_179
  let v233 : BitVec 32 := Scalar.addi v231 v232
  v233.toNat
def k0_off12 (d0 : Dev nD) : Fin 3 → Nat :=
  let c4_i32_159 : BitVec 32 := 4#32
  let c1_i32_157 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v208 : BitVec 32 := Scalar.subi c1_i32_157 v2
  let v210 : BitVec 32 := Scalar.muli c4_i32_159 v208
  let c2_i32_160 : BitVec 32 := 2#32
  let c1_i32_158 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v209 : BitVec 32 := Scalar.subi c1_i32_158 v5
  let v211 : BitVec 32 := Scalar.muli c2_i32_160 v209
  let v212 : BitVec 32 := Scalar.addi v210 v211
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v213 : BitVec 32 := Scalar.addi v212 v8
  let c0_i32_194 : BitVec 32 := 0#32
  let c0_i32_195 : BitVec 32 := 0#32
  ![v213.toNat, 0, 0]
def k0_dev16 (d0 : Dev nD) : Nat :=
  let c0_i32_189 : BitVec 32 := 0#32
  let c1_i32_157 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v208 : BitVec 32 := Scalar.subi c1_i32_157 v2
  let c4_i32_188 : BitVec 32 := 4#32
  let v242 : BitVec 32 := Scalar.muli v208 c4_i32_188
  let v243 : BitVec 32 := Scalar.addi c0_i32_189 v242
  let c1_i32_158 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v209 : BitVec 32 := Scalar.subi c1_i32_158 v5
  let c2_i32_190 : BitVec 32 := 2#32
  let v244 : BitVec 32 := Scalar.muli v209 c2_i32_190
  let v245 : BitVec 32 := Scalar.addi v243 v244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_191 : BitVec 32 := 1#32
  let v246 : BitVec 32 := Scalar.muli v8 c1_i32_191
  let v247 : BitVec 32 := Scalar.addi v245 v246
  v247.toNat
def k0_off13 (d0 : Dev nD) : Fin 3 → Nat :=
  let c4_i32_198 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v258 : BitVec 32 := Scalar.muli c4_i32_198 v2
  let c2_i32_199 : BitVec 32 := 2#32
  let c1_i32_196 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v256 : BitVec 32 := Scalar.subi c1_i32_196 v5
  let v259 : BitVec 32 := Scalar.muli c2_i32_199 v256
  let v260 : BitVec 32 := Scalar.addi v258 v259
  let c1_i32_197 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v257 : BitVec 32 := Scalar.subi c1_i32_197 v8
  let v261 : BitVec 32 := Scalar.addi v260 v257
  let c0_i32_210 : BitVec 32 := 0#32
  let c0_i32_211 : BitVec 32 := 0#32
  ![v261.toNat, 0, 0]
def k0_dev17 (d0 : Dev nD) : Nat :=
  let c0_i32_205 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_204 : BitVec 32 := 4#32
  let v262 : BitVec 32 := Scalar.muli v2 c4_i32_204
  let v263 : BitVec 32 := Scalar.addi c0_i32_205 v262
  let c1_i32_196 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v256 : BitVec 32 := Scalar.subi c1_i32_196 v5
  let c2_i32_206 : BitVec 32 := 2#32
  let v264 : BitVec 32 := Scalar.muli v256 c2_i32_206
  let v265 : BitVec 32 := Scalar.addi v263 v264
  let c1_i32_197 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v257 : BitVec 32 := Scalar.subi c1_i32_197 v8
  let c1_i32_207 : BitVec 32 := 1#32
  let v266 : BitVec 32 := Scalar.muli v257 c1_i32_207
  let v267 : BitVec 32 := Scalar.addi v265 v266
  v267.toNat
def k0_off14 (d0 : Dev nD) : Fin 3 → Nat :=
  let c4_i32_198 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v258 : BitVec 32 := Scalar.muli c4_i32_198 v2
  let c2_i32_199 : BitVec 32 := 2#32
  let c1_i32_196 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v256 : BitVec 32 := Scalar.subi c1_i32_196 v5
  let v259 : BitVec 32 := Scalar.muli c2_i32_199 v256
  let v260 : BitVec 32 := Scalar.addi v258 v259
  let c1_i32_197 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v257 : BitVec 32 := Scalar.subi c1_i32_197 v8
  let v261 : BitVec 32 := Scalar.addi v260 v257
  let c0_i32_222 : BitVec 32 := 0#32
  let c0_i32_223 : BitVec 32 := 0#32
  ![v261.toNat, 0, 0]
def k0_dev18 (d0 : Dev nD) : Nat :=
  let c0_i32_217 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_216 : BitVec 32 := 4#32
  let v276 : BitVec 32 := Scalar.muli v2 c4_i32_216
  let v277 : BitVec 32 := Scalar.addi c0_i32_217 v276
  let c1_i32_196 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v256 : BitVec 32 := Scalar.subi c1_i32_196 v5
  let c2_i32_218 : BitVec 32 := 2#32
  let v278 : BitVec 32 := Scalar.muli v256 c2_i32_218
  let v279 : BitVec 32 := Scalar.addi v277 v278
  let c1_i32_197 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v257 : BitVec 32 := Scalar.subi c1_i32_197 v8
  let c1_i32_219 : BitVec 32 := 1#32
  let v280 : BitVec 32 := Scalar.muli v257 c1_i32_219
  let v281 : BitVec 32 := Scalar.addi v279 v280
  v281.toNat
def k0_off15 (d0 : Dev nD) : Fin 3 → Nat :=
  let c4_i32_198 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v258 : BitVec 32 := Scalar.muli c4_i32_198 v2
  let c2_i32_199 : BitVec 32 := 2#32
  let c1_i32_196 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v256 : BitVec 32 := Scalar.subi c1_i32_196 v5
  let v259 : BitVec 32 := Scalar.muli c2_i32_199 v256
  let v260 : BitVec 32 := Scalar.addi v258 v259
  let c1_i32_197 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v257 : BitVec 32 := Scalar.subi c1_i32_197 v8
  let v261 : BitVec 32 := Scalar.addi v260 v257
  let c0_i32_234 : BitVec 32 := 0#32
  let c0_i32_235 : BitVec 32 := 0#32
  ![v261.toNat, 0, 0]
def k0_dev19 (d0 : Dev nD) : Nat :=
  let c0_i32_229 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_228 : BitVec 32 := 4#32
  let v290 : BitVec 32 := Scalar.muli v2 c4_i32_228
  let v291 : BitVec 32 := Scalar.addi c0_i32_229 v290
  let c1_i32_196 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v256 : BitVec 32 := Scalar.subi c1_i32_196 v5
  let c2_i32_230 : BitVec 32 := 2#32
  let v292 : BitVec 32 := Scalar.muli v256 c2_i32_230
  let v293 : BitVec 32 := Scalar.addi v291 v292
  let c1_i32_197 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v257 : BitVec 32 := Scalar.subi c1_i32_197 v8
  let c1_i32_231 : BitVec 32 := 1#32
  let v294 : BitVec 32 := Scalar.muli v257 c1_i32_231
  let v295 : BitVec 32 := Scalar.addi v293 v294
  v295.toNat
def k0_off16 (d0 : Dev nD) : Fin 3 → Nat :=
  let c4_i32_238 : BitVec 32 := 4#32
  let c1_i32_236 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v304 : BitVec 32 := Scalar.subi c1_i32_236 v2
  let v306 : BitVec 32 := Scalar.muli c4_i32_238 v304
  let c2_i32_239 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v307 : BitVec 32 := Scalar.muli c2_i32_239 v5
  let v308 : BitVec 32 := Scalar.addi v306 v307
  let c1_i32_237 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v305 : BitVec 32 := Scalar.subi c1_i32_237 v8
  let v309 : BitVec 32 := Scalar.addi v308 v305
  let c0_i32_250 : BitVec 32 := 0#32
  let c0_i32_251 : BitVec 32 := 0#32
  ![v309.toNat, 0, 0]
def k0_dev20 (d0 : Dev nD) : Nat :=
  let c0_i32_245 : BitVec 32 := 0#32
  let c1_i32_236 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v304 : BitVec 32 := Scalar.subi c1_i32_236 v2
  let c4_i32_244 : BitVec 32 := 4#32
  let v310 : BitVec 32 := Scalar.muli v304 c4_i32_244
  let v311 : BitVec 32 := Scalar.addi c0_i32_245 v310
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_246 : BitVec 32 := 2#32
  let v312 : BitVec 32 := Scalar.muli v5 c2_i32_246
  let v313 : BitVec 32 := Scalar.addi v311 v312
  let c1_i32_237 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v305 : BitVec 32 := Scalar.subi c1_i32_237 v8
  let c1_i32_247 : BitVec 32 := 1#32
  let v314 : BitVec 32 := Scalar.muli v305 c1_i32_247
  let v315 : BitVec 32 := Scalar.addi v313 v314
  v315.toNat
def k0_off17 (d0 : Dev nD) : Fin 3 → Nat :=
  let c4_i32_238 : BitVec 32 := 4#32
  let c1_i32_236 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v304 : BitVec 32 := Scalar.subi c1_i32_236 v2
  let v306 : BitVec 32 := Scalar.muli c4_i32_238 v304
  let c2_i32_239 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v307 : BitVec 32 := Scalar.muli c2_i32_239 v5
  let v308 : BitVec 32 := Scalar.addi v306 v307
  let c1_i32_237 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v305 : BitVec 32 := Scalar.subi c1_i32_237 v8
  let v309 : BitVec 32 := Scalar.addi v308 v305
  let c0_i32_262 : BitVec 32 := 0#32
  let c0_i32_263 : BitVec 32 := 0#32
  ![v309.toNat, 0, 0]
def k0_dev21 (d0 : Dev nD) : Nat :=
  let c0_i32_257 : BitVec 32 := 0#32
  let c1_i32_236 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v304 : BitVec 32 := Scalar.subi c1_i32_236 v2
  let c4_i32_256 : BitVec 32 := 4#32
  let v324 : BitVec 32 := Scalar.muli v304 c4_i32_256
  let v325 : BitVec 32 := Scalar.addi c0_i32_257 v324
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_258 : BitVec 32 := 2#32
  let v326 : BitVec 32 := Scalar.muli v5 c2_i32_258
  let v327 : BitVec 32 := Scalar.addi v325 v326
  let c1_i32_237 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v305 : BitVec 32 := Scalar.subi c1_i32_237 v8
  let c1_i32_259 : BitVec 32 := 1#32
  let v328 : BitVec 32 := Scalar.muli v305 c1_i32_259
  let v329 : BitVec 32 := Scalar.addi v327 v328
  v329.toNat
def k0_off18 (d0 : Dev nD) : Fin 3 → Nat :=
  let c4_i32_238 : BitVec 32 := 4#32
  let c1_i32_236 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v304 : BitVec 32 := Scalar.subi c1_i32_236 v2
  let v306 : BitVec 32 := Scalar.muli c4_i32_238 v304
  let c2_i32_239 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v307 : BitVec 32 := Scalar.muli c2_i32_239 v5
  let v308 : BitVec 32 := Scalar.addi v306 v307
  let c1_i32_237 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v305 : BitVec 32 := Scalar.subi c1_i32_237 v8
  let v309 : BitVec 32 := Scalar.addi v308 v305
  let c0_i32_274 : BitVec 32 := 0#32
  let c0_i32_275 : BitVec 32 := 0#32
  ![v309.toNat, 0, 0]
def k0_dev22 (d0 : Dev nD) : Nat :=
  let c0_i32_269 : BitVec 32 := 0#32
  let c1_i32_236 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v304 : BitVec 32 := Scalar.subi c1_i32_236 v2
  let c4_i32_268 : BitVec 32 := 4#32
  let v338 : BitVec 32 := Scalar.muli v304 c4_i32_268
  let v339 : BitVec 32 := Scalar.addi c0_i32_269 v338
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v340 : BitVec 32 := Scalar.muli v5 c2_i32_270
  let v341 : BitVec 32 := Scalar.addi v339 v340
  let c1_i32_237 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v305 : BitVec 32 := Scalar.subi c1_i32_237 v8
  let c1_i32_271 : BitVec 32 := 1#32
  let v342 : BitVec 32 := Scalar.muli v305 c1_i32_271
  let v343 : BitVec 32 := Scalar.addi v341 v342
  v343.toNat
def k0_off19 (d0 : Dev nD) : Fin 3 → Nat :=
  let c4_i32_279 : BitVec 32 := 4#32
  let c1_i32_276 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v352 : BitVec 32 := Scalar.subi c1_i32_276 v2
  let v355 : BitVec 32 := Scalar.muli c4_i32_279 v352
  let c2_i32_280 : BitVec 32 := 2#32
  let c1_i32_277 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v353 : BitVec 32 := Scalar.subi c1_i32_277 v5
  let v356 : BitVec 32 := Scalar.muli c2_i32_280 v353
  let v357 : BitVec 32 := Scalar.addi v355 v356
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v354 : BitVec 32 := Scalar.subi c1_i32_278 v8
  let v358 : BitVec 32 := Scalar.addi v357 v354
  let c0_i32_290 : BitVec 32 := 0#32
  let c0_i32_291 : BitVec 32 := 0#32
  ![v358.toNat, 0, 0]
def k0_dev23 (d0 : Dev nD) : Nat :=
  let c0_i32_285 : BitVec 32 := 0#32
  let c1_i32_276 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v352 : BitVec 32 := Scalar.subi c1_i32_276 v2
  let c4_i32_284 : BitVec 32 := 4#32
  let v359 : BitVec 32 := Scalar.muli v352 c4_i32_284
  let v360 : BitVec 32 := Scalar.addi c0_i32_285 v359
  let c1_i32_277 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v353 : BitVec 32 := Scalar.subi c1_i32_277 v5
  let c2_i32_286 : BitVec 32 := 2#32
  let v361 : BitVec 32 := Scalar.muli v353 c2_i32_286
  let v362 : BitVec 32 := Scalar.addi v360 v361
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v354 : BitVec 32 := Scalar.subi c1_i32_278 v8
  let c1_i32_287 : BitVec 32 := 1#32
  let v363 : BitVec 32 := Scalar.muli v354 c1_i32_287
  let v364 : BitVec 32 := Scalar.addi v362 v363
  v364.toNat
def k0_off20 (d0 : Dev nD) : Fin 3 → Nat :=
  let c4_i32_279 : BitVec 32 := 4#32
  let c1_i32_276 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v352 : BitVec 32 := Scalar.subi c1_i32_276 v2
  let v355 : BitVec 32 := Scalar.muli c4_i32_279 v352
  let c2_i32_280 : BitVec 32 := 2#32
  let c1_i32_277 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v353 : BitVec 32 := Scalar.subi c1_i32_277 v5
  let v356 : BitVec 32 := Scalar.muli c2_i32_280 v353
  let v357 : BitVec 32 := Scalar.addi v355 v356
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v354 : BitVec 32 := Scalar.subi c1_i32_278 v8
  let v358 : BitVec 32 := Scalar.addi v357 v354
  let c0_i32_302 : BitVec 32 := 0#32
  let c0_i32_303 : BitVec 32 := 0#32
  ![v358.toNat, 0, 0]
def k0_dev24 (d0 : Dev nD) : Nat :=
  let c0_i32_297 : BitVec 32 := 0#32
  let c1_i32_276 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v352 : BitVec 32 := Scalar.subi c1_i32_276 v2
  let c4_i32_296 : BitVec 32 := 4#32
  let v373 : BitVec 32 := Scalar.muli v352 c4_i32_296
  let v374 : BitVec 32 := Scalar.addi c0_i32_297 v373
  let c1_i32_277 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v353 : BitVec 32 := Scalar.subi c1_i32_277 v5
  let c2_i32_298 : BitVec 32 := 2#32
  let v375 : BitVec 32 := Scalar.muli v353 c2_i32_298
  let v376 : BitVec 32 := Scalar.addi v374 v375
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v354 : BitVec 32 := Scalar.subi c1_i32_278 v8
  let c1_i32_299 : BitVec 32 := 1#32
  let v377 : BitVec 32 := Scalar.muli v354 c1_i32_299
  let v378 : BitVec 32 := Scalar.addi v376 v377
  v378.toNat
def k0_off21 (d0 : Dev nD) : Fin 3 → Nat :=
  let c4_i32_279 : BitVec 32 := 4#32
  let c1_i32_276 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v352 : BitVec 32 := Scalar.subi c1_i32_276 v2
  let v355 : BitVec 32 := Scalar.muli c4_i32_279 v352
  let c2_i32_280 : BitVec 32 := 2#32
  let c1_i32_277 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v353 : BitVec 32 := Scalar.subi c1_i32_277 v5
  let v356 : BitVec 32 := Scalar.muli c2_i32_280 v353
  let v357 : BitVec 32 := Scalar.addi v355 v356
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v354 : BitVec 32 := Scalar.subi c1_i32_278 v8
  let v358 : BitVec 32 := Scalar.addi v357 v354
  let c0_i32_314 : BitVec 32 := 0#32
  let c0_i32_315 : BitVec 32 := 0#32
  ![v358.toNat, 0, 0]
def k0_dev25 (d0 : Dev nD) : Nat :=
  let c0_i32_309 : BitVec 32 := 0#32
  let c1_i32_276 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v352 : BitVec 32 := Scalar.subi c1_i32_276 v2
  let c4_i32_308 : BitVec 32 := 4#32
  let v387 : BitVec 32 := Scalar.muli v352 c4_i32_308
  let v388 : BitVec 32 := Scalar.addi c0_i32_309 v387
  let c1_i32_277 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v353 : BitVec 32 := Scalar.subi c1_i32_277 v5
  let c2_i32_310 : BitVec 32 := 2#32
  let v389 : BitVec 32 := Scalar.muli v353 c2_i32_310
  let v390 : BitVec 32 := Scalar.addi v388 v389
  let c1_i32_278 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v354 : BitVec 32 := Scalar.subi c1_i32_278 v8
  let c1_i32_311 : BitVec 32 := 1#32
  let v391 : BitVec 32 := Scalar.muli v354 c1_i32_311
  let v392 : BitVec 32 := Scalar.addi v390 v391
  v392.toNat
def k0_off22 (d0 : Dev nD) : Fin 3 → Nat :=
  let c4_i32_317 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v402 : BitVec 32 := Scalar.muli c4_i32_317 v2
  let c2_i32_318 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v403 : BitVec 32 := Scalar.muli c2_i32_318 v5
  let v404 : BitVec 32 := Scalar.addi v402 v403
  let c1_i32_316 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v401 : BitVec 32 := Scalar.subi c1_i32_316 v8
  let v405 : BitVec 32 := Scalar.addi v404 v401
  let c0_i32_329 : BitVec 32 := 0#32
  let c0_i32_330 : BitVec 32 := 0#32
  ![v405.toNat, 0, 0]
def k0_dev26 (d0 : Dev nD) : Nat :=
  let c0_i32_324 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_323 : BitVec 32 := 4#32
  let v406 : BitVec 32 := Scalar.muli v2 c4_i32_323
  let v407 : BitVec 32 := Scalar.addi c0_i32_324 v406
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_325 : BitVec 32 := 2#32
  let v408 : BitVec 32 := Scalar.muli v5 c2_i32_325
  let v409 : BitVec 32 := Scalar.addi v407 v408
  let c1_i32_316 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v401 : BitVec 32 := Scalar.subi c1_i32_316 v8
  let c1_i32_326 : BitVec 32 := 1#32
  let v410 : BitVec 32 := Scalar.muli v401 c1_i32_326
  let v411 : BitVec 32 := Scalar.addi v409 v410
  v411.toNat
def k0_off23 (d0 : Dev nD) : Fin 3 → Nat :=
  let c4_i32_317 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v402 : BitVec 32 := Scalar.muli c4_i32_317 v2
  let c2_i32_318 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v403 : BitVec 32 := Scalar.muli c2_i32_318 v5
  let v404 : BitVec 32 := Scalar.addi v402 v403
  let c1_i32_316 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v401 : BitVec 32 := Scalar.subi c1_i32_316 v8
  let v405 : BitVec 32 := Scalar.addi v404 v401
  let c0_i32_341 : BitVec 32 := 0#32
  let c0_i32_342 : BitVec 32 := 0#32
  ![v405.toNat, 0, 0]
def k0_dev27 (d0 : Dev nD) : Nat :=
  let c0_i32_336 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_335 : BitVec 32 := 4#32
  let v420 : BitVec 32 := Scalar.muli v2 c4_i32_335
  let v421 : BitVec 32 := Scalar.addi c0_i32_336 v420
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_337 : BitVec 32 := 2#32
  let v422 : BitVec 32 := Scalar.muli v5 c2_i32_337
  let v423 : BitVec 32 := Scalar.addi v421 v422
  let c1_i32_316 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v401 : BitVec 32 := Scalar.subi c1_i32_316 v8
  let c1_i32_338 : BitVec 32 := 1#32
  let v424 : BitVec 32 := Scalar.muli v401 c1_i32_338
  let v425 : BitVec 32 := Scalar.addi v423 v424
  v425.toNat
def k0_off24 (d0 : Dev nD) : Fin 3 → Nat :=
  let c4_i32_317 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v402 : BitVec 32 := Scalar.muli c4_i32_317 v2
  let c2_i32_318 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v403 : BitVec 32 := Scalar.muli c2_i32_318 v5
  let v404 : BitVec 32 := Scalar.addi v402 v403
  let c1_i32_316 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v401 : BitVec 32 := Scalar.subi c1_i32_316 v8
  let v405 : BitVec 32 := Scalar.addi v404 v401
  let c0_i32_353 : BitVec 32 := 0#32
  let c0_i32_354 : BitVec 32 := 0#32
  ![v405.toNat, 0, 0]
def k0_dev28 (d0 : Dev nD) : Nat :=
  let c0_i32_348 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_347 : BitVec 32 := 4#32
  let v434 : BitVec 32 := Scalar.muli v2 c4_i32_347
  let v435 : BitVec 32 := Scalar.addi c0_i32_348 v434
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_349 : BitVec 32 := 2#32
  let v436 : BitVec 32 := Scalar.muli v5 c2_i32_349
  let v437 : BitVec 32 := Scalar.addi v435 v436
  let c1_i32_316 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v401 : BitVec 32 := Scalar.subi c1_i32_316 v8
  let c1_i32_350 : BitVec 32 := 1#32
  let v438 : BitVec 32 := Scalar.muli v401 c1_i32_350
  let v439 : BitVec 32 := Scalar.addi v437 v438
  v439.toNat
abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Scatter0aRef.lean ====
abbrev S8x8x128x1024 : Shape := ⟨4, ![8, 8, 128, 1024]⟩
abbrev S8x8x704x1024 : Shape := ⟨4, ![8, 8, 704, 1024]⟩
abbrev S8x8x352x1024 : Shape := ⟨4, ![8, 8, 352, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8x8x128x1024, .bf16⟩
  | .hbm, ⟨1, _⟩ => ⟨S8x8x704x1024, .bf16⟩
  | .hbm, ⟨2, _⟩ => ⟨S8x8x352x1024, .bf16⟩
  | .hbm, ⟨3, _⟩ => ⟨S8x8x128x1024, .bf16⟩
  | .hbm, ⟨4, _⟩ => ⟨S8x8x704x1024, .bf16⟩
  | .hbm, ⟨5, _⟩ => ⟨S8x8x352x1024, .bf16⟩
  | _, _ => ⟨S8x8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Scatter0b.lean ====
abbrev S1x1024x3072 : Shape := ⟨3, ![1, 1024, 3072]⟩
abbrev S1x8x3x768 : Shape := ⟨4, ![1, 8, 3, 768]⟩
abbrev S1024x3072 : Shape := ⟨2, ![1024, 3072]⟩
abbrev S8x3x768 : Shape := ⟨3, ![8, 3, 768]⟩
abbrev S8x1024x384 : Shape := ⟨3, ![8, 1024, 384]⟩
abbrev S2x7 : Shape := ⟨2, ![2, 7]⟩
abbrev S2 : Shape := ⟨1, ![2]⟩
abbrev S_ : Shape := ⟨0, ![]⟩
abbrev S1 : Shape := ⟨1, ![1]⟩
abbrev S1x1024x384 : Shape := ⟨3, ![1, 1024, 384]⟩
abbrev S1024x384 : Shape := ⟨2, ![1024, 384]⟩
abbrev S1x3x768 : Shape := ⟨3, ![1, 3, 768]⟩
abbrev S3x768 : Shape := ⟨2, ![3, 768]⟩
abbrev S1x1 : Shape := ⟨2, ![1, 1]⟩
abbrev S1x8x1024x384 : Shape := ⟨4, ![1, 8, 1024, 384]⟩

abbrev nBuf : Table → Nat
  | .hbm => 8
  | _ => 0

abbrev bufTy : (tb : Table) → Fin (nBuf tb) → BufTy
  | .hbm, ⟨0, _⟩ => ⟨S1x1024x3072, .bf16⟩
  | .hbm, ⟨1, _⟩ => ⟨S1x8x3x768, .f32⟩
  | .hbm, ⟨2, _⟩ => ⟨S1024x3072, .bf16⟩
  | .hbm, ⟨3, _⟩ => ⟨S8x3x768, .f32⟩
  | .hbm, ⟨4, _⟩ => ⟨S8x1024x384, .bf16⟩
  | .hbm, ⟨5, _⟩ => ⟨S8x3x768, .f32⟩
  | .hbm, ⟨6, _⟩ => ⟨S1x8x1024x384, .bf16⟩
  | .hbm, ⟨7, _⟩ => ⟨S1x8x3x768, .f32⟩
  | _, _ => ⟨S1x1024x3072, .bf16⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 30 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | _ => false

abbrev sig : RefSig :=
  (ofTables nBuf rfl bufTy 5 30 bufScoped semScoped dmaSemScoped tileCredit tileCredit_eq_zero tileCredit_pos).withBarriers [(6, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3_0 : Ref sig .tc := ⟨.hbm, 4, rfl⟩
abbrev main_v3_1 : Ref sig .tc := ⟨.hbm, 5, rfl⟩
abbrev main_v4 : Ref sig .tc := ⟨.hbm, 6, rfl⟩
abbrev main_v5 : Ref sig .tc := ⟨.hbm, 7, rfl⟩
abbrev main_v1_scs : Ref sig .scScalar := ⟨.hbm, 2, rfl⟩
abbrev main_v2_scs : Ref sig .scScalar := ⟨.hbm, 3, rfl⟩
abbrev main_v3_0_scs : Ref sig .scScalar := ⟨.hbm, 4, rfl⟩
abbrev main_v3_1_scs : Ref sig .scScalar := ⟨.hbm, 5, rfl⟩
abbrev sc_start : Sem sig := 0
abbrev sc_done : Sem sig := 1
abbrev sc_go : Sem sig := 2
abbrev sc_taskDone : Sem sig := 3
abbrev barrier6 : Sem sig := 4

abbrev nD : Nat := 8
abbrev τ : Topo := Topo.v7x

variable {F : FTy → Type} [FloatOps F]

abbrev grid0 : Pipeline.Grid := ⟨1, ![1], ![false]⟩

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v19 : BitVec 32 := Scalar.muli v2 c4_i32_9
  let v20 : BitVec 32 := Scalar.addi c0_i32 v19
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_5 v5
  let c2_i32_10 : BitVec 32 := 2#32
  let v21 : BitVec 32 := Scalar.muli v14 c2_i32_10
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_11 : BitVec 32 := 1#32
  let v23 : BitVec 32 := Scalar.muli v8 c1_i32_11
  let v24 : BitVec 32 := Scalar.addi v22 v23
  v24.toNat
def k0_dev2 (d0 : Dev nD) : Nat :=
  let c0_i32_17 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_12 v2
  let c4_i32_16 : BitVec 32 := 4#32
  let v30 : BitVec 32 := Scalar.muli v25 c4_i32_16
  let v31 : BitVec 32 := Scalar.addi c0_i32_17 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v32 : BitVec 32 := Scalar.muli v5 c2_i32_18
  let v33 : BitVec 32 := Scalar.addi v31 v32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v34 : BitVec 32 := Scalar.muli v8 c1_i32_19
  let v35 : BitVec 32 := Scalar.addi v33 v34
  v35.toNat
def k0_dev3 (d0 : Dev nD) : Nat :=
  let c0_i32_26 : BitVec 32 := 0#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_20 v2
  let c4_i32_25 : BitVec 32 := 4#32
  let v42 : BitVec 32 := Scalar.muli v36 c4_i32_25
  let v43 : BitVec 32 := Scalar.addi c0_i32_26 v42
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.subi c1_i32_21 v5
  let c2_i32_27 : BitVec 32 := 2#32
  let v44 : BitVec 32 := Scalar.muli v37 c2_i32_27
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v46 : BitVec 32 := Scalar.muli v8 c1_i32_28
  let v47 : BitVec 32 := Scalar.addi v45 v46
  v47.toNat
def k0_dev4 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v54 : BitVec 32 := Scalar.muli v2 c4_i32_34
  let v55 : BitVec 32 := Scalar.addi c0_i32_35 v54
  let c1_i32_29 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_29 v5
  let c2_i32_36 : BitVec 32 := 2#32
  let v56 : BitVec 32 := Scalar.muli v48 c2_i32_36
  let v57 : BitVec 32 := Scalar.addi v55 v56
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_30 v8
  let c1_i32_37 : BitVec 32 := 1#32
  let v58 : BitVec 32 := Scalar.muli v49 c1_i32_37
  let v59 : BitVec 32 := Scalar.addi v57 v58
  v59.toNat
def k0_dev5 (d0 : Dev nD) : Nat :=
  let c0_i32_44 : BitVec 32 := 0#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v60 : BitVec 32 := Scalar.subi c1_i32_38 v2
  let c4_i32_43 : BitVec 32 := 4#32
  let v66 : BitVec 32 := Scalar.muli v60 c4_i32_43
  let v67 : BitVec 32 := Scalar.addi c0_i32_44 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v68 : BitVec 32 := Scalar.muli v5 c2_i32_45
  let v69 : BitVec 32 := Scalar.addi v67 v68
  let c1_i32_39 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v61 : BitVec 32 := Scalar.subi c1_i32_39 v8
  let c1_i32_46 : BitVec 32 := 1#32
  let v70 : BitVec 32 := Scalar.muli v61 c1_i32_46
  let v71 : BitVec 32 := Scalar.addi v69 v70
  v71.toNat
def k0_dev6 (d0 : Dev nD) : Nat :=
  let c0_i32_54 : BitVec 32 := 0#32
  let c1_i32_47 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v72 : BitVec 32 := Scalar.subi c1_i32_47 v2
  let c4_i32_53 : BitVec 32 := 4#32
  let v79 : BitVec 32 := Scalar.muli v72 c4_i32_53
  let v80 : BitVec 32 := Scalar.addi c0_i32_54 v79
  let c1_i32_48 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v73 : BitVec 32 := Scalar.subi c1_i32_48 v5
  let c2_i32_55 : BitVec 32 := 2#32
  let v81 : BitVec 32 := Scalar.muli v73 c2_i32_55
  let v82 : BitVec 32 := Scalar.addi v80 v81
  let c1_i32_49 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v74 : BitVec 32 := Scalar.subi c1_i32_49 v8
  let c1_i32_56 : BitVec 32 := 1#32
  let v83 : BitVec 32 := Scalar.muli v74 c1_i32_56
  let v84 : BitVec 32 := Scalar.addi v82 v83
  v84.toNat
def k0_dev7 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v90 : BitVec 32 := Scalar.muli v2 c4_i32_61
  let v91 : BitVec 32 := Scalar.addi c0_i32_62 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v92 : BitVec 32 := Scalar.muli v5 c2_i32_63
  let v93 : BitVec 32 := Scalar.addi v91 v92
  let c1_i32_57 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v85 : BitVec 32 := Scalar.subi c1_i32_57 v8
  let c1_i32_64 : BitVec 32 := 1#32
  let v94 : BitVec 32 := Scalar.muli v85 c1_i32_64
  let v95 : BitVec 32 := Scalar.addi v93 v94
  v95.toNat
def k0_mult1 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32 : BitVec 32 := 384#32
  let v96 : BitVec 32 := Scalar.muli v12 c384_i32
  v96
def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_66 : BitVec 32 := 0#32
  let c0_i32_67 : BitVec 32 := 0#32
  ![v12.toNat, 0, 0]
def k0_off2 (d0 : Dev nD) : Fin 2 → Nat :=
  let c0_i32_68 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32 : BitVec 32 := 384#32
  let v96 : BitVec 32 := Scalar.muli v12 c384_i32
  let v97 : BitVec 32 := v96
  ![0, v97.toNat]
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_70 : BitVec 32 := 0#32
  let c0_i32_71 : BitVec 32 := 0#32
  ![v12.toNat, 0, 0]
def k0_mult2 (d0 : Dev nD) : BitVec 32 :=
  let c4_i32_75 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v110 : BitVec 32 := Scalar.muli c4_i32_75 v2
  let c2_i32_76 : BitVec 32 := 2#32
  let c1_i32_74 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v109 : BitVec 32 := Scalar.subi c1_i32_74 v5
  let v111 : BitVec 32 := Scalar.muli c2_i32_76 v109
  let v112 : BitVec 32 := Scalar.addi v110 v111
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v113 : BitVec 32 := Scalar.addi v112 v8
  let c384_i32_77 : BitVec 32 := 384#32
  let v114 : BitVec 32 := Scalar.muli v113 c384_i32_77
  v114
def k0_off4 (d0 : Dev nD) : Fin 2 → Nat :=
  let c0_i32_88 : BitVec 32 := 0#32
  let c4_i32_75 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v110 : BitVec 32 := Scalar.muli c4_i32_75 v2
  let c2_i32_76 : BitVec 32 := 2#32
  let c1_i32_74 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v109 : BitVec 32 := Scalar.subi c1_i32_74 v5
  let v111 : BitVec 32 := Scalar.muli c2_i32_76 v109
  let v112 : BitVec 32 := Scalar.addi v110 v111
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v113 : BitVec 32 := Scalar.addi v112 v8
  let c384_i32_77 : BitVec 32 := 384#32
  let v114 : BitVec 32 := Scalar.muli v113 c384_i32_77
  let v115 : BitVec 32 := v114
  ![0, v115.toNat]
def k0_dev8 (d0 : Dev nD) : Nat :=
  let c0_i32_83 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_82 : BitVec 32 := 4#32
  let v116 : BitVec 32 := Scalar.muli v2 c4_i32_82
  let v117 : BitVec 32 := Scalar.addi c0_i32_83 v116
  let c1_i32_74 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v109 : BitVec 32 := Scalar.subi c1_i32_74 v5
  let c2_i32_84 : BitVec 32 := 2#32
  let v118 : BitVec 32 := Scalar.muli v109 c2_i32_84
  let v119 : BitVec 32 := Scalar.addi v117 v118
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_85 : BitVec 32 := 1#32
  let v120 : BitVec 32 := Scalar.muli v8 c1_i32_85
  let v121 : BitVec 32 := Scalar.addi v119 v120
  v121.toNat
def k0_off5 (d0 : Dev nD) : Fin 3 → Nat :=
  let c4_i32_75 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v110 : BitVec 32 := Scalar.muli c4_i32_75 v2
  let c2_i32_76 : BitVec 32 := 2#32
  let c1_i32_74 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v109 : BitVec 32 := Scalar.subi c1_i32_74 v5
  let v111 : BitVec 32 := Scalar.muli c2_i32_76 v109
  let v112 : BitVec 32 := Scalar.addi v110 v111
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v113 : BitVec 32 := Scalar.addi v112 v8
  let c0_i32_99 : BitVec 32 := 0#32
  let c0_i32_100 : BitVec 32 := 0#32
  ![v113.toNat, 0, 0]
def k0_dev9 (d0 : Dev nD) : Nat :=
  let c0_i32_94 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_93 : BitVec 32 := 4#32
  let v129 : BitVec 32 := Scalar.muli v2 c4_i32_93
  let v130 : BitVec 32 := Scalar.addi c0_i32_94 v129
  let c1_i32_74 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v109 : BitVec 32 := Scalar.subi c1_i32_74 v5
  let c2_i32_95 : BitVec 32 := 2#32
  let v131 : BitVec 32 := Scalar.muli v109 c2_i32_95
  let v132 : BitVec 32 := Scalar.addi v130 v131
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_96 : BitVec 32 := 1#32
  let v133 : BitVec 32 := Scalar.muli v8 c1_i32_96
  let v134 : BitVec 32 := Scalar.addi v132 v133
  v134.toNat
def k0_mult3 (d0 : Dev nD) : BitVec 32 :=
  let c4_i32_102 : BitVec 32 := 4#32
  let c1_i32_101 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v143 : BitVec 32 := Scalar.subi c1_i32_101 v2
  let v144 : BitVec 32 := Scalar.muli c4_i32_102 v143
  let c2_i32_103 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v145 : BitVec 32 := Scalar.muli c2_i32_103 v5
  let v146 : BitVec 32 := Scalar.addi v144 v145
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v147 : BitVec 32 := Scalar.addi v146 v8
  let c384_i32_104 : BitVec 32 := 384#32
  let v148 : BitVec 32 := Scalar.muli v147 c384_i32_104
  v148
def k0_off6 (d0 : Dev nD) : Fin 2 → Nat :=
  let c0_i32_114 : BitVec 32 := 0#32
  let c4_i32_102 : BitVec 32 := 4#32
  let c1_i32_101 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v143 : BitVec 32 := Scalar.subi c1_i32_101 v2
  let v144 : BitVec 32 := Scalar.muli c4_i32_102 v143
  let c2_i32_103 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v145 : BitVec 32 := Scalar.muli c2_i32_103 v5
  let v146 : BitVec 32 := Scalar.addi v144 v145
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v147 : BitVec 32 := Scalar.addi v146 v8
  let c384_i32_104 : BitVec 32 := 384#32
  let v148 : BitVec 32 := Scalar.muli v147 c384_i32_104
  let v149 : BitVec 32 := v148
  ![0, v149.toNat]
def k0_dev10 (d0 : Dev nD) : Nat :=
  let c0_i32_109 : BitVec 32 := 0#32
  let c1_i32_101 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v143 : BitVec 32 := Scalar.subi c1_i32_101 v2
  let c4_i32_108 : BitVec 32 := 4#32
  let v150 : BitVec 32 := Scalar.muli v143 c4_i32_108
  let v151 : BitVec 32 := Scalar.addi c0_i32_109 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_110 : BitVec 32 := 2#32
  let v152 : BitVec 32 := Scalar.muli v5 c2_i32_110
  let v153 : BitVec 32 := Scalar.addi v151 v152
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_111 : BitVec 32 := 1#32
  let v154 : BitVec 32 := Scalar.muli v8 c1_i32_111
  let v155 : BitVec 32 := Scalar.addi v153 v154
  v155.toNat
def k0_off7 (d0 : Dev nD) : Fin 3 → Nat :=
  let c4_i32_102 : BitVec 32 := 4#32
  let c1_i32_101 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v143 : BitVec 32 := Scalar.subi c1_i32_101 v2
  let v144 : BitVec 32 := Scalar.muli c4_i32_102 v143
  let c2_i32_103 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v145 : BitVec 32 := Scalar.muli c2_i32_103 v5
  let v146 : BitVec 32 := Scalar.addi v144 v145
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v147 : BitVec 32 := Scalar.addi v146 v8
  let c0_i32_125 : BitVec 32 := 0#32
  let c0_i32_126 : BitVec 32 := 0#32
  ![v147.toNat, 0, 0]
def k0_dev11 (d0 : Dev nD) : Nat :=
  let c0_i32_120 : BitVec 32 := 0#32
  let c1_i32_101 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v143 : BitVec 32 := Scalar.subi c1_i32_101 v2
  let c4_i32_119 : BitVec 32 := 4#32
  let v163 : BitVec 32 := Scalar.muli v143 c4_i32_119
  let v164 : BitVec 32 := Scalar.addi c0_i32_120 v163
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_121 : BitVec 32 := 2#32
  let v165 : BitVec 32 := Scalar.muli v5 c2_i32_121
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v167 : BitVec 32 := Scalar.muli v8 c1_i32_122
  let v168 : BitVec 32 := Scalar.addi v166 v167
  v168.toNat
def k0_mult4 (d0 : Dev nD) : BitVec 32 :=
  let c4_i32_129 : BitVec 32 := 4#32
  let c1_i32_127 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v177 : BitVec 32 := Scalar.subi c1_i32_127 v2
  let v179 : BitVec 32 := Scalar.muli c4_i32_129 v177
  let c2_i32_130 : BitVec 32 := 2#32
  let c1_i32_128 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v178 : BitVec 32 := Scalar.subi c1_i32_128 v5
  let v180 : BitVec 32 := Scalar.muli c2_i32_130 v178
  let v181 : BitVec 32 := Scalar.addi v179 v180
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v182 : BitVec 32 := Scalar.addi v181 v8
  let c384_i32_131 : BitVec 32 := 384#32
  let v183 : BitVec 32 := Scalar.muli v182 c384_i32_131
  v183
def k0_off8 (d0 : Dev nD) : Fin 2 → Nat :=
  let c0_i32_141 : BitVec 32 := 0#32
  let c4_i32_129 : BitVec 32 := 4#32
  let c1_i32_127 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v177 : BitVec 32 := Scalar.subi c1_i32_127 v2
  let v179 : BitVec 32 := Scalar.muli c4_i32_129 v177
  let c2_i32_130 : BitVec 32 := 2#32
  let c1_i32_128 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v178 : BitVec 32 := Scalar.subi c1_i32_128 v5
  let v180 : BitVec 32 := Scalar.muli c2_i32_130 v178
  let v181 : BitVec 32 := Scalar.addi v179 v180
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v182 : BitVec 32 := Scalar.addi v181 v8
  let c384_i32_131 : BitVec 32 := 384#32
  let v183 : BitVec 32 := Scalar.muli v182 c384_i32_131
  let v184 : BitVec 32 := v183
  ![0, v184.toNat]
def k0_dev12 (d0 : Dev nD) : Nat :=
  let c0_i32_136 : BitVec 32 := 0#32
  let c1_i32_127 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v177 : BitVec 32 := Scalar.subi c1_i32_127 v2
  let c4_i32_135 : BitVec 32 := 4#32
  let v185 : BitVec 32 := Scalar.muli v177 c4_i32_135
  let v186 : BitVec 32 := Scalar.addi c0_i32_136 v185
  let c1_i32_128 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v178 : BitVec 32 := Scalar.subi c1_i32_128 v5
  let c2_i32_137 : BitVec 32 := 2#32
  let v187 : BitVec 32 := Scalar.muli v178 c2_i32_137
  let v188 : BitVec 32 := Scalar.addi v186 v187
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_138 : BitVec 32 := 1#32
  let v189 : BitVec 32 := Scalar.muli v8 c1_i32_138
  let v190 : BitVec 32 := Scalar.addi v188 v189
  v190.toNat
def k0_off9 (d0 : Dev nD) : Fin 3 → Nat :=
  let c4_i32_129 : BitVec 32 := 4#32
  let c1_i32_127 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v177 : BitVec 32 := Scalar.subi c1_i32_127 v2
  let v179 : BitVec 32 := Scalar.muli c4_i32_129 v177
  let c2_i32_130 : BitVec 32 := 2#32
  let c1_i32_128 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v178 : BitVec 32 := Scalar.subi c1_i32_128 v5
  let v180 : BitVec 32 := Scalar.muli c2_i32_130 v178
  let v181 : BitVec 32 := Scalar.addi v179 v180
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v182 : BitVec 32 := Scalar.addi v181 v8
  let c0_i32_152 : BitVec 32 := 0#32
  let c0_i32_153 : BitVec 32 := 0#32
  ![v182.toNat, 0, 0]
def k0_dev13 (d0 : Dev nD) : Nat :=
  let c0_i32_147 : BitVec 32 := 0#32
  let c1_i32_127 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v177 : BitVec 32 := Scalar.subi c1_i32_127 v2
  let c4_i32_146 : BitVec 32 := 4#32
  let v198 : BitVec 32 := Scalar.muli v177 c4_i32_146
  let v199 : BitVec 32 := Scalar.addi c0_i32_147 v198
  let c1_i32_128 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v178 : BitVec 32 := Scalar.subi c1_i32_128 v5
  let c2_i32_148 : BitVec 32 := 2#32
  let v200 : BitVec 32 := Scalar.muli v178 c2_i32_148
  let v201 : BitVec 32 := Scalar.addi v199 v200
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_149 : BitVec 32 := 1#32
  let v202 : BitVec 32 := Scalar.muli v8 c1_i32_149
  let v203 : BitVec 32 := Scalar.addi v201 v202
  v203.toNat
def k0_mult5 (d0 : Dev nD) : BitVec 32 :=
  let c4_i32_156 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_156 v2
  let c2_i32_157 : BitVec 32 := 2#32
  let c1_i32_154 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v212 : BitVec 32 := Scalar.subi c1_i32_154 v5
  let v215 : BitVec 32 := Scalar.muli c2_i32_157 v212
  let v216 : BitVec 32 := Scalar.addi v214 v215
  let c1_i32_155 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v213 : BitVec 32 := Scalar.subi c1_i32_155 v8
  let v217 : BitVec 32 := Scalar.addi v216 v213
  let c384_i32_158 : BitVec 32 := 384#32
  let v218 : BitVec 32 := Scalar.muli v217 c384_i32_158
  v218
def k0_off10 (d0 : Dev nD) : Fin 2 → Nat :=
  let c0_i32_169 : BitVec 32 := 0#32
  let c4_i32_156 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_156 v2
  let c2_i32_157 : BitVec 32 := 2#32
  let c1_i32_154 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v212 : BitVec 32 := Scalar.subi c1_i32_154 v5
  let v215 : BitVec 32 := Scalar.muli c2_i32_157 v212
  let v216 : BitVec 32 := Scalar.addi v214 v215
  let c1_i32_155 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v213 : BitVec 32 := Scalar.subi c1_i32_155 v8
  let v217 : BitVec 32 := Scalar.addi v216 v213
  let c384_i32_158 : BitVec 32 := 384#32
  let v218 : BitVec 32 := Scalar.muli v217 c384_i32_158
  let v219 : BitVec 32 := v218
  ![0, v219.toNat]
def k0_dev14 (d0 : Dev nD) : Nat :=
  let c0_i32_164 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_163 : BitVec 32 := 4#32
  let v220 : BitVec 32 := Scalar.muli v2 c4_i32_163
  let v221 : BitVec 32 := Scalar.addi c0_i32_164 v220
  let c1_i32_154 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v212 : BitVec 32 := Scalar.subi c1_i32_154 v5
  let c2_i32_165 : BitVec 32 := 2#32
  let v222 : BitVec 32 := Scalar.muli v212 c2_i32_165
  let v223 : BitVec 32 := Scalar.addi v221 v222
  let c1_i32_155 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v213 : BitVec 32 := Scalar.subi c1_i32_155 v8
  let c1_i32_166 : BitVec 32 := 1#32
  let v224 : BitVec 32 := Scalar.muli v213 c1_i32_166
  let v225 : BitVec 32 := Scalar.addi v223 v224
  v225.toNat
def k0_off11 (d0 : Dev nD) : Fin 3 → Nat :=
  let c4_i32_156 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_156 v2
  let c2_i32_157 : BitVec 32 := 2#32
  let c1_i32_154 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v212 : BitVec 32 := Scalar.subi c1_i32_154 v5
  let v215 : BitVec 32 := Scalar.muli c2_i32_157 v212
  let v216 : BitVec 32 := Scalar.addi v214 v215
  let c1_i32_155 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v213 : BitVec 32 := Scalar.subi c1_i32_155 v8
  let v217 : BitVec 32 := Scalar.addi v216 v213
  let c0_i32_180 : BitVec 32 := 0#32
  let c0_i32_181 : BitVec 32 := 0#32
  ![v217.toNat, 0, 0]
def k0_dev15 (d0 : Dev nD) : Nat :=
  let c0_i32_175 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_174 : BitVec 32 := 4#32
  let v233 : BitVec 32 := Scalar.muli v2 c4_i32_174
  let v234 : BitVec 32 := Scalar.addi c0_i32_175 v233
  let c1_i32_154 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v212 : BitVec 32 := Scalar.subi c1_i32_154 v5
  let c2_i32_176 : BitVec 32 := 2#32
  let v235 : BitVec 32 := Scalar.muli v212 c2_i32_176
  let v236 : BitVec 32 := Scalar.addi v234 v235
  let c1_i32_155 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v213 : BitVec 32 := Scalar.subi c1_i32_155 v8
  let c1_i32_177 : BitVec 32 := 1#32
  let v237 : BitVec 32 := Scalar.muli v213 c1_i32_177
  let v238 : BitVec 32 := Scalar.addi v236 v237
  v238.toNat
def k0_mult6 (d0 : Dev nD) : BitVec 32 :=
  let c4_i32_184 : BitVec 32 := 4#32
  let c1_i32_182 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v247 : BitVec 32 := Scalar.subi c1_i32_182 v2
  let v249 : BitVec 32 := Scalar.muli c4_i32_184 v247
  let c2_i32_185 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v250 : BitVec 32 := Scalar.muli c2_i32_185 v5
  let v251 : BitVec 32 := Scalar.addi v249 v250
  let c1_i32_183 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v248 : BitVec 32 := Scalar.subi c1_i32_183 v8
  let v252 : BitVec 32 := Scalar.addi v251 v248
  let c384_i32_186 : BitVec 32 := 384#32
  let v253 : BitVec 32 := Scalar.muli v252 c384_i32_186
  v253
def k0_off12 (d0 : Dev nD) : Fin 2 → Nat :=
  let c0_i32_197 : BitVec 32 := 0#32
  let c4_i32_184 : BitVec 32 := 4#32
  let c1_i32_182 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v247 : BitVec 32 := Scalar.subi c1_i32_182 v2
  let v249 : BitVec 32 := Scalar.muli c4_i32_184 v247
  let c2_i32_185 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v250 : BitVec 32 := Scalar.muli c2_i32_185 v5
  let v251 : BitVec 32 := Scalar.addi v249 v250
  let c1_i32_183 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v248 : BitVec 32 := Scalar.subi c1_i32_183 v8
  let v252 : BitVec 32 := Scalar.addi v251 v248
  let c384_i32_186 : BitVec 32 := 384#32
  let v253 : BitVec 32 := Scalar.muli v252 c384_i32_186
  let v254 : BitVec 32 := v253
  ![0, v254.toNat]
def k0_dev16 (d0 : Dev nD) : Nat :=
  let c0_i32_192 : BitVec 32 := 0#32
  let c1_i32_182 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v247 : BitVec 32 := Scalar.subi c1_i32_182 v2
  let c4_i32_191 : BitVec 32 := 4#32
  let v255 : BitVec 32 := Scalar.muli v247 c4_i32_191
  let v256 : BitVec 32 := Scalar.addi c0_i32_192 v255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_193 : BitVec 32 := 2#32
  let v257 : BitVec 32 := Scalar.muli v5 c2_i32_193
  let v258 : BitVec 32 := Scalar.addi v256 v257
  let c1_i32_183 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v248 : BitVec 32 := Scalar.subi c1_i32_183 v8
  let c1_i32_194 : BitVec 32 := 1#32
  let v259 : BitVec 32 := Scalar.muli v248 c1_i32_194
  let v260 : BitVec 32 := Scalar.addi v258 v259
  v260.toNat
def k0_off13 (d0 : Dev nD) : Fin 3 → Nat :=
  let c4_i32_184 : BitVec 32 := 4#32
  let c1_i32_182 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v247 : BitVec 32 := Scalar.subi c1_i32_182 v2
  let v249 : BitVec 32 := Scalar.muli c4_i32_184 v247
  let c2_i32_185 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v250 : BitVec 32 := Scalar.muli c2_i32_185 v5
  let v251 : BitVec 32 := Scalar.addi v249 v250
  let c1_i32_183 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v248 : BitVec 32 := Scalar.subi c1_i32_183 v8
  let v252 : BitVec 32 := Scalar.addi v251 v248
  let c0_i32_208 : BitVec 32 := 0#32
  let c0_i32_209 : BitVec 32 := 0#32
  ![v252.toNat, 0, 0]
def k0_dev17 (d0 : Dev nD) : Nat :=
  let c0_i32_203 : BitVec 32 := 0#32
  let c1_i32_182 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v247 : BitVec 32 := Scalar.subi c1_i32_182 v2
  let c4_i32_202 : BitVec 32 := 4#32
  let v268 : BitVec 32 := Scalar.muli v247 c4_i32_202
  let v269 : BitVec 32 := Scalar.addi c0_i32_203 v268
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_204 : BitVec 32 := 2#32
  let v270 : BitVec 32 := Scalar.muli v5 c2_i32_204
  let v271 : BitVec 32 := Scalar.addi v269 v270
  let c1_i32_183 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v248 : BitVec 32 := Scalar.subi c1_i32_183 v8
  let c1_i32_205 : BitVec 32 := 1#32
  let v272 : BitVec 32 := Scalar.muli v248 c1_i32_205
  let v273 : BitVec 32 := Scalar.addi v271 v272
  v273.toNat
def k0_mult7 (d0 : Dev nD) : BitVec 32 :=
  let c4_i32_213 : BitVec 32 := 4#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v282 : BitVec 32 := Scalar.subi c1_i32_210 v2
  let v285 : BitVec 32 := Scalar.muli c4_i32_213 v282
  let c2_i32_214 : BitVec 32 := 2#32
  let c1_i32_211 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v283 : BitVec 32 := Scalar.subi c1_i32_211 v5
  let v286 : BitVec 32 := Scalar.muli c2_i32_214 v283
  let v287 : BitVec 32 := Scalar.addi v285 v286
  let c1_i32_212 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v284 : BitVec 32 := Scalar.subi c1_i32_212 v8
  let v288 : BitVec 32 := Scalar.addi v287 v284
  let c384_i32_215 : BitVec 32 := 384#32
  let v289 : BitVec 32 := Scalar.muli v288 c384_i32_215
  v289
def k0_off14 (d0 : Dev nD) : Fin 2 → Nat :=
  let c0_i32_225 : BitVec 32 := 0#32
  let c4_i32_213 : BitVec 32 := 4#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v282 : BitVec 32 := Scalar.subi c1_i32_210 v2
  let v285 : BitVec 32 := Scalar.muli c4_i32_213 v282
  let c2_i32_214 : BitVec 32 := 2#32
  let c1_i32_211 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v283 : BitVec 32 := Scalar.subi c1_i32_211 v5
  let v286 : BitVec 32 := Scalar.muli c2_i32_214 v283
  let v287 : BitVec 32 := Scalar.addi v285 v286
  let c1_i32_212 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v284 : BitVec 32 := Scalar.subi c1_i32_212 v8
  let v288 : BitVec 32 := Scalar.addi v287 v284
  let c384_i32_215 : BitVec 32 := 384#32
  let v289 : BitVec 32 := Scalar.muli v288 c384_i32_215
  let v290 : BitVec 32 := v289
  ![0, v290.toNat]
def k0_dev18 (d0 : Dev nD) : Nat :=
  let c0_i32_220 : BitVec 32 := 0#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v282 : BitVec 32 := Scalar.subi c1_i32_210 v2
  let c4_i32_219 : BitVec 32 := 4#32
  let v291 : BitVec 32 := Scalar.muli v282 c4_i32_219
  let v292 : BitVec 32 := Scalar.addi c0_i32_220 v291
  let c1_i32_211 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v283 : BitVec 32 := Scalar.subi c1_i32_211 v5
  let c2_i32_221 : BitVec 32 := 2#32
  let v293 : BitVec 32 := Scalar.muli v283 c2_i32_221
  let v294 : BitVec 32 := Scalar.addi v292 v293
  let c1_i32_212 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v284 : BitVec 32 := Scalar.subi c1_i32_212 v8
  let c1_i32_222 : BitVec 32 := 1#32
  let v295 : BitVec 32 := Scalar.muli v284 c1_i32_222
  let v296 : BitVec 32 := Scalar.addi v294 v295
  v296.toNat
def k0_off15 (d0 : Dev nD) : Fin 3 → Nat :=
  let c4_i32_213 : BitVec 32 := 4#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v282 : BitVec 32 := Scalar.subi c1_i32_210 v2
  let v285 : BitVec 32 := Scalar.muli c4_i32_213 v282
  let c2_i32_214 : BitVec 32 := 2#32
  let c1_i32_211 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v283 : BitVec 32 := Scalar.subi c1_i32_211 v5
  let v286 : BitVec 32 := Scalar.muli c2_i32_214 v283
  let v287 : BitVec 32 := Scalar.addi v285 v286
  let c1_i32_212 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v284 : BitVec 32 := Scalar.subi c1_i32_212 v8
  let v288 : BitVec 32 := Scalar.addi v287 v284
  let c0_i32_236 : BitVec 32 := 0#32
  let c0_i32_237 : BitVec 32 := 0#32
  ![v288.toNat, 0, 0]
def k0_dev19 (d0 : Dev nD) : Nat :=
  let c0_i32_231 : BitVec 32 := 0#32
  let c1_i32_210 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v282 : BitVec 32 := Scalar.subi c1_i32_210 v2
  let c4_i32_230 : BitVec 32 := 4#32
  let v304 : BitVec 32 := Scalar.muli v282 c4_i32_230
  let v305 : BitVec 32 := Scalar.addi c0_i32_231 v304
  let c1_i32_211 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v283 : BitVec 32 := Scalar.subi c1_i32_211 v5
  let c2_i32_232 : BitVec 32 := 2#32
  let v306 : BitVec 32 := Scalar.muli v283 c2_i32_232
  let v307 : BitVec 32 := Scalar.addi v305 v306
  let c1_i32_212 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v284 : BitVec 32 := Scalar.subi c1_i32_212 v8
  let c1_i32_233 : BitVec 32 := 1#32
  let v308 : BitVec 32 := Scalar.muli v284 c1_i32_233
  let v309 : BitVec 32 := Scalar.addi v307 v308
  v309.toNat
def k0_mult8 (d0 : Dev nD) : BitVec 32 :=
  let c4_i32_239 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v319 : BitVec 32 := Scalar.muli c4_i32_239 v2
  let c2_i32_240 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v320 : BitVec 32 := Scalar.muli c2_i32_240 v5
  let v321 : BitVec 32 := Scalar.addi v319 v320
  let c1_i32_238 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v318 : BitVec 32 := Scalar.subi c1_i32_238 v8
  let v322 : BitVec 32 := Scalar.addi v321 v318
  let c384_i32_241 : BitVec 32 := 384#32
  let v323 : BitVec 32 := Scalar.muli v322 c384_i32_241
  v323
def k0_off16 (d0 : Dev nD) : Fin 2 → Nat :=
  let c0_i32_252 : BitVec 32 := 0#32
  let c4_i32_239 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v319 : BitVec 32 := Scalar.muli c4_i32_239 v2
  let c2_i32_240 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v320 : BitVec 32 := Scalar.muli c2_i32_240 v5
  let v321 : BitVec 32 := Scalar.addi v319 v320
  let c1_i32_238 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v318 : BitVec 32 := Scalar.subi c1_i32_238 v8
  let v322 : BitVec 32 := Scalar.addi v321 v318
  let c384_i32_241 : BitVec 32 := 384#32
  let v323 : BitVec 32 := Scalar.muli v322 c384_i32_241
  let v324 : BitVec 32 := v323
  ![0, v324.toNat]
def k0_dev20 (d0 : Dev nD) : Nat :=
  let c0_i32_247 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_246 : BitVec 32 := 4#32
  let v325 : BitVec 32 := Scalar.muli v2 c4_i32_246
  let v326 : BitVec 32 := Scalar.addi c0_i32_247 v325
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_248 : BitVec 32 := 2#32
  let v327 : BitVec 32 := Scalar.muli v5 c2_i32_248
  let v328 : BitVec 32 := Scalar.addi v326 v327
  let c1_i32_238 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v318 : BitVec 32 := Scalar.subi c1_i32_238 v8
  let c1_i32_249 : BitVec 32 := 1#32
  let v329 : BitVec 32 := Scalar.muli v318 c1_i32_249
  let v330 : BitVec 32 := Scalar.addi v328 v329
  v330.toNat
def k0_off17 (d0 : Dev nD) : Fin 3 → Nat :=
  let c4_i32_239 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v319 : BitVec 32 := Scalar.muli c4_i32_239 v2
  let c2_i32_240 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v320 : BitVec 32 := Scalar.muli c2_i32_240 v5
  let v321 : BitVec 32 := Scalar.addi v319 v320
  let c1_i32_238 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v318 : BitVec 32 := Scalar.subi c1_i32_238 v8
  let v322 : BitVec 32 := Scalar.addi v321 v318
  let c0_i32_263 : BitVec 32 := 0#32
  let c0_i32_264 : BitVec 32 := 0#32
  ![v322.toNat, 0, 0]
def k0_dev21 (d0 : Dev nD) : Nat :=
  let c0_i32_258 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_257 : BitVec 32 := 4#32
  let v338 : BitVec 32 := Scalar.muli v2 c4_i32_257
  let v339 : BitVec 32 := Scalar.addi c0_i32_258 v338
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_259 : BitVec 32 := 2#32
  let v340 : BitVec 32 := Scalar.muli v5 c2_i32_259
  let v341 : BitVec 32 := Scalar.addi v339 v340
  let c1_i32_238 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v318 : BitVec 32 := Scalar.subi c1_i32_238 v8
  let c1_i32_260 : BitVec 32 := 1#32
  let v342 : BitVec 32 := Scalar.muli v318 c1_i32_260
  let v343 : BitVec 32 := Scalar.addi v341 v342
  v343.toNat
def k0_mult9 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_268 : BitVec 32 := 384#32
  let v357 : BitVec 32 := Scalar.muli v12 c384_i32_268
  v357
def k0_off18 (d0 : Dev nD) : Fin 3 → Nat :=
  let c4_i32_266 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v353 : BitVec 32 := Scalar.muli c4_i32_266 v2
  let c2_i32_267 : BitVec 32 := 2#32
  let c1_i32_265 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v352 : BitVec 32 := Scalar.subi c1_i32_265 v5
  let v354 : BitVec 32 := Scalar.muli c2_i32_267 v352
  let v355 : BitVec 32 := Scalar.addi v353 v354
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v356 : BitVec 32 := Scalar.addi v355 v8
  let c0_i32_277 : BitVec 32 := 0#32
  let c0_i32_278 : BitVec 32 := 0#32
  ![v356.toNat, 0, 0]
def k0_mult10 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_295 : BitVec 32 := 384#32
  let v387 : BitVec 32 := Scalar.muli v12 c384_i32_295
  v387
def k0_off19 (d0 : Dev nD) : Fin 3 → Nat :=
  let c4_i32_293 : BitVec 32 := 4#32
  let c1_i32_292 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v382 : BitVec 32 := Scalar.subi c1_i32_292 v2
  let v383 : BitVec 32 := Scalar.muli c4_i32_293 v382
  let c2_i32_294 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v384 : BitVec 32 := Scalar.muli c2_i32_294 v5
  let v385 : BitVec 32 := Scalar.addi v383 v384
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v386 : BitVec 32 := Scalar.addi v385 v8
  let c0_i32_304 : BitVec 32 := 0#32
  let c0_i32_305 : BitVec 32 := 0#32
  ![v386.toNat, 0, 0]
def k0_mult11 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_323 : BitVec 32 := 384#32
  let v418 : BitVec 32 := Scalar.muli v12 c384_i32_323
  v418
def k0_off20 (d0 : Dev nD) : Fin 3 → Nat :=
  let c4_i32_321 : BitVec 32 := 4#32
  let c1_i32_319 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v412 : BitVec 32 := Scalar.subi c1_i32_319 v2
  let v414 : BitVec 32 := Scalar.muli c4_i32_321 v412
  let c2_i32_322 : BitVec 32 := 2#32
  let c1_i32_320 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v413 : BitVec 32 := Scalar.subi c1_i32_320 v5
  let v415 : BitVec 32 := Scalar.muli c2_i32_322 v413
  let v416 : BitVec 32 := Scalar.addi v414 v415
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v417 : BitVec 32 := Scalar.addi v416 v8
  let c0_i32_332 : BitVec 32 := 0#32
  let c0_i32_333 : BitVec 32 := 0#32
  ![v417.toNat, 0, 0]
def k0_mult12 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_351 : BitVec 32 := 384#32
  let v449 : BitVec 32 := Scalar.muli v12 c384_i32_351
  v449
def k0_off21 (d0 : Dev nD) : Fin 3 → Nat :=
  let c4_i32_349 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v445 : BitVec 32 := Scalar.muli c4_i32_349 v2
  let c2_i32_350 : BitVec 32 := 2#32
  let c1_i32_347 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v443 : BitVec 32 := Scalar.subi c1_i32_347 v5
  let v446 : BitVec 32 := Scalar.muli c2_i32_350 v443
  let v447 : BitVec 32 := Scalar.addi v445 v446
  let c1_i32_348 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v444 : BitVec 32 := Scalar.subi c1_i32_348 v8
  let v448 : BitVec 32 := Scalar.addi v447 v444
  let c0_i32_360 : BitVec 32 := 0#32
  let c0_i32_361 : BitVec 32 := 0#32
  ![v448.toNat, 0, 0]
def k0_mult13 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_379 : BitVec 32 := 384#32
  let v480 : BitVec 32 := Scalar.muli v12 c384_i32_379
  v480
def k0_off22 (d0 : Dev nD) : Fin 3 → Nat :=
  let c4_i32_377 : BitVec 32 := 4#32
  let c1_i32_375 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v474 : BitVec 32 := Scalar.subi c1_i32_375 v2
  let v476 : BitVec 32 := Scalar.muli c4_i32_377 v474
  let c2_i32_378 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v477 : BitVec 32 := Scalar.muli c2_i32_378 v5
  let v478 : BitVec 32 := Scalar.addi v476 v477
  let c1_i32_376 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v475 : BitVec 32 := Scalar.subi c1_i32_376 v8
  let v479 : BitVec 32 := Scalar.addi v478 v475
  let c0_i32_388 : BitVec 32 := 0#32
  let c0_i32_389 : BitVec 32 := 0#32
  ![v479.toNat, 0, 0]
def k0_mult14 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_408 : BitVec 32 := 384#32
  let v512 : BitVec 32 := Scalar.muli v12 c384_i32_408
  v512
def k0_off23 (d0 : Dev nD) : Fin 3 → Nat :=
  let c4_i32_406 : BitVec 32 := 4#32
  let c1_i32_403 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v505 : BitVec 32 := Scalar.subi c1_i32_403 v2
  let v508 : BitVec 32 := Scalar.muli c4_i32_406 v505
  let c2_i32_407 : BitVec 32 := 2#32
  let c1_i32_404 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v506 : BitVec 32 := Scalar.subi c1_i32_404 v5
  let v509 : BitVec 32 := Scalar.muli c2_i32_407 v506
  let v510 : BitVec 32 := Scalar.addi v508 v509
  let c1_i32_405 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v507 : BitVec 32 := Scalar.subi c1_i32_405 v8
  let v511 : BitVec 32 := Scalar.addi v510 v507
  let c0_i32_417 : BitVec 32 := 0#32
  let c0_i32_418 : BitVec 32 := 0#32
  ![v511.toNat, 0, 0]
def k0_mult15 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_435 : BitVec 32 := 384#32
  let v542 : BitVec 32 := Scalar.muli v12 c384_i32_435
  v542
def k0_off24 (d0 : Dev nD) : Fin 3 → Nat :=
  let c4_i32_433 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v538 : BitVec 32 := Scalar.muli c4_i32_433 v2
  let c2_i32_434 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v539 : BitVec 32 := Scalar.muli c2_i32_434 v5
  let v540 : BitVec 32 := Scalar.addi v538 v539
  let c1_i32_432 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v537 : BitVec 32 := Scalar.subi c1_i32_432 v8
  let v541 : BitVec 32 := Scalar.addi v540 v537
  let c0_i32_444 : BitVec 32 := 0#32
  let c0_i32_445 : BitVec 32 := 0#32
  ![v541.toNat, 0, 0]
def k0_mult16 (d0 : Dev nD) : BitVec 32 :=
  let c4_i32_460 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v568 : BitVec 32 := Scalar.muli c4_i32_460 v2
  let c2_i32_461 : BitVec 32 := 2#32
  let c1_i32_459 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v567 : BitVec 32 := Scalar.subi c1_i32_459 v5
  let v569 : BitVec 32 := Scalar.muli c2_i32_461 v567
  let v570 : BitVec 32 := Scalar.addi v568 v569
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v571 : BitVec 32 := Scalar.addi v570 v8
  let c384_i32_462 : BitVec 32 := 384#32
  let v572 : BitVec 32 := Scalar.muli v571 c384_i32_462
  v572
def k0_mult17 (d0 : Dev nD) : BitVec 32 :=
  let c4_i32_481 : BitVec 32 := 4#32
  let c1_i32_480 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v585 : BitVec 32 := Scalar.subi c1_i32_480 v2
  let v586 : BitVec 32 := Scalar.muli c4_i32_481 v585
  let c2_i32_482 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v587 : BitVec 32 := Scalar.muli c2_i32_482 v5
  let v588 : BitVec 32 := Scalar.addi v586 v587
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v589 : BitVec 32 := Scalar.addi v588 v8
  let c384_i32_483 : BitVec 32 := 384#32
  let v590 : BitVec 32 := Scalar.muli v589 c384_i32_483
  v590
def k0_mult18 (d0 : Dev nD) : BitVec 32 :=
  let c4_i32_503 : BitVec 32 := 4#32
  let c1_i32_501 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v603 : BitVec 32 := Scalar.subi c1_i32_501 v2
  let v605 : BitVec 32 := Scalar.muli c4_i32_503 v603
  let c2_i32_504 : BitVec 32 := 2#32
  let c1_i32_502 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v604 : BitVec 32 := Scalar.subi c1_i32_502 v5
  let v606 : BitVec 32 := Scalar.muli c2_i32_504 v604
  let v607 : BitVec 32 := Scalar.addi v605 v606
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v608 : BitVec 32 := Scalar.addi v607 v8
  let c384_i32_505 : BitVec 32 := 384#32
  let v609 : BitVec 32 := Scalar.muli v608 c384_i32_505
  v609
def k0_mult19 (d0 : Dev nD) : BitVec 32 :=
  let c4_i32_525 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v624 : BitVec 32 := Scalar.muli c4_i32_525 v2
  let c2_i32_526 : BitVec 32 := 2#32
  let c1_i32_523 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v622 : BitVec 32 := Scalar.subi c1_i32_523 v5
  let v625 : BitVec 32 := Scalar.muli c2_i32_526 v622
  let v626 : BitVec 32 := Scalar.addi v624 v625
  let c1_i32_524 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v623 : BitVec 32 := Scalar.subi c1_i32_524 v8
  let v627 : BitVec 32 := Scalar.addi v626 v623
  let c384_i32_527 : BitVec 32 := 384#32
  let v628 : BitVec 32 := Scalar.muli v627 c384_i32_527
  v628
def k0_mult20 (d0 : Dev nD) : BitVec 32 :=
  let c4_i32_547 : BitVec 32 := 4#32
  let c1_i32_545 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v641 : BitVec 32 := Scalar.subi c1_i32_545 v2
  let v643 : BitVec 32 := Scalar.muli c4_i32_547 v641
  let c2_i32_548 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v644 : BitVec 32 := Scalar.muli c2_i32_548 v5
  let v645 : BitVec 32 := Scalar.addi v643 v644
  let c1_i32_546 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v642 : BitVec 32 := Scalar.subi c1_i32_546 v8
  let v646 : BitVec 32 := Scalar.addi v645 v642
  let c384_i32_549 : BitVec 32 := 384#32
  let v647 : BitVec 32 := Scalar.muli v646 c384_i32_549
  v647
def k0_mult21 (d0 : Dev nD) : BitVec 32 :=
  let c4_i32_570 : BitVec 32 := 4#32
  let c1_i32_567 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v660 : BitVec 32 := Scalar.subi c1_i32_567 v2
  let v663 : BitVec 32 := Scalar.muli c4_i32_570 v660
  let c2_i32_571 : BitVec 32 := 2#32
  let c1_i32_568 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v661 : BitVec 32 := Scalar.subi c1_i32_568 v5
  let v664 : BitVec 32 := Scalar.muli c2_i32_571 v661
  let v665 : BitVec 32 := Scalar.addi v663 v664
  let c1_i32_569 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v662 : BitVec 32 := Scalar.subi c1_i32_569 v8
  let v666 : BitVec 32 := Scalar.addi v665 v662
  let c384_i32_572 : BitVec 32 := 384#32
  let v667 : BitVec 32 := Scalar.muli v666 c384_i32_572
  v667
def k0_mult22 (d0 : Dev nD) : BitVec 32 :=
  let c4_i32_591 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v681 : BitVec 32 := Scalar.muli c4_i32_591 v2
  let c2_i32_592 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v682 : BitVec 32 := Scalar.muli c2_i32_592 v5
  let v683 : BitVec 32 := Scalar.addi v681 v682
  let c1_i32_590 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v680 : BitVec 32 := Scalar.subi c1_i32_590 v8
  let v684 : BitVec 32 := Scalar.addi v683 v680
  let c384_i32_593 : BitVec 32 := 384#32
  let v685 : BitVec 32 := Scalar.muli v684 c384_i32_593
  v685
abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Scatter0bRef.lean ====
abbrev S8x1024x3072 : Shape := ⟨3, ![8, 1024, 3072]⟩
abbrev S8x8x3x768 : Shape := ⟨4, ![8, 8, 3, 768]⟩
abbrev S8x1024x8x384 : Shape := ⟨4, ![8, 1024, 8, 384]⟩
abbrev S8x8x1024x384 : Shape := ⟨4, ![8, 8, 1024, 384]⟩

abbrev nBuf : Space → Nat
  | .hbm => 5
  | .vmem => 0
  | .smem => 0
  | _ => 0

abbrev bufTy : (tb : Table) → Fin (tcTables nBuf tb) → BufTy
  | .hbm, ⟨0, _⟩ => ⟨S8x1024x3072, .bf16⟩
  | .hbm, ⟨1, _⟩ => ⟨S8x8x3x768, .f32⟩
  | .hbm, ⟨2, _⟩ => ⟨S8x1024x8x384, .bf16⟩
  | .hbm, ⟨3, _⟩ => ⟨S8x8x1024x384, .bf16⟩
  | .hbm, ⟨4, _⟩ => ⟨S8x8x3x768, .f32⟩
  | _, _ => ⟨S8x1024x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GatherE.lean ====
abbrev S2x1024x704 : Shape := ⟨3, ![2, 1024, 704]⟩
abbrev S2x352x1024 : Shape := ⟨3, ![2, 352, 1024]⟩
abbrev S2x704x1024 : Shape := ⟨3, ![2, 704, 1024]⟩
abbrev S1x704x1024 : Shape := ⟨3, ![1, 704, 1024]⟩
abbrev S704x1024 : Shape := ⟨2, ![704, 1024]⟩
abbrev S1x352x1024 : Shape := ⟨3, ![1, 352, 1024]⟩
abbrev S352x1024 : Shape := ⟨2, ![352, 1024]⟩
abbrev S8x704x1024 : Shape := ⟨3, ![8, 704, 1024]⟩
abbrev S8x352x1024 : Shape := ⟨3, ![8, 352, 1024]⟩
abbrev S2x7 : Shape := ⟨2, ![2, 7]⟩
abbrev S2 : Shape := ⟨1, ![2]⟩
abbrev S_ : Shape := ⟨0, ![]⟩
abbrev S1 : Shape := ⟨1, ![1]⟩
abbrev S1x1 : Shape := ⟨2, ![1, 1]⟩

abbrev nBuf : Table → Nat
  | .hbm => 11
  | _ => 0

abbrev bufTy : (tb : Table) → Fin (nBuf tb) → BufTy
  | .hbm, ⟨0, _⟩ => ⟨S2x1024x704, .f32⟩
  | .hbm, ⟨1, _⟩ => ⟨S2x352x1024, .f32⟩
  | .hbm, ⟨2, _⟩ => ⟨S2x704x1024, .f32⟩
  | .hbm, ⟨3, _⟩ => ⟨S1x704x1024, .f32⟩
  | .hbm, ⟨4, _⟩ => ⟨S704x1024, .f32⟩
  | .hbm, ⟨5, _⟩ => ⟨S704x1024, .bf16⟩
  | .hbm, ⟨6, _⟩ => ⟨S1x352x1024, .f32⟩
  | .hbm, ⟨7, _⟩ => ⟨S352x1024, .f32⟩
  | .hbm, ⟨8, _⟩ => ⟨S352x1024, .bf16⟩
  | .hbm, ⟨9, _⟩ => ⟨S8x704x1024, .bf16⟩
  | .hbm, ⟨10, _⟩ => ⟨S8x352x1024, .bf16⟩
  | _, _ => ⟨S2x1024x704, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 30 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | _ => false

abbrev sig : RefSig :=
  (ofTables nBuf rfl bufTy 5 30 bufScoped semScoped dmaSemScoped tileCredit tileCredit_eq_zero tileCredit_pos).withBarriers [(7, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8_0 : Ref sig .tc := ⟨.hbm, 9, rfl⟩
abbrev main_v8_1 : Ref sig .tc := ⟨.hbm, 10, rfl⟩
abbrev main_v4_scs : Ref sig .scScalar := ⟨.hbm, 5, rfl⟩
abbrev main_v7_scs : Ref sig .scScalar := ⟨.hbm, 8, rfl⟩
abbrev main_v8_0_scs : Ref sig .scScalar := ⟨.hbm, 9, rfl⟩
abbrev main_v8_1_scs : Ref sig .scScalar := ⟨.hbm, 10, rfl⟩
abbrev sc_start : Sem sig := 0
abbrev sc_done : Sem sig := 1
abbrev sc_go : Sem sig := 2
abbrev sc_taskDone : Sem sig := 3
abbrev barrier7 : Sem sig := 4

abbrev nD : Nat := 8
abbrev τ : Topo := Topo.v7x

variable {F : FTy → Type} [FloatOps F]

abbrev grid0 : Pipeline.Grid := ⟨1, ![1], ![false]⟩

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v19 : BitVec 32 := Scalar.muli v2 c4_i32_9
  let v20 : BitVec 32 := Scalar.addi c0_i32 v19
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_5 v5
  let c2_i32_10 : BitVec 32 := 2#32
  let v21 : BitVec 32 := Scalar.muli v14 c2_i32_10
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_11 : BitVec 32 := 1#32
  let v23 : BitVec 32 := Scalar.muli v8 c1_i32_11
  let v24 : BitVec 32 := Scalar.addi v22 v23
  v24.toNat
def k0_dev2 (d0 : Dev nD) : Nat :=
  let c0_i32_17 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_12 v2
  let c4_i32_16 : BitVec 32 := 4#32
  let v30 : BitVec 32 := Scalar.muli v25 c4_i32_16
  let v31 : BitVec 32 := Scalar.addi c0_i32_17 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v32 : BitVec 32 := Scalar.muli v5 c2_i32_18
  let v33 : BitVec 32 := Scalar.addi v31 v32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v34 : BitVec 32 := Scalar.muli v8 c1_i32_19
  let v35 : BitVec 32 := Scalar.addi v33 v34
  v35.toNat
def k0_dev3 (d0 : Dev nD) : Nat :=
  let c0_i32_26 : BitVec 32 := 0#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_20 v2
  let c4_i32_25 : BitVec 32 := 4#32
  let v42 : BitVec 32 := Scalar.muli v36 c4_i32_25
  let v43 : BitVec 32 := Scalar.addi c0_i32_26 v42
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.subi c1_i32_21 v5
  let c2_i32_27 : BitVec 32 := 2#32
  let v44 : BitVec 32 := Scalar.muli v37 c2_i32_27
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v46 : BitVec 32 := Scalar.muli v8 c1_i32_28
  let v47 : BitVec 32 := Scalar.addi v45 v46
  v47.toNat
def k0_dev4 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v54 : BitVec 32 := Scalar.muli v2 c4_i32_34
  let v55 : BitVec 32 := Scalar.addi c0_i32_35 v54
  let c1_i32_29 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_29 v5
  let c2_i32_36 : BitVec 32 := 2#32
  let v56 : BitVec 32 := Scalar.muli v48 c2_i32_36
  let v57 : BitVec 32 := Scalar.addi v55 v56
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_30 v8
  let c1_i32_37 : BitVec 32 := 1#32
  let v58 : BitVec 32 := Scalar.muli v49 c1_i32_37
  let v59 : BitVec 32 := Scalar.addi v57 v58
  v59.toNat
def k0_dev5 (d0 : Dev nD) : Nat :=
  let c0_i32_44 : BitVec 32 := 0#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v60 : BitVec 32 := Scalar.subi c1_i32_38 v2
  let c4_i32_43 : BitVec 32 := 4#32
  let v66 : BitVec 32 := Scalar.muli v60 c4_i32_43
  let v67 : BitVec 32 := Scalar.addi c0_i32_44 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v68 : BitVec 32 := Scalar.muli v5 c2_i32_45
  let v69 : BitVec 32 := Scalar.addi v67 v68
  let c1_i32_39 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v61 : BitVec 32 := Scalar.subi c1_i32_39 v8
  let c1_i32_46 : BitVec 32 := 1#32
  let v70 : BitVec 32 := Scalar.muli v61 c1_i32_46
  let v71 : BitVec 32 := Scalar.addi v69 v70
  v71.toNat
def k0_dev6 (d0 : Dev nD) : Nat :=
  let c0_i32_54 : BitVec 32 := 0#32
  let c1_i32_47 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v72 : BitVec 32 := Scalar.subi c1_i32_47 v2
  let c4_i32_53 : BitVec 32 := 4#32
  let v79 : BitVec 32 := Scalar.muli v72 c4_i32_53
  let v80 : BitVec 32 := Scalar.addi c0_i32_54 v79
  let c1_i32_48 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v73 : BitVec 32 := Scalar.subi c1_i32_48 v5
  let c2_i32_55 : BitVec 32 := 2#32
  let v81 : BitVec 32 := Scalar.muli v73 c2_i32_55
  let v82 : BitVec 32 := Scalar.addi v80 v81
  let c1_i32_49 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v74 : BitVec 32 := Scalar.subi c1_i32_49 v8
  let c1_i32_56 : BitVec 32 := 1#32
  let v83 : BitVec 32 := Scalar.muli v74 c1_i32_56
  let v84 : BitVec 32 := Scalar.addi v82 v83
  v84.toNat
def k0_dev7 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v90 : BitVec 32 := Scalar.muli v2 c4_i32_61
  let v91 : BitVec 32 := Scalar.addi c0_i32_62 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v92 : BitVec 32 := Scalar.muli v5 c2_i32_63
  let v93 : BitVec 32 := Scalar.addi v91 v92
  let c1_i32_57 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v85 : BitVec 32 := Scalar.subi c1_i32_57 v8
  let c1_i32_64 : BitVec 32 := 1#32
  let v94 : BitVec 32 := Scalar.muli v85 c1_i32_64
  let v95 : BitVec 32 := Scalar.addi v93 v94
  v95.toNat
def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_66 : BitVec 32 := 0#32
  let c0_i32_67 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_69 : BitVec 32 := 0#32
  let c0_i32_70 : BitVec 32 := 0#32
  ![v12.toNat, 0, 0]
def k0_dev8 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v109 : BitVec 32 := Scalar.muli v2 c4_i32_78
  let v110 : BitVec 32 := Scalar.addi c0_i32_79 v109
  let c1_i32_71 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v104 : BitVec 32 := Scalar.subi c1_i32_71 v5
  let c2_i32_80 : BitVec 32 := 2#32
  let v111 : BitVec 32 := Scalar.muli v104 c2_i32_80
  let v112 : BitVec 32 := Scalar.addi v110 v111
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v113 : BitVec 32 := Scalar.muli v8 c1_i32_81
  let v114 : BitVec 32 := Scalar.addi v112 v113
  v114.toNat
def k0_dev9 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_88 : BitVec 32 := 4#32
  let v121 : BitVec 32 := Scalar.muli v2 c4_i32_88
  let v122 : BitVec 32 := Scalar.addi c0_i32_89 v121
  let c1_i32_71 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v104 : BitVec 32 := Scalar.subi c1_i32_71 v5
  let c2_i32_90 : BitVec 32 := 2#32
  let v123 : BitVec 32 := Scalar.muli v104 c2_i32_90
  let v124 : BitVec 32 := Scalar.addi v122 v123
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v125 : BitVec 32 := Scalar.muli v8 c1_i32_91
  let v126 : BitVec 32 := Scalar.addi v124 v125
  v126.toNat
def k0_dev10 (d0 : Dev nD) : Nat :=
  let c0_i32_101 : BitVec 32 := 0#32
  let c1_i32_94 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v133 : BitVec 32 := Scalar.subi c1_i32_94 v2
  let c4_i32_100 : BitVec 32 := 4#32
  let v138 : BitVec 32 := Scalar.muli v133 c4_i32_100
  let v139 : BitVec 32 := Scalar.addi c0_i32_101 v138
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_102 : BitVec 32 := 2#32
  let v140 : BitVec 32 := Scalar.muli v5 c2_i32_102
  let v141 : BitVec 32 := Scalar.addi v139 v140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_103 : BitVec 32 := 1#32
  let v142 : BitVec 32 := Scalar.muli v8 c1_i32_103
  let v143 : BitVec 32 := Scalar.addi v141 v142
  v143.toNat
def k0_dev11 (d0 : Dev nD) : Nat :=
  let c0_i32_111 : BitVec 32 := 0#32
  let c1_i32_94 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v133 : BitVec 32 := Scalar.subi c1_i32_94 v2
  let c4_i32_110 : BitVec 32 := 4#32
  let v150 : BitVec 32 := Scalar.muli v133 c4_i32_110
  let v151 : BitVec 32 := Scalar.addi c0_i32_111 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_112 : BitVec 32 := 2#32
  let v152 : BitVec 32 := Scalar.muli v5 c2_i32_112
  let v153 : BitVec 32 := Scalar.addi v151 v152
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_113 : BitVec 32 := 1#32
  let v154 : BitVec 32 := Scalar.muli v8 c1_i32_113
  let v155 : BitVec 32 := Scalar.addi v153 v154
  v155.toNat
def k0_dev12 (d0 : Dev nD) : Nat :=
  let c0_i32_124 : BitVec 32 := 0#32
  let c1_i32_116 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v162 : BitVec 32 := Scalar.subi c1_i32_116 v2
  let c4_i32_123 : BitVec 32 := 4#32
  let v168 : BitVec 32 := Scalar.muli v162 c4_i32_123
  let v169 : BitVec 32 := Scalar.addi c0_i32_124 v168
  let c1_i32_117 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v163 : BitVec 32 := Scalar.subi c1_i32_117 v5
  let c2_i32_125 : BitVec 32 := 2#32
  let v170 : BitVec 32 := Scalar.muli v163 c2_i32_125
  let v171 : BitVec 32 := Scalar.addi v169 v170
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_126 : BitVec 32 := 1#32
  let v172 : BitVec 32 := Scalar.muli v8 c1_i32_126
  let v173 : BitVec 32 := Scalar.addi v171 v172
  v173.toNat
def k0_dev13 (d0 : Dev nD) : Nat :=
  let c0_i32_134 : BitVec 32 := 0#32
  let c1_i32_116 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v162 : BitVec 32 := Scalar.subi c1_i32_116 v2
  let c4_i32_133 : BitVec 32 := 4#32
  let v180 : BitVec 32 := Scalar.muli v162 c4_i32_133
  let v181 : BitVec 32 := Scalar.addi c0_i32_134 v180
  let c1_i32_117 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v163 : BitVec 32 := Scalar.subi c1_i32_117 v5
  let c2_i32_135 : BitVec 32 := 2#32
  let v182 : BitVec 32 := Scalar.muli v163 c2_i32_135
  let v183 : BitVec 32 := Scalar.addi v181 v182
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_136 : BitVec 32 := 1#32
  let v184 : BitVec 32 := Scalar.muli v8 c1_i32_136
  let v185 : BitVec 32 := Scalar.addi v183 v184
  v185.toNat
def k0_dev14 (d0 : Dev nD) : Nat :=
  let c0_i32_148 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_147 : BitVec 32 := 4#32
  let v198 : BitVec 32 := Scalar.muli v2 c4_i32_147
  let v199 : BitVec 32 := Scalar.addi c0_i32_148 v198
  let c1_i32_139 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v192 : BitVec 32 := Scalar.subi c1_i32_139 v5
  let c2_i32_149 : BitVec 32 := 2#32
  let v200 : BitVec 32 := Scalar.muli v192 c2_i32_149
  let v201 : BitVec 32 := Scalar.addi v199 v200
  let c1_i32_140 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v193 : BitVec 32 := Scalar.subi c1_i32_140 v8
  let c1_i32_150 : BitVec 32 := 1#32
  let v202 : BitVec 32 := Scalar.muli v193 c1_i32_150
  let v203 : BitVec 32 := Scalar.addi v201 v202
  v203.toNat
def k0_dev15 (d0 : Dev nD) : Nat :=
  let c0_i32_158 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_157 : BitVec 32 := 4#32
  let v210 : BitVec 32 := Scalar.muli v2 c4_i32_157
  let v211 : BitVec 32 := Scalar.addi c0_i32_158 v210
  let c1_i32_139 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v192 : BitVec 32 := Scalar.subi c1_i32_139 v5
  let c2_i32_159 : BitVec 32 := 2#32
  let v212 : BitVec 32 := Scalar.muli v192 c2_i32_159
  let v213 : BitVec 32 := Scalar.addi v211 v212
  let c1_i32_140 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v193 : BitVec 32 := Scalar.subi c1_i32_140 v8
  let c1_i32_160 : BitVec 32 := 1#32
  let v214 : BitVec 32 := Scalar.muli v193 c1_i32_160
  let v215 : BitVec 32 := Scalar.addi v213 v214
  v215.toNat
def k0_dev16 (d0 : Dev nD) : Nat :=
  let c0_i32_172 : BitVec 32 := 0#32
  let c1_i32_163 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v222 : BitVec 32 := Scalar.subi c1_i32_163 v2
  let c4_i32_171 : BitVec 32 := 4#32
  let v228 : BitVec 32 := Scalar.muli v222 c4_i32_171
  let v229 : BitVec 32 := Scalar.addi c0_i32_172 v228
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_173 : BitVec 32 := 2#32
  let v230 : BitVec 32 := Scalar.muli v5 c2_i32_173
  let v231 : BitVec 32 := Scalar.addi v229 v230
  let c1_i32_164 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v223 : BitVec 32 := Scalar.subi c1_i32_164 v8
  let c1_i32_174 : BitVec 32 := 1#32
  let v232 : BitVec 32 := Scalar.muli v223 c1_i32_174
  let v233 : BitVec 32 := Scalar.addi v231 v232
  v233.toNat
def k0_dev17 (d0 : Dev nD) : Nat :=
  let c0_i32_182 : BitVec 32 := 0#32
  let c1_i32_163 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v222 : BitVec 32 := Scalar.subi c1_i32_163 v2
  let c4_i32_181 : BitVec 32 := 4#32
  let v240 : BitVec 32 := Scalar.muli v222 c4_i32_181
  let v241 : BitVec 32 := Scalar.addi c0_i32_182 v240
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_183 : BitVec 32 := 2#32
  let v242 : BitVec 32 := Scalar.muli v5 c2_i32_183
  let v243 : BitVec 32 := Scalar.addi v241 v242
  let c1_i32_164 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v223 : BitVec 32 := Scalar.subi c1_i32_164 v8
  let c1_i32_184 : BitVec 32 := 1#32
  let v244 : BitVec 32 := Scalar.muli v223 c1_i32_184
  let v245 : BitVec 32 := Scalar.addi v243 v244
  v245.toNat
def k0_dev18 (d0 : Dev nD) : Nat :=
  let c0_i32_196 : BitVec 32 := 0#32
  let c1_i32_187 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v252 : BitVec 32 := Scalar.subi c1_i32_187 v2
  let c4_i32_195 : BitVec 32 := 4#32
  let v259 : BitVec 32 := Scalar.muli v252 c4_i32_195
  let v260 : BitVec 32 := Scalar.addi c0_i32_196 v259
  let c1_i32_188 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v253 : BitVec 32 := Scalar.subi c1_i32_188 v5
  let c2_i32_197 : BitVec 32 := 2#32
  let v261 : BitVec 32 := Scalar.muli v253 c2_i32_197
  let v262 : BitVec 32 := Scalar.addi v260 v261
  let c1_i32_189 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v254 : BitVec 32 := Scalar.subi c1_i32_189 v8
  let c1_i32_198 : BitVec 32 := 1#32
  let v263 : BitVec 32 := Scalar.muli v254 c1_i32_198
  let v264 : BitVec 32 := Scalar.addi v262 v263
  v264.toNat
def k0_dev19 (d0 : Dev nD) : Nat :=
  let c0_i32_206 : BitVec 32 := 0#32
  let c1_i32_187 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v252 : BitVec 32 := Scalar.subi c1_i32_187 v2
  let c4_i32_205 : BitVec 32 := 4#32
  let v271 : BitVec 32 := Scalar.muli v252 c4_i32_205
  let v272 : BitVec 32 := Scalar.addi c0_i32_206 v271
  let c1_i32_188 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v253 : BitVec 32 := Scalar.subi c1_i32_188 v5
  let c2_i32_207 : BitVec 32 := 2#32
  let v273 : BitVec 32 := Scalar.muli v253 c2_i32_207
  let v274 : BitVec 32 := Scalar.addi v272 v273
  let c1_i32_189 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v254 : BitVec 32 := Scalar.subi c1_i32_189 v8
  let c1_i32_208 : BitVec 32 := 1#32
  let v275 : BitVec 32 := Scalar.muli v254 c1_i32_208
  let v276 : BitVec 32 := Scalar.addi v274 v275
  v276.toNat
def k0_dev20 (d0 : Dev nD) : Nat :=
  let c0_i32_219 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_218 : BitVec 32 := 4#32
  let v288 : BitVec 32 := Scalar.muli v2 c4_i32_218
  let v289 : BitVec 32 := Scalar.addi c0_i32_219 v288
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_220 : BitVec 32 := 2#32
  let v290 : BitVec 32 := Scalar.muli v5 c2_i32_220
  let v291 : BitVec 32 := Scalar.addi v289 v290
  let c1_i32_211 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v283 : BitVec 32 := Scalar.subi c1_i32_211 v8
  let c1_i32_221 : BitVec 32 := 1#32
  let v292 : BitVec 32 := Scalar.muli v283 c1_i32_221
  let v293 : BitVec 32 := Scalar.addi v291 v292
  v293.toNat
def k0_dev21 (d0 : Dev nD) : Nat :=
  let c0_i32_229 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_228 : BitVec 32 := 4#32
  let v300 : BitVec 32 := Scalar.muli v2 c4_i32_228
  let v301 : BitVec 32 := Scalar.addi c0_i32_229 v300
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_230 : BitVec 32 := 2#32
  let v302 : BitVec 32 := Scalar.muli v5 c2_i32_230
  let v303 : BitVec 32 := Scalar.addi v301 v302
  let c1_i32_211 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v283 : BitVec 32 := Scalar.subi c1_i32_211 v8
  let c1_i32_231 : BitVec 32 := 1#32
  let v304 : BitVec 32 := Scalar.muli v283 c1_i32_231
  let v305 : BitVec 32 := Scalar.addi v303 v304
  v305.toNat
def k0_off3 (d0 : Dev nD) : Fin 3 → Nat :=
  let c4_i32_235 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v313 : BitVec 32 := Scalar.muli c4_i32_235 v2
  let c2_i32_236 : BitVec 32 := 2#32
  let c1_i32_234 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v312 : BitVec 32 := Scalar.subi c1_i32_234 v5
  let v314 : BitVec 32 := Scalar.muli c2_i32_236 v312
  let v315 : BitVec 32 := Scalar.addi v313 v314
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v316 : BitVec 32 := Scalar.addi v315 v8
  let c0_i32_245 : BitVec 32 := 0#32
  let c0_i32_246 : BitVec 32 := 0#32
  ![v316.toNat, 0, 0]
def k0_off4 (d0 : Dev nD) : Fin 3 → Nat :=
  let c4_i32_235 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v313 : BitVec 32 := Scalar.muli c4_i32_235 v2
  let c2_i32_236 : BitVec 32 := 2#32
  let c1_i32_234 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v312 : BitVec 32 := Scalar.subi c1_i32_234 v5
  let v314 : BitVec 32 := Scalar.muli c2_i32_236 v312
  let v315 : BitVec 32 := Scalar.addi v313 v314
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v316 : BitVec 32 := Scalar.addi v315 v8
  let c0_i32_255 : BitVec 32 := 0#32
  let c0_i32_256 : BitVec 32 := 0#32
  ![v316.toNat, 0, 0]
def k0_off5 (d0 : Dev nD) : Fin 3 → Nat :=
  let c4_i32_258 : BitVec 32 := 4#32
  let c1_i32_257 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v337 : BitVec 32 := Scalar.subi c1_i32_257 v2
  let v338 : BitVec 32 := Scalar.muli c4_i32_258 v337
  let c2_i32_259 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v339 : BitVec 32 := Scalar.muli c2_i32_259 v5
  let v340 : BitVec 32 := Scalar.addi v338 v339
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v341 : BitVec 32 := Scalar.addi v340 v8
  let c0_i32_268 : BitVec 32 := 0#32
  let c0_i32_269 : BitVec 32 := 0#32
  ![v341.toNat, 0, 0]
def k0_off6 (d0 : Dev nD) : Fin 3 → Nat :=
  let c4_i32_258 : BitVec 32 := 4#32
  let c1_i32_257 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v337 : BitVec 32 := Scalar.subi c1_i32_257 v2
  let v338 : BitVec 32 := Scalar.muli c4_i32_258 v337
  let c2_i32_259 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v339 : BitVec 32 := Scalar.muli c2_i32_259 v5
  let v340 : BitVec 32 := Scalar.addi v338 v339
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v341 : BitVec 32 := Scalar.addi v340 v8
  let c0_i32_278 : BitVec 32 := 0#32
  let c0_i32_279 : BitVec 32 := 0#32
  ![v341.toNat, 0, 0]
def k0_off7 (d0 : Dev nD) : Fin 3 → Nat :=
  let c4_i32_282 : BitVec 32 := 4#32
  let c1_i32_280 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v362 : BitVec 32 := Scalar.subi c1_i32_280 v2
  let v364 : BitVec 32 := Scalar.muli c4_i32_282 v362
  let c2_i32_283 : BitVec 32 := 2#32
  let c1_i32_281 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v363 : BitVec 32 := Scalar.subi c1_i32_281 v5
  let v365 : BitVec 32 := Scalar.muli c2_i32_283 v363
  let v366 : BitVec 32 := Scalar.addi v364 v365
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v367 : BitVec 32 := Scalar.addi v366 v8
  let c0_i32_292 : BitVec 32 := 0#32
  let c0_i32_293 : BitVec 32 := 0#32
  ![v367.toNat, 0, 0]
def k0_off8 (d0 : Dev nD) : Fin 3 → Nat :=
  let c4_i32_282 : BitVec 32 := 4#32
  let c1_i32_280 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v362 : BitVec 32 := Scalar.subi c1_i32_280 v2
  let v364 : BitVec 32 := Scalar.muli c4_i32_282 v362
  let c2_i32_283 : BitVec 32 := 2#32
  let c1_i32_281 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v363 : BitVec 32 := Scalar.subi c1_i32_281 v5
  let v365 : BitVec 32 := Scalar.muli c2_i32_283 v363
  let v366 : BitVec 32 := Scalar.addi v364 v365
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v367 : BitVec 32 := Scalar.addi v366 v8
  let c0_i32_302 : BitVec 32 := 0#32
  let c0_i32_303 : BitVec 32 := 0#32
  ![v367.toNat, 0, 0]
def k0_off9 (d0 : Dev nD) : Fin 3 → Nat :=
  let c4_i32_306 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v390 : BitVec 32 := Scalar.muli c4_i32_306 v2
  let c2_i32_307 : BitVec 32 := 2#32
  let c1_i32_304 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v388 : BitVec 32 := Scalar.subi c1_i32_304 v5
  let v391 : BitVec 32 := Scalar.muli c2_i32_307 v388
  let v392 : BitVec 32 := Scalar.addi v390 v391
  let c1_i32_305 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v389 : BitVec 32 := Scalar.subi c1_i32_305 v8
  let v393 : BitVec 32 := Scalar.addi v392 v389
  let c0_i32_316 : BitVec 32 := 0#32
  let c0_i32_317 : BitVec 32 := 0#32
  ![v393.toNat, 0, 0]
def k0_off10 (d0 : Dev nD) : Fin 3 → Nat :=
  let c4_i32_306 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v390 : BitVec 32 := Scalar.muli c4_i32_306 v2
  let c2_i32_307 : BitVec 32 := 2#32
  let c1_i32_304 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v388 : BitVec 32 := Scalar.subi c1_i32_304 v5
  let v391 : BitVec 32 := Scalar.muli c2_i32_307 v388
  let v392 : BitVec 32 := Scalar.addi v390 v391
  let c1_i32_305 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v389 : BitVec 32 := Scalar.subi c1_i32_305 v8
  let v393 : BitVec 32 := Scalar.addi v392 v389
  let c0_i32_326 : BitVec 32 := 0#32
  let c0_i32_327 : BitVec 32 := 0#32
  ![v393.toNat, 0, 0]
def k0_off11 (d0 : Dev nD) : Fin 3 → Nat :=
  let c4_i32_330 : BitVec 32 := 4#32
  let c1_i32_328 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v414 : BitVec 32 := Scalar.subi c1_i32_328 v2
  let v416 : BitVec 32 := Scalar.muli c4_i32_330 v414
  let c2_i32_331 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v417 : BitVec 32 := Scalar.muli c2_i32_331 v5
  let v418 : BitVec 32 := Scalar.addi v416 v417
  let c1_i32_329 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v415 : BitVec 32 := Scalar.subi c1_i32_329 v8
  let v419 : BitVec 32 := Scalar.addi v418 v415
  let c0_i32_340 : BitVec 32 := 0#32
  let c0_i32_341 : BitVec 32 := 0#32
  ![v419.toNat, 0, 0]
def k0_off12 (d0 : Dev nD) : Fin 3 → Nat :=
  let c4_i32_330 : BitVec 32 := 4#32
  let c1_i32_328 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v414 : BitVec 32 := Scalar.subi c1_i32_328 v2
  let v416 : BitVec 32 := Scalar.muli c4_i32_330 v414
  let c2_i32_331 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v417 : BitVec 32 := Scalar.muli c2_i32_331 v5
  let v418 : BitVec 32 := Scalar.addi v416 v417
  let c1_i32_329 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v415 : BitVec 32 := Scalar.subi c1_i32_329 v8
  let v419 : BitVec 32 := Scalar.addi v418 v415
  let c0_i32_350 : BitVec 32 := 0#32
  let c0_i32_351 : BitVec 32 := 0#32
  ![v419.toNat, 0, 0]
def k0_off13 (d0 : Dev nD) : Fin 3 → Nat :=
  let c4_i32_355 : BitVec 32 := 4#32
  let c1_i32_352 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v440 : BitVec 32 := Scalar.subi c1_i32_352 v2
  let v443 : BitVec 32 := Scalar.muli c4_i32_355 v440
  let c2_i32_356 : BitVec 32 := 2#32
  let c1_i32_353 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v441 : BitVec 32 := Scalar.subi c1_i32_353 v5
  let v444 : BitVec 32 := Scalar.muli c2_i32_356 v441
  let v445 : BitVec 32 := Scalar.addi v443 v444
  let c1_i32_354 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v442 : BitVec 32 := Scalar.subi c1_i32_354 v8
  let v446 : BitVec 32 := Scalar.addi v445 v442
  let c0_i32_365 : BitVec 32 := 0#32
  let c0_i32_366 : BitVec 32 := 0#32
  ![v446.toNat, 0, 0]
def k0_off14 (d0 : Dev nD) : Fin 3 → Nat :=
  let c4_i32_355 : BitVec 32 := 4#32
  let c1_i32_352 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v440 : BitVec 32 := Scalar.subi c1_i32_352 v2
  let v443 : BitVec 32 := Scalar.muli c4_i32_355 v440
  let c2_i32_356 : BitVec 32 := 2#32
  let c1_i32_353 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v441 : BitVec 32 := Scalar.subi c1_i32_353 v5
  let v444 : BitVec 32 := Scalar.muli c2_i32_356 v441
  let v445 : BitVec 32 := Scalar.addi v443 v444
  let c1_i32_354 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v442 : BitVec 32 := Scalar.subi c1_i32_354 v8
  let v446 : BitVec 32 := Scalar.addi v445 v442
  let c0_i32_375 : BitVec 32 := 0#32
  let c0_i32_376 : BitVec 32 := 0#32
  ![v446.toNat, 0, 0]
def k0_off15 (d0 : Dev nD) : Fin 3 → Nat :=
  let c4_i32_378 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v468 : BitVec 32 := Scalar.muli c4_i32_378 v2
  let c2_i32_379 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v469 : BitVec 32 := Scalar.muli c2_i32_379 v5
  let v470 : BitVec 32 := Scalar.addi v468 v469
  let c1_i32_377 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v467 : BitVec 32 := Scalar.subi c1_i32_377 v8
  let v471 : BitVec 32 := Scalar.addi v470 v467
  let c0_i32_388 : BitVec 32 := 0#32
  let c0_i32_389 : BitVec 32 := 0#32
  ![v471.toNat, 0, 0]
def k0_off16 (d0 : Dev nD) : Fin 3 → Nat :=
  let c4_i32_378 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v468 : BitVec 32 := Scalar.muli c4_i32_378 v2
  let c2_i32_379 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v469 : BitVec 32 := Scalar.muli c2_i32_379 v5
  let v470 : BitVec 32 := Scalar.addi v468 v469
  let c1_i32_377 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v467 : BitVec 32 := Scalar.subi c1_i32_377 v8
  let v471 : BitVec 32 := Scalar.addi v470 v467
  let c0_i32_398 : BitVec 32 := 0#32
  let c0_i32_399 : BitVec 32 := 0#32
  ![v471.toNat, 0, 0]
abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== GatherERef.lean ====
abbrev S2x1024x5632 : Shape := ⟨3, ![2, 1024, 5632]⟩
abbrev S2x2816x1024 : Shape := ⟨3, ![2, 2816, 1024]⟩
abbrev S1x1024x5632 : Shape := ⟨3, ![1, 1024, 5632]⟩
abbrev S1024x5632 : Shape := ⟨2, ![1024, 5632]⟩
abbrev S5632x1024 : Shape := ⟨2, ![5632, 1024]⟩
abbrev S8x704x1024 : Shape := ⟨3, ![8, 704, 1024]⟩
abbrev S1x2816x1024 : Shape := ⟨3, ![1, 2816, 1024]⟩
abbrev S2816x1024 : Shape := ⟨2, ![2816, 1024]⟩
abbrev S8x352x1024 : Shape := ⟨3, ![8, 352, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x1024x5632, .f32⟩
  | .hbm, ⟨1, _⟩ => ⟨S2x2816x1024, .f32⟩
  | .hbm, ⟨2, _⟩ => ⟨S1x1024x5632, .f32⟩
  | .hbm, ⟨3, _⟩ => ⟨S1024x5632, .f32⟩
  | .hbm, ⟨4, _⟩ => ⟨S5632x1024, .f32⟩
  | .hbm, ⟨5, _⟩ => ⟨S5632x1024, .bf16⟩
  | .hbm, ⟨6, _⟩ => ⟨S8x704x1024, .bf16⟩
  | .hbm, ⟨7, _⟩ => ⟨S1x2816x1024, .f32⟩
  | .hbm, ⟨8, _⟩ => ⟨S2816x1024, .f32⟩
  | .hbm, ⟨9, _⟩ => ⟨S2816x1024, .bf16⟩
  | .hbm, ⟨10, _⟩ => ⟨S8x352x1024, .bf16⟩
  | _, _ => ⟨S2x1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== GatherB.lean ====
abbrev S2x128x1024 : Shape := ⟨3, ![2, 128, 1024]⟩
abbrev S2x1024x704 : Shape := ⟨3, ![2, 1024, 704]⟩
abbrev S2x704x1024 : Shape := ⟨3, ![2, 704, 1024]⟩
abbrev S1x128x1024 : Shape := ⟨3, ![1, 128, 1024]⟩
abbrev S128x1024 : Shape := ⟨2, ![128, 1024]⟩
abbrev S1x704x1024 : Shape := ⟨3, ![1, 704, 1024]⟩
abbrev S704x1024 : Shape := ⟨2, ![704, 1024]⟩
abbrev S8x128x1024 : Shape := ⟨3, ![8, 128, 1024]⟩
abbrev S8x704x1024 : Shape := ⟨3, ![8, 704, 1024]⟩
abbrev S2x7 : Shape := ⟨2, ![2, 7]⟩
abbrev S2 : Shape := ⟨1, ![2]⟩
abbrev S_ : Shape := ⟨0, ![]⟩
abbrev S1 : Shape := ⟨1, ![1]⟩
abbrev S1x1 : Shape := ⟨2, ![1, 1]⟩

abbrev nBuf : Table → Nat
  | .hbm => 11
  | _ => 0

abbrev bufTy : (tb : Table) → Fin (nBuf tb) → BufTy
  | .hbm, ⟨0, _⟩ => ⟨S2x128x1024, .f32⟩
  | .hbm, ⟨1, _⟩ => ⟨S2x1024x704, .f32⟩
  | .hbm, ⟨2, _⟩ => ⟨S2x704x1024, .f32⟩
  | .hbm, ⟨3, _⟩ => ⟨S1x128x1024, .f32⟩
  | .hbm, ⟨4, _⟩ => ⟨S128x1024, .f32⟩
  | .hbm, ⟨5, _⟩ => ⟨S128x1024, .bf16⟩
  | .hbm, ⟨6, _⟩ => ⟨S1x704x1024, .f32⟩
  | .hbm, ⟨7, _⟩ => ⟨S704x1024, .f32⟩
  | .hbm, ⟨8, _⟩ => ⟨S704x1024, .bf16⟩
  | .hbm, ⟨9, _⟩ => ⟨S8x128x1024, .bf16⟩
  | .hbm, ⟨10, _⟩ => ⟨S8x704x1024, .bf16⟩
  | _, _ => ⟨S2x128x1024, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 30 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | _ => false

abbrev sig : RefSig :=
  (ofTables nBuf rfl bufTy 5 30 bufScoped semScoped dmaSemScoped tileCredit tileCredit_eq_zero tileCredit_pos).withBarriers [(1, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8_0 : Ref sig .tc := ⟨.hbm, 9, rfl⟩
abbrev main_v8_1 : Ref sig .tc := ⟨.hbm, 10, rfl⟩
abbrev main_v4_scs : Ref sig .scScalar := ⟨.hbm, 5, rfl⟩
abbrev main_v7_scs : Ref sig .scScalar := ⟨.hbm, 8, rfl⟩
abbrev main_v8_0_scs : Ref sig .scScalar := ⟨.hbm, 9, rfl⟩
abbrev main_v8_1_scs : Ref sig .scScalar := ⟨.hbm, 10, rfl⟩
abbrev sc_start : Sem sig := 0
abbrev sc_done : Sem sig := 1
abbrev sc_go : Sem sig := 2
abbrev sc_taskDone : Sem sig := 3
abbrev barrier1 : Sem sig := 4

abbrev nD : Nat := 8
abbrev τ : Topo := Topo.v7x

variable {F : FTy → Type} [FloatOps F]

abbrev grid0 : Pipeline.Grid := ⟨1, ![1], ![false]⟩

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v19 : BitVec 32 := Scalar.muli v2 c4_i32_9
  let v20 : BitVec 32 := Scalar.addi c0_i32 v19
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_5 v5
  let c2_i32_10 : BitVec 32 := 2#32
  let v21 : BitVec 32 := Scalar.muli v14 c2_i32_10
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_11 : BitVec 32 := 1#32
  let v23 : BitVec 32 := Scalar.muli v8 c1_i32_11
  let v24 : BitVec 32 := Scalar.addi v22 v23
  v24.toNat
def k0_dev2 (d0 : Dev nD) : Nat :=
  let c0_i32_17 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_12 v2
  let c4_i32_16 : BitVec 32 := 4#32
  let v30 : BitVec 32 := Scalar.muli v25 c4_i32_16
  let v31 : BitVec 32 := Scalar.addi c0_i32_17 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v32 : BitVec 32 := Scalar.muli v5 c2_i32_18
  let v33 : BitVec 32 := Scalar.addi v31 v32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v34 : BitVec 32 := Scalar.muli v8 c1_i32_19
  let v35 : BitVec 32 := Scalar.addi v33 v34
  v35.toNat
def k0_dev3 (d0 : Dev nD) : Nat :=
  let c0_i32_26 : BitVec 32 := 0#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_20 v2
  let c4_i32_25 : BitVec 32 := 4#32
  let v42 : BitVec 32 := Scalar.muli v36 c4_i32_25
  let v43 : BitVec 32 := Scalar.addi c0_i32_26 v42
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.subi c1_i32_21 v5
  let c2_i32_27 : BitVec 32 := 2#32
  let v44 : BitVec 32 := Scalar.muli v37 c2_i32_27
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v46 : BitVec 32 := Scalar.muli v8 c1_i32_28
  let v47 : BitVec 32 := Scalar.addi v45 v46
  v47.toNat
def k0_dev4 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v54 : BitVec 32 := Scalar.muli v2 c4_i32_34
  let v55 : BitVec 32 := Scalar.addi c0_i32_35 v54
  let c1_i32_29 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_29 v5
  let c2_i32_36 : BitVec 32 := 2#32
  let v56 : BitVec 32 := Scalar.muli v48 c2_i32_36
  let v57 : BitVec 32 := Scalar.addi v55 v56
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_30 v8
  let c1_i32_37 : BitVec 32 := 1#32
  let v58 : BitVec 32 := Scalar.muli v49 c1_i32_37
  let v59 : BitVec 32 := Scalar.addi v57 v58
  v59.toNat
def k0_dev5 (d0 : Dev nD) : Nat :=
  let c0_i32_44 : BitVec 32 := 0#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v60 : BitVec 32 := Scalar.subi c1_i32_38 v2
  let c4_i32_43 : BitVec 32 := 4#32
  let v66 : BitVec 32 := Scalar.muli v60 c4_i32_43
  let v67 : BitVec 32 := Scalar.addi c0_i32_44 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v68 : BitVec 32 := Scalar.muli v5 c2_i32_45
  let v69 : BitVec 32 := Scalar.addi v67 v68
  let c1_i32_39 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v61 : BitVec 32 := Scalar.subi c1_i32_39 v8
  let c1_i32_46 : BitVec 32 := 1#32
  let v70 : BitVec 32 := Scalar.muli v61 c1_i32_46
  let v71 : BitVec 32 := Scalar.addi v69 v70
  v71.toNat
def k0_dev6 (d0 : Dev nD) : Nat :=
  let c0_i32_54 : BitVec 32 := 0#32
  let c1_i32_47 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v72 : BitVec 32 := Scalar.subi c1_i32_47 v2
  let c4_i32_53 : BitVec 32 := 4#32
  let v79 : BitVec 32 := Scalar.muli v72 c4_i32_53
  let v80 : BitVec 32 := Scalar.addi c0_i32_54 v79
  let c1_i32_48 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v73 : BitVec 32 := Scalar.subi c1_i32_48 v5
  let c2_i32_55 : BitVec 32 := 2#32
  let v81 : BitVec 32 := Scalar.muli v73 c2_i32_55
  let v82 : BitVec 32 := Scalar.addi v80 v81
  let c1_i32_49 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v74 : BitVec 32 := Scalar.subi c1_i32_49 v8
  let c1_i32_56 : BitVec 32 := 1#32
  let v83 : BitVec 32 := Scalar.muli v74 c1_i32_56
  let v84 : BitVec 32 := Scalar.addi v82 v83
  v84.toNat
def k0_dev7 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v90 : BitVec 32 := Scalar.muli v2 c4_i32_61
  let v91 : BitVec 32 := Scalar.addi c0_i32_62 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v92 : BitVec 32 := Scalar.muli v5 c2_i32_63
  let v93 : BitVec 32 := Scalar.addi v91 v92
  let c1_i32_57 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v85 : BitVec 32 := Scalar.subi c1_i32_57 v8
  let c1_i32_64 : BitVec 32 := 1#32
  let v94 : BitVec 32 := Scalar.muli v85 c1_i32_64
  let v95 : BitVec 32 := Scalar.addi v93 v94
  v95.toNat
def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_66 : BitVec 32 := 0#32
  let c0_i32_67 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_69 : BitVec 32 := 0#32
  let c0_i32_70 : BitVec 32 := 0#32
  ![v12.toNat, 0, 0]
def k0_dev8 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v109 : BitVec 32 := Scalar.muli v2 c4_i32_78
  let v110 : BitVec 32 := Scalar.addi c0_i32_79 v109
  let c1_i32_71 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v104 : BitVec 32 := Scalar.subi c1_i32_71 v5
  let c2_i32_80 : BitVec 32 := 2#32
  let v111 : BitVec 32 := Scalar.muli v104 c2_i32_80
  let v112 : BitVec 32 := Scalar.addi v110 v111
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v113 : BitVec 32 := Scalar.muli v8 c1_i32_81
  let v114 : BitVec 32 := Scalar.addi v112 v113
  v114.toNat
def k0_dev9 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_88 : BitVec 32 := 4#32
  let v121 : BitVec 32 := Scalar.muli v2 c4_i32_88
  let v122 : BitVec 32 := Scalar.addi c0_i32_89 v121
  let c1_i32_71 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v104 : BitVec 32 := Scalar.subi c1_i32_71 v5
  let c2_i32_90 : BitVec 32 := 2#32
  let v123 : BitVec 32 := Scalar.muli v104 c2_i32_90
  let v124 : BitVec 32 := Scalar.addi v122 v123
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v125 : BitVec 32 := Scalar.muli v8 c1_i32_91
  let v126 : BitVec 32 := Scalar.addi v124 v125
  v126.toNat
def k0_dev10 (d0 : Dev nD) : Nat :=
  let c0_i32_101 : BitVec 32 := 0#32
  let c1_i32_94 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v133 : BitVec 32 := Scalar.subi c1_i32_94 v2
  let c4_i32_100 : BitVec 32 := 4#32
  let v138 : BitVec 32 := Scalar.muli v133 c4_i32_100
  let v139 : BitVec 32 := Scalar.addi c0_i32_101 v138
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_102 : BitVec 32 := 2#32
  let v140 : BitVec 32 := Scalar.muli v5 c2_i32_102
  let v141 : BitVec 32 := Scalar.addi v139 v140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_103 : BitVec 32 := 1#32
  let v142 : BitVec 32 := Scalar.muli v8 c1_i32_103
  let v143 : BitVec 32 := Scalar.addi v141 v142
  v143.toNat
def k0_dev11 (d0 : Dev nD) : Nat :=
  let c0_i32_111 : BitVec 32 := 0#32
  let c1_i32_94 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v133 : BitVec 32 := Scalar.subi c1_i32_94 v2
  let c4_i32_110 : BitVec 32 := 4#32
  let v150 : BitVec 32 := Scalar.muli v133 c4_i32_110
  let v151 : BitVec 32 := Scalar.addi c0_i32_111 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_112 : BitVec 32 := 2#32
  let v152 : BitVec 32 := Scalar.muli v5 c2_i32_112
  let v153 : BitVec 32 := Scalar.addi v151 v152
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_113 : BitVec 32 := 1#32
  let v154 : BitVec 32 := Scalar.muli v8 c1_i32_113
  let v155 : BitVec 32 := Scalar.addi v153 v154
  v155.toNat
def k0_dev12 (d0 : Dev nD) : Nat :=
  let c0_i32_124 : BitVec 32 := 0#32
  let c1_i32_116 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v162 : BitVec 32 := Scalar.subi c1_i32_116 v2
  let c4_i32_123 : BitVec 32 := 4#32
  let v168 : BitVec 32 := Scalar.muli v162 c4_i32_123
  let v169 : BitVec 32 := Scalar.addi c0_i32_124 v168
  let c1_i32_117 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v163 : BitVec 32 := Scalar.subi c1_i32_117 v5
  let c2_i32_125 : BitVec 32 := 2#32
  let v170 : BitVec 32 := Scalar.muli v163 c2_i32_125
  let v171 : BitVec 32 := Scalar.addi v169 v170
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_126 : BitVec 32 := 1#32
  let v172 : BitVec 32 := Scalar.muli v8 c1_i32_126
  let v173 : BitVec 32 := Scalar.addi v171 v172
  v173.toNat
def k0_dev13 (d0 : Dev nD) : Nat :=
  let c0_i32_134 : BitVec 32 := 0#32
  let c1_i32_116 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v162 : BitVec 32 := Scalar.subi c1_i32_116 v2
  let c4_i32_133 : BitVec 32 := 4#32
  let v180 : BitVec 32 := Scalar.muli v162 c4_i32_133
  let v181 : BitVec 32 := Scalar.addi c0_i32_134 v180
  let c1_i32_117 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v163 : BitVec 32 := Scalar.subi c1_i32_117 v5
  let c2_i32_135 : BitVec 32 := 2#32
  let v182 : BitVec 32 := Scalar.muli v163 c2_i32_135
  let v183 : BitVec 32 := Scalar.addi v181 v182
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_136 : BitVec 32 := 1#32
  let v184 : BitVec 32 := Scalar.muli v8 c1_i32_136
  let v185 : BitVec 32 := Scalar.addi v183 v184
  v185.toNat
def k0_dev14 (d0 : Dev nD) : Nat :=
  let c0_i32_148 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_147 : BitVec 32 := 4#32
  let v198 : BitVec 32 := Scalar.muli v2 c4_i32_147
  let v199 : BitVec 32 := Scalar.addi c0_i32_148 v198
  let c1_i32_139 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v192 : BitVec 32 := Scalar.subi c1_i32_139 v5
  let c2_i32_149 : BitVec 32 := 2#32
  let v200 : BitVec 32 := Scalar.muli v192 c2_i32_149
  let v201 : BitVec 32 := Scalar.addi v199 v200
  let c1_i32_140 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v193 : BitVec 32 := Scalar.subi c1_i32_140 v8
  let c1_i32_150 : BitVec 32 := 1#32
  let v202 : BitVec 32 := Scalar.muli v193 c1_i32_150
  let v203 : BitVec 32 := Scalar.addi v201 v202
  v203.toNat
def k0_dev15 (d0 : Dev nD) : Nat :=
  let c0_i32_158 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_157 : BitVec 32 := 4#32
  let v210 : BitVec 32 := Scalar.muli v2 c4_i32_157
  let v211 : BitVec 32 := Scalar.addi c0_i32_158 v210
  let c1_i32_139 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v192 : BitVec 32 := Scalar.subi c1_i32_139 v5
  let c2_i32_159 : BitVec 32 := 2#32
  let v212 : BitVec 32 := Scalar.muli v192 c2_i32_159
  let v213 : BitVec 32 := Scalar.addi v211 v212
  let c1_i32_140 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v193 : BitVec 32 := Scalar.subi c1_i32_140 v8
  let c1_i32_160 : BitVec 32 := 1#32
  let v214 : BitVec 32 := Scalar.muli v193 c1_i32_160
  let v215 : BitVec 32 := Scalar.addi v213 v214
  v215.toNat
def k0_dev16 (d0 : Dev nD) : Nat :=
  let c0_i32_172 : BitVec 32 := 0#32
  let c1_i32_163 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v222 : BitVec 32 := Scalar.subi c1_i32_163 v2
  let c4_i32_171 : BitVec 32 := 4#32
  let v228 : BitVec 32 := Scalar.muli v222 c4_i32_171
  let v229 : BitVec 32 := Scalar.addi c0_i32_172 v228
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_173 : BitVec 32 := 2#32
  let v230 : BitVec 32 := Scalar.muli v5 c2_i32_173
  let v231 : BitVec 32 := Scalar.addi v229 v230
  let c1_i32_164 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v223 : BitVec 32 := Scalar.subi c1_i32_164 v8
  let c1_i32_174 : BitVec 32 := 1#32
  let v232 : BitVec 32 := Scalar.muli v223 c1_i32_174
  let v233 : BitVec 32 := Scalar.addi v231 v232
  v233.toNat
def k0_dev17 (d0 : Dev nD) : Nat :=
  let c0_i32_182 : BitVec 32 := 0#32
  let c1_i32_163 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v222 : BitVec 32 := Scalar.subi c1_i32_163 v2
  let c4_i32_181 : BitVec 32 := 4#32
  let v240 : BitVec 32 := Scalar.muli v222 c4_i32_181
  let v241 : BitVec 32 := Scalar.addi c0_i32_182 v240
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_183 : BitVec 32 := 2#32
  let v242 : BitVec 32 := Scalar.muli v5 c2_i32_183
  let v243 : BitVec 32 := Scalar.addi v241 v242
  let c1_i32_164 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v223 : BitVec 32 := Scalar.subi c1_i32_164 v8
  let c1_i32_184 : BitVec 32 := 1#32
  let v244 : BitVec 32 := Scalar.muli v223 c1_i32_184
  let v245 : BitVec 32 := Scalar.addi v243 v244
  v245.toNat
def k0_dev18 (d0 : Dev nD) : Nat :=
  let c0_i32_196 : BitVec 32 := 0#32
  let c1_i32_187 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v252 : BitVec 32 := Scalar.subi c1_i32_187 v2
  let c4_i32_195 : BitVec 32 := 4#32
  let v259 : BitVec 32 := Scalar.muli v252 c4_i32_195
  let v260 : BitVec 32 := Scalar.addi c0_i32_196 v259
  let c1_i32_188 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v253 : BitVec 32 := Scalar.subi c1_i32_188 v5
  let c2_i32_197 : BitVec 32 := 2#32
  let v261 : BitVec 32 := Scalar.muli v253 c2_i32_197
  let v262 : BitVec 32 := Scalar.addi v260 v261
  let c1_i32_189 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v254 : BitVec 32 := Scalar.subi c1_i32_189 v8
  let c1_i32_198 : BitVec 32 := 1#32
  let v263 : BitVec 32 := Scalar.muli v254 c1_i32_198
  let v264 : BitVec 32 := Scalar.addi v262 v263
  v264.toNat
def k0_dev19 (d0 : Dev nD) : Nat :=
  let c0_i32_206 : BitVec 32 := 0#32
  let c1_i32_187 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v252 : BitVec 32 := Scalar.subi c1_i32_187 v2
  let c4_i32_205 : BitVec 32 := 4#32
  let v271 : BitVec 32 := Scalar.muli v252 c4_i32_205
  let v272 : BitVec 32 := Scalar.addi c0_i32_206 v271
  let c1_i32_188 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v253 : BitVec 32 := Scalar.subi c1_i32_188 v5
  let c2_i32_207 : BitVec 32 := 2#32
  let v273 : BitVec 32 := Scalar.muli v253 c2_i32_207
  let v274 : BitVec 32 := Scalar.addi v272 v273
  let c1_i32_189 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v254 : BitVec 32 := Scalar.subi c1_i32_189 v8
  let c1_i32_208 : BitVec 32 := 1#32
  let v275 : BitVec 32 := Scalar.muli v254 c1_i32_208
  let v276 : BitVec 32 := Scalar.addi v274 v275
  v276.toNat
def k0_dev20 (d0 : Dev nD) : Nat :=
  let c0_i32_219 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_218 : BitVec 32 := 4#32
  let v288 : BitVec 32 := Scalar.muli v2 c4_i32_218
  let v289 : BitVec 32 := Scalar.addi c0_i32_219 v288
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_220 : BitVec 32 := 2#32
  let v290 : BitVec 32 := Scalar.muli v5 c2_i32_220
  let v291 : BitVec 32 := Scalar.addi v289 v290
  let c1_i32_211 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v283 : BitVec 32 := Scalar.subi c1_i32_211 v8
  let c1_i32_221 : BitVec 32 := 1#32
  let v292 : BitVec 32 := Scalar.muli v283 c1_i32_221
  let v293 : BitVec 32 := Scalar.addi v291 v292
  v293.toNat
def k0_dev21 (d0 : Dev nD) : Nat :=
  let c0_i32_229 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_228 : BitVec 32 := 4#32
  let v300 : BitVec 32 := Scalar.muli v2 c4_i32_228
  let v301 : BitVec 32 := Scalar.addi c0_i32_229 v300
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_230 : BitVec 32 := 2#32
  let v302 : BitVec 32 := Scalar.muli v5 c2_i32_230
  let v303 : BitVec 32 := Scalar.addi v301 v302
  let c1_i32_211 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v283 : BitVec 32 := Scalar.subi c1_i32_211 v8
  let c1_i32_231 : BitVec 32 := 1#32
  let v304 : BitVec 32 := Scalar.muli v283 c1_i32_231
  let v305 : BitVec 32 := Scalar.addi v303 v304
  v305.toNat
def k0_off3 (d0 : Dev nD) : Fin 3 → Nat :=
  let c4_i32_235 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v313 : BitVec 32 := Scalar.muli c4_i32_235 v2
  let c2_i32_236 : BitVec 32 := 2#32
  let c1_i32_234 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v312 : BitVec 32 := Scalar.subi c1_i32_234 v5
  let v314 : BitVec 32 := Scalar.muli c2_i32_236 v312
  let v315 : BitVec 32 := Scalar.addi v313 v314
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v316 : BitVec 32 := Scalar.addi v315 v8
  let c0_i32_245 : BitVec 32 := 0#32
  let c0_i32_246 : BitVec 32 := 0#32
  ![v316.toNat, 0, 0]
def k0_off4 (d0 : Dev nD) : Fin 3 → Nat :=
  let c4_i32_235 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v313 : BitVec 32 := Scalar.muli c4_i32_235 v2
  let c2_i32_236 : BitVec 32 := 2#32
  let c1_i32_234 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v312 : BitVec 32 := Scalar.subi c1_i32_234 v5
  let v314 : BitVec 32 := Scalar.muli c2_i32_236 v312
  let v315 : BitVec 32 := Scalar.addi v313 v314
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v316 : BitVec 32 := Scalar.addi v315 v8
  let c0_i32_255 : BitVec 32 := 0#32
  let c0_i32_256 : BitVec 32 := 0#32
  ![v316.toNat, 0, 0]
def k0_off5 (d0 : Dev nD) : Fin 3 → Nat :=
  let c4_i32_258 : BitVec 32 := 4#32
  let c1_i32_257 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v337 : BitVec 32 := Scalar.subi c1_i32_257 v2
  let v338 : BitVec 32 := Scalar.muli c4_i32_258 v337
  let c2_i32_259 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v339 : BitVec 32 := Scalar.muli c2_i32_259 v5
  let v340 : BitVec 32 := Scalar.addi v338 v339
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v341 : BitVec 32 := Scalar.addi v340 v8
  let c0_i32_268 : BitVec 32 := 0#32
  let c0_i32_269 : BitVec 32 := 0#32
  ![v341.toNat, 0, 0]
def k0_off6 (d0 : Dev nD) : Fin 3 → Nat :=
  let c4_i32_258 : BitVec 32 := 4#32
  let c1_i32_257 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v337 : BitVec 32 := Scalar.subi c1_i32_257 v2
  let v338 : BitVec 32 := Scalar.muli c4_i32_258 v337
  let c2_i32_259 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v339 : BitVec 32 := Scalar.muli c2_i32_259 v5
  let v340 : BitVec 32 := Scalar.addi v338 v339
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v341 : BitVec 32 := Scalar.addi v340 v8
  let c0_i32_278 : BitVec 32 := 0#32
  let c0_i32_279 : BitVec 32 := 0#32
  ![v341.toNat, 0, 0]
def k0_off7 (d0 : Dev nD) : Fin 3 → Nat :=
  let c4_i32_282 : BitVec 32 := 4#32
  let c1_i32_280 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v362 : BitVec 32 := Scalar.subi c1_i32_280 v2
  let v364 : BitVec 32 := Scalar.muli c4_i32_282 v362
  let c2_i32_283 : BitVec 32 := 2#32
  let c1_i32_281 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v363 : BitVec 32 := Scalar.subi c1_i32_281 v5
  let v365 : BitVec 32 := Scalar.muli c2_i32_283 v363
  let v366 : BitVec 32 := Scalar.addi v364 v365
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v367 : BitVec 32 := Scalar.addi v366 v8
  let c0_i32_292 : BitVec 32 := 0#32
  let c0_i32_293 : BitVec 32 := 0#32
  ![v367.toNat, 0, 0]
def k0_off8 (d0 : Dev nD) : Fin 3 → Nat :=
  let c4_i32_282 : BitVec 32 := 4#32
  let c1_i32_280 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v362 : BitVec 32 := Scalar.subi c1_i32_280 v2
  let v364 : BitVec 32 := Scalar.muli c4_i32_282 v362
  let c2_i32_283 : BitVec 32 := 2#32
  let c1_i32_281 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v363 : BitVec 32 := Scalar.subi c1_i32_281 v5
  let v365 : BitVec 32 := Scalar.muli c2_i32_283 v363
  let v366 : BitVec 32 := Scalar.addi v364 v365
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v367 : BitVec 32 := Scalar.addi v366 v8
  let c0_i32_302 : BitVec 32 := 0#32
  let c0_i32_303 : BitVec 32 := 0#32
  ![v367.toNat, 0, 0]
def k0_off9 (d0 : Dev nD) : Fin 3 → Nat :=
  let c4_i32_306 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v390 : BitVec 32 := Scalar.muli c4_i32_306 v2
  let c2_i32_307 : BitVec 32 := 2#32
  let c1_i32_304 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v388 : BitVec 32 := Scalar.subi c1_i32_304 v5
  let v391 : BitVec 32 := Scalar.muli c2_i32_307 v388
  let v392 : BitVec 32 := Scalar.addi v390 v391
  let c1_i32_305 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v389 : BitVec 32 := Scalar.subi c1_i32_305 v8
  let v393 : BitVec 32 := Scalar.addi v392 v389
  let c0_i32_316 : BitVec 32 := 0#32
  let c0_i32_317 : BitVec 32 := 0#32
  ![v393.toNat, 0, 0]
def k0_off10 (d0 : Dev nD) : Fin 3 → Nat :=
  let c4_i32_306 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v390 : BitVec 32 := Scalar.muli c4_i32_306 v2
  let c2_i32_307 : BitVec 32 := 2#32
  let c1_i32_304 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v388 : BitVec 32 := Scalar.subi c1_i32_304 v5
  let v391 : BitVec 32 := Scalar.muli c2_i32_307 v388
  let v392 : BitVec 32 := Scalar.addi v390 v391
  let c1_i32_305 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v389 : BitVec 32 := Scalar.subi c1_i32_305 v8
  let v393 : BitVec 32 := Scalar.addi v392 v389
  let c0_i32_326 : BitVec 32 := 0#32
  let c0_i32_327 : BitVec 32 := 0#32
  ![v393.toNat, 0, 0]
def k0_off11 (d0 : Dev nD) : Fin 3 → Nat :=
  let c4_i32_330 : BitVec 32 := 4#32
  let c1_i32_328 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v414 : BitVec 32 := Scalar.subi c1_i32_328 v2
  let v416 : BitVec 32 := Scalar.muli c4_i32_330 v414
  let c2_i32_331 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v417 : BitVec 32 := Scalar.muli c2_i32_331 v5
  let v418 : BitVec 32 := Scalar.addi v416 v417
  let c1_i32_329 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v415 : BitVec 32 := Scalar.subi c1_i32_329 v8
  let v419 : BitVec 32 := Scalar.addi v418 v415
  let c0_i32_340 : BitVec 32 := 0#32
  let c0_i32_341 : BitVec 32 := 0#32
  ![v419.toNat, 0, 0]
def k0_off12 (d0 : Dev nD) : Fin 3 → Nat :=
  let c4_i32_330 : BitVec 32 := 4#32
  let c1_i32_328 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v414 : BitVec 32 := Scalar.subi c1_i32_328 v2
  let v416 : BitVec 32 := Scalar.muli c4_i32_330 v414
  let c2_i32_331 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v417 : BitVec 32 := Scalar.muli c2_i32_331 v5
  let v418 : BitVec 32 := Scalar.addi v416 v417
  let c1_i32_329 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v415 : BitVec 32 := Scalar.subi c1_i32_329 v8
  let v419 : BitVec 32 := Scalar.addi v418 v415
  let c0_i32_350 : BitVec 32 := 0#32
  let c0_i32_351 : BitVec 32 := 0#32
  ![v419.toNat, 0, 0]
def k0_off13 (d0 : Dev nD) : Fin 3 → Nat :=
  let c4_i32_355 : BitVec 32 := 4#32
  let c1_i32_352 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v440 : BitVec 32 := Scalar.subi c1_i32_352 v2
  let v443 : BitVec 32 := Scalar.muli c4_i32_355 v440
  let c2_i32_356 : BitVec 32 := 2#32
  let c1_i32_353 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v441 : BitVec 32 := Scalar.subi c1_i32_353 v5
  let v444 : BitVec 32 := Scalar.muli c2_i32_356 v441
  let v445 : BitVec 32 := Scalar.addi v443 v444
  let c1_i32_354 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v442 : BitVec 32 := Scalar.subi c1_i32_354 v8
  let v446 : BitVec 32 := Scalar.addi v445 v442
  let c0_i32_365 : BitVec 32 := 0#32
  let c0_i32_366 : BitVec 32 := 0#32
  ![v446.toNat, 0, 0]
def k0_off14 (d0 : Dev nD) : Fin 3 → Nat :=
  let c4_i32_355 : BitVec 32 := 4#32
  let c1_i32_352 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v440 : BitVec 32 := Scalar.subi c1_i32_352 v2
  let v443 : BitVec 32 := Scalar.muli c4_i32_355 v440
  let c2_i32_356 : BitVec 32 := 2#32
  let c1_i32_353 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v441 : BitVec 32 := Scalar.subi c1_i32_353 v5
  let v444 : BitVec 32 := Scalar.muli c2_i32_356 v441
  let v445 : BitVec 32 := Scalar.addi v443 v444
  let c1_i32_354 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v442 : BitVec 32 := Scalar.subi c1_i32_354 v8
  let v446 : BitVec 32 := Scalar.addi v445 v442
  let c0_i32_375 : BitVec 32 := 0#32
  let c0_i32_376 : BitVec 32 := 0#32
  ![v446.toNat, 0, 0]
def k0_off15 (d0 : Dev nD) : Fin 3 → Nat :=
  let c4_i32_378 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v468 : BitVec 32 := Scalar.muli c4_i32_378 v2
  let c2_i32_379 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v469 : BitVec 32 := Scalar.muli c2_i32_379 v5
  let v470 : BitVec 32 := Scalar.addi v468 v469
  let c1_i32_377 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v467 : BitVec 32 := Scalar.subi c1_i32_377 v8
  let v471 : BitVec 32 := Scalar.addi v470 v467
  let c0_i32_388 : BitVec 32 := 0#32
  let c0_i32_389 : BitVec 32 := 0#32
  ![v471.toNat, 0, 0]
def k0_off16 (d0 : Dev nD) : Fin 3 → Nat :=
  let c4_i32_378 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v468 : BitVec 32 := Scalar.muli c4_i32_378 v2
  let c2_i32_379 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v469 : BitVec 32 := Scalar.muli c2_i32_379 v5
  let v470 : BitVec 32 := Scalar.addi v468 v469
  let c1_i32_377 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v467 : BitVec 32 := Scalar.subi c1_i32_377 v8
  let v471 : BitVec 32 := Scalar.addi v470 v467
  let c0_i32_398 : BitVec 32 := 0#32
  let c0_i32_399 : BitVec 32 := 0#32
  ![v471.toNat, 0, 0]
abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== GatherBRef.lean ====
abbrev S2x1024x1024 : Shape := ⟨3, ![2, 1024, 1024]⟩
abbrev S2x1024x5632 : Shape := ⟨3, ![2, 1024, 5632]⟩
abbrev S1x1024x1024 : Shape := ⟨3, ![1, 1024, 1024]⟩
abbrev S1024x1024 : Shape := ⟨2, ![1024, 1024]⟩
abbrev S8x128x1024 : Shape := ⟨3, ![8, 128, 1024]⟩
abbrev S1x1024x5632 : Shape := ⟨3, ![1, 1024, 5632]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x5632, .f32⟩
  | .hbm, ⟨2, _⟩ => ⟨S1x1024x1024, .f32⟩
  | .hbm, ⟨3, _⟩ => ⟨S1024x1024, .f32⟩
  | .hbm, ⟨4, _⟩ => ⟨S1024x1024, .bf16⟩
  | .hbm, ⟨5, _⟩ => ⟨S8x128x1024, .bf16⟩
  | .hbm, ⟨6, _⟩ => ⟨S1x1024x5632, .f32⟩
  | .hbm, ⟨7, _⟩ => ⟨S1024x5632, .f32⟩
  | .hbm, ⟨8, _⟩ => ⟨S5632x1024, .f32⟩
  | .hbm, ⟨9, _⟩ => ⟨S5632x1024, .bf16⟩
  | .hbm, ⟨10, _⟩ => ⟨S8x704x1024, .bf16⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== GatherC.lean ====
abbrev S2x352x1024 : Shape := ⟨3, ![2, 352, 1024]⟩
abbrev S1x352x1024 : Shape := ⟨3, ![1, 352, 1024]⟩
abbrev S352x1024 : Shape := ⟨2, ![352, 1024]⟩
abbrev S8x352x1024 : Shape := ⟨3, ![8, 352, 1024]⟩
abbrev S1x7 : Shape := ⟨2, ![1, 7]⟩
abbrev S1 : Shape := ⟨1, ![1]⟩
abbrev S_ : Shape := ⟨0, ![]⟩
abbrev S1x1 : Shape := ⟨2, ![1, 1]⟩

abbrev nBuf : Table → Nat
  | .hbm => 5
  | _ => 0

abbrev bufTy : (tb : Table) → Fin (nBuf tb) → BufTy
  | .hbm, ⟨0, _⟩ => ⟨S2x352x1024, .f32⟩
  | .hbm, ⟨1, _⟩ => ⟨S1x352x1024, .f32⟩
  | .hbm, ⟨2, _⟩ => ⟨S352x1024, .f32⟩
  | .hbm, ⟨3, _⟩ => ⟨S352x1024, .bf16⟩
  | .hbm, ⟨4, _⟩ => ⟨S8x352x1024, .bf16⟩
  | _, _ => ⟨S2x352x1024, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  (ofTables nBuf rfl bufTy 5 15 bufScoped semScoped dmaSemScoped tileCredit tileCredit_eq_zero tileCredit_pos).withBarriers [(2, 4)]

abbrev main_arg0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v4 : Ref sig .tc := ⟨.hbm, 4, rfl⟩
abbrev main_v3_scs : Ref sig .scScalar := ⟨.hbm, 3, rfl⟩
abbrev main_v4_scs : Ref sig .scScalar := ⟨.hbm, 4, rfl⟩
abbrev sc_start : Sem sig := 0
abbrev sc_done : Sem sig := 1
abbrev sc_go : Sem sig := 2
abbrev sc_taskDone : Sem sig := 3
abbrev barrier2 : Sem sig := 4

abbrev nD : Nat := 8
abbrev τ : Topo := Topo.v7x

variable {F : FTy → Type} [FloatOps F]

abbrev grid0 : Pipeline.Grid := ⟨1, ![1], ![false]⟩

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v19 : BitVec 32 := Scalar.muli v2 c4_i32_9
  let v20 : BitVec 32 := Scalar.addi c0_i32 v19
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_5 v5
  let c2_i32_10 : BitVec 32 := 2#32
  let v21 : BitVec 32 := Scalar.muli v14 c2_i32_10
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_11 : BitVec 32 := 1#32
  let v23 : BitVec 32 := Scalar.muli v8 c1_i32_11
  let v24 : BitVec 32 := Scalar.addi v22 v23
  v24.toNat
def k0_dev2 (d0 : Dev nD) : Nat :=
  let c0_i32_17 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_12 v2
  let c4_i32_16 : BitVec 32 := 4#32
  let v30 : BitVec 32 := Scalar.muli v25 c4_i32_16
  let v31 : BitVec 32 := Scalar.addi c0_i32_17 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v32 : BitVec 32 := Scalar.muli v5 c2_i32_18
  let v33 : BitVec 32 := Scalar.addi v31 v32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v34 : BitVec 32 := Scalar.muli v8 c1_i32_19
  let v35 : BitVec 32 := Scalar.addi v33 v34
  v35.toNat
def k0_dev3 (d0 : Dev nD) : Nat :=
  let c0_i32_26 : BitVec 32 := 0#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_20 v2
  let c4_i32_25 : BitVec 32 := 4#32
  let v42 : BitVec 32 := Scalar.muli v36 c4_i32_25
  let v43 : BitVec 32 := Scalar.addi c0_i32_26 v42
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.subi c1_i32_21 v5
  let c2_i32_27 : BitVec 32 := 2#32
  let v44 : BitVec 32 := Scalar.muli v37 c2_i32_27
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v46 : BitVec 32 := Scalar.muli v8 c1_i32_28
  let v47 : BitVec 32 := Scalar.addi v45 v46
  v47.toNat
def k0_dev4 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v54 : BitVec 32 := Scalar.muli v2 c4_i32_34
  let v55 : BitVec 32 := Scalar.addi c0_i32_35 v54
  let c1_i32_29 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_29 v5
  let c2_i32_36 : BitVec 32 := 2#32
  let v56 : BitVec 32 := Scalar.muli v48 c2_i32_36
  let v57 : BitVec 32 := Scalar.addi v55 v56
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_30 v8
  let c1_i32_37 : BitVec 32 := 1#32
  let v58 : BitVec 32 := Scalar.muli v49 c1_i32_37
  let v59 : BitVec 32 := Scalar.addi v57 v58
  v59.toNat
def k0_dev5 (d0 : Dev nD) : Nat :=
  let c0_i32_44 : BitVec 32 := 0#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v60 : BitVec 32 := Scalar.subi c1_i32_38 v2
  let c4_i32_43 : BitVec 32 := 4#32
  let v66 : BitVec 32 := Scalar.muli v60 c4_i32_43
  let v67 : BitVec 32 := Scalar.addi c0_i32_44 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v68 : BitVec 32 := Scalar.muli v5 c2_i32_45
  let v69 : BitVec 32 := Scalar.addi v67 v68
  let c1_i32_39 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v61 : BitVec 32 := Scalar.subi c1_i32_39 v8
  let c1_i32_46 : BitVec 32 := 1#32
  let v70 : BitVec 32 := Scalar.muli v61 c1_i32_46
  let v71 : BitVec 32 := Scalar.addi v69 v70
  v71.toNat
def k0_dev6 (d0 : Dev nD) : Nat :=
  let c0_i32_54 : BitVec 32 := 0#32
  let c1_i32_47 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v72 : BitVec 32 := Scalar.subi c1_i32_47 v2
  let c4_i32_53 : BitVec 32 := 4#32
  let v79 : BitVec 32 := Scalar.muli v72 c4_i32_53
  let v80 : BitVec 32 := Scalar.addi c0_i32_54 v79
  let c1_i32_48 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v73 : BitVec 32 := Scalar.subi c1_i32_48 v5
  let c2_i32_55 : BitVec 32 := 2#32
  let v81 : BitVec 32 := Scalar.muli v73 c2_i32_55
  let v82 : BitVec 32 := Scalar.addi v80 v81
  let c1_i32_49 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v74 : BitVec 32 := Scalar.subi c1_i32_49 v8
  let c1_i32_56 : BitVec 32 := 1#32
  let v83 : BitVec 32 := Scalar.muli v74 c1_i32_56
  let v84 : BitVec 32 := Scalar.addi v82 v83
  v84.toNat
def k0_dev7 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v90 : BitVec 32 := Scalar.muli v2 c4_i32_61
  let v91 : BitVec 32 := Scalar.addi c0_i32_62 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v92 : BitVec 32 := Scalar.muli v5 c2_i32_63
  let v93 : BitVec 32 := Scalar.addi v91 v92
  let c1_i32_57 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v85 : BitVec 32 := Scalar.subi c1_i32_57 v8
  let c1_i32_64 : BitVec 32 := 1#32
  let v94 : BitVec 32 := Scalar.muli v85 c1_i32_64
  let v95 : BitVec 32 := Scalar.addi v93 v94
  v95.toNat
def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_66 : BitVec 32 := 0#32
  let c0_i32_67 : BitVec 32 := 0#32
  ![v12.toNat, 0, 0]
def k0_dev8 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_75 : BitVec 32 := 4#32
  let v105 : BitVec 32 := Scalar.muli v2 c4_i32_75
  let v106 : BitVec 32 := Scalar.addi c0_i32_76 v105
  let c1_i32_68 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v100 : BitVec 32 := Scalar.subi c1_i32_68 v5
  let c2_i32_77 : BitVec 32 := 2#32
  let v107 : BitVec 32 := Scalar.muli v100 c2_i32_77
  let v108 : BitVec 32 := Scalar.addi v106 v107
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_78 : BitVec 32 := 1#32
  let v109 : BitVec 32 := Scalar.muli v8 c1_i32_78
  let v110 : BitVec 32 := Scalar.addi v108 v109
  v110.toNat
def k0_dev9 (d0 : Dev nD) : Nat :=
  let c0_i32_88 : BitVec 32 := 0#32
  let c1_i32_81 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v117 : BitVec 32 := Scalar.subi c1_i32_81 v2
  let c4_i32_87 : BitVec 32 := 4#32
  let v122 : BitVec 32 := Scalar.muli v117 c4_i32_87
  let v123 : BitVec 32 := Scalar.addi c0_i32_88 v122
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v124 : BitVec 32 := Scalar.muli v5 c2_i32_89
  let v125 : BitVec 32 := Scalar.addi v123 v124
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_90 : BitVec 32 := 1#32
  let v126 : BitVec 32 := Scalar.muli v8 c1_i32_90
  let v127 : BitVec 32 := Scalar.addi v125 v126
  v127.toNat
def k0_dev10 (d0 : Dev nD) : Nat :=
  let c0_i32_101 : BitVec 32 := 0#32
  let c1_i32_93 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v134 : BitVec 32 := Scalar.subi c1_i32_93 v2
  let c4_i32_100 : BitVec 32 := 4#32
  let v140 : BitVec 32 := Scalar.muli v134 c4_i32_100
  let v141 : BitVec 32 := Scalar.addi c0_i32_101 v140
  let c1_i32_94 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v135 : BitVec 32 := Scalar.subi c1_i32_94 v5
  let c2_i32_102 : BitVec 32 := 2#32
  let v142 : BitVec 32 := Scalar.muli v135 c2_i32_102
  let v143 : BitVec 32 := Scalar.addi v141 v142
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_103 : BitVec 32 := 1#32
  let v144 : BitVec 32 := Scalar.muli v8 c1_i32_103
  let v145 : BitVec 32 := Scalar.addi v143 v144
  v145.toNat
def k0_dev11 (d0 : Dev nD) : Nat :=
  let c0_i32_115 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_114 : BitVec 32 := 4#32
  let v158 : BitVec 32 := Scalar.muli v2 c4_i32_114
  let v159 : BitVec 32 := Scalar.addi c0_i32_115 v158
  let c1_i32_106 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v152 : BitVec 32 := Scalar.subi c1_i32_106 v5
  let c2_i32_116 : BitVec 32 := 2#32
  let v160 : BitVec 32 := Scalar.muli v152 c2_i32_116
  let v161 : BitVec 32 := Scalar.addi v159 v160
  let c1_i32_107 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v153 : BitVec 32 := Scalar.subi c1_i32_107 v8
  let c1_i32_117 : BitVec 32 := 1#32
  let v162 : BitVec 32 := Scalar.muli v153 c1_i32_117
  let v163 : BitVec 32 := Scalar.addi v161 v162
  v163.toNat
def k0_dev12 (d0 : Dev nD) : Nat :=
  let c0_i32_129 : BitVec 32 := 0#32
  let c1_i32_120 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v170 : BitVec 32 := Scalar.subi c1_i32_120 v2
  let c4_i32_128 : BitVec 32 := 4#32
  let v176 : BitVec 32 := Scalar.muli v170 c4_i32_128
  let v177 : BitVec 32 := Scalar.addi c0_i32_129 v176
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_130 : BitVec 32 := 2#32
  let v178 : BitVec 32 := Scalar.muli v5 c2_i32_130
  let v179 : BitVec 32 := Scalar.addi v177 v178
  let c1_i32_121 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v171 : BitVec 32 := Scalar.subi c1_i32_121 v8
  let c1_i32_131 : BitVec 32 := 1#32
  let v180 : BitVec 32 := Scalar.muli v171 c1_i32_131
  let v181 : BitVec 32 := Scalar.addi v179 v180
  v181.toNat
def k0_dev13 (d0 : Dev nD) : Nat :=
  let c0_i32_143 : BitVec 32 := 0#32
  let c1_i32_134 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v188 : BitVec 32 := Scalar.subi c1_i32_134 v2
  let c4_i32_142 : BitVec 32 := 4#32
  let v195 : BitVec 32 := Scalar.muli v188 c4_i32_142
  let v196 : BitVec 32 := Scalar.addi c0_i32_143 v195
  let c1_i32_135 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v189 : BitVec 32 := Scalar.subi c1_i32_135 v5
  let c2_i32_144 : BitVec 32 := 2#32
  let v197 : BitVec 32 := Scalar.muli v189 c2_i32_144
  let v198 : BitVec 32 := Scalar.addi v196 v197
  let c1_i32_136 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v190 : BitVec 32 := Scalar.subi c1_i32_136 v8
  let c1_i32_145 : BitVec 32 := 1#32
  let v199 : BitVec 32 := Scalar.muli v190 c1_i32_145
  let v200 : BitVec 32 := Scalar.addi v198 v199
  v200.toNat
def k0_dev14 (d0 : Dev nD) : Nat :=
  let c0_i32_156 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_155 : BitVec 32 := 4#32
  let v212 : BitVec 32 := Scalar.muli v2 c4_i32_155
  let v213 : BitVec 32 := Scalar.addi c0_i32_156 v212
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_157 : BitVec 32 := 2#32
  let v214 : BitVec 32 := Scalar.muli v5 c2_i32_157
  let v215 : BitVec 32 := Scalar.addi v213 v214
  let c1_i32_148 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v207 : BitVec 32 := Scalar.subi c1_i32_148 v8
  let c1_i32_158 : BitVec 32 := 1#32
  let v216 : BitVec 32 := Scalar.muli v207 c1_i32_158
  let v217 : BitVec 32 := Scalar.addi v215 v216
  v217.toNat
def k0_off2 (d0 : Dev nD) : Fin 3 → Nat :=
  let c4_i32_162 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v225 : BitVec 32 := Scalar.muli c4_i32_162 v2
  let c2_i32_163 : BitVec 32 := 2#32
  let c1_i32_161 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v224 : BitVec 32 := Scalar.subi c1_i32_161 v5
  let v226 : BitVec 32 := Scalar.muli c2_i32_163 v224
  let v227 : BitVec 32 := Scalar.addi v225 v226
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.addi v227 v8
  let c0_i32_172 : BitVec 32 := 0#32
  let c0_i32_173 : BitVec 32 := 0#32
  ![v228.toNat, 0, 0]
def k0_off3 (d0 : Dev nD) : Fin 3 → Nat :=
  let c4_i32_175 : BitVec 32 := 4#32
  let c1_i32_174 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v239 : BitVec 32 := Scalar.subi c1_i32_174 v2
  let v240 : BitVec 32 := Scalar.muli c4_i32_175 v239
  let c2_i32_176 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v241 : BitVec 32 := Scalar.muli c2_i32_176 v5
  let v242 : BitVec 32 := Scalar.addi v240 v241
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v243 : BitVec 32 := Scalar.addi v242 v8
  let c0_i32_185 : BitVec 32 := 0#32
  let c0_i32_186 : BitVec 32 := 0#32
  ![v243.toNat, 0, 0]
def k0_off4 (d0 : Dev nD) : Fin 3 → Nat :=
  let c4_i32_189 : BitVec 32 := 4#32
  let c1_i32_187 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v254 : BitVec 32 := Scalar.subi c1_i32_187 v2
  let v256 : BitVec 32 := Scalar.muli c4_i32_189 v254
  let c2_i32_190 : BitVec 32 := 2#32
  let c1_i32_188 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v255 : BitVec 32 := Scalar.subi c1_i32_188 v5
  let v257 : BitVec 32 := Scalar.muli c2_i32_190 v255
  let v258 : BitVec 32 := Scalar.addi v256 v257
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v259 : BitVec 32 := Scalar.addi v258 v8
  let c0_i32_199 : BitVec 32 := 0#32
  let c0_i32_200 : BitVec 32 := 0#32
  ![v259.toNat, 0, 0]
def k0_off5 (d0 : Dev nD) : Fin 3 → Nat :=
  let c4_i32_203 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v272 : BitVec 32 := Scalar.muli c4_i32_203 v2
  let c2_i32_204 : BitVec 32 := 2#32
  let c1_i32_201 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v270 : BitVec 32 := Scalar.subi c1_i32_201 v5
  let v273 : BitVec 32 := Scalar.muli c2_i32_204 v270
  let v274 : BitVec 32 := Scalar.addi v272 v273
  let c1_i32_202 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v271 : BitVec 32 := Scalar.subi c1_i32_202 v8
  let v275 : BitVec 32 := Scalar.addi v274 v271
  let c0_i32_213 : BitVec 32 := 0#32
  let c0_i32_214 : BitVec 32 := 0#32
  ![v275.toNat, 0, 0]
def k0_off6 (d0 : Dev nD) : Fin 3 → Nat :=
  let c4_i32_217 : BitVec 32 := 4#32
  let c1_i32_215 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v286 : BitVec 32 := Scalar.subi c1_i32_215 v2
  let v288 : BitVec 32 := Scalar.muli c4_i32_217 v286
  let c2_i32_218 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v289 : BitVec 32 := Scalar.muli c2_i32_218 v5
  let v290 : BitVec 32 := Scalar.addi v288 v289
  let c1_i32_216 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v287 : BitVec 32 := Scalar.subi c1_i32_216 v8
  let v291 : BitVec 32 := Scalar.addi v290 v287
  let c0_i32_227 : BitVec 32 := 0#32
  let c0_i32_228 : BitVec 32 := 0#32
  ![v291.toNat, 0, 0]
def k0_off7 (d0 : Dev nD) : Fin 3 → Nat :=
  let c4_i32_232 : BitVec 32 := 4#32
  let c1_i32_229 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v302 : BitVec 32 := Scalar.subi c1_i32_229 v2
  let v305 : BitVec 32 := Scalar.muli c4_i32_232 v302
  let c2_i32_233 : BitVec 32 := 2#32
  let c1_i32_230 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v303 : BitVec 32 := Scalar.subi c1_i32_230 v5
  let v306 : BitVec 32 := Scalar.muli c2_i32_233 v303
  let v307 : BitVec 32 := Scalar.addi v305 v306
  let c1_i32_231 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v304 : BitVec 32 := Scalar.subi c1_i32_231 v8
  let v308 : BitVec 32 := Scalar.addi v307 v304
  let c0_i32_242 : BitVec 32 := 0#32
  let c0_i32_243 : BitVec 32 := 0#32
  ![v308.toNat, 0, 0]
def k0_off8 (d0 : Dev nD) : Fin 3 → Nat :=
  let c4_i32_245 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v320 : BitVec 32 := Scalar.muli c4_i32_245 v2
  let c2_i32_246 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v321 : BitVec 32 := Scalar.muli c2_i32_246 v5
  let v322 : BitVec 32 := Scalar.addi v320 v321
  let c1_i32_244 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v319 : BitVec 32 := Scalar.subi c1_i32_244 v8
  let v323 : BitVec 32 := Scalar.addi v322 v319
  let c0_i32_255 : BitVec 32 := 0#32
  let c0_i32_256 : BitVec 32 := 0#32
  ![v323.toNat, 0, 0]
abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== GatherCRef.lean ====
abbrev S2x2816x1024 : Shape := ⟨3, ![2, 2816, 1024]⟩
abbrev S1x2816x1024 : Shape := ⟨3, ![1, 2816, 1024]⟩
abbrev S2816x1024 : Shape := ⟨2, ![2816, 1024]⟩
abbrev S8x352x1024 : Shape := ⟨3, ![8, 352, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2x2816x1024, .f32⟩
  | .hbm, ⟨1, _⟩ => ⟨S1x2816x1024, .f32⟩
  | .hbm, ⟨2, _⟩ => ⟨S2816x1024, .f32⟩
  | .hbm, ⟨3, _⟩ => ⟨S2816x1024, .bf16⟩
  | .hbm, ⟨4, _⟩ => ⟨S8x352x1024, .bf16⟩
  | _, _ => ⟨S2x2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== GatherD.lean ====
abbrev S2x1024x384 : Shape := ⟨3, ![2, 1024, 384]⟩
abbrev S2x128x1024 : Shape := ⟨3, ![2, 128, 1024]⟩
abbrev S1x1024x384 : Shape := ⟨3, ![1, 1024, 384]⟩
abbrev S1024x384 : Shape := ⟨2, ![1024, 384]⟩
abbrev S1x128x1024 : Shape := ⟨3, ![1, 128, 1024]⟩
abbrev S128x1024 : Shape := ⟨2, ![128, 1024]⟩
abbrev S1024x3072 : Shape := ⟨2, ![1024, 3072]⟩
abbrev S8x128x1024 : Shape := ⟨3, ![8, 128, 1024]⟩
abbrev S2x7 : Shape := ⟨2, ![2, 7]⟩
abbrev S2 : Shape := ⟨1, ![2]⟩
abbrev S_ : Shape := ⟨0, ![]⟩
abbrev S1 : Shape := ⟨1, ![1]⟩
abbrev S1x1 : Shape := ⟨2, ![1, 1]⟩

abbrev nBuf : Table → Nat
  | .hbm => 10
  | _ => 0

abbrev bufTy : (tb : Table) → Fin (nBuf tb) → BufTy
  | .hbm, ⟨0, _⟩ => ⟨S2x1024x384, .f32⟩
  | .hbm, ⟨1, _⟩ => ⟨S2x128x1024, .f32⟩
  | .hbm, ⟨2, _⟩ => ⟨S1x1024x384, .f32⟩
  | .hbm, ⟨3, _⟩ => ⟨S1024x384, .f32⟩
  | .hbm, ⟨4, _⟩ => ⟨S1024x384, .bf16⟩
  | .hbm, ⟨5, _⟩ => ⟨S1x128x1024, .f32⟩
  | .hbm, ⟨6, _⟩ => ⟨S128x1024, .f32⟩
  | .hbm, ⟨7, _⟩ => ⟨S128x1024, .bf16⟩
  | .hbm, ⟨8, _⟩ => ⟨S1024x3072, .bf16⟩
  | .hbm, ⟨9, _⟩ => ⟨S8x128x1024, .bf16⟩
  | _, _ => ⟨S2x1024x384, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 30 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | _ => false

abbrev sig : RefSig :=
  (ofTables nBuf rfl bufTy 5 30 bufScoped semScoped dmaSemScoped tileCredit tileCredit_eq_zero tileCredit_pos).withBarriers [(3, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7_0 : Ref sig .tc := ⟨.hbm, 8, rfl⟩
abbrev main_v7_1 : Ref sig .tc := ⟨.hbm, 9, rfl⟩
abbrev main_v3_scs : Ref sig .scScalar := ⟨.hbm, 4, rfl⟩
abbrev main_v6_scs : Ref sig .scScalar := ⟨.hbm, 7, rfl⟩
abbrev main_v7_0_scs : Ref sig .scScalar := ⟨.hbm, 8, rfl⟩
abbrev main_v7_1_scs : Ref sig .scScalar := ⟨.hbm, 9, rfl⟩
abbrev sc_start : Sem sig := 0
abbrev sc_done : Sem sig := 1
abbrev sc_go : Sem sig := 2
abbrev sc_taskDone : Sem sig := 3
abbrev barrier3 : Sem sig := 4

abbrev nD : Nat := 8
abbrev τ : Topo := Topo.v7x

variable {F : FTy → Type} [FloatOps F]

abbrev grid0 : Pipeline.Grid := ⟨1, ![1], ![false]⟩

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v19 : BitVec 32 := Scalar.muli v2 c4_i32_9
  let v20 : BitVec 32 := Scalar.addi c0_i32 v19
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_5 v5
  let c2_i32_10 : BitVec 32 := 2#32
  let v21 : BitVec 32 := Scalar.muli v14 c2_i32_10
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_11 : BitVec 32 := 1#32
  let v23 : BitVec 32 := Scalar.muli v8 c1_i32_11
  let v24 : BitVec 32 := Scalar.addi v22 v23
  v24.toNat
def k0_dev2 (d0 : Dev nD) : Nat :=
  let c0_i32_17 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_12 v2
  let c4_i32_16 : BitVec 32 := 4#32
  let v30 : BitVec 32 := Scalar.muli v25 c4_i32_16
  let v31 : BitVec 32 := Scalar.addi c0_i32_17 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v32 : BitVec 32 := Scalar.muli v5 c2_i32_18
  let v33 : BitVec 32 := Scalar.addi v31 v32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v34 : BitVec 32 := Scalar.muli v8 c1_i32_19
  let v35 : BitVec 32 := Scalar.addi v33 v34
  v35.toNat
def k0_dev3 (d0 : Dev nD) : Nat :=
  let c0_i32_26 : BitVec 32 := 0#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_20 v2
  let c4_i32_25 : BitVec 32 := 4#32
  let v42 : BitVec 32 := Scalar.muli v36 c4_i32_25
  let v43 : BitVec 32 := Scalar.addi c0_i32_26 v42
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.subi c1_i32_21 v5
  let c2_i32_27 : BitVec 32 := 2#32
  let v44 : BitVec 32 := Scalar.muli v37 c2_i32_27
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v46 : BitVec 32 := Scalar.muli v8 c1_i32_28
  let v47 : BitVec 32 := Scalar.addi v45 v46
  v47.toNat
def k0_dev4 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v54 : BitVec 32 := Scalar.muli v2 c4_i32_34
  let v55 : BitVec 32 := Scalar.addi c0_i32_35 v54
  let c1_i32_29 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_29 v5
  let c2_i32_36 : BitVec 32 := 2#32
  let v56 : BitVec 32 := Scalar.muli v48 c2_i32_36
  let v57 : BitVec 32 := Scalar.addi v55 v56
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_30 v8
  let c1_i32_37 : BitVec 32 := 1#32
  let v58 : BitVec 32 := Scalar.muli v49 c1_i32_37
  let v59 : BitVec 32 := Scalar.addi v57 v58
  v59.toNat
def k0_dev5 (d0 : Dev nD) : Nat :=
  let c0_i32_44 : BitVec 32 := 0#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v60 : BitVec 32 := Scalar.subi c1_i32_38 v2
  let c4_i32_43 : BitVec 32 := 4#32
  let v66 : BitVec 32 := Scalar.muli v60 c4_i32_43
  let v67 : BitVec 32 := Scalar.addi c0_i32_44 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v68 : BitVec 32 := Scalar.muli v5 c2_i32_45
  let v69 : BitVec 32 := Scalar.addi v67 v68
  let c1_i32_39 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v61 : BitVec 32 := Scalar.subi c1_i32_39 v8
  let c1_i32_46 : BitVec 32 := 1#32
  let v70 : BitVec 32 := Scalar.muli v61 c1_i32_46
  let v71 : BitVec 32 := Scalar.addi v69 v70
  v71.toNat
def k0_dev6 (d0 : Dev nD) : Nat :=
  let c0_i32_54 : BitVec 32 := 0#32
  let c1_i32_47 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v72 : BitVec 32 := Scalar.subi c1_i32_47 v2
  let c4_i32_53 : BitVec 32 := 4#32
  let v79 : BitVec 32 := Scalar.muli v72 c4_i32_53
  let v80 : BitVec 32 := Scalar.addi c0_i32_54 v79
  let c1_i32_48 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v73 : BitVec 32 := Scalar.subi c1_i32_48 v5
  let c2_i32_55 : BitVec 32 := 2#32
  let v81 : BitVec 32 := Scalar.muli v73 c2_i32_55
  let v82 : BitVec 32 := Scalar.addi v80 v81
  let c1_i32_49 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v74 : BitVec 32 := Scalar.subi c1_i32_49 v8
  let c1_i32_56 : BitVec 32 := 1#32
  let v83 : BitVec 32 := Scalar.muli v74 c1_i32_56
  let v84 : BitVec 32 := Scalar.addi v82 v83
  v84.toNat
def k0_dev7 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v90 : BitVec 32 := Scalar.muli v2 c4_i32_61
  let v91 : BitVec 32 := Scalar.addi c0_i32_62 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v92 : BitVec 32 := Scalar.muli v5 c2_i32_63
  let v93 : BitVec 32 := Scalar.addi v91 v92
  let c1_i32_57 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v85 : BitVec 32 := Scalar.subi c1_i32_57 v8
  let c1_i32_64 : BitVec 32 := 1#32
  let v94 : BitVec 32 := Scalar.muli v85 c1_i32_64
  let v95 : BitVec 32 := Scalar.addi v93 v94
  v95.toNat
def k0_mult1 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32 : BitVec 32 := 384#32
  let v96 : BitVec 32 := Scalar.muli v12 c384_i32
  v96
def k0_off1 (d0 : Dev nD) : Fin 2 → Nat :=
  let c0_i32_66 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32 : BitVec 32 := 384#32
  let v96 : BitVec 32 := Scalar.muli v12 c384_i32
  let v97 : BitVec 32 := v96
  ![0, v97.toNat]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_68 : BitVec 32 := 0#32
  let c0_i32_69 : BitVec 32 := 0#32
  ![v12.toNat, 0, 0]
def k0_mult2 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_73 : BitVec 32 := 384#32
  let v110 : BitVec 32 := Scalar.muli v12 c384_i32_73
  v110
def k0_dev8 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v112 : BitVec 32 := Scalar.muli v2 c4_i32_78
  let v113 : BitVec 32 := Scalar.addi c0_i32_79 v112
  let c1_i32_70 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v105 : BitVec 32 := Scalar.subi c1_i32_70 v5
  let c2_i32_80 : BitVec 32 := 2#32
  let v114 : BitVec 32 := Scalar.muli v105 c2_i32_80
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v116 : BitVec 32 := Scalar.muli v8 c1_i32_81
  let v117 : BitVec 32 := Scalar.addi v115 v116
  v117.toNat
def k0_dev9 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_87 : BitVec 32 := 4#32
  let v123 : BitVec 32 := Scalar.muli v2 c4_i32_87
  let v124 : BitVec 32 := Scalar.addi c0_i32_88 v123
  let c1_i32_70 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v105 : BitVec 32 := Scalar.subi c1_i32_70 v5
  let c2_i32_89 : BitVec 32 := 2#32
  let v125 : BitVec 32 := Scalar.muli v105 c2_i32_89
  let v126 : BitVec 32 := Scalar.addi v124 v125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_90 : BitVec 32 := 1#32
  let v127 : BitVec 32 := Scalar.muli v8 c1_i32_90
  let v128 : BitVec 32 := Scalar.addi v126 v127
  v128.toNat
def k0_mult3 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_96 : BitVec 32 := 384#32
  let v140 : BitVec 32 := Scalar.muli v12 c384_i32_96
  v140
def k0_dev10 (d0 : Dev nD) : Nat :=
  let c0_i32_101 : BitVec 32 := 0#32
  let c1_i32_93 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v135 : BitVec 32 := Scalar.subi c1_i32_93 v2
  let c4_i32_100 : BitVec 32 := 4#32
  let v142 : BitVec 32 := Scalar.muli v135 c4_i32_100
  let v143 : BitVec 32 := Scalar.addi c0_i32_101 v142
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_102 : BitVec 32 := 2#32
  let v144 : BitVec 32 := Scalar.muli v5 c2_i32_102
  let v145 : BitVec 32 := Scalar.addi v143 v144
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_103 : BitVec 32 := 1#32
  let v146 : BitVec 32 := Scalar.muli v8 c1_i32_103
  let v147 : BitVec 32 := Scalar.addi v145 v146
  v147.toNat
def k0_dev11 (d0 : Dev nD) : Nat :=
  let c0_i32_110 : BitVec 32 := 0#32
  let c1_i32_93 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v135 : BitVec 32 := Scalar.subi c1_i32_93 v2
  let c4_i32_109 : BitVec 32 := 4#32
  let v153 : BitVec 32 := Scalar.muli v135 c4_i32_109
  let v154 : BitVec 32 := Scalar.addi c0_i32_110 v153
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_111 : BitVec 32 := 2#32
  let v155 : BitVec 32 := Scalar.muli v5 c2_i32_111
  let v156 : BitVec 32 := Scalar.addi v154 v155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v157 : BitVec 32 := Scalar.muli v8 c1_i32_112
  let v158 : BitVec 32 := Scalar.addi v156 v157
  v158.toNat
def k0_mult4 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_119 : BitVec 32 := 384#32
  let v171 : BitVec 32 := Scalar.muli v12 c384_i32_119
  v171
def k0_dev12 (d0 : Dev nD) : Nat :=
  let c0_i32_124 : BitVec 32 := 0#32
  let c1_i32_115 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v165 : BitVec 32 := Scalar.subi c1_i32_115 v2
  let c4_i32_123 : BitVec 32 := 4#32
  let v173 : BitVec 32 := Scalar.muli v165 c4_i32_123
  let v174 : BitVec 32 := Scalar.addi c0_i32_124 v173
  let c1_i32_116 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v166 : BitVec 32 := Scalar.subi c1_i32_116 v5
  let c2_i32_125 : BitVec 32 := 2#32
  let v175 : BitVec 32 := Scalar.muli v166 c2_i32_125
  let v176 : BitVec 32 := Scalar.addi v174 v175
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_126 : BitVec 32 := 1#32
  let v177 : BitVec 32 := Scalar.muli v8 c1_i32_126
  let v178 : BitVec 32 := Scalar.addi v176 v177
  v178.toNat
def k0_dev13 (d0 : Dev nD) : Nat :=
  let c0_i32_133 : BitVec 32 := 0#32
  let c1_i32_115 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v165 : BitVec 32 := Scalar.subi c1_i32_115 v2
  let c4_i32_132 : BitVec 32 := 4#32
  let v184 : BitVec 32 := Scalar.muli v165 c4_i32_132
  let v185 : BitVec 32 := Scalar.addi c0_i32_133 v184
  let c1_i32_116 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v166 : BitVec 32 := Scalar.subi c1_i32_116 v5
  let c2_i32_134 : BitVec 32 := 2#32
  let v186 : BitVec 32 := Scalar.muli v166 c2_i32_134
  let v187 : BitVec 32 := Scalar.addi v185 v186
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_135 : BitVec 32 := 1#32
  let v188 : BitVec 32 := Scalar.muli v8 c1_i32_135
  let v189 : BitVec 32 := Scalar.addi v187 v188
  v189.toNat
def k0_mult5 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_142 : BitVec 32 := 384#32
  let v202 : BitVec 32 := Scalar.muli v12 c384_i32_142
  v202
def k0_dev14 (d0 : Dev nD) : Nat :=
  let c0_i32_148 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_147 : BitVec 32 := 4#32
  let v204 : BitVec 32 := Scalar.muli v2 c4_i32_147
  let v205 : BitVec 32 := Scalar.addi c0_i32_148 v204
  let c1_i32_138 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v196 : BitVec 32 := Scalar.subi c1_i32_138 v5
  let c2_i32_149 : BitVec 32 := 2#32
  let v206 : BitVec 32 := Scalar.muli v196 c2_i32_149
  let v207 : BitVec 32 := Scalar.addi v205 v206
  let c1_i32_139 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v197 : BitVec 32 := Scalar.subi c1_i32_139 v8
  let c1_i32_150 : BitVec 32 := 1#32
  let v208 : BitVec 32 := Scalar.muli v197 c1_i32_150
  let v209 : BitVec 32 := Scalar.addi v207 v208
  v209.toNat
def k0_dev15 (d0 : Dev nD) : Nat :=
  let c0_i32_157 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_156 : BitVec 32 := 4#32
  let v215 : BitVec 32 := Scalar.muli v2 c4_i32_156
  let v216 : BitVec 32 := Scalar.addi c0_i32_157 v215
  let c1_i32_138 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v196 : BitVec 32 := Scalar.subi c1_i32_138 v5
  let c2_i32_158 : BitVec 32 := 2#32
  let v217 : BitVec 32 := Scalar.muli v196 c2_i32_158
  let v218 : BitVec 32 := Scalar.addi v216 v217
  let c1_i32_139 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v197 : BitVec 32 := Scalar.subi c1_i32_139 v8
  let c1_i32_159 : BitVec 32 := 1#32
  let v219 : BitVec 32 := Scalar.muli v197 c1_i32_159
  let v220 : BitVec 32 := Scalar.addi v218 v219
  v220.toNat
def k0_mult6 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_166 : BitVec 32 := 384#32
  let v233 : BitVec 32 := Scalar.muli v12 c384_i32_166
  v233
def k0_dev16 (d0 : Dev nD) : Nat :=
  let c0_i32_172 : BitVec 32 := 0#32
  let c1_i32_162 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v227 : BitVec 32 := Scalar.subi c1_i32_162 v2
  let c4_i32_171 : BitVec 32 := 4#32
  let v235 : BitVec 32 := Scalar.muli v227 c4_i32_171
  let v236 : BitVec 32 := Scalar.addi c0_i32_172 v235
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_173 : BitVec 32 := 2#32
  let v237 : BitVec 32 := Scalar.muli v5 c2_i32_173
  let v238 : BitVec 32 := Scalar.addi v236 v237
  let c1_i32_163 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.subi c1_i32_163 v8
  let c1_i32_174 : BitVec 32 := 1#32
  let v239 : BitVec 32 := Scalar.muli v228 c1_i32_174
  let v240 : BitVec 32 := Scalar.addi v238 v239
  v240.toNat
def k0_dev17 (d0 : Dev nD) : Nat :=
  let c0_i32_181 : BitVec 32 := 0#32
  let c1_i32_162 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v227 : BitVec 32 := Scalar.subi c1_i32_162 v2
  let c4_i32_180 : BitVec 32 := 4#32
  let v246 : BitVec 32 := Scalar.muli v227 c4_i32_180
  let v247 : BitVec 32 := Scalar.addi c0_i32_181 v246
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_182 : BitVec 32 := 2#32
  let v248 : BitVec 32 := Scalar.muli v5 c2_i32_182
  let v249 : BitVec 32 := Scalar.addi v247 v248
  let c1_i32_163 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.subi c1_i32_163 v8
  let c1_i32_183 : BitVec 32 := 1#32
  let v250 : BitVec 32 := Scalar.muli v228 c1_i32_183
  let v251 : BitVec 32 := Scalar.addi v249 v250
  v251.toNat
def k0_mult7 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_191 : BitVec 32 := 384#32
  let v265 : BitVec 32 := Scalar.muli v12 c384_i32_191
  v265
def k0_dev18 (d0 : Dev nD) : Nat :=
  let c0_i32_196 : BitVec 32 := 0#32
  let c1_i32_186 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v258 : BitVec 32 := Scalar.subi c1_i32_186 v2
  let c4_i32_195 : BitVec 32 := 4#32
  let v267 : BitVec 32 := Scalar.muli v258 c4_i32_195
  let v268 : BitVec 32 := Scalar.addi c0_i32_196 v267
  let c1_i32_187 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v259 : BitVec 32 := Scalar.subi c1_i32_187 v5
  let c2_i32_197 : BitVec 32 := 2#32
  let v269 : BitVec 32 := Scalar.muli v259 c2_i32_197
  let v270 : BitVec 32 := Scalar.addi v268 v269
  let c1_i32_188 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v260 : BitVec 32 := Scalar.subi c1_i32_188 v8
  let c1_i32_198 : BitVec 32 := 1#32
  let v271 : BitVec 32 := Scalar.muli v260 c1_i32_198
  let v272 : BitVec 32 := Scalar.addi v270 v271
  v272.toNat
def k0_dev19 (d0 : Dev nD) : Nat :=
  let c0_i32_205 : BitVec 32 := 0#32
  let c1_i32_186 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v258 : BitVec 32 := Scalar.subi c1_i32_186 v2
  let c4_i32_204 : BitVec 32 := 4#32
  let v278 : BitVec 32 := Scalar.muli v258 c4_i32_204
  let v279 : BitVec 32 := Scalar.addi c0_i32_205 v278
  let c1_i32_187 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v259 : BitVec 32 := Scalar.subi c1_i32_187 v5
  let c2_i32_206 : BitVec 32 := 2#32
  let v280 : BitVec 32 := Scalar.muli v259 c2_i32_206
  let v281 : BitVec 32 := Scalar.addi v279 v280
  let c1_i32_188 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v260 : BitVec 32 := Scalar.subi c1_i32_188 v8
  let c1_i32_207 : BitVec 32 := 1#32
  let v282 : BitVec 32 := Scalar.muli v260 c1_i32_207
  let v283 : BitVec 32 := Scalar.addi v281 v282
  v283.toNat
def k0_mult8 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_213 : BitVec 32 := 384#32
  let v295 : BitVec 32 := Scalar.muli v12 c384_i32_213
  v295
def k0_dev20 (d0 : Dev nD) : Nat :=
  let c0_i32_219 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_218 : BitVec 32 := 4#32
  let v297 : BitVec 32 := Scalar.muli v2 c4_i32_218
  let v298 : BitVec 32 := Scalar.addi c0_i32_219 v297
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_220 : BitVec 32 := 2#32
  let v299 : BitVec 32 := Scalar.muli v5 c2_i32_220
  let v300 : BitVec 32 := Scalar.addi v298 v299
  let c1_i32_210 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v290 : BitVec 32 := Scalar.subi c1_i32_210 v8
  let c1_i32_221 : BitVec 32 := 1#32
  let v301 : BitVec 32 := Scalar.muli v290 c1_i32_221
  let v302 : BitVec 32 := Scalar.addi v300 v301
  v302.toNat
def k0_dev21 (d0 : Dev nD) : Nat :=
  let c0_i32_228 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_227 : BitVec 32 := 4#32
  let v308 : BitVec 32 := Scalar.muli v2 c4_i32_227
  let v309 : BitVec 32 := Scalar.addi c0_i32_228 v308
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_229 : BitVec 32 := 2#32
  let v310 : BitVec 32 := Scalar.muli v5 c2_i32_229
  let v311 : BitVec 32 := Scalar.addi v309 v310
  let c1_i32_210 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v290 : BitVec 32 := Scalar.subi c1_i32_210 v8
  let c1_i32_230 : BitVec 32 := 1#32
  let v312 : BitVec 32 := Scalar.muli v290 c1_i32_230
  let v313 : BitVec 32 := Scalar.addi v311 v312
  v313.toNat
def k0_mult9 (d0 : Dev nD) : BitVec 32 :=
  let c4_i32_234 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v321 : BitVec 32 := Scalar.muli c4_i32_234 v2
  let c2_i32_235 : BitVec 32 := 2#32
  let c1_i32_233 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v320 : BitVec 32 := Scalar.subi c1_i32_233 v5
  let v322 : BitVec 32 := Scalar.muli c2_i32_235 v320
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v324 : BitVec 32 := Scalar.addi v323 v8
  let c384_i32_236 : BitVec 32 := 384#32
  let v325 : BitVec 32 := Scalar.muli v324 c384_i32_236
  v325
def k0_off3 (d0 : Dev nD) : Fin 2 → Nat :=
  let c0_i32_245 : BitVec 32 := 0#32
  let c4_i32_234 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v321 : BitVec 32 := Scalar.muli c4_i32_234 v2
  let c2_i32_235 : BitVec 32 := 2#32
  let c1_i32_233 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v320 : BitVec 32 := Scalar.subi c1_i32_233 v5
  let v322 : BitVec 32 := Scalar.muli c2_i32_235 v320
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v324 : BitVec 32 := Scalar.addi v323 v8
  let c384_i32_236 : BitVec 32 := 384#32
  let v325 : BitVec 32 := Scalar.muli v324 c384_i32_236
  let v326 : BitVec 32 := v325
  ![0, v326.toNat]
def k0_off4 (d0 : Dev nD) : Fin 3 → Nat :=
  let c4_i32_234 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v321 : BitVec 32 := Scalar.muli c4_i32_234 v2
  let c2_i32_235 : BitVec 32 := 2#32
  let c1_i32_233 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v320 : BitVec 32 := Scalar.subi c1_i32_233 v5
  let v322 : BitVec 32 := Scalar.muli c2_i32_235 v320
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v324 : BitVec 32 := Scalar.addi v323 v8
  let c0_i32_254 : BitVec 32 := 0#32
  let c0_i32_255 : BitVec 32 := 0#32
  ![v324.toNat, 0, 0]
def k0_mult10 (d0 : Dev nD) : BitVec 32 :=
  let c4_i32_257 : BitVec 32 := 4#32
  let c1_i32_256 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v346 : BitVec 32 := Scalar.subi c1_i32_256 v2
  let v347 : BitVec 32 := Scalar.muli c4_i32_257 v346
  let c2_i32_258 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v348 : BitVec 32 := Scalar.muli c2_i32_258 v5
  let v349 : BitVec 32 := Scalar.addi v347 v348
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v350 : BitVec 32 := Scalar.addi v349 v8
  let c384_i32_259 : BitVec 32 := 384#32
  let v351 : BitVec 32 := Scalar.muli v350 c384_i32_259
  v351
def k0_off5 (d0 : Dev nD) : Fin 2 → Nat :=
  let c0_i32_268 : BitVec 32 := 0#32
  let c4_i32_257 : BitVec 32 := 4#32
  let c1_i32_256 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v346 : BitVec 32 := Scalar.subi c1_i32_256 v2
  let v347 : BitVec 32 := Scalar.muli c4_i32_257 v346
  let c2_i32_258 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v348 : BitVec 32 := Scalar.muli c2_i32_258 v5
  let v349 : BitVec 32 := Scalar.addi v347 v348
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v350 : BitVec 32 := Scalar.addi v349 v8
  let c384_i32_259 : BitVec 32 := 384#32
  let v351 : BitVec 32 := Scalar.muli v350 c384_i32_259
  let v352 : BitVec 32 := v351
  ![0, v352.toNat]
def k0_off6 (d0 : Dev nD) : Fin 3 → Nat :=
  let c4_i32_257 : BitVec 32 := 4#32
  let c1_i32_256 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v346 : BitVec 32 := Scalar.subi c1_i32_256 v2
  let v347 : BitVec 32 := Scalar.muli c4_i32_257 v346
  let c2_i32_258 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v348 : BitVec 32 := Scalar.muli c2_i32_258 v5
  let v349 : BitVec 32 := Scalar.addi v347 v348
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v350 : BitVec 32 := Scalar.addi v349 v8
  let c0_i32_277 : BitVec 32 := 0#32
  let c0_i32_278 : BitVec 32 := 0#32
  ![v350.toNat, 0, 0]
def k0_mult11 (d0 : Dev nD) : BitVec 32 :=
  let c4_i32_281 : BitVec 32 := 4#32
  let c1_i32_279 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v372 : BitVec 32 := Scalar.subi c1_i32_279 v2
  let v374 : BitVec 32 := Scalar.muli c4_i32_281 v372
  let c2_i32_282 : BitVec 32 := 2#32
  let c1_i32_280 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v373 : BitVec 32 := Scalar.subi c1_i32_280 v5
  let v375 : BitVec 32 := Scalar.muli c2_i32_282 v373
  let v376 : BitVec 32 := Scalar.addi v374 v375
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v377 : BitVec 32 := Scalar.addi v376 v8
  let c384_i32_283 : BitVec 32 := 384#32
  let v378 : BitVec 32 := Scalar.muli v377 c384_i32_283
  v378
def k0_off7 (d0 : Dev nD) : Fin 2 → Nat :=
  let c0_i32_292 : BitVec 32 := 0#32
  let c4_i32_281 : BitVec 32 := 4#32
  let c1_i32_279 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v372 : BitVec 32 := Scalar.subi c1_i32_279 v2
  let v374 : BitVec 32 := Scalar.muli c4_i32_281 v372
  let c2_i32_282 : BitVec 32 := 2#32
  let c1_i32_280 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v373 : BitVec 32 := Scalar.subi c1_i32_280 v5
  let v375 : BitVec 32 := Scalar.muli c2_i32_282 v373
  let v376 : BitVec 32 := Scalar.addi v374 v375
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v377 : BitVec 32 := Scalar.addi v376 v8
  let c384_i32_283 : BitVec 32 := 384#32
  let v378 : BitVec 32 := Scalar.muli v377 c384_i32_283
  let v379 : BitVec 32 := v378
  ![0, v379.toNat]
def k0_off8 (d0 : Dev nD) : Fin 3 → Nat :=
  let c4_i32_281 : BitVec 32 := 4#32
  let c1_i32_279 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v372 : BitVec 32 := Scalar.subi c1_i32_279 v2
  let v374 : BitVec 32 := Scalar.muli c4_i32_281 v372
  let c2_i32_282 : BitVec 32 := 2#32
  let c1_i32_280 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v373 : BitVec 32 := Scalar.subi c1_i32_280 v5
  let v375 : BitVec 32 := Scalar.muli c2_i32_282 v373
  let v376 : BitVec 32 := Scalar.addi v374 v375
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v377 : BitVec 32 := Scalar.addi v376 v8
  let c0_i32_301 : BitVec 32 := 0#32
  let c0_i32_302 : BitVec 32 := 0#32
  ![v377.toNat, 0, 0]
def k0_mult12 (d0 : Dev nD) : BitVec 32 :=
  let c4_i32_305 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v401 : BitVec 32 := Scalar.muli c4_i32_305 v2
  let c2_i32_306 : BitVec 32 := 2#32
  let c1_i32_303 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v399 : BitVec 32 := Scalar.subi c1_i32_303 v5
  let v402 : BitVec 32 := Scalar.muli c2_i32_306 v399
  let v403 : BitVec 32 := Scalar.addi v401 v402
  let c1_i32_304 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v400 : BitVec 32 := Scalar.subi c1_i32_304 v8
  let v404 : BitVec 32 := Scalar.addi v403 v400
  let c384_i32_307 : BitVec 32 := 384#32
  let v405 : BitVec 32 := Scalar.muli v404 c384_i32_307
  v405
def k0_off9 (d0 : Dev nD) : Fin 2 → Nat :=
  let c0_i32_316 : BitVec 32 := 0#32
  let c4_i32_305 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v401 : BitVec 32 := Scalar.muli c4_i32_305 v2
  let c2_i32_306 : BitVec 32 := 2#32
  let c1_i32_303 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v399 : BitVec 32 := Scalar.subi c1_i32_303 v5
  let v402 : BitVec 32 := Scalar.muli c2_i32_306 v399
  let v403 : BitVec 32 := Scalar.addi v401 v402
  let c1_i32_304 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v400 : BitVec 32 := Scalar.subi c1_i32_304 v8
  let v404 : BitVec 32 := Scalar.addi v403 v400
  let c384_i32_307 : BitVec 32 := 384#32
  let v405 : BitVec 32 := Scalar.muli v404 c384_i32_307
  let v406 : BitVec 32 := v405
  ![0, v406.toNat]
def k0_off10 (d0 : Dev nD) : Fin 3 → Nat :=
  let c4_i32_305 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v401 : BitVec 32 := Scalar.muli c4_i32_305 v2
  let c2_i32_306 : BitVec 32 := 2#32
  let c1_i32_303 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v399 : BitVec 32 := Scalar.subi c1_i32_303 v5
  let v402 : BitVec 32 := Scalar.muli c2_i32_306 v399
  let v403 : BitVec 32 := Scalar.addi v401 v402
  let c1_i32_304 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v400 : BitVec 32 := Scalar.subi c1_i32_304 v8
  let v404 : BitVec 32 := Scalar.addi v403 v400
  let c0_i32_325 : BitVec 32 := 0#32
  let c0_i32_326 : BitVec 32 := 0#32
  ![v404.toNat, 0, 0]
def k0_mult13 (d0 : Dev nD) : BitVec 32 :=
  let c4_i32_329 : BitVec 32 := 4#32
  let c1_i32_327 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v426 : BitVec 32 := Scalar.subi c1_i32_327 v2
  let v428 : BitVec 32 := Scalar.muli c4_i32_329 v426
  let c2_i32_330 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v429 : BitVec 32 := Scalar.muli c2_i32_330 v5
  let v430 : BitVec 32 := Scalar.addi v428 v429
  let c1_i32_328 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v427 : BitVec 32 := Scalar.subi c1_i32_328 v8
  let v431 : BitVec 32 := Scalar.addi v430 v427
  let c384_i32_331 : BitVec 32 := 384#32
  let v432 : BitVec 32 := Scalar.muli v431 c384_i32_331
  v432
def k0_off11 (d0 : Dev nD) : Fin 2 → Nat :=
  let c0_i32_340 : BitVec 32 := 0#32
  let c4_i32_329 : BitVec 32 := 4#32
  let c1_i32_327 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v426 : BitVec 32 := Scalar.subi c1_i32_327 v2
  let v428 : BitVec 32 := Scalar.muli c4_i32_329 v426
  let c2_i32_330 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v429 : BitVec 32 := Scalar.muli c2_i32_330 v5
  let v430 : BitVec 32 := Scalar.addi v428 v429
  let c1_i32_328 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v427 : BitVec 32 := Scalar.subi c1_i32_328 v8
  let v431 : BitVec 32 := Scalar.addi v430 v427
  let c384_i32_331 : BitVec 32 := 384#32
  let v432 : BitVec 32 := Scalar.muli v431 c384_i32_331
  let v433 : BitVec 32 := v432
  ![0, v433.toNat]
def k0_off12 (d0 : Dev nD) : Fin 3 → Nat :=
  let c4_i32_329 : BitVec 32 := 4#32
  let c1_i32_327 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v426 : BitVec 32 := Scalar.subi c1_i32_327 v2
  let v428 : BitVec 32 := Scalar.muli c4_i32_329 v426
  let c2_i32_330 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v429 : BitVec 32 := Scalar.muli c2_i32_330 v5
  let v430 : BitVec 32 := Scalar.addi v428 v429
  let c1_i32_328 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v427 : BitVec 32 := Scalar.subi c1_i32_328 v8
  let v431 : BitVec 32 := Scalar.addi v430 v427
  let c0_i32_349 : BitVec 32 := 0#32
  let c0_i32_350 : BitVec 32 := 0#32
  ![v431.toNat, 0, 0]
def k0_mult14 (d0 : Dev nD) : BitVec 32 :=
  let c4_i32_354 : BitVec 32 := 4#32
  let c1_i32_351 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v453 : BitVec 32 := Scalar.subi c1_i32_351 v2
  let v456 : BitVec 32 := Scalar.muli c4_i32_354 v453
  let c2_i32_355 : BitVec 32 := 2#32
  let c1_i32_352 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v454 : BitVec 32 := Scalar.subi c1_i32_352 v5
  let v457 : BitVec 32 := Scalar.muli c2_i32_355 v454
  let v458 : BitVec 32 := Scalar.addi v456 v457
  let c1_i32_353 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v455 : BitVec 32 := Scalar.subi c1_i32_353 v8
  let v459 : BitVec 32 := Scalar.addi v458 v455
  let c384_i32_356 : BitVec 32 := 384#32
  let v460 : BitVec 32 := Scalar.muli v459 c384_i32_356
  v460
def k0_off13 (d0 : Dev nD) : Fin 2 → Nat :=
  let c0_i32_365 : BitVec 32 := 0#32
  let c4_i32_354 : BitVec 32 := 4#32
  let c1_i32_351 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v453 : BitVec 32 := Scalar.subi c1_i32_351 v2
  let v456 : BitVec 32 := Scalar.muli c4_i32_354 v453
  let c2_i32_355 : BitVec 32 := 2#32
  let c1_i32_352 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v454 : BitVec 32 := Scalar.subi c1_i32_352 v5
  let v457 : BitVec 32 := Scalar.muli c2_i32_355 v454
  let v458 : BitVec 32 := Scalar.addi v456 v457
  let c1_i32_353 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v455 : BitVec 32 := Scalar.subi c1_i32_353 v8
  let v459 : BitVec 32 := Scalar.addi v458 v455
  let c384_i32_356 : BitVec 32 := 384#32
  let v460 : BitVec 32 := Scalar.muli v459 c384_i32_356
  let v461 : BitVec 32 := v460
  ![0, v461.toNat]
def k0_off14 (d0 : Dev nD) : Fin 3 → Nat :=
  let c4_i32_354 : BitVec 32 := 4#32
  let c1_i32_351 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v453 : BitVec 32 := Scalar.subi c1_i32_351 v2
  let v456 : BitVec 32 := Scalar.muli c4_i32_354 v453
  let c2_i32_355 : BitVec 32 := 2#32
  let c1_i32_352 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v454 : BitVec 32 := Scalar.subi c1_i32_352 v5
  let v457 : BitVec 32 := Scalar.muli c2_i32_355 v454
  let v458 : BitVec 32 := Scalar.addi v456 v457
  let c1_i32_353 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v455 : BitVec 32 := Scalar.subi c1_i32_353 v8
  let v459 : BitVec 32 := Scalar.addi v458 v455
  let c0_i32_374 : BitVec 32 := 0#32
  let c0_i32_375 : BitVec 32 := 0#32
  ![v459.toNat, 0, 0]
def k0_mult15 (d0 : Dev nD) : BitVec 32 :=
  let c4_i32_377 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v482 : BitVec 32 := Scalar.muli c4_i32_377 v2
  let c2_i32_378 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v483 : BitVec 32 := Scalar.muli c2_i32_378 v5
  let v484 : BitVec 32 := Scalar.addi v482 v483
  let c1_i32_376 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v481 : BitVec 32 := Scalar.subi c1_i32_376 v8
  let v485 : BitVec 32 := Scalar.addi v484 v481
  let c384_i32_379 : BitVec 32 := 384#32
  let v486 : BitVec 32 := Scalar.muli v485 c384_i32_379
  v486
def k0_off15 (d0 : Dev nD) : Fin 2 → Nat :=
  let c0_i32_388 : BitVec 32 := 0#32
  let c4_i32_377 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v482 : BitVec 32 := Scalar.muli c4_i32_377 v2
  let c2_i32_378 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v483 : BitVec 32 := Scalar.muli c2_i32_378 v5
  let v484 : BitVec 32 := Scalar.addi v482 v483
  let c1_i32_376 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v481 : BitVec 32 := Scalar.subi c1_i32_376 v8
  let v485 : BitVec 32 := Scalar.addi v484 v481
  let c384_i32_379 : BitVec 32 := 384#32
  let v486 : BitVec 32 := Scalar.muli v485 c384_i32_379
  let v487 : BitVec 32 := v486
  ![0, v487.toNat]
def k0_off16 (d0 : Dev nD) : Fin 3 → Nat :=
  let c4_i32_377 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v482 : BitVec 32 := Scalar.muli c4_i32_377 v2
  let c2_i32_378 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v483 : BitVec 32 := Scalar.muli c2_i32_378 v5
  let v484 : BitVec 32 := Scalar.addi v482 v483
  let c1_i32_376 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v481 : BitVec 32 := Scalar.subi c1_i32_376 v8
  let v485 : BitVec 32 := Scalar.addi v484 v481
  let c0_i32_397 : BitVec 32 := 0#32
  let c0_i32_398 : BitVec 32 := 0#32
  ![v485.toNat, 0, 0]
def k0_mult16 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_402 : BitVec 32 := 384#32
  let v512 : BitVec 32 := Scalar.muli v12 c384_i32_402
  v512
def k0_mult17 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_419 : BitVec 32 := 384#32
  let v526 : BitVec 32 := Scalar.muli v12 c384_i32_419
  v526
def k0_mult18 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_437 : BitVec 32 := 384#32
  let v541 : BitVec 32 := Scalar.muli v12 c384_i32_437
  v541
def k0_mult19 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_455 : BitVec 32 := 384#32
  let v556 : BitVec 32 := Scalar.muli v12 c384_i32_455
  v556
def k0_mult20 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_473 : BitVec 32 := 384#32
  let v571 : BitVec 32 := Scalar.muli v12 c384_i32_473
  v571
def k0_mult21 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_492 : BitVec 32 := 384#32
  let v587 : BitVec 32 := Scalar.muli v12 c384_i32_492
  v587
def k0_mult22 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_509 : BitVec 32 := 384#32
  let v601 : BitVec 32 := Scalar.muli v12 c384_i32_509
  v601
abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== GatherDRef.lean ====
abbrev S2x1024x3072 : Shape := ⟨3, ![2, 1024, 3072]⟩
abbrev S2x1024x1024 : Shape := ⟨3, ![2, 1024, 1024]⟩
abbrev S1x1024x3072 : Shape := ⟨3, ![1, 1024, 3072]⟩
abbrev S1024x3072 : Shape := ⟨2, ![1024, 3072]⟩
abbrev S1x1024x1024 : Shape := ⟨3, ![1, 1024, 1024]⟩
abbrev S1024x1024 : Shape := ⟨2, ![1024, 1024]⟩
abbrev S8x128x1024 : Shape := ⟨3, ![8, 128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x1024x3072, .f32⟩
  | .hbm, ⟨1, _⟩ => ⟨S2x1024x1024, .f32⟩
  | .hbm, ⟨2, _⟩ => ⟨S1x1024x3072, .f32⟩
  | .hbm, ⟨3, _⟩ => ⟨S1024x3072, .f32⟩
  | .hbm, ⟨4, _⟩ => ⟨S1024x3072, .bf16⟩
  | .hbm, ⟨5, _⟩ => ⟨S1x1024x1024, .f32⟩
  | .hbm, ⟨6, _⟩ => ⟨S1024x1024, .f32⟩
  | .hbm, ⟨7, _⟩ => ⟨S1024x1024, .bf16⟩
  | .hbm, ⟨8, _⟩ => ⟨S8x128x1024, .bf16⟩
  | _, _ => ⟨S2x1024x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== GatherA.lean ====
abbrev S2x3x704 : Shape := ⟨3, ![2, 3, 704]⟩
abbrev S2x3x64 : Shape := ⟨3, ![2, 3, 64]⟩
abbrev S2x1024x384 : Shape := ⟨3, ![2, 1024, 384]⟩
abbrev S2x3x768 : Shape := ⟨3, ![2, 3, 768]⟩
abbrev S1x1024x384 : Shape := ⟨3, ![1, 1024, 384]⟩
abbrev S1024x384 : Shape := ⟨2, ![1024, 384]⟩
abbrev S8x2x3x768 : Shape := ⟨4, ![8, 2, 3, 768]⟩
abbrev S1024x3072 : Shape := ⟨2, ![1024, 3072]⟩
abbrev S2x7 : Shape := ⟨2, ![2, 7]⟩
abbrev S2 : Shape := ⟨1, ![2]⟩
abbrev S_ : Shape := ⟨0, ![]⟩
abbrev S1 : Shape := ⟨1, ![1]⟩
abbrev S1x2x3x768 : Shape := ⟨4, ![1, 2, 3, 768]⟩
abbrev S1x1 : Shape := ⟨2, ![1, 1]⟩

abbrev nBuf : Table → Nat
  | .hbm => 9
  | _ => 0

abbrev bufTy : (tb : Table) → Fin (nBuf tb) → BufTy
  | .hbm, ⟨0, _⟩ => ⟨S2x3x704, .f32⟩
  | .hbm, ⟨1, _⟩ => ⟨S2x3x64, .f32⟩
  | .hbm, ⟨2, _⟩ => ⟨S2x1024x384, .f32⟩
  | .hbm, ⟨3, _⟩ => ⟨S2x3x768, .f32⟩
  | .hbm, ⟨4, _⟩ => ⟨S1x1024x384, .f32⟩
  | .hbm, ⟨5, _⟩ => ⟨S1024x384, .f32⟩
  | .hbm, ⟨6, _⟩ => ⟨S1024x384, .bf16⟩
  | .hbm, ⟨7, _⟩ => ⟨S8x2x3x768, .f32⟩
  | .hbm, ⟨8, _⟩ => ⟨S1024x3072, .bf16⟩
  | _, _ => ⟨S2x3x704, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 30 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | _ => false

abbrev sig : RefSig :=
  (ofTables nBuf rfl bufTy 5 30 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v1_scs : Ref sig .scScalar := ⟨.hbm, 3, rfl⟩
abbrev main_v4_scs : Ref sig .scScalar := ⟨.hbm, 6, rfl⟩
abbrev main_v5_0_scs : Ref sig .scScalar := ⟨.hbm, 7, rfl⟩
abbrev main_v5_1_scs : Ref sig .scScalar := ⟨.hbm, 8, rfl⟩
abbrev sc_start : Sem sig := 0
abbrev sc_done : Sem sig := 1
abbrev sc_go : Sem sig := 2
abbrev sc_taskDone : Sem sig := 3
abbrev barrier0 : Sem sig := 4

abbrev nD : Nat := 8
abbrev τ : Topo := Topo.v7x

variable {F : FTy → Type} [FloatOps F]

abbrev grid0 : Pipeline.Grid := ⟨1, ![1], ![false]⟩

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v19 : BitVec 32 := Scalar.muli v2 c4_i32_9
  let v20 : BitVec 32 := Scalar.addi c0_i32 v19
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_5 v5
  let c2_i32_10 : BitVec 32 := 2#32
  let v21 : BitVec 32 := Scalar.muli v14 c2_i32_10
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_11 : BitVec 32 := 1#32
  let v23 : BitVec 32 := Scalar.muli v8 c1_i32_11
  let v24 : BitVec 32 := Scalar.addi v22 v23
  v24.toNat
def k0_dev2 (d0 : Dev nD) : Nat :=
  let c0_i32_17 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_12 v2
  let c4_i32_16 : BitVec 32 := 4#32
  let v30 : BitVec 32 := Scalar.muli v25 c4_i32_16
  let v31 : BitVec 32 := Scalar.addi c0_i32_17 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v32 : BitVec 32 := Scalar.muli v5 c2_i32_18
  let v33 : BitVec 32 := Scalar.addi v31 v32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v34 : BitVec 32 := Scalar.muli v8 c1_i32_19
  let v35 : BitVec 32 := Scalar.addi v33 v34
  v35.toNat
def k0_dev3 (d0 : Dev nD) : Nat :=
  let c0_i32_26 : BitVec 32 := 0#32
  let c1_i32_20 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.subi c1_i32_20 v2
  let c4_i32_25 : BitVec 32 := 4#32
  let v42 : BitVec 32 := Scalar.muli v36 c4_i32_25
  let v43 : BitVec 32 := Scalar.addi c0_i32_26 v42
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.subi c1_i32_21 v5
  let c2_i32_27 : BitVec 32 := 2#32
  let v44 : BitVec 32 := Scalar.muli v37 c2_i32_27
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v46 : BitVec 32 := Scalar.muli v8 c1_i32_28
  let v47 : BitVec 32 := Scalar.addi v45 v46
  v47.toNat
def k0_dev4 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v54 : BitVec 32 := Scalar.muli v2 c4_i32_34
  let v55 : BitVec 32 := Scalar.addi c0_i32_35 v54
  let c1_i32_29 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v48 : BitVec 32 := Scalar.subi c1_i32_29 v5
  let c2_i32_36 : BitVec 32 := 2#32
  let v56 : BitVec 32 := Scalar.muli v48 c2_i32_36
  let v57 : BitVec 32 := Scalar.addi v55 v56
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.subi c1_i32_30 v8
  let c1_i32_37 : BitVec 32 := 1#32
  let v58 : BitVec 32 := Scalar.muli v49 c1_i32_37
  let v59 : BitVec 32 := Scalar.addi v57 v58
  v59.toNat
def k0_dev5 (d0 : Dev nD) : Nat :=
  let c0_i32_44 : BitVec 32 := 0#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v60 : BitVec 32 := Scalar.subi c1_i32_38 v2
  let c4_i32_43 : BitVec 32 := 4#32
  let v66 : BitVec 32 := Scalar.muli v60 c4_i32_43
  let v67 : BitVec 32 := Scalar.addi c0_i32_44 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v68 : BitVec 32 := Scalar.muli v5 c2_i32_45
  let v69 : BitVec 32 := Scalar.addi v67 v68
  let c1_i32_39 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v61 : BitVec 32 := Scalar.subi c1_i32_39 v8
  let c1_i32_46 : BitVec 32 := 1#32
  let v70 : BitVec 32 := Scalar.muli v61 c1_i32_46
  let v71 : BitVec 32 := Scalar.addi v69 v70
  v71.toNat
def k0_dev6 (d0 : Dev nD) : Nat :=
  let c0_i32_54 : BitVec 32 := 0#32
  let c1_i32_47 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v72 : BitVec 32 := Scalar.subi c1_i32_47 v2
  let c4_i32_53 : BitVec 32 := 4#32
  let v79 : BitVec 32 := Scalar.muli v72 c4_i32_53
  let v80 : BitVec 32 := Scalar.addi c0_i32_54 v79
  let c1_i32_48 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v73 : BitVec 32 := Scalar.subi c1_i32_48 v5
  let c2_i32_55 : BitVec 32 := 2#32
  let v81 : BitVec 32 := Scalar.muli v73 c2_i32_55
  let v82 : BitVec 32 := Scalar.addi v80 v81
  let c1_i32_49 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v74 : BitVec 32 := Scalar.subi c1_i32_49 v8
  let c1_i32_56 : BitVec 32 := 1#32
  let v83 : BitVec 32 := Scalar.muli v74 c1_i32_56
  let v84 : BitVec 32 := Scalar.addi v82 v83
  v84.toNat
def k0_dev7 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v90 : BitVec 32 := Scalar.muli v2 c4_i32_61
  let v91 : BitVec 32 := Scalar.addi c0_i32_62 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v92 : BitVec 32 := Scalar.muli v5 c2_i32_63
  let v93 : BitVec 32 := Scalar.addi v91 v92
  let c1_i32_57 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v85 : BitVec 32 := Scalar.subi c1_i32_57 v8
  let c1_i32_64 : BitVec 32 := 1#32
  let v94 : BitVec 32 := Scalar.muli v85 c1_i32_64
  let v95 : BitVec 32 := Scalar.addi v93 v94
  v95.toNat
def k0_mult1 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32 : BitVec 32 := 384#32
  let v96 : BitVec 32 := Scalar.muli v12 c384_i32
  v96
def k0_off1 (d0 : Dev nD) : Fin 4 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_66 : BitVec 32 := 0#32
  let c0_i32_67 : BitVec 32 := 0#32
  let c0_i32_68 : BitVec 32 := 0#32
  ![v12.toNat, 0, 0, 0]
def k0_off2 (d0 : Dev nD) : Fin 2 → Nat :=
  let c0_i32_70 : BitVec 32 := 0#32
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32 : BitVec 32 := 384#32
  let v96 : BitVec 32 := Scalar.muli v12 c384_i32
  let v97 : BitVec 32 := v96
  ![0, v97.toNat]
def k0_dev8 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v110 : BitVec 32 := Scalar.muli v2 c4_i32_78
  let v111 : BitVec 32 := Scalar.addi c0_i32_79 v110
  let c1_i32_71 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v105 : BitVec 32 := Scalar.subi c1_i32_71 v5
  let c2_i32_80 : BitVec 32 := 2#32
  let v112 : BitVec 32 := Scalar.muli v105 c2_i32_80
  let v113 : BitVec 32 := Scalar.addi v111 v112
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v114 : BitVec 32 := Scalar.muli v8 c1_i32_81
  let v115 : BitVec 32 := Scalar.addi v113 v114
  v115.toNat
def k0_mult2 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_85 : BitVec 32 := 384#32
  let v122 : BitVec 32 := Scalar.muli v12 c384_i32_85
  v122
def k0_dev9 (d0 : Dev nD) : Nat :=
  let c0_i32_91 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_90 : BitVec 32 := 4#32
  let v124 : BitVec 32 := Scalar.muli v2 c4_i32_90
  let v125 : BitVec 32 := Scalar.addi c0_i32_91 v124
  let c1_i32_71 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v105 : BitVec 32 := Scalar.subi c1_i32_71 v5
  let c2_i32_92 : BitVec 32 := 2#32
  let v126 : BitVec 32 := Scalar.muli v105 c2_i32_92
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_93 : BitVec 32 := 1#32
  let v128 : BitVec 32 := Scalar.muli v8 c1_i32_93
  let v129 : BitVec 32 := Scalar.addi v127 v128
  v129.toNat
def k0_dev10 (d0 : Dev nD) : Nat :=
  let c0_i32_102 : BitVec 32 := 0#32
  let c1_i32_95 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v135 : BitVec 32 := Scalar.subi c1_i32_95 v2
  let c4_i32_101 : BitVec 32 := 4#32
  let v140 : BitVec 32 := Scalar.muli v135 c4_i32_101
  let v141 : BitVec 32 := Scalar.addi c0_i32_102 v140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v142 : BitVec 32 := Scalar.muli v5 c2_i32_103
  let v143 : BitVec 32 := Scalar.addi v141 v142
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_104 : BitVec 32 := 1#32
  let v144 : BitVec 32 := Scalar.muli v8 c1_i32_104
  let v145 : BitVec 32 := Scalar.addi v143 v144
  v145.toNat
def k0_mult3 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_108 : BitVec 32 := 384#32
  let v152 : BitVec 32 := Scalar.muli v12 c384_i32_108
  v152
def k0_dev11 (d0 : Dev nD) : Nat :=
  let c0_i32_114 : BitVec 32 := 0#32
  let c1_i32_95 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v135 : BitVec 32 := Scalar.subi c1_i32_95 v2
  let c4_i32_113 : BitVec 32 := 4#32
  let v154 : BitVec 32 := Scalar.muli v135 c4_i32_113
  let v155 : BitVec 32 := Scalar.addi c0_i32_114 v154
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_115 : BitVec 32 := 2#32
  let v156 : BitVec 32 := Scalar.muli v5 c2_i32_115
  let v157 : BitVec 32 := Scalar.addi v155 v156
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_116 : BitVec 32 := 1#32
  let v158 : BitVec 32 := Scalar.muli v8 c1_i32_116
  let v159 : BitVec 32 := Scalar.addi v157 v158
  v159.toNat
def k0_dev12 (d0 : Dev nD) : Nat :=
  let c0_i32_126 : BitVec 32 := 0#32
  let c1_i32_118 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v165 : BitVec 32 := Scalar.subi c1_i32_118 v2
  let c4_i32_125 : BitVec 32 := 4#32
  let v171 : BitVec 32 := Scalar.muli v165 c4_i32_125
  let v172 : BitVec 32 := Scalar.addi c0_i32_126 v171
  let c1_i32_119 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v166 : BitVec 32 := Scalar.subi c1_i32_119 v5
  let c2_i32_127 : BitVec 32 := 2#32
  let v173 : BitVec 32 := Scalar.muli v166 c2_i32_127
  let v174 : BitVec 32 := Scalar.addi v172 v173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_128 : BitVec 32 := 1#32
  let v175 : BitVec 32 := Scalar.muli v8 c1_i32_128
  let v176 : BitVec 32 := Scalar.addi v174 v175
  v176.toNat
def k0_mult4 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_132 : BitVec 32 := 384#32
  let v183 : BitVec 32 := Scalar.muli v12 c384_i32_132
  v183
def k0_dev13 (d0 : Dev nD) : Nat :=
  let c0_i32_138 : BitVec 32 := 0#32
  let c1_i32_118 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v165 : BitVec 32 := Scalar.subi c1_i32_118 v2
  let c4_i32_137 : BitVec 32 := 4#32
  let v185 : BitVec 32 := Scalar.muli v165 c4_i32_137
  let v186 : BitVec 32 := Scalar.addi c0_i32_138 v185
  let c1_i32_119 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v166 : BitVec 32 := Scalar.subi c1_i32_119 v5
  let c2_i32_139 : BitVec 32 := 2#32
  let v187 : BitVec 32 := Scalar.muli v166 c2_i32_139
  let v188 : BitVec 32 := Scalar.addi v186 v187
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_140 : BitVec 32 := 1#32
  let v189 : BitVec 32 := Scalar.muli v8 c1_i32_140
  let v190 : BitVec 32 := Scalar.addi v188 v189
  v190.toNat
def k0_dev14 (d0 : Dev nD) : Nat :=
  let c0_i32_151 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_150 : BitVec 32 := 4#32
  let v202 : BitVec 32 := Scalar.muli v2 c4_i32_150
  let v203 : BitVec 32 := Scalar.addi c0_i32_151 v202
  let c1_i32_142 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v196 : BitVec 32 := Scalar.subi c1_i32_142 v5
  let c2_i32_152 : BitVec 32 := 2#32
  let v204 : BitVec 32 := Scalar.muli v196 c2_i32_152
  let v205 : BitVec 32 := Scalar.addi v203 v204
  let c1_i32_143 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v197 : BitVec 32 := Scalar.subi c1_i32_143 v8
  let c1_i32_153 : BitVec 32 := 1#32
  let v206 : BitVec 32 := Scalar.muli v197 c1_i32_153
  let v207 : BitVec 32 := Scalar.addi v205 v206
  v207.toNat
def k0_mult5 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_157 : BitVec 32 := 384#32
  let v214 : BitVec 32 := Scalar.muli v12 c384_i32_157
  v214
def k0_dev15 (d0 : Dev nD) : Nat :=
  let c0_i32_163 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_162 : BitVec 32 := 4#32
  let v216 : BitVec 32 := Scalar.muli v2 c4_i32_162
  let v217 : BitVec 32 := Scalar.addi c0_i32_163 v216
  let c1_i32_142 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v196 : BitVec 32 := Scalar.subi c1_i32_142 v5
  let c2_i32_164 : BitVec 32 := 2#32
  let v218 : BitVec 32 := Scalar.muli v196 c2_i32_164
  let v219 : BitVec 32 := Scalar.addi v217 v218
  let c1_i32_143 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v197 : BitVec 32 := Scalar.subi c1_i32_143 v8
  let c1_i32_165 : BitVec 32 := 1#32
  let v220 : BitVec 32 := Scalar.muli v197 c1_i32_165
  let v221 : BitVec 32 := Scalar.addi v219 v220
  v221.toNat
def k0_dev16 (d0 : Dev nD) : Nat :=
  let c0_i32_176 : BitVec 32 := 0#32
  let c1_i32_167 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v227 : BitVec 32 := Scalar.subi c1_i32_167 v2
  let c4_i32_175 : BitVec 32 := 4#32
  let v233 : BitVec 32 := Scalar.muli v227 c4_i32_175
  let v234 : BitVec 32 := Scalar.addi c0_i32_176 v233
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_177 : BitVec 32 := 2#32
  let v235 : BitVec 32 := Scalar.muli v5 c2_i32_177
  let v236 : BitVec 32 := Scalar.addi v234 v235
  let c1_i32_168 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.subi c1_i32_168 v8
  let c1_i32_178 : BitVec 32 := 1#32
  let v237 : BitVec 32 := Scalar.muli v228 c1_i32_178
  let v238 : BitVec 32 := Scalar.addi v236 v237
  v238.toNat
def k0_mult6 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_182 : BitVec 32 := 384#32
  let v245 : BitVec 32 := Scalar.muli v12 c384_i32_182
  v245
def k0_dev17 (d0 : Dev nD) : Nat :=
  let c0_i32_188 : BitVec 32 := 0#32
  let c1_i32_167 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v227 : BitVec 32 := Scalar.subi c1_i32_167 v2
  let c4_i32_187 : BitVec 32 := 4#32
  let v247 : BitVec 32 := Scalar.muli v227 c4_i32_187
  let v248 : BitVec 32 := Scalar.addi c0_i32_188 v247
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_189 : BitVec 32 := 2#32
  let v249 : BitVec 32 := Scalar.muli v5 c2_i32_189
  let v250 : BitVec 32 := Scalar.addi v248 v249
  let c1_i32_168 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v228 : BitVec 32 := Scalar.subi c1_i32_168 v8
  let c1_i32_190 : BitVec 32 := 1#32
  let v251 : BitVec 32 := Scalar.muli v228 c1_i32_190
  let v252 : BitVec 32 := Scalar.addi v250 v251
  v252.toNat
def k0_dev18 (d0 : Dev nD) : Nat :=
  let c0_i32_201 : BitVec 32 := 0#32
  let c1_i32_192 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v258 : BitVec 32 := Scalar.subi c1_i32_192 v2
  let c4_i32_200 : BitVec 32 := 4#32
  let v265 : BitVec 32 := Scalar.muli v258 c4_i32_200
  let v266 : BitVec 32 := Scalar.addi c0_i32_201 v265
  let c1_i32_193 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v259 : BitVec 32 := Scalar.subi c1_i32_193 v5
  let c2_i32_202 : BitVec 32 := 2#32
  let v267 : BitVec 32 := Scalar.muli v259 c2_i32_202
  let v268 : BitVec 32 := Scalar.addi v266 v267
  let c1_i32_194 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v260 : BitVec 32 := Scalar.subi c1_i32_194 v8
  let c1_i32_203 : BitVec 32 := 1#32
  let v269 : BitVec 32 := Scalar.muli v260 c1_i32_203
  let v270 : BitVec 32 := Scalar.addi v268 v269
  v270.toNat
def k0_mult7 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_207 : BitVec 32 := 384#32
  let v277 : BitVec 32 := Scalar.muli v12 c384_i32_207
  v277
def k0_dev19 (d0 : Dev nD) : Nat :=
  let c0_i32_213 : BitVec 32 := 0#32
  let c1_i32_192 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v258 : BitVec 32 := Scalar.subi c1_i32_192 v2
  let c4_i32_212 : BitVec 32 := 4#32
  let v279 : BitVec 32 := Scalar.muli v258 c4_i32_212
  let v280 : BitVec 32 := Scalar.addi c0_i32_213 v279
  let c1_i32_193 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v259 : BitVec 32 := Scalar.subi c1_i32_193 v5
  let c2_i32_214 : BitVec 32 := 2#32
  let v281 : BitVec 32 := Scalar.muli v259 c2_i32_214
  let v282 : BitVec 32 := Scalar.addi v280 v281
  let c1_i32_194 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v260 : BitVec 32 := Scalar.subi c1_i32_194 v8
  let c1_i32_215 : BitVec 32 := 1#32
  let v283 : BitVec 32 := Scalar.muli v260 c1_i32_215
  let v284 : BitVec 32 := Scalar.addi v282 v283
  v284.toNat
def k0_dev20 (d0 : Dev nD) : Nat :=
  let c0_i32_225 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_224 : BitVec 32 := 4#32
  let v295 : BitVec 32 := Scalar.muli v2 c4_i32_224
  let v296 : BitVec 32 := Scalar.addi c0_i32_225 v295
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_226 : BitVec 32 := 2#32
  let v297 : BitVec 32 := Scalar.muli v5 c2_i32_226
  let v298 : BitVec 32 := Scalar.addi v296 v297
  let c1_i32_217 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v290 : BitVec 32 := Scalar.subi c1_i32_217 v8
  let c1_i32_227 : BitVec 32 := 1#32
  let v299 : BitVec 32 := Scalar.muli v290 c1_i32_227
  let v300 : BitVec 32 := Scalar.addi v298 v299
  v300.toNat
def k0_mult8 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_231 : BitVec 32 := 384#32
  let v307 : BitVec 32 := Scalar.muli v12 c384_i32_231
  v307
def k0_dev21 (d0 : Dev nD) : Nat :=
  let c0_i32_237 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_236 : BitVec 32 := 4#32
  let v309 : BitVec 32 := Scalar.muli v2 c4_i32_236
  let v310 : BitVec 32 := Scalar.addi c0_i32_237 v309
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_238 : BitVec 32 := 2#32
  let v311 : BitVec 32 := Scalar.muli v5 c2_i32_238
  let v312 : BitVec 32 := Scalar.addi v310 v311
  let c1_i32_217 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v290 : BitVec 32 := Scalar.subi c1_i32_217 v8
  let c1_i32_239 : BitVec 32 := 1#32
  let v313 : BitVec 32 := Scalar.muli v290 c1_i32_239
  let v314 : BitVec 32 := Scalar.addi v312 v313
  v314.toNat
def k0_off3 (d0 : Dev nD) : Fin 4 → Nat :=
  let c4_i32_242 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v321 : BitVec 32 := Scalar.muli c4_i32_242 v2
  let c2_i32_243 : BitVec 32 := 2#32
  let c1_i32_241 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v320 : BitVec 32 := Scalar.subi c1_i32_241 v5
  let v322 : BitVec 32 := Scalar.muli c2_i32_243 v320
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v324 : BitVec 32 := Scalar.addi v323 v8
  let c0_i32_252 : BitVec 32 := 0#32
  let c0_i32_253 : BitVec 32 := 0#32
  let c0_i32_254 : BitVec 32 := 0#32
  ![v324.toNat, 0, 0, 0]
def k0_mult9 (d0 : Dev nD) : BitVec 32 :=
  let c4_i32_242 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v321 : BitVec 32 := Scalar.muli c4_i32_242 v2
  let c2_i32_243 : BitVec 32 := 2#32
  let c1_i32_241 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v320 : BitVec 32 := Scalar.subi c1_i32_241 v5
  let v322 : BitVec 32 := Scalar.muli c2_i32_243 v320
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v324 : BitVec 32 := Scalar.addi v323 v8
  let c384_i32_255 : BitVec 32 := 384#32
  let v335 : BitVec 32 := Scalar.muli v324 c384_i32_255
  v335
def k0_off4 (d0 : Dev nD) : Fin 2 → Nat :=
  let c0_i32_264 : BitVec 32 := 0#32
  let c4_i32_242 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v321 : BitVec 32 := Scalar.muli c4_i32_242 v2
  let c2_i32_243 : BitVec 32 := 2#32
  let c1_i32_241 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v320 : BitVec 32 := Scalar.subi c1_i32_241 v5
  let v322 : BitVec 32 := Scalar.muli c2_i32_243 v320
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v324 : BitVec 32 := Scalar.addi v323 v8
  let c384_i32_255 : BitVec 32 := 384#32
  let v335 : BitVec 32 := Scalar.muli v324 c384_i32_255
  let v336 : BitVec 32 := v335
  ![0, v336.toNat]
def k0_off5 (d0 : Dev nD) : Fin 4 → Nat :=
  let c4_i32_266 : BitVec 32 := 4#32
  let c1_i32_265 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v346 : BitVec 32 := Scalar.subi c1_i32_265 v2
  let v347 : BitVec 32 := Scalar.muli c4_i32_266 v346
  let c2_i32_267 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v348 : BitVec 32 := Scalar.muli c2_i32_267 v5
  let v349 : BitVec 32 := Scalar.addi v347 v348
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v350 : BitVec 32 := Scalar.addi v349 v8
  let c0_i32_276 : BitVec 32 := 0#32
  let c0_i32_277 : BitVec 32 := 0#32
  let c0_i32_278 : BitVec 32 := 0#32
  ![v350.toNat, 0, 0, 0]
def k0_mult10 (d0 : Dev nD) : BitVec 32 :=
  let c4_i32_266 : BitVec 32 := 4#32
  let c1_i32_265 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v346 : BitVec 32 := Scalar.subi c1_i32_265 v2
  let v347 : BitVec 32 := Scalar.muli c4_i32_266 v346
  let c2_i32_267 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v348 : BitVec 32 := Scalar.muli c2_i32_267 v5
  let v349 : BitVec 32 := Scalar.addi v347 v348
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v350 : BitVec 32 := Scalar.addi v349 v8
  let c384_i32_279 : BitVec 32 := 384#32
  let v361 : BitVec 32 := Scalar.muli v350 c384_i32_279
  v361
def k0_off6 (d0 : Dev nD) : Fin 2 → Nat :=
  let c0_i32_288 : BitVec 32 := 0#32
  let c4_i32_266 : BitVec 32 := 4#32
  let c1_i32_265 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v346 : BitVec 32 := Scalar.subi c1_i32_265 v2
  let v347 : BitVec 32 := Scalar.muli c4_i32_266 v346
  let c2_i32_267 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v348 : BitVec 32 := Scalar.muli c2_i32_267 v5
  let v349 : BitVec 32 := Scalar.addi v347 v348
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v350 : BitVec 32 := Scalar.addi v349 v8
  let c384_i32_279 : BitVec 32 := 384#32
  let v361 : BitVec 32 := Scalar.muli v350 c384_i32_279
  let v362 : BitVec 32 := v361
  ![0, v362.toNat]
def k0_off7 (d0 : Dev nD) : Fin 4 → Nat :=
  let c4_i32_291 : BitVec 32 := 4#32
  let c1_i32_289 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v372 : BitVec 32 := Scalar.subi c1_i32_289 v2
  let v374 : BitVec 32 := Scalar.muli c4_i32_291 v372
  let c2_i32_292 : BitVec 32 := 2#32
  let c1_i32_290 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v373 : BitVec 32 := Scalar.subi c1_i32_290 v5
  let v375 : BitVec 32 := Scalar.muli c2_i32_292 v373
  let v376 : BitVec 32 := Scalar.addi v374 v375
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v377 : BitVec 32 := Scalar.addi v376 v8
  let c0_i32_301 : BitVec 32 := 0#32
  let c0_i32_302 : BitVec 32 := 0#32
  let c0_i32_303 : BitVec 32 := 0#32
  ![v377.toNat, 0, 0, 0]
def k0_mult11 (d0 : Dev nD) : BitVec 32 :=
  let c4_i32_291 : BitVec 32 := 4#32
  let c1_i32_289 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v372 : BitVec 32 := Scalar.subi c1_i32_289 v2
  let v374 : BitVec 32 := Scalar.muli c4_i32_291 v372
  let c2_i32_292 : BitVec 32 := 2#32
  let c1_i32_290 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v373 : BitVec 32 := Scalar.subi c1_i32_290 v5
  let v375 : BitVec 32 := Scalar.muli c2_i32_292 v373
  let v376 : BitVec 32 := Scalar.addi v374 v375
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v377 : BitVec 32 := Scalar.addi v376 v8
  let c384_i32_304 : BitVec 32 := 384#32
  let v388 : BitVec 32 := Scalar.muli v377 c384_i32_304
  v388
def k0_off8 (d0 : Dev nD) : Fin 2 → Nat :=
  let c0_i32_313 : BitVec 32 := 0#32
  let c4_i32_291 : BitVec 32 := 4#32
  let c1_i32_289 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v372 : BitVec 32 := Scalar.subi c1_i32_289 v2
  let v374 : BitVec 32 := Scalar.muli c4_i32_291 v372
  let c2_i32_292 : BitVec 32 := 2#32
  let c1_i32_290 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v373 : BitVec 32 := Scalar.subi c1_i32_290 v5
  let v375 : BitVec 32 := Scalar.muli c2_i32_292 v373
  let v376 : BitVec 32 := Scalar.addi v374 v375
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v377 : BitVec 32 := Scalar.addi v376 v8
  let c384_i32_304 : BitVec 32 := 384#32
  let v388 : BitVec 32 := Scalar.muli v377 c384_i32_304
  let v389 : BitVec 32 := v388
  ![0, v389.toNat]
def k0_off9 (d0 : Dev nD) : Fin 4 → Nat :=
  let c4_i32_316 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v401 : BitVec 32 := Scalar.muli c4_i32_316 v2
  let c2_i32_317 : BitVec 32 := 2#32
  let c1_i32_314 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v399 : BitVec 32 := Scalar.subi c1_i32_314 v5
  let v402 : BitVec 32 := Scalar.muli c2_i32_317 v399
  let v403 : BitVec 32 := Scalar.addi v401 v402
  let c1_i32_315 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v400 : BitVec 32 := Scalar.subi c1_i32_315 v8
  let v404 : BitVec 32 := Scalar.addi v403 v400
  let c0_i32_326 : BitVec 32 := 0#32
  let c0_i32_327 : BitVec 32 := 0#32
  let c0_i32_328 : BitVec 32 := 0#32
  ![v404.toNat, 0, 0, 0]
def k0_mult12 (d0 : Dev nD) : BitVec 32 :=
  let c4_i32_316 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v401 : BitVec 32 := Scalar.muli c4_i32_316 v2
  let c2_i32_317 : BitVec 32 := 2#32
  let c1_i32_314 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v399 : BitVec 32 := Scalar.subi c1_i32_314 v5
  let v402 : BitVec 32 := Scalar.muli c2_i32_317 v399
  let v403 : BitVec 32 := Scalar.addi v401 v402
  let c1_i32_315 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v400 : BitVec 32 := Scalar.subi c1_i32_315 v8
  let v404 : BitVec 32 := Scalar.addi v403 v400
  let c384_i32_329 : BitVec 32 := 384#32
  let v415 : BitVec 32 := Scalar.muli v404 c384_i32_329
  v415
def k0_off10 (d0 : Dev nD) : Fin 2 → Nat :=
  let c0_i32_338 : BitVec 32 := 0#32
  let c4_i32_316 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v401 : BitVec 32 := Scalar.muli c4_i32_316 v2
  let c2_i32_317 : BitVec 32 := 2#32
  let c1_i32_314 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v399 : BitVec 32 := Scalar.subi c1_i32_314 v5
  let v402 : BitVec 32 := Scalar.muli c2_i32_317 v399
  let v403 : BitVec 32 := Scalar.addi v401 v402
  let c1_i32_315 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v400 : BitVec 32 := Scalar.subi c1_i32_315 v8
  let v404 : BitVec 32 := Scalar.addi v403 v400
  let c384_i32_329 : BitVec 32 := 384#32
  let v415 : BitVec 32 := Scalar.muli v404 c384_i32_329
  let v416 : BitVec 32 := v415
  ![0, v416.toNat]
def k0_off11 (d0 : Dev nD) : Fin 4 → Nat :=
  let c4_i32_341 : BitVec 32 := 4#32
  let c1_i32_339 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v426 : BitVec 32 := Scalar.subi c1_i32_339 v2
  let v428 : BitVec 32 := Scalar.muli c4_i32_341 v426
  let c2_i32_342 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v429 : BitVec 32 := Scalar.muli c2_i32_342 v5
  let v430 : BitVec 32 := Scalar.addi v428 v429
  let c1_i32_340 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v427 : BitVec 32 := Scalar.subi c1_i32_340 v8
  let v431 : BitVec 32 := Scalar.addi v430 v427
  let c0_i32_351 : BitVec 32 := 0#32
  let c0_i32_352 : BitVec 32 := 0#32
  let c0_i32_353 : BitVec 32 := 0#32
  ![v431.toNat, 0, 0, 0]
def k0_mult13 (d0 : Dev nD) : BitVec 32 :=
  let c4_i32_341 : BitVec 32 := 4#32
  let c1_i32_339 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v426 : BitVec 32 := Scalar.subi c1_i32_339 v2
  let v428 : BitVec 32 := Scalar.muli c4_i32_341 v426
  let c2_i32_342 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v429 : BitVec 32 := Scalar.muli c2_i32_342 v5
  let v430 : BitVec 32 := Scalar.addi v428 v429
  let c1_i32_340 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v427 : BitVec 32 := Scalar.subi c1_i32_340 v8
  let v431 : BitVec 32 := Scalar.addi v430 v427
  let c384_i32_354 : BitVec 32 := 384#32
  let v442 : BitVec 32 := Scalar.muli v431 c384_i32_354
  v442
def k0_off12 (d0 : Dev nD) : Fin 2 → Nat :=
  let c0_i32_363 : BitVec 32 := 0#32
  let c4_i32_341 : BitVec 32 := 4#32
  let c1_i32_339 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v426 : BitVec 32 := Scalar.subi c1_i32_339 v2
  let v428 : BitVec 32 := Scalar.muli c4_i32_341 v426
  let c2_i32_342 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v429 : BitVec 32 := Scalar.muli c2_i32_342 v5
  let v430 : BitVec 32 := Scalar.addi v428 v429
  let c1_i32_340 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v427 : BitVec 32 := Scalar.subi c1_i32_340 v8
  let v431 : BitVec 32 := Scalar.addi v430 v427
  let c384_i32_354 : BitVec 32 := 384#32
  let v442 : BitVec 32 := Scalar.muli v431 c384_i32_354
  let v443 : BitVec 32 := v442
  ![0, v443.toNat]
def k0_off13 (d0 : Dev nD) : Fin 4 → Nat :=
  let c4_i32_367 : BitVec 32 := 4#32
  let c1_i32_364 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v453 : BitVec 32 := Scalar.subi c1_i32_364 v2
  let v456 : BitVec 32 := Scalar.muli c4_i32_367 v453
  let c2_i32_368 : BitVec 32 := 2#32
  let c1_i32_365 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v454 : BitVec 32 := Scalar.subi c1_i32_365 v5
  let v457 : BitVec 32 := Scalar.muli c2_i32_368 v454
  let v458 : BitVec 32 := Scalar.addi v456 v457
  let c1_i32_366 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v455 : BitVec 32 := Scalar.subi c1_i32_366 v8
  let v459 : BitVec 32 := Scalar.addi v458 v455
  let c0_i32_377 : BitVec 32 := 0#32
  let c0_i32_378 : BitVec 32 := 0#32
  let c0_i32_379 : BitVec 32 := 0#32
  ![v459.toNat, 0, 0, 0]
def k0_mult14 (d0 : Dev nD) : BitVec 32 :=
  let c4_i32_367 : BitVec 32 := 4#32
  let c1_i32_364 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v453 : BitVec 32 := Scalar.subi c1_i32_364 v2
  let v456 : BitVec 32 := Scalar.muli c4_i32_367 v453
  let c2_i32_368 : BitVec 32 := 2#32
  let c1_i32_365 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v454 : BitVec 32 := Scalar.subi c1_i32_365 v5
  let v457 : BitVec 32 := Scalar.muli c2_i32_368 v454
  let v458 : BitVec 32 := Scalar.addi v456 v457
  let c1_i32_366 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v455 : BitVec 32 := Scalar.subi c1_i32_366 v8
  let v459 : BitVec 32 := Scalar.addi v458 v455
  let c384_i32_380 : BitVec 32 := 384#32
  let v470 : BitVec 32 := Scalar.muli v459 c384_i32_380
  v470
def k0_off14 (d0 : Dev nD) : Fin 2 → Nat :=
  let c0_i32_389 : BitVec 32 := 0#32
  let c4_i32_367 : BitVec 32 := 4#32
  let c1_i32_364 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v453 : BitVec 32 := Scalar.subi c1_i32_364 v2
  let v456 : BitVec 32 := Scalar.muli c4_i32_367 v453
  let c2_i32_368 : BitVec 32 := 2#32
  let c1_i32_365 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v454 : BitVec 32 := Scalar.subi c1_i32_365 v5
  let v457 : BitVec 32 := Scalar.muli c2_i32_368 v454
  let v458 : BitVec 32 := Scalar.addi v456 v457
  let c1_i32_366 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v455 : BitVec 32 := Scalar.subi c1_i32_366 v8
  let v459 : BitVec 32 := Scalar.addi v458 v455
  let c384_i32_380 : BitVec 32 := 384#32
  let v470 : BitVec 32 := Scalar.muli v459 c384_i32_380
  let v471 : BitVec 32 := v470
  ![0, v471.toNat]
def k0_off15 (d0 : Dev nD) : Fin 4 → Nat :=
  let c4_i32_391 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v482 : BitVec 32 := Scalar.muli c4_i32_391 v2
  let c2_i32_392 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v483 : BitVec 32 := Scalar.muli c2_i32_392 v5
  let v484 : BitVec 32 := Scalar.addi v482 v483
  let c1_i32_390 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v481 : BitVec 32 := Scalar.subi c1_i32_390 v8
  let v485 : BitVec 32 := Scalar.addi v484 v481
  let c0_i32_401 : BitVec 32 := 0#32
  let c0_i32_402 : BitVec 32 := 0#32
  let c0_i32_403 : BitVec 32 := 0#32
  ![v485.toNat, 0, 0, 0]
def k0_mult15 (d0 : Dev nD) : BitVec 32 :=
  let c4_i32_391 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v482 : BitVec 32 := Scalar.muli c4_i32_391 v2
  let c2_i32_392 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v483 : BitVec 32 := Scalar.muli c2_i32_392 v5
  let v484 : BitVec 32 := Scalar.addi v482 v483
  let c1_i32_390 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v481 : BitVec 32 := Scalar.subi c1_i32_390 v8
  let v485 : BitVec 32 := Scalar.addi v484 v481
  let c384_i32_404 : BitVec 32 := 384#32
  let v496 : BitVec 32 := Scalar.muli v485 c384_i32_404
  v496
def k0_off16 (d0 : Dev nD) : Fin 2 → Nat :=
  let c0_i32_413 : BitVec 32 := 0#32
  let c4_i32_391 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v482 : BitVec 32 := Scalar.muli c4_i32_391 v2
  let c2_i32_392 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v483 : BitVec 32 := Scalar.muli c2_i32_392 v5
  let v484 : BitVec 32 := Scalar.addi v482 v483
  let c1_i32_390 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v481 : BitVec 32 := Scalar.subi c1_i32_390 v8
  let v485 : BitVec 32 := Scalar.addi v484 v481
  let c384_i32_404 : BitVec 32 := 384#32
  let v496 : BitVec 32 := Scalar.muli v485 c384_i32_404
  let v497 : BitVec 32 := v496
  ![0, v497.toNat]
def k0_mult16 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_425 : BitVec 32 := 384#32
  let v516 : BitVec 32 := Scalar.muli v12 c384_i32_425
  v516
def k0_mult17 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_443 : BitVec 32 := 384#32
  let v530 : BitVec 32 := Scalar.muli v12 c384_i32_443
  v530
def k0_mult18 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_462 : BitVec 32 := 384#32
  let v545 : BitVec 32 := Scalar.muli v12 c384_i32_462
  v545
def k0_mult19 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_481 : BitVec 32 := 384#32
  let v560 : BitVec 32 := Scalar.muli v12 c384_i32_481
  v560
def k0_mult20 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_500 : BitVec 32 := 384#32
  let v575 : BitVec 32 := Scalar.muli v12 c384_i32_500
  v575
def k0_mult21 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_520 : BitVec 32 := 384#32
  let v591 : BitVec 32 := Scalar.muli v12 c384_i32_520
  v591
def k0_mult22 (d0 : Dev nD) : BitVec 32 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c384_i32_538 : BitVec 32 := 384#32
  let v605 : BitVec 32 := Scalar.muli v12 c384_i32_538
  v605
abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== GatherARef.lean ====
abbrev S2x3x5632 : Shape := ⟨3, ![2, 3, 5632]⟩
abbrev S2x3x512 : Shape := ⟨3, ![2, 3, 512]⟩
abbrev S2x1024x3072 : Shape := ⟨3, ![2, 1024, 3072]⟩
abbrev S2x3x8x704 : Shape := ⟨4, ![2, 3, 8, 704]⟩
abbrev S8x2x3x704 : Shape := ⟨4, ![8, 2, 3, 704]⟩
abbrev S2x3x8x64 : Shape := ⟨4, ![2, 3, 8, 64]⟩
abbrev S8x2x3x64 : Shape := ⟨4, ![8, 2, 3, 64]⟩
abbrev S8x2x3x768 : Shape := ⟨4, ![8, 2, 3, 768]⟩
abbrev S1x1024x3072 : Shape := ⟨3, ![1, 1024, 3072]⟩
abbrev S1024x3072 : Shape := ⟨2, ![1024, 3072]⟩

abbrev nBuf : Space → Nat
  | .hbm => 11
  | .vmem => 0
  | .smem => 0
  | _ => 0

abbrev bufTy : (tb : Table) → Fin (tcTables nBuf tb) → BufTy
  | .hbm, ⟨0, _⟩ => ⟨S2x3x5632, .f32⟩
  | .hbm, ⟨1, _⟩ => ⟨S2x3x512, .f32⟩
  | .hbm, ⟨2, _⟩ => ⟨S2x1024x3072, .f32⟩
  | .hbm, ⟨3, _⟩ => ⟨S2x3x8x704, .f32⟩
  | .hbm, ⟨4, _⟩ => ⟨S8x2x3x704, .f32⟩
  | .hbm, ⟨5, _⟩ => ⟨S2x3x8x64, .f32⟩
  | .hbm, ⟨6, _⟩ => ⟨S8x2x3x64, .f32⟩
  | .hbm, ⟨7, _⟩ => ⟨S8x2x3x768, .f32⟩
  | .hbm, ⟨8, _⟩ => ⟨S1x1024x3072, .f32⟩
  | .hbm, ⟨9, _⟩ => ⟨S1024x3072, .f32⟩
  | .hbm, ⟨10, _⟩ => ⟨S1024x3072, .bf16⟩
  | _, _ => ⟨S2x3x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AdamIn.lean ====
abbrev S8x1024x384 : Shape := ⟨3, ![8, 1024, 384]⟩
abbrev S2x1024x384 : Shape := ⟨3, ![2, 1024, 384]⟩
abbrev S8x256x384 : Shape := ⟨3, ![8, 256, 384]⟩
abbrev S1x256x384 : Shape := ⟨3, ![1, 256, 384]⟩
abbrev S256x384 : Shape := ⟨2, ![256, 384]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x384, .bf16⟩
  | .hbm, ⟨1, _⟩ => ⟨S8x1024x384, .bf16⟩
  | .hbm, ⟨2, _⟩ => ⟨S2x1024x384, .f32⟩
  | .hbm, ⟨3, _⟩ => ⟨S2x1024x384, .f32⟩
  | .hbm, ⟨4, _⟩ => ⟨S2x1024x384, .f32⟩
  | .hbm, ⟨5, _⟩ => ⟨S2x1024x384, .f32⟩
  | .hbm, ⟨6, _⟩ => ⟨S2x1024x384, .f32⟩
  | .hbm, ⟨7, _⟩ => ⟨S2x1024x384, .f32⟩
  | .hbm, ⟨8, _⟩ => ⟨S2x1024x384, .f32⟩
  | .local _ .vmem, ⟨0, _⟩ => ⟨S8x256x384, .bf16⟩
  | .local _ .vmem, ⟨1, _⟩ => ⟨S8x256x384, .bf16⟩
  | .local _ .vmem, ⟨2, _⟩ => ⟨S8x256x384, .bf16⟩
  | .local _ .vmem, ⟨3, _⟩ => ⟨S8x256x384, .bf16⟩
  | .local _ .vmem, ⟨4, _⟩ => ⟨S1x256x384, .f32⟩
  | .local _ .vmem, ⟨5, _⟩ => ⟨S1x256x384, .f32⟩
  | .local _ .vmem, ⟨6, _⟩ => ⟨S1x256x384, .f32⟩
  | .local _ .vmem, ⟨7, _⟩ => ⟨S1x256x384, .f32⟩
  | .local _ .vmem, ⟨8, _⟩ => ⟨S1x256x384, .f32⟩
  | .local _ .vmem, ⟨9, _⟩ => ⟨S1x256x384, .f32⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | .local _ .vmem, ⟨14, _⟩ => ⟨S1x256x384, .f32⟩
  | .local _ .vmem, ⟨15, _⟩ => ⟨S1x256x384, .f32⟩
  | .local _ .vmem, ⟨16, _⟩ => ⟨S1x256x384, .f32⟩
  | .local _ .vmem, ⟨17, _⟩ => ⟨S1x256x384, .f32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInRefIdeal.lean ====
abbrev S8x1024x384 : Shape := ⟨3, ![8, 1024, 384]⟩
abbrev S2x1024x384 : Shape := ⟨3, ![2, 1024, 384]⟩
abbrev S_ : Shape := ⟨0, ![]⟩
abbrev S1024x384 : Shape := ⟨2, ![1024, 384]⟩
abbrev S1x1024x384 : Shape := ⟨3, ![1, 1024, 384]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x384, .bf16⟩
  | .hbm, ⟨1, _⟩ => ⟨S8x1024x384, .bf16⟩
  | .hbm, ⟨2, _⟩ => ⟨S2x1024x384, .f32⟩
  | .hbm, ⟨3, _⟩ => ⟨S2x1024x384, .f32⟩
  | .hbm, ⟨4, _⟩ => ⟨S2x1024x384, .f32⟩
  | .hbm, ⟨5, _⟩ => ⟨S8x1024x384, .f32⟩
  | .hbm, ⟨6, _⟩ => ⟨S_, .f32⟩
  | .hbm, ⟨7, _⟩ => ⟨S1024x384, .f32⟩
  | .hbm, ⟨8, _⟩ => ⟨S8x1024x384, .f32⟩
  | .hbm, ⟨9, _⟩ => ⟨S_, .f32⟩
  | .hbm, ⟨10, _⟩ => ⟨S1024x384, .f32⟩
  | .hbm, ⟨11, _⟩ => ⟨S1x1024x384, .f32⟩
  | .hbm, ⟨12, _⟩ => ⟨S1x1024x384, .f32⟩
  | .hbm, ⟨13, _⟩ => ⟨S2x1024x384, .f32⟩
  | .hbm, ⟨14, _⟩ => ⟨S_, .f32⟩
  | .hbm, ⟨15, _⟩ => ⟨S2x1024x384, .f32⟩
  | .hbm, ⟨16, _⟩ => ⟨S2x1024x384, .f32⟩
  | .hbm, ⟨17, _⟩ => ⟨S_, .f32⟩
  | .hbm, ⟨18, _⟩ => ⟨S2x1024x384, .f32⟩
  | .hbm, ⟨19, _⟩ => ⟨S2x1024x384, .f32⟩
  | .hbm, ⟨20, _⟩ => ⟨S2x1024x384, .f32⟩
  | .hbm, ⟨21, _⟩ => ⟨S_, .f32⟩
  | .hbm, ⟨22, _⟩ => ⟨S2x1024x384, .f32⟩
  | .hbm, ⟨23, _⟩ => ⟨S2x1024x384, .f32⟩
  | .hbm, ⟨24, _⟩ => ⟨S2x1024x384, .f32⟩
  | .hbm, ⟨25, _⟩ => ⟨S_, .f32⟩
  | .hbm, ⟨26, _⟩ => ⟨S2x1024x384, .f32⟩
  | .hbm, ⟨27, _⟩ => ⟨S2x1024x384, .f32⟩
  | .hbm, ⟨28, _⟩ => ⟨S2x1024x384, .f32⟩
  | .hbm, ⟨29, _⟩ => ⟨S_, .f32⟩
  | .hbm, ⟨30, _⟩ => ⟨S2x1024x384, .f32⟩
  | .hbm, ⟨31, _⟩ => ⟨S2x1024x384, .f32⟩
  | .hbm, ⟨32, _⟩ => ⟨S_, .f32⟩
  | .hbm, ⟨33, _⟩ => ⟨S2x1024x384, .f32⟩
  | .hbm, ⟨34, _⟩ => ⟨S2x1024x384, .f32⟩
  | .hbm, ⟨35, _⟩ => ⟨S2x1024x384, .f32⟩
  | .hbm, ⟨36, _⟩ => ⟨S_, .f32⟩
  | .hbm, ⟨37, _⟩ => ⟨S2x1024x384, .f32⟩
  | .hbm, ⟨38, _⟩ => ⟨S2x1024x384, .f32⟩
  | .hbm, ⟨39, _⟩ => ⟨S2x1024x384, .f32⟩
  | .hbm, ⟨40, _⟩ => ⟨S_, .f32⟩
  | .hbm, ⟨41, _⟩ => ⟨S2x1024x384, .f32⟩
  | .hbm, ⟨42, _⟩ => ⟨S2x1024x384, .f32⟩
  | .hbm, ⟨43, _⟩ => ⟨S2x1024x384, .f32⟩
  | .hbm, ⟨44, _⟩ => ⟨S_, .f32⟩
  | .hbm, ⟨45, _⟩ => ⟨S2x1024x384, .f32⟩
  | .hbm, ⟨46, _⟩ => ⟨S2x1024x384, .f32⟩
  | _, _ => ⟨S8x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamOut.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutRefIdeal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamUp.lean ====
abbrev S8x704x1024 : Shape := ⟨3, ![8, 704, 1024]⟩
abbrev S2x704x1024 : Shape := ⟨3, ![2, 704, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpRefIdeal.lean ====
abbrev S8x704x1024 : Shape := ⟨3, ![8, 704, 1024]⟩
abbrev S2x704x1024 : Shape := ⟨3, ![2, 704, 1024]⟩
abbrev S_ : Shape := ⟨0, ![]⟩
abbrev S704x1024 : Shape := ⟨2, ![704, 1024]⟩
abbrev S1x704x1024 : Shape := ⟨3, ![1, 704, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S8x704x1024, .f32⟩
  | .hbm, ⟨6, _⟩ => ⟨S_, .f32⟩
  | .hbm, ⟨7, _⟩ => ⟨S704x1024, .f32⟩
  | .hbm, ⟨8, _⟩ => ⟨S8x704x1024, .f32⟩
  | .hbm, ⟨9, _⟩ => ⟨S_, .f32⟩
  | .hbm, ⟨10, _⟩ => ⟨S704x1024, .f32⟩
  | .hbm, ⟨11, _⟩ => ⟨S1x704x1024, .f32⟩
  | .hbm, ⟨12, _⟩ => ⟨S1x704x1024, .f32⟩
  | .hbm, ⟨13, _⟩ => ⟨S2x704x1024, .f32⟩
  | .hbm, ⟨14, _⟩ => ⟨S_, .f32⟩
  | .hbm, ⟨15, _⟩ => ⟨S2x704x1024, .f32⟩
  | .hbm, ⟨16, _⟩ => ⟨S2x704x1024, .f32⟩
  | .hbm, ⟨17, _⟩ => ⟨S_, .f32⟩
  | .hbm, ⟨18, _⟩ => ⟨S2x704x1024, .f32⟩
  | .hbm, ⟨19, _⟩ => ⟨S2x704x1024, .f32⟩
  | .hbm, ⟨20, _⟩ => ⟨S2x704x1024, .f32⟩
  | .hbm, ⟨21, _⟩ => ⟨S_, .f32⟩
  | .hbm, ⟨22, _⟩ => ⟨S2x704x1024, .f32⟩
  | .hbm, ⟨23, _⟩ => ⟨S2x704x1024, .f32⟩
  | .hbm, ⟨24, _⟩ => ⟨S2x704x1024, .f32⟩
  | .hbm, ⟨25, _⟩ => ⟨S_, .f32⟩
  | .hbm, ⟨26, _⟩ => ⟨S2x704x1024, .f32⟩
  | .hbm, ⟨27, _⟩ => ⟨S2x704x1024, .f32⟩
  | .hbm, ⟨28, _⟩ => ⟨S2x704x1024, .f32⟩
  | .hbm, ⟨29, _⟩ => ⟨S_, .f32⟩
  | .hbm, ⟨30, _⟩ => ⟨S2x704x1024, .f32⟩
  | .hbm, ⟨31, _⟩ => ⟨S2x704x1024, .f32⟩
  | .hbm, ⟨32, _⟩ => ⟨S_, .f32⟩
  | .hbm, ⟨33, _⟩ => ⟨S2x704x1024, .f32⟩
  | .hbm, ⟨34, _⟩ => ⟨S2x704x1024, .f32⟩
  | .hbm, ⟨35, _⟩ => ⟨S2x704x1024, .f32⟩
  | .hbm, ⟨36, _⟩ => ⟨S_, .f32⟩
  | .hbm, ⟨37, _⟩ => ⟨S2x704x1024, .f32⟩
  | .hbm, ⟨38, _⟩ => ⟨S2x704x1024, .f32⟩
  | .hbm, ⟨39, _⟩ => ⟨S2x704x1024, .f32⟩
  | .hbm, ⟨40, _⟩ => ⟨S_, .f32⟩
  | .hbm, ⟨41, _⟩ => ⟨S2x704x1024, .f32⟩
  | .hbm, ⟨42, _⟩ => ⟨S2x704x1024, .f32⟩
  | .hbm, ⟨43, _⟩ => ⟨S2x704x1024, .f32⟩
  | .hbm, ⟨44, _⟩ => ⟨S_, .f32⟩
  | .hbm, ⟨45, _⟩ => ⟨S2x704x1024, .f32⟩
  | .hbm, ⟨46, _⟩ => ⟨S2x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamDown.lean ====
abbrev S8x352x1024 : Shape := ⟨3, ![8, 352, 1024]⟩
abbrev S2x352x1024 : Shape := ⟨3, ![2, 352, 1024]⟩
abbrev S1x352x1024 : Shape := ⟨3, ![1, 352, 1024]⟩
abbrev S352x1024 : Shape := ⟨2, ![352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S8x352x1024, .bf16⟩
  | .local _ .vmem, ⟨3, _⟩ => ⟨S8x352x1024, .bf16⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDownRefIdeal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamConv.lean ====
abbrev S8x3x768 : Shape := ⟨3, ![8, 3, 768]⟩
abbrev S2x3x768 : Shape := ⟨3, ![2, 3, 768]⟩
abbrev S1x3x768 : Shape := ⟨3, ![1, 3, 768]⟩
abbrev S3x768 : Shape := ⟨2, ![3, 768]⟩

abbrev nBuf : Space → Nat
  | .hbm => 9
  | .vmem => 18
  | .smem => 0
  | _ => 0

abbrev bufTy : (tb : Table) → Fin (tcTables nBuf tb) → BufTy
  | .hbm, ⟨0, _⟩ => ⟨S8x3x768, .f32⟩
  | .hbm, ⟨1, _⟩ => ⟨S8x3x768, .f32⟩
  | .hbm, ⟨2, _⟩ => ⟨S2x3x768, .f32⟩
  | .hbm, ⟨3, _⟩ => ⟨S2x3x768, .f32⟩
  | .hbm, ⟨4, _⟩ => ⟨S2x3x768, .f32⟩
  | .hbm, ⟨5, _⟩ => ⟨S2x3x768, .f32⟩
  | .hbm, ⟨6, _⟩ => ⟨S2x3x768, .f32⟩
  | .hbm, ⟨7, _⟩ => ⟨S2x3x768, .f32⟩
  | .hbm, ⟨8, _⟩ => ⟨S2x3x768, .f32⟩
  | .local _ .vmem, ⟨0, _⟩ => ⟨S8x3x768, .f32⟩
  | .local _ .vmem, ⟨1, _⟩ => ⟨S8x3x768, .f32⟩
  | .local _ .vmem, ⟨2, _⟩ => ⟨S8x3x768, .f32⟩
  | .local _ .vmem, ⟨3, _⟩ => ⟨S8x3x768, .f32⟩
  | .local _ .vmem, ⟨4, _⟩ => ⟨S1x3x768, .f32⟩
  | .local _ .vmem, ⟨5, _⟩ => ⟨S1x3x768, .f32⟩
  | .local _ .vmem, ⟨6, _⟩ => ⟨S1x3x768, .f32⟩
  | .local _ .vmem, ⟨7, _⟩ => ⟨S1x3x768, .f32⟩
  | .local _ .vmem, ⟨8, _⟩ => ⟨S1x3x768, .f32⟩
  | .local _ .vmem, ⟨9, _⟩ => ⟨S1x3x768, .f32⟩
  | .local _ .vmem, ⟨10, _⟩ => ⟨S1x3x768, .f32⟩
  | .local _ .vmem, ⟨11, _⟩ => ⟨S1x3x768, .f32⟩
  | .local _ .vmem, ⟨12, _⟩ => ⟨S1x3x768, .f32⟩
  | .local _ .vmem, ⟨13, _⟩ => ⟨S1x3x768, .f32⟩
  | .local _ .vmem, ⟨14, _⟩ => ⟨S1x3x768, .f32⟩
  | .local _ .vmem, ⟨15, _⟩ => ⟨S1x3x768, .f32⟩
  | .local _ .vmem, ⟨16, _⟩ => ⟨S1x3x768, .f32⟩
  | .local _ .vmem, ⟨17, _⟩ => ⟨S1x3x768, .f32⟩
  | _, _ => ⟨S8x3x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x3x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x3x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamConvRefIdeal.lean ====
abbrev S8x3x768 : Shape := ⟨3, ![8, 3, 768]⟩
abbrev S2x3x768 : Shape := ⟨3, ![2, 3, 768]⟩
abbrev S_ : Shape := ⟨0, ![]⟩
abbrev S3x768 : Shape := ⟨2, ![3, 768]⟩
abbrev S1x3x768 : Shape := ⟨3, ![1, 3, 768]⟩

abbrev nBuf : Space → Nat
  | .hbm => 45
  | .vmem => 0
  | .smem => 0
  | _ => 0

abbrev bufTy : (tb : Table) → Fin (tcTables nBuf tb) → BufTy
  | .hbm, ⟨0, _⟩ => ⟨S8x3x768, .f32⟩
  | .hbm, ⟨1, _⟩ => ⟨S8x3x768, .f32⟩
  | .hbm, ⟨2, _⟩ => ⟨S2x3x768, .f32⟩
  | .hbm, ⟨3, _⟩ => ⟨S2x3x768, .f32⟩
  | .hbm, ⟨4, _⟩ => ⟨S2x3x768, .f32⟩
  | .hbm, ⟨5, _⟩ => ⟨S_, .f32⟩
  | .hbm, ⟨6, _⟩ => ⟨S3x768, .f32⟩
  | .hbm, ⟨7, _⟩ => ⟨S_, .f32⟩
  | .hbm, ⟨8, _⟩ => ⟨S3x768, .f32⟩
  | .hbm, ⟨9, _⟩ => ⟨S1x3x768, .f32⟩
  | .hbm, ⟨10, _⟩ => ⟨S1x3x768, .f32⟩
  | .hbm, ⟨11, _⟩ => ⟨S2x3x768, .f32⟩
  | .hbm, ⟨12, _⟩ => ⟨S_, .f32⟩
  | .hbm, ⟨13, _⟩ => ⟨S2x3x768, .f32⟩
  | .hbm, ⟨14, _⟩ => ⟨S2x3x768, .f32⟩
  | .hbm, ⟨15, _⟩ => ⟨S_, .f32⟩
  | .hbm, ⟨16, _⟩ => ⟨S2x3x768, .f32⟩
  | .hbm, ⟨17, _⟩ => ⟨S2x3x768, .f32⟩
  | .hbm, ⟨18, _⟩ => ⟨S2x3x768, .f32⟩
  | .hbm, ⟨19, _⟩ => ⟨S_, .f32⟩
  | .hbm, ⟨20, _⟩ => ⟨S2x3x768, .f32⟩
  | .hbm, ⟨21, _⟩ => ⟨S2x3x768, .f32⟩
  | .hbm, ⟨22, _⟩ => ⟨S2x3x768, .f32⟩
  | .hbm, ⟨23, _⟩ => ⟨S_, .f32⟩
  | .hbm, ⟨24, _⟩ => ⟨S2x3x768, .f32⟩
  | .hbm, ⟨25, _⟩ => ⟨S2x3x768, .f32⟩
  | .hbm, ⟨26, _⟩ => ⟨S2x3x768, .f32⟩
  | .hbm, ⟨27, _⟩ => ⟨S_, .f32⟩
  | .hbm, ⟨28, _⟩ => ⟨S2x3x768, .f32⟩
  | .hbm, ⟨29, _⟩ => ⟨S2x3x768, .f32⟩
  | .hbm, ⟨30, _⟩ => ⟨S_, .f32⟩
  | .hbm, ⟨31, _⟩ => ⟨S2x3x768, .f32⟩
  | .hbm, ⟨32, _⟩ => ⟨S2x3x768, .f32⟩
  | .hbm, ⟨33, _⟩ => ⟨S2x3x768, .f32⟩
  | .hbm, ⟨34, _⟩ => ⟨S_, .f32⟩
  | .hbm, ⟨35, _⟩ => ⟨S2x3x768, .f32⟩
  | .hbm, ⟨36, _⟩ => ⟨S2x3x768, .f32⟩
  | .hbm, ⟨37, _⟩ => ⟨S2x3x768, .f32⟩
  | .hbm, ⟨38, _⟩ => ⟨S_, .f32⟩
  | .hbm, ⟨39, _⟩ => ⟨S2x3x768, .f32⟩
  | .hbm, ⟨40, _⟩ => ⟨S2x3x768, .f32⟩
  | .hbm, ⟨41, _⟩ => ⟨S2x3x768, .f32⟩
  | .hbm, ⟨42, _⟩ => ⟨S_, .f32⟩
  | .hbm, ⟨43, _⟩ => ⟨S2x3x768, .f32⟩
  | .hbm, ⟨44, _⟩ => ⟨S2x3x768, .f32⟩
  | _, _ => ⟨S8x3x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamGains.lean ====
abbrev S8x8x1024 : Shape := ⟨3, ![8, 8, 1024]⟩
abbrev S1x8x1024 : Shape := ⟨3, ![1, 8, 1024]⟩
abbrev S8x1024 : Shape := ⟨2, ![8, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x8x1024, .f32⟩
  | .hbm, ⟨1, _⟩ => ⟨S1x8x1024, .f32⟩
  | .hbm, ⟨2, _⟩ => ⟨S1x8x1024, .f32⟩
  | .hbm, ⟨3, _⟩ => ⟨S1x8x1024, .f32⟩
  | .hbm, ⟨4, _⟩ => ⟨S1x8x1024, .f32⟩
  | .hbm, ⟨5, _⟩ => ⟨S1x8x1024, .f32⟩
  | .hbm, ⟨6, _⟩ => ⟨S1x8x1024, .f32⟩
  | .hbm, ⟨7, _⟩ => ⟨S1x8x1024, .f32⟩
  | .local _ .vmem, ⟨0, _⟩ => ⟨S8x8x1024, .f32⟩
  | .local _ .vmem, ⟨1, _⟩ => ⟨S1x8x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamGainsRefIdeal.lean ====
abbrev S8x8x1024 : Shape := ⟨3, ![8, 8, 1024]⟩
abbrev S1x8x1024 : Shape := ⟨3, ![1, 8, 1024]⟩
abbrev S_ : Shape := ⟨0, ![]⟩
abbrev S8x1024 : Shape := ⟨2, ![8, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S1x8x1024, .f32⟩
  | .hbm, ⟨2, _⟩ => ⟨S1x8x1024, .f32⟩
  | .hbm, ⟨3, _⟩ => ⟨S1x8x1024, .f32⟩
  | .hbm, ⟨4, _⟩ => ⟨S_, .f32⟩
  | .hbm, ⟨5, _⟩ => ⟨S8x1024, .f32⟩
  | .hbm, ⟨6, _⟩ => ⟨S1x8x1024, .f32⟩
  | .hbm, ⟨7, _⟩ => ⟨S_, .f32⟩
  | .hbm, ⟨8, _⟩ => ⟨S1x8x1024, .f32⟩
  | .hbm, ⟨9, _⟩ => ⟨S1x8x1024, .f32⟩
  | .hbm, ⟨10, _⟩ => ⟨S_, .f32⟩
  | .hbm, ⟨11, _⟩ => ⟨S1x8x1024, .f32⟩
  | .hbm, ⟨12, _⟩ => ⟨S1x8x1024, .f32⟩
  | .hbm, ⟨13, _⟩ => ⟨S1x8x1024, .f32⟩
  | .hbm, ⟨14, _⟩ => ⟨S_, .f32⟩
  | .hbm, ⟨15, _⟩ => ⟨S1x8x1024, .f32⟩
  | .hbm, ⟨16, _⟩ => ⟨S1x8x1024, .f32⟩
  | .hbm, ⟨17, _⟩ => ⟨S1x8x1024, .f32⟩
  | .hbm, ⟨18, _⟩ => ⟨S_, .f32⟩
  | .hbm, ⟨19, _⟩ => ⟨S1x8x1024, .f32⟩
  | .hbm, ⟨20, _⟩ => ⟨S1x8x1024, .f32⟩
  | .hbm, ⟨21, _⟩ => ⟨S1x8x1024, .f32⟩
  | .hbm, ⟨22, _⟩ => ⟨S_, .f32⟩
  | .hbm, ⟨23, _⟩ => ⟨S1x8x1024, .f32⟩
  | .hbm, ⟨24, _⟩ => ⟨S1x8x1024, .f32⟩
  | .hbm, ⟨25, _⟩ => ⟨S_, .f32⟩
  | .hbm, ⟨26, _⟩ => ⟨S1x8x1024, .f32⟩
  | .hbm, ⟨27, _⟩ => ⟨S1x8x1024, .f32⟩
  | .hbm, ⟨28, _⟩ => ⟨S1x8x1024, .f32⟩
  | .hbm, ⟨29, _⟩ => ⟨S_, .f32⟩
  | .hbm, ⟨30, _⟩ => ⟨S1x8x1024, .f32⟩
  | .hbm, ⟨31, _⟩ => ⟨S1x8x1024, .f32⟩
  | .hbm, ⟨32, _⟩ => ⟨S1x8x1024, .f32⟩
  | .hbm, ⟨33, _⟩ => ⟨S_, .f32⟩
  | .hbm, ⟨34, _⟩ => ⟨S1x8x1024, .f32⟩
  | .hbm, ⟨35, _⟩ => ⟨S1x8x1024, .f32⟩
  | .hbm, ⟨36, _⟩ => ⟨S1x8x1024, .f32⟩
  | .hbm, ⟨37, _⟩ => ⟨S_, .f32⟩
  | .hbm, ⟨38, _⟩ => ⟨S1x8x1024, .f32⟩
  | .hbm, ⟨39, _⟩ => ⟨S1x8x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== GradX.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_19 : BitVec 32 := 0#32
  let v37 : BitVec 1 := Scalar.cmpi .ne v36 c0_i32_19
  v37

def k0_cond2 (i : grid0.Coords) : BitVec 1 :=
  let arg0 : BitVec 32 := BitVec.ofNat 32 (i 0).val
  let c0_i32_20 : BitVec 32 := 0#32
  let v38 : BitVec 1 := Scalar.cmpi .sgt arg0 c0_i32_20
  let v39 : BitVec 32 := Scalar.extui v38
  let c0_i32_21 : BitVec 32 := 0#32
  let v40 : BitVec 1 := Scalar.cmpi .ne v39 c0_i32_21
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GradXRefIdeal.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x3072, .f32⟩
  | .hbm, ⟨25, _⟩ => ⟨S4096x3072, .f32⟩
  | .hbm, ⟨26, _⟩ => ⟨S4096x3072, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== LossHead.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x128, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_17 : BitVec 32 := 0#32
  let v46 : BitVec 1 := Scalar.cmpi .ne v45 c0_i32_17
  v46

def k0_cond2 (i : grid0.Coords) : BitVec 1 :=
  let arg0 : BitVec 32 := BitVec.ofNat 32 (i 0).val
  let c0_i32_18 : BitVec 32 := 0#32
  let v47 : BitVec 1 := Scalar.cmpi .sgt arg0 c0_i32_18
  let v48 : BitVec 32 := Scalar.extui v47
  let c0_i32_19 : BitVec 32 := 0#32
  let v49 : BitVec 1 := Scalar.cmpi .ne v48 c0_i32_19
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1x128, .f32⟩
  | .hbm, ⟨69, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== GradIn.lean ====
abbrev S4096x1024 : Shape := ⟨2, ![4096, 1024]⟩
abbrev S4096x3072 : Shape := ⟨2, ![4096, 3072]⟩
abbrev S1024x3072 : Shape := ⟨2, ![1024, 3072]⟩
abbrev S4096x768 : Shape := ⟨2, ![4096, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .bf16⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1024x768, .bf16⟩
  | .local _ .vmem, ⟨4, _⟩ => ⟨S1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== GradInRefIdeal.lean ====
abbrev S4096x1024 : Shape := ⟨2, ![4096, 1024]⟩
abbrev S4096x3072 : Shape := ⟨2, ![4096, 3072]⟩
abbrev S1024x4096 : Shape := ⟨2, ![1024, 4096]⟩
abbrev S1024x3072 : Shape := ⟨2, ![1024, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x1024, .f32⟩
  | .hbm, ⟨3, _⟩ => ⟨S1024x4096, .f32⟩
  | .hbm, ⟨4, _⟩ => ⟨S4096x3072, .f32⟩
  | .hbm, ⟨5, _⟩ => ⟨S1024x3072, .f32⟩
  | .hbm, ⟨6, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradOut.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== GradOutRefIdeal.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S1024x4096, .f32⟩
  | .hbm, ⟨4, _⟩ => ⟨S4096x1024, .f32⟩
  | .hbm, ⟨5, _⟩ => ⟨S1024x1024, .f32⟩
  | .hbm, ⟨6, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradUp.lean ====
abbrev S8x4096x704 : Shape := ⟨3, ![8, 4096, 704]⟩
abbrev S4096x1024 : Shape := ⟨2, ![4096, 1024]⟩
abbrev S8x704x1024 : Shape := ⟨3, ![8, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8x4096x704, .bf16⟩
  | .hbm, ⟨1, _⟩ => ⟨S4096x1024, .bf16⟩
  | .hbm, ⟨2, _⟩ => ⟨S8x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== GradUpRefIdeal.lean ====
abbrev S8x4096x704 : Shape := ⟨3, ![8, 4096, 704]⟩
abbrev S4096x1024 : Shape := ⟨2, ![4096, 1024]⟩
abbrev S8x704x1024 : Shape := ⟨3, ![8, 704, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S4096x1024, .bf16⟩
  | .hbm, ⟨2, _⟩ => ⟨S8x4096x704, .f32⟩
  | .hbm, ⟨3, _⟩ => ⟨S4096x1024, .f32⟩
  | .hbm, ⟨4, _⟩ => ⟨S8x704x1024, .f32⟩
  | .hbm, ⟨5, _⟩ => ⟨S8x704x1024, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradDown.lean ====
abbrev S4x4096x704 : Shape := ⟨3, ![4, 4096, 704]⟩
abbrev S4096x1024 : Shape := ⟨2, ![4096, 1024]⟩
abbrev S4x704x1024 : Shape := ⟨3, ![4, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== GradDownRefIdeal.lean ====
abbrev S4x4096x704 : Shape := ⟨3, ![4, 4096, 704]⟩
abbrev S4096x1024 : Shape := ⟨2, ![4096, 1024]⟩
abbrev S4x704x1024 : Shape := ⟨3, ![4, 704, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x4096x704, .f32⟩
  | .hbm, ⟨3, _⟩ => ⟨S4096x1024, .f32⟩
  | .hbm, ⟨4, _⟩ => ⟨S4x704x1024, .f32⟩
  | .hbm, ⟨5, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== NormIn.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormInRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Project.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjectRefIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixOut.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixOutRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== FfnUp.lean ====
abbrev S4096x1024 : Shape := ⟨2, ![4096, 1024]⟩
abbrev S8x704x1024 : Shape := ⟨3, ![8, 704, 1024]⟩
abbrev S8x4096x704 : Shape := ⟨3, ![8, 4096, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8x704x1024, .bf16⟩
  | .hbm, ⟨2, _⟩ => ⟨S8x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .bf16⟩
  | .local _ .vmem, ⟨5, _⟩ => ⟨S1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S4096x1024 : Shape := ⟨2, ![4096, 1024]⟩
abbrev S8x704x1024 : Shape := ⟨3, ![8, 704, 1024]⟩
abbrev S8x704x4096 : Shape := ⟨3, ![8, 704, 4096]⟩
abbrev S8x4096x704 : Shape := ⟨3, ![8, 4096, 704]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x704x1024, .bf16⟩
  | .hbm, ⟨2, _⟩ => ⟨S4096x1024, .f32⟩
  | .hbm, ⟨3, _⟩ => ⟨S8x704x1024, .f32⟩
  | .hbm, ⟨4, _⟩ => ⟨S8x704x4096, .f32⟩
  | .hbm, ⟨5, _⟩ => ⟨S8x4096x704, .f32⟩
  | .hbm, ⟨6, _⟩ => ⟨S8x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DCat.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DCatRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Exchange.lean ====
/- An all-to-all exchange between eight devices, each running one scalar subcore: the protocol and the proof
   that the exchange delivers what it should.

   Every device holds, per item, eight PARTS of a source array and eight landing SLOTS. Device `d` announces itself to its
   seven peers on the barrier semaphore, waits for their seven announcements, copies its own part into its own slot, sends
   part `p` to slot `d` of every peer `p`, then waits for the seven arrivals, the seven departures and the own copy.

   The protocol, semaphore by semaphore (each is used for one round):
   * barrier of `d`: seven units, unit `j` paid by peer `j` of `d`, who hands over its landing slots number `d` — so a
     transfer is only ever sent into a slot whose owner has entered the kernel and given it away;
   * receive semaphore `(k, i)` of `d`: one duty, paid by the transfer of peer `k`, handing over slot `peer d k` of item
     `i`, holding what part `d` of that peer reads;
   * send semaphore `(k, i)` of `d`: one duty, paid by `d`'s own transfer to peer `k`, handing back the part;
   * local semaphore `i` of `d`: one duty, paid by the own copy, handing back slot and part.

   Nothing below depends on how parts and slots lie in their arrays. -/
module

public import Idealize.ShloMosaic.Lib.SparseCore.Quiescent
public import Idealize.ShloMosaic.Lib.Tactic

@[expose] public section

noncomputable section

namespace Exchange

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Peers -/

/-- Peer `k` of device `d`: the device whose number differs from `d`'s in the bits of `k + 1`. -/
def peer (d : Fin 8) (k : Fin 7) : Fin 8 := ⟨(d.val ^^^ (k.val + 1)) % 8, Nat.mod_lt _ (by decide)⟩

theorem peer_peer : ∀ (d : Fin 8) (k : Fin 7), peer (peer d k) k = d := by decide
theorem peer_ne : ∀ (d : Fin 8) (k : Fin 7), peer d k ≠ d := by decide
theorem peer_injective : ∀ d : Fin 8, Function.Injective (peer d) := by
  intro d k k'; revert d k k'; decide
theorem univ_peer : ∀ d : Fin 8, (Finset.univ : Finset (Fin 8)) = insert d (Finset.univ.image (peer d)) := by decide
theorem peer_bijective (k : Fin 7) : Function.Bijective fun d => peer d k :=
  ⟨fun a b h => by have := congrArg (fun x => peer x k) h; simpa only [peer_peer] using this, fun d => ⟨peer d k, peer_peer d k⟩⟩

/-- The order in which a device turns to its peers. -/
def order : List (Fin 7) := [1, 3, 5, 2, 4, 6, 0]
theorem order_nodup : order.Nodup := by decide
theorem mem_order (k : Fin 7) : k ∈ order := by revert k; decide

/-- The semaphores of an exchange of `n` items: the barrier; a receive and a send semaphore per peer and item; a local
    one per item. -/
abbrev Cell (n : ℕ) : Type := Unit ⊕ ((Fin 7 × Fin n) ⊕ ((Fin 7 × Fin n) ⊕ Fin n))
abbrev cBar {n : ℕ} : Cell n := .inl ()
abbrev cRecv {n : ℕ} (x : Fin 7 × Fin n) : Cell n := .inr (.inl x)
abbrev cSend {n : ℕ} (x : Fin 7 × Fin n) : Cell n := .inr (.inr (.inl x))
abbrev cLoc {n : ℕ} (i : Fin n) : Cell n := .inr (.inr (.inr i))

/-- What the exchange is made of: the processor, the semaphores, the parts and the slots. -/
structure Ports (τ : Topo) (sig : RefSig) (n : ℕ) where
  c₀ : Fin τ.nSC
  bar : Sem sig
  recv : Fin 7 × Fin n → DmaSem sig
  send : Fin 7 × Fin n → DmaSem sig
  loc : Fin n → DmaSem sig
  B : Fin n → Shape
  e : Fin n → EltTy
  part : (i : Fin n) → Fin 8 → Memref sig .scScalar .hbm (B i) (e i)
  slot : (i : Fin n) → Fin 8 → Memref sig .scScalar .hbm (B i) (e i)
  hpart : ∀ i s, (part i s).view.WordExact
  hslot : ∀ i s, (slot i s).view.WordExact
  hsc : ∀ i s, (slot i s).view.ref.isScScratch = false
  /-- The credit a part's or a slot's transfer pays. -/
  N : Fin n → ℕ
  hNpart : ∀ i s, (part i s).view.dmaCredit = N i
  hNslot : ∀ i s, (slot i s).view.dmaCredit = N i
  N_pos : ∀ i, 0 < N i
  /-- The share of a part a device has. -/
  sh : Fin n → Fin 8 → PosShare TreeShare
  recv_inj : Function.Injective recv
  send_inj : Function.Injective send
  loc_inj : Function.Injective loc
  recv_send : ∀ x y, recv x ≠ send y
  recv_loc : ∀ x y, recv x ≠ loc y
  send_loc : ∀ x y, send x ≠ loc y

/-- A list's conjuncts, one after another. -/
def sepL {M I : Type} [URA M] (l : List I) (Φ : I → sProp M) : sProp M := l.foldr (fun i r => iprop(Φ i ∗ r)) iprop(emp)
theorem sepL_cons {M I : Type} [URA M] (i : I) (l : List I) (Φ : I → sProp M) : sepL (i :: l) Φ = iprop(Φ i ∗ sepL l Φ) := rfl
theorem sepL_nil {M I : Type} [URA M] (Φ : I → sProp M) : sepL [] Φ = (iprop(emp) : sProp M) := rfl
theorem sepL_eq {M I : Type} [URA M] [DecidableEq I] (l : List I) (h : l.Nodup) (Φ : I → sProp M) : sepL l Φ = bigSep l.toFinset Φ := by
  induction l with
  | nil => rw [sepL_nil, List.toFinset_nil, bigSep_empty]; rfl
  | cons i l ih =>
    rw [sepL_cons, List.toFinset_cons, SparseCore.bigSep_insert' (by rw [List.mem_toFinset]; exact (List.nodup_cons.mp h).1), ih (List.nodup_cons.mp h).2]
theorem sepL_univ {M I : Type} [URA M] [DecidableEq I] [Fintype I] (l : List I) (h : l.Nodup) (hm : ∀ i, i ∈ l) (Φ : I → sProp M) :
    sepL l Φ = bigSep Finset.univ Φ := by
  rw [sepL_eq l h, show l.toFinset = Finset.univ from Finset.eq_univ_of_forall fun i => List.mem_toFinset.mpr (hm i)]

/-- Every pair of a peer and an item, in the order the kernel takes them. -/
def pairs (n : ℕ) : List (Fin 7 × Fin n) := order.product (List.finRange n)
theorem pairs_nodup (n : ℕ) : (pairs n).Nodup := List.Nodup.product order_nodup (List.nodup_finRange n)
theorem mem_pairs {n : ℕ} (x : Fin 7 × Fin n) : x ∈ pairs n := List.pair_mem_product.mpr ⟨mem_order _, List.mem_finRange _⟩

theorem bigSep_swap {M A B : Type} [URA M] [Fintype A] [Fintype B] (Φ : A → B → sProp M) :
    bigSep Finset.univ (fun a => bigSep Finset.univ (fun b => Φ a b)) = bigSep Finset.univ (fun b => bigSep Finset.univ (fun a => Φ a b)) := by
  rw [← bigSep_univ_prod (fun x : A × B => Φ x.1 x.2), ← bigSep_univ_prod (fun x : B × A => Φ x.2 x.1), bigSep_univ_equiv (Equiv.prodComm B A)]
  rfl

/-- What is held of every device is held of one and of its seven peers. -/
theorem bigSep_peers {M : Type} [URA M] (d : Fin 8) (Φ : Fin 8 → sProp M) :
    bigSep Finset.univ Φ = iprop(Φ d ∗ bigSep Finset.univ fun k : Fin 7 => Φ (peer d k)) := by
  rw [univ_peer d, SparseCore.bigSep_insert' (by
      rw [Finset.mem_image]; rintro ⟨k, -, h⟩; exact peer_ne d k h),
    SparseCore.bigSep_image_of_injOn (fun a _ b _ h => peer_injective d h)]

namespace Ports

variable {τ : Topo} {sig : RefSig} {n : ℕ} (X : Ports τ sig n)

/-- The semaphores, by name. -/
def sem : Cell n → SemLoc sig
  | .inl _ => .reg X.bar
  | .inr (.inl x) => .dma (X.recv x)
  | .inr (.inr (.inl x)) => .dma (X.send x)
  | .inr (.inr (.inr i)) => .dma (X.loc i)

theorem sem_injective : Function.Injective X.sem := by
  rintro (⟨⟩ | x | x | x) (⟨⟩ | y | y | y) h <;> simp only [sem, SemLoc.dma.injEq, reduceCtorEq] at h
  · rfl
  · rw [X.recv_inj h]
  · exact absurd h (X.recv_send _ _)
  · exact absurd h (X.recv_loc _ _)
  · exact absurd h.symm (X.recv_send _ _)
  · rw [X.send_inj h]
  · exact absurd h (X.send_loc _ _)
  · exact absurd h.symm (X.recv_loc _ _)
  · exact absurd h.symm (X.send_loc _ _)
  · rw [X.loc_inj h]

/-- Device `d`'s thread. -/
abbrev th (d : Fin 8) : Thread 8 τ := S d X.c₀
/-- Its cells. -/
abbrev gc (d : Fin 8) (x : Cell n) : GSem 8 τ sig := (X.th d, X.sem x)

theorem gc_injective : Function.Injective fun y : Fin 8 × Cell n => X.gc y.1 y.2 := fun a b h =>
  Prod.ext (Prod.mk.inj (Prod.mk.inj h).1).1 (X.sem_injective (Prod.mk.inj h).2)

/-- The cell a semaphore is, if it is one. -/
def cellOf (g : GSem 8 τ sig) : Option (Cell n) := by
  classical exact if h : ∃ x, g = X.gc g.1.1 x then some h.choose else none
theorem cellOf_gc (d : Fin 8) (x : Cell n) : X.cellOf (X.gc d x) = some x := by
  have h : ∃ y, X.gc d x = X.gc (X.gc d x).1.1 y := ⟨x, rfl⟩
  unfold cellOf; rw [dif_pos h]
  exact congrArg some (X.sem_injective (Prod.mk.inj h.choose_spec).2).symm

/-- The units a duty of a cell pays. -/
def amt : Cell n → ℕ
  | .inl _ => 1
  | .inr (.inl x) => X.N x.2
  | .inr (.inr (.inl x)) => X.N x.2
  | .inr (.inr (.inr i)) => X.N i
theorem amt_pos (x : Cell n) : 0 < X.amt x := by
  rcases x with ⟨⟩ | x | x | x
  · exact Nat.one_pos
  all_goals exact X.N_pos _
/-- The duties of a cell. -/
def dut (x : Cell n) : Finset (Fin 7) := match x with
  | .inl _ => Finset.univ
  | _ => {0}

section Contents
variable {Val : EltTy → Type} {U : Type} [URA U]

local notation "𝕄" => MT 8 τ sig (HIx 1) Val ℕ U ℕ

/-- The parts' contents, per item, device and part. -/
abbrev Src (Val : EltTy → Type) : Type := (i : Fin n) → (d s : Fin 8) → Buf Val ((X.part i s).view.loc (X.th d))

variable (fs : X.Src Val)

/-- Part `s` of item `i` on device `d`; -/
abbrev partPts (d : Fin 8) (i : Fin n) (s : Fin 8) : sProp 𝕄 := (X.part i s).view.loc (X.th d) ↦[(X.part i s).view.set]{X.sh i s} fs i d s
/-- slot `s` of item `i` on device `d`, holding something; -/
abbrev slotPts (d : Fin 8) (i : Fin n) (s : Fin 8) : sProp 𝕄 := iprop(∃ f, (X.slot i s).view.loc (X.th d) ↦[(X.slot i s).view.set]{fullShare} f)
/-- slot `s` of item `i` on device `d`, holding what part `d` of device `s` reads. -/
abbrev landed (d : Fin 8) (i : Fin n) (s : Fin 8) : sProp 𝕄 :=
  iprop(∃ f, ⌜(X.slot i s).view.read Val f = (X.part i d).view.read Val (fs i s d)⌝ ∗ ((X.slot i s).view.loc (X.th d) ↦[(X.slot i s).view.set]{fullShare} f))

/-- What a duty hands the cell's device. -/
def pay (d : Fin 8) : Cell n → Fin 7 → sProp 𝕄
  | .inl _, j => bigSep Finset.univ fun i => X.slotPts (peer d j) i d
  | .inr (.inl x), _ => X.landed fs d x.2 (peer d x.1)
  | .inr (.inr (.inl x)), _ => X.partPts fs d x.2 (peer d x.1)
  | .inr (.inr (.inr i)), _ => iprop(X.landed fs d i d ∗ X.partPts fs d i d)

instance pay_storable (d : Fin 8) (x : Cell n) (j : Fin 7) : BI.Storable (upEmb : UEmb _ 𝕄) (X.pay (U := U) fs d x j) := by
  rcases x with ⟨⟩ | x | x | x <;> (unfold pay; infer_instance)

/-- The protocol as the rounds library reads it. -/
def Rd : Rounds.Schedule (GSem 8 τ sig) (Fin 7) 𝕄 where
  duties g r := if r = 0 then (X.cellOf g).elim ∅ dut else ∅
  amount g _ _ := (X.cellOf g).elim 1 X.amt
  payload g _ j := (X.cellOf g).elim iprop(emp) fun x => X.pay fs g.1.1 x j
  amount_pos g _ _ _ := by
    cases X.cellOf g
    · exact Nat.one_pos
    · exact X.amt_pos _

instance Rd_payload_storable (g : GSem 8 τ sig) (r : ℕ) (j : Fin 7) : BI.Storable (upEmb : UEmb _ 𝕄) ((X.Rd (U := U) fs).payload g r j) := by
  show BI.Storable (upEmb : UEmb _ 𝕄) ((X.cellOf g).elim iprop(emp) fun x => X.pay fs g.1.1 x j)
  cases X.cellOf g
  · exact (inferInstance : BI.Storable (upEmb : UEmb _ 𝕄) (iprop(emp) : sProp 𝕄))
  · exact X.pay_storable fs _ _ _

theorem duties_later (g : GSem 8 τ sig) (r : ℕ) (h : 1 ≤ r) : (X.Rd (U := U) fs).duties g r = ∅ :=
  if_neg (by omega)
theorem duties_gc (d : Fin 8) (x : Cell n) : (X.Rd (U := U) fs).duties (X.gc d x) 0 = dut x := by
  dsimp only [Rd]; rw [if_pos rfl, X.cellOf_gc]; rfl
theorem amount_gc (d : Fin 8) (x : Cell n) (r : ℕ) (j : Fin 7) : (X.Rd (U := U) fs).amount (X.gc d x) r j = X.amt x := by
  dsimp only [Rd]; rw [X.cellOf_gc]; rfl
theorem payload_gc (d : Fin 8) (x : Cell n) (r : ℕ) (j : Fin 7) : (X.Rd (U := U) fs).payload (X.gc d x) r j = X.pay fs d x j := by
  dsimp only [Rd]; rw [X.cellOf_gc]; rfl
theorem expect_gc (d : Fin 8) (x : Cell n) : (X.Rd (U := U) fs).expect (X.gc d x) 0 = (dut x).card * X.amt x := by
  unfold Schedule.expect Schedule.amountOf
  rw [duties_gc, Finset.sum_congr rfl fun s _ => X.amount_gc fs d x 0 s, Finset.sum_const, smul_eq_mul]
theorem rest_gc (d : Fin 8) (x : Cell n) :
    bigSep ((X.Rd (U := U) fs).duties (X.gc d x) 0 \ ∅) (fun j => (X.Rd (U := U) fs).payload (X.gc d x) 0 j) = bigSep (dut x) (X.pay fs d x) := by
  rw [Finset.sdiff_empty, duties_gc]; exact bigSep_congr fun j _ => X.payload_gc fs d x 0 j

/-! ## The kernel's operations -/

section Run
variable {Λ : Labels}

/-- The kernel's operations, one after another. -/
def ops {p : Proc τ} (l : List (TpuEff 8 τ sig Val Λ p PUnit)) (r : Prog (TpuEff 8 τ sig Val Λ p) PUnit) : Prog (TpuEff 8 τ sig Val Λ p) PUnit :=
  l.foldr (fun e r => .op e fun _ => r) r

abbrev Op (Val : EltTy → Type) (Λ : Labels) : Type := TpuEff 8 τ sig Val Λ (.scScalar X.c₀) PUnit

/-- Announce to peer `k`. -/
def opSignal (d : Fin 8) (k : Fin 7) : X.Op Val Λ := .semSignal (X.th (peer d k)) X.bar ((1 : ℕ) : ℤ)
/-- Wait for the seven announcements. -/
def opBarrier : X.Op Val Λ := .semWait X.bar ((7 : ℕ) : ℤ)

theorem typed_here (i : Fin n) (s : Fin 8) (sm : DmaSem sig) :
    (DmaTarget.here (X.slot i s) : DmaTarget 8 τ sig (.scScalar X.c₀) .hbm (X.B i) (X.e i)).Typed .hbm (.dma sm) := ⟨.inl rfl, trivial⟩
theorem typed_remote (i : Fin n) (s p : Fin 8) (sm sm' : DmaSem sig) :
    (DmaTarget.remote (X.th p) (X.slot i s) (.dma sm') (X.hsc i s) : DmaTarget 8 τ sig (.scScalar X.c₀) .hbm (X.B i) (X.e i)).Typed .hbm (.dma sm) := ⟨⟨rfl, .inl rfl⟩, show Space.noHostEnd .hbm .hbm by decide⟩

/-- Copy the own part into the own slot. -/
def opCopy (d : Fin 8) (i : Fin n) : X.Op Val Λ :=
  .enqueueDma (X.part i d) (.here (X.slot i d)) (.dma (X.loc i)) (X.hpart i d) (X.hslot i d) (X.typed_here i d _)
/-- Send part `peer d k` into slot `d` of peer `k`. -/
def opSend (d : Fin 8) (x : Fin 7 × Fin n) : X.Op Val Λ :=
  .enqueueDma (X.part x.2 (peer d x.1)) (.remote (X.th (peer d x.1)) (X.slot x.2 d) (.dma (X.send x)) (X.hsc _ _)) (.dma (X.recv x))
    (X.hpart _ _) (X.hslot _ _) (X.typed_remote _ _ _ _ _)
/-- Wait for peer `k`'s part. -/
def opRecv (d : Fin 8) (x : Fin 7 × Fin n) : X.Op Val Λ :=
  .waitDma2 (X.recv x) (X.part x.2 d) (X.slot x.2 (peer d x.1)) (X.hpart _ _) (X.hslot _ _)
/-- Wait until the part for peer `k` has left. -/
def opSent (d : Fin 8) (x : Fin 7 × Fin n) : X.Op Val Λ :=
  .waitDma2 (X.send x) (X.slot x.2 d) (X.part x.2 (peer d x.1)) (X.hslot _ _) (X.hpart _ _)
/-- Wait for the own copy. -/
def opCopied (d : Fin 8) (i : Fin n) : X.Op Val Λ :=
  .waitDma2 (X.loc i) (X.part i d) (X.slot i d) (X.hpart _ _) (X.hslot _ _)

/-- The whole kernel on device `d`. -/
def body (d : Fin 8) : Prog (TpuEff 8 τ sig Val Λ (.scScalar X.c₀)) PUnit :=
  ops (order.map (X.opSignal d)) <| ops [X.opBarrier] <| ops ((List.finRange n).map (X.opCopy d)) <| ops ((pairs n).map (X.opSend d)) <|
    ops ((pairs n).map (X.opRecv d)) <| ops ((pairs n).map (X.opSent d)) <| ops ((List.finRange n).map (X.opCopied d)) <| .ret ⟨⟩

/-! ## What a device holds, and the run -/

variable {ΛK : Labels} (K : SparseCore.Cfg τ sig ΛK 1)
variable (ER : Emb (URounds (GSem 8 τ sig) (Fin 7)) (MT 8 τ sig (HIx 1) Val ℕ U ℕ))

/-- Every device's cell invariants; -/
abbrev invsA (κ : GSem 8 τ sig → ℕ) : sProp 𝕄 := bigSep Finset.univ fun y : Fin 8 × Cell n => cellInv ER (X.Rd fs) (κ (X.gc y.1 y.2)) (X.gc y.1 y.2)
/-- that each has reached its round. -/
abbrev reachedA : sProp 𝕄 := bigSep Finset.univ fun y : Fin 8 × Cell n => (reached ER (X.gc y.1 y.2) 0 : sProp 𝕄)

theorem inv_of (κ : GSem 8 τ sig → ℕ) (d : Fin 8) (x : Cell n) : X.invsA fs ER κ ⊢ cellInv ER (X.Rd fs) (κ (X.gc d x)) (X.gc d x) :=
  bigSep_elim (Φ := fun y : Fin 8 × Cell n => cellInv ER (X.Rd fs) (κ (X.gc y.1 y.2)) (X.gc y.1 y.2)) (i := (d, x)) (Finset.mem_univ _)
theorem reached_of (d : Fin 8) (x : Cell n) : X.reachedA ER ⊢ (reached ER (X.gc d x) 0 : sProp 𝕄) :=
  bigSep_elim (Φ := fun y : Fin 8 × Cell n => (reached ER (X.gc y.1 y.2) 0 : sProp 𝕄)) (i := (d, x)) (Finset.mem_univ _)

/-- What device `d` owes peer `k`'s barrier; -/
abbrev tBar (d : Fin 8) (k : Fin 7) : CellTallies 8 τ sig (HIx 1) := tallyAt (X.gc (peer d k) cBar) (some 0) 1
/-- what it owes a receive semaphore of a peer. -/
abbrev tRecv (d : Fin 8) (x : Fin 7 × Fin n) : CellTallies 8 τ sig (HIx 1) := tallyAt (X.gc (peer d x.1) (cRecv x)) (some 0) (X.N x.2)
/-- All device `d` owes from the launch. -/
def ox (d : Fin 8) : CellTallies 8 τ sig (HIx 1) := (∑ k, X.tBar d k) + ∑ x, X.tRecv d x

abbrev atPosAll (d : Fin 8) : sProp 𝕄 := bigSep Finset.univ fun x : Cell n => (atPos ER (X.gc d x) 0 ∅ 0 : sProp 𝕄)
abbrev toks (d : Fin 8) : sProp 𝕄 :=
  iprop((bigSep Finset.univ fun k => (dutyTok ER (X.gc (peer d k) cBar) 0 k : sProp 𝕄))
    ∗ (bigSep Finset.univ fun x : Fin 7 × Fin n => (dutyTok ER (X.gc (peer d x.1) (cRecv x)) 0 0 : sProp 𝕄))
    ∗ (bigSep Finset.univ fun x : Fin 7 × Fin n => (dutyTok ER (X.gc d (cSend x)) 0 0 : sProp 𝕄))
    ∗ bigSep Finset.univ fun i : Fin n => (dutyTok ER (X.gc d (cLoc i)) 0 0 : sProp 𝕄))
abbrev creds (d : Fin 8) : sProp 𝕄 :=
  iprop(cred (tallyAt (X.gc d cBar) (some 0) 7) ∗ bigSep Finset.univ fun x : Fin 7 × Fin n => cred (tallyAt (X.gc d (cRecv x)) (some 0) (X.N x.2)))
/-- What device `d` is handed of its own. -/
abbrev mine (d : Fin 8) : sProp 𝕄 := iprop(X.atPosAll ER d ∗ X.toks ER d ∗ X.creds d)

/-- What every step may use. -/
abbrev ctx (κ : GSem 8 τ sig → ℕ) : sProp 𝕄 := iprop(X.invsA fs ER κ ∗ X.reachedA ER ∗ levAts K.L K.lev)

variable {defs : Defs 8 τ sig Val Λ} (𝒱 : Variants)

/-- Operations of one kind, one after another: each takes its own holdings, and all pass a state on. -/
theorem wp_ops (d : Fin 8) {I : Type} (l : List I) (op : I → X.Op Val Λ) {R : sProp 𝕄} [BI.Persistent R] (St : List I → sProp 𝕄) (Pre Post : I → sProp 𝕄)
    {Q : PUnit → sProp 𝕄} (rest : Prog (TpuEff 8 τ sig Val Λ (.scScalar X.c₀)) PUnit)
    (step : ∀ i l' (cont : Prog (TpuEff 8 τ sig Val Λ (.scScalar X.c₀)) PUnit), iprop(R ∗ St (i :: l') ∗ Pre i)
      ⊢ iprop(((St l' ∗ Post i) -∗ wp frame (wpE defs 𝒱 (X.th d) none) Set.univ cont Q)
          -∗ wp frame (wpE defs 𝒱 (X.th d) none) Set.univ (.op (op i) fun _ => cont) Q)) :
    iprop(R ∗ St l ∗ sepL l Pre)
      ⊢ iprop(((St [] ∗ sepL l Post) -∗ wp frame (wpE defs 𝒱 (X.th d) none) Set.univ rest Q)
          -∗ wp frame (wpE defs 𝒱 (X.th d) none) Set.univ (ops (l.map op) rest) Q) := by
  induction l with
  | nil =>
    rw [sepL_nil, sepL_nil]
    iintro ⟨#HR, HSt, Hp⟩ Hk
    iapply Hk
    isplitl [HSt] <;> iassumption
  | cons i l ih =>
    rw [sepL_cons, sepL_cons]
    iintro ⟨#HR, HSt, Hi, Hl⟩ Hk
    iapply (step i l (ops (l.map op) rest)) $$ [HSt Hi]
    · isplitr; · iexact HR
      isplitl [HSt] <;> iassumption
    iintro ⟨HSt, HPost⟩
    iapply ih $$ [HSt Hl]
    · isplitr; · iexact HR
      isplitl [HSt] <;> iassumption
    iintro ⟨HSt, HP⟩
    iapply Hk
    isplitl [HSt]; · iexact HSt
    isplitl [HPost] <;> iassumption

variable [ER.LandsIn (upEmb : UEmb _ (MT 8 τ sig (HIx 1) Val ℕ U ℕ))]

theorem wp_signals (κ : GSem 8 τ sig → ℕ) (d : Fin 8) (O : CellTallies 8 τ sig (HIx 1)) (W : Waits sig (HIx 1)) {Q : PUnit → sProp 𝕄} (rest : Prog (TpuEff 8 τ sig Val Λ (.scScalar X.c₀)) PUnit) :
    iprop(X.ctx fs K ER κ ∗ owes (X.th d) (O + (order.map (X.tBar d)).sum) W
        ∗ sepL order fun k => iprop(dutyTok ER (X.gc (peer d k) cBar) 0 k ∗ bigSep Finset.univ fun i => X.slotPts d i (peer d k)))
      ⊢ iprop(((owes (X.th d) (O + 0) W ∗ sepL order fun _ => iprop(emp)) -∗ wp frame (wpE defs 𝒱 (X.th d) none) Set.univ rest Q)
          -∗ wp frame (wpE defs 𝒱 (X.th d) none) Set.univ (ops (order.map (X.opSignal d)) rest) Q) := by
  refine X.wp_ops 𝒱 d order (X.opSignal d) (R := X.ctx fs K ER κ) (fun l => owes (X.th d) (O + (l.map (X.tBar d)).sum) W) _ _ rest fun k l cont => ?_
  rw [List.map_cons, List.sum_cons]
  iintro ⟨⟨#Hinv, #Hr, #Hlv⟩, HO, Htok, Hs⟩ Hk
  iapply (Rounds.wp_signal 𝒱 ER (X.Rd fs) (X.th d) none (dst := X.th (peer d k)) (sem := X.bar) (κ := κ (X.gc (peer d k) cBar)) (r := 0) (d := k) (k' := 1) (O₀ := O + (X.tBar d k + (l.map (X.tBar d)).sum))
    (by rw [show ((X.th (peer d k), SemLoc.reg X.bar) : GSem 8 τ sig) = X.gc (peer d k) cBar from rfl, X.duties_gc]; exact Finset.mem_univ _) (X.amount_gc fs (peer d k) cBar 0 k) (some 0) (O + (l.map (X.tBar d)).sum)
    (by rw [add_comm (X.tBar d k), add_assoc]; rfl)) $$ [HO Htok Hs]
  · isplitr; · iapply (X.inv_of fs ER κ (peer d k) cBar); iexact Hinv
    isplitl [HO]; · iexact HO
    isplitl [Htok]; · iexact Htok
    isplitl [Hs]
    · iapply (SparseCore.ent (show X.pay fs (peer d k) cBar k ⊢ (X.Rd (U := U) fs).payload (X.th (peer d k), .reg X.bar) 0 k from Entails.of_eq (X.payload_gc fs (peer d k) cBar 0 k).symm))
      iapply (SparseCore.ent (Entails.of_eq (show (bigSep Finset.univ fun i => X.slotPts d i (peer d k)) = X.pay (U := U) fs (peer d k) cBar k by
        show _ = bigSep Finset.univ fun i => X.slotPts (peer (peer d k) k) i (peer d k)
        rw [peer_peer])))
      iexact Hs
    iapply (X.reached_of ER (peer d k) cBar); iexact Hr
  iintro HO
  iapply Hk
  isplitl [HO]; · iexact HO
  iempintro

theorem wp_barrier (κ : GSem 8 τ sig → ℕ) (d : Fin 8) (O : CellTallies 8 τ sig (HIx 1)) (W : Waits sig (HIx 1)) (hs : X.bar ≠ K.start) (ht : X.bar ≠ K.taskDone)
    (hO : ∀ g ι, 0 < O g ι → 3 < K.lev g ι) {Q : PUnit → sProp 𝕄} (rest : Prog (TpuEff 8 τ sig Val Λ (.scScalar X.c₀)) PUnit) :
    iprop(X.ctx fs K ER κ ∗ owes (X.th d) O W ∗ cred (tallyAt (X.gc d cBar) (some 0) 7) ∗ atPos ER (X.gc d cBar) 0 ∅ 0)
      ⊢ iprop(((owes (X.th d) O (insert (X.sem cBar, some 0) W) ∗ semVal (X.gc d cBar) 0 ∗ bigSep Finset.univ fun j : Fin 7 => bigSep Finset.univ fun i => X.slotPts (peer d j) i d)
            -∗ wp frame (wpE defs 𝒱 (X.th d) none) Set.univ rest Q)
          -∗ wp frame (wpE defs 𝒱 (X.th d) none) Set.univ (ops [X.opBarrier] rest) Q) := by
  iintro ⟨⟨#Hinv, #Hr, #Hlv⟩, HO, Hcr, Hat⟩ Hk
  iapply (Rounds.wp_wait_rest_token 𝒱 ER (X.Rd fs) (X.th d) none (sm := .reg X.bar) (κ := κ (X.gc d cBar)) (wpE_semWait_eq 𝒱 (X.th d) none Set.univ) (Set.mem_univ _) (some 0) (R := 0) (m := 0) (T := ∅)
    (show 0 + 7 = (X.Rd fs).expect (X.gc d cBar) 0 by rw [X.expect_gc]; rfl)) $$ [HO Hcr Hat]
  · isplitr; · iapply (X.inv_of fs ER κ d cBar); iexact Hinv
    isplitl [Hcr]; · iexact Hcr
    isplitl [HO]; · iexact HO
    isplitr
    · iapply (K.mayOwe_of_bound (thr := X.th d) 3 (fun p hp => by
        rw [Finset.mem_singleton] at hp; subst hp; exact le_of_eq (K.lev_S_reg d X.c₀ hs ht 0)) hO)
      iexact Hlv
    iexact Hat
  iintro ⟨HO, Hat, -, Hpay⟩
  imod (Rounds.cell_close ER (X.Rd fs) (g := X.gc d cBar) (Set.mem_univ (κ (X.gc d cBar))) (fun h => h) (X.duties_later fs (X.gc d cBar))) $$ [Hat] with Hz
  · isplitr; · iapply (X.inv_of fs ER κ d cBar); iexact Hinv
    iexact Hat
  iapply Hk
  isplitl [HO]; · iexact HO
  isplitl [Hz]; · iexact Hz
  iapply (SparseCore.ent (Entails.of_eq (X.rest_gc fs d cBar))); iexact Hpay

theorem wp_copies (κ : GSem 8 τ sig → ℕ) (d : Fin 8) {Q : PUnit → sProp 𝕄} (rest : Prog (TpuEff 8 τ sig Val Λ (.scScalar X.c₀)) PUnit) :
    iprop(X.ctx fs K ER κ ∗ emp
        ∗ sepL (List.finRange n) fun i => iprop(dutyTok ER (X.gc d (cLoc i)) 0 0 ∗ X.partPts fs d i d ∗ X.slotPts d i d))
      ⊢ iprop(((emp ∗ sepL (List.finRange n) fun i => cred (tallyAt (X.gc d (cLoc i)) (some 0) (X.N i))) -∗ wp frame (wpE defs 𝒱 (X.th d) none) Set.univ rest Q)
          -∗ wp frame (wpE defs 𝒱 (X.th d) none) Set.univ (ops ((List.finRange n).map (X.opCopy d)) rest) Q) := by
  refine X.wp_ops 𝒱 d (List.finRange n) (X.opCopy d) (R := X.ctx fs K ER κ) (fun _ => iprop(emp)) _ _ rest fun i l cont => ?_
  iintro ⟨⟨#Hinv, #Hr, #Hlv⟩, -, Htok, Hp, %f, Hs⟩ Hk
  iapply (Rounds.wp_copy_pointsTo 𝒱 ER (X.Rd fs) (X.th d) none (src := X.part i d) (dst := X.slot i d) (sem := .dma (X.loc i)) (q := X.sh i d) (fs := fs i d d) (fd := f)
    (κ := κ (X.gc d (cLoc i))) (r := 0) (d := 0)
    (show (0 : Fin 7) ∈ (X.Rd fs).duties (X.gc d (cLoc i)) 0 by rw [X.duties_gc]; exact Finset.mem_singleton_self _) (some 0) (X.N i) (X.hNslot i d) (X.amount_gc fs d (cLoc i) 0 0)
    ((show _ ⊢ X.pay (U := U) fs d (cLoc i) 0 from by
      unfold pay
      iintro ⟨H1, H2⟩
      isplitl [H1]
      · iexists _; isplitr; swap; · iexact H1
        ipureintro; exact View.read_write_univ _ _
      iexact H2).trans (Entails.of_eq (X.payload_gc fs d (cLoc i) 0 0).symm))) $$ [Htok Hp Hs]
  · isplitr; · iapply (X.inv_of fs ER κ d (cLoc i)); iexact Hinv
    isplitl [Hp]; · iexact Hp
    isplitl [Hs]; · iexact Hs
    isplitl [Htok]; · iexact Htok
    iapply (X.reached_of ER d (cLoc i)); iexact Hr
  iintro Hc
  iapply Hk
  isplitr; · iempintro
  iexact Hc

theorem wp_sends (κ : GSem 8 τ sig → ℕ) (d : Fin 8) (O : CellTallies 8 τ sig (HIx 1)) (W : Waits sig (HIx 1)) {Q : PUnit → sProp 𝕄} (rest : Prog (TpuEff 8 τ sig Val Λ (.scScalar X.c₀)) PUnit) :
    iprop(X.ctx fs K ER κ ∗ owes (X.th d) (O + ((pairs n).map (X.tRecv d)).sum) W
        ∗ sepL (pairs n) fun x => iprop(dutyTok ER (X.gc d (cSend x)) 0 0 ∗ dutyTok ER (X.gc (peer d x.1) (cRecv x)) 0 0
            ∗ X.partPts fs d x.2 (peer d x.1) ∗ X.slotPts (peer d x.1) x.2 d))
      ⊢ iprop(((owes (X.th d) (O + 0) W ∗ sepL (pairs n) fun x => cred (tallyAt (X.gc d (cSend x)) (some 0) (X.N x.2))) -∗ wp frame (wpE defs 𝒱 (X.th d) none) Set.univ rest Q)
          -∗ wp frame (wpE defs 𝒱 (X.th d) none) Set.univ (ops ((pairs n).map (X.opSend d)) rest) Q) := by
  refine X.wp_ops 𝒱 d (pairs n) (X.opSend d) (R := X.ctx fs K ER κ) (fun l => owes (X.th d) (O + (l.map (X.tRecv d)).sum) W) _ _ rest fun x l cont => ?_
  rw [List.map_cons, List.sum_cons]
  iintro ⟨⟨#Hinv, #Hr, #Hlv⟩, HO, Ht1, Ht2, Hp, %f, Hs⟩ Hk
  iapply (Rounds.wp_send_pointsTo 𝒱 ER (X.Rd fs) (X.th d) none (src := X.part x.2 (peer d x.1)) (c' := X.th (peer d x.1)) (dst := X.slot x.2 d) (sS := .dma (X.send x)) (sem := .dma (X.recv x))
    (q := X.sh x.2 (peer d x.1)) (fs := fs x.2 d (peer d x.1)) (fd := f)
    (κ₁ := κ (X.gc d (cSend x))) (κ₂ := κ (X.gc (peer d x.1) (cRecv x))) (r₁ := 0) (d₁ := 0) (r₂ := 0) (d₂ := 0)
    (O₀ := O + (X.tRecv d x + (l.map (X.tRecv d)).sum))
    (show (0 : Fin 7) ∈ (X.Rd fs).duties (X.gc d (cSend x)) 0 by rw [X.duties_gc]; exact Finset.mem_singleton_self _)
    (show (0 : Fin 7) ∈ (X.Rd fs).duties (X.gc (peer d x.1) (cRecv x)) 0 by rw [X.duties_gc]; exact Finset.mem_singleton_self _)
    (some 0) (some 0) (X.N x.2) (X.hNslot x.2 d) (X.amount_gc fs d (cSend x) 0 0) (X.amount_gc fs (peer d x.1) (cRecv x) 0 0)
    (O + (l.map (X.tRecv d)).sum) (by rw [add_comm (X.tRecv d x), add_assoc]; rfl)
    (show _ ⊢ (X.Rd (U := U) fs).payload (X.gc d (cSend x)) 0 0 from Entails.of_eq (X.payload_gc fs d (cSend x) 0 0).symm)
    (show _ ⊢ (X.Rd (U := U) fs).payload (X.gc (peer d x.1) (cRecv x)) 0 0 from (show _ ⊢ X.landed (U := U) fs (peer d x.1) x.2 (peer (peer d x.1) x.1) from by
      rw [peer_peer]
      iintro H1
      iexists _; isplitr; swap; · iexact H1
      ipureintro; exact View.read_write_univ _ _).trans (Entails.of_eq (X.payload_gc fs (peer d x.1) (cRecv x) 0 0).symm))) $$ [HO Ht1 Ht2 Hp Hs]
  · isplitr; · iapply (X.inv_of fs ER κ d (cSend x)); iexact Hinv
    isplitr; · iapply (X.inv_of fs ER κ (peer d x.1) (cRecv x)); iexact Hinv
    isplitl [Hp]; · iexact Hp
    isplitl [Hs]; · iexact Hs
    isplitl [HO]; · iexact HO
    isplitl [Ht1]; · iexact Ht1
    isplitr; · iapply (X.reached_of ER d (cSend x)); iexact Hr
    isplitl [Ht2]; · iexact Ht2
    iapply (X.reached_of ER (peer d x.1) (cRecv x)); iexact Hr
  iintro ⟨Hc, HO⟩
  iapply Hk
  isplitl [HO]; · iexact HO
  iexact Hc

/-- What a device still owes, and that it has waited for nothing it may not wait for. -/
abbrev after (d : Fin 8) (O : CellTallies 8 τ sig (HIx 1)) (W : Waits sig (HIx 1)) : sProp 𝕄 :=
  iprop(∃ W', ⌜∀ p ∈ W', p ∈ W ∨ p.2 = none ∨ p.2 = some (0 : Fin 1)⌝ ∗ owes (X.th d) O W')

/-- Waiting for a transfer ends its semaphore's round and hands over what the transfer pays. -/
theorem wp_arrived (κ : GSem 8 τ sig → ℕ) (d : Fin 8) (x : Cell n) (sm : DmaSem sig) (hsm : X.sem x = .dma sm) (O : CellTallies 8 τ sig (HIx 1)) (W : Waits sig (HIx 1))
    (hO : ∀ g ι, 0 < O g ι → 5 < K.lev g ι) {B : Shape} {e : EltTy} {N : ℕ} (src dst : Memref sig .scScalar .hbm B e) (hs : src.view.WordExact) (hd : dst.view.WordExact)
    (hN : dst.view.dmaCredit = N) (hx : (dut x).card * X.amt x = N)
    {Q : PUnit → sProp 𝕄} (rest : Prog (TpuEff 8 τ sig Val Λ (.scScalar X.c₀)) PUnit) :
    iprop(X.ctx fs K ER κ ∗ X.after d O W ∗ cred (tallyAt (X.gc d x) (some 0) N) ∗ atPos ER (X.gc d x) 0 ∅ 0)
      ⊢ iprop(((X.after d O W ∗ semVal (X.gc d x) 0 ∗ bigSep (dut x) (X.pay fs d x)) -∗ wp frame (wpE defs 𝒱 (X.th d) none) Set.univ rest Q)
          -∗ wp frame (wpE defs 𝒱 (X.th d) none) Set.univ (.op (.waitDma2 sm src dst hs hd) fun _ => rest) Q) := by
  subst hN
  have hg : X.gc d x = (X.th d, SemLoc.dma sm) := by rw [← hsm]
  iintro ⟨⟨#Hinv, #Hr, #Hlv⟩, ⟨%W', %hW', HO⟩, Hcr, Hat⟩ Hk
  rw [hg]
  iapply (Rounds.wp_wait_rest_token 𝒱 ER (X.Rd fs) (X.th d) none (sm := .dma sm) (k' := dst.view.dmaCredit) (κ := κ (X.th d, .dma sm))
    (fun K => by rw [wpE_waitDma2_eq]) (Set.mem_univ _) (some 0) (R := 0) (m := 0) (T := ∅)
    (show 0 + dst.view.dmaCredit = (X.Rd fs).expect (X.th d, .dma sm) 0 by rw [← hg, X.expect_gc, hx, Nat.zero_add])) $$ [HO Hcr Hat]
  · isplitr; · rw [← hg]; iapply (X.inv_of fs ER κ d x); iexact Hinv
    isplitl [Hcr]; · iexact Hcr
    isplitl [HO]; · iexact HO
    isplitr
    · iapply (K.mayOwe_of_bound (thr := X.th d) 5 (fun p hp => by
        rw [Finset.mem_singleton] at hp; subst hp; exact le_of_eq (K.lev_S_dma d X.c₀ sm 0)) hO)
      iexact Hlv
    iexact Hat
  iintro ⟨HO, Hat, -, Hpay⟩
  imod (Rounds.cell_close ER (X.Rd fs) (g := (X.th d, .dma sm)) (κ := κ (X.th d, .dma sm)) (Set.mem_univ _) (fun h => h) (X.duties_later fs _)) $$ [Hat] with Hz
  · isplitr; · rw [← hg]; iapply (X.inv_of fs ER κ d x); iexact Hinv
    iexact Hat
  iapply Hk
  isplitl [HO]
  · iexists _; isplitr; swap; · iexact HO
    ipureintro; intro p hp
    rcases Finset.mem_insert.mp hp with rfl | hp
    · exact .inr (.inr rfl)
    · exact hW' p hp
  isplitl [Hz]; · iexact Hz
  rw [← hg]
  iapply (SparseCore.ent (Entails.of_eq (X.rest_gc fs d x))); iexact Hpay

theorem wp_recvs (κ : GSem 8 τ sig → ℕ) (d : Fin 8) (O : CellTallies 8 τ sig (HIx 1)) (W : Waits sig (HIx 1)) (hO : ∀ g ι, 0 < O g ι → 5 < K.lev g ι)
    {Q : PUnit → sProp 𝕄} (rest : Prog (TpuEff 8 τ sig Val Λ (.scScalar X.c₀)) PUnit) :
    iprop(X.ctx fs K ER κ ∗ X.after d O W ∗ sepL (pairs n) fun x => iprop(cred (tallyAt (X.gc d (cRecv x)) (some 0) (X.N x.2)) ∗ atPos ER (X.gc d (cRecv x)) 0 ∅ 0))
      ⊢ iprop(((X.after d O W ∗ sepL (pairs n) fun x => iprop(semVal (X.gc d (cRecv x)) 0 ∗ bigSep {0} (X.pay fs d (cRecv x)))) -∗ wp frame (wpE defs 𝒱 (X.th d) none) Set.univ rest Q)
          -∗ wp frame (wpE defs 𝒱 (X.th d) none) Set.univ (ops ((pairs n).map (X.opRecv d)) rest) Q) :=
  X.wp_ops 𝒱 d (pairs n) (X.opRecv d) (R := X.ctx fs K ER κ) (fun _ => X.after d O W) _ _ rest fun x l cont =>
    X.wp_arrived fs K ER 𝒱 κ d (cRecv x) (X.recv x) rfl O W hO (X.part x.2 d) (X.slot x.2 (peer d x.1)) (X.hpart _ _) (X.hslot _ _) (X.hNslot _ _) (Nat.one_mul _) cont

theorem wp_sents (κ : GSem 8 τ sig → ℕ) (d : Fin 8) (O : CellTallies 8 τ sig (HIx 1)) (W : Waits sig (HIx 1)) (hO : ∀ g ι, 0 < O g ι → 5 < K.lev g ι)
    {Q : PUnit → sProp 𝕄} (rest : Prog (TpuEff 8 τ sig Val Λ (.scScalar X.c₀)) PUnit) :
    iprop(X.ctx fs K ER κ ∗ X.after d O W ∗ sepL (pairs n) fun x => iprop(cred (tallyAt (X.gc d (cSend x)) (some 0) (X.N x.2)) ∗ atPos ER (X.gc d (cSend x)) 0 ∅ 0))
      ⊢ iprop(((X.after d O W ∗ sepL (pairs n) fun x => iprop(semVal (X.gc d (cSend x)) 0 ∗ bigSep {0} (X.pay fs d (cSend x)))) -∗ wp frame (wpE defs 𝒱 (X.th d) none) Set.univ rest Q)
          -∗ wp frame (wpE defs 𝒱 (X.th d) none) Set.univ (ops ((pairs n).map (X.opSent d)) rest) Q) :=
  X.wp_ops 𝒱 d (pairs n) (X.opSent d) (R := X.ctx fs K ER κ) (fun _ => X.after d O W) _ _ rest fun x l cont =>
    X.wp_arrived fs K ER 𝒱 κ d (cSend x) (X.send x) rfl O W hO (X.slot x.2 d) (X.part x.2 (peer d x.1)) (X.hslot _ _) (X.hpart _ _) (X.hNpart _ _) (Nat.one_mul _) cont

theorem wp_copieds (κ : GSem 8 τ sig → ℕ) (d : Fin 8) (O : CellTallies 8 τ sig (HIx 1)) (W : Waits sig (HIx 1)) (hO : ∀ g ι, 0 < O g ι → 5 < K.lev g ι)
    {Q : PUnit → sProp 𝕄} (rest : Prog (TpuEff 8 τ sig Val Λ (.scScalar X.c₀)) PUnit) :
    iprop(X.ctx fs K ER κ ∗ X.after d O W ∗ sepL (List.finRange n) fun i => iprop(cred (tallyAt (X.gc d (cLoc i)) (some 0) (X.N i)) ∗ atPos ER (X.gc d (cLoc i)) 0 ∅ 0))
      ⊢ iprop(((X.after d O W ∗ sepL (List.finRange n) fun i => iprop(semVal (X.gc d (cLoc i)) 0 ∗ bigSep {0} (X.pay fs d (cLoc i)))) -∗ wp frame (wpE defs 𝒱 (X.th d) none) Set.univ rest Q)
          -∗ wp frame (wpE defs 𝒱 (X.th d) none) Set.univ (ops ((List.finRange n).map (X.opCopied d)) rest) Q) :=
  X.wp_ops 𝒱 d (List.finRange n) (X.opCopied d) (R := X.ctx fs K ER κ) (fun _ => X.after d O W) _ _ rest fun i l cont =>
    X.wp_arrived fs K ER 𝒱 κ d (cLoc i) (X.loc i) rfl O W hO (X.part i d) (X.slot i d) (X.hpart _ _) (X.hslot _ _) (X.hNslot _ _) (Nat.one_mul _) cont

omit [ER.LandsIn (upEmb : UEmb _ (MT 8 τ sig (HIx 1) Val ℕ U ℕ))] in
theorem bigSep_cells (Φ : Cell n → sProp 𝕄) : bigSep Finset.univ Φ
    = iprop(Φ cBar ∗ (bigSep Finset.univ fun x => Φ (cRecv x)) ∗ (bigSep Finset.univ fun x => Φ (cSend x)) ∗ bigSep Finset.univ fun i => Φ (cLoc i)) := by
  rw [bigSep_univ_sum, bigSep_univ_of_subsingleton (), bigSep_univ_sum, bigSep_univ_sum]; rfl

omit [ER.LandsIn (upEmb : UEmb _ (MT 8 τ sig (HIx 1) Val ℕ U ℕ))] in
theorem bigSep_chunks (d : Fin 8) (Φ : Fin n → Fin 8 → sProp 𝕄) :
    bigSep Finset.univ (fun i => bigSep Finset.univ (fun s => Φ i s))
      = iprop((bigSep Finset.univ fun i => Φ i d) ∗ bigSep Finset.univ fun x : Fin 7 × Fin n => Φ x.2 (peer d x.1)) := by
  rw [bigSep_congr fun i _ => bigSep_peers d (Φ i), bigSep_sep', bigSep_univ_prod,
    bigSep_swap]

theorem ox_lists (d : Fin 8) (O : CellTallies 8 τ sig (HIx 1)) :
    O + X.ox d = (O + ((pairs n).map (X.tRecv d)).sum) + (order.map (X.tBar d)).sum := by
  unfold ox
  rw [← List.sum_toFinset _ order_nodup, ← List.sum_toFinset _ (pairs_nodup n), show order.toFinset = Finset.univ from Finset.eq_univ_of_forall fun i => List.mem_toFinset.mpr (mem_order i),
    show (pairs n).toFinset = Finset.univ from Finset.eq_univ_of_forall fun i => List.mem_toFinset.mpr (mem_pairs i), add_comm (∑ k, X.tBar d k), add_assoc]

theorem lev_tRecv (d : Fin 8) (O : CellTallies 8 τ sig (HIx 1)) (hO : ∀ g ι, 0 < O g ι → 5 < K.lev g ι) (g : GSem 8 τ sig) (ι : HIx 1) :
    ∀ l : List (Fin 7 × Fin n), 0 < (O + (l.map (X.tRecv d)).sum) g ι → 3 < K.lev g ι
  | [], h => lt_trans (by decide) (hO g ι (by rwa [List.map_nil, List.sum_nil, add_zero] at h))
  | x :: l, h => by
    rw [List.map_cons, List.sum_cons, add_left_comm] at h
    rcases Nat.eq_zero_or_pos (X.tRecv d x g ι) with h0 | h0
    · refine lev_tRecv d O hO g ι l ?_
      have : (X.tRecv d x + (O + (l.map (X.tRecv d)).sum)) g ι = X.tRecv d x g ι + (O + (l.map (X.tRecv d)).sum) g ι := rfl
      omega
    · by_cases hg : g = X.gc (peer d x.1) (cRecv x) ∧ ι = some 0
      · obtain ⟨rfl, rfl⟩ := hg
        rw [show K.lev (X.gc (peer d x.1) (cRecv x)) (some 0) = _ from K.lev_S_dma (peer d x.1) X.c₀ (X.recv x) 0]; decide
      · exact absurd h0 (by rw [show X.tRecv d x g ι = 0 from (tallyAt_apply _ _ _ _ _).trans (if_neg hg)]; decide)

/-- THE EXCHANGE. Device `d`, given its parts, its slots and its share of the protocol, ends with its parts as they were and
    with part `d` of every device in that device's slot; every semaphore is back at zero. -/
theorem wp_body (κ : GSem 8 τ sig → ℕ) (d : Fin 8) (O : CellTallies 8 τ sig (HIx 1)) (W : Waits sig (HIx 1)) (hs : X.bar ≠ K.start) (ht : X.bar ≠ K.taskDone)
    (hO : ∀ g ι, 0 < O g ι → 5 < K.lev g ι) :
    iprop(X.ctx fs K ER κ ∗ X.mine ER d
        ∗ (bigSep Finset.univ fun i => bigSep Finset.univ fun s => X.partPts fs d i s)
        ∗ (bigSep Finset.univ fun i => bigSep Finset.univ fun s => X.slotPts d i s)
        ∗ owes (X.th d) (O + X.ox d) W)
      ⊢ wp frame (wpE defs 𝒱 (X.th d) none) Set.univ (X.body d) (fun _ => iprop(
          (bigSep Finset.univ fun i => bigSep Finset.univ fun s => X.partPts fs d i s)
            ∗ (bigSep Finset.univ fun i => bigSep Finset.univ fun s => X.landed fs d i s)
            ∗ (bigSep Finset.univ fun x : Cell n => semVal (X.gc d x) 0)
            ∗ X.after d O W)) := by
  have h1 := fun r Q => X.wp_signals fs K ER (defs := defs) 𝒱 κ d (O + ((pairs n).map (X.tRecv d)).sum) W (Q := Q) r
  have h2 := fun r Q => X.wp_barrier fs K ER (defs := defs) 𝒱 κ d (O + ((pairs n).map (X.tRecv d)).sum) W hs ht (fun g ι => X.lev_tRecv K d O hO g ι (pairs n)) (Q := Q) r
  have h3 := fun r Q => X.wp_copies fs K ER (defs := defs) 𝒱 κ d (Q := Q) r
  have h4 := fun W r Q => X.wp_sends fs K ER (defs := defs) 𝒱 κ d O W (Q := Q) r
  have h5 := fun W r Q => X.wp_recvs fs K ER (defs := defs) 𝒱 κ d O W hO (Q := Q) r
  have h6 := fun W r Q => X.wp_sents fs K ER (defs := defs) 𝒱 κ d O W hO (Q := Q) r
  have h7 := fun W r Q => X.wp_copieds fs K ER (defs := defs) 𝒱 κ d O W hO (Q := Q) r
  simp only [sepL_univ order order_nodup mem_order, sepL_univ _ (pairs_nodup n) mem_pairs, sepL_univ _ (List.nodup_finRange n) List.mem_finRange, bigSep_sep', bigSep_singleton, add_zero] at h1 h2 h3 h4 h5 h6 h7
  unfold mine atPosAll toks creds
  rw [ox_lists, bigSep_cells, bigSep_chunks d, bigSep_chunks d, bigSep_chunks d, bigSep_cells]
  unfold body
  iintro ⟨#Hc, ⟨⟨HaB, HaR, HaS, HaL⟩, ⟨HtB, HtR, HtS, HtL⟩, HcB, HcR⟩, ⟨HpO, HpP⟩, ⟨HsO, HsP⟩, HO⟩
  iapply (h1 _ _) $$ [HO HtB HsP]
  · isplitr; · iexact Hc
    isplitl [HO]; · iexact HO
    isplitl [HtB]; · iexact HtB
    iapply (SparseCore.ent (Entails.of_eq (bigSep_univ_prod (fun x : Fin 7 × Fin n => X.slotPts (U := U) (Val := Val) d x.2 (peer d x.1))))); iexact HsP
  iintro ⟨HO, -⟩
  iapply (h2 _ _) $$ [HO HcB HaB]
  · isplitr; · iexact Hc
    isplitl [HO]; · iexact HO
    isplitl [HcB] <;> iassumption
  iintro ⟨HO, HzB, HsR⟩
  iapply (h3 _ _) $$ [HtL HpO HsO]
  · isplitr; · iexact Hc
    isplitr; · iempintro
    isplitl [HtL]; · iexact HtL
    isplitl [HpO] <;> iassumption
  iintro ⟨-, HcL⟩
  iapply (h4 _ _ _) $$ [HO HtS HtR HpP HsR]
  · isplitr; · iexact Hc
    isplitl [HO]; · iexact HO
    isplitl [HtS]; · iexact HtS
    isplitl [HtR]; · iexact HtR
    isplitl [HpP]; · iexact HpP
    iapply (SparseCore.ent (Entails.of_eq (bigSep_univ_prod (fun x : Fin 7 × Fin n => X.slotPts (U := U) (Val := Val) (peer d x.1) x.2 d)).symm)); iexact HsR
  iintro ⟨HO, HcS⟩
  ihave HO : X.after (Val := Val) (U := U) d O W $$ [HO]
  · iexists _; isplitr; swap; · iexact HO
    ipureintro; intro p hp
    rcases Finset.mem_insert.mp hp with rfl | hp
    · exact .inr (.inr rfl)
    · exact .inl hp
  iapply (h5 _ _ _) $$ [HO HcR HaR]
  · isplitr; · iexact Hc
    isplitl [HO]; · iexact HO
    isplitl [HcR] <;> iassumption
  iintro ⟨HO, HzR, HlR⟩
  iapply (h6 _ _ _) $$ [HO HcS HaS]
  · isplitr; · iexact Hc
    isplitl [HO]; · iexact HO
    isplitl [HcS] <;> iassumption
  iintro ⟨HO, HzS, HpS⟩
  iapply (h7 _ _ _) $$ [HO HcL HaL]
  · isplitr; · iexact Hc
    isplitl [HO]; · iexact HO
    isplitl [HcL] <;> iassumption
  iintro ⟨HO, HzL, HlL⟩
  ihave HlL := (SparseCore.ent (show bigSep Finset.univ (fun i => X.pay (U := U) fs d (cLoc i) 0)
      ⊢ iprop((bigSep Finset.univ fun i => X.landed (U := U) fs d i d) ∗ bigSep Finset.univ fun i => X.partPts fs d i d) from Entails.of_eq (bigSep_sep' Finset.univ _ _))) $$ HlL
  icases HlL with ⟨HlO, HpO⟩
  rw [wp_ret]
  imodintro
  isplitl [HpO HpS]
  · isplitl [HpO]; · iexact HpO
    iexact HpS
  isplitl [HlO HlR]
  · isplitl [HlO]; · iexact HlO
    iexact HlR
  isplitl [HzB HzR HzS HzL]
  · isplitl [HzB]; · iexact HzB
    isplitl [HzR]; · iexact HzR
    isplitl [HzS] <;> iassumption
  iexact HO

end Run

end Contents

end Ports

end Exchange

end
-- ==== Proof.Launch.lean ====
/- The launch of a program whose one SparseCore call is an exchange (`Proof.Exchange`): what every device is dealt before any
   kernel begins, and the exchange as the launch asks for it.

   The barrier semaphores are not the kernel's own: their counters are taken from the free ones at the launch and given back to
   the TensorCore with the kernel's results. The transfers' semaphores are the sequencer's: held from the launch, closed by the
   kernel's own hand. -/
module

public import proofs.«01_k».proof.Proof.Exchange

@[expose] public section

noncomputable section

namespace Exchange

open Idealize.ShloMosaic
open Idealize.ShloMosaic.SparseCore (S V T)
open Idealize.ShloMosaic.SparseCore.Cfg (HIx Pay ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

/-- A persistent resource beside a big separating conjunction goes to each conjunct. -/
theorem bigSep_frame {M I : Type} [URA M] [DecidableEq I] {R : sProp M} [BI.Persistent R] {s : Finset I} {Φ Ψ : I → sProp M}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

theorem bigSep_emps {M I : Type} [URA M] (s : Finset I) : (bigSep s fun _ => iprop(emp)) = (iprop(emp) : sProp M) := bigSep_emp_const s

namespace Ports

variable {τ : Topo} {sig : RefSig} {n : ℕ} (X : Ports τ sig n)

/-- The handshakes' rounds beside the exchange's. -/
abbrev UH (τ : Topo) (sig : RefSig) : Type := URounds (GSem 8 τ sig) ℕ
abbrev UX (τ : Topo) (sig : RefSig) : Type := URounds (GSem 8 τ sig) (Fin 7)
abbrev UU (τ : Topo) (sig : RefSig) : Type := UH τ sig × UX τ sig

/-- The semaphores of transfers, by name; -/
abbrev DCell (n : ℕ) : Type := (Fin 7 × Fin n) ⊕ ((Fin 7 × Fin n) ⊕ Fin n)
abbrev dc {n : ℕ} (x : DCell n) : Cell n := .inr x
/-- the units a device pays, by name. -/
abbrev Tok (n : ℕ) : Type := Fin 7 ⊕ DCell n

/-- Every device's transfer semaphores; -/
def dmaCells : Finset (GSem 8 τ sig) := Finset.univ.image fun y : Fin 8 × DCell n => X.gc y.1 (dc y.2)
/-- every device's barrier semaphore; -/
def barCells : Finset (GSem 8 τ sig) := Finset.univ.image fun d : Fin 8 => X.gc d cBar
/-- all of them. -/
def allCells : Finset (GSem 8 τ sig) := Finset.univ.image fun y : Fin 8 × Cell n => X.gc y.1 y.2

theorem dc_injective : Function.Injective fun y : Fin 8 × DCell n => X.gc y.1 (dc y.2) := fun a b h => by
  have := X.gc_injective (a₁ := (a.1, dc a.2)) (a₂ := (b.1, dc b.2)) h
  exact Prod.ext (Prod.mk.inj this).1 (Sum.inr.inj (Prod.mk.inj this).2)
theorem bar_injective : Function.Injective fun d : Fin 8 => X.gc d cBar := fun a b h =>
  (Prod.mk.inj (X.gc_injective (a₁ := (a, cBar)) (a₂ := (b, cBar)) h)).1

/-- What a duty is called, per device that pays it. -/
def gtok : Fin 8 × Tok n → GSem 8 τ sig × ℕ × Fin 7
  | (d, .inl k) => (X.gc (peer d k) cBar, 0, k)
  | (d, .inr (.inl x)) => (X.gc (peer d x.1) (cRecv x), 0, 0)
  | (d, .inr (.inr (.inl x))) => (X.gc d (cSend x), 0, 0)
  | (d, .inr (.inr (.inr i))) => (X.gc d (cLoc i), 0, 0)
theorem gtok_injective : Function.Injective X.gtok := by
  have key {d d' : Fin 8} {x x' : Cell n} (h : X.gc d x = X.gc d' x') : d = d' ∧ x = x' :=
    Prod.mk.inj (X.gc_injective (a₁ := (d, x)) (a₂ := (d', x')) h)
  rintro ⟨d, k | x | x | i⟩ ⟨d', k' | x' | x' | i'⟩ h <;> unfold gtok at h <;> obtain ⟨h1, h2⟩ := Prod.mk.inj h <;> obtain ⟨hd, hx⟩ := key h1 <;>
    first | (exfalso; simp [cBar, cRecv, cSend, cLoc] at hx; done) | skip
  · obtain rfl : k = k' := (Prod.mk.inj h2).2
    rw [(peer_bijective k).1 hd]
  · obtain rfl : x = x' := Sum.inl.inj (Sum.inr.inj hx)
    rw [(peer_bijective x.1).1 hd]
  · obtain rfl : x = x' := Sum.inl.inj (Sum.inr.inj (Sum.inr.inj hx))
    rw [hd]
  · obtain rfl : i = i' := Sum.inr.inj (Sum.inr.inj (Sum.inr.inj hx))
    rw [hd]
def allToks : Finset (GSem 8 τ sig × ℕ × Fin 7) := Finset.univ.image X.gtok

/-- What an exchange asks of the program around it. -/
structure Fits {ΛK : Labels} (K : SparseCore.Cfg τ sig ΛK 1) : Prop where
  hs : X.bar ≠ K.start
  ht : X.bar ≠ K.taskDone
  hbar : (SemLoc.reg X.bar : SemLoc sig).isScoped .scScalar = false
  hdma : ∀ x : DCell n, (X.sem (dc x)).isScoped .scScalar = true
  hkind : K.kind 0 = .scScalar
  hcall : K.inCall 0 X.c₀

section Contents
variable {Val : EltTy → Type}

local notation "𝕄" => MT 8 τ sig (HIx 1) Val ℕ (UU τ sig) ℕ

def EH : Emb (UH τ sig) (MT 8 τ sig (HIx 1) Val ℕ (UU τ sig) ℕ) :=
  (Emb.inl : Emb (UH τ sig) (UU τ sig)).trans (uEmb (nD := 8) (sig := sig) (Ix := HIx 1) (Val := Val) (Name := ℕ) (U := UU τ sig) (Lvl := ℕ)).toEmb
def EX : Emb (UX τ sig) (MT 8 τ sig (HIx 1) Val ℕ (UU τ sig) ℕ) :=
  (Emb.inr : Emb (UX τ sig) (UU τ sig)).trans (uEmb (nD := 8) (sig := sig) (Ix := HIx 1) (Val := Val) (Name := ℕ) (U := UU τ sig) (Lvl := ℕ)).toEmb
instance EH_landsIn : (EH : Emb (UH τ sig) 𝕄).LandsIn (upEmb : UEmb _ (MT 8 τ sig (HIx 1) Val ℕ (UU τ sig) ℕ)) := by unfold EH; infer_instance
instance EX_landsIn : (EX : Emb (UX τ sig) 𝕄).LandsIn (upEmb : UEmb _ (MT 8 τ sig (HIx 1) Val ℕ (UU τ sig) ℕ)) := by unfold EX; infer_instance

theorem ownU_split (a : UH τ sig) (b : UX τ sig) : (ownU (a, b) : sProp 𝕄) ⊢ iprop(BI.own (EH a) ∗ BI.own (EX b)) :=
  BI.own_op_elim ((uEmb (nD := 8) (sig := sig) (Ix := HIx 1) (Val := Val) (Name := ℕ) (U := UU τ sig) (Lvl := ℕ)).toEmb.op_of_mem
    (Prod.mk_mem_op (URA.mem_op_one a) (URA.mem_one_op b)))

variable (fs : X.Src Val)
variable {ΛK : Labels} (K : SparseCore.Cfg τ sig ΛK 1)

theorem allCells_eq (Φ : GSem 8 τ sig → sProp 𝕄) : bigSep X.allCells Φ = bigSep Finset.univ fun y : Fin 8 × Cell n => Φ (X.gc y.1 y.2) := by
  unfold allCells; exact SparseCore.bigSep_image_of_injOn (fun a _ b _ e => X.gc_injective e) Φ
theorem dmaCells_eq (Φ : GSem 8 τ sig → sProp 𝕄) : bigSep X.dmaCells Φ = bigSep Finset.univ fun d : Fin 8 => bigSep Finset.univ fun x : DCell n => Φ (X.gc d (dc x)) := by
  unfold dmaCells; rw [SparseCore.bigSep_image_of_injOn (fun a _ b _ e => X.dc_injective e), bigSep_univ_prod]
theorem barCells_eq (Φ : GSem 8 τ sig → sProp 𝕄) : bigSep X.barCells Φ = bigSep Finset.univ fun d : Fin 8 => Φ (X.gc d cBar) := by
  unfold barCells; exact SparseCore.bigSep_image_of_injOn (fun a _ b _ e => X.bar_injective e) Φ
theorem allCells_split (Φ : GSem 8 τ sig → sProp 𝕄) : bigSep X.allCells Φ = iprop(bigSep X.barCells Φ ∗ bigSep X.dmaCells Φ) := by
  rw [allCells_eq, barCells_eq, dmaCells_eq, bigSep_univ_prod, ← bigSep_sep']
  exact bigSep_congr fun d _ => by rw [bigSep_univ_sum, bigSep_univ_of_subsingleton ()]; rfl

theorem allToks_eq : (bigSep X.allToks fun t => (dutyTok EX t.1 t.2.1 t.2.2 : sProp 𝕄)) = bigSep Finset.univ fun d : Fin 8 => X.toks EX d := by
  unfold allToks
  rw [SparseCore.bigSep_image_of_injOn (fun a _ b _ e => X.gtok_injective e), bigSep_univ_prod]
  exact bigSep_congr fun d _ => by rw [bigSep_univ_sum, bigSep_univ_sum, bigSep_univ_sum]; rfl

/-! ## Debts and credit -/

theorem tally_add_n (g : GSem 8 τ sig) (ι : HIx 1) : ∀ k : ℕ, ∑ _ : Fin k, tallyAt g ι 1 = (tallyAt g ι k : CellTallies 8 τ sig (HIx 1))
  | 0 => by rw [tallyAt_zero]; exact Finset.sum_of_isEmpty _
  | k + 1 => by rw [Fin.sum_univ_castSucc, tally_add_n g ι k, tallyAt_add]

/-- What device `d` is owed. -/
def owed (d : Fin 8) : CellTallies 8 τ sig (HIx 1) := tallyAt (X.gc d cBar) (some 0) 7 + ∑ x : Fin 7 × Fin n, tallyAt (X.gc d (cRecv x)) (some 0) (X.N x.2)

theorem ox_regroup : (∑ d, X.ox d) = ∑ d, X.owed d := by
  unfold ox owed
  rw [Finset.sum_add_distrib, Finset.sum_add_distrib, Finset.sum_comm, Finset.sum_comm (f := fun d x => X.tRecv d x)]
  congr 1
  · refine (Finset.sum_congr rfl fun k _ => Equiv.sum_comp (Equiv.ofBijective _ (peer_bijective k)) (fun p => (tallyAt (X.gc p cBar) (some 0) 1 : CellTallies 8 τ sig (HIx 1)))).trans ?_
    rw [Finset.sum_comm]
    exact Finset.sum_congr rfl fun d _ => tally_add_n _ _ 7
  · refine (Finset.sum_congr rfl fun x _ => Equiv.sum_comp (Equiv.ofBijective _ (peer_bijective x.1)) (fun p => (tallyAt (X.gc p (cRecv x)) (some 0) (X.N x.2) : CellTallies 8 τ sig (HIx 1)))).trans ?_
    rw [Finset.sum_comm]

theorem cred_owed (d : Fin 8) : (cred (X.owed d) : sProp 𝕄) = X.creds d := by
  unfold owed; rw [BI.Entails.antisymm (cred_add _ _).1 (cred_add _ _).2, SparseCore.Cfg.cred_finsum]

theorem ox_pos {d : Fin 8} {g : GSem 8 τ sig} {ι : HIx 1} (h : 0 < X.ox d g ι) : ∃ p, (g = X.gc p cBar ∨ ∃ x, g = X.gc p (cRecv x)) ∧ ι = some 0 := by
  unfold ox at h
  rw [Pi.add_apply, Finsupp.add_apply, Finset.sum_apply, Finset.sum_apply, Finsupp.finsetSum_apply, Finsupp.finsetSum_apply] at h
  rcases Nat.add_pos_iff_pos_or_pos.mp h with h | h
  · obtain ⟨k, -, hk⟩ := Finset.exists_ne_zero_of_sum_ne_zero (Nat.pos_iff_ne_zero.mp h)
    rw [tallyAt_apply] at hk
    split at hk
    · next hg => exact ⟨_, .inl hg.1, hg.2⟩
    · exact absurd rfl hk
  · obtain ⟨x, -, hx⟩ := Finset.exists_ne_zero_of_sum_ne_zero (Nat.pos_iff_ne_zero.mp h)
    rw [tallyAt_apply] at hx
    split at hx
    · next hg => exact ⟨_, .inr ⟨x, hg.1⟩, hg.2⟩
    · exact absurd rfl hx

/-! ## What the handshakes carry and what each sequencer is dealt -/

/-- What every device is handed alike; -/
abbrev shared : sProp 𝕄 := iprop((∃ κ : GSem 8 τ sig → ℕ, X.invsA fs EX κ) ∗ X.reachedA EX)
/-- everything device `d` is handed for the protocol. -/
def kit (d : Fin 8) : sProp 𝕄 := iprop(X.shared fs ∗ X.mine EX d)

/-- A device's parts and slots, as the call is handed them; -/
abbrev given (d : Fin 8) : sProp 𝕄 :=
  iprop((bigSep Finset.univ fun i => bigSep Finset.univ fun s => X.partPts fs d i s) ∗ (bigSep Finset.univ fun i => bigSep Finset.univ fun s => X.slotPts d i s))
/-- the same as the call hands them back, with its barrier semaphore. -/
abbrev taken (d : Fin 8) : sProp 𝕄 :=
  iprop((bigSep Finset.univ fun i => bigSep Finset.univ fun s => X.partPts fs d i s) ∗ (bigSep Finset.univ fun i => bigSep Finset.univ fun s => X.landed fs d i s)
    ∗ semVal (X.gc d cBar) 0)

variable {K} (hX : X.Fits K)

theorem ox_level {d : Fin 8} {g : GSem 8 τ sig} {ι : HIx 1} (hX : X.Fits K) (h : 0 < X.ox d g ι) : 8 * (0 : Fin 1).val + 3 ≤ K.lev g ι ∧ K.lev g ι ≤ 8 * (0 : Fin 1).val + 5 := by
  obtain ⟨p, hg | ⟨x, hg⟩, rfl⟩ := X.ox_pos h <;> subst hg
  · rw [show K.lev (X.gc p cBar) (some 0) = _ from K.lev_S_reg p X.c₀ hX.hs hX.ht 0]; decide
  · rw [show K.lev (X.gc p (cRecv x)) (some 0) = _ from K.lev_S_dma p X.c₀ (X.recv x) 0]; decide

/-- What a sequencer is dealt, and what it owes. -/
def payX (thr : Thread 8 τ) : sProp 𝕄 := match thr with
  | (d, .scScalar c) => if c = X.c₀ then X.kit fs d else iprop(emp)
  | _ => iprop(emp)
def payOx (thr : Thread 8 τ) : CellTallies 8 τ sig (HIx 1) := match thr with
  | (d, .scScalar c) => if c = X.c₀ then X.ox d else 0
  | _ => 0

theorem pay_band (hX : X.Fits K) (q : Fin 1) (thr : Thread 8 τ) (g : GSem 8 τ sig) (ι : HIx 1) (h : 0 < X.payOx thr g ι) :
    8 * q.val + 3 ≤ K.lev g ι ∧ K.lev g ι ≤ 8 * q.val + 5 := by
  obtain rfl : q = 0 := Subsingleton.elim _ _
  rcases thr with ⟨d, _ | c | ⟨c, i⟩⟩
  · exact absurd h (lt_irrefl 0)
  · unfold payOx at h; dsimp only at h
    split at h
    · exact X.ox_level hX h
    · exact absurd h (lt_irrefl 0)
  · exact absurd h (lt_irrefl 0)

theorem pay_sc (hX : X.Fits K) (q : Fin 1) (d : Fin 8) (c : Fin τ.nSC) (h : X.payOx (S d c) ≠ 0) : K.kind q = .scScalar ∧ K.inCall q c := by
  obtain rfl : q = 0 := Subsingleton.elim _ _
  unfold payOx SparseCore.S at h; dsimp only at h
  split at h
  · next hc => subst hc; exact ⟨hX.hkind, hX.hcall⟩
  · exact absurd rfl h

theorem pay_vec (hX : X.Fits K) (q : Fin 1) {P : Prop} (h : K.kind q = .scVector) : P := by
  obtain rfl : q = 0 := Subsingleton.elim _ _
  exact absurd (h.symm.trans hX.hkind) fun e => nomatch e

/-- The call as the launch sees it. -/
def P (hX : X.Fits K) : K.Pay (nD := 8) (Val := Val) (Name := ℕ) (U := UU τ sig) where
  st := fun _ d _ => X.given fs d
  dn := fun _ d _ => X.taken fs d
  go := fun _ _ _ _ => iprop(emp)
  td := fun _ _ _ _ => iprop(emp)
  x := fun _ thr => X.payX fs thr
  ox := fun _ thr => X.payOx thr
  ox_band := fun q thr g ι h => X.pay_band hX q thr g ι h
  ox_tc := fun _ _ => rfl
  ox_sc := fun q d c h => X.pay_sc hX q d c h
  ox_vc := fun _ _ _ _ h => absurd rfl h
  held := X.dmaCells
  held_vec := fun q _ _ h => X.pay_vec hX q h.1

instance P_storable : (X.P fs hX).IsStorable where
  st _ d _ := (inferInstance : BI.Storable (upEmb : UEmb _ (MT 8 τ sig (HIx 1) Val ℕ (UU τ sig) ℕ)) (X.given fs d))
  dn _ d _ := (inferInstance : BI.Storable (upEmb : UEmb _ (MT 8 τ sig (HIx 1) Val ℕ (UU τ sig) ℕ)) (X.taken fs d))
  go _ _ _ _ := (inferInstance : BI.Storable (upEmb : UEmb _ (MT 8 τ sig (HIx 1) Val ℕ (UU τ sig) ℕ)) (iprop(emp) : sProp 𝕄))
  td _ _ _ _ := (inferInstance : BI.Storable (upEmb : UEmb _ (MT 8 τ sig (HIx 1) Val ℕ (UU τ sig) ℕ)) (iprop(emp) : sProp 𝕄))

theorem Px_S (d : Fin 8) : (X.P fs hX).x 0 (S d X.c₀) = X.kit fs d :=
  (if_pos rfl : (if X.c₀ = X.c₀ then X.kit fs d else iprop(emp)) = (X.kit fs d : sProp 𝕄))
theorem Pox_S (d : Fin 8) : (X.P fs hX).ox 0 (S d X.c₀) = X.ox d :=
  (if_pos rfl : (if X.c₀ = X.c₀ then X.ox d else (0 : CellTallies 8 τ sig (HIx 1))) = X.ox d)
theorem Px_T (d : Fin 8) : (bigSep Finset.univ fun q : Fin 1 => (X.P fs hX).x q (SparseCore.T d)) = iprop(emp) :=
  bigSep_univ_of_subsingleton (0 : Fin 1)
theorem Px_S' (d : Fin 8) (c : Fin τ.nSC) : (bigSep Finset.univ fun q : Fin 1 => (X.P fs hX).x q (S d c)) = if c = X.c₀ then X.kit fs d else iprop(emp) :=
  bigSep_univ_of_subsingleton (0 : Fin 1)
theorem Px_V (d : Fin 8) (c : Fin τ.nSC) (i : Fin τ.nSub) : (bigSep Finset.univ fun q : Fin 1 => (X.P fs hX).x q (V d c i)) = iprop(emp) :=
  bigSep_univ_of_subsingleton (0 : Fin 1)

/-- The credit for the debts, regrouped per device that waits. -/
theorem creds_all : ((X.P fs hX).oxCred : sProp 𝕄) ⊢ bigSep Finset.univ fun d : Fin 8 => X.creds d := by
  unfold SparseCore.Cfg.Pay.oxCred
  rw [SparseCore.Cfg.bigSep_threads (fun thr : Thread 8 τ => (cred ((X.P fs hX).oxFrom 0 thr) : sProp 𝕄))]
  refine sep_elim_right.trans (sep_elim_left.trans ?_)
  have hox : ∀ y : Fin 8 × Fin τ.nSC, (X.P fs hX).oxFrom 0 (S y.1 y.2) = if y.2 = X.c₀ then X.ox y.1 else 0 := fun y => by
    rw [show (0 : ℕ) = (0 : Fin 1).val from rfl, (X.P fs hX).oxFrom_step, (X.P fs hX).oxFrom_end _ (n := (0 : Fin 1).val + 1) le_rfl, add_zero]; rfl
  simp only [hox]
  rw [← SparseCore.Cfg.cred_finsum,
    show (∑ y : Fin 8 × Fin τ.nSC, if y.2 = X.c₀ then X.ox y.1 else 0) = ∑ p : Fin 8, X.owed p from ?_,
    SparseCore.Cfg.cred_finsum]
  · exact bigSep_mono fun d _ => Entails.of_eq (X.cred_owed d)
  · rw [Fintype.sum_prod_type, ← ox_regroup]
    exact Finset.sum_congr rfl fun d _ => by rw [Fintype.sum_eq_single X.c₀ fun c hc => if_neg hc, if_pos rfl]

theorem inter_c₀ (d : Fin 8) (hX : X.Fits K) : ownCells (sig := sig) (S d X.c₀) ∩ X.dmaCells = (Finset.univ : Finset (DCell n)).image (fun x => X.gc d (dc x)) := by
  ext g
  rw [Finset.mem_inter, mem_ownCells]
  unfold dmaCells
  simp only [Finset.mem_image, Finset.mem_univ, true_and, Prod.exists]
  constructor
  · rintro ⟨⟨hg, -⟩, d', x, rfl⟩
    have : d' = d := (Prod.mk.inj hg).1
    subst this; exact ⟨x, rfl⟩
  · rintro ⟨x, rfl⟩
    exact ⟨⟨rfl, hX.hdma x⟩, d, x, rfl⟩

theorem heldOf_eq (d : Fin 8) (hX : X.Fits K) : (bigSep (ownCells (sig := sig) (S d X.c₀) ∩ X.dmaCells) fun g => (semVal g 0 : sProp 𝕄)) = bigSep Finset.univ fun x : DCell n => semVal (X.gc d (dc x)) 0 := by
  rw [X.inter_c₀ d hX, SparseCore.bigSep_image_of_injOn (fun a _ b _ e => (Prod.mk.inj (X.dc_injective (a₁ := (d, a)) (a₂ := (d, b)) e)).2)]

theorem sems_dma : ((X.P fs hX).heldSems0 : sProp 𝕄) ⊢ bigSep X.dmaCells fun g => semVal g 0 := by
  change (bigSep Finset.univ fun y : Fin 8 × Fin τ.nSC => bigSep (ownCells (S y.1 y.2) ∩ X.dmaCells) fun g => (semVal g 0 : sProp 𝕄)) ⊢ _
  rw [dmaCells_eq, bigSep_univ_prod (fun y : Fin 8 × Fin τ.nSC => bigSep (ownCells (S y.1 y.2) ∩ X.dmaCells) fun g => (semVal g 0 : sProp 𝕄))]
  refine bigSep_mono fun d _ => ?_
  refine (bigSep_elim (Φ := fun c : Fin τ.nSC => bigSep (ownCells (S d c) ∩ X.dmaCells) fun g => (semVal g 0 : sProp 𝕄)) (i := X.c₀) (Finset.mem_univ _)).trans ?_
  exact Entails.of_eq (X.heldOf_eq d hX)

theorem sems_bar (hX : X.Fits K) : (K.freeOn (· ∈ X.barCells) : sProp 𝕄) ⊢ bigSep X.barCells fun g => semVal g 0 := by
  unfold SparseCore.Cfg.freeOn
  rw [barCells_eq, bigSep_univ_prod]
  refine sep_elim_left.trans (bigSep_mono fun d _ => ?_)
  refine (bigSep_elim (i := X.c₀) (Finset.mem_univ _)).trans ?_
  exact bigSep_elim (Φ := fun sm : SemLoc sig => (semVal (S d X.c₀, sm) 0 : sProp 𝕄)) (i := SemLoc.reg X.bar) (Finset.mem_filter.mpr
    ⟨Finset.mem_erase.mpr ⟨fun h => hX.ht (SemLoc.reg.inj h), Finset.mem_erase.mpr ⟨fun h => hX.hs (SemLoc.reg.inj h), Finset.mem_filter.mpr ⟨Finset.mem_univ _, by rw [hX.hbar]; decide⟩⟩⟩,
      Finset.mem_image_of_mem (fun d : Fin 8 => X.gc d cBar) (Finset.mem_univ d)⟩)

theorem invs_all : iprop((bigSep X.allCells fun g => (semVal g 0 : sProp 𝕄)) ∗ bigSep X.allCells fun g => roundState EX (X.Rd fs) g 0)
    ⊢ |={Set.univ}=> iprop(∃ κ : GSem 8 τ sig → ℕ, X.invsA fs EX κ) := by
  refine (Rounds.bodies_intro EX (X.Rd fs) X.allCells).trans ((inv_alloc_family X.allCells (Rounds.body EX (X.Rd fs)) ∅ (E := Set.univ)).trans ?_)
  iintro H
  imod H with ⟨%κ, -, Hinv⟩
  imodintro; iexists κ
  iapply (SparseCore.ent (Entails.of_eq (X.allCells_eq (fun g => (cellInv EX (X.Rd fs) (κ g) g : sProp 𝕄)))))
  iexact Hinv

theorem kit_intro (d : Fin 8) : iprop(X.shared fs ∗ X.mine EX d) ⊢ (bigSep Finset.univ fun c : Fin τ.nSC => if c = X.c₀ then X.kit fs d else (iprop(emp) : sProp 𝕄)) := by
  rw [SparseCore.bigSep_erase' (Finset.mem_univ X.c₀), if_pos rfl]
  unfold kit
  iintro ⟨#Hsh, Hmine⟩
  isplitl [Hmine]
  · isplitr; · iexact Hsh
    iexact Hmine
  · iapply (SparseCore.ent (bigSep_mono (Φ := fun _ => iprop(emp)) (fun c hc => show iprop(emp) ⊢ (if c = X.c₀ then iprop(X.shared fs ∗ X.mine EX d) else (iprop(emp) : sProp 𝕄)) from
      Entails.of_eq (if_neg (Finset.ne_of_mem_erase hc)).symm)))
    rw [bigSep_emps]; iempintro

theorem kits_deal : iprop(X.shared fs ∗ bigSep Finset.univ fun d => X.mine EX d)
    ⊢ (bigSep Finset.univ fun thr : Thread 8 τ => bigSep Finset.univ fun q : Fin 1 => (X.P fs hX).x q thr : sProp 𝕄) := by
  rw [SparseCore.Cfg.bigSep_threads (fun thr : Thread 8 τ => bigSep Finset.univ fun q : Fin 1 => (X.P fs hX).x q thr)]
  simp only [Px_T, Px_S', Px_V, bigSep_emps]
  rw [bigSep_univ_prod (fun y : Fin 8 × Fin τ.nSC => if y.2 = X.c₀ then X.kit fs y.1 else (iprop(emp) : sProp 𝕄))]
  iintro ⟨#Hsh, Hmine⟩
  isplitr; · iempintro
  isplitl [Hmine]
  · iapply (bigSep_frame (R := X.shared fs) (Φ := fun d => X.mine EX d) fun d _ => X.kit_intro fs d)
    isplitr; · iexact Hsh
    iexact Hmine
  · iempintro

theorem mine_split : (bigSep Finset.univ fun d : Fin 8 => (X.mine EX d : sProp 𝕄))
    = iprop((bigSep Finset.univ fun d : Fin 8 => (X.atPosAll EX d : sProp 𝕄)) ∗ (bigSep Finset.univ fun d : Fin 8 => (X.toks EX d : sProp 𝕄)) ∗ bigSep Finset.univ fun d : Fin 8 => (X.creds d : sProp 𝕄)) := by
  unfold mine; rw [bigSep_sep', bigSep_sep']

theorem cells_split (d : Fin 8) : (bigSep Finset.univ fun x : Cell n => (semVal (X.gc d x) 0 : sProp 𝕄))
    = iprop(semVal (X.gc d cBar) 0 ∗ bigSep Finset.univ fun x : DCell n => semVal (X.gc d (dc x)) 0) := by
  rw [bigSep_univ_sum, bigSep_univ_of_subsingleton ()]; rfl

/-- The launch's ghost element; -/
def u₀ (K : SparseCore.Cfg τ sig ΛK 1) : UU τ sig := (initOf K.hsCells K.hsToks, initOf X.allCells X.allToks)

/-- from it every device its kit: the semaphores' rounds funded, their invariants allocated, tokens and credit dealt. -/
theorem hu₀ : iprop(ownU (X.u₀ K) ∗ (X.P fs hX).oxCred ∗ K.freeOn (· ∈ X.barCells) ∗ (X.P fs hX).heldSems0)
    ⊢ |={Set.univ}=> iprop(BI.own (EH (initOf K.hsCells K.hsToks)) ∗ (bigSep Finset.univ fun _ : Fin 8 => iprop(emp))
        ∗ (bigSep Finset.univ fun thr : Thread 8 τ => bigSep Finset.univ fun q : Fin 1 => (X.P fs hX).x q thr) : sProp 𝕄) := by
  unfold u₀
  iintro ⟨Hu, Hcred, Hfree, Hheld⟩
  ihave H := (ownU_split _ _) $$ Hu
  icases H with ⟨HH, HA⟩
  imod (Rounds.fund EX (X.Rd fs) X.allCells X.allToks) $$ HA with ⟨Hst, #Hr, Hat, Htok⟩
  ihave Hd := (X.sems_dma fs hX) $$ Hheld
  ihave Hb := (X.sems_bar hX) $$ Hfree
  imod (X.invs_all fs) $$ [Hd Hb Hst] with ⟨%κ, #Hinv⟩
  · isplitr [Hst]; swap; · iexact Hst
    iapply (SparseCore.ent (Entails.of_eq (X.allCells_split (fun g => (semVal g 0 : sProp 𝕄))).symm))
    isplitl [Hb] <;> iassumption
  ihave Hcred' := (X.creds_all fs hX) $$ Hcred
  ihave Hr' := (Entails.of_eq (X.allCells_eq fun g => (reached EX g 0 : sProp 𝕄))) $$ Hr
  ihave Hat' := (Entails.of_eq ((X.allCells_eq fun g => (atPos EX g 0 ∅ 0 : sProp 𝕄)).trans (bigSep_univ_prod (fun y : Fin 8 × Cell n => (atPos EX (X.gc y.1 y.2) 0 ∅ 0 : sProp 𝕄))))) $$ Hat
  ihave Htok' := (Entails.of_eq X.allToks_eq) $$ Htok
  imodintro
  isplitl [HH]; · iexact HH
  isplitr; · rw [bigSep_emps]; iempintro
  iapply (X.kits_deal fs hX)
  isplitr
  · isplitl; · iexists κ; iexact Hinv
    iexact Hr'
  iapply (SparseCore.ent (Entails.of_eq X.mine_split.symm))
  isplitl [Hat']; · iexact Hat'
  isplitl [Htok']; · iexact Htok'
  iexact Hcred'

/-! ## The kernel as the launch asks for it -/

theorem exit_sems (d : Fin 8) :
    iprop(((X.P fs hX).ownSems0' (S d X.c₀) ∗ bigSep Finset.univ fun x : DCell n => semVal (X.gc d (dc x)) 0) ∗ bigSep Finset.univ fun i : Fin τ.nSub => scopedSems0 (V d X.c₀ i))
      ⊢ (scopedSems0 (S d X.c₀) : sProp 𝕄) := by
  iintro ⟨⟨Hown, Hcells⟩, Hsubs⟩
  iapply (SparseCore.Cfg.scopedSems0_S_intro (Val := Val) d X.c₀)
  isplitl [Hown Hcells]
  · iapply (SparseCore.ent (Entails.of_eq (((X.P fs hX).ownSems0_split (S d X.c₀)).trans (by rw [show (X.P fs hX).held = X.dmaCells from rfl, X.heldOf_eq d hX])).symm))
    isplitl [Hown]; · iexact Hown
    iexact Hcells
  · iexact Hsubs

theorem wp_kernel {Λ : Labels} (defs : Defs 8 τ sig Val Λ) (𝒱 : Variants) (d : Fin 8) (O : CellTallies 8 τ sig (HIx 1)) (W : Waits sig (HIx 1))
    (hO : ∀ g ι, 0 < O g ι → 8 * (0 : Fin 1).val + 7 ≤ K.lev g ι) :
    iprop(levAts K.L K.lev ∗ X.kit fs d ∗ X.given fs d
        ∗ scopedBufs (S d X.c₀) ∗ ((X.P fs hX).ownSems0' (S d X.c₀) ∗ bigSep Finset.univ fun i : Fin τ.nSub => scopedSems0 (V d X.c₀ i))
        ∗ owes (S d X.c₀) (O + X.ox d) W)
      ⊢ wp frame (wpE defs 𝒱 (S d X.c₀) none) Set.univ (X.body d)
          fun _ => iprop(X.taken fs d ∗ scopedBufs (S d X.c₀) ∗ scopedSems0 (S d X.c₀)
            ∗ ∃ W', ⌜∀ p ∈ W', p ∈ W ∨ p.2 = none ∨ p.2 = some (0 : Fin 1)⌝ ∗ owes (S d X.c₀) O W') := by
  unfold kit
  iintro ⟨#Hlv, ⟨⟨⟨%κ, #Hinv⟩, #Hr⟩, Hmine⟩, ⟨Hp, Hs⟩, Hbufs, ⟨Hown, Hsubs⟩, HO⟩
  iapply (wp_wand_r frame _ Set.univ)
  isplitl [Hmine Hp Hs HO]
  · iapply (X.wp_body fs K EX (defs := defs) 𝒱 κ d O W hX.hs hX.ht (fun g ι h => lt_of_lt_of_le (by decide) (hO g ι h)))
    isplitr
    · isplitr; · iexact Hinv
      isplitr; · iexact Hr
      iexact Hlv
    isplitl [Hmine]; · iexact Hmine
    isplitl [Hp]; · iexact Hp
    isplitl [Hs]; · iexact Hs
    iexact HO
  iintro %_ ⟨Hp, Hs, Hc, HO⟩
  ihave Hc' := (Entails.of_eq (X.cells_split d)) $$ Hc
  icases Hc' with ⟨Hbar, Hd⟩
  isplitl [Hp Hs Hbar]
  · isplitl [Hp]; · iexact Hp
    isplitl [Hs]; · iexact Hs
    iexact Hbar
  isplitl [Hbufs]; · iexact Hbufs
  isplitr [HO]
  · iapply (X.exit_sems fs hX d)
    isplitr [Hsubs]
    · isplitl [Hown]; · iexact Hown
      iexact Hd
    iexact Hsubs
  iexact HO

/-- Every cell held from the launch is of the sequencer that runs the kernel. -/
theorem held_ran (d : Fin 8) (c : Fin τ.nSC) (sm : SemLoc sig) (_ : sm.isScoped .scScalar = true) (h : ((S d c, sm) : GSem 8 τ sig) ∈ (X.P fs hX).held) :
    0 < K.kRank c 1 := by
  obtain ⟨y, -, e⟩ := Finset.mem_image.mp (show ((S d c, sm) : GSem 8 τ sig) ∈ X.dmaCells from h)
  obtain rfl : X.c₀ = c := Proc.scScalar.inj (Prod.mk.inj (Prod.mk.inj e).1).2
  exact SparseCore.Cfg.kRank_pos (q := 0) ⟨hX.hkind, hX.hcall⟩

end Contents
end Ports
end Exchange
end
-- ==== Proof.Steps.lean ====
/- Reading a printed exchange as `Exchange.Ports.body`, operation by operation. -/
module

public import proofs.«01_k».proof.Proof.Exchange

@[expose] public section

noncomputable section

namespace Exchange

open Idealize.ShloMosaic Idealize.SL.Sem

/-- Two programs that begin with the same operation and go on alike are the same; -/
theorem op_congr.{v} {E : Type → Type v} {α β : Type} {e e' : E β} {k k' : β → Prog E α} (he : e' = e) (hk : ∀ x, k x = k' x) : Prog.op e k = Prog.op e' k' := by
  subst he; exact congrArg _ (funext hk)

/-- and a slice is where its offset is. -/
theorem at_eq {ι β : Type} {C : ι → Prop} (P : (o : ι) → C o → β) {o o' : ι} {h : C o} {h' : C o'} (e : o = o') : P o' h' = P o h := by subst e; rfl

namespace Ports

variable {τ : Topo} {sig : RefSig} {n : ℕ} (X : Ports τ sig n) {Val : EltTy → Type} {Λ : Labels}

theorem ops_cons {p : Proc τ} (e : TpuEff 8 τ sig Val Λ p PUnit) (l : List (TpuEff 8 τ sig Val Λ p PUnit)) (r : Prog (TpuEff 8 τ sig Val Λ p) PUnit) :
    ops (e :: l) r = .op e fun _ => ops l r := rfl
theorem ops_nil {p : Proc τ} (r : Prog (TpuEff 8 τ sig Val Λ p) PUnit) : ops [] r = r := rfl

theorem pairs_flat (n : ℕ) : pairs n = [1, 3, 5, 2, 4, 6, 0].flatMap fun k => (List.finRange n).map fun i => (k, i) := rfl

/-- The signal to a peer; -/
theorem signal_eq (d : Fin 8) (k : Fin 7) {p : Fin 8} (h : p = peer d k) : X.opSignal (Val := Val) (Λ := Λ) d k = .semSignal (p, .scScalar X.c₀) X.bar (1#32 : BitVec 32).toInt := by
  subst h; rfl
/-- the sending of a part; -/
theorem send_eq (d : Fin 8) (k : Fin 7) (i : Fin n) {P : Memref sig .scScalar .hbm (X.B i) (X.e i)} {p : Fin 8} (hP : X.part i (peer d k) = P) (hp : p = peer d k) {h4 h1 h2 h3} :
    X.opSend (Val := Val) (Λ := Λ) d (k, i) = .enqueueDma P (.remote (p, .scScalar X.c₀) (X.slot i d) (.dma (X.send (k, i))) h4) (.dma (X.recv (k, i))) h1 h2 h3 := by
  subst hP hp; rfl
/-- the wait for a part; -/
theorem recv_eq (d : Fin 8) (k : Fin 7) (i : Fin n) {S : Memref sig .scScalar .hbm (X.B i) (X.e i)} (hS : X.slot i (peer d k) = S) {h1 h2} :
    X.opRecv (Val := Val) (Λ := Λ) d (k, i) = .waitDma2 (X.recv (k, i)) (X.part i d) S h1 h2 := by
  subst hS; rfl
/-- the wait until a part has left. -/
theorem sent_eq (d : Fin 8) (k : Fin 7) (i : Fin n) {P : Memref sig .scScalar .hbm (X.B i) (X.e i)} (hP : X.part i (peer d k) = P) {h1 h2} :
    X.opSent (Val := Val) (Λ := Λ) d (k, i) = .waitDma2 (X.send (k, i)) (X.slot i d) P h1 h2 := by
  subst hP; rfl

end Ports

end Exchange

end
-- ==== Proof.Arrays.lean ====
/- An array in eight pieces: whole to pieces and pieces to whole. -/
module

public import proofs.«01_k».proof.Proof.Launch
public import Idealize.ShloMosaic.Lib.ValueIdxCore
public import Idealize.ShloMosaic.Lib.ValueLayout
public import Idealize.ShloMosaic.Lib.ShareLeaves

@[expose] public section

noncomputable section

namespace Exchange

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {τ : Topo} {sig : RefSig} {Val : EltTy → Type} {U : Type} [URA U]

local notation "𝕄" => MT 8 τ sig (HIx 1) Val ℕ U ℕ

section Pieces
variable {ℓ : Loc 8 τ sig} {K : Fin 8 → Finset (Idx ℓ)} (key : Idx ℓ → Fin 8) (hk : ∀ t i, i ∈ K t ↔ key i = t)
include hk

theorem pieces_disjoint : ∀ t ∈ (Finset.univ : Finset (Fin 8)), ∀ t' ∈ (Finset.univ : Finset (Fin 8)), t ≠ t' → Disjoint (K t) (K t') := fun t _ t' _ h =>
  Finset.disjoint_left.mpr fun i hi hi' => h (((hk t i).mp hi).symm.trans ((hk t' i).mp hi'))

theorem pieces_cover : (Finset.univ : Finset (Fin 8)).biUnion K = Finset.univ :=
  Finset.eq_univ_of_forall fun i => Finset.mem_biUnion.mpr ⟨key i, Finset.mem_univ _, (hk _ i).mpr rfl⟩

/-- A whole array is its eight pieces. -/
theorem pieces_eq (q : PosShare TreeShare) (f : Buf Val ℓ) :
    (bigSep Finset.univ fun t => (ℓ ↦[K t]{q} f : sProp 𝕄)) = (ℓ ↦{q} f) := by
  rw [← pointsTo_biUnion Finset.univ K (pieces_disjoint key hk), pieces_cover key hk]

omit hk in
theorem piece_some (t : Fin 8) (f : Buf Val ℓ) : (ℓ ↦[K t]{fullShare} f : sProp 𝕄) ⊢ iprop(∃ f, ℓ ↦[K t]{fullShare} f) := by
  iintro H; iexists f; iexact H

/-- Eight pieces, holding anything, out of a whole array holding something. -/
theorem pieces_some : (iprop(∃ f, ℓ ↦{fullShare} f) : sProp 𝕄) ⊢ bigSep Finset.univ fun t => iprop(∃ f, ℓ ↦[K t]{fullShare} f) := by
  iintro ⟨%f, H⟩
  iapply (SparseCore.ent (bigSep_mono (s := Finset.univ) fun t _ => piece_some (K := K) (U := U) (Val := Val) t f))
  iapply (SparseCore.ent (Entails.of_eq (pieces_eq (U := U) (Val := Val) key hk fullShare f).symm))
  iexact H

omit hk in
theorem piece_holds (t : Fin 8) (g : Buf Val ℓ) (P : Fin 8 → Buf Val ℓ → Prop) (hP : ∀ t f, P t f → ∀ i ∈ K t, f i = g i) :
    (iprop(∃ f, ⌜P t f⌝ ∗ ℓ ↦[K t]{fullShare} f) : sProp 𝕄) ⊢ ℓ ↦[K t]{fullShare} g := by
  iintro ⟨%f, %h, H⟩
  iapply (SparseCore.ent (Entails.of_eq (pointsTo_congr (hP t f h))))
  iexact H

/-- Eight pieces that each hold what they should are a whole array that does. -/
theorem pieces_join (g : Buf Val ℓ) (P : Fin 8 → Buf Val ℓ → Prop) (hP : ∀ t f, P t f → ∀ i ∈ K t, f i = g i) :
    (bigSep Finset.univ fun t => iprop(∃ f, ⌜P t f⌝ ∗ ℓ ↦[K t]{fullShare} f)) ⊢ (ℓ ↦{fullShare} g : sProp 𝕄) :=
  BI.Entails.trans (bigSep_mono fun t _ => piece_holds t g P hP) (Entails.of_eq (pieces_eq key hk fullShare g))

end Pieces

open Idealize.ShloMosaic.ValueIdx

theorem mem_of_eq {α : Type*} {s t : Finset α} {x : α} (h : s = t) : x ∈ s ↔ x ∈ t := by rw [h]

variable {p q : ℕ} {α : Type}

/-! ## Slab `s` of eight -/

section Rows
variable {κ : Kind} {sp : Space} {e : EltTy}

/-- A slab of eight, at an offset. -/
abbrev rowAt (hq : (⟨3, ![1, p, q]⟩ : Shape).Squeezes ⟨2, ![p, q]⟩) (M : Memref sig κ sp ⟨3, ![8, p, q]⟩ e) (o : Fin 3 → ℕ)
    (h : ∀ a, o a + (⟨3, ![1, p, q]⟩ : Shape).size a ≤ (⟨3, ![8, p, q]⟩ : Shape).size a) : Memref sig κ sp ⟨2, ![p, q]⟩ e :=
  (M.slice (Rect.unit (s := ⟨3, ![8, p, q]⟩) o (⟨3, ![1, p, q]⟩ : Shape).size h) (fun _ => rfl)).squeeze ⟨2, ![p, q]⟩ hq

/-- Where an element of the slab is in the eight. -/
abbrev rowIx (hq : (⟨3, ![1, p, q]⟩ : Shape).Squeezes ⟨2, ![p, q]⟩) (o : Fin 3 → ℕ)
    (h : ∀ a, o a + (⟨3, ![1, p, q]⟩ : Shape).size a ≤ (⟨3, ![8, p, q]⟩ : Shape).size a) (j : (⟨2, ![p, q]⟩ : Shape).Idx) : (⟨3, ![8, p, q]⟩ : Shape).Idx :=
  (Rect.unit (s := ⟨3, ![8, p, q]⟩) o (⟨3, ![1, p, q]⟩ : Shape).size h).emb (Shape.reshapeEquiv hq.numel_eq j)

theorem rowIx_eq {hq : (⟨3, ![1, p, q]⟩ : Shape).Squeezes ⟨2, ![p, q]⟩} {o : Fin 3 → ℕ} {h : ∀ a, o a + (⟨3, ![1, p, q]⟩ : Shape).size a ≤ (⟨3, ![8, p, q]⟩ : Shape).size a}
    {s : Fin 8} (ho : o = ![s.val, 0, 0]) (a : Fin p) (b : Fin q) : rowIx hq o h (ix2 a b) = ix3 s a b := by
  subst ho
  unfold rowIx
  rw [reshapeEquiv_ix2_1ab]
  refine funext fun t => Fin.ext ?_
  rw [Rect.emb_apply]
  simp only [Rect.off_unit, Rect.stride_unit]
  match t with
  | 0 => show s.val + 1 * 0 = s.val; omega
  | 1 => show 0 + 1 * a.val = a.val; omega
  | 2 => show 0 + 1 * b.val = b.val; omega

theorem row_mem {o : Fin 3 → ℕ} {h : ∀ a, o a + (⟨3, ![1, p, q]⟩ : Shape).size a ≤ (⟨3, ![8, p, q]⟩ : Shape).size a} {s : Fin 8} (ho : o = ![s.val, 0, 0]) (x : (⟨3, ![8, p, q]⟩ : Shape).Idx) :
    x ∈ (Rect.unit (s := ⟨3, ![8, p, q]⟩) o (⟨3, ![1, p, q]⟩ : Shape).size h).set ↔ (x 0 : Fin 8) = s := by
  subst ho
  refine Rect.mem_set_unit.trans (Iff.trans ?_ (Fin.ext_iff (a := (x 0 : Fin 8)) (b := s)).symm)
  have h1 : (x 1).val < p := (x 1).isLt
  have h2 : (x 2).val < q := (x 2).isLt
  constructor
  · intro h; have : s.val ≤ (x 0).val ∧ (x 0).val < s.val + 1 := h 0
    omega
  · intro h a
    match a with
    | 0 => show s.val ≤ (x 0).val ∧ (x 0).val < s.val + 1; omega
    | 1 => show 0 ≤ (x 1).val ∧ (x 1).val < 0 + p; omega
    | 2 => show 0 ≤ (x 2).val ∧ (x 2).val < 0 + q; omega

/-- A slab that reads as `y` holds `y`. -/
theorem row_holds {hq : (⟨3, ![1, p, q]⟩ : Shape).Squeezes ⟨2, ![p, q]⟩} {o : Fin 3 → ℕ} {h : ∀ a, o a + (⟨3, ![1, p, q]⟩ : Shape).size a ≤ (⟨3, ![8, p, q]⟩ : Shape).size a}
    {t : Fin 8} (ho : o = ![t.val, 0, 0]) (f : (⟨3, ![8, p, q]⟩ : Shape).Idx → α) (y : (⟨2, ![p, q]⟩ : Shape).Idx → α)
    (hf : (fun j => f (rowIx hq o h j)) = y) (x : (⟨3, ![8, p, q]⟩ : Shape).Idx) (hx : (x 0 : Fin 8) = t) : f x = y (ix2 (x 1) (x 2)) := by
  subst hf hx
  show f x = f (rowIx hq o h (ix2 (x 1) (x 2)))
  exact congrArg f ((eq_ix3 x).trans (rowIx_eq ho (x 1) (x 2)).symm)

end Rows

/-! ## Eighth `s` of the columns -/

section Cols
variable {κ : Kind} {sp : Space} {e : EltTy} {r : ℕ}

/-- `q` of the columns, at an offset. -/
abbrev colAt (M : Memref sig κ sp ⟨2, ![p, r]⟩ e) (o : Fin 2 → ℕ)
    (h : ∀ a, o a + (⟨2, ![p, q]⟩ : Shape).size a ≤ (⟨2, ![p, r]⟩ : Shape).size a) : Memref sig κ sp ⟨2, ![p, q]⟩ e :=
  M.slice (Rect.unit (s := ⟨2, ![p, r]⟩) o (⟨2, ![p, q]⟩ : Shape).size h) (fun _ => rfl)

/-- Where an element of them is among all the columns. -/
abbrev colIx (o : Fin 2 → ℕ) (h : ∀ a, o a + (⟨2, ![p, q]⟩ : Shape).size a ≤ (⟨2, ![p, r]⟩ : Shape).size a) (j : (⟨2, ![p, q]⟩ : Shape).Idx) : (⟨2, ![p, r]⟩ : Shape).Idx :=
  (Rect.unit (s := ⟨2, ![p, r]⟩) o (⟨2, ![p, q]⟩ : Shape).size h).emb j

theorem col_lt (hr : r = 8 * q) (s : Fin 8) (b : Fin q) : q * s.val + b.val < r := by
  have h1 := s.isLt; have h2 := b.isLt
  have : q * s.val ≤ q * 7 := Nat.mul_le_mul_left _ (by omega)
  omega
theorem col_pos (hr : r = 8 * q) (b : Fin r) : 0 < q := by have := b.isLt; omega
theorem col_div (hr : r = 8 * q) (b : Fin r) : b.val / q < 8 := (Nat.div_lt_iff_lt_mul (col_pos hr b)).mpr (by have := b.isLt; omega)

/-- The eighth a column is of, -/
abbrev colOf (hr : r = 8 * q) (x : (⟨2, ![p, r]⟩ : Shape).Idx) : Fin 8 := ⟨(x 1).val / q, col_div hr (x 1)⟩
/-- and its place there. -/
abbrev inCol (hr : r = 8 * q) (x : (⟨2, ![p, r]⟩ : Shape).Idx) : Fin q := ⟨(x 1).val % q, Nat.mod_lt _ (col_pos hr (x 1))⟩

theorem colIx_eq (hr : r = 8 * q) {o : Fin 2 → ℕ} {h : ∀ a, o a + (⟨2, ![p, q]⟩ : Shape).size a ≤ (⟨2, ![p, r]⟩ : Shape).size a}
    {s : Fin 8} (ho : o = ![0, q * s.val]) (a : Fin p) (b : Fin q) : colIx o h (ix2 a b) = ix2 a ⟨q * s.val + b.val, col_lt hr s b⟩ := by
  subst ho
  unfold colIx
  refine funext fun t => Fin.ext ?_
  rw [Rect.emb_apply]
  simp only [Rect.off_unit, Rect.stride_unit]
  match t with
  | 0 => show 0 + 1 * a.val = a.val; omega
  | 1 => show q * s.val + 1 * b.val = q * s.val + b.val; omega

theorem col_mem (hr : r = 8 * q) {o : Fin 2 → ℕ} {h : ∀ a, o a + (⟨2, ![p, q]⟩ : Shape).size a ≤ (⟨2, ![p, r]⟩ : Shape).size a} {s : Fin 8} (ho : o = ![0, q * s.val])
    (x : (⟨2, ![p, r]⟩ : Shape).Idx) : x ∈ (Rect.unit (s := ⟨2, ![p, r]⟩) o (⟨2, ![p, q]⟩ : Shape).size h).set ↔ colOf hr x = s := by
  subst ho
  refine Rect.mem_set_unit.trans (Iff.trans ?_ (Fin.ext_iff (a := colOf hr x) (b := s)).symm)
  have h0 : (x 0).val < p := (x 0).isLt
  have hq : 0 < q := col_pos hr (x 1)
  show _ ↔ (x 1).val / q = s.val
  rw [Nat.div_eq_iff hq, Nat.mul_comm s.val q]
  constructor
  · intro h; have : q * s.val ≤ (x 1).val ∧ (x 1).val < q * s.val + q := h 1
    omega
  · intro h a
    match a with
    | 0 => show 0 ≤ (x 0).val ∧ (x 0).val < 0 + p; omega
    | 1 => show q * s.val ≤ (x 1).val ∧ (x 1).val < q * s.val + q; omega

/-- Columns that read as `y` hold `y`. -/
theorem col_holds (hr : r = 8 * q) {o : Fin 2 → ℕ} {h : ∀ a, o a + (⟨2, ![p, q]⟩ : Shape).size a ≤ (⟨2, ![p, r]⟩ : Shape).size a}
    {t : Fin 8} (ho : o = ![0, q * t.val]) (f : (⟨2, ![p, r]⟩ : Shape).Idx → α) (y : (⟨2, ![p, q]⟩ : Shape).Idx → α)
    (hf : (fun j => f (colIx o h j)) = y) (x : (⟨2, ![p, r]⟩ : Shape).Idx) (hx : colOf hr x = t) : f x = y (ix2 (x 0) (inCol hr x)) := by
  subst hf hx
  show f x = f (colIx o h (ix2 (x 0) (inCol hr x)))
  refine congrArg f (((eq_ix2 x).trans ?_).trans (colIx_eq hr ho (x 0) (inCol hr x)).symm)
  exact congrArg (ix2 (x 0)) (Fin.ext (Nat.div_add_mod _ _).symm)

end Cols

/-! ## What lands -/

section Out

/-- Of every device's eight slabs, its `d`-th; -/
def rowsOut (A : Fin 8 → (⟨3, ![8, p, q]⟩ : Shape).Idx → α) (d : Fin 8) : (⟨3, ![8, p, q]⟩ : Shape).Idx → α := fun x => A (x 0) (ix3 d (x 1) (x 2))
/-- of every device's columns, the `d`-th eighth; -/
def colsOut {r : ℕ} (hr : r = 8 * q) (A : Fin 8 → (⟨2, ![p, r]⟩ : Shape).Idx → α) (d : Fin 8) : (⟨3, ![8, p, q]⟩ : Shape).Idx → α :=
  fun x => A (x 0) (ix2 (x 1) ⟨q * d.val + (x 2).val, col_lt hr d (x 2)⟩)

/-- A slab that reads as the `d`-th of device `t` holds what is to land there; -/
theorem rows_holds (hq : (⟨3, ![1, p, q]⟩ : Shape).Squeezes ⟨2, ![p, q]⟩) {o o' : Fin 3 → ℕ} (h : ∀ a, o a + (⟨3, ![1, p, q]⟩ : Shape).size a ≤ (⟨3, ![8, p, q]⟩ : Shape).size a)
    (h' : ∀ a, o' a + (⟨3, ![1, p, q]⟩ : Shape).size a ≤ (⟨3, ![8, p, q]⟩ : Shape).size a) (A : Fin 8 → (⟨3, ![8, p, q]⟩ : Shape).Idx → α) {t d : Fin 8}
    (ho : o = ![t.val, 0, 0]) (ho' : o' = ![d.val, 0, 0]) (f : (⟨3, ![8, p, q]⟩ : Shape).Idx → α)
    (hf : (fun j => f (rowIx hq o h j)) = fun j => A t (rowIx hq o' h' j)) (x : (⟨3, ![8, p, q]⟩ : Shape).Idx) (hx : (x 0 : Fin 8) = t) : f x = rowsOut A d x := by
  refine (row_holds ho f _ hf x hx).trans ?_
  subst hx
  exact congrArg (A (x 0)) (rowIx_eq ho' (x 1) (x 2))

/-- and so does one that reads as its columns. -/
theorem cols_holds {r : ℕ} (hr : r = 8 * q) (hq : (⟨3, ![1, p, q]⟩ : Shape).Squeezes ⟨2, ![p, q]⟩) {o : Fin 3 → ℕ} {o' : Fin 2 → ℕ}
    (h : ∀ a, o a + (⟨3, ![1, p, q]⟩ : Shape).size a ≤ (⟨3, ![8, p, q]⟩ : Shape).size a)
    (h' : ∀ a, o' a + (⟨2, ![p, q]⟩ : Shape).size a ≤ (⟨2, ![p, r]⟩ : Shape).size a) (A : Fin 8 → (⟨2, ![p, r]⟩ : Shape).Idx → α) {t d : Fin 8}
    (ho : o = ![t.val, 0, 0]) (ho' : o' = ![0, q * d.val]) (f : (⟨3, ![8, p, q]⟩ : Shape).Idx → α)
    (hf : (fun j => f (rowIx hq o h j)) = fun j => A t (colIx o' h' j)) (x : (⟨3, ![8, p, q]⟩ : Shape).Idx) (hx : (x 0 : Fin 8) = t) : f x = colsOut hr A d x := by
  refine (row_holds ho f _ hf x hx).trans ?_
  subst hx
  exact congrArg (A (x 0)) (colIx_eq hr ho' (x 1) (x 2))

/-- Every device's array, one after another; -/
def slabsOut (A : Fin 8 → (⟨2, ![p, q]⟩ : Shape).Idx → α) : (⟨3, ![8, p, q]⟩ : Shape).Idx → α := fun x => A (x 0) (ix2 (x 1) (x 2))
/-- side by side. -/
def besideOut {r : ℕ} (hr : r = 8 * q) (A : Fin 8 → (⟨2, ![p, q]⟩ : Shape).Idx → α) : (⟨2, ![p, r]⟩ : Shape).Idx → α :=
  fun x => A (colOf hr x) (ix2 (x 0) (inCol hr x))

/-- A slab that reads as device `t`'s array holds what is to land there; -/
theorem slabs_holds (hq : (⟨3, ![1, p, q]⟩ : Shape).Squeezes ⟨2, ![p, q]⟩) {o : Fin 3 → ℕ} (h : ∀ a, o a + (⟨3, ![1, p, q]⟩ : Shape).size a ≤ (⟨3, ![8, p, q]⟩ : Shape).size a)
    (A : Fin 8 → (⟨2, ![p, q]⟩ : Shape).Idx → α) {t : Fin 8} (ho : o = ![t.val, 0, 0]) (f : (⟨3, ![8, p, q]⟩ : Shape).Idx → α)
    (hf : (fun j => f (rowIx hq o h j)) = A t) (x : (⟨3, ![8, p, q]⟩ : Shape).Idx) (hx : (x 0 : Fin 8) = t) : f x = slabsOut A x := by
  refine (row_holds ho f _ hf x hx).trans ?_
  subst hx
  rfl

/-- and so do columns that read as it. -/
theorem beside_holds {r : ℕ} (hr : r = 8 * q) {o : Fin 2 → ℕ} (h : ∀ a, o a + (⟨2, ![p, q]⟩ : Shape).size a ≤ (⟨2, ![p, r]⟩ : Shape).size a)
    (A : Fin 8 → (⟨2, ![p, q]⟩ : Shape).Idx → α) {t : Fin 8} (ho : o = ![0, q * t.val]) (f : (⟨2, ![p, r]⟩ : Shape).Idx → α)
    (hf : (fun j => f (colIx o h j)) = A t) (x : (⟨2, ![p, r]⟩ : Shape).Idx) (hx : colOf hr x = t) : f x = besideOut hr A x := by
  refine (col_holds hr ho f _ hf x hx).trans ?_
  subst hx
  rfl

end Out

/-! ## A source sent whole to every device -/

/-- The share of it that goes with the copy to device `s`. -/
abbrev eighth (s : Fin 8) : PosShare TreeShare := ShareLeaves.leaf 3 fullShare s

theorem whole_parts {ℓ : Loc 8 τ sig} (I : Finset (Idx ℓ)) (hI : I = Finset.univ) (f : Buf Val ℓ) :
    (bigSep Finset.univ fun s : Fin 8 => (ℓ ↦[I]{eighth s} f : sProp 𝕄)) = (ℓ ↦{fullShare} f) := by
  subst hI; exact (ShareLeaves.pointsTo_leaves Finset.univ f 3 fullShare).symm

end Exchange

end
-- ==== Proof.Scatter1Body.lean ====
/- The first exchange, of the last layer's gradients: its parts, slots and semaphores as `Exchange.Ports`, and that the printed
   kernel is `Exchange.Ports.body` of them. -/
module

public import proofs.«01_k».proof.Proof.Launch
public import proofs.«01_k».proof.Proof.Steps
public import proofs.«01_k».proof.Proof.Arrays
public import proofs.«01_k».proof.Proof.Gen.KernelIdeal.Skeleton

@[expose] public section

set_option synthInstance.maxSize 4096

noncomputable section

namespace Cert.Proof.Scatter1

open Idealize.ShloMosaic Idealize.SL.Sem
open Cert.KernelIdeal Cert.KernelIdeal.Gen
open Exchange (peer rowAt colAt at_eq op_congr)
open Exchange.Ports (ops_cons ops_nil pairs_flat)

/-- The one grid point. -/
abbrev i₀ : grid0.Coords := (fun | 0 => ⟨0, by decide⟩ | ⟨_ + 1, h⟩ => absurd h (Nat.not_lt.2 (Nat.le_add_left _ _)))

theorem sem_inb (i : Fin 5) (k : Fin 7) : ∀ a, (![i.val, k.val] : Fin 2 → ℕ) a + S1x1.size a ≤ S5x7.size a := by revert i k; decide
theorem loc_inb (i : Fin 5) : ∀ a, (![i.val] : Fin 1 → ℕ) a + S1.size a ≤ S5.size a := by revert i; decide

/-- The receive, send and local semaphores. -/
def recvSem (x : Fin 7 × Fin 5) : DmaSem sig := ((cc0_scratch1.slice (Rect.unit (s := S5x7) ![x.2.val, x.1.val] S1x1.size (sem_inb x.2 x.1))).squeeze S_ squeezes_S1x1_S_).sem
def sendSem (x : Fin 7 × Fin 5) : DmaSem sig := ((cc0_scratch0.slice (Rect.unit (s := S5x7) ![x.2.val, x.1.val] S1x1.size (sem_inb x.2 x.1))).squeeze S_ squeezes_S1x1_S_).sem
def locSem (i : Fin 5) : DmaSem sig := ((cc0_scratch2.slice (Rect.unit (s := S5) ![i.val] S1.size (loc_inb i))).squeeze S_ squeezes_S1_S_).sem

theorem recvSem_val : ∀ x, (recvSem x).val = 35 + 7 * x.2.val + x.1.val := by decide +kernel
theorem sendSem_val : ∀ x, (sendSem x).val = 7 * x.2.val + x.1.val := by decide +kernel
theorem locSem_val : ∀ x, (locSem x).val = 70 + x.val := by decide +kernel

/-! ## The parts and the slots, as slices of the call's arrays -/

abbrev part0 := colAt (p := 1024) (q := 384) (r := 3072) (Memref.whole main_v1_scs)
abbrev part1 := rowAt squeezes_S1x128x1024_S128x1024 (Memref.whole main_v2_scs)
abbrev part2 := rowAt squeezes_S1x704x1024_S704x1024 (Memref.whole main_v3_scs)
abbrev part3 := rowAt squeezes_S1x352x1024_S352x1024 (Memref.whole main_v4_scs)
abbrev part4 := rowAt squeezes_S1x3x768_S3x768 (Memref.whole main_v5_scs)
abbrev slot0 := rowAt squeezes_S1x1024x384_S1024x384 (Memref.whole main_v6_0_scs)
abbrev slot1 := rowAt squeezes_S1x128x1024_S128x1024 (Memref.whole main_v6_1_scs)
abbrev slot2 := rowAt squeezes_S1x704x1024_S704x1024 (Memref.whole main_v6_2_scs)
abbrev slot3 := rowAt squeezes_S1x352x1024_S352x1024 (Memref.whole main_v6_3_scs)
abbrev slot4 := rowAt squeezes_S1x3x768_S3x768 (Memref.whole main_v6_4_scs)

/-- What the program exchanges, and over what. -/
def X : Exchange.Ports τ sig 5 where
  c₀ := (i₀ 0).castLE hcore0
  bar := (SemArray.scalar (sig.barrier 4 rfl) : Sems sig S_).sem
  recv := recvSem
  send := sendSem
  loc := locSem
  B := fun | 0 => S1024x384 | 1 => S128x1024 | 2 => S704x1024 | 3 => S352x1024 | 4 => S3x768
  e := fun | 0 => .bf16 | 1 => .bf16 | 2 => .bf16 | 3 => .bf16 | 4 => .f32
  part := fun
    | 0 => fun s => part0 (k0_off2 s) (k0_off2_inb s)
    | 1 => fun s => part1 (k0_off3 s) (k0_off3_inb s)
    | 2 => fun s => part2 (k0_off4 s) (k0_off4_inb s)
    | 3 => fun s => part3 (k0_off5 s) (k0_off5_inb s)
    | 4 => fun s => part4 (k0_off6 s) (k0_off6_inb s)
  slot := fun
    | 0 => fun s => slot0 (k0_off1 s) (k0_off1_inb s)
    | 1 => fun s => slot1 (k0_off3 s) (k0_off3_inb s)
    | 2 => fun s => slot2 (k0_off4 s) (k0_off4_inb s)
    | 3 => fun s => slot3 (k0_off5 s) (k0_off5_inb s)
    | 4 => fun s => slot4 (k0_off6 s) (k0_off6_inb s)
  hpart := fun
    | 0 => fun s => (Memref.isWhole_whole main_v1_scs).wordExact_slice rfl _ (k0_off2_wordsbf16 s)
    | 1 => fun s => ((Memref.isWhole_whole main_v2_scs).wordExact_slice rfl _ (k0_off3_wordsbf16 s)).reshape _ _
    | 2 => fun s => ((Memref.isWhole_whole main_v3_scs).wordExact_slice rfl _ (k0_off4_wordsbf16 s)).reshape _ _
    | 3 => fun s => ((Memref.isWhole_whole main_v4_scs).wordExact_slice rfl _ (k0_off5_wordsbf16 s)).reshape _ _
    | 4 => fun s => (View.wordExact_bits rfl).reshape _ _
  hslot := fun
    | 0 => fun s => ((Memref.isWhole_whole main_v6_0_scs).wordExact_slice rfl _ (k0_off1_wordsbf16 s)).reshape _ _
    | 1 => fun s => ((Memref.isWhole_whole main_v6_1_scs).wordExact_slice rfl _ (k0_off3_wordsbf16 s)).reshape _ _
    | 2 => fun s => ((Memref.isWhole_whole main_v6_2_scs).wordExact_slice rfl _ (k0_off4_wordsbf16 s)).reshape _ _
    | 3 => fun s => ((Memref.isWhole_whole main_v6_3_scs).wordExact_slice rfl _ (k0_off5_wordsbf16 s)).reshape _ _
    | 4 => fun s => (View.wordExact_bits rfl).reshape _ _
  hsc := fun | 0 | 1 | 2 | 3 | 4 => fun _ => rfl
  N := fun
    | 0 => (part0 (k0_off2 0) (k0_off2_inb 0)).view.dmaCredit
    | 1 => (part1 (k0_off3 0) (k0_off3_inb 0)).view.dmaCredit
    | 2 => (part2 (k0_off4 0) (k0_off4_inb 0)).view.dmaCredit
    | 3 => (part3 (k0_off5 0) (k0_off5_inb 0)).view.dmaCredit
    | 4 => (part4 (k0_off6 0) (k0_off6_inb 0)).view.dmaCredit
  hNpart := fun | 0 | 1 | 2 | 3 | 4 => fun _ => rfl
  hNslot := fun | 0 | 1 | 2 | 3 | 4 => fun _ => rfl
  N_pos := fun | 0 | 1 | 2 | 3 | 4 => View.dmaCredit_pos _ (by decide)
  sh := fun _ _ => Idealize.SL.RA.fullShare
  recv_inj := fun a b h => by
    have h := congrArg Fin.val h; rw [recvSem_val, recvSem_val] at h
    exact Prod.ext (Fin.ext (by omega)) (Fin.ext (by omega))
  send_inj := fun a b h => by
    have h := congrArg Fin.val h; rw [sendSem_val, sendSem_val] at h
    exact Prod.ext (Fin.ext (by omega)) (Fin.ext (by omega))
  loc_inj := fun a b h => by
    have h := congrArg Fin.val h; rw [locSem_val, locSem_val] at h
    exact Fin.ext (by omega)
  recv_send := fun a b h => by
    have h := congrArg Fin.val h; rw [recvSem_val, sendSem_val] at h; omega
  recv_loc := fun a b h => by
    have h := congrArg Fin.val h; rw [recvSem_val, locSem_val] at h; omega
  send_loc := fun a b h => by
    have h := congrArg Fin.val h; rw [sendSem_val, locSem_val] at h; omega

/-! ## The printed kernel -/

variable {F : FTy → Type} [FloatOps F]

set_option maxHeartbeats 8000000 in
set_option maxRecDepth 10000 in
/-- The printed kernel is the exchange. -/
theorem body_eq : cc0_scatter_1 (F := F) i₀ (Memref.whole main_v1_scs) (Memref.isWhole_whole _) (Memref.whole main_v2_scs) (Memref.isWhole_whole _) (Memref.whole main_v3_scs) (Memref.isWhole_whole _) (Memref.whole main_v4_scs) (Memref.isWhole_whole _) (Memref.whole main_v5_scs) (Memref.isWhole_whole _) (Memref.whole main_v6_0_scs) (Memref.isWhole_whole _) (Memref.whole main_v6_1_scs) (Memref.isWhole_whole _) (Memref.whole main_v6_2_scs) (Memref.isWhole_whole _) (Memref.whole main_v6_3_scs) (Memref.isWhole_whole _) (Memref.whole main_v6_4_scs) (Memref.isWhole_whole _) cc0_scratch0 cc0_scratch1 cc0_scratch2
    = .op .deviceId fun d => X.body d := by
  unfold cc0_scatter_1
  simp only [k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, k0_part45, k0_part46, k0_part47, k0_part48, k0_part49, semSignalWord, semWaitWord, Prog.bind_ret, Prog.bind_op, Prog.bind_lift, Prog.pure_eq_ret]
  refine congrArg (Prog.op _) (funext fun d => ?_)
  rw [Exchange.Ports.body, pairs_flat, show Exchange.order = [1, 3, 5, 2, 4, 6, 0] from rfl, show List.finRange 5 = [0, 1, 2, 3, 4] from rfl]
  simp only [List.flatMap_cons, List.flatMap_nil, List.map_cons, List.map_nil, List.cons_append, List.nil_append, ops_cons, ops_nil]
  iterate 7 refine op_congr (X.signal_eq d _ (by revert d; decide +kernel)) fun _ => ?_
  iterate 6 refine op_congr rfl fun _ => ?_
  iterate 7
    refine op_congr (X.send_eq d _ 0 (at_eq part0 (by revert d; decide +kernel)) (by revert d; decide +kernel)) fun _ => ?_
    refine op_congr (X.send_eq d _ 1 (at_eq part1 (by revert d; decide +kernel)) (by revert d; decide +kernel)) fun _ => ?_
    refine op_congr (X.send_eq d _ 2 (at_eq part2 (by revert d; decide +kernel)) (by revert d; decide +kernel)) fun _ => ?_
    refine op_congr (X.send_eq d _ 3 (at_eq part3 (by revert d; decide +kernel)) (by revert d; decide +kernel)) fun _ => ?_
    refine op_congr (X.send_eq d _ 4 (at_eq part4 (by revert d; decide +kernel)) (by revert d; decide +kernel)) fun _ => ?_
  iterate 7
    refine op_congr (X.recv_eq d _ 0 (at_eq slot0 (by revert d; decide +kernel))) fun _ => ?_
    refine op_congr (X.recv_eq d _ 1 (at_eq slot1 (by revert d; decide +kernel))) fun _ => ?_
    refine op_congr (X.recv_eq d _ 2 (at_eq slot2 (by revert d; decide +kernel))) fun _ => ?_
    refine op_congr (X.recv_eq d _ 3 (at_eq slot3 (by revert d; decide +kernel))) fun _ => ?_
    refine op_congr (X.recv_eq d _ 4 (at_eq slot4 (by revert d; decide +kernel))) fun _ => ?_
  iterate 7
    refine op_congr (X.sent_eq d _ 0 (at_eq part0 (by revert d; decide +kernel))) fun _ => ?_
    refine op_congr (X.sent_eq d _ 1 (at_eq part1 (by revert d; decide +kernel))) fun _ => ?_
    refine op_congr (X.sent_eq d _ 2 (at_eq part2 (by revert d; decide +kernel))) fun _ => ?_
    refine op_congr (X.sent_eq d _ 3 (at_eq part3 (by revert d; decide +kernel))) fun _ => ?_
    refine op_congr (X.sent_eq d _ 4 (at_eq part4 (by revert d; decide +kernel))) fun _ => ?_
  iterate 5 refine op_congr rfl fun _ => ?_
  rfl

end Cert.Proof.Scatter1

end
-- ==== Proof.HostRun.lean ====
/- A program that is host operations, one exchange, host operations: its run, from the exchange's. -/
module

public import proofs.«01_k».proof.Proof.Launch
public import Idealize.ShloMosaic.Lib.SparseCore.Quiescent
public import Idealize.ShloMosaic.Lib.StableHlo.Run
public import Idealize.ShloMosaic.Lib.Pipeline.Frame
public import Idealize.ShloMosaic.Lib.Tactic

@[expose] public section

noncomputable section

namespace Exchange

open Idealize.ShloMosaic
open Idealize.ShloMosaic.SparseCore (S V T)
open Idealize.ShloMosaic.SparseCore.Cfg (HIx)
open Idealize.ShloMosaic.StableHlo (held after seq wp_seq held_sub_split held_congr)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Exchange.Ports (UU EH)

variable {τ : Topo} {sig : RefSig} {n : ℕ} {Val : EltTy → Type}

local notation "𝕄" => MT 8 τ sig (HIx 1) Val ℕ (UU τ sig) ℕ

/-- The arrays of a device, as the launch finds them. -/
abbrev atLaunch (m : (ℓ : Loc 8 τ sig) → Buf Val ℓ) (d : Fin 8) : Valuation τ sig Val := fun b => m (d, b)

/-- The arrays `V` with `o` laid over the arrays `land`. -/
def overlay (land : Fin n → DevRef τ sig) (o : (i : Fin n) → (land i).ty.Contents Val) (V : Valuation τ sig Val) : Valuation τ sig Val := fun b => by
  classical exact if h : ∃ i, land i = b then h.choose_spec ▸ o h.choose else V b

theorem overlay_land {land : Fin n → DevRef τ sig} (hl : Function.Injective land) (o : (i : Fin n) → (land i).ty.Contents Val) (V : Valuation τ sig Val) (i : Fin n) :
    overlay land o V (land i) = o i := by
  have h : ∃ j, land j = land i := ⟨i, rfl⟩
  have key : ∀ (j : Fin n) (e : land j = land i), (e ▸ o j : (land i).ty.Contents Val) = o i := fun j e => by
    obtain rfl := hl e; rfl
  unfold overlay; rw [dif_pos h]; exact key _ _

theorem overlay_other {land : Fin n → DevRef τ sig} (o : (i : Fin n) → (land i).ty.Contents Val) (V : Valuation τ sig Val) (b : DevRef τ sig) (h : ∀ i, b ≠ land i) :
    overlay land o V b = V b := by
  unfold overlay; exact dif_neg fun ⟨i, e⟩ => h i e.symm

section Arrays

variable (X : Ports τ sig n) (fs : X.Src Val)
variable (src land : Fin n → DevRef τ sig) (A : (i : Fin n) → (d : Fin 8) → Buf Val ((d, src i) : Loc 8 τ sig)) (out : (i : Fin n) → (d : Fin 8) → Buf Val ((d, land i) : Loc 8 τ sig))

/-- The exchange's parts are the source arrays, its slots the landing arrays, and what lands is `out`. -/
structure Covers : Prop where
  parts : ∀ i d, (bigSep Finset.univ fun s => X.partPts (U := UU τ sig) fs d i s) = (((d, src i) : Loc 8 τ sig) ↦{fullShare} A i d : sProp 𝕄)
  slots : ∀ i d, (iprop(∃ f, ((d, land i) : Loc 8 τ sig) ↦{fullShare} f) : sProp 𝕄) ⊢ bigSep Finset.univ fun s => X.slotPts (Val := Val) (U := UU τ sig) d i s
  landed : ∀ i d, (bigSep Finset.univ fun s => X.landed (U := UU τ sig) fs d i s) ⊢ (((d, land i) : Loc 8 τ sig) ↦{fullShare} out i d : sProp 𝕄)

variable {X fs src land A out}

/-- The arrays a call names. -/
abbrev srcs (src : Fin n → DevRef τ sig) : Finset (DevRef τ sig) := Finset.univ.image src

theorem held_image (r : Fin n → DevRef τ sig) (hr : Function.Injective r) (d : Fin 8) (W : Valuation τ sig Val) :
    (held (SparseCore.T d) (Finset.univ.image r) W : sProp 𝕄) = bigSep Finset.univ fun i => (((d, r i) : Loc 8 τ sig) ↦{fullShare} W (r i)) := by
  unfold held; exact SparseCore.bigSep_image_of_injOn (fun a _ b _ e => hr e) _

theorem piece_any (d : Fin 8) (b : DevRef τ sig) (f : Buf Val ((d, b) : Loc 8 τ sig)) :
    ((((d, b) : Loc 8 τ sig) ↦{fullShare} f) : sProp 𝕄) ⊢ iprop(∃ f, ((d, b) : Loc 8 τ sig) ↦{fullShare} f) := by
  iintro H; iexists f; iexact H

/-- From the whole arrays what the call is handed; -/
theorem Covers.give (h : Covers X fs src land A out) (hs : Function.Injective src) (hl : Function.Injective land) (d : Fin 8) (W : Valuation τ sig Val)
    (hW : ∀ i, W (src i) = A i d) :
    (iprop(held (SparseCore.T d) (srcs src) W ∗ held (SparseCore.T d) (srcs land) W) : sProp 𝕄) ⊢ X.given fs d := by
  rw [held_image src hs, held_image land hl]
  unfold Ports.given
  refine BI.sep_mono ?_ ?_
  · refine bigSep_mono fun i _ => ?_
    rw [hW, h.parts]; exact fun _ h => h
  · exact bigSep_mono fun i _ => (piece_any d (land i) _).trans (h.slots i d)

/-- from what it hands back the whole arrays, the landing arrays full. -/
theorem Covers.take (h : Covers X fs src land A out) (hs : Function.Injective src) (hl : Function.Injective land) (d : Fin 8) (W : Valuation τ sig Val)
    (hW : ∀ i, W (src i) = A i d) (hW' : ∀ i, W (land i) = out i d) :
    (X.taken fs d : sProp 𝕄) ⊢ iprop(held (SparseCore.T d) (srcs src) W ∗ held (SparseCore.T d) (srcs land) W ∗ semVal (X.gc d cBar) 0) := by
  rw [held_image src hs, held_image land hl]
  unfold Ports.taken
  refine BI.sep_mono ?_ (BI.sep_mono ?_ fun _ h => h)
  · refine bigSep_mono fun i _ => ?_
    rw [hW, h.parts]; exact fun _ h => h
  · refine bigSep_mono fun i _ => ?_
    rw [hW']; exact h.landed i d

end Arrays

section Run

variable {X : Ports τ sig n} {ΛK : Labels} {K : SparseCore.Cfg τ sig ΛK 1} {D : Defs 8 τ sig Val ΛK} {𝒱 : Variants}

/-- The sets the call's arrays are cut from: sources, landing arrays, the rest. -/
theorem held_cut {src land : Fin n → DevRef τ sig} (hsu : ∀ i, src i ∈ ucRefs τ sig) (hlu : ∀ i, land i ∈ ucRefs τ sig) (hsl : ∀ i j, src i ≠ land j)
    (d : Fin 8) (W : Valuation τ sig Val) :
    (held (SparseCore.T d) (ucRefs τ sig) W : sProp 𝕄)
      = iprop((held (SparseCore.T d) (srcs src) W ∗ held (SparseCore.T d) (srcs land) W) ∗ held (SparseCore.T d) ((ucRefs τ sig \ srcs src) \ srcs land) W) := by
  have h1 : srcs src ⊆ ucRefs τ sig := fun b hb => by obtain ⟨i, -, rfl⟩ := Finset.mem_image.mp hb; exact hsu i
  have h2 : srcs land ⊆ ucRefs τ sig \ srcs src := fun b hb => by
    obtain ⟨i, -, rfl⟩ := Finset.mem_image.mp hb
    refine Finset.mem_sdiff.mpr ⟨hlu i, fun h => ?_⟩
    obtain ⟨j, -, e⟩ := Finset.mem_image.mp h
    exact hsl j i e
  rw [held_sub_split (SparseCore.T d) h1 W, held_sub_split (SparseCore.T d) h2 W]
  exact BI.equiv_iff.mp ⟨BI.sep_assoc', BI.sep_assoc⟩

variable (fs : X.Src Val) (hX : X.Fits K) (v₀ : 𝒱.V)

/-- What is read of device `d`'s final state. -/
def reads (X : Ports τ sig n) (V : Fin 8 → Valuation τ sig Val) (d : Fin 8) (s' : Phys 8 τ sig Val) : Prop :=
  (∀ b ∈ ucRefs τ sig, s'.mem.mem (d, b) = V d b) ∧ s'.mem.sem (X.gc d cBar) = 0

theorem reads_of_held (V : Fin 8 → Valuation τ sig Val) (d : Fin 8) (s' : Phys 8 τ sig Val) :
    iprop((held (SparseCore.T d) (ucRefs τ sig) (V d) ∗ semVal (X.gc d cBar) 0) ∗ SI s') ⊢ (⌜reads X V d s'⌝ : sProp 𝕄) := by
  unfold held
  iintro ⟨⟨H, Hs⟩, HSI⟩
  ihave H' := (persistent_entails_right (SI_pointsTo_bufs_agree (c := d) (qs := fun _ => fullShare) (F := V d) (st := s') (ucRefs τ sig))) $$ [HSI H]
  · isplitl [HSI]; · iexact HSI
    iexact H
  icases H' with ⟨%h, HSI, -⟩
  ihave H := (SparseCore.ent (SparseCore.Cfg.semVal_zero_read (X.gc d cBar) s')) $$ [HSI Hs]
  · isplitl [Hs] <;> iassumption
  icases H with %hs
  ipureintro
  exact ⟨fun b hb => h b hb, hs⟩

theorem bar_of_reads (V : Fin 8 → Valuation τ sig Val) (s' : Phys 8 τ sig Val) (h : ∀ d, reads X V d s') : ∀ g' ∈ X.barCells, s'.mem.sem g' = 0 := by
  intro g' hg
  obtain ⟨d, -, rfl⟩ := Finset.mem_image.mp hg
  exact (h d).2

section Main

variable {src land : Fin n → DevRef τ sig} {A : (i : Fin n) → (d : Fin 8) → Buf Val ((d, src i) : Loc 8 τ sig)} {out : (i : Fin n) → (d : Fin 8) → Buf Val ((d, land i) : Loc 8 τ sig)}
variable (hC : Covers X fs src land A out) (hs : Function.Injective src) (hl : Function.Injective land) (hsl : ∀ i j, src i ≠ land j)
variable (hsu : ∀ i, src i ∈ ucRefs τ sig) (hlu : ∀ i, land i ∈ ucRefs τ sig) (hn : K.nCore 0 = 1)
variable (m : (ℓ : Loc 8 τ sig) → Buf Val ℓ) (ρ : Dev 8 → PrngReg)
variable (pre post : List (HloOp τ sig Val)) (hpre : ∀ op ∈ pre, op.bufs ⊆ StableHlo.tcRefs τ sig) (hpost : ∀ op ∈ post, op.bufs ⊆ StableHlo.tcRefs τ sig)
variable (hpre' : ∀ op ∈ pre, op.fresh = ∅) (hpost' : ∀ op ∈ post, op.fresh = ∅)
variable (hA : ∀ i d, after pre (atLaunch m d) (src i) = A i d)

/-- The arrays of device `d` as the call leaves them. -/
abbrev left (land : Fin n → DevRef τ sig) (out : (i : Fin n) → (d : Fin 8) → Buf Val ((d, land i) : Loc 8 τ sig)) (pre : List (HloOp τ sig Val)) (m : (ℓ : Loc 8 τ sig) → Buf Val ℓ) (d : Fin 8) : Valuation τ sig Val :=
  overlay land (fun i => out i d) (after pre (atLaunch m d))

include hC hs hl hsl hsu hlu hn hpre hpost hpre' hpost' hA

set_option backward.isDefEq.respectTransparency.types false in
theorem wp_host (κ : GSem 8 τ sig → ℕ) (d : Fin 8) :
    iprop(K.ctx EH (X.P fs hX) κ ∗ K.tcSt EH d 0 ∗ K.tcRes m ρ d ∗ emp)
      ⊢ wp frame (wpE (K.defs D) 𝒱 (SparseCore.T d) none) Set.univ (seq pre >>= fun _ => K.run d 0 >>= fun _ => seq post >>= fun _ => Pure.pure PUnit.unit)
          fun _ => iprop(K.tcSt EH d 1 ∗ (held (SparseCore.T d) (ucRefs τ sig) (after post (left land out pre m d)) ∗ semVal (X.gc d cBar) 0) ∗ K.tcEnd d) := by
  haveI : Subsingleton (Fin (K.nCore 0)) := by rw [hn]; infer_instance
  have st0 : (bigSep Finset.univ fun c : Fin (K.nCore 0) => (X.P fs hX).st 0 d c) = X.given fs d := bigSep_univ_of_subsingleton (⟨0, by rw [hn]; decide⟩ : Fin (K.nCore 0))
  have dn0 : (bigSep Finset.univ fun c : Fin (K.nCore 0) => (X.P fs hX).dn 0 d c) = X.taken fs d := bigSep_univ_of_subsingleton (⟨0, by rw [hn]; decide⟩ : Fin (K.nCore 0))
  unfold SparseCore.Cfg.tcRes SparseCore.Cfg.tcEnd
  rw [show (unscopedBufs d (fun b => m ((SparseCore.T d).loc b)) : sProp 𝕄) = held (SparseCore.T d) (ucRefs τ sig) (atLaunch m d) from
    Pipeline.unscopedBufs_held d (atLaunch m d)]
  iintro ⟨#Hctx, Hst, ⟨Hb, Hheld, Hts, -⟩, -⟩
  iapply (wp_seq 𝒱 none Set.univ d (ucRefs τ sig) _ pre (fun op h => Pipeline.sub_ucRefs op (hpre op h)) hpre' (atLaunch m d)) $$ [Hb Hheld]
  · isplitl [Hb] <;> iassumption
  iintro ⟨Hb, Hheld⟩
  rw [wp_bind]
  ihave Hh := (Entails.of_eq (held_cut hsu hlu hsl d (after pre (atLaunch m d)))) $$ Hheld
  icases Hh with ⟨Hcall, Hrest⟩
  iapply (K.wp_run D 𝒱 (EH := EH) (P := X.P fs hX) κ d 0) $$ [Hst Hcall Hrest Hb Hts]
  isplitr; · iexact Hctx
  isplitl [Hst]; · iexact Hst
  isplitl [Hcall]
  · rw [st0]
    iapply (SparseCore.ent (hC.give hs hl d (after pre (atLaunch m d)) fun i => hA i d))
    iexact Hcall
  iintro ⟨Hst, Hdn⟩
  ihave Hdn' := (Entails.of_eq dn0) $$ Hdn
  ihave Hdn2 := (SparseCore.ent (hC.take hs hl d (left land out pre m d) (fun i => (overlay_other _ _ _ fun j => hsl i j).trans (hA i d)) fun i => overlay_land hl _ _ i)) $$ Hdn'
  icases Hdn2 with ⟨H1, H2, Hbar⟩
  iapply (wp_seq 𝒱 none Set.univ d (ucRefs τ sig) _ post (fun op h => Pipeline.sub_ucRefs op (hpost op h)) hpost' (left land out pre m d)) $$ [Hb H1 H2 Hrest]
  · isplitl [Hb]; · iexact Hb
    iapply (SparseCore.ent (Entails.of_eq (held_cut hsu hlu hsl d (left land out pre m d)).symm))
    isplitl [H1 H2]
    · isplitl [H1] <;> iassumption
    iapply (SparseCore.ent (Entails.of_eq (held_congr (SparseCore.T d) (S := (ucRefs τ sig \ srcs src) \ srcs land) (V := after pre (atLaunch m d)) (V' := left land out pre m d) fun b hb =>
      (overlay_other _ _ b fun i e => (Finset.mem_sdiff.mp hb).2 (e ▸ Finset.mem_image_of_mem land (Finset.mem_univ i))).symm)))
    iexact Hrest
  iintro ⟨Hb, Hheld⟩
  rw [wp_pure]; imodintro
  isplitl [Hst]; · iexact Hst
  isplitr [Hb Hts]
  · isplitl [Hheld] <;> iassumption
  isplitl [Hb] <;> iassumption

/-- **The run** of such a program: nothing faults, every execution ends, every array holds what the host operations after the
    call make of the arrays as the call leaves them, and every semaphore is at zero. -/
theorem run_host [∀ e, Nonempty (Val e)] (hF : K.Facts) (hscalar : K.ScalarObl' D 𝒱 (X.P fs hX) v₀ 0)
    (main : Dev 8 → Prog (TpuEff 8 τ sig Val (SparseCore.Sig ΛK 1) .tc) PUnit)
    (hmain : ∀ d, main d = (seq pre >>= fun _ => K.run d 0 >>= fun _ => seq post >>= fun _ => Pure.pure PUnit.unit)) :
    θ_run (K.defs D) (K.threads main) ⟨m, fun _ => 0, ρ⟩ fun r => (∀ d : Dev 8, ∀ b ∈ ucRefs τ sig, r.2.mem (d, b) = after post (left land out pre m d) b) ∧ r.2.sem = fun _ => 0 :=
  SparseCore.Cfg.θ_run_sc_held_quiescent (K := K) (D := D) (𝒱 := 𝒱) (EH := EH) (P := X.P fs hX) (A := X.barCells)
    (hA := bar_of_reads fun d => after post (left land out pre m d)) (hran := X.held_ran fs hX) hF v₀
    (fun q _ => match q with | 0 => hscalar) (fun q hq => X.pay_vec hX q hq) (fun q hq => X.pay_vec hX q hq)
    m ρ main (fun _ => iprop(emp)) (fun d => iprop(held (SparseCore.T d) (ucRefs τ sig) (after post (left land out pre m d)) ∗ semVal (X.gc d cBar) 0)) (X.u₀ K) (X.hu₀ fs hX)
    (fun κ d => by
      rw [hmain]
      exact wp_host fs hX hC hs hl hsl hsu hlu hn m ρ pre post hpre hpost hpre' hpost' hA κ d)
    (reads X fun d => after post (left land out pre m d)) (reads_of_held fun d => after post (left land out pre m d)) _ (fun _ h hz => ⟨fun d => (h d).1, hz⟩)

end Main

end Run

/-- An array the host's operations after the call and before leave alone is as the launch found it. -/
theorem kept {land : Fin n → DevRef τ sig} {out : (i : Fin n) → (d : Fin 8) → Buf Val ((d, land i) : Loc 8 τ sig)} {pre post : List (HloOp τ sig Val)} (m : (ℓ : Loc 8 τ sig) → Buf Val ℓ)
    (b : DevRef τ sig) (hl : ∀ i, b ≠ land i) (hpre : ∀ V, after pre V b = V b) (hpost : ∀ V, after post V b = V b) (d : Fin 8) :
    after post (left land out pre m d) b = m (d, b) := (hpost _).trans ((overlay_other _ _ b hl).trans (hpre _))

/-- The TensorCore's arrays that no kernel scopes are among those a run tells of. -/
theorem uc_mem (b : Ref sig .tc) (h : (Proc.devRef (τ := τ) .tc b).isScoped = false) : Proc.devRef (τ := τ) .tc b ∈ ucRefs τ sig :=
  Finset.mem_filter.mpr ⟨StableHlo.devRef_mem_tcRefs b, fun e => absurd (h.symm.trans e) (by decide)⟩

end Exchange

end
-- ==== Proof.Scatter1Run.lean ====
/- The first exchange's program: how the parts and slots lie in its arrays, what every array ends at, and its run. -/
module

public import proofs.«01_k».proof.Proof.Scatter1Body
public import proofs.«01_k».proof.Proof.HostRun

@[expose] public section

set_option synthInstance.maxSize 4096

noncomputable section

namespace Cert.Proof.Scatter1

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.StableHlo (after)
open Exchange (peer cBar mem_of_eq row_mem rows_holds col_mem cols_holds colOf pieces_eq pieces_some pieces_join Covers atLaunch)
open Exchange.Ports (UU EH u₀)

theorem off1_at : ∀ s : Fin 8, k0_off1 s = ![s.val, 0, 0] := by decide +kernel
theorem off2_at : ∀ s : Fin 8, k0_off2 s = ![0, 384 * s.val] := by decide +kernel
theorem off3_at : ∀ s : Fin 8, k0_off3 s = ![s.val, 0, 0] := by decide +kernel
theorem off4_at : ∀ s : Fin 8, k0_off4 s = ![s.val, 0, 0] := by decide +kernel
theorem off5_at : ∀ s : Fin 8, k0_off5 s = ![s.val, 0, 0] := by decide +kernel
theorem off6_at : ∀ s : Fin 8, k0_off6 s = ![s.val, 0, 0] := by decide +kernel

/-! ## Which part, which slot an element is of -/

theorem part0_mem (t : Fin 8) (i : S1024x3072.Idx) : i ∈ (part0 (k0_off2 t) (k0_off2_inb t)).view.set ↔ colOf (q := 384) rfl i = t :=
  (mem_of_eq (View.set_slice_whole _ _)).trans (col_mem rfl (off2_at t) i)
theorem part1_mem (t : Fin 8) (i : S8x128x1024.Idx) : i ∈ (part1 (k0_off3 t) (k0_off3_inb t)).view.set ↔ (i 0 : Fin 8) = t :=
  (mem_of_eq ((View.set_reshape _ _).trans (View.set_slice_whole _ _))).trans (row_mem (off3_at t) i)
theorem part2_mem (t : Fin 8) (i : S8x704x1024.Idx) : i ∈ (part2 (k0_off4 t) (k0_off4_inb t)).view.set ↔ (i 0 : Fin 8) = t :=
  (mem_of_eq ((View.set_reshape _ _).trans (View.set_slice_whole _ _))).trans (row_mem (off4_at t) i)
theorem part3_mem (t : Fin 8) (i : S8x352x1024.Idx) : i ∈ (part3 (k0_off5 t) (k0_off5_inb t)).view.set ↔ (i 0 : Fin 8) = t :=
  (mem_of_eq ((View.set_reshape _ _).trans (View.set_slice_whole _ _))).trans (row_mem (off5_at t) i)
theorem part4_mem (t : Fin 8) (i : S8x3x768.Idx) : i ∈ (part4 (k0_off6 t) (k0_off6_inb t)).view.set ↔ (i 0 : Fin 8) = t :=
  (mem_of_eq ((View.set_reshape _ _).trans (View.set_slice_whole _ _))).trans (row_mem (off6_at t) i)
theorem slot0_mem (t : Fin 8) (i : S8x1024x384.Idx) : i ∈ (slot0 (k0_off1 t) (k0_off1_inb t)).view.set ↔ (i 0 : Fin 8) = t :=
  (mem_of_eq ((View.set_reshape _ _).trans (View.set_slice_whole _ _))).trans (row_mem (off1_at t) i)
theorem slot1_mem (t : Fin 8) (i : S8x128x1024.Idx) : i ∈ (slot1 (k0_off3 t) (k0_off3_inb t)).view.set ↔ (i 0 : Fin 8) = t :=
  (mem_of_eq ((View.set_reshape _ _).trans (View.set_slice_whole _ _))).trans (row_mem (off3_at t) i)
theorem slot2_mem (t : Fin 8) (i : S8x704x1024.Idx) : i ∈ (slot2 (k0_off4 t) (k0_off4_inb t)).view.set ↔ (i 0 : Fin 8) = t :=
  (mem_of_eq ((View.set_reshape _ _).trans (View.set_slice_whole _ _))).trans (row_mem (off4_at t) i)
theorem slot3_mem (t : Fin 8) (i : S8x352x1024.Idx) : i ∈ (slot3 (k0_off5 t) (k0_off5_inb t)).view.set ↔ (i 0 : Fin 8) = t :=
  (mem_of_eq ((View.set_reshape _ _).trans (View.set_slice_whole _ _))).trans (row_mem (off5_at t) i)
theorem slot4_mem (t : Fin 8) (i : S8x3x768.Idx) : i ∈ (slot4 (k0_off6 t) (k0_off6_inb t)).view.set ↔ (i 0 : Fin 8) = t :=
  (mem_of_eq ((View.set_reshape _ _).trans (View.set_slice_whole _ _))).trans (row_mem (off6_at t) i)

section Contents
variable {Val : EltTy → Type}

/-- The arrays of the call, and what they hold before and after: slot `s` of device `d` holds part `d` of device `s`. -/
abbrev src : Fin 5 → DevRef τ sig := fun
  | 0 => Proc.devRef .tc (main_v1 : Ref sig .tc) | 1 => Proc.devRef .tc (main_v2 : Ref sig .tc) | 2 => Proc.devRef .tc (main_v3 : Ref sig .tc)
  | 3 => Proc.devRef .tc (main_v4 : Ref sig .tc) | 4 => Proc.devRef .tc (main_v5 : Ref sig .tc)
abbrev land : Fin 5 → DevRef τ sig := fun
  | 0 => Proc.devRef .tc (main_v6_0 : Ref sig .tc) | 1 => Proc.devRef .tc (main_v6_1 : Ref sig .tc) | 2 => Proc.devRef .tc (main_v6_2 : Ref sig .tc)
  | 3 => Proc.devRef .tc (main_v6_3 : Ref sig .tc) | 4 => Proc.devRef .tc (main_v6_4 : Ref sig .tc)

variable (A : (i : Fin 5) → (d : Fin 8) → Buf Val ((d, src i) : Loc 8 τ sig))

abbrev out : (i : Fin 5) → (d : Fin 8) → Buf Val ((d, land i) : Loc 8 τ sig) := fun
  | 0 => fun d => Exchange.colsOut (r := 3072) rfl (A 0) d
  | 1 => fun d => Exchange.rowsOut (A 1) d
  | 2 => fun d => Exchange.rowsOut (A 2) d
  | 3 => fun d => Exchange.rowsOut (A 3) d
  | 4 => fun d => Exchange.rowsOut (A 4) d

/-- What the exchange reads. -/
abbrev fs : X.Src Val := fun
  | 0 => fun d _ => A 0 d | 1 => fun d _ => A 1 d | 2 => fun d _ => A 2 d | 3 => fun d _ => A 3 d | 4 => fun d _ => A 4 d

local notation "𝕄" => MT 8 τ sig (HIx 1) Val ℕ (UU τ sig) ℕ

/-- The parts are the sources, the slots the landing arrays, and what lands is `out`. -/
theorem covers : Covers X (fs A) src land A (out A) where
  parts := fun
    | 0 => fun d => pieces_eq (ℓ := ((d, src 0) : Loc 8 τ sig)) (K := fun t => (X.part 0 t).view.set) _ part0_mem fullShare (A 0 d)
    | 1 => fun d => pieces_eq (ℓ := ((d, src 1) : Loc 8 τ sig)) (K := fun t => (X.part 1 t).view.set) _ part1_mem fullShare (A 1 d)
    | 2 => fun d => pieces_eq (ℓ := ((d, src 2) : Loc 8 τ sig)) (K := fun t => (X.part 2 t).view.set) _ part2_mem fullShare (A 2 d)
    | 3 => fun d => pieces_eq (ℓ := ((d, src 3) : Loc 8 τ sig)) (K := fun t => (X.part 3 t).view.set) _ part3_mem fullShare (A 3 d)
    | 4 => fun d => pieces_eq (ℓ := ((d, src 4) : Loc 8 τ sig)) (K := fun t => (X.part 4 t).view.set) _ part4_mem fullShare (A 4 d)
  slots := fun
    | 0 => fun d => pieces_some (ℓ := ((d, land 0) : Loc 8 τ sig)) (K := fun t => (X.slot 0 t).view.set) _ slot0_mem
    | 1 => fun d => pieces_some (ℓ := ((d, land 1) : Loc 8 τ sig)) (K := fun t => (X.slot 1 t).view.set) _ slot1_mem
    | 2 => fun d => pieces_some (ℓ := ((d, land 2) : Loc 8 τ sig)) (K := fun t => (X.slot 2 t).view.set) _ slot2_mem
    | 3 => fun d => pieces_some (ℓ := ((d, land 3) : Loc 8 τ sig)) (K := fun t => (X.slot 3 t).view.set) _ slot3_mem
    | 4 => fun d => pieces_some (ℓ := ((d, land 4) : Loc 8 τ sig)) (K := fun t => (X.slot 4 t).view.set) _ slot4_mem
  landed := fun
    | 0 => fun d => pieces_join (ℓ := ((d, land 0) : Loc 8 τ sig)) (K := fun t => (X.slot 0 t).view.set) _ slot0_mem (out A 0 d)
        (fun t f => (X.slot 0 t).view.read Val f = (X.part 0 d).view.read Val (A 0 t)) fun t f h x hx => cols_holds (α := Val .bf16) rfl squeezes_S1x1024x384_S1024x384 (k0_off1_inb t) (k0_off2_inb d) (A 0) (off1_at t) (off2_at d) f h x ((slot0_mem t x).mp hx)
    | 1 => fun d => pieces_join (ℓ := ((d, land 1) : Loc 8 τ sig)) (K := fun t => (X.slot 1 t).view.set) _ slot1_mem (out A 1 d)
        (fun t f => (X.slot 1 t).view.read Val f = (X.part 1 d).view.read Val (A 1 t)) fun t f h x hx => rows_holds (α := Val .bf16) squeezes_S1x128x1024_S128x1024 (k0_off3_inb t) (k0_off3_inb d) (A 1) (off3_at t) (off3_at d) f h x ((slot1_mem t x).mp hx)
    | 2 => fun d => pieces_join (ℓ := ((d, land 2) : Loc 8 τ sig)) (K := fun t => (X.slot 2 t).view.set) _ slot2_mem (out A 2 d)
        (fun t f => (X.slot 2 t).view.read Val f = (X.part 2 d).view.read Val (A 2 t)) fun t f h x hx => rows_holds (α := Val .bf16) squeezes_S1x704x1024_S704x1024 (k0_off4_inb t) (k0_off4_inb d) (A 2) (off4_at t) (off4_at d) f h x ((slot2_mem t x).mp hx)
    | 3 => fun d => pieces_join (ℓ := ((d, land 3) : Loc 8 τ sig)) (K := fun t => (X.slot 3 t).view.set) _ slot3_mem (out A 3 d)
        (fun t f => (X.slot 3 t).view.read Val f = (X.part 3 d).view.read Val (A 3 t)) fun t f h x hx => rows_holds (α := Val .bf16) squeezes_S1x352x1024_S352x1024 (k0_off5_inb t) (k0_off5_inb d) (A 3) (off5_at t) (off5_at d) f h x ((slot3_mem t x).mp hx)
    | 4 => fun d => pieces_join (ℓ := ((d, land 4) : Loc 8 τ sig)) (K := fun t => (X.slot 4 t).view.set) _ slot4_mem (out A 4 d)
        (fun t f => (X.slot 4 t).view.read Val f = (X.part 4 d).view.read Val (A 4 t)) fun t f h x hx => rows_holds (α := Val .f32) squeezes_S1x3x768_S3x768 (k0_off6_inb t) (k0_off6_inb d) (A 4) (off6_at t) (off6_at d) f h x ((slot4_mem t x).mp hx)

end Contents

/-! ## The launch -/

variable {F : FTy → Type} [FloatOps F]

local notation "𝕄" => MT 8 τ sig (HIx 1) (Elt F) ℕ (UU τ sig) ℕ

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem sc_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The exchange fits the launch. -/
theorem fits : X.Fits (K (F := F)) where
  hs := show X.bar ≠ sc_start by decide
  ht := show X.bar ≠ sc_taskDone by decide
  hbar := show (SemLoc.reg X.bar : SemLoc sig).isScoped .scScalar = false by decide
  hdma := show ∀ x : Exchange.Ports.DCell 5, (X.sem (Exchange.Ports.dc x)).isScoped .scScalar = true by decide +kernel
  hkind := rfl
  hcall := show (i₀ 0).val < 1 by decide

set_option maxRecDepth 10000 in
theorem scalarObl (f : X.Src (Elt F)) : (K (F := F)).ScalarObl' (D (F := F)) 𝒱 (X.P f fits) v₀ 0 := by
  rintro d ⟨cv, hcv⟩ O W hO hOlev -
  obtain rfl : cv = 0 := by have : (K (F := F)).nCore 0 = 1 := rfl; omega
  change _ ⊢ wp _ _ _ (Pipeline.liftProg (defs₀ (F := F) (.scScalar ((K (F := F)).core 0 ⟨0, hcv⟩)) 0 ())) _
  refine BI.Entails.trans ?_ (Pipeline.wp_liftProg (D (F := F)) (Pipeline.defs_kernel pcfgs defs₀) 𝒱₀ _ Set.univ none _ _)
  have hc : ((K (F := F)).core 0 ⟨0, hcv⟩).val < grid0.bound 0 := hcv
  rw [show (X.P f fits).x 0 (S d ((K (F := F)).core 0 ⟨0, hcv⟩)) = X.kit f d from X.Px_S f fits d,
    show (X.P f fits).ox 0 (S d ((K (F := F)).core 0 ⟨0, hcv⟩)) = X.ox d from X.Pox_S f fits d]
  refine (X.wp_kernel f fits (defs₀ (F := F)) 𝒱₀ d O W hOlev).trans ?_
  refine (Entails.of_eq (wp_deviceId 𝒱₀ (S d X.c₀) none Set.univ).symm).trans ?_
  exact Entails.of_eq (congrArg (fun p => wp frame (wpE (defs₀ (F := F)) 𝒱₀ (S d X.c₀) none) Set.univ p _) body_eq.symm)

/-! ## The program -/

abbrev pre : List (HloOp τ sig (Elt F)) :=
  [ StableHlo.reshape main_arg0 main_v1 (rfl : (.bf16 : EltTy) = .bf16) shapeCasts_S1x1024x3072_S1024x3072,
    StableHlo.reshape main_arg1 main_v2 (rfl : (.bf16 : EltTy) = .bf16) shapeCasts_S1x8x128x1024_S8x128x1024,
    StableHlo.reshape main_arg2 main_v3 (rfl : (.bf16 : EltTy) = .bf16) shapeCasts_S1x8x704x1024_S8x704x1024,
    StableHlo.reshape main_arg3 main_v4 (rfl : (.bf16 : EltTy) = .bf16) shapeCasts_S1x8x352x1024_S8x352x1024,
    StableHlo.reshape main_arg4 main_v5 (rfl : (.f32 : EltTy) = .f32) shapeCasts_S1x8x3x768_S8x3x768 ]

abbrev post : List (HloOp τ sig (Elt F)) :=
  [ StableHlo.unary main_v6_0 main_v7 (broadcastInDim S1x8x1024x384 ![1, 2, 3] bcast_S8x1024x384_S1x8x1024x384_1_2_3 : (⟨S8x1024x384, .bf16⟩ : BufTy).Contents (Elt F) → (⟨S1x8x1024x384, .bf16⟩ : BufTy).Contents (Elt F)),
    StableHlo.unary main_v6_1 main_v8 (broadcastInDim S1x8x128x1024 ![1, 2, 3] bcast_S8x128x1024_S1x8x128x1024_1_2_3 : (⟨S8x128x1024, .bf16⟩ : BufTy).Contents (Elt F) → (⟨S1x8x128x1024, .bf16⟩ : BufTy).Contents (Elt F)),
    StableHlo.unary main_v6_2 main_v9 (broadcastInDim S1x8x704x1024 ![1, 2, 3] bcast_S8x704x1024_S1x8x704x1024_1_2_3 : (⟨S8x704x1024, .bf16⟩ : BufTy).Contents (Elt F) → (⟨S1x8x704x1024, .bf16⟩ : BufTy).Contents (Elt F)),
    StableHlo.unary main_v6_3 main_v10 (broadcastInDim S1x8x352x1024 ![1, 2, 3] bcast_S8x352x1024_S1x8x352x1024_1_2_3 : (⟨S8x352x1024, .bf16⟩ : BufTy).Contents (Elt F) → (⟨S1x8x352x1024, .bf16⟩ : BufTy).Contents (Elt F)),
    StableHlo.unary main_v6_4 main_v11 (broadcastInDim S1x8x3x768 ![1, 2, 3] bcast_S8x3x768_S1x8x3x768_1_2_3 : (⟨S8x3x768, .f32⟩ : BufTy).Contents (Elt F) → (⟨S1x8x3x768, .f32⟩ : BufTy).Contents (Elt F)) ]

theorem pre_sub : ∀ op ∈ (pre : List (HloOp τ sig (Elt F))), op.bufs ⊆ StableHlo.tcRefs τ sig :=
  List.forall_iff_forall_mem.mp ⟨StableHlo.reshape_bufs_sub .., StableHlo.reshape_bufs_sub .., StableHlo.reshape_bufs_sub .., StableHlo.reshape_bufs_sub .., StableHlo.reshape_bufs_sub ..⟩
theorem post_sub : ∀ op ∈ (post : List (HloOp τ sig (Elt F))), op.bufs ⊆ StableHlo.tcRefs τ sig :=
  List.forall_iff_forall_mem.mp ⟨StableHlo.unary_bufs_sub .., StableHlo.unary_bufs_sub .., StableHlo.unary_bufs_sub .., StableHlo.unary_bufs_sub .., StableHlo.unary_bufs_sub ..⟩

theorem main_eq (d : Dev nD) : main (F := F) d = (StableHlo.seq pre >>= fun _ => (K (F := F)).run d 0 >>= fun _ => StableHlo.seq post >>= fun _ => Pure.pure PUnit.unit) := rfl

variable (m : (ℓ : Loc nD τ sig) → Buf (Elt F) ℓ) (ρ : Dev nD → PrngReg)

/-- What the call finds in its sources. -/
abbrev A : (i : Fin 5) → (d : Fin 8) → Buf (Elt F) ((d, src i) : Loc 8 τ sig) := fun i d => after pre (atLaunch m d) (src i)

/-- **The run**: nothing faults, every execution ends, every array holds what the host operations after the call make of what
    the call leaves, every semaphore is at zero. -/
theorem run_main : θ_run (defs (F := F)) (threads (F := F)) ⟨m, fun _ => 0, ρ⟩ (fun r =>
    (∀ d : Fin 8, ∀ b ∈ Pipeline.ucRefs τ sig, r.2.mem (d, b) = after post (Exchange.left land (out (A m)) pre m d) b) ∧ r.2.sem = fun _ => 0) :=
  Exchange.run_host (K := K (F := F)) (D := D (F := F)) (𝒱 := 𝒱) (fs (A m)) fits v₀ (covers (A m)) (by decide) (by decide) (by decide) (by decide) (by decide) rfl m ρ pre post pre_sub post_sub
    (List.forall_iff_forall_mem.mp ⟨rfl, rfl, rfl, rfl, rfl⟩) (List.forall_iff_forall_mem.mp ⟨rfl, rfl, rfl, rfl, rfl⟩) (fun _ _ => rfl) sc_facts (scalarObl _) main main_eq

end Cert.Proof.Scatter1
end
-- ==== Proof.Blocks.lean ====
/- What a scatter leaves on a device is its block of the whole arrays with their first two dimensions exchanged. -/
module

public import proofs.«01_k».proof.Proof.Arrays
public import Idealize.ShloMosaic.Lib.Pipeline.Value
public import Idealize.ShloMosaic.Lib.Layout

@[expose] public section

noncomputable section

namespace Exchange

open Idealize.ShloMosaic Idealize.ShloMosaic.ValueIdx

variable {p q r : ℕ} {α : Type}

theorem val_one {n : ℕ} (a : Fin n) : a.val = if n = 1 then 0 else a.val := by split <;> omega

/-- Where block `c` of eight slabs is among the eight. -/
theorem tile_ix4 (hT : Layout.Tiles ⟨4, ![1, 8, p, q]⟩ ⟨4, ![8, 8, p, q]⟩ 0 8) (c : Fin 8) (z : Fin 1) (s : Fin 8) (a : Fin p) (b : Fin q) :
    hT.idx c (ix4 z s a b) = ix4 c s a b := by
  obtain rfl : z = 0 := Subsingleton.elim _ _
  refine funext fun t => Fin.ext ?_
  rw [Layout.Tiles.idx_val]
  match t with
  | 0 => show c.val * 1 + 0 = c.val; omega
  | 1 => rfl
  | 2 => rfl
  | 3 => rfl
theorem tile_ix3 (hT : Layout.Tiles ⟨3, ![1, p, q]⟩ ⟨3, ![8, p, q]⟩ 0 8) (c : Fin 8) (z : Fin 1) (a : Fin p) (b : Fin q) :
    hT.idx c (ix3 z a b) = ix3 c a b := by
  obtain rfl : z = 0 := Subsingleton.elim _ _
  refine funext fun t => Fin.ext ?_
  rw [Layout.Tiles.idx_val]
  match t with
  | 0 => show c.val * 1 + 0 = c.val; omega
  | 1 => rfl
  | 2 => rfl

/-- Of every device's eight slabs the `d`-th: block `d` of the array with its first two dimensions exchanged. -/
theorem rows_block (hT : Layout.Tiles ⟨4, ![1, 8, p, q]⟩ ⟨4, ![8, 8, p, q]⟩ 0 8)
    (hc : (⟨4, ![1, 8, p, q]⟩ : Shape).ShapeCasts ⟨3, ![8, p, q]⟩) (hb : (⟨3, ![8, p, q]⟩ : Shape).BroadcastsInDim ⟨4, ![1, 8, p, q]⟩ ![1, 2, 3])
    (ht : (⟨4, ![8, 8, p, q]⟩ : Shape).Transposes [1, 0, 2, 3] ⟨4, ![8, 8, p, q]⟩)
    (A : Fin 8 → (⟨3, ![8, p, q]⟩ : Shape).Idx → α) (x : (⟨4, ![8, 8, p, q]⟩ : Shape).Idx → α)
    (hA : ∀ s, A s = shapeCast ⟨3, ![8, p, q]⟩ (Layout.block ⟨4, ![1, 8, p, q]⟩ ⟨4, ![8, 8, p, q]⟩ 0 8 s x hT) hc) (d : Fin 8) :
    broadcastInDim ⟨4, ![1, 8, p, q]⟩ ![1, 2, 3] hb (rowsOut A d)
      = Layout.block ⟨4, ![1, 8, p, q]⟩ ⟨4, ![8, 8, p, q]⟩ 0 8 d (transpose ⟨4, ![8, 8, p, q]⟩ [1, 0, 2, 3] x ht) hT := by
  funext i
  obtain ⟨z, s, a, b, rfl⟩ : ∃ (z : Fin 1) (s : Fin 8) (a : Fin p) (b : Fin q), i = ix4 z s a b := ⟨i 0, i 1, i 2, i 3, eq_ix4 i⟩
  refine (broadcastInDim_apply _ _ _ (ix4 z s a b) (ix3 s a b) (fun t => by match t with | 0 => rfl | 1 => exact val_one a | 2 => exact val_one b)).trans ?_
  rw [Layout.block_apply, tile_ix4]
  refine Eq.trans ?_ (transpose_apply _ _ _ (ix4 d s a b) (ix4 s d a b) (fun t => by match t with | 0 => rfl | 1 => rfl | 2 => rfl | 3 => rfl)).symm
  show A s (ix3 d a b) = _
  rw [hA]
  refine (shapeCast_apply (s := ⟨4, ![1, 8, p, q]⟩) _ _ (ix3 d a b) (ix4 (0 : Fin 1) d a b) ?_).trans ?_
  · rw [Shape.rowMajor_val_three, Shape.rowMajor_val_four]
    show ((0 * 8 + d.val) * p + a.val) * q + b.val = (d.val * p + a.val) * q + b.val
    rw [Nat.zero_mul, Nat.zero_add]
  · rw [Layout.block_apply, tile_ix4]

/-- Of every device's columns the `d`-th eighth: block `d` of the array with its columns in eighths, these first. -/
theorem cols_block (hr : r = 8 * q) (hT : Layout.Tiles ⟨3, ![1, p, r]⟩ ⟨3, ![8, p, r]⟩ 0 8) (hT' : Layout.Tiles ⟨4, ![1, 8, p, q]⟩ ⟨4, ![8, 8, p, q]⟩ 0 8)
    (hc : (⟨3, ![1, p, r]⟩ : Shape).ShapeCasts ⟨2, ![p, r]⟩) (hb : (⟨3, ![8, p, q]⟩ : Shape).BroadcastsInDim ⟨4, ![1, 8, p, q]⟩ ![1, 2, 3])
    (hc' : (⟨3, ![8, p, r]⟩ : Shape).ShapeCasts ⟨4, ![8, p, 8, q]⟩) (ht : (⟨4, ![8, p, 8, q]⟩ : Shape).Transposes [2, 0, 1, 3] ⟨4, ![8, 8, p, q]⟩)
    (A : Fin 8 → (⟨2, ![p, r]⟩ : Shape).Idx → α) (x : (⟨3, ![8, p, r]⟩ : Shape).Idx → α)
    (hA : ∀ s, A s = shapeCast ⟨2, ![p, r]⟩ (Layout.block ⟨3, ![1, p, r]⟩ ⟨3, ![8, p, r]⟩ 0 8 s x hT) hc) (d : Fin 8) :
    broadcastInDim ⟨4, ![1, 8, p, q]⟩ ![1, 2, 3] hb (colsOut hr A d)
      = Layout.block ⟨4, ![1, 8, p, q]⟩ ⟨4, ![8, 8, p, q]⟩ 0 8 d (transpose ⟨4, ![8, 8, p, q]⟩ [2, 0, 1, 3] (shapeCast ⟨4, ![8, p, 8, q]⟩ x hc') ht) hT' := by
  funext i
  obtain ⟨z, s, a, b, rfl⟩ : ∃ (z : Fin 1) (s : Fin 8) (a : Fin p) (b : Fin q), i = ix4 z s a b := ⟨i 0, i 1, i 2, i 3, eq_ix4 i⟩
  refine (broadcastInDim_apply _ _ _ (ix4 z s a b) (ix3 s a b) (fun t => by match t with | 0 => rfl | 1 => exact val_one a | 2 => exact val_one b)).trans ?_
  rw [Layout.block_apply, tile_ix4]
  refine Eq.trans ?_ (transpose_apply _ _ _ (ix4 d s a b) (ix4 s a d b) (fun t => by match t with | 0 => rfl | 1 => rfl | 2 => rfl | 3 => rfl)).symm
  show A s (ix2 a ⟨q * d.val + b.val, _⟩) = _
  rw [hA]
  refine ((shapeCast_apply (s := ⟨3, ![1, p, r]⟩) _ _ (ix2 a ⟨q * d.val + b.val, col_lt hr d b⟩) (ix3 (0 : Fin 1) a ⟨q * d.val + b.val, col_lt hr d b⟩) ?_).trans ?_).trans
    (shapeCast_apply (s := ⟨3, ![8, p, r]⟩) x hc' (ix4 s a d b) (ix3 s a ⟨q * d.val + b.val, col_lt hr d b⟩) ?_).symm
  · rw [Shape.rowMajor_val_three, Shape.rowMajor_val_two]
    show (0 * p + a.val) * r + (q * d.val + b.val) = a.val * r + (q * d.val + b.val)
    rw [Nat.zero_mul, Nat.zero_add]
  · rw [Layout.block_apply, tile_ix3]
  · rw [Shape.rowMajor_val_three, Shape.rowMajor_val_four]
    show (s.val * p + a.val) * r + (q * d.val + b.val) = ((s.val * p + a.val) * 8 + d.val) * q + b.val
    subst hr
    rw [Nat.add_mul (_ * 8), Nat.mul_assoc _ 8, Nat.mul_comm q, Nat.add_assoc]

end Exchange

end
-- ==== Proof.Scatter1Value.lean ====
/- The first exchange's reference, and that a device's results are its blocks of the reference's. -/
module

public import proofs.«01_k».proof.Proof.Scatter1Run
public import proofs.«01_k».proof.Proof.Blocks
public import proofs.«01_k».proof.Proof.Gen.Reference

@[expose] public section

noncomputable section

namespace Cert.Proof.Scatter1

open Idealize.ShloMosaic Idealize.ShloMosaic.TcCoe Idealize.ShloMosaic.ValueIdx Idealize.ShloMosaic.StableHlo Idealize.SL.Sem

namespace Ref

open Cert.Reference Cert.Reference.Gen

variable {F : FTy → Type} [FloatOps F] {α : Type}

/-- The reference's results: entry `(d, s, a, b)` of the first is entry `(s, a, 384 d + b)` of the first argument, -/
abbrev out0 (x : S8x1024x3072.Idx → α) : S8x8x1024x384.Idx → α :=
  transpose S8x8x1024x384 [2, 0, 1, 3] (shapeCast S8x1024x8x384 x shapeCasts_S8x1024x3072_S8x1024x8x384) transposes_S8x1024x8x384_S8x8x1024x384_2_0_1_3
/-- entry `(d, s, a, b)` of each other is entry `(s, d, a, b)` of its argument. -/
abbrev out1 (x : S8x8x128x1024.Idx → α) : S8x8x128x1024.Idx → α := transpose S8x8x128x1024 [1, 0, 2, 3] x transposes_S8x8x128x1024_S8x8x128x1024_1_0_2_3
abbrev out2 (x : S8x8x704x1024.Idx → α) : S8x8x704x1024.Idx → α := transpose S8x8x704x1024 [1, 0, 2, 3] x transposes_S8x8x704x1024_S8x8x704x1024_1_0_2_3
abbrev out3 (x : S8x8x352x1024.Idx → α) : S8x8x352x1024.Idx → α := transpose S8x8x352x1024 [1, 0, 2, 3] x transposes_S8x8x352x1024_S8x8x352x1024_1_0_2_3
abbrev out4 (x : S8x8x3x768.Idx → α) : S8x8x3x768.Idx → α := transpose S8x8x3x768 [1, 0, 2, 3] x transposes_S8x8x3x768_S8x8x3x768_1_0_2_3

abbrev ops : List (HloOp τ sig (Elt F)) :=
  [ reshape main_arg0 main_v0 (rfl : (.bf16 : EltTy) = .bf16) shapeCasts_S8x1024x3072_S8x1024x8x384,
    unary main_v0 main_v1 ((transpose S8x8x1024x384 [2, 0, 1, 3] · transposes_S8x1024x8x384_S8x8x1024x384_2_0_1_3) : (⟨S8x1024x8x384, .bf16⟩ : BufTy).Contents (Elt F) → (⟨S8x8x1024x384, .bf16⟩ : BufTy).Contents (Elt F)),
    unary main_arg1 main_v2 (out1 : (⟨S8x8x128x1024, .bf16⟩ : BufTy).Contents (Elt F) → (⟨S8x8x128x1024, .bf16⟩ : BufTy).Contents (Elt F)),
    unary main_arg2 main_v3 (out2 : (⟨S8x8x704x1024, .bf16⟩ : BufTy).Contents (Elt F) → (⟨S8x8x704x1024, .bf16⟩ : BufTy).Contents (Elt F)),
    unary main_arg3 main_v4 (out3 : (⟨S8x8x352x1024, .bf16⟩ : BufTy).Contents (Elt F) → (⟨S8x8x352x1024, .bf16⟩ : BufTy).Contents (Elt F)),
    unary main_arg4 main_v5 (out4 : (⟨S8x8x3x768, .f32⟩ : BufTy).Contents (Elt F) → (⟨S8x8x3x768, .f32⟩ : BufTy).Contents (Elt F)) ]

theorem main_eq (c : Dev nD) : main (F := F) c = seq ops := rfl

theorem results (V : Valuation τ sig (Elt F)) :
    after ops V (main_v1 : DevRef τ sig) = out0 (V (main_arg0 : DevRef τ sig)) ∧ after ops V (main_v2 : DevRef τ sig) = out1 (V (main_arg1 : DevRef τ sig))
      ∧ after ops V (main_v3 : DevRef τ sig) = out2 (V (main_arg2 : DevRef τ sig)) ∧ after ops V (main_v4 : DevRef τ sig) = out3 (V (main_arg3 : DevRef τ sig))
      ∧ after ops V (main_v5 : DevRef τ sig) = out4 (V (main_arg4 : DevRef τ sig)) := by
  refine ⟨by after_results; rfl, ?_, ?_, ?_, ?_⟩ <;> after_results
theorem arguments (V : Valuation τ sig (Elt F)) :
    after ops V (main_arg0 : DevRef τ sig) = V (main_arg0 : DevRef τ sig) ∧ after ops V (main_arg1 : DevRef τ sig) = V (main_arg1 : DevRef τ sig)
      ∧ after ops V (main_arg2 : DevRef τ sig) = V (main_arg2 : DevRef τ sig) ∧ after ops V (main_arg3 : DevRef τ sig) = V (main_arg3 : DevRef τ sig)
      ∧ after ops V (main_arg4 : DevRef τ sig) = V (main_arg4 : DevRef τ sig) := by
  refine ⟨?_, ?_, ?_, ?_, ?_⟩ <;> after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., unary_bufs_sub .., unary_bufs_sub .., unary_bufs_sub .., unary_bufs_sub ..⟩

instance : IsEmpty (SemLoc sig) := by
  constructor; rintro (s | s)
  · exact absurd s.isLt (Nat.not_lt_zero _)
  · exact absurd s.isLt (Nat.not_lt_zero _)

/-- The reference's run: it ends, every array as its operations leave it, every semaphore at zero. -/
theorem run_main (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = after ops (fun b => m (c, b)) (b : DevRef τ sig)) ∧ r.2.sem = fun _ => 0 :=
  (θ_run defs _ _).mono (fun _ h => ⟨fun c b => h c b, funext fun g => isEmptyElim g.2⟩)
    (run_seq scopedRefs_eq scopedSems_eq defs main (fun _ => ops) main_eq (fun _ => ops_sub) m ρ)

end Ref

open Cert.KernelIdeal Cert.KernelIdeal.Gen

variable {F : FTy → Type} [FloatOps F]

theorem results (V : Valuation τ sig (Elt F)) :
    after post V (main_v7 : DevRef τ sig) = broadcastInDim S1x8x1024x384 ![1, 2, 3] bcast_S8x1024x384_S1x8x1024x384_1_2_3 (V (land 0))
      ∧ after post V (main_v8 : DevRef τ sig) = broadcastInDim S1x8x128x1024 ![1, 2, 3] bcast_S8x128x1024_S1x8x128x1024_1_2_3 (V (land 1))
      ∧ after post V (main_v9 : DevRef τ sig) = broadcastInDim S1x8x704x1024 ![1, 2, 3] bcast_S8x704x1024_S1x8x704x1024_1_2_3 (V (land 2))
      ∧ after post V (main_v10 : DevRef τ sig) = broadcastInDim S1x8x352x1024 ![1, 2, 3] bcast_S8x352x1024_S1x8x352x1024_1_2_3 (V (land 3))
      ∧ after post V (main_v11 : DevRef τ sig) = broadcastInDim S1x8x3x768 ![1, 2, 3] bcast_S8x3x768_S1x8x3x768_1_2_3 (V (land 4)) := by
  refine ⟨?_, ?_, ?_, ?_, ?_⟩ <;> after_results
theorem sources (V : Valuation τ sig (Elt F)) :
    after pre V (src 0) = shapeCast S1024x3072 (V (main_arg0 : DevRef τ sig)) shapeCasts_S1x1024x3072_S1024x3072
      ∧ after pre V (src 1) = shapeCast S8x128x1024 (V (main_arg1 : DevRef τ sig)) shapeCasts_S1x8x128x1024_S8x128x1024
      ∧ after pre V (src 2) = shapeCast S8x704x1024 (V (main_arg2 : DevRef τ sig)) shapeCasts_S1x8x704x1024_S8x704x1024
      ∧ after pre V (src 3) = shapeCast S8x352x1024 (V (main_arg3 : DevRef τ sig)) shapeCasts_S1x8x352x1024_S8x352x1024
      ∧ after pre V (src 4) = shapeCast S8x3x768 (V (main_arg4 : DevRef τ sig)) shapeCasts_S1x8x3x768_S8x3x768 := by
  refine ⟨?_, ?_, ?_, ?_, ?_⟩ <;> (after_results; rfl)

variable (m : (ℓ : Loc nD τ sig) → Buf (Elt F) ℓ) (ρ : Dev nD → PrngReg)

theorem kept (b : DevRef τ sig) (h : (∀ i, b ≠ land i) ∧ (∀ V : Valuation τ sig (Elt F), after pre V b = V b) ∧ ∀ V : Valuation τ sig (Elt F), after post V b = V b) (d : Fin 8) :
    after post (Exchange.left land (out (A m)) pre m d) b = m (d, b) :=
  (h.2.2 _).trans ((Exchange.overlay_other _ _ b h.1).trans (h.2.1 _))
theorem landed (i : Fin 5) (d : Fin 8) : Exchange.left land (out (A m)) pre m d (land i) = out (A m) i d := Exchange.overlay_land (by decide) _ _ i

theorem uc (b : Ref sig .tc) (h : b.isScoped = false) : Proc.devRef (τ := τ) .tc b ∈ Pipeline.ucRefs τ sig :=
  Finset.mem_filter.mpr ⟨StableHlo.devRef_mem_tcRefs b, fun e => absurd (h.symm.trans e) (by decide)⟩

/-- **The run**, of the arguments and results: device `d`'s results are what lands, its arguments are as they were. -/
theorem run_values : θ_run (defs (F := F)) (threads (F := F)) ⟨m, fun _ => 0, ρ⟩ (fun r =>
    (∀ d : Dev nD, (r.2.mem ((d.tc : Thread nD τ).loc main_v7) = broadcastInDim S1x8x1024x384 ![1, 2, 3] bcast_S8x1024x384_S1x8x1024x384_1_2_3 (out (A m) 0 d)
        ∧ r.2.mem ((d.tc : Thread nD τ).loc main_v8) = broadcastInDim S1x8x128x1024 ![1, 2, 3] bcast_S8x128x1024_S1x8x128x1024_1_2_3 (out (A m) 1 d)
        ∧ r.2.mem ((d.tc : Thread nD τ).loc main_v9) = broadcastInDim S1x8x704x1024 ![1, 2, 3] bcast_S8x704x1024_S1x8x704x1024_1_2_3 (out (A m) 2 d)
        ∧ r.2.mem ((d.tc : Thread nD τ).loc main_v10) = broadcastInDim S1x8x352x1024 ![1, 2, 3] bcast_S8x352x1024_S1x8x352x1024_1_2_3 (out (A m) 3 d)
        ∧ r.2.mem ((d.tc : Thread nD τ).loc main_v11) = broadcastInDim S1x8x3x768 ![1, 2, 3] bcast_S8x3x768_S1x8x3x768_1_2_3 (out (A m) 4 d))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)) ∧ r.2.sem = fun _ => 0) := by
  refine (θ_run defs _ _).mono (fun r h => ⟨fun d => ?_, h.2⟩) (run_main m ρ)
  have R := results (Exchange.left land (out (A m)) pre m d)
  refine ⟨⟨?_, ?_, ?_, ?_, ?_⟩, ?_, ?_, ?_, ?_, ?_⟩
  · exact (h.1 d _ (uc main_v7 rfl)).trans (R.1.trans (congrArg _ (landed m 0 d)))
  · exact (h.1 d _ (uc main_v8 rfl)).trans (R.2.1.trans (congrArg _ (landed m 1 d)))
  · exact (h.1 d _ (uc main_v9 rfl)).trans (R.2.2.1.trans (congrArg _ (landed m 2 d)))
  · exact (h.1 d _ (uc main_v10 rfl)).trans (R.2.2.2.1.trans (congrArg _ (landed m 3 d)))
  · exact (h.1 d _ (uc main_v11 rfl)).trans (R.2.2.2.2.trans (congrArg _ (landed m 4 d)))
  · exact (h.1 d _ (uc main_arg0 rfl)).trans (kept m _ ⟨by decide, fun V => by after_results, fun V => by after_results⟩ d)
  · exact (h.1 d _ (uc main_arg1 rfl)).trans (kept m _ ⟨by decide, fun V => by after_results, fun V => by after_results⟩ d)
  · exact (h.1 d _ (uc main_arg2 rfl)).trans (kept m _ ⟨by decide, fun V => by after_results, fun V => by after_results⟩ d)
  · exact (h.1 d _ (uc main_arg3 rfl)).trans (kept m _ ⟨by decide, fun V => by after_results, fun V => by after_results⟩ d)
  · exact (h.1 d _ (uc main_arg4 rfl)).trans (kept m _ ⟨by decide, fun V => by after_results, fun V => by after_results⟩ d)

/-- Device `d`'s results are block `d` of the reference's. -/
theorem block0 (x : Cert.Reference.S8x1024x3072.Idx → Elt F .bf16) (d : Fin 8)
    (h : ∀ c : Dev nD, m ((c.tc : Thread nD τ).loc main_arg0) = Layout.block ⟨3, ![1, 1024, 3072]⟩ ⟨3, ![8, 1024, 3072]⟩ 0 8 c x) :
    broadcastInDim S1x8x1024x384 ![1, 2, 3] bcast_S8x1024x384_S1x8x1024x384_1_2_3 (out (A m) 0 d) = Layout.block ⟨4, ![1, 8, 1024, 384]⟩ ⟨4, ![8, 8, 1024, 384]⟩ 0 8 d (Ref.out0 x) :=
  Exchange.cols_block (p := 1024) (q := 384) (r := 3072) rfl (by decide) (by decide) shapeCasts_S1x1024x3072_S1024x3072 _ _ _ (A m 0) x (fun s => (sources (Exchange.atLaunch m s)).1.trans (congrArg (shapeCast S1024x3072 · shapeCasts_S1x1024x3072_S1024x3072) (h s))) d
theorem block1 (x : Cert.Reference.S8x8x128x1024.Idx → Elt F .bf16) (d : Fin 8)
    (h : ∀ c : Dev nD, m ((c.tc : Thread nD τ).loc main_arg1) = Layout.block ⟨4, ![1, 8, 128, 1024]⟩ ⟨4, ![8, 8, 128, 1024]⟩ 0 8 c x) :
    broadcastInDim S1x8x128x1024 ![1, 2, 3] bcast_S8x128x1024_S1x8x128x1024_1_2_3 (out (A m) 1 d) = Layout.block ⟨4, ![1, 8, 128, 1024]⟩ ⟨4, ![8, 8, 128, 1024]⟩ 0 8 d (Ref.out1 x) :=
  Exchange.rows_block (p := 128) (q := 1024) (by decide) shapeCasts_S1x8x128x1024_S8x128x1024 _ _ (A m 1) x (fun s => (sources (Exchange.atLaunch m s)).2.1.trans (congrArg (shapeCast S8x128x1024 · shapeCasts_S1x8x128x1024_S8x128x1024) (h s))) d
theorem block2 (x : Cert.Reference.S8x8x704x1024.Idx → Elt F .bf16) (d : Fin 8)
    (h : ∀ c : Dev nD, m ((c.tc : Thread nD τ).loc main_arg2) = Layout.block ⟨4, ![1, 8, 704, 1024]⟩ ⟨4, ![8, 8, 704, 1024]⟩ 0 8 c x) :
    broadcastInDim S1x8x704x1024 ![1, 2, 3] bcast_S8x704x1024_S1x8x704x1024_1_2_3 (out (A m) 2 d) = Layout.block ⟨4, ![1, 8, 704, 1024]⟩ ⟨4, ![8, 8, 704, 1024]⟩ 0 8 d (Ref.out2 x) :=
  Exchange.rows_block (p := 704) (q := 1024) (by decide) shapeCasts_S1x8x704x1024_S8x704x1024 _ _ (A m 2) x (fun s => (sources (Exchange.atLaunch m s)).2.2.1.trans (congrArg (shapeCast S8x704x1024 · shapeCasts_S1x8x704x1024_S8x704x1024) (h s))) d
theorem block3 (x : Cert.Reference.S8x8x352x1024.Idx → Elt F .bf16) (d : Fin 8)
    (h : ∀ c : Dev nD, m ((c.tc : Thread nD τ).loc main_arg3) = Layout.block ⟨4, ![1, 8, 352, 1024]⟩ ⟨4, ![8, 8, 352, 1024]⟩ 0 8 c x) :
    broadcastInDim S1x8x352x1024 ![1, 2, 3] bcast_S8x352x1024_S1x8x352x1024_1_2_3 (out (A m) 3 d) = Layout.block ⟨4, ![1, 8, 352, 1024]⟩ ⟨4, ![8, 8, 352, 1024]⟩ 0 8 d (Ref.out3 x) :=
  Exchange.rows_block (p := 352) (q := 1024) (by decide) shapeCasts_S1x8x352x1024_S8x352x1024 _ _ (A m 3) x (fun s => (sources (Exchange.atLaunch m s)).2.2.2.1.trans (congrArg (shapeCast S8x352x1024 · shapeCasts_S1x8x352x1024_S8x352x1024) (h s))) d
theorem block4 (x : Cert.Reference.S8x8x3x768.Idx → Elt F .f32) (d : Fin 8)
    (h : ∀ c : Dev nD, m ((c.tc : Thread nD τ).loc main_arg4) = Layout.block ⟨4, ![1, 8, 3, 768]⟩ ⟨4, ![8, 8, 3, 768]⟩ 0 8 c x) :
    broadcastInDim S1x8x3x768 ![1, 2, 3] bcast_S8x3x768_S1x8x3x768_1_2_3 (out (A m) 4 d) = Layout.block ⟨4, ![1, 8, 3, 768]⟩ ⟨4, ![8, 8, 3, 768]⟩ 0 8 d (Ref.out4 x) :=
  Exchange.rows_block (p := 3) (q := 768) (by decide) shapeCasts_S1x8x3x768_S8x3x768 _ _ (A m 4) x (fun s => (sources (Exchange.atLaunch m s)).2.2.2.2.trans (congrArg (shapeCast S8x3x768 · shapeCasts_S1x8x3x768_S8x3x768) (h s))) d

/-- What the reference's run says of one device. -/
theorem Ref.run_values (m : (ℓ : Loc Cert.Reference.nD Cert.Reference.τ Cert.Reference.sig) → Buf (Elt F) ℓ) (ρ : Dev Cert.Reference.nD → PrngReg) :
    θ_run (Cert.Reference.defs (F := F)) (onTc (τ := Cert.Reference.τ) (Cert.Reference.main (F := F))) ⟨m, fun _ => 0, ρ⟩ fun r =>
      (∀ c : Dev Cert.Reference.nD, (r.2.mem ((c.tc : Thread _ Cert.Reference.τ).loc Cert.Reference.main_v1) = Ref.out0 (m ((c.tc : Thread _ Cert.Reference.τ).loc Cert.Reference.main_arg0))
          ∧ r.2.mem ((c.tc : Thread _ Cert.Reference.τ).loc Cert.Reference.main_v2) = Ref.out1 (m ((c.tc : Thread _ Cert.Reference.τ).loc Cert.Reference.main_arg1))
          ∧ r.2.mem ((c.tc : Thread _ Cert.Reference.τ).loc Cert.Reference.main_v3) = Ref.out2 (m ((c.tc : Thread _ Cert.Reference.τ).loc Cert.Reference.main_arg2))
          ∧ r.2.mem ((c.tc : Thread _ Cert.Reference.τ).loc Cert.Reference.main_v4) = Ref.out3 (m ((c.tc : Thread _ Cert.Reference.τ).loc Cert.Reference.main_arg3))
          ∧ r.2.mem ((c.tc : Thread _ Cert.Reference.τ).loc Cert.Reference.main_v5) = Ref.out4 (m ((c.tc : Thread _ Cert.Reference.τ).loc Cert.Reference.main_arg4)))
        ∧ r.2.mem ((c.tc : Thread _ Cert.Reference.τ).loc Cert.Reference.main_arg0) = m ((c.tc : Thread _ Cert.Reference.τ).loc Cert.Reference.main_arg0)
        ∧ r.2.mem ((c.tc : Thread _ Cert.Reference.τ).loc Cert.Reference.main_arg1) = m ((c.tc : Thread _ Cert.Reference.τ).loc Cert.Reference.main_arg1)
        ∧ r.2.mem ((c.tc : Thread _ Cert.Reference.τ).loc Cert.Reference.main_arg2) = m ((c.tc : Thread _ Cert.Reference.τ).loc Cert.Reference.main_arg2)
        ∧ r.2.mem ((c.tc : Thread _ Cert.Reference.τ).loc Cert.Reference.main_arg3) = m ((c.tc : Thread _ Cert.Reference.τ).loc Cert.Reference.main_arg3)
        ∧ r.2.mem ((c.tc : Thread _ Cert.Reference.τ).loc Cert.Reference.main_arg4) = m ((c.tc : Thread _ Cert.Reference.τ).loc Cert.Reference.main_arg4)) ∧ r.2.sem = fun _ => 0 := by
  refine (θ_run Cert.Reference.defs _ _).mono (fun r h => ⟨fun c => ?_, h.2⟩) (Ref.run_main m ρ)
  have R := Ref.results (F := F) (fun b => m (c, b))
  have R' := Ref.arguments (F := F) (fun b => m (c, b))
  exact ⟨⟨(h.1 c _).trans R.1, (h.1 c _).trans R.2.1, (h.1 c _).trans R.2.2.1, (h.1 c _).trans R.2.2.2.1, (h.1 c _).trans R.2.2.2.2⟩,
    (h.1 c _).trans R'.1, (h.1 c _).trans R'.2.1, (h.1 c _).trans R'.2.2.1, (h.1 c _).trans R'.2.2.2.1, (h.1 c _).trans R'.2.2.2.2⟩

end Cert.Proof.Scatter1

end
-- ==== Proof.Scatter0aBody.lean ====
/- The exchange of the first layer's output-projection and feed-forward gradients: its parts, slots and semaphores as `Exchange.Ports`, and that
   the printed kernel is `Exchange.Ports.body` of them. -/
module

public import proofs.«01_k».proof.Proof.Launch
public import proofs.«01_k».proof.Proof.Steps
public import proofs.«01_k».proof.Proof.Arrays
public import proofs.«01_k».proof.Proof.Gen.Scatter0aIdeal.Skeleton

@[expose] public section

set_option synthInstance.maxSize 4096

noncomputable section

namespace Cert.Proof.Scatter0a

open Idealize.ShloMosaic Idealize.SL.Sem
open Cert.Scatter0aIdeal Cert.Scatter0aIdeal.Gen
open Exchange (peer rowAt colAt at_eq op_congr)
open Exchange.Ports (ops_cons ops_nil pairs_flat)

/-- The one grid point. -/
abbrev i₀ : grid0.Coords := (fun | 0 => ⟨0, by decide⟩ | ⟨_ + 1, h⟩ => absurd h (Nat.not_lt.2 (Nat.le_add_left _ _)))

theorem sem_inb (i : Fin 3) (k : Fin 7) : ∀ a, (![i.val, k.val] : Fin 2 → ℕ) a + S1x1.size a ≤ S3x7.size a := by revert i k; decide
theorem loc_inb (i : Fin 3) : ∀ a, (![i.val] : Fin 1 → ℕ) a + S1.size a ≤ S3.size a := by revert i; decide

/-- The receive, send and local semaphores. -/
def recvSem (x : Fin 7 × Fin 3) : DmaSem sig := ((cc0_scratch1.slice (Rect.unit (s := S3x7) ![x.2.val, x.1.val] S1x1.size (sem_inb x.2 x.1))).squeeze S_ squeezes_S1x1_S_).sem
def sendSem (x : Fin 7 × Fin 3) : DmaSem sig := ((cc0_scratch0.slice (Rect.unit (s := S3x7) ![x.2.val, x.1.val] S1x1.size (sem_inb x.2 x.1))).squeeze S_ squeezes_S1x1_S_).sem
def locSem (i : Fin 3) : DmaSem sig := ((cc0_scratch2.slice (Rect.unit (s := S3) ![i.val] S1.size (loc_inb i))).squeeze S_ squeezes_S1_S_).sem

theorem recvSem_val : ∀ x, (recvSem x).val = 21 + 7 * x.2.val + x.1.val := by decide +kernel
theorem sendSem_val : ∀ x, (sendSem x).val = 7 * x.2.val + x.1.val := by decide +kernel
theorem locSem_val : ∀ x, (locSem x).val = 42 + x.val := by decide +kernel

/-! ## The parts and the slots, as slices of the call's arrays -/

abbrev part0 := rowAt squeezes_S1x128x1024_S128x1024 (Memref.whole main_v1_scs)
abbrev part1 := rowAt squeezes_S1x704x1024_S704x1024 (Memref.whole main_v2_scs)
abbrev part2 := rowAt squeezes_S1x352x1024_S352x1024 (Memref.whole main_v3_scs)
abbrev slot0 := rowAt squeezes_S1x128x1024_S128x1024 (Memref.whole main_v4_0_scs)
abbrev slot1 := rowAt squeezes_S1x704x1024_S704x1024 (Memref.whole main_v4_1_scs)
abbrev slot2 := rowAt squeezes_S1x352x1024_S352x1024 (Memref.whole main_v4_2_scs)

/-- What the program exchanges, and over what. -/
def X : Exchange.Ports τ sig 3 where
  c₀ := (i₀ 0).castLE hcore0
  bar := (SemArray.scalar (sig.barrier 5 rfl) : Sems sig S_).sem
  recv := recvSem
  send := sendSem
  loc := locSem
  B := fun | 0 => S128x1024 | 1 => S704x1024 | 2 => S352x1024
  e := fun | 0 => .bf16 | 1 => .bf16 | 2 => .bf16
  part := fun
    | 0 => fun s => part0 (k0_off1 s) (k0_off1_inb s)
    | 1 => fun s => part1 (k0_off2 s) (k0_off2_inb s)
    | 2 => fun s => part2 (k0_off3 s) (k0_off3_inb s)
  slot := fun
    | 0 => fun s => slot0 (k0_off1 s) (k0_off1_inb s)
    | 1 => fun s => slot1 (k0_off2 s) (k0_off2_inb s)
    | 2 => fun s => slot2 (k0_off3 s) (k0_off3_inb s)
  hpart := fun
    | 0 => fun s => ((Memref.isWhole_whole main_v1_scs).wordExact_slice rfl _ (k0_off1_wordsbf16 s)).reshape _ _
    | 1 => fun s => ((Memref.isWhole_whole main_v2_scs).wordExact_slice rfl _ (k0_off2_wordsbf16 s)).reshape _ _
    | 2 => fun s => ((Memref.isWhole_whole main_v3_scs).wordExact_slice rfl _ (k0_off3_wordsbf16 s)).reshape _ _
  hslot := fun
    | 0 => fun s => ((Memref.isWhole_whole main_v4_0_scs).wordExact_slice rfl _ (k0_off1_wordsbf16 s)).reshape _ _
    | 1 => fun s => ((Memref.isWhole_whole main_v4_1_scs).wordExact_slice rfl _ (k0_off2_wordsbf16 s)).reshape _ _
    | 2 => fun s => ((Memref.isWhole_whole main_v4_2_scs).wordExact_slice rfl _ (k0_off3_wordsbf16 s)).reshape _ _
  hsc := fun | 0 | 1 | 2 => fun _ => rfl
  N := fun
    | 0 => (part0 (k0_off1 0) (k0_off1_inb 0)).view.dmaCredit
    | 1 => (part1 (k0_off2 0) (k0_off2_inb 0)).view.dmaCredit
    | 2 => (part2 (k0_off3 0) (k0_off3_inb 0)).view.dmaCredit
  hNpart := fun | 0 | 1 | 2 => fun _ => rfl
  hNslot := fun | 0 | 1 | 2 => fun _ => rfl
  N_pos := fun | 0 | 1 | 2 => View.dmaCredit_pos _ (by decide)
  sh := fun _ _ => Idealize.SL.RA.fullShare
  recv_inj := fun a b h => by
    have h := congrArg Fin.val h; rw [recvSem_val, recvSem_val] at h
    exact Prod.ext (Fin.ext (by omega)) (Fin.ext (by omega))
  send_inj := fun a b h => by
    have h := congrArg Fin.val h; rw [sendSem_val, sendSem_val] at h
    exact Prod.ext (Fin.ext (by omega)) (Fin.ext (by omega))
  loc_inj := fun a b h => by
    have h := congrArg Fin.val h; rw [locSem_val, locSem_val] at h
    exact Fin.ext (by omega)
  recv_send := fun a b h => by
    have h := congrArg Fin.val h; rw [recvSem_val, sendSem_val] at h; omega
  recv_loc := fun a b h => by
    have h := congrArg Fin.val h; rw [recvSem_val, locSem_val] at h; omega
  send_loc := fun a b h => by
    have h := congrArg Fin.val h; rw [sendSem_val, locSem_val] at h; omega

/-! ## The printed kernel -/

variable {F : FTy → Type} [FloatOps F]

set_option maxHeartbeats 8000000 in
set_option maxRecDepth 10000 in
/-- The printed kernel is the exchange. -/
theorem body_eq : cc0_scatter_0a (F := F) i₀ (Memref.whole main_v1_scs) (Memref.isWhole_whole _) (Memref.whole main_v2_scs) (Memref.isWhole_whole _) (Memref.whole main_v3_scs) (Memref.isWhole_whole _) (Memref.whole main_v4_0_scs) (Memref.isWhole_whole _) (Memref.whole main_v4_1_scs) (Memref.isWhole_whole _) (Memref.whole main_v4_2_scs) (Memref.isWhole_whole _) cc0_scratch0 cc0_scratch1 cc0_scratch2
    = .op .deviceId fun d => X.body d := by
  unfold cc0_scatter_0a
  simp only [k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, semSignalWord, semWaitWord, Prog.bind_ret, Prog.bind_op, Prog.bind_lift, Prog.pure_eq_ret]
  refine congrArg (Prog.op _) (funext fun d => ?_)
  rw [Exchange.Ports.body, pairs_flat, show Exchange.order = [1, 3, 5, 2, 4, 6, 0] from rfl, show List.finRange 3 = [0, 1, 2] from rfl]
  simp only [List.flatMap_cons, List.flatMap_nil, List.map_cons, List.map_nil, List.cons_append, List.nil_append, ops_cons, ops_nil]
  iterate 7 refine op_congr (X.signal_eq d _ (by revert d; decide +kernel)) fun _ => ?_
  iterate 4 refine op_congr rfl fun _ => ?_
  iterate 7
    refine op_congr (X.send_eq d _ 0 (at_eq part0 (by revert d; decide +kernel)) (by revert d; decide +kernel)) fun _ => ?_
    refine op_congr (X.send_eq d _ 1 (at_eq part1 (by revert d; decide +kernel)) (by revert d; decide +kernel)) fun _ => ?_
    refine op_congr (X.send_eq d _ 2 (at_eq part2 (by revert d; decide +kernel)) (by revert d; decide +kernel)) fun _ => ?_
  iterate 7
    refine op_congr (X.recv_eq d _ 0 (at_eq slot0 (by revert d; decide +kernel))) fun _ => ?_
    refine op_congr (X.recv_eq d _ 1 (at_eq slot1 (by revert d; decide +kernel))) fun _ => ?_
    refine op_congr (X.recv_eq d _ 2 (at_eq slot2 (by revert d; decide +kernel))) fun _ => ?_
  iterate 7
    refine op_congr (X.sent_eq d _ 0 (at_eq part0 (by revert d; decide +kernel))) fun _ => ?_
    refine op_congr (X.sent_eq d _ 1 (at_eq part1 (by revert d; decide +kernel))) fun _ => ?_
    refine op_congr (X.sent_eq d _ 2 (at_eq part2 (by revert d; decide +kernel))) fun _ => ?_
  iterate 3 refine op_congr rfl fun _ => ?_
  rfl

end Cert.Proof.Scatter0a

end
-- ==== Proof.Scatter0aRun.lean ====
/- The exchange of the first layer's output-projection and feed-forward gradients: how the parts and slots lie in its arrays, what every array ends at, and its run. -/
module

public import proofs.«01_k».proof.Proof.Scatter0aBody
public import proofs.«01_k».proof.Proof.HostRun

@[expose] public section

set_option synthInstance.maxSize 4096

noncomputable section

namespace Cert.Proof.Scatter0a

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Scatter0aIdeal Cert.Scatter0aIdeal.Gen
open Idealize.ShloMosaic.StableHlo (after)
open Exchange (peer cBar mem_of_eq row_mem rows_holds col_mem cols_holds slabs_holds beside_holds whole_parts colOf pieces_eq pieces_some pieces_join Covers atLaunch)
open Exchange.Ports (UU EH u₀)

theorem off1_at : ∀ s : Fin 8, k0_off1 s = ![s.val, 0, 0] := by decide +kernel
theorem off2_at : ∀ s : Fin 8, k0_off2 s = ![s.val, 0, 0] := by decide +kernel
theorem off3_at : ∀ s : Fin 8, k0_off3 s = ![s.val, 0, 0] := by decide +kernel

/-! ## Which part, which slot an element is of -/

theorem part0_mem (t : Fin 8) (i : S8x128x1024.Idx) : i ∈ (part0 (k0_off1 t) (k0_off1_inb t)).view.set ↔ (i 0 : Fin 8) = t :=
  (mem_of_eq ((View.set_reshape _ _).trans (View.set_slice_whole _ _))).trans (row_mem (off1_at t) i)
theorem part1_mem (t : Fin 8) (i : S8x704x1024.Idx) : i ∈ (part1 (k0_off2 t) (k0_off2_inb t)).view.set ↔ (i 0 : Fin 8) = t :=
  (mem_of_eq ((View.set_reshape _ _).trans (View.set_slice_whole _ _))).trans (row_mem (off2_at t) i)
theorem part2_mem (t : Fin 8) (i : S8x352x1024.Idx) : i ∈ (part2 (k0_off3 t) (k0_off3_inb t)).view.set ↔ (i 0 : Fin 8) = t :=
  (mem_of_eq ((View.set_reshape _ _).trans (View.set_slice_whole _ _))).trans (row_mem (off3_at t) i)
theorem slot0_mem (t : Fin 8) (i : S8x128x1024.Idx) : i ∈ (slot0 (k0_off1 t) (k0_off1_inb t)).view.set ↔ (i 0 : Fin 8) = t :=
  (mem_of_eq ((View.set_reshape _ _).trans (View.set_slice_whole _ _))).trans (row_mem (off1_at t) i)
theorem slot1_mem (t : Fin 8) (i : S8x704x1024.Idx) : i ∈ (slot1 (k0_off2 t) (k0_off2_inb t)).view.set ↔ (i 0 : Fin 8) = t :=
  (mem_of_eq ((View.set_reshape _ _).trans (View.set_slice_whole _ _))).trans (row_mem (off2_at t) i)
theorem slot2_mem (t : Fin 8) (i : S8x352x1024.Idx) : i ∈ (slot2 (k0_off3 t) (k0_off3_inb t)).view.set ↔ (i 0 : Fin 8) = t :=
  (mem_of_eq ((View.set_reshape _ _).trans (View.set_slice_whole _ _))).trans (row_mem (off3_at t) i)

section Contents
variable {Val : EltTy → Type}

/-- The arrays of the call, and what they hold before and after. -/
abbrev src : Fin 3 → DevRef τ sig := fun
  | 0 => Proc.devRef .tc (main_v1 : Ref sig .tc)
  | 1 => Proc.devRef .tc (main_v2 : Ref sig .tc)
  | 2 => Proc.devRef .tc (main_v3 : Ref sig .tc)
abbrev land : Fin 3 → DevRef τ sig := fun
  | 0 => Proc.devRef .tc (main_v4_0 : Ref sig .tc)
  | 1 => Proc.devRef .tc (main_v4_1 : Ref sig .tc)
  | 2 => Proc.devRef .tc (main_v4_2 : Ref sig .tc)

variable (A : (i : Fin 3) → (d : Fin 8) → Buf Val ((d, src i) : Loc 8 τ sig))

abbrev out : (i : Fin 3) → (d : Fin 8) → Buf Val ((d, land i) : Loc 8 τ sig) := fun
  | 0 => fun d => Exchange.rowsOut (A 0) d
  | 1 => fun d => Exchange.rowsOut (A 1) d
  | 2 => fun d => Exchange.rowsOut (A 2) d

/-- What the exchange reads. -/
abbrev fs : X.Src Val := fun
  | 0 => fun d _ => A 0 d
  | 1 => fun d _ => A 1 d
  | 2 => fun d _ => A 2 d

local notation "𝕄" => MT 8 τ sig (HIx 1) Val ℕ (UU τ sig) ℕ

/-- The parts are the sources, the slots the landing arrays, and what lands is `out`. -/
theorem covers : Covers X (fs A) src land A (out A) where
  parts := fun
    | 0 => fun d => pieces_eq (ℓ := ((d, src 0) : Loc 8 τ sig)) (K := fun t => (X.part 0 t).view.set) _ part0_mem fullShare (A 0 d)
    | 1 => fun d => pieces_eq (ℓ := ((d, src 1) : Loc 8 τ sig)) (K := fun t => (X.part 1 t).view.set) _ part1_mem fullShare (A 1 d)
    | 2 => fun d => pieces_eq (ℓ := ((d, src 2) : Loc 8 τ sig)) (K := fun t => (X.part 2 t).view.set) _ part2_mem fullShare (A 2 d)
  slots := fun
    | 0 => fun d => pieces_some (ℓ := ((d, land 0) : Loc 8 τ sig)) (K := fun t => (X.slot 0 t).view.set) _ slot0_mem
    | 1 => fun d => pieces_some (ℓ := ((d, land 1) : Loc 8 τ sig)) (K := fun t => (X.slot 1 t).view.set) _ slot1_mem
    | 2 => fun d => pieces_some (ℓ := ((d, land 2) : Loc 8 τ sig)) (K := fun t => (X.slot 2 t).view.set) _ slot2_mem
  landed := fun
    | 0 => fun d => pieces_join (ℓ := ((d, land 0) : Loc 8 τ sig)) (K := fun t => (X.slot 0 t).view.set) _ slot0_mem (out A 0 d)
        (fun t f => (X.slot 0 t).view.read Val f = (X.part 0 d).view.read Val (A 0 t)) fun t f h x hx => rows_holds (α := Val .bf16) squeezes_S1x128x1024_S128x1024 (k0_off1_inb t) (k0_off1_inb d) (A 0) (off1_at t) (off1_at d) f h x ((slot0_mem t x).mp hx)
    | 1 => fun d => pieces_join (ℓ := ((d, land 1) : Loc 8 τ sig)) (K := fun t => (X.slot 1 t).view.set) _ slot1_mem (out A 1 d)
        (fun t f => (X.slot 1 t).view.read Val f = (X.part 1 d).view.read Val (A 1 t)) fun t f h x hx => rows_holds (α := Val .bf16) squeezes_S1x704x1024_S704x1024 (k0_off2_inb t) (k0_off2_inb d) (A 1) (off2_at t) (off2_at d) f h x ((slot1_mem t x).mp hx)
    | 2 => fun d => pieces_join (ℓ := ((d, land 2) : Loc 8 τ sig)) (K := fun t => (X.slot 2 t).view.set) _ slot2_mem (out A 2 d)
        (fun t f => (X.slot 2 t).view.read Val f = (X.part 2 d).view.read Val (A 2 t)) fun t f h x hx => rows_holds (α := Val .bf16) squeezes_S1x352x1024_S352x1024 (k0_off3_inb t) (k0_off3_inb d) (A 2) (off3_at t) (off3_at d) f h x ((slot2_mem t x).mp hx)

end Contents

/-! ## The launch -/

variable {F : FTy → Type} [FloatOps F]

local notation "𝕄" => MT 8 τ sig (HIx 1) (Elt F) ℕ (UU τ sig) ℕ

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem sc_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The exchange fits the launch. -/
theorem fits : X.Fits (K (F := F)) where
  hs := show X.bar ≠ sc_start by decide
  ht := show X.bar ≠ sc_taskDone by decide
  hbar := show (SemLoc.reg X.bar : SemLoc sig).isScoped .scScalar = false by decide
  hdma := show ∀ x : Exchange.Ports.DCell 3, (X.sem (Exchange.Ports.dc x)).isScoped .scScalar = true by decide +kernel
  hkind := rfl
  hcall := show (i₀ 0).val < 1 by decide

set_option maxRecDepth 10000 in
theorem scalarObl (f : X.Src (Elt F)) : (K (F := F)).ScalarObl' (D (F := F)) 𝒱 (X.P f fits) v₀ 0 := by
  rintro d ⟨cv, hcv⟩ O W hO hOlev -
  obtain rfl : cv = 0 := by have : (K (F := F)).nCore 0 = 1 := rfl; omega
  change _ ⊢ wp _ _ _ (Pipeline.liftProg (defs₀ (F := F) (.scScalar ((K (F := F)).core 0 ⟨0, hcv⟩)) 0 ())) _
  refine BI.Entails.trans ?_ (Pipeline.wp_liftProg (D (F := F)) (Pipeline.defs_kernel pcfgs defs₀) 𝒱₀ _ Set.univ none _ _)
  have hc : ((K (F := F)).core 0 ⟨0, hcv⟩).val < grid0.bound 0 := hcv
  rw [show (X.P f fits).x 0 (S d ((K (F := F)).core 0 ⟨0, hcv⟩)) = X.kit f d from X.Px_S f fits d,
    show (X.P f fits).ox 0 (S d ((K (F := F)).core 0 ⟨0, hcv⟩)) = X.ox d from X.Pox_S f fits d]
  refine (X.wp_kernel f fits (defs₀ (F := F)) 𝒱₀ d O W hOlev).trans ?_
  refine (Entails.of_eq (wp_deviceId 𝒱₀ (S d X.c₀) none Set.univ).symm).trans ?_
  exact Entails.of_eq (congrArg (fun p => wp frame (wpE (defs₀ (F := F)) 𝒱₀ (S d X.c₀) none) Set.univ p _) body_eq.symm)

/-! ## The program -/

abbrev pre : List (HloOp τ sig (Elt F)) :=
  [ StableHlo.reshape main_arg0 main_v1 (rfl : (.bf16 : EltTy) = .bf16) shapeCasts_S1x8x128x1024_S8x128x1024,
    StableHlo.reshape main_arg1 main_v2 (rfl : (.bf16 : EltTy) = .bf16) shapeCasts_S1x8x704x1024_S8x704x1024,
    StableHlo.reshape main_arg2 main_v3 (rfl : (.bf16 : EltTy) = .bf16) shapeCasts_S1x8x352x1024_S8x352x1024 ]

abbrev post : List (HloOp τ sig (Elt F)) :=
  [ StableHlo.unary main_v4_0 main_v5 (broadcastInDim S1x8x128x1024 ![1, 2, 3] bcast_S8x128x1024_S1x8x128x1024_1_2_3 : (⟨S8x128x1024, .bf16⟩ : BufTy).Contents (Elt F) → (⟨S1x8x128x1024, .bf16⟩ : BufTy).Contents (Elt F)),
    StableHlo.unary main_v4_1 main_v6 (broadcastInDim S1x8x704x1024 ![1, 2, 3] bcast_S8x704x1024_S1x8x704x1024_1_2_3 : (⟨S8x704x1024, .bf16⟩ : BufTy).Contents (Elt F) → (⟨S1x8x704x1024, .bf16⟩ : BufTy).Contents (Elt F)),
    StableHlo.unary main_v4_2 main_v7 (broadcastInDim S1x8x352x1024 ![1, 2, 3] bcast_S8x352x1024_S1x8x352x1024_1_2_3 : (⟨S8x352x1024, .bf16⟩ : BufTy).Contents (Elt F) → (⟨S1x8x352x1024, .bf16⟩ : BufTy).Contents (Elt F)) ]

theorem pre_sub : ∀ op ∈ (pre : List (HloOp τ sig (Elt F))), op.bufs ⊆ StableHlo.tcRefs τ sig :=
  List.forall_iff_forall_mem.mp ⟨StableHlo.reshape_bufs_sub .., StableHlo.reshape_bufs_sub .., StableHlo.reshape_bufs_sub ..⟩
theorem post_sub : ∀ op ∈ (post : List (HloOp τ sig (Elt F))), op.bufs ⊆ StableHlo.tcRefs τ sig :=
  List.forall_iff_forall_mem.mp ⟨StableHlo.unary_bufs_sub .., StableHlo.unary_bufs_sub .., StableHlo.unary_bufs_sub ..⟩

theorem main_eq (d : Dev nD) : main (F := F) d = (StableHlo.seq pre >>= fun _ => (K (F := F)).run d 0 >>= fun _ => StableHlo.seq post >>= fun _ => Pure.pure PUnit.unit) := rfl

variable (m : (ℓ : Loc nD τ sig) → Buf (Elt F) ℓ) (ρ : Dev nD → PrngReg)

/-- What the call finds in its sources. -/
abbrev A : (i : Fin 3) → (d : Fin 8) → Buf (Elt F) ((d, src i) : Loc 8 τ sig) := fun i d => after pre (atLaunch m d) (src i)

/-- **The run**: nothing faults, every execution ends, every array holds what the host operations after the call make of what
    the call leaves, every semaphore is at zero. -/
theorem run_main : θ_run (defs (F := F)) (threads (F := F)) ⟨m, fun _ => 0, ρ⟩ (fun r =>
    (∀ d : Fin 8, ∀ b ∈ Pipeline.ucRefs τ sig, r.2.mem (d, b) = after post (Exchange.left land (out (A m)) pre m d) b) ∧ r.2.sem = fun _ => 0) :=
  Exchange.run_host (K := K (F := F)) (D := D (F := F)) (𝒱 := 𝒱) (fs (A m)) fits v₀ (covers (A m)) (by decide) (by decide) (by decide) (by decide) (by decide) rfl m ρ pre post pre_sub post_sub
    (List.forall_iff_forall_mem.mp ⟨rfl, rfl, rfl⟩) (List.forall_iff_forall_mem.mp ⟨rfl, rfl, rfl⟩) (fun _ _ => rfl) sc_facts (scalarObl _) main main_eq

end Cert.Proof.Scatter0a

end
-- ==== Proof.Whole.lean ====
/- What a gather leaves on every device is the whole matrix of a layer, its chunks those the devices hold. -/
module

public import proofs.«01_k».proof.Proof.Blocks

@[expose] public section

noncomputable section

namespace Exchange

open Idealize.ShloMosaic Idealize.ShloMosaic.ValueIdx

variable {p q r : ℕ} {α β : Type}

/-- Where block `c` along the second dimension is; -/
theorem tile_rows (hr : r = 8 * p) (hT : Layout.Tiles ⟨3, ![2, p, q]⟩ ⟨3, ![2, r, q]⟩ 1 8) (c : Fin 8) (l : Fin 2) (a : Fin p) (b : Fin q) :
    hT.idx c (ix3 l a b) = ix3 l ⟨p * c.val + a.val, col_lt hr c a⟩ b := by
  refine funext fun t => Fin.ext ?_
  rw [Layout.Tiles.idx_val]
  match t with
  | 0 => rfl
  | 1 => show c.val * p + a.val = p * c.val + a.val; rw [Nat.mul_comm]
  | 2 => rfl
/-- and along the third. -/
theorem tile_cols (hr : r = 8 * q) (hT : Layout.Tiles ⟨3, ![2, p, q]⟩ ⟨3, ![2, p, r]⟩ 2 8) (c : Fin 8) (l : Fin 2) (a : Fin p) (b : Fin q) :
    hT.idx c (ix3 l a b) = ix3 l a ⟨q * c.val + b.val, col_lt hr c b⟩ := by
  refine funext fun t => Fin.ext ?_
  rw [Layout.Tiles.idx_val]
  match t with
  | 0 => rfl
  | 1 => rfl
  | 2 => show c.val * q + b.val = q * c.val + b.val; rw [Nat.mul_comm]

/-- A layer's matrix, entry by entry. -/
theorem layer_apply {m n : ℕ} (l : Fin 2) (x : (⟨3, ![2, m, n]⟩ : Shape).Idx → α) (hs : (⟨3, ![2, m, n]⟩ : Shape).Slices ![l.val, 0, 0] ⟨3, ![1, m, n]⟩)
    (hc : (⟨3, ![1, m, n]⟩ : Shape).ShapeCasts ⟨2, ![m, n]⟩) (a : Fin m) (b : Fin n) :
    shapeCast ⟨2, ![m, n]⟩ (extractStridedSlice ⟨3, ![1, m, n]⟩ ![l.val, 0, 0] x hs) hc (ix2 a b) = x (ix3 l a b) := by
  refine (shapeCast_apply (s := ⟨3, ![1, m, n]⟩) _ _ (ix2 a b) (ix3 (0 : Fin 1) a b) ?_).trans
    (extractStridedSlice_apply _ x hs (ix3 (0 : Fin 1) a b) (ix3 l a b) (fun t => by
      match t with
      | 0 => show l.val = l.val + 0; omega
      | 1 => show a.val = 0 + a.val; omega
      | 2 => show b.val = 0 + b.val; omega))
  rw [Shape.rowMajor_val_three, Shape.rowMajor_val_two]
  show (0 * m + a.val) * n + b.val = a.val * n + b.val
  rw [Nat.zero_mul, Nat.zero_add]

/-- A matrix in eight chunks of rows, entry by entry. -/
theorem chunks_apply (hr : r = 8 * p) (x : (⟨2, ![r, q]⟩ : Shape).Idx → α) (hc : (⟨2, ![r, q]⟩ : Shape).ShapeCasts ⟨3, ![8, p, q]⟩) (s : Fin 8) (a : Fin p) (b : Fin q) :
    shapeCast ⟨3, ![8, p, q]⟩ x hc (ix3 s a b) = x (ix2 ⟨p * s.val + a.val, col_lt hr s a⟩ b) := by
  refine shapeCast_apply (s := ⟨2, ![r, q]⟩) x hc (ix3 s a b) (ix2 ⟨p * s.val + a.val, col_lt hr s a⟩ b) ?_
  rw [Shape.rowMajor_val_three, Shape.rowMajor_val_two]
  show (p * s.val + a.val) * q + b.val = (s.val * p + a.val) * q + b.val
  rw [Nat.mul_comm p]

variable (g : α → β) (l : Fin 2)

/-- The devices' rows, one after another: the layer's matrix in chunks of rows; -/
theorem slabs_rows (hr : r = 8 * p) (hT : Layout.Tiles ⟨3, ![2, p, q]⟩ ⟨3, ![2, r, q]⟩ 1 8)
    (hs : (⟨3, ![2, p, q]⟩ : Shape).Slices ![l.val, 0, 0] ⟨3, ![1, p, q]⟩) (hc : (⟨3, ![1, p, q]⟩ : Shape).ShapeCasts ⟨2, ![p, q]⟩)
    (hs' : (⟨3, ![2, r, q]⟩ : Shape).Slices ![l.val, 0, 0] ⟨3, ![1, r, q]⟩) (hc' : (⟨3, ![1, r, q]⟩ : Shape).ShapeCasts ⟨2, ![r, q]⟩)
    (hk : (⟨2, ![r, q]⟩ : Shape).ShapeCasts ⟨3, ![8, p, q]⟩)
    (A : Fin 8 → (⟨2, ![p, q]⟩ : Shape).Idx → β) (x : (⟨3, ![2, r, q]⟩ : Shape).Idx → α)
    (hA : ∀ s, A s = fun i => g (shapeCast ⟨2, ![p, q]⟩ (extractStridedSlice ⟨3, ![1, p, q]⟩ ![l.val, 0, 0] (Layout.block ⟨3, ![2, p, q]⟩ ⟨3, ![2, r, q]⟩ 1 8 s x hT) hs) hc i)) :
    slabsOut A = shapeCast ⟨3, ![8, p, q]⟩ (fun i => g (shapeCast ⟨2, ![r, q]⟩ (extractStridedSlice ⟨3, ![1, r, q]⟩ ![l.val, 0, 0] x hs') hc' i)) hk := by
  funext i
  obtain ⟨s, a, b, rfl⟩ : ∃ (s : Fin 8) (a : Fin p) (b : Fin q), i = ix3 s a b := ⟨i 0, i 1, i 2, eq_ix3 i⟩
  rw [chunks_apply hr]
  show A s (ix2 a b) = _
  rw [hA]
  refine congrArg g ?_
  rw [layer_apply, layer_apply, Layout.block_apply, tile_rows hr]

/-- of the devices' columns, turned into rows, the layer's matrix turned likewise; -/
theorem slabs_turned (hr : r = 8 * p) (hT : Layout.Tiles ⟨3, ![2, q, p]⟩ ⟨3, ![2, q, r]⟩ 2 8)
    (ht : (⟨3, ![2, q, p]⟩ : Shape).Transposes [0, 2, 1] ⟨3, ![2, p, q]⟩)
    (hs : (⟨3, ![2, p, q]⟩ : Shape).Slices ![l.val, 0, 0] ⟨3, ![1, p, q]⟩) (hc : (⟨3, ![1, p, q]⟩ : Shape).ShapeCasts ⟨2, ![p, q]⟩)
    (hs' : (⟨3, ![2, q, r]⟩ : Shape).Slices ![l.val, 0, 0] ⟨3, ![1, q, r]⟩) (hc' : (⟨3, ![1, q, r]⟩ : Shape).ShapeCasts ⟨2, ![q, r]⟩)
    (ht' : (⟨2, ![q, r]⟩ : Shape).Transposes [1, 0] ⟨2, ![r, q]⟩) (hk : (⟨2, ![r, q]⟩ : Shape).ShapeCasts ⟨3, ![8, p, q]⟩)
    (A : Fin 8 → (⟨2, ![p, q]⟩ : Shape).Idx → β) (x : (⟨3, ![2, q, r]⟩ : Shape).Idx → α)
    (hA : ∀ s, A s = fun i => g (shapeCast ⟨2, ![p, q]⟩ (extractStridedSlice ⟨3, ![1, p, q]⟩ ![l.val, 0, 0]
      (transpose ⟨3, ![2, p, q]⟩ [0, 2, 1] (Layout.block ⟨3, ![2, q, p]⟩ ⟨3, ![2, q, r]⟩ 2 8 s x hT) ht) hs) hc i)) :
    slabsOut A = shapeCast ⟨3, ![8, p, q]⟩ (fun i => g (transpose ⟨2, ![r, q]⟩ [1, 0] (shapeCast ⟨2, ![q, r]⟩ (extractStridedSlice ⟨3, ![1, q, r]⟩ ![l.val, 0, 0] x hs') hc') ht' i)) hk := by
  funext i
  obtain ⟨s, a, b, rfl⟩ : ∃ (s : Fin 8) (a : Fin p) (b : Fin q), i = ix3 s a b := ⟨i 0, i 1, i 2, eq_ix3 i⟩
  rw [chunks_apply hr]
  show A s (ix2 a b) = _
  rw [hA]
  refine congrArg g ?_
  refine Eq.trans ?_ (transpose_apply _ _ _ (ix2 ⟨p * s.val + a.val, col_lt hr s a⟩ b) (ix2 b ⟨p * s.val + a.val, col_lt hr s a⟩) (fun t => by match t with | 0 => rfl | 1 => rfl)).symm
  rw [layer_apply, layer_apply]
  refine (transpose_apply _ _ _ (ix3 l a b) (ix3 l b a) (fun t => by match t with | 0 => rfl | 1 => rfl | 2 => rfl)).trans ?_
  rw [Layout.block_apply, tile_cols hr]

/-- the devices' columns, side by side: the layer's matrix. -/
theorem beside_cols (hr : r = 8 * q) (hT : Layout.Tiles ⟨3, ![2, p, q]⟩ ⟨3, ![2, p, r]⟩ 2 8)
    (hs : (⟨3, ![2, p, q]⟩ : Shape).Slices ![l.val, 0, 0] ⟨3, ![1, p, q]⟩) (hc : (⟨3, ![1, p, q]⟩ : Shape).ShapeCasts ⟨2, ![p, q]⟩)
    (hs' : (⟨3, ![2, p, r]⟩ : Shape).Slices ![l.val, 0, 0] ⟨3, ![1, p, r]⟩) (hc' : (⟨3, ![1, p, r]⟩ : Shape).ShapeCasts ⟨2, ![p, r]⟩)
    (A : Fin 8 → (⟨2, ![p, q]⟩ : Shape).Idx → β) (x : (⟨3, ![2, p, r]⟩ : Shape).Idx → α)
    (hA : ∀ s, A s = fun i => g (shapeCast ⟨2, ![p, q]⟩ (extractStridedSlice ⟨3, ![1, p, q]⟩ ![l.val, 0, 0] (Layout.block ⟨3, ![2, p, q]⟩ ⟨3, ![2, p, r]⟩ 2 8 s x hT) hs) hc i)) :
    besideOut hr A = fun i => g (shapeCast ⟨2, ![p, r]⟩ (extractStridedSlice ⟨3, ![1, p, r]⟩ ![l.val, 0, 0] x hs') hc' i) := by
  funext i
  obtain ⟨a, b, rfl⟩ : ∃ (a : Fin p) (b : Fin r), i = ix2 a b := ⟨i 0, i 1, eq_ix2 i⟩
  show A (colOf hr (ix2 a b)) (ix2 a (inCol hr (ix2 a b))) = _
  rw [hA]
  refine congrArg g ?_
  rw [layer_apply, layer_apply, Layout.block_apply, tile_cols hr]
  exact congrArg (fun c => x (ix3 l a c)) (Fin.ext (Nat.div_add_mod _ _))

end Exchange

end
-- ==== Proof.Scatter0aValue.lean ====
/- The exchange of the first layer's output-projection and feed-forward gradients: its reference, and that a device's results are its blocks of the reference's. -/
module

public import proofs.«01_k».proof.Proof.Scatter0aRun
public import proofs.«01_k».proof.Proof.Whole
public import proofs.«01_k».proof.Proof.Gen.Scatter0aRef

@[expose] public section

noncomputable section

namespace Cert.Proof.Scatter0a

open Idealize.ShloMosaic Idealize.ShloMosaic.TcCoe Idealize.ShloMosaic.ValueIdx Idealize.ShloMosaic.StableHlo Idealize.SL.Sem

namespace Ref

open Cert.Scatter0aRef Cert.Scatter0aRef.Gen

variable {F : FTy → Type} [FloatOps F]

/-- The reference's results. -/
abbrev out0 (x : S8x8x128x1024.Idx → Elt F .bf16) : S8x8x128x1024.Idx → Elt F .bf16 := transpose S8x8x128x1024 [1, 0, 2, 3] x transposes_S8x8x128x1024_S8x8x128x1024_1_0_2_3
abbrev out1 (y : S8x8x704x1024.Idx → Elt F .bf16) : S8x8x704x1024.Idx → Elt F .bf16 := transpose S8x8x704x1024 [1, 0, 2, 3] y transposes_S8x8x704x1024_S8x8x704x1024_1_0_2_3
abbrev out2 (z : S8x8x352x1024.Idx → Elt F .bf16) : S8x8x352x1024.Idx → Elt F .bf16 := transpose S8x8x352x1024 [1, 0, 2, 3] z transposes_S8x8x352x1024_S8x8x352x1024_1_0_2_3

abbrev ops : List (HloOp τ sig (Elt F)) :=
  [ unary main_arg0 main_v0 ((transpose S8x8x128x1024 [1, 0, 2, 3] · transposes_S8x8x128x1024_S8x8x128x1024_1_0_2_3) : (⟨S8x8x128x1024, .bf16⟩ : BufTy).Contents (Elt F) → (⟨S8x8x128x1024, .bf16⟩ : BufTy).Contents (Elt F)),
    unary main_arg1 main_v1 ((transpose S8x8x704x1024 [1, 0, 2, 3] · transposes_S8x8x704x1024_S8x8x704x1024_1_0_2_3) : (⟨S8x8x704x1024, .bf16⟩ : BufTy).Contents (Elt F) → (⟨S8x8x704x1024, .bf16⟩ : BufTy).Contents (Elt F)),
    unary main_arg2 main_v2 ((transpose S8x8x352x1024 [1, 0, 2, 3] · transposes_S8x8x352x1024_S8x8x352x1024_1_0_2_3) : (⟨S8x8x352x1024, .bf16⟩ : BufTy).Contents (Elt F) → (⟨S8x8x352x1024, .bf16⟩ : BufTy).Contents (Elt F)) ]

theorem main_eq (c : Dev nD) : main (F := F) c = seq ops := rfl

theorem results (V : Valuation τ sig (Elt F)) :
    after ops V (main_v0 : DevRef τ sig) = out0 (V (main_arg0 : DevRef τ sig))
      ∧ after ops V (main_v1 : DevRef τ sig) = out1 (V (main_arg1 : DevRef τ sig))
      ∧ after ops V (main_v2 : DevRef τ sig) = out2 (V (main_arg2 : DevRef τ sig)) := by
  refine ⟨?_, ?_, ?_⟩ <;> (after_results <;> rfl)
theorem arguments (V : Valuation τ sig (Elt F)) :
    after ops V (main_arg0 : DevRef τ sig) = V (main_arg0 : DevRef τ sig)
      ∧ after ops V (main_arg1 : DevRef τ sig) = V (main_arg1 : DevRef τ sig)
      ∧ after ops V (main_arg2 : DevRef τ sig) = V (main_arg2 : DevRef τ sig) := by
  refine ⟨?_, ?_, ?_⟩ <;> after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub ..⟩

instance : IsEmpty (SemLoc sig) := by
  constructor; rintro (s | s)
  · exact absurd s.isLt (Nat.not_lt_zero _)
  · exact absurd s.isLt (Nat.not_lt_zero _)

/-- The reference's run: it ends, every array as its operations leave it, every semaphore at zero. -/
theorem run_main (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = after ops (fun b => m (c, b)) (b : DevRef τ sig)) ∧ r.2.sem = fun _ => 0 :=
  (θ_run defs _ _).mono (fun _ h => ⟨fun c b => h c b, funext fun g => isEmptyElim g.2⟩)
    (run_seq scopedRefs_eq scopedSems_eq defs main (fun _ => ops) main_eq (fun _ => ops_sub) m ρ)

end Ref

open Cert.Scatter0aIdeal Cert.Scatter0aIdeal.Gen

variable {F : FTy → Type} [FloatOps F]

theorem results (V : Valuation τ sig (Elt F)) :
    after post V (main_v5 : DevRef τ sig) = broadcastInDim S1x8x128x1024 ![1, 2, 3] bcast_S8x128x1024_S1x8x128x1024_1_2_3 (V (land 0))
      ∧ after post V (main_v6 : DevRef τ sig) = broadcastInDim S1x8x704x1024 ![1, 2, 3] bcast_S8x704x1024_S1x8x704x1024_1_2_3 (V (land 1))
      ∧ after post V (main_v7 : DevRef τ sig) = broadcastInDim S1x8x352x1024 ![1, 2, 3] bcast_S8x352x1024_S1x8x352x1024_1_2_3 (V (land 2)) := by
  refine ⟨?_, ?_, ?_⟩ <;> (after_results <;> rfl)
theorem sources (V : Valuation τ sig (Elt F)) :
    after pre V (src 0) = shapeCast S8x128x1024 (V (main_arg0 : DevRef τ sig)) shapeCasts_S1x8x128x1024_S8x128x1024
      ∧ after pre V (src 1) = shapeCast S8x704x1024 (V (main_arg1 : DevRef τ sig)) shapeCasts_S1x8x704x1024_S8x704x1024
      ∧ after pre V (src 2) = shapeCast S8x352x1024 (V (main_arg2 : DevRef τ sig)) shapeCasts_S1x8x352x1024_S8x352x1024 := by
  refine ⟨?_, ?_, ?_⟩ <;> (after_results <;> rfl)

variable (m : (ℓ : Loc nD τ sig) → Buf (Elt F) ℓ) (ρ : Dev nD → PrngReg)

theorem landed (i : Fin 3) (d : Fin 8) : Exchange.left land (out (A m)) pre m d (land i) = out (A m) i d := Exchange.overlay_land (by decide) _ _ i

/-- **The run**, of the arguments and results: device `d`'s results are what lands, its arguments are as they were. -/
theorem run_values : θ_run (defs (F := F)) (threads (F := F)) ⟨m, fun _ => 0, ρ⟩ (fun r =>
    (∀ d : Dev nD, (r.2.mem ((d.tc : Thread nD τ).loc main_v5) = broadcastInDim S1x8x128x1024 ![1, 2, 3] bcast_S8x128x1024_S1x8x128x1024_1_2_3 (out (A m) 0 d)
        ∧ r.2.mem ((d.tc : Thread nD τ).loc main_v6) = broadcastInDim S1x8x704x1024 ![1, 2, 3] bcast_S8x704x1024_S1x8x704x1024_1_2_3 (out (A m) 1 d)
        ∧ r.2.mem ((d.tc : Thread nD τ).loc main_v7) = broadcastInDim S1x8x352x1024 ![1, 2, 3] bcast_S8x352x1024_S1x8x352x1024_1_2_3 (out (A m) 2 d))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)) ∧ r.2.sem = fun _ => 0) := by
  refine (θ_run defs _ _).mono (fun r h => ⟨fun d => ⟨⟨?_, ?_, ?_⟩, ?_, ?_, ?_⟩, h.2⟩) (run_main m ρ)
  · exact (h.1 d _ (Exchange.uc_mem main_v5 rfl)).trans (((results (Exchange.left land (out (A m)) pre m d)).1).trans (congrArg _ (landed m 0 d)))
  · exact (h.1 d _ (Exchange.uc_mem main_v6 rfl)).trans (((results (Exchange.left land (out (A m)) pre m d)).2.1).trans (congrArg _ (landed m 1 d)))
  · exact (h.1 d _ (Exchange.uc_mem main_v7 rfl)).trans (((results (Exchange.left land (out (A m)) pre m d)).2.2).trans (congrArg _ (landed m 2 d)))
  · exact (h.1 d _ (Exchange.uc_mem main_arg0 rfl)).trans (Exchange.kept m _ (by decide) (fun V => by after_results) (fun V => by after_results) d)
  · exact (h.1 d _ (Exchange.uc_mem main_arg1 rfl)).trans (Exchange.kept m _ (by decide) (fun V => by after_results) (fun V => by after_results) d)
  · exact (h.1 d _ (Exchange.uc_mem main_arg2 rfl)).trans (Exchange.kept m _ (by decide) (fun V => by after_results) (fun V => by after_results) d)

/-- What device `d` ends with is block `d` of the reference's results. -/
theorem value0 (x : Cert.Scatter0aRef.S8x8x128x1024.Idx → Elt F .bf16) (d : Fin 8)
    (h0 : ∀ c : Dev nD, m ((c.tc : Thread nD τ).loc main_arg0) = Layout.block ⟨4, ![1, 8, 128, 1024]⟩ ⟨4, ![8, 8, 128, 1024]⟩ 0 8 c x) :
    broadcastInDim S1x8x128x1024 ![1, 2, 3] bcast_S8x128x1024_S1x8x128x1024_1_2_3 (out (A m) 0 d) = Layout.block ⟨4, ![1, 8, 128, 1024]⟩ ⟨4, ![8, 8, 128, 1024]⟩ 0 8 d (Ref.out0 x) :=
  Exchange.rows_block (p := 128) (q := 1024) (by decide) _ _ _ (A m 0) x (fun s => (sources (Exchange.atLaunch m s)).1.trans (congrArg (fun u => shapeCast S8x128x1024 u shapeCasts_S1x8x128x1024_S8x128x1024) (h0 s))) d
theorem value1 (y : Cert.Scatter0aRef.S8x8x704x1024.Idx → Elt F .bf16) (d : Fin 8)
    (h1 : ∀ c : Dev nD, m ((c.tc : Thread nD τ).loc main_arg1) = Layout.block ⟨4, ![1, 8, 704, 1024]⟩ ⟨4, ![8, 8, 704, 1024]⟩ 0 8 c y) :
    broadcastInDim S1x8x704x1024 ![1, 2, 3] bcast_S8x704x1024_S1x8x704x1024_1_2_3 (out (A m) 1 d) = Layout.block ⟨4, ![1, 8, 704, 1024]⟩ ⟨4, ![8, 8, 704, 1024]⟩ 0 8 d (Ref.out1 y) :=
  Exchange.rows_block (p := 704) (q := 1024) (by decide) _ _ _ (A m 1) y (fun s => (sources (Exchange.atLaunch m s)).2.1.trans (congrArg (fun u => shapeCast S8x704x1024 u shapeCasts_S1x8x704x1024_S8x704x1024) (h1 s))) d
theorem value2 (z : Cert.Scatter0aRef.S8x8x352x1024.Idx → Elt F .bf16) (d : Fin 8)
    (h2 : ∀ c : Dev nD, m ((c.tc : Thread nD τ).loc main_arg2) = Layout.block ⟨4, ![1, 8, 352, 1024]⟩ ⟨4, ![8, 8, 352, 1024]⟩ 0 8 c z) :
    broadcastInDim S1x8x352x1024 ![1, 2, 3] bcast_S8x352x1024_S1x8x352x1024_1_2_3 (out (A m) 2 d) = Layout.block ⟨4, ![1, 8, 352, 1024]⟩ ⟨4, ![8, 8, 352, 1024]⟩ 0 8 d (Ref.out2 z) :=
  Exchange.rows_block (p := 352) (q := 1024) (by decide) _ _ _ (A m 2) z (fun s => (sources (Exchange.atLaunch m s)).2.2.trans (congrArg (fun u => shapeCast S8x352x1024 u shapeCasts_S1x8x352x1024_S8x352x1024) (h2 s))) d

/-- What the reference's run says of one device. -/
theorem Ref.run_values (m : (ℓ : Loc Cert.Scatter0aRef.nD Cert.Scatter0aRef.τ Cert.Scatter0aRef.sig) → Buf (Elt F) ℓ) (ρ : Dev Cert.Scatter0aRef.nD → PrngReg) :
    θ_run (Cert.Scatter0aRef.defs (F := F)) (onTc (τ := Cert.Scatter0aRef.τ) (Cert.Scatter0aRef.main (F := F))) ⟨m, fun _ => 0, ρ⟩ fun r =>
      (∀ c : Dev Cert.Scatter0aRef.nD, (r.2.mem ((c.tc : Thread _ Cert.Scatter0aRef.τ).loc Cert.Scatter0aRef.main_v0) = Ref.out0 (m ((c.tc : Thread _ Cert.Scatter0aRef.τ).loc Cert.Scatter0aRef.main_arg0))
          ∧ r.2.mem ((c.tc : Thread _ Cert.Scatter0aRef.τ).loc Cert.Scatter0aRef.main_v1) = Ref.out1 (m ((c.tc : Thread _ Cert.Scatter0aRef.τ).loc Cert.Scatter0aRef.main_arg1))
          ∧ r.2.mem ((c.tc : Thread _ Cert.Scatter0aRef.τ).loc Cert.Scatter0aRef.main_v2) = Ref.out2 (m ((c.tc : Thread _ Cert.Scatter0aRef.τ).loc Cert.Scatter0aRef.main_arg2)))
        ∧ r.2.mem ((c.tc : Thread _ Cert.Scatter0aRef.τ).loc Cert.Scatter0aRef.main_arg0) = m ((c.tc : Thread _ Cert.Scatter0aRef.τ).loc Cert.Scatter0aRef.main_arg0)
        ∧ r.2.mem ((c.tc : Thread _ Cert.Scatter0aRef.τ).loc Cert.Scatter0aRef.main_arg1) = m ((c.tc : Thread _ Cert.Scatter0aRef.τ).loc Cert.Scatter0aRef.main_arg1)
        ∧ r.2.mem ((c.tc : Thread _ Cert.Scatter0aRef.τ).loc Cert.Scatter0aRef.main_arg2) = m ((c.tc : Thread _ Cert.Scatter0aRef.τ).loc Cert.Scatter0aRef.main_arg2)) ∧ r.2.sem = fun _ => 0 := by
  refine (θ_run Cert.Scatter0aRef.defs _ _).mono (fun r h => ⟨fun c => ?_, h.2⟩) (Ref.run_main m ρ)
  have R := Ref.results (F := F) (fun b => m (c, b))
  have R' := Ref.arguments (F := F) (fun b => m (c, b))
  exact ⟨⟨(h.1 c _).trans R.1, (h.1 c _).trans R.2.1, (h.1 c _).trans R.2.2⟩, (h.1 c _).trans R'.1, (h.1 c _).trans R'.2.1, (h.1 c _).trans R'.2.2⟩

end Cert.Proof.Scatter0a

end
-- ==== Proof.Scatter0bBody.lean ====
/- The exchange of the first layer's input-projection and convolution gradients: its parts, slots and semaphores as `Exchange.Ports`, and that
   the printed kernel is `Exchange.Ports.body` of them. -/
module

public import proofs.«01_k».proof.Proof.Launch
public import proofs.«01_k».proof.Proof.Steps
public import proofs.«01_k».proof.Proof.Arrays
public import proofs.«01_k».proof.Proof.Gen.Scatter0bIdeal.Skeleton

@[expose] public section

set_option synthInstance.maxSize 4096

noncomputable section

namespace Cert.Proof.Scatter0b

open Idealize.ShloMosaic Idealize.SL.Sem
open Cert.Scatter0bIdeal Cert.Scatter0bIdeal.Gen
open Exchange (peer rowAt colAt at_eq op_congr)
open Exchange.Ports (ops_cons ops_nil pairs_flat)

/-- The one grid point. -/
abbrev i₀ : grid0.Coords := (fun | 0 => ⟨0, by decide⟩ | ⟨_ + 1, h⟩ => absurd h (Nat.not_lt.2 (Nat.le_add_left _ _)))

theorem sem_inb (i : Fin 2) (k : Fin 7) : ∀ a, (![i.val, k.val] : Fin 2 → ℕ) a + S1x1.size a ≤ S2x7.size a := by revert i k; decide
theorem loc_inb (i : Fin 2) : ∀ a, (![i.val] : Fin 1 → ℕ) a + S1.size a ≤ S2.size a := by revert i; decide

/-- The receive, send and local semaphores. -/
def recvSem (x : Fin 7 × Fin 2) : DmaSem sig := ((cc0_scratch1.slice (Rect.unit (s := S2x7) ![x.2.val, x.1.val] S1x1.size (sem_inb x.2 x.1))).squeeze S_ squeezes_S1x1_S_).sem
def sendSem (x : Fin 7 × Fin 2) : DmaSem sig := ((cc0_scratch0.slice (Rect.unit (s := S2x7) ![x.2.val, x.1.val] S1x1.size (sem_inb x.2 x.1))).squeeze S_ squeezes_S1x1_S_).sem
def locSem (i : Fin 2) : DmaSem sig := ((cc0_scratch2.slice (Rect.unit (s := S2) ![i.val] S1.size (loc_inb i))).squeeze S_ squeezes_S1_S_).sem

theorem recvSem_val : ∀ x, (recvSem x).val = 14 + 7 * x.2.val + x.1.val := by decide +kernel
theorem sendSem_val : ∀ x, (sendSem x).val = 7 * x.2.val + x.1.val := by decide +kernel
theorem locSem_val : ∀ x, (locSem x).val = 28 + x.val := by decide +kernel

/-! ## The parts and the slots, as slices of the call's arrays -/

abbrev part0 := colAt (p := 1024) (q := 384) (r := 3072) (Memref.whole main_v1_scs)
abbrev part1 := rowAt squeezes_S1x3x768_S3x768 (Memref.whole main_v2_scs)
abbrev slot0 := rowAt squeezes_S1x1024x384_S1024x384 (Memref.whole main_v3_0_scs)
abbrev slot1 := rowAt squeezes_S1x3x768_S3x768 (Memref.whole main_v3_1_scs)

/-- What the program exchanges, and over what. -/
def X : Exchange.Ports τ sig 2 where
  c₀ := (i₀ 0).castLE hcore0
  bar := (SemArray.scalar (sig.barrier 6 rfl) : Sems sig S_).sem
  recv := recvSem
  send := sendSem
  loc := locSem
  B := fun | 0 => S1024x384 | 1 => S3x768
  e := fun | 0 => .bf16 | 1 => .f32
  part := fun
    | 0 => fun s => part0 (k0_off2 s) (k0_off2_inb s)
    | 1 => fun s => part1 (k0_off3 s) (k0_off3_inb s)
  slot := fun
    | 0 => fun s => slot0 (k0_off1 s) (k0_off1_inb s)
    | 1 => fun s => slot1 (k0_off3 s) (k0_off3_inb s)
  hpart := fun
    | 0 => fun s => (Memref.isWhole_whole main_v1_scs).wordExact_slice rfl _ (k0_off2_wordsbf16 s)
    | 1 => fun s => (View.wordExact_bits rfl).reshape _ _
  hslot := fun
    | 0 => fun s => ((Memref.isWhole_whole main_v3_0_scs).wordExact_slice rfl _ (k0_off1_wordsbf16 s)).reshape _ _
    | 1 => fun s => (View.wordExact_bits rfl).reshape _ _
  hsc := fun | 0 | 1 => fun _ => rfl
  N := fun
    | 0 => (part0 (k0_off2 0) (k0_off2_inb 0)).view.dmaCredit
    | 1 => (part1 (k0_off3 0) (k0_off3_inb 0)).view.dmaCredit
  hNpart := fun | 0 | 1 => fun _ => rfl
  hNslot := fun | 0 | 1 => fun _ => rfl
  N_pos := fun | 0 | 1 => View.dmaCredit_pos _ (by decide)
  sh := fun _ _ => Idealize.SL.RA.fullShare
  recv_inj := fun a b h => by
    have h := congrArg Fin.val h; rw [recvSem_val, recvSem_val] at h
    exact Prod.ext (Fin.ext (by omega)) (Fin.ext (by omega))
  send_inj := fun a b h => by
    have h := congrArg Fin.val h; rw [sendSem_val, sendSem_val] at h
    exact Prod.ext (Fin.ext (by omega)) (Fin.ext (by omega))
  loc_inj := fun a b h => by
    have h := congrArg Fin.val h; rw [locSem_val, locSem_val] at h
    exact Fin.ext (by omega)
  recv_send := fun a b h => by
    have h := congrArg Fin.val h; rw [recvSem_val, sendSem_val] at h; omega
  recv_loc := fun a b h => by
    have h := congrArg Fin.val h; rw [recvSem_val, locSem_val] at h; omega
  send_loc := fun a b h => by
    have h := congrArg Fin.val h; rw [sendSem_val, locSem_val] at h; omega

/-! ## The printed kernel -/

variable {F : FTy → Type} [FloatOps F]

set_option maxHeartbeats 8000000 in
set_option maxRecDepth 10000 in
/-- The printed kernel is the exchange. -/
theorem body_eq : cc0_scatter_0b (F := F) i₀ (Memref.whole main_v1_scs) (Memref.isWhole_whole _) (Memref.whole main_v2_scs) (Memref.isWhole_whole _) (Memref.whole main_v3_0_scs) (Memref.isWhole_whole _) (Memref.whole main_v3_1_scs) (Memref.isWhole_whole _) cc0_scratch0 cc0_scratch1 cc0_scratch2
    = .op .deviceId fun d => X.body d := by
  unfold cc0_scatter_0b
  simp only [k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, semSignalWord, semWaitWord, Prog.bind_ret, Prog.bind_op, Prog.bind_lift, Prog.pure_eq_ret]
  refine congrArg (Prog.op _) (funext fun d => ?_)
  rw [Exchange.Ports.body, pairs_flat, show Exchange.order = [1, 3, 5, 2, 4, 6, 0] from rfl, show List.finRange 2 = [0, 1] from rfl]
  simp only [List.flatMap_cons, List.flatMap_nil, List.map_cons, List.map_nil, List.cons_append, List.nil_append, ops_cons, ops_nil]
  iterate 7 refine op_congr (X.signal_eq d _ (by revert d; decide +kernel)) fun _ => ?_
  iterate 3 refine op_congr rfl fun _ => ?_
  iterate 7
    refine op_congr (X.send_eq d _ 0 (at_eq part0 (by revert d; decide +kernel)) (by revert d; decide +kernel)) fun _ => ?_
    refine op_congr (X.send_eq d _ 1 (at_eq part1 (by revert d; decide +kernel)) (by revert d; decide +kernel)) fun _ => ?_
  iterate 7
    refine op_congr (X.recv_eq d _ 0 (at_eq slot0 (by revert d; decide +kernel))) fun _ => ?_
    refine op_congr (X.recv_eq d _ 1 (at_eq slot1 (by revert d; decide +kernel))) fun _ => ?_
  iterate 7
    refine op_congr (X.sent_eq d _ 0 (at_eq part0 (by revert d; decide +kernel))) fun _ => ?_
    refine op_congr (X.sent_eq d _ 1 (at_eq part1 (by revert d; decide +kernel))) fun _ => ?_
  iterate 2 refine op_congr rfl fun _ => ?_
  rfl

end Cert.Proof.Scatter0b

end
-- ==== Proof.Scatter0bRun.lean ====
/- The exchange of the first layer's input-projection and convolution gradients: how the parts and slots lie in its arrays, what every array ends at, and its run. -/
module

public import proofs.«01_k».proof.Proof.Scatter0bBody
public import proofs.«01_k».proof.Proof.HostRun

@[expose] public section

set_option synthInstance.maxSize 4096

noncomputable section

namespace Cert.Proof.Scatter0b

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Scatter0bIdeal Cert.Scatter0bIdeal.Gen
open Idealize.ShloMosaic.StableHlo (after)
open Exchange (peer cBar mem_of_eq row_mem rows_holds col_mem cols_holds slabs_holds beside_holds whole_parts colOf pieces_eq pieces_some pieces_join Covers atLaunch)
open Exchange.Ports (UU EH u₀)

theorem off1_at : ∀ s : Fin 8, k0_off1 s = ![s.val, 0, 0] := by decide +kernel
theorem off2_at : ∀ s : Fin 8, k0_off2 s = ![0, 384 * s.val] := by decide +kernel
theorem off3_at : ∀ s : Fin 8, k0_off3 s = ![s.val, 0, 0] := by decide +kernel

/-! ## Which part, which slot an element is of -/

theorem part0_mem (t : Fin 8) (i : S1024x3072.Idx) : i ∈ (part0 (k0_off2 t) (k0_off2_inb t)).view.set ↔ colOf (q := 384) rfl i = t :=
  (mem_of_eq (View.set_slice_whole _ _)).trans (col_mem rfl (off2_at t) i)
theorem part1_mem (t : Fin 8) (i : S8x3x768.Idx) : i ∈ (part1 (k0_off3 t) (k0_off3_inb t)).view.set ↔ (i 0 : Fin 8) = t :=
  (mem_of_eq ((View.set_reshape _ _).trans (View.set_slice_whole _ _))).trans (row_mem (off3_at t) i)
theorem slot0_mem (t : Fin 8) (i : S8x1024x384.Idx) : i ∈ (slot0 (k0_off1 t) (k0_off1_inb t)).view.set ↔ (i 0 : Fin 8) = t :=
  (mem_of_eq ((View.set_reshape _ _).trans (View.set_slice_whole _ _))).trans (row_mem (off1_at t) i)
theorem slot1_mem (t : Fin 8) (i : S8x3x768.Idx) : i ∈ (slot1 (k0_off3 t) (k0_off3_inb t)).view.set ↔ (i 0 : Fin 8) = t :=
  (mem_of_eq ((View.set_reshape _ _).trans (View.set_slice_whole _ _))).trans (row_mem (off3_at t) i)

section Contents
variable {Val : EltTy → Type}

/-- The arrays of the call, and what they hold before and after. -/
abbrev src : Fin 2 → DevRef τ sig := fun
  | 0 => Proc.devRef .tc (main_v1 : Ref sig .tc)
  | 1 => Proc.devRef .tc (main_v2 : Ref sig .tc)
abbrev land : Fin 2 → DevRef τ sig := fun
  | 0 => Proc.devRef .tc (main_v3_0 : Ref sig .tc)
  | 1 => Proc.devRef .tc (main_v3_1 : Ref sig .tc)

variable (A : (i : Fin 2) → (d : Fin 8) → Buf Val ((d, src i) : Loc 8 τ sig))

abbrev out : (i : Fin 2) → (d : Fin 8) → Buf Val ((d, land i) : Loc 8 τ sig) := fun
  | 0 => fun d => Exchange.colsOut (r := 3072) rfl (A 0) d
  | 1 => fun d => Exchange.rowsOut (A 1) d

/-- What the exchange reads. -/
abbrev fs : X.Src Val := fun
  | 0 => fun d _ => A 0 d
  | 1 => fun d _ => A 1 d

local notation "𝕄" => MT 8 τ sig (HIx 1) Val ℕ (UU τ sig) ℕ

/-- The parts are the sources, the slots the landing arrays, and what lands is `out`. -/
theorem covers : Covers X (fs A) src land A (out A) where
  parts := fun
    | 0 => fun d => pieces_eq (ℓ := ((d, src 0) : Loc 8 τ sig)) (K := fun t => (X.part 0 t).view.set) _ part0_mem fullShare (A 0 d)
    | 1 => fun d => pieces_eq (ℓ := ((d, src 1) : Loc 8 τ sig)) (K := fun t => (X.part 1 t).view.set) _ part1_mem fullShare (A 1 d)
  slots := fun
    | 0 => fun d => pieces_some (ℓ := ((d, land 0) : Loc 8 τ sig)) (K := fun t => (X.slot 0 t).view.set) _ slot0_mem
    | 1 => fun d => pieces_some (ℓ := ((d, land 1) : Loc 8 τ sig)) (K := fun t => (X.slot 1 t).view.set) _ slot1_mem
  landed := fun
    | 0 => fun d => pieces_join (ℓ := ((d, land 0) : Loc 8 τ sig)) (K := fun t => (X.slot 0 t).view.set) _ slot0_mem (out A 0 d)
        (fun t f => (X.slot 0 t).view.read Val f = (X.part 0 d).view.read Val (A 0 t)) fun t f h x hx => cols_holds (α := Val .bf16) rfl squeezes_S1x1024x384_S1024x384 (k0_off1_inb t) (k0_off2_inb d) (A 0) (off1_at t) (off2_at d) f h x ((slot0_mem t x).mp hx)
    | 1 => fun d => pieces_join (ℓ := ((d, land 1) : Loc 8 τ sig)) (K := fun t => (X.slot 1 t).view.set) _ slot1_mem (out A 1 d)
        (fun t f => (X.slot 1 t).view.read Val f = (X.part 1 d).view.read Val (A 1 t)) fun t f h x hx => rows_holds (α := Val .f32) squeezes_S1x3x768_S3x768 (k0_off3_inb t) (k0_off3_inb d) (A 1) (off3_at t) (off3_at d) f h x ((slot1_mem t x).mp hx)

end Contents

/-! ## The launch -/

variable {F : FTy → Type} [FloatOps F]

local notation "𝕄" => MT 8 τ sig (HIx 1) (Elt F) ℕ (UU τ sig) ℕ

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem sc_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The exchange fits the launch. -/
theorem fits : X.Fits (K (F := F)) where
  hs := show X.bar ≠ sc_start by decide
  ht := show X.bar ≠ sc_taskDone by decide
  hbar := show (SemLoc.reg X.bar : SemLoc sig).isScoped .scScalar = false by decide
  hdma := show ∀ x : Exchange.Ports.DCell 2, (X.sem (Exchange.Ports.dc x)).isScoped .scScalar = true by decide +kernel
  hkind := rfl
  hcall := show (i₀ 0).val < 1 by decide

set_option maxRecDepth 10000 in
theorem scalarObl (f : X.Src (Elt F)) : (K (F := F)).ScalarObl' (D (F := F)) 𝒱 (X.P f fits) v₀ 0 := by
  rintro d ⟨cv, hcv⟩ O W hO hOlev -
  obtain rfl : cv = 0 := by have : (K (F := F)).nCore 0 = 1 := rfl; omega
  change _ ⊢ wp _ _ _ (Pipeline.liftProg (defs₀ (F := F) (.scScalar ((K (F := F)).core 0 ⟨0, hcv⟩)) 0 ())) _
  refine BI.Entails.trans ?_ (Pipeline.wp_liftProg (D (F := F)) (Pipeline.defs_kernel pcfgs defs₀) 𝒱₀ _ Set.univ none _ _)
  have hc : ((K (F := F)).core 0 ⟨0, hcv⟩).val < grid0.bound 0 := hcv
  rw [show (X.P f fits).x 0 (S d ((K (F := F)).core 0 ⟨0, hcv⟩)) = X.kit f d from X.Px_S f fits d,
    show (X.P f fits).ox 0 (S d ((K (F := F)).core 0 ⟨0, hcv⟩)) = X.ox d from X.Pox_S f fits d]
  refine (X.wp_kernel f fits (defs₀ (F := F)) 𝒱₀ d O W hOlev).trans ?_
  refine (Entails.of_eq (wp_deviceId 𝒱₀ (S d X.c₀) none Set.univ).symm).trans ?_
  exact Entails.of_eq (congrArg (fun p => wp frame (wpE (defs₀ (F := F)) 𝒱₀ (S d X.c₀) none) Set.univ p _) body_eq.symm)

/-! ## The program -/

abbrev pre : List (HloOp τ sig (Elt F)) :=
  [ StableHlo.reshape main_arg0 main_v1 (rfl : (.bf16 : EltTy) = .bf16) shapeCasts_S1x1024x3072_S1024x3072,
    StableHlo.reshape main_arg1 main_v2 (rfl : (.f32 : EltTy) = .f32) shapeCasts_S1x8x3x768_S8x3x768 ]

abbrev post : List (HloOp τ sig (Elt F)) :=
  [ StableHlo.unary main_v3_0 main_v4 (broadcastInDim S1x8x1024x384 ![1, 2, 3] bcast_S8x1024x384_S1x8x1024x384_1_2_3 : (⟨S8x1024x384, .bf16⟩ : BufTy).Contents (Elt F) → (⟨S1x8x1024x384, .bf16⟩ : BufTy).Contents (Elt F)),
    StableHlo.unary main_v3_1 main_v5 (broadcastInDim S1x8x3x768 ![1, 2, 3] bcast_S8x3x768_S1x8x3x768_1_2_3 : (⟨S8x3x768, .f32⟩ : BufTy).Contents (Elt F) → (⟨S1x8x3x768, .f32⟩ : BufTy).Contents (Elt F)) ]

theorem pre_sub : ∀ op ∈ (pre : List (HloOp τ sig (Elt F))), op.bufs ⊆ StableHlo.tcRefs τ sig :=
  List.forall_iff_forall_mem.mp ⟨StableHlo.reshape_bufs_sub .., StableHlo.reshape_bufs_sub ..⟩
theorem post_sub : ∀ op ∈ (post : List (HloOp τ sig (Elt F))), op.bufs ⊆ StableHlo.tcRefs τ sig :=
  List.forall_iff_forall_mem.mp ⟨StableHlo.unary_bufs_sub .., StableHlo.unary_bufs_sub ..⟩

theorem main_eq (d : Dev nD) : main (F := F) d = (StableHlo.seq pre >>= fun _ => (K (F := F)).run d 0 >>= fun _ => StableHlo.seq post >>= fun _ => Pure.pure PUnit.unit) := rfl

variable (m : (ℓ : Loc nD τ sig) → Buf (Elt F) ℓ) (ρ : Dev nD → PrngReg)

/-- What the call finds in its sources. -/
abbrev A : (i : Fin 2) → (d : Fin 8) → Buf (Elt F) ((d, src i) : Loc 8 τ sig) := fun i d => after pre (atLaunch m d) (src i)

/-- **The run**: nothing faults, every execution ends, every array holds what the host operations after the call make of what
    the call leaves, every semaphore is at zero. -/
theorem run_main : θ_run (defs (F := F)) (threads (F := F)) ⟨m, fun _ => 0, ρ⟩ (fun r =>
    (∀ d : Fin 8, ∀ b ∈ Pipeline.ucRefs τ sig, r.2.mem (d, b) = after post (Exchange.left land (out (A m)) pre m d) b) ∧ r.2.sem = fun _ => 0) :=
  Exchange.run_host (K := K (F := F)) (D := D (F := F)) (𝒱 := 𝒱) (fs (A m)) fits v₀ (covers (A m)) (by decide) (by decide) (by decide) (by decide) (by decide) rfl m ρ pre post pre_sub post_sub
    (List.forall_iff_forall_mem.mp ⟨rfl, rfl⟩) (List.forall_iff_forall_mem.mp ⟨rfl, rfl⟩) (fun _ _ => rfl) sc_facts (scalarObl _) main main_eq

end Cert.Proof.Scatter0b

end
-- ==== Proof.Scatter0bValue.lean ====
/- The exchange of the first layer's input-projection and convolution gradients: its reference, and that a device's results are its blocks of the reference's. -/
module

public import proofs.«01_k».proof.Proof.Scatter0bRun
public import proofs.«01_k».proof.Proof.Whole
public import proofs.«01_k».proof.Proof.Gen.Scatter0bRef

@[expose] public section

noncomputable section

namespace Cert.Proof.Scatter0b

open Idealize.ShloMosaic Idealize.ShloMosaic.TcCoe Idealize.ShloMosaic.ValueIdx Idealize.ShloMosaic.StableHlo Idealize.SL.Sem

namespace Ref

open Cert.Scatter0bRef Cert.Scatter0bRef.Gen

variable {F : FTy → Type} [FloatOps F]

/-- The reference's results. -/
abbrev out0 (x : S8x1024x3072.Idx → Elt F .bf16) : S8x8x1024x384.Idx → Elt F .bf16 := transpose S8x8x1024x384 [2, 0, 1, 3] (shapeCast S8x1024x8x384 x shapeCasts_S8x1024x3072_S8x1024x8x384) transposes_S8x1024x8x384_S8x8x1024x384_2_0_1_3
abbrev out1 (y : S8x8x3x768.Idx → Elt F .f32) : S8x8x3x768.Idx → Elt F .f32 := transpose S8x8x3x768 [1, 0, 2, 3] y transposes_S8x8x3x768_S8x8x3x768_1_0_2_3

abbrev ops : List (HloOp τ sig (Elt F)) :=
  [ reshape main_arg0 main_v0 (rfl : (.bf16 : EltTy) = .bf16) shapeCasts_S8x1024x3072_S8x1024x8x384,
    unary main_v0 main_v1 ((transpose S8x8x1024x384 [2, 0, 1, 3] · transposes_S8x1024x8x384_S8x8x1024x384_2_0_1_3) : (⟨S8x1024x8x384, .bf16⟩ : BufTy).Contents (Elt F) → (⟨S8x8x1024x384, .bf16⟩ : BufTy).Contents (Elt F)),
    unary main_arg1 main_v2 ((transpose S8x8x3x768 [1, 0, 2, 3] · transposes_S8x8x3x768_S8x8x3x768_1_0_2_3) : (⟨S8x8x3x768, .f32⟩ : BufTy).Contents (Elt F) → (⟨S8x8x3x768, .f32⟩ : BufTy).Contents (Elt F)) ]

theorem main_eq (c : Dev nD) : main (F := F) c = seq ops := rfl

theorem results (V : Valuation τ sig (Elt F)) :
    after ops V (main_v1 : DevRef τ sig) = out0 (V (main_arg0 : DevRef τ sig))
      ∧ after ops V (main_v2 : DevRef τ sig) = out1 (V (main_arg1 : DevRef τ sig)) := by
  refine ⟨?_, ?_⟩ <;> (after_results <;> rfl)
theorem arguments (V : Valuation τ sig (Elt F)) :
    after ops V (main_arg0 : DevRef τ sig) = V (main_arg0 : DevRef τ sig)
      ∧ after ops V (main_arg1 : DevRef τ sig) = V (main_arg1 : DevRef τ sig) := by
  refine ⟨?_, ?_⟩ <;> after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., unary_bufs_sub ..⟩

instance : IsEmpty (SemLoc sig) := by
  constructor; rintro (s | s)
  · exact absurd s.isLt (Nat.not_lt_zero _)
  · exact absurd s.isLt (Nat.not_lt_zero _)

/-- The reference's run: it ends, every array as its operations leave it, every semaphore at zero. -/
theorem run_main (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = after ops (fun b => m (c, b)) (b : DevRef τ sig)) ∧ r.2.sem = fun _ => 0 :=
  (θ_run defs _ _).mono (fun _ h => ⟨fun c b => h c b, funext fun g => isEmptyElim g.2⟩)
    (run_seq scopedRefs_eq scopedSems_eq defs main (fun _ => ops) main_eq (fun _ => ops_sub) m ρ)

end Ref

open Cert.Scatter0bIdeal Cert.Scatter0bIdeal.Gen

variable {F : FTy → Type} [FloatOps F]

theorem results (V : Valuation τ sig (Elt F)) :
    after post V (main_v4 : DevRef τ sig) = broadcastInDim S1x8x1024x384 ![1, 2, 3] bcast_S8x1024x384_S1x8x1024x384_1_2_3 (V (land 0))
      ∧ after post V (main_v5 : DevRef τ sig) = broadcastInDim S1x8x3x768 ![1, 2, 3] bcast_S8x3x768_S1x8x3x768_1_2_3 (V (land 1)) := by
  refine ⟨?_, ?_⟩ <;> (after_results <;> rfl)
theorem sources (V : Valuation τ sig (Elt F)) :
    after pre V (src 0) = shapeCast S1024x3072 (V (main_arg0 : DevRef τ sig)) shapeCasts_S1x1024x3072_S1024x3072
      ∧ after pre V (src 1) = shapeCast S8x3x768 (V (main_arg1 : DevRef τ sig)) shapeCasts_S1x8x3x768_S8x3x768 := by
  refine ⟨?_, ?_⟩ <;> (after_results <;> rfl)

variable (m : (ℓ : Loc nD τ sig) → Buf (Elt F) ℓ) (ρ : Dev nD → PrngReg)

theorem landed (i : Fin 2) (d : Fin 8) : Exchange.left land (out (A m)) pre m d (land i) = out (A m) i d := Exchange.overlay_land (by decide) _ _ i

/-- **The run**, of the arguments and results: device `d`'s results are what lands, its arguments are as they were. -/
theorem run_values : θ_run (defs (F := F)) (threads (F := F)) ⟨m, fun _ => 0, ρ⟩ (fun r =>
    (∀ d : Dev nD, (r.2.mem ((d.tc : Thread nD τ).loc main_v4) = broadcastInDim S1x8x1024x384 ![1, 2, 3] bcast_S8x1024x384_S1x8x1024x384_1_2_3 (out (A m) 0 d)
        ∧ r.2.mem ((d.tc : Thread nD τ).loc main_v5) = broadcastInDim S1x8x3x768 ![1, 2, 3] bcast_S8x3x768_S1x8x3x768_1_2_3 (out (A m) 1 d))
      ∧ r.2.mem ((d.tc : Thread nD τ).loc main_arg0) = m ((d.tc : Thread nD τ).loc main_arg0)
      ∧ r.2.mem ((d.tc : Thread nD τ).loc main_arg1) = m ((d.tc : Thread nD τ).loc main_arg1)) ∧ r.2.sem = fun _ => 0) := by
  refine (θ_run defs _ _).mono (fun r h => ⟨fun d => ⟨⟨?_, ?_⟩, ?_, ?_⟩, h.2⟩) (run_main m ρ)
  · exact (h.1 d _ (Exchange.uc_mem main_v4 rfl)).trans (((results (Exchange.left land (out (A m)) pre m d)).1).trans (congrArg _ (landed m 0 d)))
  · exact (h.1 d _ (Exchange.uc_mem main_v5 rfl)).trans (((results (Exchange.left land (out (A m)) pre m d)).2).trans (congrArg _ (landed m 1 d)))
  · exact (h.1 d _ (Exchange.uc_mem main_arg0 rfl)).trans (Exchange.kept m _ (by decide) (fun V => by after_results) (fun V => by after_results) d)
  · exact (h.1 d _ (Exchange.uc_mem main_arg1 rfl)).trans (Exchange.kept m _ (by decide) (fun V => by after_results) (fun V => by after_results) d)

/-- What device `d` ends with is block `d` of the reference's results. -/
theorem value0 (x : Cert.Scatter0bRef.S8x1024x3072.Idx → Elt F .bf16) (d : Fin 8)
    (h0 : ∀ c : Dev nD, m ((c.tc : Thread nD τ).loc main_arg0) = Layout.block ⟨3, ![1, 1024, 3072]⟩ ⟨3, ![8, 1024, 3072]⟩ 0 8 c x) :
    broadcastInDim S1x8x1024x384 ![1, 2, 3] bcast_S8x1024x384_S1x8x1024x384_1_2_3 (out (A m) 0 d) = Layout.block ⟨4, ![1, 8, 1024, 384]⟩ ⟨4, ![8, 8, 1024, 384]⟩ 0 8 d (Ref.out0 x) :=
  Exchange.cols_block (p := 1024) (q := 384) (r := 3072) rfl (by decide) (by decide) _ _ _ _ (A m 0) x (fun s => (sources (Exchange.atLaunch m s)).1.trans (congrArg (fun u => shapeCast S1024x3072 u shapeCasts_S1x1024x3072_S1024x3072) (h0 s))) d
theorem value1 (y : Cert.Scatter0bRef.S8x8x3x768.Idx → Elt F .f32) (d : Fin 8)
    (h1 : ∀ c : Dev nD, m ((c.tc : Thread nD τ).loc main_arg1) = Layout.block ⟨4, ![1, 8, 3, 768]⟩ ⟨4, ![8, 8, 3, 768]⟩ 0 8 c y) :
    broadcastInDim S1x8x3x768 ![1, 2, 3] bcast_S8x3x768_S1x8x3x768_1_2_3 (out (A m) 1 d) = Layout.block ⟨4, ![1, 8, 3, 768]⟩ ⟨4, ![8, 8, 3, 768]⟩ 0 8 d (Ref.out1 y) :=
  Exchange.rows_block (p := 3) (q := 768) (by decide) _ _ _ (A m 1) y (fun s => (sources (Exchange.atLaunch m s)).2.trans (congrArg (fun u => shapeCast S8x3x768 u shapeCasts_S1x8x3x768_S8x3x768) (h1 s))) d

/-- What the reference's run says of one device. -/
theorem Ref.run_values (m : (ℓ : Loc Cert.Scatter0bRef.nD Cert.Scatter0bRef.τ Cert.Scatter0bRef.sig) → Buf (Elt F) ℓ) (ρ : Dev Cert.Scatter0bRef.nD → PrngReg) :
    θ_run (Cert.Scatter0bRef.defs (F := F)) (onTc (τ := Cert.Scatter0bRef.τ) (Cert.Scatter0bRef.main (F := F))) ⟨m, fun _ => 0, ρ⟩ fun r =>
      (∀ c : Dev Cert.Scatter0bRef.nD, (r.2.mem ((c.tc : Thread _ Cert.Scatter0bRef.τ).loc Cert.Scatter0bRef.main_v1) = Ref.out0 (m ((c.tc : Thread _ Cert.Scatter0bRef.τ).loc Cert.Scatter0bRef.main_arg0))
          ∧ r.2.mem ((c.tc : Thread _ Cert.Scatter0bRef.τ).loc Cert.Scatter0bRef.main_v2) = Ref.out1 (m ((c.tc : Thread _ Cert.Scatter0bRef.τ).loc Cert.Scatter0bRef.main_arg1)))
        ∧ r.2.mem ((c.tc : Thread _ Cert.Scatter0bRef.τ).loc Cert.Scatter0bRef.main_arg0) = m ((c.tc : Thread _ Cert.Scatter0bRef.τ).loc Cert.Scatter0bRef.main_arg0)
        ∧ r.2.mem ((c.tc : Thread _ Cert.Scatter0bRef.τ).loc Cert.Scatter0bRef.main_arg1) = m ((c.tc : Thread _ Cert.Scatter0bRef.τ).loc Cert.Scatter0bRef.main_arg1)) ∧ r.2.sem = fun _ => 0 := by
  refine (θ_run Cert.Scatter0bRef.defs _ _).mono (fun r h => ⟨fun c => ?_, h.2⟩) (Ref.run_main m ρ)
  have R := Ref.results (F := F) (fun b => m (c, b))
  have R' := Ref.arguments (F := F) (fun b => m (c, b))
  exact ⟨⟨(h.1 c _).trans R.1, (h.1 c _).trans R.2⟩, (h.1 c _).trans R'.1, (h.1 c _).trans R'.2⟩

end Cert.Proof.Scatter0b

end
-- ==== Proof.GatherEBody.lean ====
/- The gather of the second layer's feed-forward matrices: its parts, slots and semaphores as `Exchange.Ports`, and that
   the printed kernel is `Exchange.Ports.body` of them. -/
module

public import proofs.«01_k».proof.Proof.Launch
public import proofs.«01_k».proof.Proof.Steps
public import proofs.«01_k».proof.Proof.Arrays
public import proofs.«01_k».proof.Proof.Gen.GatherEIdeal.Skeleton

@[expose] public section

set_option synthInstance.maxSize 4096

noncomputable section

namespace Cert.Proof.GatherE

open Idealize.ShloMosaic Idealize.SL.Sem
open Cert.GatherEIdeal Cert.GatherEIdeal.Gen
open Exchange (peer rowAt colAt at_eq op_congr)
open Exchange.Ports (ops_cons ops_nil pairs_flat)

/-- The one grid point. -/
abbrev i₀ : grid0.Coords := (fun | 0 => ⟨0, by decide⟩ | ⟨_ + 1, h⟩ => absurd h (Nat.not_lt.2 (Nat.le_add_left _ _)))

theorem sem_inb (i : Fin 2) (k : Fin 7) : ∀ a, (![i.val, k.val] : Fin 2 → ℕ) a + S1x1.size a ≤ S2x7.size a := by revert i k; decide
theorem loc_inb (i : Fin 2) : ∀ a, (![i.val] : Fin 1 → ℕ) a + S1.size a ≤ S2.size a := by revert i; decide

/-- The receive, send and local semaphores. -/
def recvSem (x : Fin 7 × Fin 2) : DmaSem sig := ((cc0_scratch1.slice (Rect.unit (s := S2x7) ![x.2.val, x.1.val] S1x1.size (sem_inb x.2 x.1))).squeeze S_ squeezes_S1x1_S_).sem
def sendSem (x : Fin 7 × Fin 2) : DmaSem sig := ((cc0_scratch0.slice (Rect.unit (s := S2x7) ![x.2.val, x.1.val] S1x1.size (sem_inb x.2 x.1))).squeeze S_ squeezes_S1x1_S_).sem
def locSem (i : Fin 2) : DmaSem sig := ((cc0_scratch2.slice (Rect.unit (s := S2) ![i.val] S1.size (loc_inb i))).squeeze S_ squeezes_S1_S_).sem

theorem recvSem_val : ∀ x, (recvSem x).val = 14 + 7 * x.2.val + x.1.val := by decide +kernel
theorem sendSem_val : ∀ x, (sendSem x).val = 7 * x.2.val + x.1.val := by decide +kernel
theorem locSem_val : ∀ x, (locSem x).val = 28 + x.val := by decide +kernel

/-! ## The parts and the slots, as slices of the call's arrays -/

abbrev slot0 := rowAt squeezes_S1x704x1024_S704x1024 (Memref.whole main_v8_0_scs)
abbrev slot1 := rowAt squeezes_S1x352x1024_S352x1024 (Memref.whole main_v8_1_scs)

/-- What the program exchanges, and over what. -/
def X : Exchange.Ports τ sig 2 where
  c₀ := (i₀ 0).castLE hcore0
  bar := (SemArray.scalar (sig.barrier 7 rfl) : Sems sig S_).sem
  recv := recvSem
  send := sendSem
  loc := locSem
  B := fun | 0 => S704x1024 | 1 => S352x1024
  e := fun | 0 => .bf16 | 1 => .bf16
  part := fun
    | 0 => fun s => Memref.whole main_v4_scs
    | 1 => fun s => Memref.whole main_v7_scs
  slot := fun
    | 0 => fun s => slot0 (k0_off1 s) (k0_off1_inb s)
    | 1 => fun s => slot1 (k0_off2 s) (k0_off2_inb s)
  hpart := fun
    | 0 => fun s => (Memref.isWhole_whole main_v4_scs).wordExact
    | 1 => fun s => (Memref.isWhole_whole main_v7_scs).wordExact
  hslot := fun
    | 0 => fun s => ((Memref.isWhole_whole main_v8_0_scs).wordExact_slice rfl _ (k0_off1_wordsbf16 s)).reshape _ _
    | 1 => fun s => ((Memref.isWhole_whole main_v8_1_scs).wordExact_slice rfl _ (k0_off2_wordsbf16 s)).reshape _ _
  hsc := fun | 0 | 1 => fun _ => rfl
  N := fun
    | 0 => (Memref.whole main_v4_scs).view.dmaCredit
    | 1 => (Memref.whole main_v7_scs).view.dmaCredit
  hNpart := fun | 0 | 1 => fun _ => rfl
  hNslot := fun | 0 | 1 => fun _ => rfl
  N_pos := fun | 0 | 1 => View.dmaCredit_pos _ (by decide)
  sh := fun _ s => Exchange.eighth s
  recv_inj := fun a b h => by
    have h := congrArg Fin.val h; rw [recvSem_val, recvSem_val] at h
    exact Prod.ext (Fin.ext (by omega)) (Fin.ext (by omega))
  send_inj := fun a b h => by
    have h := congrArg Fin.val h; rw [sendSem_val, sendSem_val] at h
    exact Prod.ext (Fin.ext (by omega)) (Fin.ext (by omega))
  loc_inj := fun a b h => by
    have h := congrArg Fin.val h; rw [locSem_val, locSem_val] at h
    exact Fin.ext (by omega)
  recv_send := fun a b h => by
    have h := congrArg Fin.val h; rw [recvSem_val, sendSem_val] at h; omega
  recv_loc := fun a b h => by
    have h := congrArg Fin.val h; rw [recvSem_val, locSem_val] at h; omega
  send_loc := fun a b h => by
    have h := congrArg Fin.val h; rw [sendSem_val, locSem_val] at h; omega

/-! ## The printed kernel -/

variable {F : FTy → Type} [FloatOps F]

set_option maxHeartbeats 8000000 in
set_option maxRecDepth 10000 in
/-- The printed kernel is the exchange. -/
theorem body_eq : cc0_gather_e (F := F) i₀ (Memref.whole main_v4_scs) (Memref.isWhole_whole _) (Memref.whole main_v7_scs) (Memref.isWhole_whole _) (Memref.whole main_v8_0_scs) (Memref.isWhole_whole _) (Memref.whole main_v8_1_scs) (Memref.isWhole_whole _) cc0_scratch0 cc0_scratch1 cc0_scratch2
    = .op .deviceId fun d => X.body d := by
  unfold cc0_gather_e
  simp only [k0_part1, k0_part2, k0_part3, k0_part4, k0_part5, k0_part6, k0_part7, k0_part8, k0_part9, k0_part10, k0_part11, k0_part12, k0_part13, k0_part14, k0_part15, k0_part16, k0_part17, k0_part18, k0_part19, k0_part20, semSignalWord, semWaitWord, Prog.bind_ret, Prog.bind_op, Prog.bind_lift, Prog.pure_eq_ret]
  refine congrArg (Prog.op _) (funext fun d => ?_)
  rw [Exchange.Ports.body, pairs_flat, show Exchange.order = [1, 3, 5, 2, 4, 6, 0] from rfl, show List.finRange 2 = [0, 1] from rfl]
  simp only [List.flatMap_cons, List.flatMap_nil, List.map_cons, List.map_nil, List.cons_append, List.nil_append, ops_cons, ops_nil]
  iterate 7 refine op_congr (X.signal_eq d _ (by revert d; decide +kernel)) fun _ => ?_
  iterate 3 refine op_congr rfl fun _ => ?_
  iterate 7
    refine op_congr (X.send_eq d _ 0 rfl (by revert d; decide +kernel)) fun _ => ?_
    refine op_congr (X.send_eq d _ 1 rfl (by revert d; decide +kernel)) fun _ => ?_
  iterate 7
    refine op_congr (X.recv_eq d _ 0 (at_eq slot0 (by revert d; decide +kernel))) fun _ => ?_
    refine op_congr (X.recv_eq d _ 1 (at_eq slot1 (by revert d; decide +kernel))) fun _ => ?_
  iterate 7
    refine op_congr (X.sent_eq d _ 0 rfl) fun _ => ?_
    refine op_congr (X.sent_eq d _ 1 rfl) fun _ => ?_
  iterate 2 refine op_congr rfl fun _ => ?_
  rfl

end Cert.Proof.GatherE

end
-- ==== Proof.GatherERun.lean ====
/- The gather of the second layer's feed-forward matrices: how the parts and slots lie in its arrays, what every array ends at, and its run. -/
module

public import proofs.«01_k».proof.Proof.GatherEBody
public import proofs.«01_k».proof.Proof.HostRun

@[expose] public section

set_option synthInstance.maxSize 4096

noncomputable section

namespace Cert.Proof.GatherE

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.GatherEIdeal Cert.GatherEIdeal.Gen
open Idealize.ShloMosaic.StableHlo (after)
open Exchange (peer cBar mem_of_eq row_mem rows_holds col_mem cols_holds slabs_holds beside_holds whole_parts colOf pieces_eq pieces_some pieces_join Covers atLaunch)
open Exchange.Ports (UU EH u₀)

theorem off1_at : ∀ s : Fin 8, k0_off1 s = ![s.val, 0, 0] := by decide +kernel
theorem off2_at : ∀ s : Fin 8, k0_off2 s = ![s.val, 0, 0] := by decide +kernel

/-! ## Which part, which slot an element is of -/

theorem slot0_mem (t : Fin 8) (i : S8x704x1024.Idx) : i ∈ (slot0 (k0_off1 t) (k0_off1_inb t)).view.set ↔ (i 0 : Fin 8) = t :=
  (mem_of_eq ((View.set_reshape _ _).trans (View.set_slice_whole _ _))).trans (row_mem (off1_at t) i)
theorem slot1_mem (t : Fin 8) (i : S8x352x1024.Idx) : i ∈ (slot1 (k0_off2 t) (k0_off2_inb t)).view.set ↔ (i 0 : Fin 8) = t :=
  (mem_of_eq ((View.set_reshape _ _).trans (View.set_slice_whole _ _))).trans (row_mem (off2_at t) i)

section Contents
variable {Val : EltTy → Type}

/-- The arrays of the call, and what they hold before and after. -/
abbrev src : Fin 2 → DevRef τ sig := fun
  | 0 => Proc.devRef .tc (main_v4 : Ref sig .tc)
  | 1 => Proc.devRef .tc (main_v7 : Ref sig .tc)
abbrev land : Fin 2 → DevRef τ sig := fun
  | 0 => Proc.devRef .tc (main_v8_0 : Ref sig .tc)
  | 1 => Proc.devRef .tc (main_v8_1 : Ref sig .tc)

variable (A : (i : Fin 2) → (d : Fin 8) → Buf Val ((d, src i) : Loc 8 τ sig))

abbrev out : (i : Fin 2) → (d : Fin 8) → Buf Val ((d, land i) : Loc 8 τ sig) := fun
  | 0 => fun d => Exchange.slabsOut (A 0)
  | 1 => fun d => Exchange.slabsOut (A 1)

/-- What the exchange reads. -/
abbrev fs : X.Src Val := fun
  | 0 => fun d _ => A 0 d
  | 1 => fun d _ => A 1 d

local notation "𝕄" => MT 8 τ sig (HIx 1) Val ℕ (UU τ sig) ℕ

/-- The parts are the sources, the slots the landing arrays, and what lands is `out`. -/
theorem covers : Covers X (fs A) src land A (out A) where
  parts := fun
    | 0 => fun d => whole_parts (ℓ := ((d, src 0) : Loc 8 τ sig)) (X.part 0 0).view.set (View.set_whole _) (A 0 d)
    | 1 => fun d => whole_parts (ℓ := ((d, src 1) : Loc 8 τ sig)) (X.part 1 0).view.set (View.set_whole _) (A 1 d)
  slots := fun
    | 0 => fun d => pieces_some (ℓ := ((d, land 0) : Loc 8 τ sig)) (K := fun t => (X.slot 0 t).view.set) _ slot0_mem
    | 1 => fun d => pieces_some (ℓ := ((d, land 1) : Loc 8 τ sig)) (K := fun t => (X.slot 1 t).view.set) _ slot1_mem
  landed := fun
    | 0 => fun d => pieces_join (ℓ := ((d, land 0) : Loc 8 τ sig)) (K := fun t => (X.slot 0 t).view.set) _ slot0_mem (out A 0 d)
        (fun t f => (X.slot 0 t).view.read Val f = (X.part 0 d).view.read Val (A 0 t)) fun t f h x hx => slabs_holds (α := Val .bf16) squeezes_S1x704x1024_S704x1024 (k0_off1_inb t) (A 0) (off1_at t) f h x ((slot0_mem t x).mp hx)
    | 1 => fun d => pieces_join (ℓ := ((d, land 1) : Loc 8 τ sig)) (K := fun t => (X.slot 1 t).view.set) _ slot1_mem (out A 1 d)
        (fun t f => (X.slot 1 t).view.read Val f = (X.part 1 d).view.read Val (A 1 t)) fun t f h x hx => slabs_holds (α := Val .bf16) squeezes_S1x352x1024_S352x1024 (k0_off2_inb t) (A 1) (off2_at t) f h x ((slot1_mem t x).mp hx)

end Contents

/-! ## The launch -/

variable {F : FTy → Type} [FloatOps F]

local notation "𝕄" => MT 8 τ sig (HIx 1) (Elt F) ℕ (UU τ sig) ℕ

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem sc_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The exchange fits the launch. -/
theorem fits : X.Fits (K (F := F)) where
  hs := show X.bar ≠ sc_start by decide
  ht := show X.bar ≠ sc_taskDone by decide
  hbar := show (SemLoc.reg X.bar : SemLoc sig).isScoped .scScalar = false by decide
  hdma := show ∀ x : Exchange.Ports.DCell 2, (X.sem (Exchange.Ports.dc x)).isScoped .scScalar = true by decide +kernel
  hkind := rfl
  hcall := show (i₀ 0).val < 1 by decide

set_option maxRecDepth 10000 in
theorem scalarObl (f : X.Src (Elt F)) : (K (F := F)).ScalarObl' (D (F := F)) 𝒱 (X.P f fits) v₀ 0 := by
  rintro d ⟨cv, hcv⟩ O W hO hOlev -
  obtain rfl : cv = 0 := by have : (K (F := F)).nCore 0 = 1 := rfl; omega
  change _ ⊢ wp _ _ _ (Pipeline.liftProg (defs₀ (F := F) (.scScalar ((K (F := F)).core 0 ⟨0, hcv⟩)) 0 ())) _
  refine BI.Entails.trans ?_ (Pipeline.wp_liftProg (D (F := F)) (Pipeline.defs_kernel pcfgs defs₀) 𝒱₀ _ Set.univ none _ _)
  have hc : ((K (F := F)).core 0 ⟨0, hcv⟩).val < grid0.bound 0 := hcv
  rw [show (X.P f fits).x 0 (S d ((K (F := F)).core 0 ⟨0, hcv⟩)) = X.kit f d from X.Px_S f fits d,
    show (X.P f fits).ox 0 (S d ((K (F := F)).core 0 ⟨0, hcv⟩)) = X.ox d from X.Pox_S f fits d]
  refine (X.wp_kernel f fits (defs₀ (F := F)) 𝒱₀ d O W hOlev).trans ?_
  refine (Entails.of_eq (wp_deviceId 𝒱₀ (S d X.c₀) none Set.univ).symm).trans ?_
  exact Entails.of_eq (congrArg (fun p => wp frame (wpE (defs₀ (F := F)) 𝒱₀ (S d X.c₀) none) Set.univ p _) body_eq.symm)

/-! ## The program -/

abbrev pre : List (HloOp τ sig (Elt F)) :=
  [ StableHlo.unary main_arg0 main_v1 ((transpose S2x704x1024 [0, 2, 1] · transposes_S2x1024x704_S2x704x1024_0_2_1) : (⟨S2x1024x704, .f32⟩ : BufTy).Contents (Elt F) → (⟨S2x704x1024, .f32⟩ : BufTy).Contents (Elt F)),
    StableHlo.unary main_v1 main_v2 ((extractStridedSlice S1x704x1024 ![1, 0, 0] · slices_S2x704x1024_S1x704x1024_1_0_0) : (⟨S2x704x1024, .f32⟩ : BufTy).Contents (Elt F) → (⟨S1x704x1024, .f32⟩ : BufTy).Contents (Elt F)),
    StableHlo.reshape main_v2 main_v3 (rfl : (.f32 : EltTy) = .f32) shapeCasts_S1x704x1024_S704x1024,
    StableHlo.unary main_v3 main_v4 ((truncf .bf16 · bitsLt_bf16_f32) : (⟨S704x1024, .f32⟩ : BufTy).Contents (Elt F) → (⟨S704x1024, .bf16⟩ : BufTy).Contents (Elt F)),
    StableHlo.unary main_arg1 main_v5 ((extractStridedSlice S1x352x1024 ![1, 0, 0] · slices_S2x352x1024_S1x352x1024_1_0_0) : (⟨S2x352x1024, .f32⟩ : BufTy).Contents (Elt F) → (⟨S1x352x1024, .f32⟩ : BufTy).Contents (Elt F)),
    StableHlo.reshape main_v5 main_v6 (rfl : (.f32 : EltTy) = .f32) shapeCasts_S1x352x1024_S352x1024,
    StableHlo.unary main_v6 main_v7 ((truncf .bf16 · bitsLt_bf16_f32) : (⟨S352x1024, .f32⟩ : BufTy).Contents (Elt F) → (⟨S352x1024, .bf16⟩ : BufTy).Contents (Elt F)) ]

abbrev post : List (HloOp τ sig (Elt F)) :=
  [  ]

theorem pre_sub : ∀ op ∈ (pre : List (HloOp τ sig (Elt F))), op.bufs ⊆ StableHlo.tcRefs τ sig :=
  List.forall_iff_forall_mem.mp ⟨StableHlo.unary_bufs_sub .., StableHlo.unary_bufs_sub .., StableHlo.reshape_bufs_sub .., StableHlo.unary_bufs_sub .., StableHlo.unary_bufs_sub .., StableHlo.reshape_bufs_sub .., StableHlo.unary_bufs_sub ..⟩
theorem post_sub : ∀ op ∈ (post : List (HloOp τ sig (Elt F))), op.bufs ⊆ StableHlo.tcRefs τ sig :=
  List.forall_iff_forall_mem.mp trivial

theorem main_eq (d : Dev nD) : main (F := F) d = (StableHlo.seq pre >>= fun _ => (K (F := F)).run d 0 >>= fun _ => StableHlo.seq post >>= fun _ => Pure.pure PUnit.unit) := rfl

variable (m : (ℓ : Loc nD τ sig) → Buf (Elt F) ℓ) (ρ : Dev nD → PrngReg)

/-- What the call finds in its sources. -/
abbrev A : (i : Fin 2) → (d : Fin 8) → Buf (Elt F) ((d, src i) : Loc 8 τ sig) := fun i d => after pre (atLaunch m d) (src i)

/-- **The run**: nothing faults, every execution ends, every array holds what the host operations after the call make of what
    the call leaves, every semaphore is at zero. -/
theorem run_main : θ_run (defs (F := F)) (threads (F := F)) ⟨m, fun _ => 0, ρ⟩ (fun r =>
    (∀ d : Fin 8, ∀ b ∈ Pipeline.ucRefs τ sig, r.2.mem (d, b) = after post (Exchange.left land (out (A m)) pre m d) b) ∧ r.2.sem = fun _ => 0) :=
  Exchange.run_host (K := K (F := F)) (D := D (F := F)) (𝒱 := 𝒱) (fs (A m)) fits v₀ (covers (A m)) (by decide) (by decide) (by decide) (by decide) (by decide) rfl m ρ pre post pre_sub post_sub
    (List.forall_iff_forall_mem.mp ⟨rfl, rfl, rfl, rfl, rfl, rfl, rfl⟩) (List.forall_iff_forall_mem.mp trivial) (fun _ _ => rfl) sc_facts (scalarObl _) main main_eq

end Cert.Proof.GatherE

end
-- ==== Proof.GatherEValue.lean ====
/- The gather of the second layer's feed-forward matrices: its reference, and that a device's results are the reference's. -/
module

public import proofs.«01_k».proof.Proof.GatherERun
public import proofs.«01_k».proof.Proof.Whole
public import proofs.«01_k».proof.Proof.Gen.GatherERef

@[expose] public section

noncomputable section

namespace Cert.Proof.GatherE

open Idealize.ShloMosaic Idealize.ShloMosaic.TcCoe Idealize.ShloMosaic.ValueIdx Idealize.ShloMosaic.StableHlo Idealize.SL.Sem

namespace Ref

open Cert.GatherERef Cert.GatherERef.Gen

variable {F : FTy → Type} [FloatOps F]

/-- The reference's results. -/
abbrev out0 (x : S2x1024x5632.Idx → Elt F .f32) : S8x704x1024.Idx → Elt F .bf16 := shapeCast S8x704x1024 (truncf .bf16 (transpose S5632x1024 [1, 0] (shapeCast S1024x5632 (extractStridedSlice S1x1024x5632 ![1, 0, 0] x slices_S2x1024x5632_S1x1024x5632_1_0_0) shapeCasts_S1x1024x5632_S1024x5632) transposes_S1024x5632_S5632x1024_1_0) bitsLt_bf16_f32) shapeCasts_S5632x1024_S8x704x1024
abbrev out1 (y : S2x2816x1024.Idx → Elt F .f32) : S8x352x1024.Idx → Elt F .bf16 := shapeCast S8x352x1024 (truncf .bf16 (shapeCast S2816x1024 (extractStridedSlice S1x2816x1024 ![1, 0, 0] y slices_S2x2816x1024_S1x2816x1024_1_0_0) shapeCasts_S1x2816x1024_S2816x1024) bitsLt_bf16_f32) shapeCasts_S2816x1024_S8x352x1024

abbrev ops : List (HloOp τ sig (Elt F)) :=
  [ unary main_arg0 main_v0 ((extractStridedSlice S1x1024x5632 ![1, 0, 0] · slices_S2x1024x5632_S1x1024x5632_1_0_0) : (⟨S2x1024x5632, .f32⟩ : BufTy).Contents (Elt F) → (⟨S1x1024x5632, .f32⟩ : BufTy).Contents (Elt F)),
    reshape main_v0 main_v1 (rfl : (.f32 : EltTy) = .f32) shapeCasts_S1x1024x5632_S1024x5632,
    unary main_v1 main_v2 ((transpose S5632x1024 [1, 0] · transposes_S1024x5632_S5632x1024_1_0) : (⟨S1024x5632, .f32⟩ : BufTy).Contents (Elt F) → (⟨S5632x1024, .f32⟩ : BufTy).Contents (Elt F)),
    unary main_v2 main_v3 ((truncf .bf16 · bitsLt_bf16_f32) : (⟨S5632x1024, .f32⟩ : BufTy).Contents (Elt F) → (⟨S5632x1024, .bf16⟩ : BufTy).Contents (Elt F)),
    reshape main_v3 main_v4 (rfl : (.bf16 : EltTy) = .bf16) shapeCasts_S5632x1024_S8x704x1024,
    unary main_arg1 main_v5 ((extractStridedSlice S1x2816x1024 ![1, 0, 0] · slices_S2x2816x1024_S1x2816x1024_1_0_0) : (⟨S2x2816x1024, .f32⟩ : BufTy).Contents (Elt F) → (⟨S1x2816x1024, .f32⟩ : BufTy).Contents (Elt F)),
    reshape main_v5 main_v6 (rfl : (.f32 : EltTy) = .f32) shapeCasts_S1x2816x1024_S2816x1024,
    unary main_v6 main_v7 ((truncf .bf16 · bitsLt_bf16_f32) : (⟨S2816x1024, .f32⟩ : BufTy).Contents (Elt F) → (⟨S2816x1024, .bf16⟩ : BufTy).Contents (Elt F)),
    reshape main_v7 main_v8 (rfl : (.bf16 : EltTy) = .bf16) shapeCasts_S2816x1024_S8x352x1024 ]

theorem main_eq (c : Dev nD) : main (F := F) c = seq ops := rfl

theorem results (V : Valuation τ sig (Elt F)) :
    after ops V (main_v4 : DevRef τ sig) = out0 (V (main_arg0 : DevRef τ sig))
      ∧ after ops V (main_v8 : DevRef τ sig) = out1 (V (main_arg1 : DevRef τ sig)) := by
  refine ⟨?_, ?_⟩ <;> (after_results <;> rfl)
theorem arguments (V : Valuation τ sig (Elt F)) :
    after ops V (main_arg0 : DevRef τ sig) = V (main_arg0 : DevRef τ sig)
      ∧ after ops V (main_arg1 : DevRef τ sig) = V (main_arg1 : DevRef τ sig) := by
  refine ⟨?_, ?_⟩ <;> after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., unary_bufs_sub .., reshape_bufs_sub .., unary_bufs_sub .., reshape_bufs_sub .., unary_bufs_sub .., reshape_bufs_sub ..⟩

instance : IsEmpty (SemLoc sig) := by
  constructor; rintro (s | s)
  · exact absurd s.isLt (Nat.not_lt_zero _)
  · exact absurd s.isLt (Nat.not_lt_zero _)

/-- The reference's run: it ends, every array as its operations leave it, every semaphore at zero. -/
theorem run_main (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = after ops (fun b => m (c, b)) (b : DevRef τ sig)) ∧ r.2.sem = fun _ => 0 :=
  (θ_run defs _ _).mono (fun _ h => ⟨fun c b => h c b, funext fun g => isEmptyElim g.2⟩)
    (run_seq scopedRefs_eq scopedSems_eq defs main (fun _ => ops) main_eq (fun _ => ops_sub) m ρ)

end Ref

open Cert.GatherEIdeal Cert.GatherEIdeal.Gen

variable {F : FTy → Type} [FloatOps F]

theorem sources (V : Valuation τ sig (Elt F)) :
    after pre V (src 0) = truncf .bf16 (shapeCast S704x1024 (extractStridedSlice S1x704x1024 ![1, 0, 0] (transpose S2x704x1024 [0, 2, 1] (V (main_arg0 : DevRef τ sig)) transposes_S2x1024x704_S2x704x1024_0_2_1) slices_S2x704x1024_S1x704x1024_1_0_0) shapeCasts_S1x704x1024_S704x1024) bitsLt_bf16_f32
      ∧ after pre V (src 1) = truncf .bf16 (shapeCast S352x1024 (extractStridedSlice S1x352x1024 ![1, 0, 0] (V (main_arg1 : DevRef τ sig)) slices_S2x352x1024_S1x352x1024_1_0_0) shapeCasts_S1x352x1024_S352x1024) bitsLt_bf16_f32 := by
  refine ⟨?_, ?_⟩ <;> (after_results <;> rfl)

variable (m : (ℓ : Loc nD τ sig) → Buf (Elt F) ℓ) (ρ : Dev nD → PrngReg)

theorem landed (i : Fin 2) (d : Fin 8) : Exchange.left land (out (A m)) pre m d (land i) = out (A m) i d := Exchange.overlay_land (by decide) _ _ i

/-- **The run**, of the arguments and results: device `d`'s results are what lands, its arguments are as they were. -/
theorem run_values : θ_run (defs (F := F)) (threads (F := F)) ⟨m, fun _ => 0, ρ⟩ (fun r =>
    (∀ d : Dev nD, (r.2.mem ((d.tc : Thread nD τ).loc main_v8_0) = (out (A m) 0 d)
        ∧ r.2.mem ((d.tc : Thread nD τ).loc main_v8_1) = (out (A m) 1 d))
      ∧ r.2.mem ((d.tc : Thread nD τ).loc main_arg0) = m ((d.tc : Thread nD τ).loc main_arg0)
      ∧ r.2.mem ((d.tc : Thread nD τ).loc main_arg1) = m ((d.tc : Thread nD τ).loc main_arg1)) ∧ r.2.sem = fun _ => 0) := by
  refine (θ_run defs _ _).mono (fun r h => ⟨fun d => ⟨⟨?_, ?_⟩, ?_, ?_⟩, h.2⟩) (run_main m ρ)
  · exact (h.1 d _ (Exchange.uc_mem main_v8_0 rfl)).trans (landed m 0 d)
  · exact (h.1 d _ (Exchange.uc_mem main_v8_1 rfl)).trans (landed m 1 d)
  · exact (h.1 d _ (Exchange.uc_mem main_arg0 rfl)).trans (Exchange.kept m _ (by decide) (fun V => by after_results) (fun V => rfl) d)
  · exact (h.1 d _ (Exchange.uc_mem main_arg1 rfl)).trans (Exchange.kept m _ (by decide) (fun V => by after_results) (fun V => rfl) d)

/-- What device `d` ends with is the reference's result. -/
theorem value0 (x : Cert.GatherERef.S2x1024x5632.Idx → Elt F .f32) (d : Fin 8)
    (h0 : ∀ c : Dev nD, m ((c.tc : Thread nD τ).loc main_arg0) = Layout.block ⟨3, ![2, 1024, 704]⟩ ⟨3, ![2, 1024, 5632]⟩ 2 8 c x) :
    (out (A m) 0 d) = (Ref.out0 x) :=
  Exchange.slabs_turned (p := 704) (q := 1024) (r := 5632) (fun e : F .f32 => FloatOps.truncf .bf16 bitsLt_bf16_f32 e) 1 rfl (by decide) _ _ _ _ _ _ _ (A m 0) x (fun s => (sources (Exchange.atLaunch m s)).1.trans (congrArg (fun u => truncf .bf16 (shapeCast S704x1024 (extractStridedSlice S1x704x1024 ![1, 0, 0] (transpose S2x704x1024 [0, 2, 1] u transposes_S2x1024x704_S2x704x1024_0_2_1) slices_S2x704x1024_S1x704x1024_1_0_0) shapeCasts_S1x704x1024_S704x1024) bitsLt_bf16_f32) (h0 s)))
theorem value1 (y : Cert.GatherERef.S2x2816x1024.Idx → Elt F .f32) (d : Fin 8)
    (h1 : ∀ c : Dev nD, m ((c.tc : Thread nD τ).loc main_arg1) = Layout.block ⟨3, ![2, 352, 1024]⟩ ⟨3, ![2, 2816, 1024]⟩ 1 8 c y) :
    (out (A m) 1 d) = (Ref.out1 y) :=
  Exchange.slabs_rows (p := 352) (q := 1024) (r := 2816) (fun e : F .f32 => FloatOps.truncf .bf16 bitsLt_bf16_f32 e) 1 rfl (by decide) _ _ _ _ _ (A m 1) y (fun s => (sources (Exchange.atLaunch m s)).2.trans (congrArg (fun u => truncf .bf16 (shapeCast S352x1024 (extractStridedSlice S1x352x1024 ![1, 0, 0] u slices_S2x352x1024_S1x352x1024_1_0_0) shapeCasts_S1x352x1024_S352x1024) bitsLt_bf16_f32) (h1 s)))

/-- What the reference's run says of one device. -/
theorem Ref.run_values (m : (ℓ : Loc Cert.GatherERef.nD Cert.GatherERef.τ Cert.GatherERef.sig) → Buf (Elt F) ℓ) (ρ : Dev Cert.GatherERef.nD → PrngReg) :
    θ_run (Cert.GatherERef.defs (F := F)) (onTc (τ := Cert.GatherERef.τ) (Cert.GatherERef.main (F := F))) ⟨m, fun _ => 0, ρ⟩ fun r =>
      (∀ c : Dev Cert.GatherERef.nD, (r.2.mem ((c.tc : Thread _ Cert.GatherERef.τ).loc Cert.GatherERef.main_v4) = Ref.out0 (m ((c.tc : Thread _ Cert.GatherERef.τ).loc Cert.GatherERef.main_arg0))
          ∧ r.2.mem ((c.tc : Thread _ Cert.GatherERef.τ).loc Cert.GatherERef.main_v8) = Ref.out1 (m ((c.tc : Thread _ Cert.GatherERef.τ).loc Cert.GatherERef.main_arg1)))
        ∧ r.2.mem ((c.tc : Thread _ Cert.GatherERef.τ).loc Cert.GatherERef.main_arg0) = m ((c.tc : Thread _ Cert.GatherERef.τ).loc Cert.GatherERef.main_arg0)
        ∧ r.2.mem ((c.tc : Thread _ Cert.GatherERef.τ).loc Cert.GatherERef.main_arg1) = m ((c.tc : Thread _ Cert.GatherERef.τ).loc Cert.GatherERef.main_arg1)) ∧ r.2.sem = fun _ => 0 := by
  refine (θ_run Cert.GatherERef.defs _ _).mono (fun r h => ⟨fun c => ?_, h.2⟩) (Ref.run_main m ρ)
  have R := Ref.results (F := F) (fun b => m (c, b))
  have R' := Ref.arguments (F := F) (fun b => m (c, b))
  exact ⟨⟨(h.1 c _).trans R.1, (h.1 c _).trans R.2⟩, (h.1 c _).trans R'.1, (h.1 c _).trans R'.2⟩

end Cert.Proof.GatherE

end
-- ==== Proof.GatherBBody.lean ====
/- The gather of the first layer's output projection and up matrix: its parts, slots and semaphores as `Exchange.Ports`, and that
   the printed kernel is `Exchange.Ports.body` of them. -/
module

public import proofs.«01_k».proof.Proof.Launch
public import proofs.«01_k».proof.Proof.Steps
public import proofs.«01_k».proof.Proof.Arrays
public import proofs.«01_k».proof.Proof.Gen.GatherBIdeal.Skeleton

@[expose] public section

set_option synthInstance.maxSize 4096

noncomputable section

namespace Cert.Proof.GatherB

open Idealize.ShloMosaic Idealize.SL.Sem
open Cert.GatherBIdeal Cert.GatherBIdeal.Gen
open Exchange (peer rowAt colAt at_eq op_congr)
open Exchange.Ports (ops_cons ops_nil pairs_flat)

/-- The one grid point. -/
abbrev i₀ : grid0.Coords := (fun | 0 => ⟨0, by decide⟩ | ⟨_ + 1, h⟩ => absurd h (Nat.not_lt.2 (Nat.le_add_left _ _)))

theorem sem_inb (i : Fin 2) (k : Fin 7) : ∀ a, (![i.val, k.val] : Fin 2 → ℕ) a + S1x1.size a ≤ S2x7.size a := by revert i k; decide
theorem loc_inb (i : Fin 2) : ∀ a, (![i.val] : Fin 1 → ℕ) a + S1.size a ≤ S2.size a := by revert i; decide

/-- The receive, send and local semaphores. -/
def recvSem (x : Fin 7 × Fin 2) : DmaSem sig := ((cc0_scratch1.slice (Rect.unit (s := S2x7) ![x.2.val, x.1.val] S1x1.size (sem_inb x.2 x.1))).squeeze S_ squeezes_S1x1_S_).sem
def sendSem (x : Fin 7 × Fin 2) : DmaSem sig := ((cc0_scratch0.slice (Rect.unit (s := S2x7) ![x.2.val, x.1.val] S1x1.size (sem_inb x.2 x.1))).squeeze S_ squeezes_S1x1_S_).sem
def locSem (i : Fin 2) : DmaSem sig := ((cc0_scratch2.slice (Rect.unit (s := S2) ![i.val] S1.size (loc_inb i))).squeeze S_ squeezes_S1_S_).sem

theorem recvSem_val : ∀ x, (recvSem x).val = 14 + 7 * x.2.val + x.1.val := by decide +kernel
theorem sendSem_val : ∀ x, (sendSem x).val = 7 * x.2.val + x.1.val := by decide +kernel
theorem locSem_val : ∀ x, (locSem x).val = 28 + x.val := by decide +kernel

/-! ## The parts and the slots, as slices of the call's arrays -/

abbrev slot0 := rowAt squeezes_S1x128x1024_S128x1024 (Memref.whole main_v8_0_scs)
abbrev slot1 := rowAt squeezes_S1x704x1024_S704x1024 (Memref.whole main_v8_1_scs)

/-- What the program exchanges, and over what. -/
def X : Exchange.Ports τ sig 2 where
  c₀ := (i₀ 0).castLE hcore0
  bar := (SemArray.scalar (sig.barrier 1 rfl) : Sems sig S_).sem
  recv := recvSem
  send := sendSem
  loc := locSem
  B := fun | 0 => S128x1024 | 1 => S704x1024
  e := fun | 0 => .bf16 | 1 => .bf16
  part := fun
    | 0 => fun s => Memref.whole main_v4_scs
    | 1 => fun s => Memref.whole main_v7_scs
  slot := fun
    | 0 => fun s => slot0 (k0_off1 s) (k0_off1_inb s)
    | 1 => fun s => slot1 (k0_off2 s) (k0_off2_inb s)
  hpart := fun
    | 0 => fun s => (Memref.isWhole_whole main_v4_scs).wordExact
    | 1 => fun s => (Memref.isWhole_whole main_v7_scs).wordExact
  hslot := fun
    | 0 => fun s => ((Memref.isWhole_whole main_v8_0_scs).wordExact_slice rfl _ (k0_off1_wordsbf16 s)).reshape _ _
    | 1 => fun s => ((Memref.isWhole_whole main_v8_1_scs).wordExact_slice rfl _ (k0_off2_wordsbf16 s)).reshape _ _
  hsc := fun | 0 | 1 => fun _ => rfl
  N := fun
    | 0 => (Memref.whole main_v4_scs).view.dmaCredit
    | 1 => (Memref.whole main_v7_scs).view.dmaCredit
  hNpart := fun | 0 | 1 => fun _ => rfl
  hNslot := fun | 0 | 1 => fun _ => rfl
  N_pos := fun | 0 | 1 => View.dmaCredit_pos _ (by decide)
  sh := fun _ s => Exchange.eighth s
  recv_inj := fun a b h => by
    have h := congrArg Fin.val h; rw [recvSem_val, recvSem_val] at h
    exact Prod.ext (Fin.ext (by omega)) (Fin.ext (by omega))
  send_inj := fun a b h => by
    have h := congrArg Fin.val h; rw [sendSem_val, sendSem_val] at h
    exact Prod.ext (Fin.ext (by omega)) (Fin.ext (by omega))
  loc_inj := fun a b h => by
    have h := congrArg Fin.val h; rw [locSem_val, locSem_val] at h
    exact Fin.ext (by omega)
  recv_send := fun a b h => by
    have h := congrArg Fin.val h; rw [recvSem_val, sendSem_val] at h; omega
  recv_loc := fun a b h => by
    have h := congrArg Fin.val h; rw [recvSem_val, locSem_val] at h; omega
  send_loc := fun a b h => by
    have h := congrArg Fin.val h; rw [sendSem_val, locSem_val] at h; omega

/-! ## The printed kernel -/

variable {F : FTy → Type} [FloatOps F]

set_option maxHeartbeats 8000000 in
set_option maxRecDepth 10000 in
/-- The printed kernel is the exchange. -/
theorem body_eq : cc0_gather_b (F := F) i₀ (Memref.whole main_v4_scs) (Memref.isWhole_whole _) (Memref.whole main_v7_scs) (Memref.isWhole_whole _) (Memref.whole main_v8_0_scs) (Memref.isWhole_whole _) (Memref.whole main_v8_1_scs) (Memref.isWhole_whole _) cc0_scratch0 cc0_scratch1 cc0_scratch2
    = .op .deviceId fun d => X.body d := by
  unfold cc0_gather_b
  simp only [k0_part1, k0_part2, k0_part3, k0_part4, k0_part5, k0_part6, k0_part7, k0_part8, k0_part9, k0_part10, k0_part11, k0_part12, k0_part13, k0_part14, k0_part15, k0_part16, k0_part17, k0_part18, k0_part19, k0_part20, semSignalWord, semWaitWord, Prog.bind_ret, Prog.bind_op, Prog.bind_lift, Prog.pure_eq_ret]
  refine congrArg (Prog.op _) (funext fun d => ?_)
  rw [Exchange.Ports.body, pairs_flat, show Exchange.order = [1, 3, 5, 2, 4, 6, 0] from rfl, show List.finRange 2 = [0, 1] from rfl]
  simp only [List.flatMap_cons, List.flatMap_nil, List.map_cons, List.map_nil, List.cons_append, List.nil_append, ops_cons, ops_nil]
  iterate 7 refine op_congr (X.signal_eq d _ (by revert d; decide +kernel)) fun _ => ?_
  iterate 3 refine op_congr rfl fun _ => ?_
  iterate 7
    refine op_congr (X.send_eq d _ 0 rfl (by revert d; decide +kernel)) fun _ => ?_
    refine op_congr (X.send_eq d _ 1 rfl (by revert d; decide +kernel)) fun _ => ?_
  iterate 7
    refine op_congr (X.recv_eq d _ 0 (at_eq slot0 (by revert d; decide +kernel))) fun _ => ?_
    refine op_congr (X.recv_eq d _ 1 (at_eq slot1 (by revert d; decide +kernel))) fun _ => ?_
  iterate 7
    refine op_congr (X.sent_eq d _ 0 rfl) fun _ => ?_
    refine op_congr (X.sent_eq d _ 1 rfl) fun _ => ?_
  iterate 2 refine op_congr rfl fun _ => ?_
  rfl

end Cert.Proof.GatherB

end
-- ==== Proof.GatherBRun.lean ====
/- The gather of the first layer's output projection and up matrix: how the parts and slots lie in its arrays, what every array ends at, and its run. -/
module

public import proofs.«01_k».proof.Proof.GatherBBody
public import proofs.«01_k».proof.Proof.HostRun

@[expose] public section

set_option synthInstance.maxSize 4096

noncomputable section

namespace Cert.Proof.GatherB

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.GatherBIdeal Cert.GatherBIdeal.Gen
open Idealize.ShloMosaic.StableHlo (after)
open Exchange (peer cBar mem_of_eq row_mem rows_holds col_mem cols_holds slabs_holds beside_holds whole_parts colOf pieces_eq pieces_some pieces_join Covers atLaunch)
open Exchange.Ports (UU EH u₀)

theorem off1_at : ∀ s : Fin 8, k0_off1 s = ![s.val, 0, 0] := by decide +kernel
theorem off2_at : ∀ s : Fin 8, k0_off2 s = ![s.val, 0, 0] := by decide +kernel

/-! ## Which part, which slot an element is of -/

theorem slot0_mem (t : Fin 8) (i : S8x128x1024.Idx) : i ∈ (slot0 (k0_off1 t) (k0_off1_inb t)).view.set ↔ (i 0 : Fin 8) = t :=
  (mem_of_eq ((View.set_reshape _ _).trans (View.set_slice_whole _ _))).trans (row_mem (off1_at t) i)
theorem slot1_mem (t : Fin 8) (i : S8x704x1024.Idx) : i ∈ (slot1 (k0_off2 t) (k0_off2_inb t)).view.set ↔ (i 0 : Fin 8) = t :=
  (mem_of_eq ((View.set_reshape _ _).trans (View.set_slice_whole _ _))).trans (row_mem (off2_at t) i)

section Contents
variable {Val : EltTy → Type}

/-- The arrays of the call, and what they hold before and after. -/
abbrev src : Fin 2 → DevRef τ sig := fun
  | 0 => Proc.devRef .tc (main_v4 : Ref sig .tc)
  | 1 => Proc.devRef .tc (main_v7 : Ref sig .tc)
abbrev land : Fin 2 → DevRef τ sig := fun
  | 0 => Proc.devRef .tc (main_v8_0 : Ref sig .tc)
  | 1 => Proc.devRef .tc (main_v8_1 : Ref sig .tc)

variable (A : (i : Fin 2) → (d : Fin 8) → Buf Val ((d, src i) : Loc 8 τ sig))

abbrev out : (i : Fin 2) → (d : Fin 8) → Buf Val ((d, land i) : Loc 8 τ sig) := fun
  | 0 => fun d => Exchange.slabsOut (A 0)
  | 1 => fun d => Exchange.slabsOut (A 1)

/-- What the exchange reads. -/
abbrev fs : X.Src Val := fun
  | 0 => fun d _ => A 0 d
  | 1 => fun d _ => A 1 d

local notation "𝕄" => MT 8 τ sig (HIx 1) Val ℕ (UU τ sig) ℕ

/-- The parts are the sources, the slots the landing arrays, and what lands is `out`. -/
theorem covers : Covers X (fs A) src land A (out A) where
  parts := fun
    | 0 => fun d => whole_parts (ℓ := ((d, src 0) : Loc 8 τ sig)) (X.part 0 0).view.set (View.set_whole _) (A 0 d)
    | 1 => fun d => whole_parts (ℓ := ((d, src 1) : Loc 8 τ sig)) (X.part 1 0).view.set (View.set_whole _) (A 1 d)
  slots := fun
    | 0 => fun d => pieces_some (ℓ := ((d, land 0) : Loc 8 τ sig)) (K := fun t => (X.slot 0 t).view.set) _ slot0_mem
    | 1 => fun d => pieces_some (ℓ := ((d, land 1) : Loc 8 τ sig)) (K := fun t => (X.slot 1 t).view.set) _ slot1_mem
  landed := fun
    | 0 => fun d => pieces_join (ℓ := ((d, land 0) : Loc 8 τ sig)) (K := fun t => (X.slot 0 t).view.set) _ slot0_mem (out A 0 d)
        (fun t f => (X.slot 0 t).view.read Val f = (X.part 0 d).view.read Val (A 0 t)) fun t f h x hx => slabs_holds (α := Val .bf16) squeezes_S1x128x1024_S128x1024 (k0_off1_inb t) (A 0) (off1_at t) f h x ((slot0_mem t x).mp hx)
    | 1 => fun d => pieces_join (ℓ := ((d, land 1) : Loc 8 τ sig)) (K := fun t => (X.slot 1 t).view.set) _ slot1_mem (out A 1 d)
        (fun t f => (X.slot 1 t).view.read Val f = (X.part 1 d).view.read Val (A 1 t)) fun t f h x hx => slabs_holds (α := Val .bf16) squeezes_S1x704x1024_S704x1024 (k0_off2_inb t) (A 1) (off2_at t) f h x ((slot1_mem t x).mp hx)

end Contents

/-! ## The launch -/

variable {F : FTy → Type} [FloatOps F]

local notation "𝕄" => MT 8 τ sig (HIx 1) (Elt F) ℕ (UU τ sig) ℕ

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem sc_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The exchange fits the launch. -/
theorem fits : X.Fits (K (F := F)) where
  hs := show X.bar ≠ sc_start by decide
  ht := show X.bar ≠ sc_taskDone by decide
  hbar := show (SemLoc.reg X.bar : SemLoc sig).isScoped .scScalar = false by decide
  hdma := show ∀ x : Exchange.Ports.DCell 2, (X.sem (Exchange.Ports.dc x)).isScoped .scScalar = true by decide +kernel
  hkind := rfl
  hcall := show (i₀ 0).val < 1 by decide

set_option maxRecDepth 10000 in
theorem scalarObl (f : X.Src (Elt F)) : (K (F := F)).ScalarObl' (D (F := F)) 𝒱 (X.P f fits) v₀ 0 := by
  rintro d ⟨cv, hcv⟩ O W hO hOlev -
  obtain rfl : cv = 0 := by have : (K (F := F)).nCore 0 = 1 := rfl; omega
  change _ ⊢ wp _ _ _ (Pipeline.liftProg (defs₀ (F := F) (.scScalar ((K (F := F)).core 0 ⟨0, hcv⟩)) 0 ())) _
  refine BI.Entails.trans ?_ (Pipeline.wp_liftProg (D (F := F)) (Pipeline.defs_kernel pcfgs defs₀) 𝒱₀ _ Set.univ none _ _)
  have hc : ((K (F := F)).core 0 ⟨0, hcv⟩).val < grid0.bound 0 := hcv
  rw [show (X.P f fits).x 0 (S d ((K (F := F)).core 0 ⟨0, hcv⟩)) = X.kit f d from X.Px_S f fits d,
    show (X.P f fits).ox 0 (S d ((K (F := F)).core 0 ⟨0, hcv⟩)) = X.ox d from X.Pox_S f fits d]
  refine (X.wp_kernel f fits (defs₀ (F := F)) 𝒱₀ d O W hOlev).trans ?_
  refine (Entails.of_eq (wp_deviceId 𝒱₀ (S d X.c₀) none Set.univ).symm).trans ?_
  exact Entails.of_eq (congrArg (fun p => wp frame (wpE (defs₀ (F := F)) 𝒱₀ (S d X.c₀) none) Set.univ p _) body_eq.symm)

/-! ## The program -/

abbrev pre : List (HloOp τ sig (Elt F)) :=
  [ StableHlo.unary main_arg1 main_v1 ((transpose S2x704x1024 [0, 2, 1] · transposes_S2x1024x704_S2x704x1024_0_2_1) : (⟨S2x1024x704, .f32⟩ : BufTy).Contents (Elt F) → (⟨S2x704x1024, .f32⟩ : BufTy).Contents (Elt F)),
    StableHlo.unary main_arg0 main_v2 ((extractStridedSlice S1x128x1024 ![0, 0, 0] · slices_S2x128x1024_S1x128x1024_0_0_0) : (⟨S2x128x1024, .f32⟩ : BufTy).Contents (Elt F) → (⟨S1x128x1024, .f32⟩ : BufTy).Contents (Elt F)),
    StableHlo.reshape main_v2 main_v3 (rfl : (.f32 : EltTy) = .f32) shapeCasts_S1x128x1024_S128x1024,
    StableHlo.unary main_v3 main_v4 ((truncf .bf16 · bitsLt_bf16_f32) : (⟨S128x1024, .f32⟩ : BufTy).Contents (Elt F) → (⟨S128x1024, .bf16⟩ : BufTy).Contents (Elt F)),
    StableHlo.unary main_v1 main_v5 ((extractStridedSlice S1x704x1024 ![0, 0, 0] · slices_S2x704x1024_S1x704x1024_0_0_0) : (⟨S2x704x1024, .f32⟩ : BufTy).Contents (Elt F) → (⟨S1x704x1024, .f32⟩ : BufTy).Contents (Elt F)),
    StableHlo.reshape main_v5 main_v6 (rfl : (.f32 : EltTy) = .f32) shapeCasts_S1x704x1024_S704x1024,
    StableHlo.unary main_v6 main_v7 ((truncf .bf16 · bitsLt_bf16_f32) : (⟨S704x1024, .f32⟩ : BufTy).Contents (Elt F) → (⟨S704x1024, .bf16⟩ : BufTy).Contents (Elt F)) ]

abbrev post : List (HloOp τ sig (Elt F)) :=
  [  ]

theorem pre_sub : ∀ op ∈ (pre : List (HloOp τ sig (Elt F))), op.bufs ⊆ StableHlo.tcRefs τ sig :=
  List.forall_iff_forall_mem.mp ⟨StableHlo.unary_bufs_sub .., StableHlo.unary_bufs_sub .., StableHlo.reshape_bufs_sub .., StableHlo.unary_bufs_sub .., StableHlo.unary_bufs_sub .., StableHlo.reshape_bufs_sub .., StableHlo.unary_bufs_sub ..⟩
theorem post_sub : ∀ op ∈ (post : List (HloOp τ sig (Elt F))), op.bufs ⊆ StableHlo.tcRefs τ sig :=
  List.forall_iff_forall_mem.mp trivial

theorem main_eq (d : Dev nD) : main (F := F) d = (StableHlo.seq pre >>= fun _ => (K (F := F)).run d 0 >>= fun _ => StableHlo.seq post >>= fun _ => Pure.pure PUnit.unit) := rfl

variable (m : (ℓ : Loc nD τ sig) → Buf (Elt F) ℓ) (ρ : Dev nD → PrngReg)

/-- What the call finds in its sources. -/
abbrev A : (i : Fin 2) → (d : Fin 8) → Buf (Elt F) ((d, src i) : Loc 8 τ sig) := fun i d => after pre (atLaunch m d) (src i)

/-- **The run**: nothing faults, every execution ends, every array holds what the host operations after the call make of what
    the call leaves, every semaphore is at zero. -/
theorem run_main : θ_run (defs (F := F)) (threads (F := F)) ⟨m, fun _ => 0, ρ⟩ (fun r =>
    (∀ d : Fin 8, ∀ b ∈ Pipeline.ucRefs τ sig, r.2.mem (d, b) = after post (Exchange.left land (out (A m)) pre m d) b) ∧ r.2.sem = fun _ => 0) :=
  Exchange.run_host (K := K (F := F)) (D := D (F := F)) (𝒱 := 𝒱) (fs (A m)) fits v₀ (covers (A m)) (by decide) (by decide) (by decide) (by decide) (by decide) rfl m ρ pre post pre_sub post_sub
    (List.forall_iff_forall_mem.mp ⟨rfl, rfl, rfl, rfl, rfl, rfl, rfl⟩) (List.forall_iff_forall_mem.mp trivial) (fun _ _ => rfl) sc_facts (scalarObl _) main main_eq

end Cert.Proof.GatherB

end
-- ==== Proof.GatherBValue.lean ====
/- The gather of the first layer's output projection and up matrix: its reference, and that a device's results are the reference's. -/
module

public import proofs.«01_k».proof.Proof.GatherBRun
public import proofs.«01_k».proof.Proof.Whole
public import proofs.«01_k».proof.Proof.Gen.GatherBRef

@[expose] public section

noncomputable section

namespace Cert.Proof.GatherB

open Idealize.ShloMosaic Idealize.ShloMosaic.TcCoe Idealize.ShloMosaic.ValueIdx Idealize.ShloMosaic.StableHlo Idealize.SL.Sem

namespace Ref

open Cert.GatherBRef Cert.GatherBRef.Gen

variable {F : FTy → Type} [FloatOps F]

/-- The reference's results. -/
abbrev out0 (x : S2x1024x1024.Idx → Elt F .f32) : S8x128x1024.Idx → Elt F .bf16 := shapeCast S8x128x1024 (truncf .bf16 (shapeCast S1024x1024 (extractStridedSlice S1x1024x1024 ![0, 0, 0] x slices_S2x1024x1024_S1x1024x1024_0_0_0) shapeCasts_S1x1024x1024_S1024x1024) bitsLt_bf16_f32) shapeCasts_S1024x1024_S8x128x1024
abbrev out1 (y : S2x1024x5632.Idx → Elt F .f32) : S8x704x1024.Idx → Elt F .bf16 := shapeCast S8x704x1024 (truncf .bf16 (transpose S5632x1024 [1, 0] (shapeCast S1024x5632 (extractStridedSlice S1x1024x5632 ![0, 0, 0] y slices_S2x1024x5632_S1x1024x5632_0_0_0) shapeCasts_S1x1024x5632_S1024x5632) transposes_S1024x5632_S5632x1024_1_0) bitsLt_bf16_f32) shapeCasts_S5632x1024_S8x704x1024

abbrev ops : List (HloOp τ sig (Elt F)) :=
  [ unary main_arg0 main_v0 ((extractStridedSlice S1x1024x1024 ![0, 0, 0] · slices_S2x1024x1024_S1x1024x1024_0_0_0) : (⟨S2x1024x1024, .f32⟩ : BufTy).Contents (Elt F) → (⟨S1x1024x1024, .f32⟩ : BufTy).Contents (Elt F)),
    reshape main_v0 main_v1 (rfl : (.f32 : EltTy) = .f32) shapeCasts_S1x1024x1024_S1024x1024,
    unary main_v1 main_v2 ((truncf .bf16 · bitsLt_bf16_f32) : (⟨S1024x1024, .f32⟩ : BufTy).Contents (Elt F) → (⟨S1024x1024, .bf16⟩ : BufTy).Contents (Elt F)),
    reshape main_v2 main_v3 (rfl : (.bf16 : EltTy) = .bf16) shapeCasts_S1024x1024_S8x128x1024,
    unary main_arg1 main_v4 ((extractStridedSlice S1x1024x5632 ![0, 0, 0] · slices_S2x1024x5632_S1x1024x5632_0_0_0) : (⟨S2x1024x5632, .f32⟩ : BufTy).Contents (Elt F) → (⟨S1x1024x5632, .f32⟩ : BufTy).Contents (Elt F)),
    reshape main_v4 main_v5 (rfl : (.f32 : EltTy) = .f32) shapeCasts_S1x1024x5632_S1024x5632,
    unary main_v5 main_v6 ((transpose S5632x1024 [1, 0] · transposes_S1024x5632_S5632x1024_1_0) : (⟨S1024x5632, .f32⟩ : BufTy).Contents (Elt F) → (⟨S5632x1024, .f32⟩ : BufTy).Contents (Elt F)),
    unary main_v6 main_v7 ((truncf .bf16 · bitsLt_bf16_f32) : (⟨S5632x1024, .f32⟩ : BufTy).Contents (Elt F) → (⟨S5632x1024, .bf16⟩ : BufTy).Contents (Elt F)),
    reshape main_v7 main_v8 (rfl : (.bf16 : EltTy) = .bf16) shapeCasts_S5632x1024_S8x704x1024 ]

theorem main_eq (c : Dev nD) : main (F := F) c = seq ops := rfl

theorem results (V : Valuation τ sig (Elt F)) :
    after ops V (main_v3 : DevRef τ sig) = out0 (V (main_arg0 : DevRef τ sig))
      ∧ after ops V (main_v8 : DevRef τ sig) = out1 (V (main_arg1 : DevRef τ sig)) := by
  refine ⟨?_, ?_⟩ <;> (after_results <;> rfl)
theorem arguments (V : Valuation τ sig (Elt F)) :
    after ops V (main_arg0 : DevRef τ sig) = V (main_arg0 : DevRef τ sig)
      ∧ after ops V (main_arg1 : DevRef τ sig) = V (main_arg1 : DevRef τ sig) := by
  refine ⟨?_, ?_⟩ <;> after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., unary_bufs_sub .., reshape_bufs_sub ..⟩

instance : IsEmpty (SemLoc sig) := by
  constructor; rintro (s | s)
  · exact absurd s.isLt (Nat.not_lt_zero _)
  · exact absurd s.isLt (Nat.not_lt_zero _)

/-- The reference's run: it ends, every array as its operations leave it, every semaphore at zero. -/
theorem run_main (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = after ops (fun b => m (c, b)) (b : DevRef τ sig)) ∧ r.2.sem = fun _ => 0 :=
  (θ_run defs _ _).mono (fun _ h => ⟨fun c b => h c b, funext fun g => isEmptyElim g.2⟩)
    (run_seq scopedRefs_eq scopedSems_eq defs main (fun _ => ops) main_eq (fun _ => ops_sub) m ρ)

end Ref

open Cert.GatherBIdeal Cert.GatherBIdeal.Gen

variable {F : FTy → Type} [FloatOps F]

theorem sources (V : Valuation τ sig (Elt F)) :
    after pre V (src 0) = truncf .bf16 (shapeCast S128x1024 (extractStridedSlice S1x128x1024 ![0, 0, 0] (V (main_arg0 : DevRef τ sig)) slices_S2x128x1024_S1x128x1024_0_0_0) shapeCasts_S1x128x1024_S128x1024) bitsLt_bf16_f32
      ∧ after pre V (src 1) = truncf .bf16 (shapeCast S704x1024 (extractStridedSlice S1x704x1024 ![0, 0, 0] (transpose S2x704x1024 [0, 2, 1] (V (main_arg1 : DevRef τ sig)) transposes_S2x1024x704_S2x704x1024_0_2_1) slices_S2x704x1024_S1x704x1024_0_0_0) shapeCasts_S1x704x1024_S704x1024) bitsLt_bf16_f32 := by
  refine ⟨?_, ?_⟩ <;> (after_results <;> rfl)

variable (m : (ℓ : Loc nD τ sig) → Buf (Elt F) ℓ) (ρ : Dev nD → PrngReg)

theorem landed (i : Fin 2) (d : Fin 8) : Exchange.left land (out (A m)) pre m d (land i) = out (A m) i d := Exchange.overlay_land (by decide) _ _ i

/-- **The run**, of the arguments and results: device `d`'s results are what lands, its arguments are as they were. -/
theorem run_values : θ_run (defs (F := F)) (threads (F := F)) ⟨m, fun _ => 0, ρ⟩ (fun r =>
    (∀ d : Dev nD, (r.2.mem ((d.tc : Thread nD τ).loc main_v8_0) = (out (A m) 0 d)
        ∧ r.2.mem ((d.tc : Thread nD τ).loc main_v8_1) = (out (A m) 1 d))
      ∧ r.2.mem ((d.tc : Thread nD τ).loc main_arg0) = m ((d.tc : Thread nD τ).loc main_arg0)
      ∧ r.2.mem ((d.tc : Thread nD τ).loc main_arg1) = m ((d.tc : Thread nD τ).loc main_arg1)) ∧ r.2.sem = fun _ => 0) := by
  refine (θ_run defs _ _).mono (fun r h => ⟨fun d => ⟨⟨?_, ?_⟩, ?_, ?_⟩, h.2⟩) (run_main m ρ)
  · exact (h.1 d _ (Exchange.uc_mem main_v8_0 rfl)).trans (landed m 0 d)
  · exact (h.1 d _ (Exchange.uc_mem main_v8_1 rfl)).trans (landed m 1 d)
  · exact (h.1 d _ (Exchange.uc_mem main_arg0 rfl)).trans (Exchange.kept m _ (by decide) (fun V => by after_results) (fun V => rfl) d)
  · exact (h.1 d _ (Exchange.uc_mem main_arg1 rfl)).trans (Exchange.kept m _ (by decide) (fun V => by after_results) (fun V => rfl) d)

/-- What device `d` ends with is the reference's result. -/
theorem value0 (x : Cert.GatherBRef.S2x1024x1024.Idx → Elt F .f32) (d : Fin 8)
    (h0 : ∀ c : Dev nD, m ((c.tc : Thread nD τ).loc main_arg0) = Layout.block ⟨3, ![2, 128, 1024]⟩ ⟨3, ![2, 1024, 1024]⟩ 1 8 c x) :
    (out (A m) 0 d) = (Ref.out0 x) :=
  Exchange.slabs_rows (p := 128) (q := 1024) (r := 1024) (fun e : F .f32 => FloatOps.truncf .bf16 bitsLt_bf16_f32 e) 0 rfl (by decide) _ _ _ _ _ (A m 0) x (fun s => (sources (Exchange.atLaunch m s)).1.trans (congrArg (fun u => truncf .bf16 (shapeCast S128x1024 (extractStridedSlice S1x128x1024 ![0, 0, 0] u slices_S2x128x1024_S1x128x1024_0_0_0) shapeCasts_S1x128x1024_S128x1024) bitsLt_bf16_f32) (h0 s)))
theorem value1 (y : Cert.GatherBRef.S2x1024x5632.Idx → Elt F .f32) (d : Fin 8)
    (h1 : ∀ c : Dev nD, m ((c.tc : Thread nD τ).loc main_arg1) = Layout.block ⟨3, ![2, 1024, 704]⟩ ⟨3, ![2, 1024, 5632]⟩ 2 8 c y) :
    (out (A m) 1 d) = (Ref.out1 y) :=
  Exchange.slabs_turned (p := 704) (q := 1024) (r := 5632) (fun e : F .f32 => FloatOps.truncf .bf16 bitsLt_bf16_f32 e) 0 rfl (by decide) _ _ _ _ _ _ _ (A m 1) y (fun s => (sources (Exchange.atLaunch m s)).2.trans (congrArg (fun u => truncf .bf16 (shapeCast S704x1024 (extractStridedSlice S1x704x1024 ![0, 0, 0] (transpose S2x704x1024 [0, 2, 1] u transposes_S2x1024x704_S2x704x1024_0_2_1) slices_S2x704x1024_S1x704x1024_0_0_0) shapeCasts_S1x704x1024_S704x1024) bitsLt_bf16_f32) (h1 s)))

/-- What the reference's run says of one device. -/
theorem Ref.run_values (m : (ℓ : Loc Cert.GatherBRef.nD Cert.GatherBRef.τ Cert.GatherBRef.sig) → Buf (Elt F) ℓ) (ρ : Dev Cert.GatherBRef.nD → PrngReg) :
    θ_run (Cert.GatherBRef.defs (F := F)) (onTc (τ := Cert.GatherBRef.τ) (Cert.GatherBRef.main (F := F))) ⟨m, fun _ => 0, ρ⟩ fun r =>
      (∀ c : Dev Cert.GatherBRef.nD, (r.2.mem ((c.tc : Thread _ Cert.GatherBRef.τ).loc Cert.GatherBRef.main_v3) = Ref.out0 (m ((c.tc : Thread _ Cert.GatherBRef.τ).loc Cert.GatherBRef.main_arg0))
          ∧ r.2.mem ((c.tc : Thread _ Cert.GatherBRef.τ).loc Cert.GatherBRef.main_v8) = Ref.out1 (m ((c.tc : Thread _ Cert.GatherBRef.τ).loc Cert.GatherBRef.main_arg1)))
        ∧ r.2.mem ((c.tc : Thread _ Cert.GatherBRef.τ).loc Cert.GatherBRef.main_arg0) = m ((c.tc : Thread _ Cert.GatherBRef.τ).loc Cert.GatherBRef.main_arg0)
        ∧ r.2.mem ((c.tc : Thread _ Cert.GatherBRef.τ).loc Cert.GatherBRef.main_arg1) = m ((c.tc : Thread _ Cert.GatherBRef.τ).loc Cert.GatherBRef.main_arg1)) ∧ r.2.sem = fun _ => 0 := by
  refine (θ_run Cert.GatherBRef.defs _ _).mono (fun r h => ⟨fun c => ?_, h.2⟩) (Ref.run_main m ρ)
  have R := Ref.results (F := F) (fun b => m (c, b))
  have R' := Ref.arguments (F := F) (fun b => m (c, b))
  exact ⟨⟨(h.1 c _).trans R.1, (h.1 c _).trans R.2⟩, (h.1 c _).trans R'.1, (h.1 c _).trans R'.2⟩

end Cert.Proof.GatherB

end
-- ==== Proof.GatherCBody.lean ====
/- The gather of the first layer's down matrix: its parts, slots and semaphores as `Exchange.Ports`, and that
   the printed kernel is `Exchange.Ports.body` of them. -/
module

public import proofs.«01_k».proof.Proof.Launch
public import proofs.«01_k».proof.Proof.Steps
public import proofs.«01_k».proof.Proof.Arrays
public import proofs.«01_k».proof.Proof.Gen.GatherCIdeal.Skeleton

@[expose] public section

set_option synthInstance.maxSize 4096

noncomputable section

namespace Cert.Proof.GatherC

open Idealize.ShloMosaic Idealize.SL.Sem
open Cert.GatherCIdeal Cert.GatherCIdeal.Gen
open Exchange (peer rowAt colAt at_eq op_congr)
open Exchange.Ports (ops_cons ops_nil pairs_flat)

/-- The one grid point. -/
abbrev i₀ : grid0.Coords := (fun | 0 => ⟨0, by decide⟩ | ⟨_ + 1, h⟩ => absurd h (Nat.not_lt.2 (Nat.le_add_left _ _)))

theorem sem_inb (i : Fin 1) (k : Fin 7) : ∀ a, (![i.val, k.val] : Fin 2 → ℕ) a + S1x1.size a ≤ S1x7.size a := by revert i k; decide
theorem loc_inb (i : Fin 1) : ∀ a, (![i.val] : Fin 1 → ℕ) a + S1.size a ≤ S1.size a := by revert i; decide

/-- The receive, send and local semaphores. -/
def recvSem (x : Fin 7 × Fin 1) : DmaSem sig := ((cc0_scratch1.slice (Rect.unit (s := S1x7) ![x.2.val, x.1.val] S1x1.size (sem_inb x.2 x.1))).squeeze S_ squeezes_S1x1_S_).sem
def sendSem (x : Fin 7 × Fin 1) : DmaSem sig := ((cc0_scratch0.slice (Rect.unit (s := S1x7) ![x.2.val, x.1.val] S1x1.size (sem_inb x.2 x.1))).squeeze S_ squeezes_S1x1_S_).sem
def locSem (i : Fin 1) : DmaSem sig := ((cc0_scratch2.slice (Rect.unit (s := S1) ![i.val] S1.size (loc_inb i))).squeeze S_ squeezes_S1_S_).sem

theorem recvSem_val : ∀ x, (recvSem x).val = 7 + 7 * x.2.val + x.1.val := by decide +kernel
theorem sendSem_val : ∀ x, (sendSem x).val = 7 * x.2.val + x.1.val := by decide +kernel
theorem locSem_val : ∀ x, (locSem x).val = 14 + x.val := by decide +kernel

/-! ## The parts and the slots, as slices of the call's arrays -/

abbrev slot0 := rowAt squeezes_S1x352x1024_S352x1024 (Memref.whole main_v4_scs)

/-- What the program exchanges, and over what. -/
def X : Exchange.Ports τ sig 1 where
  c₀ := (i₀ 0).castLE hcore0
  bar := (SemArray.scalar (sig.barrier 2 rfl) : Sems sig S_).sem
  recv := recvSem
  send := sendSem
  loc := locSem
  B := fun | 0 => S352x1024
  e := fun | 0 => .bf16
  part := fun
    | 0 => fun s => Memref.whole main_v3_scs
  slot := fun
    | 0 => fun s => slot0 (k0_off1 s) (k0_off1_inb s)
  hpart := fun
    | 0 => fun s => (Memref.isWhole_whole main_v3_scs).wordExact
  hslot := fun
    | 0 => fun s => ((Memref.isWhole_whole main_v4_scs).wordExact_slice rfl _ (k0_off1_wordsbf16 s)).reshape _ _
  hsc := fun | 0 => fun _ => rfl
  N := fun
    | 0 => (Memref.whole main_v3_scs).view.dmaCredit
  hNpart := fun | 0 => fun _ => rfl
  hNslot := fun | 0 => fun _ => rfl
  N_pos := fun | 0 => View.dmaCredit_pos _ (by decide)
  sh := fun _ s => Exchange.eighth s
  recv_inj := fun a b h => by
    have h := congrArg Fin.val h; rw [recvSem_val, recvSem_val] at h
    exact Prod.ext (Fin.ext (by omega)) (Fin.ext (by omega))
  send_inj := fun a b h => by
    have h := congrArg Fin.val h; rw [sendSem_val, sendSem_val] at h
    exact Prod.ext (Fin.ext (by omega)) (Fin.ext (by omega))
  loc_inj := fun a b h => by
    have h := congrArg Fin.val h; rw [locSem_val, locSem_val] at h
    exact Fin.ext (by omega)
  recv_send := fun a b h => by
    have h := congrArg Fin.val h; rw [recvSem_val, sendSem_val] at h; omega
  recv_loc := fun a b h => by
    have h := congrArg Fin.val h; rw [recvSem_val, locSem_val] at h; omega
  send_loc := fun a b h => by
    have h := congrArg Fin.val h; rw [sendSem_val, locSem_val] at h; omega

/-! ## The printed kernel -/

variable {F : FTy → Type} [FloatOps F]

set_option maxHeartbeats 8000000 in
set_option maxRecDepth 10000 in
/-- The printed kernel is the exchange. -/
theorem body_eq : cc0_gather_c (F := F) i₀ (Memref.whole main_v3_scs) (Memref.isWhole_whole _) (Memref.whole main_v4_scs) (Memref.isWhole_whole _) cc0_scratch0 cc0_scratch1 cc0_scratch2
    = .op .deviceId fun d => X.body d := by
  unfold cc0_gather_c
  simp only [k0_part1, k0_part2, k0_part3, k0_part4, k0_part5, k0_part6, k0_part7, k0_part8, k0_part9, k0_part10, k0_part11, k0_part12, k0_part13, semSignalWord, semWaitWord, Prog.bind_ret, Prog.bind_op, Prog.bind_lift, Prog.pure_eq_ret]
  refine congrArg (Prog.op _) (funext fun d => ?_)
  rw [Exchange.Ports.body, pairs_flat, show Exchange.order = [1, 3, 5, 2, 4, 6, 0] from rfl, show List.finRange 1 = [0] from rfl]
  simp only [List.flatMap_cons, List.flatMap_nil, List.map_cons, List.map_nil, List.cons_append, List.nil_append, ops_cons, ops_nil]
  iterate 7 refine op_congr (X.signal_eq d _ (by revert d; decide +kernel)) fun _ => ?_
  iterate 2 refine op_congr rfl fun _ => ?_
  iterate 7
    refine op_congr (X.send_eq d _ 0 rfl (by revert d; decide +kernel)) fun _ => ?_
  iterate 7
    refine op_congr (X.recv_eq d _ 0 (at_eq slot0 (by revert d; decide +kernel))) fun _ => ?_
  iterate 7
    refine op_congr (X.sent_eq d _ 0 rfl) fun _ => ?_
  iterate 1 refine op_congr rfl fun _ => ?_
  rfl

end Cert.Proof.GatherC

end
-- ==== Proof.GatherCRun.lean ====
/- The gather of the first layer's down matrix: how the parts and slots lie in its arrays, what every array ends at, and its run. -/
module

public import proofs.«01_k».proof.Proof.GatherCBody
public import proofs.«01_k».proof.Proof.HostRun

@[expose] public section

set_option synthInstance.maxSize 4096

noncomputable section

namespace Cert.Proof.GatherC

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.GatherCIdeal Cert.GatherCIdeal.Gen
open Idealize.ShloMosaic.StableHlo (after)
open Exchange (peer cBar mem_of_eq row_mem rows_holds col_mem cols_holds slabs_holds beside_holds whole_parts colOf pieces_eq pieces_some pieces_join Covers atLaunch)
open Exchange.Ports (UU EH u₀)

theorem off1_at : ∀ s : Fin 8, k0_off1 s = ![s.val, 0, 0] := by decide +kernel

/-! ## Which part, which slot an element is of -/

theorem slot0_mem (t : Fin 8) (i : S8x352x1024.Idx) : i ∈ (slot0 (k0_off1 t) (k0_off1_inb t)).view.set ↔ (i 0 : Fin 8) = t :=
  (mem_of_eq ((View.set_reshape _ _).trans (View.set_slice_whole _ _))).trans (row_mem (off1_at t) i)

section Contents
variable {Val : EltTy → Type}

/-- The arrays of the call, and what they hold before and after. -/
abbrev src : Fin 1 → DevRef τ sig := fun
  | 0 => Proc.devRef .tc (main_v3 : Ref sig .tc)
abbrev land : Fin 1 → DevRef τ sig := fun
  | 0 => Proc.devRef .tc (main_v4 : Ref sig .tc)

variable (A : (i : Fin 1) → (d : Fin 8) → Buf Val ((d, src i) : Loc 8 τ sig))

abbrev out : (i : Fin 1) → (d : Fin 8) → Buf Val ((d, land i) : Loc 8 τ sig) := fun
  | 0 => fun d => Exchange.slabsOut (A 0)

/-- What the exchange reads. -/
abbrev fs : X.Src Val := fun
  | 0 => fun d _ => A 0 d

local notation "𝕄" => MT 8 τ sig (HIx 1) Val ℕ (UU τ sig) ℕ

/-- The parts are the sources, the slots the landing arrays, and what lands is `out`. -/
theorem covers : Covers X (fs A) src land A (out A) where
  parts := fun
    | 0 => fun d => whole_parts (ℓ := ((d, src 0) : Loc 8 τ sig)) (X.part 0 0).view.set (View.set_whole _) (A 0 d)
  slots := fun
    | 0 => fun d => pieces_some (ℓ := ((d, land 0) : Loc 8 τ sig)) (K := fun t => (X.slot 0 t).view.set) _ slot0_mem
  landed := fun
    | 0 => fun d => pieces_join (ℓ := ((d, land 0) : Loc 8 τ sig)) (K := fun t => (X.slot 0 t).view.set) _ slot0_mem (out A 0 d)
        (fun t f => (X.slot 0 t).view.read Val f = (X.part 0 d).view.read Val (A 0 t)) fun t f h x hx => slabs_holds (α := Val .bf16) squeezes_S1x352x1024_S352x1024 (k0_off1_inb t) (A 0) (off1_at t) f h x ((slot0_mem t x).mp hx)

end Contents

/-! ## The launch -/

variable {F : FTy → Type} [FloatOps F]

local notation "𝕄" => MT 8 τ sig (HIx 1) (Elt F) ℕ (UU τ sig) ℕ

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem sc_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The exchange fits the launch. -/
theorem fits : X.Fits (K (F := F)) where
  hs := show X.bar ≠ sc_start by decide
  ht := show X.bar ≠ sc_taskDone by decide
  hbar := show (SemLoc.reg X.bar : SemLoc sig).isScoped .scScalar = false by decide
  hdma := show ∀ x : Exchange.Ports.DCell 1, (X.sem (Exchange.Ports.dc x)).isScoped .scScalar = true by decide +kernel
  hkind := rfl
  hcall := show (i₀ 0).val < 1 by decide

set_option maxRecDepth 10000 in
theorem scalarObl (f : X.Src (Elt F)) : (K (F := F)).ScalarObl' (D (F := F)) 𝒱 (X.P f fits) v₀ 0 := by
  rintro d ⟨cv, hcv⟩ O W hO hOlev -
  obtain rfl : cv = 0 := by have : (K (F := F)).nCore 0 = 1 := rfl; omega
  change _ ⊢ wp _ _ _ (Pipeline.liftProg (defs₀ (F := F) (.scScalar ((K (F := F)).core 0 ⟨0, hcv⟩)) 0 ())) _
  refine BI.Entails.trans ?_ (Pipeline.wp_liftProg (D (F := F)) (Pipeline.defs_kernel pcfgs defs₀) 𝒱₀ _ Set.univ none _ _)
  have hc : ((K (F := F)).core 0 ⟨0, hcv⟩).val < grid0.bound 0 := hcv
  rw [show (X.P f fits).x 0 (S d ((K (F := F)).core 0 ⟨0, hcv⟩)) = X.kit f d from X.Px_S f fits d,
    show (X.P f fits).ox 0 (S d ((K (F := F)).core 0 ⟨0, hcv⟩)) = X.ox d from X.Pox_S f fits d]
  refine (X.wp_kernel f fits (defs₀ (F := F)) 𝒱₀ d O W hOlev).trans ?_
  refine (Entails.of_eq (wp_deviceId 𝒱₀ (S d X.c₀) none Set.univ).symm).trans ?_
  exact Entails.of_eq (congrArg (fun p => wp frame (wpE (defs₀ (F := F)) 𝒱₀ (S d X.c₀) none) Set.univ p _) body_eq.symm)

/-! ## The program -/

abbrev pre : List (HloOp τ sig (Elt F)) :=
  [ StableHlo.unary main_arg0 main_v1 ((extractStridedSlice S1x352x1024 ![0, 0, 0] · slices_S2x352x1024_S1x352x1024_0_0_0) : (⟨S2x352x1024, .f32⟩ : BufTy).Contents (Elt F) → (⟨S1x352x1024, .f32⟩ : BufTy).Contents (Elt F)),
    StableHlo.reshape main_v1 main_v2 (rfl : (.f32 : EltTy) = .f32) shapeCasts_S1x352x1024_S352x1024,
    StableHlo.unary main_v2 main_v3 ((truncf .bf16 · bitsLt_bf16_f32) : (⟨S352x1024, .f32⟩ : BufTy).Contents (Elt F) → (⟨S352x1024, .bf16⟩ : BufTy).Contents (Elt F)) ]

abbrev post : List (HloOp τ sig (Elt F)) :=
  [  ]

theorem pre_sub : ∀ op ∈ (pre : List (HloOp τ sig (Elt F))), op.bufs ⊆ StableHlo.tcRefs τ sig :=
  List.forall_iff_forall_mem.mp ⟨StableHlo.unary_bufs_sub .., StableHlo.reshape_bufs_sub .., StableHlo.unary_bufs_sub ..⟩
theorem post_sub : ∀ op ∈ (post : List (HloOp τ sig (Elt F))), op.bufs ⊆ StableHlo.tcRefs τ sig :=
  List.forall_iff_forall_mem.mp trivial

theorem main_eq (d : Dev nD) : main (F := F) d = (StableHlo.seq pre >>= fun _ => (K (F := F)).run d 0 >>= fun _ => StableHlo.seq post >>= fun _ => Pure.pure PUnit.unit) := rfl

variable (m : (ℓ : Loc nD τ sig) → Buf (Elt F) ℓ) (ρ : Dev nD → PrngReg)

/-- What the call finds in its sources. -/
abbrev A : (i : Fin 1) → (d : Fin 8) → Buf (Elt F) ((d, src i) : Loc 8 τ sig) := fun i d => after pre (atLaunch m d) (src i)

/-- **The run**: nothing faults, every execution ends, every array holds what the host operations after the call make of what
    the call leaves, every semaphore is at zero. -/
theorem run_main : θ_run (defs (F := F)) (threads (F := F)) ⟨m, fun _ => 0, ρ⟩ (fun r =>
    (∀ d : Fin 8, ∀ b ∈ Pipeline.ucRefs τ sig, r.2.mem (d, b) = after post (Exchange.left land (out (A m)) pre m d) b) ∧ r.2.sem = fun _ => 0) :=
  Exchange.run_host (K := K (F := F)) (D := D (F := F)) (𝒱 := 𝒱) (fs (A m)) fits v₀ (covers (A m)) (by decide) (by decide) (by decide) (by decide) (by decide) rfl m ρ pre post pre_sub post_sub
    (List.forall_iff_forall_mem.mp ⟨rfl, rfl, rfl⟩) (List.forall_iff_forall_mem.mp trivial) (fun _ _ => rfl) sc_facts (scalarObl _) main main_eq

end Cert.Proof.GatherC

end
-- ==== Proof.GatherCValue.lean ====
/- The gather of the first layer's down matrix: its reference, and that a device's results are the reference's. -/
module

public import proofs.«01_k».proof.Proof.GatherCRun
public import proofs.«01_k».proof.Proof.Whole
public import proofs.«01_k».proof.Proof.Gen.GatherCRef

@[expose] public section

noncomputable section

namespace Cert.Proof.GatherC

open Idealize.ShloMosaic Idealize.ShloMosaic.TcCoe Idealize.ShloMosaic.ValueIdx Idealize.ShloMosaic.StableHlo Idealize.SL.Sem

namespace Ref

open Cert.GatherCRef Cert.GatherCRef.Gen

variable {F : FTy → Type} [FloatOps F]

/-- The reference's results. -/
abbrev out0 (x : S2x2816x1024.Idx → Elt F .f32) : S8x352x1024.Idx → Elt F .bf16 := shapeCast S8x352x1024 (truncf .bf16 (shapeCast S2816x1024 (extractStridedSlice S1x2816x1024 ![0, 0, 0] x slices_S2x2816x1024_S1x2816x1024_0_0_0) shapeCasts_S1x2816x1024_S2816x1024) bitsLt_bf16_f32) shapeCasts_S2816x1024_S8x352x1024

abbrev ops : List (HloOp τ sig (Elt F)) :=
  [ unary main_arg0 main_v0 ((extractStridedSlice S1x2816x1024 ![0, 0, 0] · slices_S2x2816x1024_S1x2816x1024_0_0_0) : (⟨S2x2816x1024, .f32⟩ : BufTy).Contents (Elt F) → (⟨S1x2816x1024, .f32⟩ : BufTy).Contents (Elt F)),
    reshape main_v0 main_v1 (rfl : (.f32 : EltTy) = .f32) shapeCasts_S1x2816x1024_S2816x1024,
    unary main_v1 main_v2 ((truncf .bf16 · bitsLt_bf16_f32) : (⟨S2816x1024, .f32⟩ : BufTy).Contents (Elt F) → (⟨S2816x1024, .bf16⟩ : BufTy).Contents (Elt F)),
    reshape main_v2 main_v3 (rfl : (.bf16 : EltTy) = .bf16) shapeCasts_S2816x1024_S8x352x1024 ]

theorem main_eq (c : Dev nD) : main (F := F) c = seq ops := rfl

theorem results (V : Valuation τ sig (Elt F)) :
    after ops V (main_v3 : DevRef τ sig) = out0 (V (main_arg0 : DevRef τ sig)) := by
  (after_results <;> rfl)
theorem arguments (V : Valuation τ sig (Elt F)) :
    after ops V (main_arg0 : DevRef τ sig) = V (main_arg0 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub ..⟩

instance : IsEmpty (SemLoc sig) := by
  constructor; rintro (s | s)
  · exact absurd s.isLt (Nat.not_lt_zero _)
  · exact absurd s.isLt (Nat.not_lt_zero _)

/-- The reference's run: it ends, every array as its operations leave it, every semaphore at zero. -/
theorem run_main (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = after ops (fun b => m (c, b)) (b : DevRef τ sig)) ∧ r.2.sem = fun _ => 0 :=
  (θ_run defs _ _).mono (fun _ h => ⟨fun c b => h c b, funext fun g => isEmptyElim g.2⟩)
    (run_seq scopedRefs_eq scopedSems_eq defs main (fun _ => ops) main_eq (fun _ => ops_sub) m ρ)

end Ref

open Cert.GatherCIdeal Cert.GatherCIdeal.Gen

variable {F : FTy → Type} [FloatOps F]

theorem sources (V : Valuation τ sig (Elt F)) :
    after pre V (src 0) = truncf .bf16 (shapeCast S352x1024 (extractStridedSlice S1x352x1024 ![0, 0, 0] (V (main_arg0 : DevRef τ sig)) slices_S2x352x1024_S1x352x1024_0_0_0) shapeCasts_S1x352x1024_S352x1024) bitsLt_bf16_f32 := by
  (after_results <;> rfl)

variable (m : (ℓ : Loc nD τ sig) → Buf (Elt F) ℓ) (ρ : Dev nD → PrngReg)

theorem landed (i : Fin 1) (d : Fin 8) : Exchange.left land (out (A m)) pre m d (land i) = out (A m) i d := Exchange.overlay_land (by decide) _ _ i

/-- **The run**, of the arguments and results: device `d`'s results are what lands, its arguments are as they were. -/
theorem run_values : θ_run (defs (F := F)) (threads (F := F)) ⟨m, fun _ => 0, ρ⟩ (fun r =>
    (∀ d : Dev nD, (r.2.mem ((d.tc : Thread nD τ).loc main_v4) = (out (A m) 0 d))
      ∧ r.2.mem ((d.tc : Thread nD τ).loc main_arg0) = m ((d.tc : Thread nD τ).loc main_arg0)) ∧ r.2.sem = fun _ => 0) := by
  refine (θ_run defs _ _).mono (fun r h => ⟨fun d => ⟨?_, ?_⟩, h.2⟩) (run_main m ρ)
  · exact (h.1 d _ (Exchange.uc_mem main_v4 rfl)).trans (landed m 0 d)
  · exact (h.1 d _ (Exchange.uc_mem main_arg0 rfl)).trans (Exchange.kept m _ (by decide) (fun V => by after_results) (fun V => rfl) d)

/-- What device `d` ends with is the reference's result. -/
theorem value0 (x : Cert.GatherCRef.S2x2816x1024.Idx → Elt F .f32) (d : Fin 8)
    (h0 : ∀ c : Dev nD, m ((c.tc : Thread nD τ).loc main_arg0) = Layout.block ⟨3, ![2, 352, 1024]⟩ ⟨3, ![2, 2816, 1024]⟩ 1 8 c x) :
    (out (A m) 0 d) = (Ref.out0 x) :=
  Exchange.slabs_rows (p := 352) (q := 1024) (r := 2816) (fun e : F .f32 => FloatOps.truncf .bf16 bitsLt_bf16_f32 e) 0 rfl (by decide) _ _ _ _ _ (A m 0) x (fun s => (sources (Exchange.atLaunch m s)).trans (congrArg (fun u => truncf .bf16 (shapeCast S352x1024 (extractStridedSlice S1x352x1024 ![0, 0, 0] u slices_S2x352x1024_S1x352x1024_0_0_0) shapeCasts_S1x352x1024_S352x1024) bitsLt_bf16_f32) (h0 s)))

/-- What the reference's run says of one device. -/
theorem Ref.run_values (m : (ℓ : Loc Cert.GatherCRef.nD Cert.GatherCRef.τ Cert.GatherCRef.sig) → Buf (Elt F) ℓ) (ρ : Dev Cert.GatherCRef.nD → PrngReg) :
    θ_run (Cert.GatherCRef.defs (F := F)) (onTc (τ := Cert.GatherCRef.τ) (Cert.GatherCRef.main (F := F))) ⟨m, fun _ => 0, ρ⟩ fun r =>
      (∀ c : Dev Cert.GatherCRef.nD, (r.2.mem ((c.tc : Thread _ Cert.GatherCRef.τ).loc Cert.GatherCRef.main_v3) = Ref.out0 (m ((c.tc : Thread _ Cert.GatherCRef.τ).loc Cert.GatherCRef.main_arg0)))
        ∧ r.2.mem ((c.tc : Thread _ Cert.GatherCRef.τ).loc Cert.GatherCRef.main_arg0) = m ((c.tc : Thread _ Cert.GatherCRef.τ).loc Cert.GatherCRef.main_arg0)) ∧ r.2.sem = fun _ => 0 := by
  refine (θ_run Cert.GatherCRef.defs _ _).mono (fun r h => ⟨fun c => ?_, h.2⟩) (Ref.run_main m ρ)
  have R := Ref.results (F := F) (fun b => m (c, b))
  have R' := Ref.arguments (F := F) (fun b => m (c, b))
  exact ⟨(h.1 c _).trans R, (h.1 c _).trans R'⟩

end Cert.Proof.GatherC

end
-- ==== Proof.GatherDBody.lean ====
/- The gather of the second layer's two projections: its parts, slots and semaphores as `Exchange.Ports`, and that
   the printed kernel is `Exchange.Ports.body` of them. -/
module

public import proofs.«01_k».proof.Proof.Launch
public import proofs.«01_k».proof.Proof.Steps
public import proofs.«01_k».proof.Proof.Arrays
public import proofs.«01_k».proof.Proof.Gen.GatherDIdeal.Skeleton

@[expose] public section

set_option synthInstance.maxSize 4096

noncomputable section

namespace Cert.Proof.GatherD

open Idealize.ShloMosaic Idealize.SL.Sem
open Cert.GatherDIdeal Cert.GatherDIdeal.Gen
open Exchange (peer rowAt colAt at_eq op_congr)
open Exchange.Ports (ops_cons ops_nil pairs_flat)

/-- The one grid point. -/
abbrev i₀ : grid0.Coords := (fun | 0 => ⟨0, by decide⟩ | ⟨_ + 1, h⟩ => absurd h (Nat.not_lt.2 (Nat.le_add_left _ _)))

theorem sem_inb (i : Fin 2) (k : Fin 7) : ∀ a, (![i.val, k.val] : Fin 2 → ℕ) a + S1x1.size a ≤ S2x7.size a := by revert i k; decide
theorem loc_inb (i : Fin 2) : ∀ a, (![i.val] : Fin 1 → ℕ) a + S1.size a ≤ S2.size a := by revert i; decide

/-- The receive, send and local semaphores. -/
def recvSem (x : Fin 7 × Fin 2) : DmaSem sig := ((cc0_scratch1.slice (Rect.unit (s := S2x7) ![x.2.val, x.1.val] S1x1.size (sem_inb x.2 x.1))).squeeze S_ squeezes_S1x1_S_).sem
def sendSem (x : Fin 7 × Fin 2) : DmaSem sig := ((cc0_scratch0.slice (Rect.unit (s := S2x7) ![x.2.val, x.1.val] S1x1.size (sem_inb x.2 x.1))).squeeze S_ squeezes_S1x1_S_).sem
def locSem (i : Fin 2) : DmaSem sig := ((cc0_scratch2.slice (Rect.unit (s := S2) ![i.val] S1.size (loc_inb i))).squeeze S_ squeezes_S1_S_).sem

theorem recvSem_val : ∀ x, (recvSem x).val = 14 + 7 * x.2.val + x.1.val := by decide +kernel
theorem sendSem_val : ∀ x, (sendSem x).val = 7 * x.2.val + x.1.val := by decide +kernel
theorem locSem_val : ∀ x, (locSem x).val = 28 + x.val := by decide +kernel

/-! ## The parts and the slots, as slices of the call's arrays -/

abbrev slot0 := colAt (p := 1024) (q := 384) (r := 3072) (Memref.whole main_v7_0_scs)
abbrev slot1 := rowAt squeezes_S1x128x1024_S128x1024 (Memref.whole main_v7_1_scs)

/-- What the program exchanges, and over what. -/
def X : Exchange.Ports τ sig 2 where
  c₀ := (i₀ 0).castLE hcore0
  bar := (SemArray.scalar (sig.barrier 3 rfl) : Sems sig S_).sem
  recv := recvSem
  send := sendSem
  loc := locSem
  B := fun | 0 => S1024x384 | 1 => S128x1024
  e := fun | 0 => .bf16 | 1 => .bf16
  part := fun
    | 0 => fun s => Memref.whole main_v3_scs
    | 1 => fun s => Memref.whole main_v6_scs
  slot := fun
    | 0 => fun s => slot0 (k0_off1 s) (k0_off1_inb s)
    | 1 => fun s => slot1 (k0_off2 s) (k0_off2_inb s)
  hpart := fun
    | 0 => fun s => (Memref.isWhole_whole main_v3_scs).wordExact
    | 1 => fun s => (Memref.isWhole_whole main_v6_scs).wordExact
  hslot := fun
    | 0 => fun s => (Memref.isWhole_whole main_v7_0_scs).wordExact_slice rfl _ (k0_off1_wordsbf16 s)
    | 1 => fun s => ((Memref.isWhole_whole main_v7_1_scs).wordExact_slice rfl _ (k0_off2_wordsbf16 s)).reshape _ _
  hsc := fun | 0 | 1 => fun _ => rfl
  N := fun
    | 0 => (Memref.whole main_v3_scs).view.dmaCredit
    | 1 => (Memref.whole main_v6_scs).view.dmaCredit
  hNpart := fun | 0 | 1 => fun _ => rfl
  hNslot := fun | 0 | 1 => fun _ => rfl
  N_pos := fun | 0 | 1 => View.dmaCredit_pos _ (by decide)
  sh := fun _ s => Exchange.eighth s
  recv_inj := fun a b h => by
    have h := congrArg Fin.val h; rw [recvSem_val, recvSem_val] at h
    exact Prod.ext (Fin.ext (by omega)) (Fin.ext (by omega))
  send_inj := fun a b h => by
    have h := congrArg Fin.val h; rw [sendSem_val, sendSem_val] at h
    exact Prod.ext (Fin.ext (by omega)) (Fin.ext (by omega))
  loc_inj := fun a b h => by
    have h := congrArg Fin.val h; rw [locSem_val, locSem_val] at h
    exact Fin.ext (by omega)
  recv_send := fun a b h => by
    have h := congrArg Fin.val h; rw [recvSem_val, sendSem_val] at h; omega
  recv_loc := fun a b h => by
    have h := congrArg Fin.val h; rw [recvSem_val, locSem_val] at h; omega
  send_loc := fun a b h => by
    have h := congrArg Fin.val h; rw [sendSem_val, locSem_val] at h; omega

/-! ## The printed kernel -/

variable {F : FTy → Type} [FloatOps F]

set_option maxHeartbeats 8000000 in
set_option maxRecDepth 10000 in
/-- The printed kernel is the exchange. -/
theorem body_eq : cc0_gather_d (F := F) i₀ (Memref.whole main_v3_scs) (Memref.isWhole_whole _) (Memref.whole main_v6_scs) (Memref.isWhole_whole _) (Memref.whole main_v7_0_scs) (Memref.isWhole_whole _) (Memref.whole main_v7_1_scs) (Memref.isWhole_whole _) cc0_scratch0 cc0_scratch1 cc0_scratch2
    = .op .deviceId fun d => X.body d := by
  unfold cc0_gather_d
  simp only [k0_part1, k0_part2, k0_part3, k0_part4, k0_part5, k0_part6, k0_part7, k0_part8, k0_part9, k0_part10, k0_part11, k0_part12, k0_part13, k0_part14, k0_part15, k0_part16, k0_part17, k0_part18, k0_part19, k0_part20, semSignalWord, semWaitWord, Prog.bind_ret, Prog.bind_op, Prog.bind_lift, Prog.pure_eq_ret]
  refine congrArg (Prog.op _) (funext fun d => ?_)
  rw [Exchange.Ports.body, pairs_flat, show Exchange.order = [1, 3, 5, 2, 4, 6, 0] from rfl, show List.finRange 2 = [0, 1] from rfl]
  simp only [List.flatMap_cons, List.flatMap_nil, List.map_cons, List.map_nil, List.cons_append, List.nil_append, ops_cons, ops_nil]
  iterate 7 refine op_congr (X.signal_eq d _ (by revert d; decide +kernel)) fun _ => ?_
  iterate 3 refine op_congr rfl fun _ => ?_
  iterate 7
    refine op_congr (X.send_eq d _ 0 rfl (by revert d; decide +kernel)) fun _ => ?_
    refine op_congr (X.send_eq d _ 1 rfl (by revert d; decide +kernel)) fun _ => ?_
  iterate 7
    refine op_congr (X.recv_eq d _ 0 (at_eq slot0 (by revert d; decide +kernel))) fun _ => ?_
    refine op_congr (X.recv_eq d _ 1 (at_eq slot1 (by revert d; decide +kernel))) fun _ => ?_
  iterate 7
    refine op_congr (X.sent_eq d _ 0 rfl) fun _ => ?_
    refine op_congr (X.sent_eq d _ 1 rfl) fun _ => ?_
  iterate 2 refine op_congr rfl fun _ => ?_
  rfl

end Cert.Proof.GatherD

end
-- ==== Proof.GatherDRun.lean ====
/- The gather of the second layer's two projections: how the parts and slots lie in its arrays, what every array ends at, and its run. -/
module

public import proofs.«01_k».proof.Proof.GatherDBody
public import proofs.«01_k».proof.Proof.HostRun

@[expose] public section

set_option synthInstance.maxSize 4096

noncomputable section

namespace Cert.Proof.GatherD

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.GatherDIdeal Cert.GatherDIdeal.Gen
open Idealize.ShloMosaic.StableHlo (after)
open Exchange (peer cBar mem_of_eq row_mem rows_holds col_mem cols_holds slabs_holds beside_holds whole_parts colOf pieces_eq pieces_some pieces_join Covers atLaunch)
open Exchange.Ports (UU EH u₀)

theorem off1_at : ∀ s : Fin 8, k0_off1 s = ![0, 384 * s.val] := by decide +kernel
theorem off2_at : ∀ s : Fin 8, k0_off2 s = ![s.val, 0, 0] := by decide +kernel

/-! ## Which part, which slot an element is of -/

theorem slot0_mem (t : Fin 8) (i : S1024x3072.Idx) : i ∈ (slot0 (k0_off1 t) (k0_off1_inb t)).view.set ↔ colOf (q := 384) rfl i = t :=
  (mem_of_eq (View.set_slice_whole _ _)).trans (col_mem rfl (off1_at t) i)
theorem slot1_mem (t : Fin 8) (i : S8x128x1024.Idx) : i ∈ (slot1 (k0_off2 t) (k0_off2_inb t)).view.set ↔ (i 0 : Fin 8) = t :=
  (mem_of_eq ((View.set_reshape _ _).trans (View.set_slice_whole _ _))).trans (row_mem (off2_at t) i)

section Contents
variable {Val : EltTy → Type}

/-- The arrays of the call, and what they hold before and after. -/
abbrev src : Fin 2 → DevRef τ sig := fun
  | 0 => Proc.devRef .tc (main_v3 : Ref sig .tc)
  | 1 => Proc.devRef .tc (main_v6 : Ref sig .tc)
abbrev land : Fin 2 → DevRef τ sig := fun
  | 0 => Proc.devRef .tc (main_v7_0 : Ref sig .tc)
  | 1 => Proc.devRef .tc (main_v7_1 : Ref sig .tc)

variable (A : (i : Fin 2) → (d : Fin 8) → Buf Val ((d, src i) : Loc 8 τ sig))

abbrev out : (i : Fin 2) → (d : Fin 8) → Buf Val ((d, land i) : Loc 8 τ sig) := fun
  | 0 => fun d => Exchange.besideOut (r := 3072) rfl (A 0)
  | 1 => fun d => Exchange.slabsOut (A 1)

/-- What the exchange reads. -/
abbrev fs : X.Src Val := fun
  | 0 => fun d _ => A 0 d
  | 1 => fun d _ => A 1 d

local notation "𝕄" => MT 8 τ sig (HIx 1) Val ℕ (UU τ sig) ℕ

/-- The parts are the sources, the slots the landing arrays, and what lands is `out`. -/
theorem covers : Covers X (fs A) src land A (out A) where
  parts := fun
    | 0 => fun d => whole_parts (ℓ := ((d, src 0) : Loc 8 τ sig)) (X.part 0 0).view.set (View.set_whole _) (A 0 d)
    | 1 => fun d => whole_parts (ℓ := ((d, src 1) : Loc 8 τ sig)) (X.part 1 0).view.set (View.set_whole _) (A 1 d)
  slots := fun
    | 0 => fun d => pieces_some (ℓ := ((d, land 0) : Loc 8 τ sig)) (K := fun t => (X.slot 0 t).view.set) _ slot0_mem
    | 1 => fun d => pieces_some (ℓ := ((d, land 1) : Loc 8 τ sig)) (K := fun t => (X.slot 1 t).view.set) _ slot1_mem
  landed := fun
    | 0 => fun d => pieces_join (ℓ := ((d, land 0) : Loc 8 τ sig)) (K := fun t => (X.slot 0 t).view.set) _ slot0_mem (out A 0 d)
        (fun t f => (X.slot 0 t).view.read Val f = (X.part 0 d).view.read Val (A 0 t)) fun t f h x hx => beside_holds (α := Val .bf16) rfl (k0_off1_inb t) (A 0) (off1_at t) f h x ((slot0_mem t x).mp hx)
    | 1 => fun d => pieces_join (ℓ := ((d, land 1) : Loc 8 τ sig)) (K := fun t => (X.slot 1 t).view.set) _ slot1_mem (out A 1 d)
        (fun t f => (X.slot 1 t).view.read Val f = (X.part 1 d).view.read Val (A 1 t)) fun t f h x hx => slabs_holds (α := Val .bf16) squeezes_S1x128x1024_S128x1024 (k0_off2_inb t) (A 1) (off2_at t) f h x ((slot1_mem t x).mp hx)

end Contents

/-! ## The launch -/

variable {F : FTy → Type} [FloatOps F]

local notation "𝕄" => MT 8 τ sig (HIx 1) (Elt F) ℕ (UU τ sig) ℕ

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem sc_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The exchange fits the launch. -/
theorem fits : X.Fits (K (F := F)) where
  hs := show X.bar ≠ sc_start by decide
  ht := show X.bar ≠ sc_taskDone by decide
  hbar := show (SemLoc.reg X.bar : SemLoc sig).isScoped .scScalar = false by decide
  hdma := show ∀ x : Exchange.Ports.DCell 2, (X.sem (Exchange.Ports.dc x)).isScoped .scScalar = true by decide +kernel
  hkind := rfl
  hcall := show (i₀ 0).val < 1 by decide

set_option maxRecDepth 10000 in
theorem scalarObl (f : X.Src (Elt F)) : (K (F := F)).ScalarObl' (D (F := F)) 𝒱 (X.P f fits) v₀ 0 := by
  rintro d ⟨cv, hcv⟩ O W hO hOlev -
  obtain rfl : cv = 0 := by have : (K (F := F)).nCore 0 = 1 := rfl; omega
  change _ ⊢ wp _ _ _ (Pipeline.liftProg (defs₀ (F := F) (.scScalar ((K (F := F)).core 0 ⟨0, hcv⟩)) 0 ())) _
  refine BI.Entails.trans ?_ (Pipeline.wp_liftProg (D (F := F)) (Pipeline.defs_kernel pcfgs defs₀) 𝒱₀ _ Set.univ none _ _)
  have hc : ((K (F := F)).core 0 ⟨0, hcv⟩).val < grid0.bound 0 := hcv
  rw [show (X.P f fits).x 0 (S d ((K (F := F)).core 0 ⟨0, hcv⟩)) = X.kit f d from X.Px_S f fits d,
    show (X.P f fits).ox 0 (S d ((K (F := F)).core 0 ⟨0, hcv⟩)) = X.ox d from X.Pox_S f fits d]
  refine (X.wp_kernel f fits (defs₀ (F := F)) 𝒱₀ d O W hOlev).trans ?_
  refine (Entails.of_eq (wp_deviceId 𝒱₀ (S d X.c₀) none Set.univ).symm).trans ?_
  exact Entails.of_eq (congrArg (fun p => wp frame (wpE (defs₀ (F := F)) 𝒱₀ (S d X.c₀) none) Set.univ p _) body_eq.symm)

/-! ## The program -/

abbrev pre : List (HloOp τ sig (Elt F)) :=
  [ StableHlo.unary main_arg0 main_v1 ((extractStridedSlice S1x1024x384 ![1, 0, 0] · slices_S2x1024x384_S1x1024x384_1_0_0) : (⟨S2x1024x384, .f32⟩ : BufTy).Contents (Elt F) → (⟨S1x1024x384, .f32⟩ : BufTy).Contents (Elt F)),
    StableHlo.reshape main_v1 main_v2 (rfl : (.f32 : EltTy) = .f32) shapeCasts_S1x1024x384_S1024x384,
    StableHlo.unary main_v2 main_v3 ((truncf .bf16 · bitsLt_bf16_f32) : (⟨S1024x384, .f32⟩ : BufTy).Contents (Elt F) → (⟨S1024x384, .bf16⟩ : BufTy).Contents (Elt F)),
    StableHlo.unary main_arg1 main_v4 ((extractStridedSlice S1x128x1024 ![1, 0, 0] · slices_S2x128x1024_S1x128x1024_1_0_0) : (⟨S2x128x1024, .f32⟩ : BufTy).Contents (Elt F) → (⟨S1x128x1024, .f32⟩ : BufTy).Contents (Elt F)),
    StableHlo.reshape main_v4 main_v5 (rfl : (.f32 : EltTy) = .f32) shapeCasts_S1x128x1024_S128x1024,
    StableHlo.unary main_v5 main_v6 ((truncf .bf16 · bitsLt_bf16_f32) : (⟨S128x1024, .f32⟩ : BufTy).Contents (Elt F) → (⟨S128x1024, .bf16⟩ : BufTy).Contents (Elt F)) ]

abbrev post : List (HloOp τ sig (Elt F)) :=
  [  ]

theorem pre_sub : ∀ op ∈ (pre : List (HloOp τ sig (Elt F))), op.bufs ⊆ StableHlo.tcRefs τ sig :=
  List.forall_iff_forall_mem.mp ⟨StableHlo.unary_bufs_sub .., StableHlo.reshape_bufs_sub .., StableHlo.unary_bufs_sub .., StableHlo.unary_bufs_sub .., StableHlo.reshape_bufs_sub .., StableHlo.unary_bufs_sub ..⟩
theorem post_sub : ∀ op ∈ (post : List (HloOp τ sig (Elt F))), op.bufs ⊆ StableHlo.tcRefs τ sig :=
  List.forall_iff_forall_mem.mp trivial

theorem main_eq (d : Dev nD) : main (F := F) d = (StableHlo.seq pre >>= fun _ => (K (F := F)).run d 0 >>= fun _ => StableHlo.seq post >>= fun _ => Pure.pure PUnit.unit) := rfl

variable (m : (ℓ : Loc nD τ sig) → Buf (Elt F) ℓ) (ρ : Dev nD → PrngReg)

/-- What the call finds in its sources. -/
abbrev A : (i : Fin 2) → (d : Fin 8) → Buf (Elt F) ((d, src i) : Loc 8 τ sig) := fun i d => after pre (atLaunch m d) (src i)

/-- **The run**: nothing faults, every execution ends, every array holds what the host operations after the call make of what
    the call leaves, every semaphore is at zero. -/
theorem run_main : θ_run (defs (F := F)) (threads (F := F)) ⟨m, fun _ => 0, ρ⟩ (fun r =>
    (∀ d : Fin 8, ∀ b ∈ Pipeline.ucRefs τ sig, r.2.mem (d, b) = after post (Exchange.left land (out (A m)) pre m d) b) ∧ r.2.sem = fun _ => 0) :=
  Exchange.run_host (K := K (F := F)) (D := D (F := F)) (𝒱 := 𝒱) (fs (A m)) fits v₀ (covers (A m)) (by decide) (by decide) (by decide) (by decide) (by decide) rfl m ρ pre post pre_sub post_sub
    (List.forall_iff_forall_mem.mp ⟨rfl, rfl, rfl, rfl, rfl, rfl⟩) (List.forall_iff_forall_mem.mp trivial) (fun _ _ => rfl) sc_facts (scalarObl _) main main_eq

end Cert.Proof.GatherD

end
-- ==== Proof.GatherDValue.lean ====
/- The gather of the second layer's two projections: its reference, and that a device's results are the reference's. -/
module

public import proofs.«01_k».proof.Proof.GatherDRun
public import proofs.«01_k».proof.Proof.Whole
public import proofs.«01_k».proof.Proof.Gen.GatherDRef

@[expose] public section

noncomputable section

namespace Cert.Proof.GatherD

open Idealize.ShloMosaic Idealize.ShloMosaic.TcCoe Idealize.ShloMosaic.ValueIdx Idealize.ShloMosaic.StableHlo Idealize.SL.Sem

namespace Ref

open Cert.GatherDRef Cert.GatherDRef.Gen

variable {F : FTy → Type} [FloatOps F]

/-- The reference's results. -/
abbrev out0 (x : S2x1024x3072.Idx → Elt F .f32) : S1024x3072.Idx → Elt F .bf16 := truncf .bf16 (shapeCast S1024x3072 (extractStridedSlice S1x1024x3072 ![1, 0, 0] x slices_S2x1024x3072_S1x1024x3072_1_0_0) shapeCasts_S1x1024x3072_S1024x3072) bitsLt_bf16_f32
abbrev out1 (y : S2x1024x1024.Idx → Elt F .f32) : S8x128x1024.Idx → Elt F .bf16 := shapeCast S8x128x1024 (truncf .bf16 (shapeCast S1024x1024 (extractStridedSlice S1x1024x1024 ![1, 0, 0] y slices_S2x1024x1024_S1x1024x1024_1_0_0) shapeCasts_S1x1024x1024_S1024x1024) bitsLt_bf16_f32) shapeCasts_S1024x1024_S8x128x1024

abbrev ops : List (HloOp τ sig (Elt F)) :=
  [ unary main_arg0 main_v0 ((extractStridedSlice S1x1024x3072 ![1, 0, 0] · slices_S2x1024x3072_S1x1024x3072_1_0_0) : (⟨S2x1024x3072, .f32⟩ : BufTy).Contents (Elt F) → (⟨S1x1024x3072, .f32⟩ : BufTy).Contents (Elt F)),
    reshape main_v0 main_v1 (rfl : (.f32 : EltTy) = .f32) shapeCasts_S1x1024x3072_S1024x3072,
    unary main_v1 main_v2 ((truncf .bf16 · bitsLt_bf16_f32) : (⟨S1024x3072, .f32⟩ : BufTy).Contents (Elt F) → (⟨S1024x3072, .bf16⟩ : BufTy).Contents (Elt F)),
    unary main_arg1 main_v3 ((extractStridedSlice S1x1024x1024 ![1, 0, 0] · slices_S2x1024x1024_S1x1024x1024_1_0_0) : (⟨S2x1024x1024, .f32⟩ : BufTy).Contents (Elt F) → (⟨S1x1024x1024, .f32⟩ : BufTy).Contents (Elt F)),
    reshape main_v3 main_v4 (rfl : (.f32 : EltTy) = .f32) shapeCasts_S1x1024x1024_S1024x1024,
    unary main_v4 main_v5 ((truncf .bf16 · bitsLt_bf16_f32) : (⟨S1024x1024, .f32⟩ : BufTy).Contents (Elt F) → (⟨S1024x1024, .bf16⟩ : BufTy).Contents (Elt F)),
    reshape main_v5 main_v6 (rfl : (.bf16 : EltTy) = .bf16) shapeCasts_S1024x1024_S8x128x1024 ]

theorem main_eq (c : Dev nD) : main (F := F) c = seq ops := rfl

theorem results (V : Valuation τ sig (Elt F)) :
    after ops V (main_v2 : DevRef τ sig) = out0 (V (main_arg0 : DevRef τ sig))
      ∧ after ops V (main_v6 : DevRef τ sig) = out1 (V (main_arg1 : DevRef τ sig)) := by
  refine ⟨?_, ?_⟩ <;> (after_results <;> rfl)
theorem arguments (V : Valuation τ sig (Elt F)) :
    after ops V (main_arg0 : DevRef τ sig) = V (main_arg0 : DevRef τ sig)
      ∧ after ops V (main_arg1 : DevRef τ sig) = V (main_arg1 : DevRef τ sig) := by
  refine ⟨?_, ?_⟩ <;> after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., unary_bufs_sub .., reshape_bufs_sub .., unary_bufs_sub .., reshape_bufs_sub ..⟩

instance : IsEmpty (SemLoc sig) := by
  constructor; rintro (s | s)
  · exact absurd s.isLt (Nat.not_lt_zero _)
  · exact absurd s.isLt (Nat.not_lt_zero _)

/-- The reference's run: it ends, every array as its operations leave it, every semaphore at zero. -/
theorem run_main (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = after ops (fun b => m (c, b)) (b : DevRef τ sig)) ∧ r.2.sem = fun _ => 0 :=
  (θ_run defs _ _).mono (fun _ h => ⟨fun c b => h c b, funext fun g => isEmptyElim g.2⟩)
    (run_seq scopedRefs_eq scopedSems_eq defs main (fun _ => ops) main_eq (fun _ => ops_sub) m ρ)

end Ref

open Cert.GatherDIdeal Cert.GatherDIdeal.Gen

variable {F : FTy → Type} [FloatOps F]

theorem sources (V : Valuation τ sig (Elt F)) :
    after pre V (src 0) = truncf .bf16 (shapeCast S1024x384 (extractStridedSlice S1x1024x384 ![1, 0, 0] (V (main_arg0 : DevRef τ sig)) slices_S2x1024x384_S1x1024x384_1_0_0) shapeCasts_S1x1024x384_S1024x384) bitsLt_bf16_f32
      ∧ after pre V (src 1) = truncf .bf16 (shapeCast S128x1024 (extractStridedSlice S1x128x1024 ![1, 0, 0] (V (main_arg1 : DevRef τ sig)) slices_S2x128x1024_S1x128x1024_1_0_0) shapeCasts_S1x128x1024_S128x1024) bitsLt_bf16_f32 := by
  refine ⟨?_, ?_⟩ <;> (after_results <;> rfl)

variable (m : (ℓ : Loc nD τ sig) → Buf (Elt F) ℓ) (ρ : Dev nD → PrngReg)

theorem landed (i : Fin 2) (d : Fin 8) : Exchange.left land (out (A m)) pre m d (land i) = out (A m) i d := Exchange.overlay_land (by decide) _ _ i

/-- **The run**, of the arguments and results: device `d`'s results are what lands, its arguments are as they were. -/
theorem run_values : θ_run (defs (F := F)) (threads (F := F)) ⟨m, fun _ => 0, ρ⟩ (fun r =>
    (∀ d : Dev nD, (r.2.mem ((d.tc : Thread nD τ).loc main_v7_0) = (out (A m) 0 d)
        ∧ r.2.mem ((d.tc : Thread nD τ).loc main_v7_1) = (out (A m) 1 d))
      ∧ r.2.mem ((d.tc : Thread nD τ).loc main_arg0) = m ((d.tc : Thread nD τ).loc main_arg0)
      ∧ r.2.mem ((d.tc : Thread nD τ).loc main_arg1) = m ((d.tc : Thread nD τ).loc main_arg1)) ∧ r.2.sem = fun _ => 0) := by
  refine (θ_run defs _ _).mono (fun r h => ⟨fun d => ⟨⟨?_, ?_⟩, ?_, ?_⟩, h.2⟩) (run_main m ρ)
  · exact (h.1 d _ (Exchange.uc_mem main_v7_0 rfl)).trans (landed m 0 d)
  · exact (h.1 d _ (Exchange.uc_mem main_v7_1 rfl)).trans (landed m 1 d)
  · exact (h.1 d _ (Exchange.uc_mem main_arg0 rfl)).trans (Exchange.kept m _ (by decide) (fun V => by after_results) (fun V => rfl) d)
  · exact (h.1 d _ (Exchange.uc_mem main_arg1 rfl)).trans (Exchange.kept m _ (by decide) (fun V => by after_results) (fun V => rfl) d)

/-- What device `d` ends with is the reference's result. -/
theorem value0 (x : Cert.GatherDRef.S2x1024x3072.Idx → Elt F .f32) (d : Fin 8)
    (h0 : ∀ c : Dev nD, m ((c.tc : Thread nD τ).loc main_arg0) = Layout.block ⟨3, ![2, 1024, 384]⟩ ⟨3, ![2, 1024, 3072]⟩ 2 8 c x) :
    (out (A m) 0 d) = (Ref.out0 x) :=
  Exchange.beside_cols (p := 1024) (q := 384) (r := 3072) (fun e : F .f32 => FloatOps.truncf .bf16 bitsLt_bf16_f32 e) 1 rfl (by decide) _ _ _ _ (A m 0) x (fun s => (sources (Exchange.atLaunch m s)).1.trans (congrArg (fun u => truncf .bf16 (shapeCast S1024x384 (extractStridedSlice S1x1024x384 ![1, 0, 0] u slices_S2x1024x384_S1x1024x384_1_0_0) shapeCasts_S1x1024x384_S1024x384) bitsLt_bf16_f32) (h0 s)))
theorem value1 (y : Cert.GatherDRef.S2x1024x1024.Idx → Elt F .f32) (d : Fin 8)
    (h1 : ∀ c : Dev nD, m ((c.tc : Thread nD τ).loc main_arg1) = Layout.block ⟨3, ![2, 128, 1024]⟩ ⟨3, ![2, 1024, 1024]⟩ 1 8 c y) :
    (out (A m) 1 d) = (Ref.out1 y) :=
  Exchange.slabs_rows (p := 128) (q := 1024) (r := 1024) (fun e : F .f32 => FloatOps.truncf .bf16 bitsLt_bf16_f32 e) 1 rfl (by decide) _ _ _ _ _ (A m 1) y (fun s => (sources (Exchange.atLaunch m s)).2.trans (congrArg (fun u => truncf .bf16 (shapeCast S128x1024 (extractStridedSlice S1x128x1024 ![1, 0, 0] u slices_S2x128x1024_S1x128x1024_1_0_0) shapeCasts_S1x128x1024_S128x1024) bitsLt_bf16_f32) (h1 s)))

/-- What the reference's run says of one device. -/
theorem Ref.run_values (m : (ℓ : Loc Cert.GatherDRef.nD Cert.GatherDRef.τ Cert.GatherDRef.sig) → Buf (Elt F) ℓ) (ρ : Dev Cert.GatherDRef.nD → PrngReg) :
    θ_run (Cert.GatherDRef.defs (F := F)) (onTc (τ := Cert.GatherDRef.τ) (Cert.GatherDRef.main (F := F))) ⟨m, fun _ => 0, ρ⟩ fun r =>
      (∀ c : Dev Cert.GatherDRef.nD, (r.2.mem ((c.tc : Thread _ Cert.GatherDRef.τ).loc Cert.GatherDRef.main_v2) = Ref.out0 (m ((c.tc : Thread _ Cert.GatherDRef.τ).loc Cert.GatherDRef.main_arg0))
          ∧ r.2.mem ((c.tc : Thread _ Cert.GatherDRef.τ).loc Cert.GatherDRef.main_v6) = Ref.out1 (m ((c.tc : Thread _ Cert.GatherDRef.τ).loc Cert.GatherDRef.main_arg1)))
        ∧ r.2.mem ((c.tc : Thread _ Cert.GatherDRef.τ).loc Cert.GatherDRef.main_arg0) = m ((c.tc : Thread _ Cert.GatherDRef.τ).loc Cert.GatherDRef.main_arg0)
        ∧ r.2.mem ((c.tc : Thread _ Cert.GatherDRef.τ).loc Cert.GatherDRef.main_arg1) = m ((c.tc : Thread _ Cert.GatherDRef.τ).loc Cert.GatherDRef.main_arg1)) ∧ r.2.sem = fun _ => 0 := by
  refine (θ_run Cert.GatherDRef.defs _ _).mono (fun r h => ⟨fun c => ?_, h.2⟩) (Ref.run_main m ρ)
  have R := Ref.results (F := F) (fun b => m (c, b))
  have R' := Ref.arguments (F := F) (fun b => m (c, b))
  exact ⟨⟨(h.1 c _).trans R.1, (h.1 c _).trans R.2⟩, (h.1 c _).trans R'.1, (h.1 c _).trans R'.2⟩

end Cert.Proof.GatherD

end
-- ==== Proof.Slabs.lean ====
/- Eight arrays of three dimensions, one after another; and two such gathered side by side. -/
module

public import proofs.«01_k».proof.Proof.Whole
public import Idealize.ShloMosaic.Lib.Pipeline.Value

@[expose] public section

noncomputable section

namespace Exchange

open Idealize.ShloMosaic Idealize.ShloMosaic.ValueIdx

variable {k p q : ℕ} {α : Type} {κ : Kind} {sp : Space} {e : EltTy} {sig : RefSig}

/-- One of eight, at an offset. -/
abbrev row4At (hq : (⟨4, ![1, k, p, q]⟩ : Shape).Squeezes ⟨3, ![k, p, q]⟩) (M : Memref sig κ sp ⟨4, ![8, k, p, q]⟩ e) (o : Fin 4 → ℕ)
    (h : ∀ a, o a + (⟨4, ![1, k, p, q]⟩ : Shape).size a ≤ (⟨4, ![8, k, p, q]⟩ : Shape).size a) : Memref sig κ sp ⟨3, ![k, p, q]⟩ e :=
  (M.slice (Rect.unit (s := ⟨4, ![8, k, p, q]⟩) o (⟨4, ![1, k, p, q]⟩ : Shape).size h) (fun _ => rfl)).squeeze ⟨3, ![k, p, q]⟩ hq

/-- Where an element of it is in the eight. -/
abbrev row4Ix (hq : (⟨4, ![1, k, p, q]⟩ : Shape).Squeezes ⟨3, ![k, p, q]⟩) (o : Fin 4 → ℕ)
    (h : ∀ a, o a + (⟨4, ![1, k, p, q]⟩ : Shape).size a ≤ (⟨4, ![8, k, p, q]⟩ : Shape).size a) (j : (⟨3, ![k, p, q]⟩ : Shape).Idx) : (⟨4, ![8, k, p, q]⟩ : Shape).Idx :=
  (Rect.unit (s := ⟨4, ![8, k, p, q]⟩) o (⟨4, ![1, k, p, q]⟩ : Shape).size h).emb (Shape.reshapeEquiv hq.numel_eq j)

theorem row4Ix_eq {hq : (⟨4, ![1, k, p, q]⟩ : Shape).Squeezes ⟨3, ![k, p, q]⟩} {o : Fin 4 → ℕ} {h : ∀ a, o a + (⟨4, ![1, k, p, q]⟩ : Shape).size a ≤ (⟨4, ![8, k, p, q]⟩ : Shape).size a}
    {s : Fin 8} (ho : o = ![s.val, 0, 0, 0]) (l : Fin k) (a : Fin p) (b : Fin q) : row4Ix hq o h (ix3 l a b) = ix4 s l a b := by
  subst ho
  unfold row4Ix
  rw [reshapeEquiv_ix3_1abc]
  refine funext fun t => Fin.ext ?_
  rw [Rect.emb_apply]
  simp only [Rect.off_unit, Rect.stride_unit]
  match t with
  | 0 => show s.val + 1 * 0 = s.val; omega
  | 1 => show 0 + 1 * l.val = l.val; omega
  | 2 => show 0 + 1 * a.val = a.val; omega
  | 3 => show 0 + 1 * b.val = b.val; omega

theorem row4_mem {o : Fin 4 → ℕ} {h : ∀ a, o a + (⟨4, ![1, k, p, q]⟩ : Shape).size a ≤ (⟨4, ![8, k, p, q]⟩ : Shape).size a} {s : Fin 8} (ho : o = ![s.val, 0, 0, 0])
    (x : (⟨4, ![8, k, p, q]⟩ : Shape).Idx) : x ∈ (Rect.unit (s := ⟨4, ![8, k, p, q]⟩) o (⟨4, ![1, k, p, q]⟩ : Shape).size h).set ↔ (x 0 : Fin 8) = s := by
  subst ho
  refine Rect.mem_set_unit.trans (Iff.trans ?_ (Fin.ext_iff (a := (x 0 : Fin 8)) (b := s)).symm)
  have h1 : (x 1).val < k := (x 1).isLt
  have h2 : (x 2).val < p := (x 2).isLt
  have h3 : (x 3).val < q := (x 3).isLt
  constructor
  · intro h; have : s.val ≤ (x 0).val ∧ (x 0).val < s.val + 1 := h 0
    omega
  · intro h a
    match a with
    | 0 => show s.val ≤ (x 0).val ∧ (x 0).val < s.val + 1; omega
    | 1 => show 0 ≤ (x 1).val ∧ (x 1).val < 0 + k; omega
    | 2 => show 0 ≤ (x 2).val ∧ (x 2).val < 0 + p; omega
    | 3 => show 0 ≤ (x 3).val ∧ (x 3).val < 0 + q; omega

/-- Every device's array, one after another. -/
def slabs4Out (A : Fin 8 → (⟨3, ![k, p, q]⟩ : Shape).Idx → α) : (⟨4, ![8, k, p, q]⟩ : Shape).Idx → α := fun x => A (x 0) (ix3 (x 1) (x 2) (x 3))

/-- One of eight that reads as device `t`'s array holds what is to land there. -/
theorem slabs4_holds (hq : (⟨4, ![1, k, p, q]⟩ : Shape).Squeezes ⟨3, ![k, p, q]⟩) {o : Fin 4 → ℕ} (h : ∀ a, o a + (⟨4, ![1, k, p, q]⟩ : Shape).size a ≤ (⟨4, ![8, k, p, q]⟩ : Shape).size a)
    (A : Fin 8 → (⟨3, ![k, p, q]⟩ : Shape).Idx → α) {t : Fin 8} (ho : o = ![t.val, 0, 0, 0]) (f : (⟨4, ![8, k, p, q]⟩ : Shape).Idx → α)
    (hf : (fun j => f (row4Ix hq o h j)) = A t) (x : (⟨4, ![8, k, p, q]⟩ : Shape).Idx) (hx : (x 0 : Fin 8) = t) : f x = slabs4Out A x := by
  subst hx
  refine Eq.trans ?_ (congrFun hf (ix3 (x 1) (x 2) (x 3)))
  exact congrArg f ((eq_ix4 x).trans (row4Ix_eq ho (x 1) (x 2) (x 3)).symm)

/-- Columns in eight chunks, the chunks first, entry by entry. -/
theorem chunked_apply {r : ℕ} (hr : r = 8 * q) (x : (⟨3, ![2, p, r]⟩ : Shape).Idx → α) (hc : (⟨3, ![2, p, r]⟩ : Shape).ShapeCasts ⟨4, ![2, p, 8, q]⟩)
    (ht : (⟨4, ![2, p, 8, q]⟩ : Shape).Transposes [2, 0, 1, 3] ⟨4, ![8, 2, p, q]⟩) (s : Fin 8) (l : Fin 2) (a : Fin p) (b : Fin q) :
    transpose ⟨4, ![8, 2, p, q]⟩ [2, 0, 1, 3] (shapeCast ⟨4, ![2, p, 8, q]⟩ x hc) ht (ix4 s l a b) = x (ix3 l a ⟨q * s.val + b.val, col_lt hr s b⟩) := by
  refine (transpose_apply _ _ _ (ix4 s l a b) (ix4 l a s b) (fun t => by match t with | 0 => rfl | 1 => rfl | 2 => rfl | 3 => rfl)).trans ?_
  refine shapeCast_apply (s := ⟨3, ![2, p, r]⟩) x hc (ix4 l a s b) (ix3 l a ⟨q * s.val + b.val, col_lt hr s b⟩) ?_
  rw [Shape.rowMajor_val_three, Shape.rowMajor_val_four]
  show (l.val * p + a.val) * r + (q * s.val + b.val) = ((l.val * p + a.val) * 8 + s.val) * q + b.val
  rw [hr, Nat.add_mul _ s.val q, Nat.mul_assoc _ 8 q, Nat.mul_comm s.val q, Nat.add_assoc]

/-- Two arrays side by side are their equals side by side. -/
theorem beside_congr {t s₁ s₂ : Shape} {a : Fin t.rank} {x x' : s₁.Idx → α} {y y' : s₂.Idx → α} (hx : x = x') (hy : y = y') (hj : Shape.Concatenates [s₁, s₂] t a) :
    concatenate t a [⟨s₁, x⟩, ⟨s₂, y⟩] hj = concatenate t a [⟨s₁, x'⟩, ⟨s₂, y'⟩] hj := by
  subst hx hy; rfl

/-- Two arrays' columns gathered side by side: each device's chunk of the one, then of the other. -/
theorem slabs_pair {q' r r' n : ℕ} (hr : r = 8 * q) (hr' : r' = 8 * q') (hn : n = q + q')
    (hT : Layout.Tiles ⟨3, ![2, p, q]⟩ ⟨3, ![2, p, r]⟩ 2 8) (hT' : Layout.Tiles ⟨3, ![2, p, q']⟩ ⟨3, ![2, p, r']⟩ 2 8)
    (hj : Shape.Concatenates [⟨3, ![2, p, q]⟩, ⟨3, ![2, p, q']⟩] ⟨3, ![2, p, n]⟩ 2)
    (hc : (⟨3, ![2, p, r]⟩ : Shape).ShapeCasts ⟨4, ![2, p, 8, q]⟩) (ht : (⟨4, ![2, p, 8, q]⟩ : Shape).Transposes [2, 0, 1, 3] ⟨4, ![8, 2, p, q]⟩)
    (hc' : (⟨3, ![2, p, r']⟩ : Shape).ShapeCasts ⟨4, ![2, p, 8, q']⟩) (ht' : (⟨4, ![2, p, 8, q']⟩ : Shape).Transposes [2, 0, 1, 3] ⟨4, ![8, 2, p, q']⟩)
    (hj' : Shape.Concatenates [⟨4, ![8, 2, p, q]⟩, ⟨4, ![8, 2, p, q']⟩] ⟨4, ![8, 2, p, n]⟩ 3)
    (A : Fin 8 → (⟨3, ![2, p, n]⟩ : Shape).Idx → α) (x : (⟨3, ![2, p, r]⟩ : Shape).Idx → α) (y : (⟨3, ![2, p, r']⟩ : Shape).Idx → α)
    (hA : ∀ s, A s = concatenate ⟨3, ![2, p, n]⟩ 2 [⟨⟨3, ![2, p, q]⟩, Layout.block ⟨3, ![2, p, q]⟩ ⟨3, ![2, p, r]⟩ 2 8 s x hT⟩, ⟨⟨3, ![2, p, q']⟩, Layout.block ⟨3, ![2, p, q']⟩ ⟨3, ![2, p, r']⟩ 2 8 s y hT'⟩] hj) :
    slabs4Out A = concatenate ⟨4, ![8, 2, p, n]⟩ 3 [⟨⟨4, ![8, 2, p, q]⟩, transpose ⟨4, ![8, 2, p, q]⟩ [2, 0, 1, 3] (shapeCast ⟨4, ![2, p, 8, q]⟩ x hc) ht⟩,
      ⟨⟨4, ![8, 2, p, q']⟩, transpose ⟨4, ![8, 2, p, q']⟩ [2, 0, 1, 3] (shapeCast ⟨4, ![2, p, 8, q']⟩ y hc') ht'⟩] hj' := by
  funext i
  obtain ⟨s, l, a, b, rfl⟩ : ∃ (s : Fin 8) (l : Fin 2) (a : Fin p) (b : Fin n), i = ix4 s l a b := ⟨i 0, i 1, i 2, i 3, eq_ix4 i⟩
  show A s (ix3 l a b) = _
  rw [hA]
  by_cases hb : b.val < q
  · refine (concatenate_pair_apply_left (t := ⟨3, ![2, p, n]⟩) (s₁ := ⟨3, ![2, p, q]⟩) (s₂ := ⟨3, ![2, p, q']⟩) (2 : Fin 3) _ _ _ (ix3 l a b) rfl (ix3 l a ⟨b.val, hb⟩) (fun t => by match t with | 0 => rfl | 1 => rfl | 2 => rfl)).trans ?_
    refine Eq.trans ?_ (concatenate_pair_apply_left (t := ⟨4, ![8, 2, p, n]⟩) (s₁ := ⟨4, ![8, 2, p, q]⟩) (s₂ := ⟨4, ![8, 2, p, q']⟩) (3 : Fin 4) _ _ _ (ix4 s l a b) rfl (ix4 s l a ⟨b.val, hb⟩) (fun t => by match t with | 0 => rfl | 1 => rfl | 2 => rfl | 3 => rfl)).symm
    rw [chunked_apply hr, Layout.block_apply, tile_cols hr]
  · have hb' : b.val - q < q' := by have := b.isLt; omega
    refine (concatenate_pair_apply_right (t := ⟨3, ![2, p, n]⟩) (s₁ := ⟨3, ![2, p, q]⟩) (s₂ := ⟨3, ![2, p, q']⟩) (2 : Fin 3) _ _ _ (ix3 l a b) rfl rfl (ix3 l a ⟨b.val - q, hb'⟩) (fun t ht => by
      match t with | 0 => rfl | 1 => rfl | 2 => exact absurd rfl ht) (show b.val - q + q = b.val by omega)).trans ?_
    refine Eq.trans ?_ (concatenate_pair_apply_right (t := ⟨4, ![8, 2, p, n]⟩) (s₁ := ⟨4, ![8, 2, p, q]⟩) (s₂ := ⟨4, ![8, 2, p, q']⟩) (3 : Fin 4) _ _ _ (ix4 s l a b) rfl rfl (ix4 s l a ⟨b.val - q, hb'⟩) (fun t ht => by
      match t with | 0 => rfl | 1 => rfl | 2 => rfl | 3 => exact absurd rfl ht) (show b.val - q + q = b.val by omega)).symm
    rw [chunked_apply hr', Layout.block_apply, tile_cols hr']

end Exchange

end
-- ==== Proof.GatherABody.lean ====
/- The gather of the convolution weights and the first layer's input projection: its parts, slots and semaphores as `Exchange.Ports`, and that
   the printed kernel is `Exchange.Ports.body` of them. -/
module

public import proofs.«01_k».proof.Proof.Launch
public import proofs.«01_k».proof.Proof.Steps
public import proofs.«01_k».proof.Proof.Slabs
public import proofs.«01_k».proof.Proof.Gen.GatherAIdeal.Skeleton

@[expose] public section

set_option synthInstance.maxSize 4096

noncomputable section

namespace Cert.Proof.GatherA

open Idealize.ShloMosaic Idealize.SL.Sem
open Cert.GatherAIdeal Cert.GatherAIdeal.Gen
open Exchange (peer rowAt row4At colAt at_eq op_congr)
open Exchange.Ports (ops_cons ops_nil pairs_flat)

/-- The one grid point. -/
abbrev i₀ : grid0.Coords := (fun | 0 => ⟨0, by decide⟩ | ⟨_ + 1, h⟩ => absurd h (Nat.not_lt.2 (Nat.le_add_left _ _)))

theorem sem_inb (i : Fin 2) (k : Fin 7) : ∀ a, (![i.val, k.val] : Fin 2 → ℕ) a + S1x1.size a ≤ S2x7.size a := by revert i k; decide
theorem loc_inb (i : Fin 2) : ∀ a, (![i.val] : Fin 1 → ℕ) a + S1.size a ≤ S2.size a := by revert i; decide

/-- The receive, send and local semaphores. -/
def recvSem (x : Fin 7 × Fin 2) : DmaSem sig := ((cc0_scratch1.slice (Rect.unit (s := S2x7) ![x.2.val, x.1.val] S1x1.size (sem_inb x.2 x.1))).squeeze S_ squeezes_S1x1_S_).sem
def sendSem (x : Fin 7 × Fin 2) : DmaSem sig := ((cc0_scratch0.slice (Rect.unit (s := S2x7) ![x.2.val, x.1.val] S1x1.size (sem_inb x.2 x.1))).squeeze S_ squeezes_S1x1_S_).sem
def locSem (i : Fin 2) : DmaSem sig := ((cc0_scratch2.slice (Rect.unit (s := S2) ![i.val] S1.size (loc_inb i))).squeeze S_ squeezes_S1_S_).sem

theorem recvSem_val : ∀ x, (recvSem x).val = 14 + 7 * x.2.val + x.1.val := by decide +kernel
theorem sendSem_val : ∀ x, (sendSem x).val = 7 * x.2.val + x.1.val := by decide +kernel
theorem locSem_val : ∀ x, (locSem x).val = 28 + x.val := by decide +kernel

/-! ## The parts and the slots, as slices of the call's arrays -/

abbrev slot0 := row4At squeezes_S1x2x3x768_S2x3x768 (Memref.whole main_v5_0_scs)
abbrev slot1 := colAt (p := 1024) (q := 384) (r := 3072) (Memref.whole main_v5_1_scs)

/-- What the program exchanges, and over what. -/
def X : Exchange.Ports τ sig 2 where
  c₀ := (i₀ 0).castLE hcore0
  bar := (SemArray.scalar (sig.barrier 0 rfl) : Sems sig S_).sem
  recv := recvSem
  send := sendSem
  loc := locSem
  B := fun | 0 => S2x3x768 | 1 => S1024x384
  e := fun | 0 => .f32 | 1 => .bf16
  part := fun
    | 0 => fun s => Memref.whole main_v1_scs
    | 1 => fun s => Memref.whole main_v4_scs
  slot := fun
    | 0 => fun s => slot0 (k0_off1 s) (k0_off1_inb s)
    | 1 => fun s => slot1 (k0_off2 s) (k0_off2_inb s)
  hpart := fun
    | 0 => fun s => (Memref.isWhole_whole main_v1_scs).wordExact
    | 1 => fun s => (Memref.isWhole_whole main_v4_scs).wordExact
  hslot := fun
    | 0 => fun s => (View.wordExact_bits rfl).reshape _ _
    | 1 => fun s => (Memref.isWhole_whole main_v5_1_scs).wordExact_slice rfl _ (k0_off2_wordsbf16 s)
  hsc := fun | 0 | 1 => fun _ => rfl
  N := fun
    | 0 => (Memref.whole main_v1_scs).view.dmaCredit
    | 1 => (Memref.whole main_v4_scs).view.dmaCredit
  hNpart := fun | 0 | 1 => fun _ => rfl
  hNslot := fun | 0 | 1 => fun _ => rfl
  N_pos := fun | 0 | 1 => View.dmaCredit_pos _ (by decide)
  sh := fun _ s => Exchange.eighth s
  recv_inj := fun a b h => by
    have h := congrArg Fin.val h; rw [recvSem_val, recvSem_val] at h
    exact Prod.ext (Fin.ext (by omega)) (Fin.ext (by omega))
  send_inj := fun a b h => by
    have h := congrArg Fin.val h; rw [sendSem_val, sendSem_val] at h
    exact Prod.ext (Fin.ext (by omega)) (Fin.ext (by omega))
  loc_inj := fun a b h => by
    have h := congrArg Fin.val h; rw [locSem_val, locSem_val] at h
    exact Fin.ext (by omega)
  recv_send := fun a b h => by
    have h := congrArg Fin.val h; rw [recvSem_val, sendSem_val] at h; omega
  recv_loc := fun a b h => by
    have h := congrArg Fin.val h; rw [recvSem_val, locSem_val] at h; omega
  send_loc := fun a b h => by
    have h := congrArg Fin.val h; rw [sendSem_val, locSem_val] at h; omega

/-! ## The printed kernel -/

variable {F : FTy → Type} [FloatOps F]

set_option maxHeartbeats 8000000 in
set_option maxRecDepth 10000 in
/-- The printed kernel is the exchange. -/
theorem body_eq : cc0_gather_a (F := F) i₀ (Memref.whole main_v1_scs) (Memref.isWhole_whole _) (Memref.whole main_v4_scs) (Memref.isWhole_whole _) (Memref.whole main_v5_0_scs) (Memref.isWhole_whole _) (Memref.whole main_v5_1_scs) (Memref.isWhole_whole _) cc0_scratch0 cc0_scratch1 cc0_scratch2
    = .op .deviceId fun d => X.body d := by
  unfold cc0_gather_a
  simp only [k0_part1, k0_part2, k0_part3, k0_part4, k0_part5, k0_part6, k0_part7, k0_part8, k0_part9, k0_part10, k0_part11, k0_part12, k0_part13, k0_part14, k0_part15, k0_part16, k0_part17, k0_part18, k0_part19, k0_part20, semSignalWord, semWaitWord, Prog.bind_ret, Prog.bind_op, Prog.bind_lift, Prog.pure_eq_ret]
  refine congrArg (Prog.op _) (funext fun d => ?_)
  rw [Exchange.Ports.body, pairs_flat, show Exchange.order = [1, 3, 5, 2, 4, 6, 0] from rfl, show List.finRange 2 = [0, 1] from rfl]
  simp only [List.flatMap_cons, List.flatMap_nil, List.map_cons, List.map_nil, List.cons_append, List.nil_append, ops_cons, ops_nil]
  iterate 7 refine op_congr (X.signal_eq d _ (by revert d; decide +kernel)) fun _ => ?_
  iterate 3 refine op_congr rfl fun _ => ?_
  iterate 7
    refine op_congr (X.send_eq d _ 0 rfl (by revert d; decide +kernel)) fun _ => ?_
    refine op_congr (X.send_eq d _ 1 rfl (by revert d; decide +kernel)) fun _ => ?_
  iterate 7
    refine op_congr (X.recv_eq d _ 0 (at_eq slot0 (by revert d; decide +kernel))) fun _ => ?_
    refine op_congr (X.recv_eq d _ 1 (at_eq slot1 (by revert d; decide +kernel))) fun _ => ?_
  iterate 7
    refine op_congr (X.sent_eq d _ 0 rfl) fun _ => ?_
    refine op_congr (X.sent_eq d _ 1 rfl) fun _ => ?_
  iterate 2 refine op_congr rfl fun _ => ?_
  rfl

end Cert.Proof.GatherA

end
-- ==== Proof.GatherARun.lean ====
/- The gather of the convolution weights and the first layer's input projection: how the parts and slots lie in its arrays, what every array ends at, and its run. -/
module

public import proofs.«01_k».proof.Proof.GatherABody
public import proofs.«01_k».proof.Proof.HostRun

@[expose] public section

set_option synthInstance.maxSize 4096

noncomputable section

namespace Cert.Proof.GatherA

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.GatherAIdeal Cert.GatherAIdeal.Gen
open Idealize.ShloMosaic.StableHlo (after)
open Exchange (peer cBar mem_of_eq row_mem rows_holds col_mem cols_holds slabs_holds beside_holds whole_parts colOf pieces_eq pieces_some pieces_join Covers atLaunch)
open Exchange.Ports (UU EH u₀)

theorem off1_at : ∀ s : Fin 8, k0_off1 s = ![s.val, 0, 0, 0] := by decide +kernel
theorem off2_at : ∀ s : Fin 8, k0_off2 s = ![0, 384 * s.val] := by decide +kernel

/-! ## Which part, which slot an element is of -/

theorem slot0_mem (t : Fin 8) (i : S8x2x3x768.Idx) : i ∈ (slot0 (k0_off1 t) (k0_off1_inb t)).view.set ↔ (i 0 : Fin 8) = t :=
  (mem_of_eq ((View.set_reshape _ _).trans (View.set_slice_whole _ _))).trans (Exchange.row4_mem (off1_at t) i)
theorem slot1_mem (t : Fin 8) (i : S1024x3072.Idx) : i ∈ (slot1 (k0_off2 t) (k0_off2_inb t)).view.set ↔ colOf (q := 384) rfl i = t :=
  (mem_of_eq (View.set_slice_whole _ _)).trans (col_mem rfl (off2_at t) i)

section Contents
variable {Val : EltTy → Type}

/-- The arrays of the call, and what they hold before and after. -/
abbrev src : Fin 2 → DevRef τ sig := fun
  | 0 => Proc.devRef .tc (main_v1 : Ref sig .tc)
  | 1 => Proc.devRef .tc (main_v4 : Ref sig .tc)
abbrev land : Fin 2 → DevRef τ sig := fun
  | 0 => Proc.devRef .tc (main_v5_0 : Ref sig .tc)
  | 1 => Proc.devRef .tc (main_v5_1 : Ref sig .tc)

variable (A : (i : Fin 2) → (d : Fin 8) → Buf Val ((d, src i) : Loc 8 τ sig))

abbrev out : (i : Fin 2) → (d : Fin 8) → Buf Val ((d, land i) : Loc 8 τ sig) := fun
  | 0 => fun d => Exchange.slabs4Out (A 0)
  | 1 => fun d => Exchange.besideOut (r := 3072) rfl (A 1)

/-- What the exchange reads. -/
abbrev fs : X.Src Val := fun
  | 0 => fun d _ => A 0 d
  | 1 => fun d _ => A 1 d

local notation "𝕄" => MT 8 τ sig (HIx 1) Val ℕ (UU τ sig) ℕ

/-- The parts are the sources, the slots the landing arrays, and what lands is `out`. -/
theorem covers : Covers X (fs A) src land A (out A) where
  parts := fun
    | 0 => fun d => whole_parts (ℓ := ((d, src 0) : Loc 8 τ sig)) (X.part 0 0).view.set (View.set_whole _) (A 0 d)
    | 1 => fun d => whole_parts (ℓ := ((d, src 1) : Loc 8 τ sig)) (X.part 1 0).view.set (View.set_whole _) (A 1 d)
  slots := fun
    | 0 => fun d => pieces_some (ℓ := ((d, land 0) : Loc 8 τ sig)) (K := fun t => (X.slot 0 t).view.set) _ slot0_mem
    | 1 => fun d => pieces_some (ℓ := ((d, land 1) : Loc 8 τ sig)) (K := fun t => (X.slot 1 t).view.set) _ slot1_mem
  landed := fun
    | 0 => fun d => pieces_join (ℓ := ((d, land 0) : Loc 8 τ sig)) (K := fun t => (X.slot 0 t).view.set) _ slot0_mem (out A 0 d)
        (fun t f => (X.slot 0 t).view.read Val f = (X.part 0 d).view.read Val (A 0 t)) fun t f h x hx => Exchange.slabs4_holds (α := Val .f32) squeezes_S1x2x3x768_S2x3x768 (k0_off1_inb t) (A 0) (off1_at t) f h x ((slot0_mem t x).mp hx)
    | 1 => fun d => pieces_join (ℓ := ((d, land 1) : Loc 8 τ sig)) (K := fun t => (X.slot 1 t).view.set) _ slot1_mem (out A 1 d)
        (fun t f => (X.slot 1 t).view.read Val f = (X.part 1 d).view.read Val (A 1 t)) fun t f h x hx => beside_holds (α := Val .bf16) rfl (k0_off2_inb t) (A 1) (off2_at t) f h x ((slot1_mem t x).mp hx)

end Contents

/-! ## The launch -/

variable {F : FTy → Type} [FloatOps F]

local notation "𝕄" => MT 8 τ sig (HIx 1) (Elt F) ℕ (UU τ sig) ℕ

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem sc_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The exchange fits the launch. -/
theorem fits : X.Fits (K (F := F)) where
  hs := show X.bar ≠ sc_start by decide
  ht := show X.bar ≠ sc_taskDone by decide
  hbar := show (SemLoc.reg X.bar : SemLoc sig).isScoped .scScalar = false by decide
  hdma := show ∀ x : Exchange.Ports.DCell 2, (X.sem (Exchange.Ports.dc x)).isScoped .scScalar = true by decide +kernel
  hkind := rfl
  hcall := show (i₀ 0).val < 1 by decide

set_option maxRecDepth 10000 in
theorem scalarObl (f : X.Src (Elt F)) : (K (F := F)).ScalarObl' (D (F := F)) 𝒱 (X.P f fits) v₀ 0 := by
  rintro d ⟨cv, hcv⟩ O W hO hOlev -
  obtain rfl : cv = 0 := by have : (K (F := F)).nCore 0 = 1 := rfl; omega
  change _ ⊢ wp _ _ _ (Pipeline.liftProg (defs₀ (F := F) (.scScalar ((K (F := F)).core 0 ⟨0, hcv⟩)) 0 ())) _
  refine BI.Entails.trans ?_ (Pipeline.wp_liftProg (D (F := F)) (Pipeline.defs_kernel pcfgs defs₀) 𝒱₀ _ Set.univ none _ _)
  have hc : ((K (F := F)).core 0 ⟨0, hcv⟩).val < grid0.bound 0 := hcv
  rw [show (X.P f fits).x 0 (S d ((K (F := F)).core 0 ⟨0, hcv⟩)) = X.kit f d from X.Px_S f fits d,
    show (X.P f fits).ox 0 (S d ((K (F := F)).core 0 ⟨0, hcv⟩)) = X.ox d from X.Pox_S f fits d]
  refine (X.wp_kernel f fits (defs₀ (F := F)) 𝒱₀ d O W hOlev).trans ?_
  refine (Entails.of_eq (wp_deviceId 𝒱₀ (S d X.c₀) none Set.univ).symm).trans ?_
  exact Entails.of_eq (congrArg (fun p => wp frame (wpE (defs₀ (F := F)) 𝒱₀ (S d X.c₀) none) Set.univ p _) body_eq.symm)

/-! ## The program -/

abbrev pre : List (HloOp τ sig (Elt F)) :=
  [ StableHlo.binary main_arg0 main_arg1 main_v1 ((fun a b => concatenate S2x3x768 2 [⟨S2x3x704, a⟩, ⟨S2x3x64, b⟩] concatenates_S2x3x704_S2x3x64_S2x3x768_d2) : (⟨S2x3x704, .f32⟩ : BufTy).Contents (Elt F) → (⟨S2x3x64, .f32⟩ : BufTy).Contents (Elt F) → (⟨S2x3x768, .f32⟩ : BufTy).Contents (Elt F)),
    StableHlo.unary main_arg2 main_v2 ((extractStridedSlice S1x1024x384 ![0, 0, 0] · slices_S2x1024x384_S1x1024x384_0_0_0) : (⟨S2x1024x384, .f32⟩ : BufTy).Contents (Elt F) → (⟨S1x1024x384, .f32⟩ : BufTy).Contents (Elt F)),
    StableHlo.reshape main_v2 main_v3 (rfl : (.f32 : EltTy) = .f32) shapeCasts_S1x1024x384_S1024x384,
    StableHlo.unary main_v3 main_v4 ((truncf .bf16 · bitsLt_bf16_f32) : (⟨S1024x384, .f32⟩ : BufTy).Contents (Elt F) → (⟨S1024x384, .bf16⟩ : BufTy).Contents (Elt F)) ]

abbrev post : List (HloOp τ sig (Elt F)) :=
  [  ]

theorem pre_sub : ∀ op ∈ (pre : List (HloOp τ sig (Elt F))), op.bufs ⊆ StableHlo.tcRefs τ sig :=
  List.forall_iff_forall_mem.mp ⟨StableHlo.binary_bufs_sub .., StableHlo.unary_bufs_sub .., StableHlo.reshape_bufs_sub .., StableHlo.unary_bufs_sub ..⟩
theorem post_sub : ∀ op ∈ (post : List (HloOp τ sig (Elt F))), op.bufs ⊆ StableHlo.tcRefs τ sig :=
  List.forall_iff_forall_mem.mp trivial

theorem main_eq (d : Dev nD) : main (F := F) d = (StableHlo.seq pre >>= fun _ => (K (F := F)).run d 0 >>= fun _ => StableHlo.seq post >>= fun _ => Pure.pure PUnit.unit) := rfl

variable (m : (ℓ : Loc nD τ sig) → Buf (Elt F) ℓ) (ρ : Dev nD → PrngReg)

/-- What the call finds in its sources. -/
abbrev A : (i : Fin 2) → (d : Fin 8) → Buf (Elt F) ((d, src i) : Loc 8 τ sig) := fun i d => after pre (atLaunch m d) (src i)

/-- **The run**: nothing faults, every execution ends, every array holds what the host operations after the call make of what
    the call leaves, every semaphore is at zero. -/
theorem run_main : θ_run (defs (F := F)) (threads (F := F)) ⟨m, fun _ => 0, ρ⟩ (fun r =>
    (∀ d : Fin 8, ∀ b ∈ Pipeline.ucRefs τ sig, r.2.mem (d, b) = after post (Exchange.left land (out (A m)) pre m d) b) ∧ r.2.sem = fun _ => 0) :=
  Exchange.run_host (K := K (F := F)) (D := D (F := F)) (𝒱 := 𝒱) (fs (A m)) fits v₀ (covers (A m)) (by decide) (by decide) (by decide) (by decide) (by decide) rfl m ρ pre post pre_sub post_sub
    (List.forall_iff_forall_mem.mp ⟨rfl, rfl, rfl, rfl⟩) (List.forall_iff_forall_mem.mp trivial) (fun _ _ => rfl) sc_facts (scalarObl _) main main_eq

end Cert.Proof.GatherA

end
-- ==== Proof.GatherAValue.lean ====
/- The gather of the convolution weights and the first layer's input projection: its reference, and that a device's results are the reference's. -/
module

public import proofs.«01_k».proof.Proof.GatherARun
public import proofs.«01_k».proof.Proof.Whole
public import proofs.«01_k».proof.Proof.Gen.GatherARef

@[expose] public section

noncomputable section

namespace Cert.Proof.GatherA

open Idealize.ShloMosaic Idealize.ShloMosaic.TcCoe Idealize.ShloMosaic.ValueIdx Idealize.ShloMosaic.StableHlo Idealize.SL.Sem

namespace Ref

open Cert.GatherARef Cert.GatherARef.Gen

variable {F : FTy → Type} [FloatOps F]

/-- The reference's results. -/
abbrev out0 (x : S2x3x5632.Idx → Elt F .f32) (y : S2x3x512.Idx → Elt F .f32) : S8x2x3x768.Idx → Elt F .f32 := concatenate S8x2x3x768 3 [⟨S8x2x3x704, (transpose S8x2x3x704 [2, 0, 1, 3] (shapeCast S2x3x8x704 x shapeCasts_S2x3x5632_S2x3x8x704) transposes_S2x3x8x704_S8x2x3x704_2_0_1_3)⟩, ⟨S8x2x3x64, (transpose S8x2x3x64 [2, 0, 1, 3] (shapeCast S2x3x8x64 y shapeCasts_S2x3x512_S2x3x8x64) transposes_S2x3x8x64_S8x2x3x64_2_0_1_3)⟩] concatenates_S8x2x3x704_S8x2x3x64_S8x2x3x768_d3
abbrev out1 (z : S2x1024x3072.Idx → Elt F .f32) : S1024x3072.Idx → Elt F .bf16 := truncf .bf16 (shapeCast S1024x3072 (extractStridedSlice S1x1024x3072 ![0, 0, 0] z slices_S2x1024x3072_S1x1024x3072_0_0_0) shapeCasts_S1x1024x3072_S1024x3072) bitsLt_bf16_f32

abbrev ops : List (HloOp τ sig (Elt F)) :=
  [ reshape main_arg0 main_v0 (rfl : (.f32 : EltTy) = .f32) shapeCasts_S2x3x5632_S2x3x8x704,
    unary main_v0 main_v1 ((transpose S8x2x3x704 [2, 0, 1, 3] · transposes_S2x3x8x704_S8x2x3x704_2_0_1_3) : (⟨S2x3x8x704, .f32⟩ : BufTy).Contents (Elt F) → (⟨S8x2x3x704, .f32⟩ : BufTy).Contents (Elt F)),
    reshape main_arg1 main_v2 (rfl : (.f32 : EltTy) = .f32) shapeCasts_S2x3x512_S2x3x8x64,
    unary main_v2 main_v3 ((transpose S8x2x3x64 [2, 0, 1, 3] · transposes_S2x3x8x64_S8x2x3x64_2_0_1_3) : (⟨S2x3x8x64, .f32⟩ : BufTy).Contents (Elt F) → (⟨S8x2x3x64, .f32⟩ : BufTy).Contents (Elt F)),
    binary main_v1 main_v3 main_v4 ((fun a b => concatenate S8x2x3x768 3 [⟨S8x2x3x704, a⟩, ⟨S8x2x3x64, b⟩] concatenates_S8x2x3x704_S8x2x3x64_S8x2x3x768_d3) : (⟨S8x2x3x704, .f32⟩ : BufTy).Contents (Elt F) → (⟨S8x2x3x64, .f32⟩ : BufTy).Contents (Elt F) → (⟨S8x2x3x768, .f32⟩ : BufTy).Contents (Elt F)),
    unary main_arg2 main_v5 ((extractStridedSlice S1x1024x3072 ![0, 0, 0] · slices_S2x1024x3072_S1x1024x3072_0_0_0) : (⟨S2x1024x3072, .f32⟩ : BufTy).Contents (Elt F) → (⟨S1x1024x3072, .f32⟩ : BufTy).Contents (Elt F)),
    reshape main_v5 main_v6 (rfl : (.f32 : EltTy) = .f32) shapeCasts_S1x1024x3072_S1024x3072,
    unary main_v6 main_v7 ((truncf .bf16 · bitsLt_bf16_f32) : (⟨S1024x3072, .f32⟩ : BufTy).Contents (Elt F) → (⟨S1024x3072, .bf16⟩ : BufTy).Contents (Elt F)) ]

theorem main_eq (c : Dev nD) : main (F := F) c = seq ops := rfl

theorem results (V : Valuation τ sig (Elt F)) :
    after ops V (main_v4 : DevRef τ sig) = out0 (V (main_arg0 : DevRef τ sig)) (V (main_arg1 : DevRef τ sig))
      ∧ after ops V (main_v7 : DevRef τ sig) = out1 (V (main_arg2 : DevRef τ sig)) := by
  refine ⟨?_, ?_⟩ <;> (after_results <;> rfl)
theorem arguments (V : Valuation τ sig (Elt F)) :
    after ops V (main_arg0 : DevRef τ sig) = V (main_arg0 : DevRef τ sig)
      ∧ after ops V (main_arg1 : DevRef τ sig) = V (main_arg1 : DevRef τ sig)
      ∧ after ops V (main_arg2 : DevRef τ sig) = V (main_arg2 : DevRef τ sig) := by
  refine ⟨?_, ?_, ?_⟩ <;> after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., reshape_bufs_sub .., unary_bufs_sub .., binary_bufs_sub .., unary_bufs_sub .., reshape_bufs_sub .., unary_bufs_sub ..⟩

instance : IsEmpty (SemLoc sig) := by
  constructor; rintro (s | s)
  · exact absurd s.isLt (Nat.not_lt_zero _)
  · exact absurd s.isLt (Nat.not_lt_zero _)

/-- The reference's run: it ends, every array as its operations leave it, every semaphore at zero. -/
theorem run_main (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = after ops (fun b => m (c, b)) (b : DevRef τ sig)) ∧ r.2.sem = fun _ => 0 :=
  (θ_run defs _ _).mono (fun _ h => ⟨fun c b => h c b, funext fun g => isEmptyElim g.2⟩)
    (run_seq scopedRefs_eq scopedSems_eq defs main (fun _ => ops) main_eq (fun _ => ops_sub) m ρ)

end Ref

open Cert.GatherAIdeal Cert.GatherAIdeal.Gen

variable {F : FTy → Type} [FloatOps F]

theorem sources (V : Valuation τ sig (Elt F)) :
    after pre V (src 0) = concatenate S2x3x768 2 [⟨S2x3x704, (V (main_arg0 : DevRef τ sig))⟩, ⟨S2x3x64, (V (main_arg1 : DevRef τ sig))⟩] concatenates_S2x3x704_S2x3x64_S2x3x768_d2
      ∧ after pre V (src 1) = truncf .bf16 (shapeCast S1024x384 (extractStridedSlice S1x1024x384 ![0, 0, 0] (V (main_arg2 : DevRef τ sig)) slices_S2x1024x384_S1x1024x384_0_0_0) shapeCasts_S1x1024x384_S1024x384) bitsLt_bf16_f32 := by
  refine ⟨?_, ?_⟩ <;> (after_results <;> rfl)

variable (m : (ℓ : Loc nD τ sig) → Buf (Elt F) ℓ) (ρ : Dev nD → PrngReg)

theorem landed (i : Fin 2) (d : Fin 8) : Exchange.left land (out (A m)) pre m d (land i) = out (A m) i d := Exchange.overlay_land (by decide) _ _ i

/-- **The run**, of the arguments and results: device `d`'s results are what lands, its arguments are as they were. -/
theorem run_values : θ_run (defs (F := F)) (threads (F := F)) ⟨m, fun _ => 0, ρ⟩ (fun r =>
    (∀ d : Dev nD, (r.2.mem ((d.tc : Thread nD τ).loc main_v5_0) = (out (A m) 0 d)
        ∧ r.2.mem ((d.tc : Thread nD τ).loc main_v5_1) = (out (A m) 1 d))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)) ∧ r.2.sem = fun _ => 0) := by
  refine (θ_run defs _ _).mono (fun r h => ⟨fun d => ⟨⟨?_, ?_⟩, ?_, ?_, ?_⟩, h.2⟩) (run_main m ρ)
  · exact (h.1 d _ (Exchange.uc_mem main_v5_0 rfl)).trans (landed m 0 d)
  · exact (h.1 d _ (Exchange.uc_mem main_v5_1 rfl)).trans (landed m 1 d)
  · exact (h.1 d _ (Exchange.uc_mem main_arg0 rfl)).trans (Exchange.kept m _ (by decide) (fun V => by after_results) (fun V => rfl) d)
  · exact (h.1 d _ (Exchange.uc_mem main_arg1 rfl)).trans (Exchange.kept m _ (by decide) (fun V => by after_results) (fun V => rfl) d)
  · exact (h.1 d _ (Exchange.uc_mem main_arg2 rfl)).trans (Exchange.kept m _ (by decide) (fun V => by after_results) (fun V => rfl) d)

/-- What device `d` ends with is the reference's result. -/
theorem value0 (x : Cert.GatherARef.S2x3x5632.Idx → Elt F .f32) (y : Cert.GatherARef.S2x3x512.Idx → Elt F .f32) (d : Fin 8)
    (h0 : ∀ c : Dev nD, m ((c.tc : Thread nD τ).loc main_arg0) = Layout.block ⟨3, ![2, 3, 704]⟩ ⟨3, ![2, 3, 5632]⟩ 2 8 c x) (h1 : ∀ c : Dev nD, m ((c.tc : Thread nD τ).loc main_arg1) = Layout.block ⟨3, ![2, 3, 64]⟩ ⟨3, ![2, 3, 512]⟩ 2 8 c y) :
    (out (A m) 0 d) = (Ref.out0 x y) :=
  Exchange.slabs_pair (p := 3) (q := 704) (q' := 64) (r := 5632) (r' := 512) (n := 768) rfl rfl rfl (by decide) (by decide) _ _ _ _ _ _ (A m 0) x y (fun s => (sources (Exchange.atLaunch m s)).1.trans (Exchange.beside_congr (h0 s) (h1 s) _))
theorem value1 (z : Cert.GatherARef.S2x1024x3072.Idx → Elt F .f32) (d : Fin 8)
    (h2 : ∀ c : Dev nD, m ((c.tc : Thread nD τ).loc main_arg2) = Layout.block ⟨3, ![2, 1024, 384]⟩ ⟨3, ![2, 1024, 3072]⟩ 2 8 c z) :
    (out (A m) 1 d) = (Ref.out1 z) :=
  Exchange.beside_cols (p := 1024) (q := 384) (r := 3072) (fun e : F .f32 => FloatOps.truncf .bf16 bitsLt_bf16_f32 e) 0 rfl (by decide) _ _ _ _ (A m 1) z (fun s => (sources (Exchange.atLaunch m s)).2.trans (congrArg (fun u => truncf .bf16 (shapeCast S1024x384 (extractStridedSlice S1x1024x384 ![0, 0, 0] u slices_S2x1024x384_S1x1024x384_0_0_0) shapeCasts_S1x1024x384_S1024x384) bitsLt_bf16_f32) (h2 s)))

/-- What the reference's run says of one device. -/
theorem Ref.run_values (m : (ℓ : Loc Cert.GatherARef.nD Cert.GatherARef.τ Cert.GatherARef.sig) → Buf (Elt F) ℓ) (ρ : Dev Cert.GatherARef.nD → PrngReg) :
    θ_run (Cert.GatherARef.defs (F := F)) (onTc (τ := Cert.GatherARef.τ) (Cert.GatherARef.main (F := F))) ⟨m, fun _ => 0, ρ⟩ fun r =>
      (∀ c : Dev Cert.GatherARef.nD, (r.2.mem ((c.tc : Thread _ Cert.GatherARef.τ).loc Cert.GatherARef.main_v4) = Ref.out0 (m ((c.tc : Thread _ Cert.GatherARef.τ).loc Cert.GatherARef.main_arg0)) (m ((c.tc : Thread _ Cert.GatherARef.τ).loc Cert.GatherARef.main_arg1))
          ∧ r.2.mem ((c.tc : Thread _ Cert.GatherARef.τ).loc Cert.GatherARef.main_v7) = Ref.out1 (m ((c.tc : Thread _ Cert.GatherARef.τ).loc Cert.GatherARef.main_arg2)))
        ∧ r.2.mem ((c.tc : Thread _ Cert.GatherARef.τ).loc Cert.GatherARef.main_arg0) = m ((c.tc : Thread _ Cert.GatherARef.τ).loc Cert.GatherARef.main_arg0)
        ∧ r.2.mem ((c.tc : Thread _ Cert.GatherARef.τ).loc Cert.GatherARef.main_arg1) = m ((c.tc : Thread _ Cert.GatherARef.τ).loc Cert.GatherARef.main_arg1)
        ∧ r.2.mem ((c.tc : Thread _ Cert.GatherARef.τ).loc Cert.GatherARef.main_arg2) = m ((c.tc : Thread _ Cert.GatherARef.τ).loc Cert.GatherARef.main_arg2)) ∧ r.2.sem = fun _ => 0 := by
  refine (θ_run Cert.GatherARef.defs _ _).mono (fun r h => ⟨fun c => ?_, h.2⟩) (Ref.run_main m ρ)
  have R := Ref.results (F := F) (fun b => m (c, b))
  have R' := Ref.arguments (F := F) (fun b => m (c, b))
  exact ⟨⟨(h.1 c _).trans R.1, (h.1 c _).trans R.2⟩, (h.1 c _).trans R'.1, (h.1 c _).trans R'.2.1, (h.1 c _).trans R'.2.2⟩

end Cert.Proof.GatherA

end
-- ==== Proof.Adam.lean ====
/- AdamW's step: what the eight partial gradients add up to and what one element's moments and step are, as a block computes them
   and as the whole arrays hold them. -/
module

public import proofs.«01_k».proof.Proof.Blocks
public import Idealize.ShloMosaic.Lib.Pipeline.Value
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise
public import Idealize.ShloMosaic.PureOps.Ideal.Laws

@[expose] public section

noncomputable section

namespace Adam

open Idealize.ShloMosaic

section Steps

variable {F : FTy → Type} [FloatOps F] {φ : FTy} {p q P : ℕ}

/-! ## One element -/

/-- The first moment after the step. -/
def first (g m : F .f32) : F .f32 :=
  FloatOps.addf (FloatOps.mulf (FloatOps.ofBits .f32 0x3F666666#32) m) (FloatOps.mulf (FloatOps.ofBits .f32 0x3DCCCCCD#32) g)

/-- The second moment after the step. -/
def second (g v : F .f32) : F .f32 :=
  FloatOps.addf (FloatOps.mulf (FloatOps.ofBits .f32 0x3F7FBE77#32) v) (FloatOps.mulf (FloatOps.ofBits .f32 0x3A83126F#32) (FloatOps.mulf g g))

/-- What the step adds to a weight. -/
def step (g w m v : F .f32) : F .f32 :=
  FloatOps.mulf (FloatOps.ofBits .f32 0xBA83126F#32)
    (FloatOps.addf
      (FloatOps.divf (FloatOps.divf (first g m) (FloatOps.ofBits .f32 0x3F26BD02#32))
        (FloatOps.addf (FloatOps.sqrt (FloatOps.divf (second g v) (FloatOps.ofBits .f32 0x3C231ACC#32))) (FloatOps.ofBits .f32 0x322BCC77#32)))
      (FloatOps.mulf (FloatOps.ofBits .f32 0x3C23D70A#32) w))

/-- Eight values added one after the other. -/
def chain (x : Fin 8 → F .f32) : F .f32 :=
  FloatOps.addf (FloatOps.addf (FloatOps.addf (FloatOps.addf (FloatOps.addf (FloatOps.addf (FloatOps.addf (x 0) (x 1)) (x 2)) (x 3)) (x 4)) (x 5)) (x 6)) (x 7)

/-- The gradient at one place: the eight partial ones there, widened by `e`, added. -/
def total (e : F φ → F .f32) (L : FVec F ⟨3, ![8, p, q]⟩ φ) (a : Fin p) (b : Fin q) : F .f32 := chain fun k => e (L (ix3 k a b))

theorem total_congr (e : F φ → F .f32) (L : FVec F ⟨3, ![8, p, q]⟩ φ) (L' : FVec F ⟨3, ![8, P, q]⟩ φ) (a : Fin p) (b : Fin q) (a' : Fin P) (b' : Fin q)
    (h : ∀ k, L (ix3 k a b) = L' (ix3 k a' b')) : total e L a b = total e L' a' b' :=
  congrArg chain (funext fun k => congrArg e (h k))

/-! ## A block -/

/-- The first coordinate of an index of one slab is zero. -/
theorem slab_ix (y : (⟨3, ![1, p, q]⟩ : Shape).Idx) : Fin.cons (⟨0, Nat.one_pos⟩ : Fin 1) (fun a => y a.succ) = y := by
  funext a
  match a with
  | 0 => exact Subsingleton.elim (α := Fin 1) _ _
  | 1 => rfl
  | 2 => rfl

theorem cast_cast (x : (⟨3, ![1, p, q]⟩ : Shape).Idx → F .f32) (h : (⟨3, ![1, p, q]⟩ : Shape).ShapeCasts ⟨2, ![p, q]⟩) (y : (⟨3, ![1, p, q]⟩ : Shape).Idx) :
    shapeCast ⟨2, ![p, q]⟩ x h (fun a => y a.succ) = x y :=
  (shapeCast_dropUnit_apply ![p, q] x h _).trans (congrArg x (slab_ix y))

variable (h₁ : (⟨3, ![1, p, q]⟩ : Shape).ShapeCasts ⟨2, ![p, q]⟩) (h₂ : (⟨2, ![p, q]⟩ : Shape).ShapeCasts ⟨3, ![1, p, q]⟩)

/-- The first moment of a block as the kernel computes it. -/
def firstBlock (g m : FVec F ⟨3, ![1, p, q]⟩ .f32) : FVec F ⟨2, ![p, q]⟩ .f32 :=
  addf (mulf (broadcast ⟨2, ![p, q]⟩ (Scalar.ofBits .f32 0x3F666666#32)) (shapeCast ⟨2, ![p, q]⟩ m h₁))
    (mulf (broadcast ⟨2, ![p, q]⟩ (Scalar.ofBits .f32 0x3DCCCCCD#32)) (shapeCast ⟨2, ![p, q]⟩ g h₁))

/-- The second moment of a block as the kernel computes it. -/
def secondBlock (g v : FVec F ⟨3, ![1, p, q]⟩ .f32) : FVec F ⟨2, ![p, q]⟩ .f32 :=
  addf (mulf (broadcast ⟨2, ![p, q]⟩ (Scalar.ofBits .f32 0x3F7FBE77#32)) (shapeCast ⟨2, ![p, q]⟩ v h₁))
    (mulf (broadcast ⟨2, ![p, q]⟩ (Scalar.ofBits .f32 0x3A83126F#32)) (mulf (shapeCast ⟨2, ![p, q]⟩ g h₁) (shapeCast ⟨2, ![p, q]⟩ g h₁)))

/-- The step of a block as the kernel computes it. -/
def stepBlock (g w m v : FVec F ⟨3, ![1, p, q]⟩ .f32) : FVec F ⟨2, ![p, q]⟩ .f32 :=
  mulf (broadcast ⟨2, ![p, q]⟩ (Scalar.ofBits .f32 0xBA83126F#32))
    (addf
      (divf (divf (firstBlock h₁ g m) (broadcast ⟨2, ![p, q]⟩ (Scalar.ofBits .f32 0x3F26BD02#32)))
        (addf (sqrt (divf (secondBlock h₁ g v) (broadcast ⟨2, ![p, q]⟩ (Scalar.ofBits .f32 0x3C231ACC#32)))) (broadcast ⟨2, ![p, q]⟩ (Scalar.ofBits .f32 0x322BCC77#32))))
      (mulf (broadcast ⟨2, ![p, q]⟩ (Scalar.ofBits .f32 0x3C23D70A#32)) (shapeCast ⟨2, ![p, q]⟩ w h₁)))

/-- The gradient of a block as the kernel computes it: eight slabs, widened by `e`, added one after the other. -/
def sumBlock (e : F φ → F .f32) (x : Fin 8 → FVec F ⟨3, ![1, p, q]⟩ φ) : FVec F ⟨2, ![p, q]⟩ .f32 :=
  let u : Fin 8 → FVec F ⟨2, ![p, q]⟩ .f32 := fun k i => e (shapeCast ⟨2, ![p, q]⟩ (x k) h₁ i)
  addf (addf (addf (addf (addf (addf (addf (u 0) (u 1)) (u 2)) (u 3)) (u 4)) (u 5)) (u 6)) (u 7)

theorem firstBlock_apply (g m : FVec F ⟨3, ![1, p, q]⟩ .f32) (y : (⟨3, ![1, p, q]⟩ : Shape).Idx) :
    shapeCast ⟨3, ![1, p, q]⟩ (firstBlock h₁ g m) h₂ y = first (g y) (m y) := by
  refine (shapeCast_addUnit_apply ![p, q] _ h₂ y).trans ?_
  rw [← cast_cast g h₁ y, ← cast_cast m h₁ y]; rfl

theorem secondBlock_apply (g v : FVec F ⟨3, ![1, p, q]⟩ .f32) (y : (⟨3, ![1, p, q]⟩ : Shape).Idx) :
    shapeCast ⟨3, ![1, p, q]⟩ (secondBlock h₁ g v) h₂ y = second (g y) (v y) := by
  refine (shapeCast_addUnit_apply ![p, q] _ h₂ y).trans ?_
  rw [← cast_cast g h₁ y, ← cast_cast v h₁ y]; rfl

theorem stepBlock_apply (g w m v : FVec F ⟨3, ![1, p, q]⟩ .f32) (y : (⟨3, ![1, p, q]⟩ : Shape).Idx) :
    shapeCast ⟨3, ![1, p, q]⟩ (stepBlock h₁ g w m v) h₂ y = step (g y) (w y) (m y) (v y) := by
  refine (shapeCast_addUnit_apply ![p, q] _ h₂ y).trans ?_
  rw [← cast_cast g h₁ y, ← cast_cast w h₁ y, ← cast_cast m h₁ y, ← cast_cast v h₁ y]; rfl

/-- The eight slabs being those of one array, the block of gradients at a place is the total there. -/
theorem sumBlock_apply (e : F φ → F .f32) (L : FVec F ⟨3, ![8, p, q]⟩ φ) {x0 x1 x2 x3 x4 x5 x6 x7 : FVec F ⟨3, ![1, p, q]⟩ φ}
    (h0 : ∀ y, x0 y = L (ix3 0 (y 1) (y 2))) (h1 : ∀ y, x1 y = L (ix3 1 (y 1) (y 2))) (h2 : ∀ y, x2 y = L (ix3 2 (y 1) (y 2)))
    (h3 : ∀ y, x3 y = L (ix3 3 (y 1) (y 2))) (h4 : ∀ y, x4 y = L (ix3 4 (y 1) (y 2))) (h5 : ∀ y, x5 y = L (ix3 5 (y 1) (y 2)))
    (h6 : ∀ y, x6 y = L (ix3 6 (y 1) (y 2))) (h7 : ∀ y, x7 y = L (ix3 7 (y 1) (y 2))) (y : (⟨3, ![1, p, q]⟩ : Shape).Idx) :
    shapeCast ⟨3, ![1, p, q]⟩ (sumBlock h₁ e ![x0, x1, x2, x3, x4, x5, x6, x7]) h₂ y = total e L (y 1) (y 2) := by
  refine (shapeCast_addUnit_apply ![p, q] _ h₂ y).trans ?_
  have hx : ∀ (k : Fin 8) z, (![x0, x1, x2, x3, x4, x5, x6, x7] : Fin 8 → FVec F ⟨3, ![1, p, q]⟩ φ) k z = L (ix3 k (z 1) (z 2)) := fun k =>
    match k with | 0 => h0 | 1 => h1 | 2 => h2 | 3 => h3 | 4 => h4 | 5 => h5 | 6 => h6 | 7 => h7
  have hk : ∀ k : Fin 8, shapeCast ⟨2, ![p, q]⟩ ((![x0, x1, x2, x3, x4, x5, x6, x7] : Fin 8 → FVec F ⟨3, ![1, p, q]⟩ φ) k) h₁ (fun a => y a.succ)
      = L (ix3 k (y 1) (y 2)) := fun k =>
    ((shapeCast_dropUnit_apply ![p, q] _ h₁ _).trans (congrArg _ (slab_ix y))).trans (hx k y)
  show chain (fun k : Fin 8 => e (shapeCast ⟨2, ![p, q]⟩ ((![x0, x1, x2, x3, x4, x5, x6, x7] : Fin 8 → FVec F ⟨3, ![1, p, q]⟩ φ) k) h₁ (fun a => y a.succ))) = _
  exact congrArg chain (funext fun k => congrArg e (hk k))

/-- Slab `k` of eight, loaded. -/
theorem slab_load {Val : EltTy → Type} {e : EltTy} (L : (⟨3, ![8, p, q]⟩ : Shape).Idx → Val e) (k : Fin 8) (off : Fin 3 → ℕ) (ho : off = ![k.val, 0, 0]) (inb) (y : (⟨3, ![1, p, q]⟩ : Shape).Idx) :
    View.ld L (Rect.unit (s := ⟨3, ![8, p, q]⟩) off ![1, p, q] inb) y = L (ix3 k (y 1) (y 2)) := by
  subst ho
  refine congrArg L (funext fun a => Fin.ext ?_)
  have h0 : (y 0).val = 0 := Nat.lt_one_iff.mp (y 0).isLt
  match a with
  | 0 => show k.val + 1 * (y 0).val = k.val; omega
  | 1 => show 0 + 1 * (y 1).val = (y 1).val; omega
  | 2 => show 0 + 1 * (y 2).val = (y 2).val; omega

/-! ## Whole arrays -/

/-- One layer's gradients. -/
def grads1 (e : F φ → F .f32) (L : FVec F ⟨3, ![8, P, q]⟩ φ) : FVec F ⟨3, ![1, P, q]⟩ .f32 := fun i => total e L (i 1) (i 2)

/-- Two layers' gradients. -/
def grads2 (e : F φ → F .f32) (L L' : FVec F ⟨3, ![8, P, q]⟩ φ) : FVec F ⟨3, ![2, P, q]⟩ .f32 := fun i =>
  if (i 0).val < 1 then total e L (i 1) (i 2) else total e L' (i 1) (i 2)

variable {s : Shape}

def firsts (g m : FVec F s .f32) : FVec F s .f32 := fun i => first (g i) (m i)
def seconds (g v : FVec F s .f32) : FVec F s .f32 := fun i => second (g i) (v i)
def steps (g w m v : FVec F s .f32) : FVec F s .f32 := fun i => step (g i) (w i) (m i) (v i)

end Steps

/-! ## The host's text, over the extended reals -/

section Reference

variable {φ : FTy} {P q : ℕ} {s : Shape}

theorem chain_eq_sum (x : Fin 8 → Ideal .f32) : chain x = ∑ k, (x k : EReal) := by
  show (x 0 + x 1 + x 2 + x 3 + x 4 + x 5 + x 6 + x 7 : EReal) = _
  rw [Fin.sum_univ_eight]

variable (e : Ideal φ → Ideal .f32) (h : (⟨3, ![8, P, q]⟩ : Shape).ReducesTo [0] ⟨2, ![P, q]⟩) (h0 : 0 < (⟨0, ![]⟩ : Shape).numel)
  (hb : (⟨2, ![P, q]⟩ : Shape).BroadcastsInDim ⟨3, ![1, P, q]⟩ ![1, 2])

/-- The host's sum over the first of three dimensions is the total. -/
theorem reduce_apply (L : FVec Ideal ⟨3, ![8, P, q]⟩ φ) (a : Fin P) (b : Fin q) :
    Host.reduceAdd (F := Ideal) (fun i => e (L i)) (constant ⟨0, ![]⟩ .f32 0x00000000#32) h h0 (ix2 a b) = total e L a b := by
  refine (Ideal.hostReduceAdd_r3_a0 h (fun i => e (L i)) (Ideal.ofBits .f32 0x00000000#32) (ix2 a b)).trans ?_
  rw [Ideal.ofBits_zero_f32, zero_add]
  exact (chain_eq_sum _).symm

/-- One layer's gradients, as the host stacks them. -/
theorem stacked_apply (L : FVec Ideal ⟨3, ![8, P, q]⟩ φ) (i : (⟨3, ![1, P, q]⟩ : Shape).Idx) :
    broadcastInDim ⟨3, ![1, P, q]⟩ ![1, 2] hb (Host.reduceAdd (F := Ideal) (fun i => e (L i)) (constant ⟨0, ![]⟩ .f32 0x00000000#32) h h0) i
      = total e L (i 1) (i 2) :=
  (broadcastInDim_apply _ _ _ i (ix2 (n0 := P) (n1 := q) (i 1) (i 2)) (fun t => by
    match t with | 0 => exact Exchange.val_one (i 1) | 1 => exact Exchange.val_one (i 2))).trans (reduce_apply e h h0 L _ _)

/-- Two layers' gradients, as the host stacks them. -/
theorem grads2_eq (L L' : FVec Ideal ⟨3, ![8, P, q]⟩ φ)
    (hc : Shape.Concatenates [(⟨3, ![1, P, q]⟩ : Shape), ⟨3, ![1, P, q]⟩] ⟨3, ![2, P, q]⟩ 0) :
    concatenate ⟨3, ![2, P, q]⟩ 0
      [⟨⟨3, ![1, P, q]⟩, broadcastInDim ⟨3, ![1, P, q]⟩ ![1, 2] hb (Host.reduceAdd (F := Ideal) (fun i => e (L i)) (constant ⟨0, ![]⟩ .f32 0x00000000#32) h h0)⟩,
       ⟨⟨3, ![1, P, q]⟩, broadcastInDim ⟨3, ![1, P, q]⟩ ![1, 2] hb (Host.reduceAdd (F := Ideal) (fun i => e (L' i)) (constant ⟨0, ![]⟩ .f32 0x00000000#32) h h0)⟩] hc
      = grads2 e L L' := by
  funext i
  have h2 : (i 0).val < 2 := (i 0).isLt
  by_cases h1 : (i 0).val < 1
  · refine (concatenate_pair_apply_left (t := ⟨3, ![2, P, q]⟩) (s₁ := ⟨3, ![1, P, q]⟩) (s₂ := ⟨3, ![1, P, q]⟩) (0 : Fin 3) _ _ _ i rfl
      (ix3 (n0 := 1) (n1 := P) (n2 := q) ⟨(i 0).val, h1⟩ (i 1) (i 2)) (fun t => by match t with | 0 => rfl | 1 => rfl | 2 => rfl)).trans ?_
    exact (stacked_apply e h h0 hb L _).trans (if_pos h1).symm
  · refine (concatenate_pair_apply_right (t := ⟨3, ![2, P, q]⟩) (s₁ := ⟨3, ![1, P, q]⟩) (s₂ := ⟨3, ![1, P, q]⟩) (0 : Fin 3) _ _ _ i rfl rfl
      (ix3 (n0 := 1) (n1 := P) (n2 := q) 0 (i 1) (i 2)) (fun t ht => by match t, ht with | 0, ht => exact absurd rfl ht | 1, _ => rfl | 2, _ => rfl)
      (show 0 + 1 = (i 0).val by omega)).trans ?_
    exact (stacked_apply e h h0 hb L' _).trans (if_neg h1).symm

/-- One layer's gradients, as the host has them. -/
theorem grads1_eq (L : FVec Ideal ⟨3, ![8, P, q]⟩ φ) :
    broadcastInDim ⟨3, ![1, P, q]⟩ ![1, 2] hb (Host.reduceAdd (F := Ideal) (fun i => e (L i)) (constant ⟨0, ![]⟩ .f32 0x00000000#32) h h0)
      = grads1 e L := funext (stacked_apply e h h0 hb L)

variable (hs : (⟨0, ![]⟩ : Shape).BroadcastsInDim s ![])

theorem firsts_eq (g m : FVec Ideal s .f32) :
    addf (mulf (broadcastInDim s ![] hs (constant ⟨0, ![]⟩ .f32 0x3F666666#32)) m) (mulf (broadcastInDim s ![] hs (constant ⟨0, ![]⟩ .f32 0x3DCCCCCD#32)) g)
      = firsts g m := rfl

theorem seconds_eq (g v : FVec Ideal s .f32) :
    addf (mulf (broadcastInDim s ![] hs (constant ⟨0, ![]⟩ .f32 0x3F7FBE77#32)) v) (mulf (broadcastInDim s ![] hs (constant ⟨0, ![]⟩ .f32 0x3A83126F#32)) (mulf g g))
      = seconds g v := rfl

theorem steps_eq (g w m v : FVec Ideal s .f32) :
    mulf (broadcastInDim s ![] hs (constant ⟨0, ![]⟩ .f32 0xBA83126F#32))
      (addf
        (Host.divf (Host.divf (firsts g m) (broadcastInDim s ![] hs (constant ⟨0, ![]⟩ .f32 0x3F26BD02#32)))
          (addf (Host.sqrt (Host.divf (seconds g v) (broadcastInDim s ![] hs (constant ⟨0, ![]⟩ .f32 0x3C231ACC#32)))) (broadcastInDim s ![] hs (constant ⟨0, ![]⟩ .f32 0x322BCC77#32))))
        (mulf (broadcastInDim s ![] hs (constant ⟨0, ![]⟩ .f32 0x3C23D70A#32)) w))
      = steps g w m v := rfl

end Reference

end Adam

end
-- ==== Proof.AdamInValue.lean ====
/- The AdamW step of the input projections: the kernel's four results as functions of its arguments, and the reference's. -/
module

public import proofs.«01_k».proof.Proof.Adam
public import proofs.«01_k».proof.Proof.Gen.AdamInIdeal.Value
public import proofs.«01_k».proof.Proof.Gen.AdamInRefIdeal.Run

@[expose] public section

noncomputable section

namespace AdamIn

open Idealize.ShloMosaic Idealize.ShloMosaic.TcCoe Idealize.SL.Sem

section Kernel

open Cert.AdamInIdeal Cert.AdamInIdeal.Gen Cert.AdamInIdeal.Value

variable {F : FTy → Type} [FloatOps F]
variable (m : (ℓ : Loc nD τ sig) → Buf (Elt F) ℓ) (c : Dev nD)

/-- How a partial gradient is widened. -/
def wide : F .bf16 → F .f32 := FloatOps.extf .f32 bitsLt_bf16_f32

/-! ## What a block computes -/

theorem pay_sum (L : FVec F S8x256x384 .bf16) {x0 x1 x2 x3 x4 x5 x6 x7 : FVec F S1x256x384 .bf16}
    (h0 : ∀ y, x0 y = L (ix3 0 (y 1) (y 2))) (h1 : ∀ y, x1 y = L (ix3 1 (y 1) (y 2))) (h2 : ∀ y, x2 y = L (ix3 2 (y 1) (y 2)))
    (h3 : ∀ y, x3 y = L (ix3 3 (y 1) (y 2))) (h4 : ∀ y, x4 y = L (ix3 4 (y 1) (y 2))) (h5 : ∀ y, x5 y = L (ix3 5 (y 1) (y 2)))
    (h6 : ∀ y, x6 y = L (ix3 6 (y 1) (y 2))) (h7 : ∀ y, x7 y = L (ix3 7 (y 1) (y 2))) (y : S1x256x384.Idx) :
    k0_pay4 (k0_pay2 x0 x1 x2 x3 x4 x5 x6 x7) y = Adam.total wide L (y 1) (y 2) :=
  Adam.sumBlock_apply shapeCasts_S1x256x384_S256x384 shapeCasts_S256x384_S1x256x384 wide L h0 h1 h2 h3 h4 h5 h6 h7 y

theorem pay_first (g x : FVec F S1x256x384 .f32) (y : S1x256x384.Idx) : k0_pay9 g x y = Adam.first (g y) (x y) :=
  Adam.firstBlock_apply shapeCasts_S1x256x384_S256x384 shapeCasts_S256x384_S1x256x384 g x y

theorem pay_second (g x : FVec F S1x256x384 .f32) (y : S1x256x384.Idx) : k0_pay10 g x y = Adam.second (g y) (x y) :=
  Adam.secondBlock_apply shapeCasts_S1x256x384_S256x384 shapeCasts_S256x384_S1x256x384 g x y

theorem pay_step (g w x v : FVec F S1x256x384 .f32) (y : S1x256x384.Idx) :
    k0_pay1 (k0_pay7 g x) (k0_pay8 g v) k0_pay11 w y = Adam.step (g y) (w y) (x y) (v y) :=
  Adam.stepBlock_apply shapeCasts_S1x256x384_S256x384 shapeCasts_S256x384_S1x256x384 g w x v y

/-! ## Where a block is -/

theorem at0 : ∀ t : Fin cfg0.N, t.val < 4 → win0_0.index t = win0_5.index t :=
  (by decide +kernel : ∀ t : Fin grid0.N, t.val < 4 → win0_0.index t = win0_5.index t)
theorem at1 : ∀ t : Fin cfg0.N, 4 ≤ t.val → win0_1.index t = ![0, win0_5.index t 1, win0_5.index t 2] :=
  (by decide +kernel : ∀ t : Fin grid0.N, 4 ≤ t.val → win0_1.index t = ![0, win0_5.index t 1, win0_5.index t 2])
theorem layer : ∀ t : Fin cfg0.N, (win0_5.index t 0 = if t.val < 4 then 0 else 1) ∧ win0_5.index t 2 = 0 :=
  (by decide +kernel : ∀ t : Fin grid0.N, (win0_5.index t 0 = if t.val < 4 then 0 else 1) ∧ win0_5.index t 2 = 0)

/-- The gradients. -/
def grads (m : (ℓ : Loc nD τ sig) → Buf (Elt F) ℓ) (c : Dev nD) : FVec F S2x1024x384 .f32 :=
  Adam.grads2 wide (m ((c : Thread nD τ).loc main_arg0)) (m ((c : Thread nD τ).loc main_arg1))

/-- The place in the whole arrays of a place in block `t`. -/
abbrev place (t : Fin cfg0.N) (y : S1x256x384.Idx) : S2x1024x384.Idx := ((cfg0.win 5).blk t).view.emb y

theorem place_val (t : Fin cfg0.N) (y : S1x256x384.Idx) :
    (place t y 0).val = (if t.val < 4 then 0 else 1) ∧ (place t y 1).val = win0_5.index t 1 * 256 + (y 1).val ∧ (place t y 2).val = (y 2).val := by
  have hl := layer t
  have h0 : (y 0).val = 0 := Nat.lt_one_iff.mp (y 0).isLt
  refine ⟨?_, ?_, ?_⟩
  · show ((((cfg0.win 5).blk t).view.emb y 0 : Fin _) : ℕ) = _
    blk_simp [hl.1]
  · show ((((cfg0.win 5).blk t).view.emb y 1 : Fin _) : ℕ) = _
    blk_simp
  · show ((((cfg0.win 5).blk t).view.emb y 2 : Fin _) : ℕ) = _
    blk_simp [hl.2]

theorem same2 (t : Fin cfg0.N) (y : S1x256x384.Idx) : iblk m c 2 t y = m ((c : Thread nD τ).loc main_arg2) (place t y) := by
  rw [← V_main_arg2 m c]; rfl
theorem same3 (t : Fin cfg0.N) (y : S1x256x384.Idx) : iblk m c 3 t y = m ((c : Thread nD τ).loc main_arg3) (place t y) := by
  rw [← V_main_arg3 m c]; rfl
theorem same4 (t : Fin cfg0.N) (y : S1x256x384.Idx) : iblk m c 4 t y = m ((c : Thread nD τ).loc main_arg4) (place t y) := by
  rw [← V_main_arg4 m c]; rfl

theorem land0 (t : Fin cfg0.N) (h : t.val < 4) (k : Fin 8) (y : S1x256x384.Idx) :
    iblk m c 0 t (ix3 k (y 1) (y 2)) = m ((c : Thread nD τ).loc main_arg0) (ix3 k (place t y 1) (place t y 2)) := by
  rw [← V_main_arg0 m c]
  have hp := place_val t y
  have hl := layer t
  blk_simp [iblk]
  refine congrArg _ (funext fun a => Fin.ext ?_)
  match a with
  | 0 => blk_simp [at0 t h, hl.1, if_pos h]
  | 1 => blk_simp [at0 t h]; exact hp.2.1.symm
  | 2 => blk_simp [at0 t h, hl.2]; exact hp.2.2.symm

theorem land1 (t : Fin cfg0.N) (h : ¬t.val < 4) (k : Fin 8) (y : S1x256x384.Idx) :
    iblk m c 1 t (ix3 k (y 1) (y 2)) = m ((c : Thread nD τ).loc main_arg1) (ix3 k (place t y 1) (place t y 2)) := by
  rw [← V_main_arg1 m c]
  have hp := place_val t y
  have hl := layer t
  have ha := at1 t (by omega)
  blk_simp [iblk]
  refine congrArg _ (funext fun a => Fin.ext ?_)
  match a with
  | 0 => blk_simp [ha]
  | 1 => blk_simp [ha]; exact hp.2.1.symm
  | 2 => blk_simp [ha, hl.2]; exact hp.2.2.symm

/-- At every point the first output's block is the gradients' block. -/
theorem grad_at (t : Fin cfg0.N) (y : S1x256x384.Idx) : (outsAt0 m c t.val t.isLt).1 y = grads m c (place t y) := by
  have hp := place_val t y
  by_cases h : t.val < 4
  · rw [outsAt0_A m c t h (by omega)]
    frame_out
    refine (pay_sum (iblk m c 0 t) (Adam.slab_load _ 0 _ rfl _) (Adam.slab_load _ 1 _ rfl _) (Adam.slab_load _ 2 _ rfl _) (Adam.slab_load _ 3 _ rfl _)
      (Adam.slab_load _ 4 _ rfl _) (Adam.slab_load _ 5 _ rfl _) (Adam.slab_load _ 6 _ rfl _) (Adam.slab_load _ 7 _ rfl _) y).trans ?_
    refine Eq.trans (Adam.total_congr wide _ _ _ _ _ _ fun k => land0 m c t h k y) (if_pos ?_).symm
    rw [hp.1, if_pos h]; exact Nat.one_pos
  · rw [outsAt0_B m c t h (by omega)]
    frame_out
    refine (pay_sum (iblk m c 1 t) (Adam.slab_load _ 0 _ rfl _) (Adam.slab_load _ 1 _ rfl _) (Adam.slab_load _ 2 _ rfl _) (Adam.slab_load _ 3 _ rfl _)
      (Adam.slab_load _ 4 _ rfl _) (Adam.slab_load _ 5 _ rfl _) (Adam.slab_load _ 6 _ rfl _) (Adam.slab_load _ 7 _ rfl _) y).trans ?_
    refine Eq.trans (Adam.total_congr wide _ _ _ _ _ _ fun k => land1 m c t h k y) (if_neg ?_).symm
    rw [hp.1, if_neg h]; exact Nat.lt_irrefl 1

/-- At every point the other outputs' blocks, from the first one's. -/
theorem others_at (t : Fin cfg0.N) (y : S1x256x384.Idx) :
    (outsAt0 m c t.val t.isLt).2.1 y = Adam.step ((outsAt0 m c t.val t.isLt).1 y) (iblk m c 2 t y) (iblk m c 3 t y) (iblk m c 4 t y)
    ∧ (outsAt0 m c t.val t.isLt).2.2.1 y = Adam.first ((outsAt0 m c t.val t.isLt).1 y) (iblk m c 3 t y)
    ∧ (outsAt0 m c t.val t.isLt).2.2.2 y = Adam.second ((outsAt0 m c t.val t.isLt).1 y) (iblk m c 4 t y) := by
  by_cases h : t.val < 4
  · rw [outsAt0_A m c t h (by omega)]
    refine ⟨?_, ?_, ?_⟩
    · frame_out; exact pay_step _ _ _ _ y
    · frame_out; exact pay_first _ _ y
    · frame_out; exact pay_second _ _ y
  · rw [outsAt0_B m c t h (by omega)]
    refine ⟨?_, ?_, ?_⟩
    · frame_out; exact pay_step _ _ _ _ y
    · frame_out; exact pay_first _ _ y
    · frame_out; exact pay_second _ _ y

/-! ## The arrays -/

theorem final5 : (dats m 0 c).arrAt 5 cfg0.N = grads m c := by
  refine (dats m 0 c).arrAt_eq_of_covers 5 _ (by decide +kernel) fun t hf y => ?_
  blk_simp
  rw [after0_5]
  exact grad_at m c t y

theorem final6 : (dats m 0 c).arrAt 6 cfg0.N = Adam.steps (grads m c) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  refine (others_at m c t y).1.trans ?_
  rw [grad_at, same2, same3, same4]; rfl

theorem final7 : (dats m 0 c).arrAt 7 cfg0.N = Adam.firsts (grads m c) (m ((c : Thread nD τ).loc main_arg3)) := by
  refine (dats m 0 c).arrAt_eq_of_covers 7 _ (by decide +kernel) fun t hf y => ?_
  blk_simp
  rw [after0_7]
  refine (others_at m c t y).2.1.trans ?_
  rw [grad_at, same3]; rfl

theorem final8 : (dats m 0 c).arrAt 8 cfg0.N = Adam.seconds (grads m c) (m ((c : Thread nD τ).loc main_arg4)) := by
  refine (dats m 0 c).arrAt_eq_of_covers 8 _ (by decide +kernel) fun t hf y => ?_
  blk_simp
  rw [after0_8]
  refine (others_at m c t y).2.2.trans ?_
  rw [grad_at, same4]; rfl

/-- The kernel runs, its four results functions of its arguments, its arguments unchanged. -/
theorem run (ρ : Dev nD → PrngReg) : θ_run defs (onTc (τ := τ) (main (F := F))) ⟨m, fun _ => 0, ρ⟩ fun r => ∀ c : Dev nD,
      r.2.mem ((c : Thread nD τ).loc main_v0_0) = grads m c
      ∧ r.2.mem ((c : Thread nD τ).loc main_v0_1)
        = Adam.steps (grads m c) (m ((c : Thread nD τ).loc main_arg2)) (m ((c : Thread nD τ).loc main_arg3)) (m ((c : Thread nD τ).loc main_arg4))
      ∧ r.2.mem ((c : Thread nD τ).loc main_v0_2) = Adam.firsts (grads m c) (m ((c : Thread nD τ).loc main_arg3))
      ∧ r.2.mem ((c : Thread nD τ).loc main_v0_3) = Adam.seconds (grads m c) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2.1.trans (final7 m c),
    (h c).2.2.2.1.trans (final8 m c), (h c).2.2.2.2⟩) (run_blocks m ρ)

end Kernel

section Reference

open Cert.AdamInRefIdeal Cert.AdamInRefIdeal.Gen

variable (m : (ℓ : Loc nD τ sig) → Buf (Elt Ideal) ℓ) (c : Dev nD)

/-- The reference's gradients. -/
def refGrads : FVec Ideal S2x1024x384 .f32 :=
  Adam.grads2 (F := Ideal) (wide (F := Ideal)) (m ((c.tc : Thread nD τ).loc main_arg0)) (m ((c.tc : Thread nD τ).loc main_arg1))

/-- The reference runs, its four results the same functions of its arguments, its arguments unchanged. -/
theorem ref_run (ρ : Dev nD → PrngReg) : θ_run defs (onTc (τ := τ) (main (F := Ideal))) ⟨m, fun _ => 0, ρ⟩ fun r => ∀ c : Dev nD,
      r.2.mem ((c.tc : Thread nD τ).loc main_v6) = refGrads m c
      ∧ r.2.mem ((c.tc : Thread nD τ).loc main_v30)
        = Adam.steps (refGrads m c) (m ((c.tc : Thread nD τ).loc main_arg2)) (m ((c.tc : Thread nD τ).loc main_arg3)) (m ((c.tc : Thread nD τ).loc main_arg4))
      ∧ r.2.mem ((c.tc : Thread nD τ).loc main_v11) = Adam.firsts (refGrads m c) (m ((c.tc : Thread nD τ).loc main_arg3))
      ∧ r.2.mem ((c.tc : Thread nD τ).loc main_v17) = Adam.seconds (refGrads m c) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.AdamInRefIdeal.Value.run m ρ)
  have hg := Adam.grads2_eq (wide (F := Ideal)) reducesTo_S8x1024x384_S1024x384_d0 h_S_ bcast_S1024x384_S1x1024x384_1_2
    (m ((c.tc : Thread nD τ).loc main_arg0)) (m ((c.tc : Thread nD τ).loc main_arg1)) concatenates_S1x1024x384_S1x1024x384_S2x1024x384_d0
  obtain ⟨h0, h1, h2, h3, h4⟩ := h c
  refine ⟨h0.trans hg, h1.trans ?_, h2.trans ?_, h3.trans ?_, h4⟩
  · rw [← Adam.steps_eq bcast_S_S2x1024x384, ← Adam.firsts_eq bcast_S_S2x1024x384, ← Adam.seconds_eq bcast_S_S2x1024x384, refGrads, ← hg]; rfl
  · rw [← Adam.firsts_eq bcast_S_S2x1024x384, refGrads, ← hg]; rfl
  · rw [← Adam.seconds_eq bcast_S_S2x1024x384, refGrads, ← hg]; rfl

end Reference

end AdamIn

end
-- ==== Proof.AdamOutValue.lean ====
/- The AdamW step of the output projections: the kernel's four results as functions of its arguments, and the reference's. -/
module

public import proofs.«01_k».proof.Proof.Adam
public import proofs.«01_k».proof.Proof.Gen.AdamOutIdeal.Value
public import proofs.«01_k».proof.Proof.Gen.AdamOutRefIdeal.Run

@[expose] public section

noncomputable section

namespace AdamOut

open Idealize.ShloMosaic Idealize.ShloMosaic.TcCoe Idealize.SL.Sem

section Kernel

open Cert.AdamOutIdeal Cert.AdamOutIdeal.Gen Cert.AdamOutIdeal.Value

variable {F : FTy → Type} [FloatOps F]
variable (m : (ℓ : Loc nD τ sig) → Buf (Elt F) ℓ) (c : Dev nD)

/-- How a partial gradient is widened. -/
def wide : F .bf16 → F .f32 := FloatOps.extf .f32 bitsLt_bf16_f32

/-! ## What a block computes -/

theorem pay_sum (L : FVec F S8x128x1024 .bf16) {x0 x1 x2 x3 x4 x5 x6 x7 : FVec F S1x128x1024 .bf16}
    (h0 : ∀ y, x0 y = L (ix3 0 (y 1) (y 2))) (h1 : ∀ y, x1 y = L (ix3 1 (y 1) (y 2))) (h2 : ∀ y, x2 y = L (ix3 2 (y 1) (y 2)))
    (h3 : ∀ y, x3 y = L (ix3 3 (y 1) (y 2))) (h4 : ∀ y, x4 y = L (ix3 4 (y 1) (y 2))) (h5 : ∀ y, x5 y = L (ix3 5 (y 1) (y 2)))
    (h6 : ∀ y, x6 y = L (ix3 6 (y 1) (y 2))) (h7 : ∀ y, x7 y = L (ix3 7 (y 1) (y 2))) (y : S1x128x1024.Idx) :
    k0_pay4 (k0_pay2 x0 x1 x2 x3 x4 x5 x6 x7) y = Adam.total wide L (y 1) (y 2) :=
  Adam.sumBlock_apply shapeCasts_S1x128x1024_S128x1024 shapeCasts_S128x1024_S1x128x1024 wide L h0 h1 h2 h3 h4 h5 h6 h7 y

theorem pay_first (g x : FVec F S1x128x1024 .f32) (y : S1x128x1024.Idx) : k0_pay9 g x y = Adam.first (g y) (x y) :=
  Adam.firstBlock_apply shapeCasts_S1x128x1024_S128x1024 shapeCasts_S128x1024_S1x128x1024 g x y

theorem pay_second (g x : FVec F S1x128x1024 .f32) (y : S1x128x1024.Idx) : k0_pay10 g x y = Adam.second (g y) (x y) :=
  Adam.secondBlock_apply shapeCasts_S1x128x1024_S128x1024 shapeCasts_S128x1024_S1x128x1024 g x y

theorem pay_step (g w x v : FVec F S1x128x1024 .f32) (y : S1x128x1024.Idx) :
    k0_pay1 (k0_pay7 g x) (k0_pay8 g v) k0_pay11 w y = Adam.step (g y) (w y) (x y) (v y) :=
  Adam.stepBlock_apply shapeCasts_S1x128x1024_S128x1024 shapeCasts_S128x1024_S1x128x1024 g w x v y

/-! ## Where a block is -/

theorem at0 : ∀ t : Fin cfg0.N, t.val % 2 = 0 → win0_0.index t = win0_5.index t :=
  (by decide +kernel : ∀ t : Fin grid0.N, t.val % 2 = 0 → win0_0.index t = win0_5.index t)
theorem at1 : ∀ t : Fin cfg0.N, t.val % 2 = 1 → win0_1.index t = ![0, win0_5.index t 1, win0_5.index t 2] :=
  (by decide +kernel : ∀ t : Fin grid0.N, t.val % 2 = 1 → win0_1.index t = ![0, win0_5.index t 1, win0_5.index t 2])
theorem layer : ∀ t : Fin cfg0.N, (win0_5.index t 0 = if t.val % 2 = 0 then 0 else 1) ∧ win0_5.index t 2 = 0 :=
  (by decide +kernel : ∀ t : Fin grid0.N, (win0_5.index t 0 = if t.val % 2 = 0 then 0 else 1) ∧ win0_5.index t 2 = 0)

/-- The gradients. -/
def grads (m : (ℓ : Loc nD τ sig) → Buf (Elt F) ℓ) (c : Dev nD) : FVec F S2x128x1024 .f32 :=
  Adam.grads2 wide (m ((c : Thread nD τ).loc main_arg0)) (m ((c : Thread nD τ).loc main_arg1))

/-- The place in the whole arrays of a place in block `t`. -/
abbrev place (t : Fin cfg0.N) (y : S1x128x1024.Idx) : S2x128x1024.Idx := ((cfg0.win 5).blk t).view.emb y

theorem place_val (t : Fin cfg0.N) (y : S1x128x1024.Idx) :
    (place t y 0).val = (if t.val % 2 = 0 then 0 else 1) ∧ (place t y 1).val = win0_5.index t 1 * 128 + (y 1).val ∧ (place t y 2).val = (y 2).val := by
  have hl := layer t
  have h0 : (y 0).val = 0 := Nat.lt_one_iff.mp (y 0).isLt
  refine ⟨?_, ?_, ?_⟩
  · show ((((cfg0.win 5).blk t).view.emb y 0 : Fin _) : ℕ) = _
    blk_simp [hl.1]
  · show ((((cfg0.win 5).blk t).view.emb y 1 : Fin _) : ℕ) = _
    blk_simp
  · show ((((cfg0.win 5).blk t).view.emb y 2 : Fin _) : ℕ) = _
    blk_simp [hl.2]

theorem same2 (t : Fin cfg0.N) (y : S1x128x1024.Idx) : iblk m c 2 t y = m ((c : Thread nD τ).loc main_arg2) (place t y) := by
  rw [← V_main_arg2 m c]; rfl
theorem same3 (t : Fin cfg0.N) (y : S1x128x1024.Idx) : iblk m c 3 t y = m ((c : Thread nD τ).loc main_arg3) (place t y) := by
  rw [← V_main_arg3 m c]; rfl
theorem same4 (t : Fin cfg0.N) (y : S1x128x1024.Idx) : iblk m c 4 t y = m ((c : Thread nD τ).loc main_arg4) (place t y) := by
  rw [← V_main_arg4 m c]; rfl

theorem land0 (t : Fin cfg0.N) (h : t.val % 2 = 0) (k : Fin 8) (y : S1x128x1024.Idx) :
    iblk m c 0 t (ix3 k (y 1) (y 2)) = m ((c : Thread nD τ).loc main_arg0) (ix3 k (place t y 1) (place t y 2)) := by
  rw [← V_main_arg0 m c]
  have hp := place_val t y
  have hl := layer t
  blk_simp [iblk]
  refine congrArg _ (funext fun a => Fin.ext ?_)
  match a with
  | 0 => blk_simp [at0 t h, hl.1, if_pos h]
  | 1 => blk_simp [at0 t h]; exact hp.2.1.symm
  | 2 => blk_simp [at0 t h, hl.2]; exact hp.2.2.symm

theorem land1 (t : Fin cfg0.N) (h : ¬t.val % 2 = 0) (k : Fin 8) (y : S1x128x1024.Idx) :
    iblk m c 1 t (ix3 k (y 1) (y 2)) = m ((c : Thread nD τ).loc main_arg1) (ix3 k (place t y 1) (place t y 2)) := by
  rw [← V_main_arg1 m c]
  have hp := place_val t y
  have hl := layer t
  have ha := at1 t (by omega)
  blk_simp [iblk]
  refine congrArg _ (funext fun a => Fin.ext ?_)
  match a with
  | 0 => blk_simp [ha]
  | 1 => blk_simp [ha]; exact hp.2.1.symm
  | 2 => blk_simp [ha, hl.2]; exact hp.2.2.symm

/-- At every point the first output's block is the gradients' block. -/
theorem grad_at (t : Fin cfg0.N) (y : S1x128x1024.Idx) : (outsAt0 m c t.val t.isLt).1 y = grads m c (place t y) := by
  have hp := place_val t y
  by_cases h : t.val % 2 = 0
  · rw [outsAt0_A m c t h (by omega)]
    frame_out
    refine (pay_sum (iblk m c 0 t) (Adam.slab_load _ 0 _ rfl _) (Adam.slab_load _ 1 _ rfl _) (Adam.slab_load _ 2 _ rfl _) (Adam.slab_load _ 3 _ rfl _)
      (Adam.slab_load _ 4 _ rfl _) (Adam.slab_load _ 5 _ rfl _) (Adam.slab_load _ 6 _ rfl _) (Adam.slab_load _ 7 _ rfl _) y).trans ?_
    refine Eq.trans (Adam.total_congr wide _ _ _ _ _ _ fun k => land0 m c t h k y) (if_pos ?_).symm
    rw [hp.1, if_pos h]; exact Nat.one_pos
  · rw [outsAt0_B m c t h (by omega)]
    frame_out
    refine (pay_sum (iblk m c 1 t) (Adam.slab_load _ 0 _ rfl _) (Adam.slab_load _ 1 _ rfl _) (Adam.slab_load _ 2 _ rfl _) (Adam.slab_load _ 3 _ rfl _)
      (Adam.slab_load _ 4 _ rfl _) (Adam.slab_load _ 5 _ rfl _) (Adam.slab_load _ 6 _ rfl _) (Adam.slab_load _ 7 _ rfl _) y).trans ?_
    refine Eq.trans (Adam.total_congr wide _ _ _ _ _ _ fun k => land1 m c t h k y) (if_neg ?_).symm
    rw [hp.1, if_neg h]; exact Nat.lt_irrefl 1

/-- At every point the other outputs' blocks, from the first one's. -/
theorem others_at (t : Fin cfg0.N) (y : S1x128x1024.Idx) :
    (outsAt0 m c t.val t.isLt).2.1 y = Adam.step ((outsAt0 m c t.val t.isLt).1 y) (iblk m c 2 t y) (iblk m c 3 t y) (iblk m c 4 t y)
    ∧ (outsAt0 m c t.val t.isLt).2.2.1 y = Adam.first ((outsAt0 m c t.val t.isLt).1 y) (iblk m c 3 t y)
    ∧ (outsAt0 m c t.val t.isLt).2.2.2 y = Adam.second ((outsAt0 m c t.val t.isLt).1 y) (iblk m c 4 t y) := by
  by_cases h : t.val % 2 = 0
  · rw [outsAt0_A m c t h (by omega)]
    refine ⟨?_, ?_, ?_⟩
    · frame_out; exact pay_step _ _ _ _ y
    · frame_out; exact pay_first _ _ y
    · frame_out; exact pay_second _ _ y
  · rw [outsAt0_B m c t h (by omega)]
    refine ⟨?_, ?_, ?_⟩
    · frame_out; exact pay_step _ _ _ _ y
    · frame_out; exact pay_first _ _ y
    · frame_out; exact pay_second _ _ y

/-! ## The arrays -/

theorem final5 : (dats m 0 c).arrAt 5 cfg0.N = grads m c := by
  refine (dats m 0 c).arrAt_eq_of_covers 5 _ (by decide +kernel) fun t hf y => ?_
  blk_simp
  rw [after0_5]
  exact grad_at m c t y

theorem final6 : (dats m 0 c).arrAt 6 cfg0.N = Adam.steps (grads m c) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  refine (others_at m c t y).1.trans ?_
  rw [grad_at, same2, same3, same4]; rfl

theorem final7 : (dats m 0 c).arrAt 7 cfg0.N = Adam.firsts (grads m c) (m ((c : Thread nD τ).loc main_arg3)) := by
  refine (dats m 0 c).arrAt_eq_of_covers 7 _ (by decide +kernel) fun t hf y => ?_
  blk_simp
  rw [after0_7]
  refine (others_at m c t y).2.1.trans ?_
  rw [grad_at, same3]; rfl

theorem final8 : (dats m 0 c).arrAt 8 cfg0.N = Adam.seconds (grads m c) (m ((c : Thread nD τ).loc main_arg4)) := by
  refine (dats m 0 c).arrAt_eq_of_covers 8 _ (by decide +kernel) fun t hf y => ?_
  blk_simp
  rw [after0_8]
  refine (others_at m c t y).2.2.trans ?_
  rw [grad_at, same4]; rfl

/-- The kernel runs, its four results functions of its arguments, its arguments unchanged. -/
theorem run (ρ : Dev nD → PrngReg) : θ_run defs (onTc (τ := τ) (main (F := F))) ⟨m, fun _ => 0, ρ⟩ fun r => ∀ c : Dev nD,
      r.2.mem ((c : Thread nD τ).loc main_v0_0) = grads m c
      ∧ r.2.mem ((c : Thread nD τ).loc main_v0_1)
        = Adam.steps (grads m c) (m ((c : Thread nD τ).loc main_arg2)) (m ((c : Thread nD τ).loc main_arg3)) (m ((c : Thread nD τ).loc main_arg4))
      ∧ r.2.mem ((c : Thread nD τ).loc main_v0_2) = Adam.firsts (grads m c) (m ((c : Thread nD τ).loc main_arg3))
      ∧ r.2.mem ((c : Thread nD τ).loc main_v0_3) = Adam.seconds (grads m c) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2.1.trans (final7 m c),
    (h c).2.2.2.1.trans (final8 m c), (h c).2.2.2.2⟩) (run_blocks m ρ)

end Kernel

section Reference

open Cert.AdamOutRefIdeal Cert.AdamOutRefIdeal.Gen

variable (m : (ℓ : Loc nD τ sig) → Buf (Elt Ideal) ℓ) (c : Dev nD)

/-- The reference's gradients. -/
def refGrads : FVec Ideal S2x128x1024 .f32 :=
  Adam.grads2 (F := Ideal) (wide (F := Ideal)) (m ((c.tc : Thread nD τ).loc main_arg0)) (m ((c.tc : Thread nD τ).loc main_arg1))

/-- The reference runs, its four results the same functions of its arguments, its arguments unchanged. -/
theorem ref_run (ρ : Dev nD → PrngReg) : θ_run defs (onTc (τ := τ) (main (F := Ideal))) ⟨m, fun _ => 0, ρ⟩ fun r => ∀ c : Dev nD,
      r.2.mem ((c.tc : Thread nD τ).loc main_v6) = refGrads m c
      ∧ r.2.mem ((c.tc : Thread nD τ).loc main_v30)
        = Adam.steps (refGrads m c) (m ((c.tc : Thread nD τ).loc main_arg2)) (m ((c.tc : Thread nD τ).loc main_arg3)) (m ((c.tc : Thread nD τ).loc main_arg4))
      ∧ r.2.mem ((c.tc : Thread nD τ).loc main_v11) = Adam.firsts (refGrads m c) (m ((c.tc : Thread nD τ).loc main_arg3))
      ∧ r.2.mem ((c.tc : Thread nD τ).loc main_v17) = Adam.seconds (refGrads m c) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.AdamOutRefIdeal.Value.run m ρ)
  have hg := Adam.grads2_eq (wide (F := Ideal)) reducesTo_S8x128x1024_S128x1024_d0 h_S_ bcast_S128x1024_S1x128x1024_1_2
    (m ((c.tc : Thread nD τ).loc main_arg0)) (m ((c.tc : Thread nD τ).loc main_arg1)) concatenates_S1x128x1024_S1x128x1024_S2x128x1024_d0
  obtain ⟨h0, h1, h2, h3, h4⟩ := h c
  refine ⟨h0.trans hg, h1.trans ?_, h2.trans ?_, h3.trans ?_, h4⟩
  · rw [← Adam.steps_eq bcast_S_S2x128x1024, ← Adam.firsts_eq bcast_S_S2x128x1024, ← Adam.seconds_eq bcast_S_S2x128x1024, refGrads, ← hg]; rfl
  · rw [← Adam.firsts_eq bcast_S_S2x128x1024, refGrads, ← hg]; rfl
  · rw [← Adam.seconds_eq bcast_S_S2x128x1024, refGrads, ← hg]; rfl

end Reference

end AdamOut

end
-- ==== Proof.AdamUpValue.lean ====
/- The AdamW step of the feed-forward's first matrices: the kernel's four results as functions of its arguments, and the reference's. -/
module

public import proofs.«01_k».proof.Proof.Adam
public import proofs.«01_k».proof.Proof.Gen.AdamUpIdeal.Value
public import proofs.«01_k».proof.Proof.Gen.AdamUpRefIdeal.Run

@[expose] public section

noncomputable section

namespace AdamUp

open Idealize.ShloMosaic Idealize.ShloMosaic.TcCoe Idealize.SL.Sem

section Kernel

open Cert.AdamUpIdeal Cert.AdamUpIdeal.Gen Cert.AdamUpIdeal.Value

variable {F : FTy → Type} [FloatOps F]
variable (m : (ℓ : Loc nD τ sig) → Buf (Elt F) ℓ) (c : Dev nD)

/-- How a partial gradient is widened. -/
def wide : F .bf16 → F .f32 := FloatOps.extf .f32 bitsLt_bf16_f32

/-! ## What a block computes -/

theorem pay_sum (L : FVec F S8x176x1024 .bf16) {x0 x1 x2 x3 x4 x5 x6 x7 : FVec F S1x176x1024 .bf16}
    (h0 : ∀ y, x0 y = L (ix3 0 (y 1) (y 2))) (h1 : ∀ y, x1 y = L (ix3 1 (y 1) (y 2))) (h2 : ∀ y, x2 y = L (ix3 2 (y 1) (y 2)))
    (h3 : ∀ y, x3 y = L (ix3 3 (y 1) (y 2))) (h4 : ∀ y, x4 y = L (ix3 4 (y 1) (y 2))) (h5 : ∀ y, x5 y = L (ix3 5 (y 1) (y 2)))
    (h6 : ∀ y, x6 y = L (ix3 6 (y 1) (y 2))) (h7 : ∀ y, x7 y = L (ix3 7 (y 1) (y 2))) (y : S1x176x1024.Idx) :
    k0_pay4 (k0_pay2 x0 x1 x2 x3 x4 x5 x6 x7) y = Adam.total wide L (y 1) (y 2) :=
  Adam.sumBlock_apply shapeCasts_S1x176x1024_S176x1024 shapeCasts_S176x1024_S1x176x1024 wide L h0 h1 h2 h3 h4 h5 h6 h7 y

theorem pay_first (g x : FVec F S1x176x1024 .f32) (y : S1x176x1024.Idx) : k0_pay9 g x y = Adam.first (g y) (x y) :=
  Adam.firstBlock_apply shapeCasts_S1x176x1024_S176x1024 shapeCasts_S176x1024_S1x176x1024 g x y

theorem pay_second (g x : FVec F S1x176x1024 .f32) (y : S1x176x1024.Idx) : k0_pay10 g x y = Adam.second (g y) (x y) :=
  Adam.secondBlock_apply shapeCasts_S1x176x1024_S176x1024 shapeCasts_S176x1024_S1x176x1024 g x y

theorem pay_step (g w x v : FVec F S1x176x1024 .f32) (y : S1x176x1024.Idx) :
    k0_pay1 (k0_pay7 g x) (k0_pay8 g v) k0_pay11 w y = Adam.step (g y) (w y) (x y) (v y) :=
  Adam.stepBlock_apply shapeCasts_S1x176x1024_S176x1024 shapeCasts_S176x1024_S1x176x1024 g w x v y

/-! ## Where a block is -/

theorem at0 : ∀ t : Fin cfg0.N, t.val < 4 → win0_0.index t = win0_5.index t :=
  (by decide +kernel : ∀ t : Fin grid0.N, t.val < 4 → win0_0.index t = win0_5.index t)
theorem at1 : ∀ t : Fin cfg0.N, 4 ≤ t.val → win0_1.index t = ![0, win0_5.index t 1, win0_5.index t 2] :=
  (by decide +kernel : ∀ t : Fin grid0.N, 4 ≤ t.val → win0_1.index t = ![0, win0_5.index t 1, win0_5.index t 2])
theorem layer : ∀ t : Fin cfg0.N, (win0_5.index t 0 = if t.val < 4 then 0 else 1) ∧ win0_5.index t 2 = 0 :=
  (by decide +kernel : ∀ t : Fin grid0.N, (win0_5.index t 0 = if t.val < 4 then 0 else 1) ∧ win0_5.index t 2 = 0)

/-- The gradients. -/
def grads (m : (ℓ : Loc nD τ sig) → Buf (Elt F) ℓ) (c : Dev nD) : FVec F S2x704x1024 .f32 :=
  Adam.grads2 wide (m ((c : Thread nD τ).loc main_arg0)) (m ((c : Thread nD τ).loc main_arg1))

/-- The place in the whole arrays of a place in block `t`. -/
abbrev place (t : Fin cfg0.N) (y : S1x176x1024.Idx) : S2x704x1024.Idx := ((cfg0.win 5).blk t).view.emb y

theorem place_val (t : Fin cfg0.N) (y : S1x176x1024.Idx) :
    (place t y 0).val = (if t.val < 4 then 0 else 1) ∧ (place t y 1).val = win0_5.index t 1 * 176 + (y 1).val ∧ (place t y 2).val = (y 2).val := by
  have hl := layer t
  have h0 : (y 0).val = 0 := Nat.lt_one_iff.mp (y 0).isLt
  refine ⟨?_, ?_, ?_⟩
  · show ((((cfg0.win 5).blk t).view.emb y 0 : Fin _) : ℕ) = _
    blk_simp [hl.1]
  · show ((((cfg0.win 5).blk t).view.emb y 1 : Fin _) : ℕ) = _
    blk_simp
  · show ((((cfg0.win 5).blk t).view.emb y 2 : Fin _) : ℕ) = _
    blk_simp [hl.2]

theorem same2 (t : Fin cfg0.N) (y : S1x176x1024.Idx) : iblk m c 2 t y = m ((c : Thread nD τ).loc main_arg2) (place t y) := by
  rw [← V_main_arg2 m c]; rfl
theorem same3 (t : Fin cfg0.N) (y : S1x176x1024.Idx) : iblk m c 3 t y = m ((c : Thread nD τ).loc main_arg3) (place t y) := by
  rw [← V_main_arg3 m c]; rfl
theorem same4 (t : Fin cfg0.N) (y : S1x176x1024.Idx) : iblk m c 4 t y = m ((c : Thread nD τ).loc main_arg4) (place t y) := by
  rw [← V_main_arg4 m c]; rfl

theorem land0 (t : Fin cfg0.N) (h : t.val < 4) (k : Fin 8) (y : S1x176x1024.Idx) :
    iblk m c 0 t (ix3 k (y 1) (y 2)) = m ((c : Thread nD τ).loc main_arg0) (ix3 k (place t y 1) (place t y 2)) := by
  rw [← V_main_arg0 m c]
  have hp := place_val t y
  have hl := layer t
  blk_simp [iblk]
  refine congrArg _ (funext fun a => Fin.ext ?_)
  match a with
  | 0 => blk_simp [at0 t h, hl.1, if_pos h]
  | 1 => blk_simp [at0 t h]; exact hp.2.1.symm
  | 2 => blk_simp [at0 t h, hl.2]; exact hp.2.2.symm

theorem land1 (t : Fin cfg0.N) (h : ¬t.val < 4) (k : Fin 8) (y : S1x176x1024.Idx) :
    iblk m c 1 t (ix3 k (y 1) (y 2)) = m ((c : Thread nD τ).loc main_arg1) (ix3 k (place t y 1) (place t y 2)) := by
  rw [← V_main_arg1 m c]
  have hp := place_val t y
  have hl := layer t
  have ha := at1 t (by omega)
  blk_simp [iblk]
  refine congrArg _ (funext fun a => Fin.ext ?_)
  match a with
  | 0 => blk_simp [ha]
  | 1 => blk_simp [ha]; exact hp.2.1.symm
  | 2 => blk_simp [ha, hl.2]; exact hp.2.2.symm

/-- At every point the first output's block is the gradients' block. -/
theorem grad_at (t : Fin cfg0.N) (y : S1x176x1024.Idx) : (outsAt0 m c t.val t.isLt).1 y = grads m c (place t y) := by
  have hp := place_val t y
  by_cases h : t.val < 4
  · rw [outsAt0_A m c t h (by omega)]
    frame_out
    refine (pay_sum (iblk m c 0 t) (Adam.slab_load _ 0 _ rfl _) (Adam.slab_load _ 1 _ rfl _) (Adam.slab_load _ 2 _ rfl _) (Adam.slab_load _ 3 _ rfl _)
      (Adam.slab_load _ 4 _ rfl _) (Adam.slab_load _ 5 _ rfl _) (Adam.slab_load _ 6 _ rfl _) (Adam.slab_load _ 7 _ rfl _) y).trans ?_
    refine Eq.trans (Adam.total_congr wide _ _ _ _ _ _ fun k => land0 m c t h k y) (if_pos ?_).symm
    rw [hp.1, if_pos h]; exact Nat.one_pos
  · rw [outsAt0_B m c t h (by omega)]
    frame_out
    refine (pay_sum (iblk m c 1 t) (Adam.slab_load _ 0 _ rfl _) (Adam.slab_load _ 1 _ rfl _) (Adam.slab_load _ 2 _ rfl _) (Adam.slab_load _ 3 _ rfl _)
      (Adam.slab_load _ 4 _ rfl _) (Adam.slab_load _ 5 _ rfl _) (Adam.slab_load _ 6 _ rfl _) (Adam.slab_load _ 7 _ rfl _) y).trans ?_
    refine Eq.trans (Adam.total_congr wide _ _ _ _ _ _ fun k => land1 m c t h k y) (if_neg ?_).symm
    rw [hp.1, if_neg h]; exact Nat.lt_irrefl 1

/-- At every point the other outputs' blocks, from the first one's. -/
theorem others_at (t : Fin cfg0.N) (y : S1x176x1024.Idx) :
    (outsAt0 m c t.val t.isLt).2.1 y = Adam.step ((outsAt0 m c t.val t.isLt).1 y) (iblk m c 2 t y) (iblk m c 3 t y) (iblk m c 4 t y)
    ∧ (outsAt0 m c t.val t.isLt).2.2.1 y = Adam.first ((outsAt0 m c t.val t.isLt).1 y) (iblk m c 3 t y)
    ∧ (outsAt0 m c t.val t.isLt).2.2.2 y = Adam.second ((outsAt0 m c t.val t.isLt).1 y) (iblk m c 4 t y) := by
  by_cases h : t.val < 4
  · rw [outsAt0_A m c t h (by omega)]
    refine ⟨?_, ?_, ?_⟩
    · frame_out; exact pay_step _ _ _ _ y
    · frame_out; exact pay_first _ _ y
    · frame_out; exact pay_second _ _ y
  · rw [outsAt0_B m c t h (by omega)]
    refine ⟨?_, ?_, ?_⟩
    · frame_out; exact pay_step _ _ _ _ y
    · frame_out; exact pay_first _ _ y
    · frame_out; exact pay_second _ _ y

/-! ## The arrays -/

theorem final5 : (dats m 0 c).arrAt 5 cfg0.N = grads m c := by
  refine (dats m 0 c).arrAt_eq_of_covers 5 _ (by decide +kernel) fun t hf y => ?_
  blk_simp
  rw [after0_5]
  exact grad_at m c t y

theorem final6 : (dats m 0 c).arrAt 6 cfg0.N = Adam.steps (grads m c) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  refine (others_at m c t y).1.trans ?_
  rw [grad_at, same2, same3, same4]; rfl

theorem final7 : (dats m 0 c).arrAt 7 cfg0.N = Adam.firsts (grads m c) (m ((c : Thread nD τ).loc main_arg3)) := by
  refine (dats m 0 c).arrAt_eq_of_covers 7 _ (by decide +kernel) fun t hf y => ?_
  blk_simp
  rw [after0_7]
  refine (others_at m c t y).2.1.trans ?_
  rw [grad_at, same3]; rfl

theorem final8 : (dats m 0 c).arrAt 8 cfg0.N = Adam.seconds (grads m c) (m ((c : Thread nD τ).loc main_arg4)) := by
  refine (dats m 0 c).arrAt_eq_of_covers 8 _ (by decide +kernel) fun t hf y => ?_
  blk_simp
  rw [after0_8]
  refine (others_at m c t y).2.2.trans ?_
  rw [grad_at, same4]; rfl

/-- The kernel runs, its four results functions of its arguments, its arguments unchanged. -/
theorem run (ρ : Dev nD → PrngReg) : θ_run defs (onTc (τ := τ) (main (F := F))) ⟨m, fun _ => 0, ρ⟩ fun r => ∀ c : Dev nD,
      r.2.mem ((c : Thread nD τ).loc main_v0_0) = grads m c
      ∧ r.2.mem ((c : Thread nD τ).loc main_v0_1)
        = Adam.steps (grads m c) (m ((c : Thread nD τ).loc main_arg2)) (m ((c : Thread nD τ).loc main_arg3)) (m ((c : Thread nD τ).loc main_arg4))
      ∧ r.2.mem ((c : Thread nD τ).loc main_v0_2) = Adam.firsts (grads m c) (m ((c : Thread nD τ).loc main_arg3))
      ∧ r.2.mem ((c : Thread nD τ).loc main_v0_3) = Adam.seconds (grads m c) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2.1.trans (final7 m c),
    (h c).2.2.2.1.trans (final8 m c), (h c).2.2.2.2⟩) (run_blocks m ρ)

end Kernel

section Reference

open Cert.AdamUpRefIdeal Cert.AdamUpRefIdeal.Gen

variable (m : (ℓ : Loc nD τ sig) → Buf (Elt Ideal) ℓ) (c : Dev nD)

/-- The reference's gradients. -/
def refGrads : FVec Ideal S2x704x1024 .f32 :=
  Adam.grads2 (F := Ideal) (wide (F := Ideal)) (m ((c.tc : Thread nD τ).loc main_arg0)) (m ((c.tc : Thread nD τ).loc main_arg1))

/-- The reference runs, its four results the same functions of its arguments, its arguments unchanged. -/
theorem ref_run (ρ : Dev nD → PrngReg) : θ_run defs (onTc (τ := τ) (main (F := Ideal))) ⟨m, fun _ => 0, ρ⟩ fun r => ∀ c : Dev nD,
      r.2.mem ((c.tc : Thread nD τ).loc main_v6) = refGrads m c
      ∧ r.2.mem ((c.tc : Thread nD τ).loc main_v30)
        = Adam.steps (refGrads m c) (m ((c.tc : Thread nD τ).loc main_arg2)) (m ((c.tc : Thread nD τ).loc main_arg3)) (m ((c.tc : Thread nD τ).loc main_arg4))
      ∧ r.2.mem ((c.tc : Thread nD τ).loc main_v11) = Adam.firsts (refGrads m c) (m ((c.tc : Thread nD τ).loc main_arg3))
      ∧ r.2.mem ((c.tc : Thread nD τ).loc main_v17) = Adam.seconds (refGrads m c) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.AdamUpRefIdeal.Value.run m ρ)
  have hg := Adam.grads2_eq (wide (F := Ideal)) reducesTo_S8x704x1024_S704x1024_d0 h_S_ bcast_S704x1024_S1x704x1024_1_2
    (m ((c.tc : Thread nD τ).loc main_arg0)) (m ((c.tc : Thread nD τ).loc main_arg1)) concatenates_S1x704x1024_S1x704x1024_S2x704x1024_d0
  obtain ⟨h0, h1, h2, h3, h4⟩ := h c
  refine ⟨h0.trans hg, h1.trans ?_, h2.trans ?_, h3.trans ?_, h4⟩
  · rw [← Adam.steps_eq bcast_S_S2x704x1024, ← Adam.firsts_eq bcast_S_S2x704x1024, ← Adam.seconds_eq bcast_S_S2x704x1024, refGrads, ← hg]; rfl
  · rw [← Adam.firsts_eq bcast_S_S2x704x1024, refGrads, ← hg]; rfl
  · rw [← Adam.seconds_eq bcast_S_S2x704x1024, refGrads, ← hg]; rfl

end Reference

end AdamUp

end
-- ==== Proof.AdamDownValue.lean ====
/- The AdamW step of the feed-forward's second matrices: the kernel's four results as functions of its arguments, and the reference's. -/
module

public import proofs.«01_k».proof.Proof.Adam
public import proofs.«01_k».proof.Proof.Gen.AdamDownIdeal.Value
public import proofs.«01_k».proof.Proof.Gen.AdamDownRefIdeal.Run

@[expose] public section

noncomputable section

namespace AdamDown

open Idealize.ShloMosaic Idealize.ShloMosaic.TcCoe Idealize.SL.Sem

section Kernel

open Cert.AdamDownIdeal Cert.AdamDownIdeal.Gen Cert.AdamDownIdeal.Value

variable {F : FTy → Type} [FloatOps F]
variable (m : (ℓ : Loc nD τ sig) → Buf (Elt F) ℓ) (c : Dev nD)

/-- How a partial gradient is widened. -/
def wide : F .bf16 → F .f32 := FloatOps.extf .f32 bitsLt_bf16_f32

/-! ## What a block computes -/

theorem pay_sum (L : FVec F S8x352x1024 .bf16) {x0 x1 x2 x3 x4 x5 x6 x7 : FVec F S1x352x1024 .bf16}
    (h0 : ∀ y, x0 y = L (ix3 0 (y 1) (y 2))) (h1 : ∀ y, x1 y = L (ix3 1 (y 1) (y 2))) (h2 : ∀ y, x2 y = L (ix3 2 (y 1) (y 2)))
    (h3 : ∀ y, x3 y = L (ix3 3 (y 1) (y 2))) (h4 : ∀ y, x4 y = L (ix3 4 (y 1) (y 2))) (h5 : ∀ y, x5 y = L (ix3 5 (y 1) (y 2)))
    (h6 : ∀ y, x6 y = L (ix3 6 (y 1) (y 2))) (h7 : ∀ y, x7 y = L (ix3 7 (y 1) (y 2))) (y : S1x352x1024.Idx) :
    k0_pay4 (k0_pay2 x0 x1 x2 x3 x4 x5 x6 x7) y = Adam.total wide L (y 1) (y 2) :=
  Adam.sumBlock_apply shapeCasts_S1x352x1024_S352x1024 shapeCasts_S352x1024_S1x352x1024 wide L h0 h1 h2 h3 h4 h5 h6 h7 y

theorem pay_first (g x : FVec F S1x352x1024 .f32) (y : S1x352x1024.Idx) : k0_pay9 g x y = Adam.first (g y) (x y) :=
  Adam.firstBlock_apply shapeCasts_S1x352x1024_S352x1024 shapeCasts_S352x1024_S1x352x1024 g x y

theorem pay_second (g x : FVec F S1x352x1024 .f32) (y : S1x352x1024.Idx) : k0_pay10 g x y = Adam.second (g y) (x y) :=
  Adam.secondBlock_apply shapeCasts_S1x352x1024_S352x1024 shapeCasts_S352x1024_S1x352x1024 g x y

theorem pay_step (g w x v : FVec F S1x352x1024 .f32) (y : S1x352x1024.Idx) :
    k0_pay1 (k0_pay7 g x) (k0_pay8 g v) k0_pay11 w y = Adam.step (g y) (w y) (x y) (v y) :=
  Adam.stepBlock_apply shapeCasts_S1x352x1024_S352x1024 shapeCasts_S352x1024_S1x352x1024 g w x v y

/-! ## Where a block is -/

theorem at0 : ∀ t : Fin cfg0.N, t.val % 2 = 0 → win0_0.index t = win0_5.index t :=
  (by decide +kernel : ∀ t : Fin grid0.N, t.val % 2 = 0 → win0_0.index t = win0_5.index t)
theorem at1 : ∀ t : Fin cfg0.N, t.val % 2 = 1 → win0_1.index t = ![0, win0_5.index t 1, win0_5.index t 2] :=
  (by decide +kernel : ∀ t : Fin grid0.N, t.val % 2 = 1 → win0_1.index t = ![0, win0_5.index t 1, win0_5.index t 2])
theorem layer : ∀ t : Fin cfg0.N, (win0_5.index t 0 = if t.val % 2 = 0 then 0 else 1) ∧ win0_5.index t 2 = 0 :=
  (by decide +kernel : ∀ t : Fin grid0.N, (win0_5.index t 0 = if t.val % 2 = 0 then 0 else 1) ∧ win0_5.index t 2 = 0)

/-- The gradients. -/
def grads (m : (ℓ : Loc nD τ sig) → Buf (Elt F) ℓ) (c : Dev nD) : FVec F S2x352x1024 .f32 :=
  Adam.grads2 wide (m ((c : Thread nD τ).loc main_arg0)) (m ((c : Thread nD τ).loc main_arg1))

/-- The place in the whole arrays of a place in block `t`. -/
abbrev place (t : Fin cfg0.N) (y : S1x352x1024.Idx) : S2x352x1024.Idx := ((cfg0.win 5).blk t).view.emb y

theorem place_val (t : Fin cfg0.N) (y : S1x352x1024.Idx) :
    (place t y 0).val = (if t.val % 2 = 0 then 0 else 1) ∧ (place t y 1).val = win0_5.index t 1 * 352 + (y 1).val ∧ (place t y 2).val = (y 2).val := by
  have hl := layer t
  have h0 : (y 0).val = 0 := Nat.lt_one_iff.mp (y 0).isLt
  refine ⟨?_, ?_, ?_⟩
  · show ((((cfg0.win 5).blk t).view.emb y 0 : Fin _) : ℕ) = _
    blk_simp [hl.1]
  · show ((((cfg0.win 5).blk t).view.emb y 1 : Fin _) : ℕ) = _
    blk_simp
  · show ((((cfg0.win 5).blk t).view.emb y 2 : Fin _) : ℕ) = _
    blk_simp [hl.2]

theorem same2 (t : Fin cfg0.N) (y : S1x352x1024.Idx) : iblk m c 2 t y = m ((c : Thread nD τ).loc main_arg2) (place t y) := by
  rw [← V_main_arg2 m c]; rfl
theorem same3 (t : Fin cfg0.N) (y : S1x352x1024.Idx) : iblk m c 3 t y = m ((c : Thread nD τ).loc main_arg3) (place t y) := by
  rw [← V_main_arg3 m c]; rfl
theorem same4 (t : Fin cfg0.N) (y : S1x352x1024.Idx) : iblk m c 4 t y = m ((c : Thread nD τ).loc main_arg4) (place t y) := by
  rw [← V_main_arg4 m c]; rfl

theorem land0 (t : Fin cfg0.N) (h : t.val % 2 = 0) (k : Fin 8) (y : S1x352x1024.Idx) :
    iblk m c 0 t (ix3 k (y 1) (y 2)) = m ((c : Thread nD τ).loc main_arg0) (ix3 k (place t y 1) (place t y 2)) := by
  rw [← V_main_arg0 m c]
  have hp := place_val t y
  have hl := layer t
  blk_simp [iblk]
  refine congrArg _ (funext fun a => Fin.ext ?_)
  match a with
  | 0 => blk_simp [at0 t h, hl.1, if_pos h]
  | 1 => blk_simp [at0 t h]; exact hp.2.1.symm
  | 2 => blk_simp [at0 t h, hl.2]; exact hp.2.2.symm

theorem land1 (t : Fin cfg0.N) (h : ¬t.val % 2 = 0) (k : Fin 8) (y : S1x352x1024.Idx) :
    iblk m c 1 t (ix3 k (y 1) (y 2)) = m ((c : Thread nD τ).loc main_arg1) (ix3 k (place t y 1) (place t y 2)) := by
  rw [← V_main_arg1 m c]
  have hp := place_val t y
  have hl := layer t
  have ha := at1 t (by omega)
  blk_simp [iblk]
  refine congrArg _ (funext fun a => Fin.ext ?_)
  match a with
  | 0 => blk_simp [ha]
  | 1 => blk_simp [ha]; exact hp.2.1.symm
  | 2 => blk_simp [ha, hl.2]; exact hp.2.2.symm

/-- At every point the first output's block is the gradients' block. -/
theorem grad_at (t : Fin cfg0.N) (y : S1x352x1024.Idx) : (outsAt0 m c t.val t.isLt).1 y = grads m c (place t y) := by
  have hp := place_val t y
  by_cases h : t.val % 2 = 0
  · rw [outsAt0_A m c t h (by omega)]
    frame_out
    refine (pay_sum (iblk m c 0 t) (Adam.slab_load _ 0 _ rfl _) (Adam.slab_load _ 1 _ rfl _) (Adam.slab_load _ 2 _ rfl _) (Adam.slab_load _ 3 _ rfl _)
      (Adam.slab_load _ 4 _ rfl _) (Adam.slab_load _ 5 _ rfl _) (Adam.slab_load _ 6 _ rfl _) (Adam.slab_load _ 7 _ rfl _) y).trans ?_
    refine Eq.trans (Adam.total_congr wide _ _ _ _ _ _ fun k => land0 m c t h k y) (if_pos ?_).symm
    rw [hp.1, if_pos h]; exact Nat.one_pos
  · rw [outsAt0_B m c t h (by omega)]
    frame_out
    refine (pay_sum (iblk m c 1 t) (Adam.slab_load _ 0 _ rfl _) (Adam.slab_load _ 1 _ rfl _) (Adam.slab_load _ 2 _ rfl _) (Adam.slab_load _ 3 _ rfl _)
      (Adam.slab_load _ 4 _ rfl _) (Adam.slab_load _ 5 _ rfl _) (Adam.slab_load _ 6 _ rfl _) (Adam.slab_load _ 7 _ rfl _) y).trans ?_
    refine Eq.trans (Adam.total_congr wide _ _ _ _ _ _ fun k => land1 m c t h k y) (if_neg ?_).symm
    rw [hp.1, if_neg h]; exact Nat.lt_irrefl 1

/-- At every point the other outputs' blocks, from the first one's. -/
theorem others_at (t : Fin cfg0.N) (y : S1x352x1024.Idx) :
    (outsAt0 m c t.val t.isLt).2.1 y = Adam.step ((outsAt0 m c t.val t.isLt).1 y) (iblk m c 2 t y) (iblk m c 3 t y) (iblk m c 4 t y)
    ∧ (outsAt0 m c t.val t.isLt).2.2.1 y = Adam.first ((outsAt0 m c t.val t.isLt).1 y) (iblk m c 3 t y)
    ∧ (outsAt0 m c t.val t.isLt).2.2.2 y = Adam.second ((outsAt0 m c t.val t.isLt).1 y) (iblk m c 4 t y) := by
  by_cases h : t.val % 2 = 0
  · rw [outsAt0_A m c t h (by omega)]
    refine ⟨?_, ?_, ?_⟩
    · frame_out; exact pay_step _ _ _ _ y
    · frame_out; exact pay_first _ _ y
    · frame_out; exact pay_second _ _ y
  · rw [outsAt0_B m c t h (by omega)]
    refine ⟨?_, ?_, ?_⟩
    · frame_out; exact pay_step _ _ _ _ y
    · frame_out; exact pay_first _ _ y
    · frame_out; exact pay_second _ _ y

/-! ## The arrays -/

theorem final5 : (dats m 0 c).arrAt 5 cfg0.N = grads m c := by
  refine (dats m 0 c).arrAt_eq_of_covers 5 _ (by decide +kernel) fun t hf y => ?_
  blk_simp
  rw [after0_5]
  exact grad_at m c t y

theorem final6 : (dats m 0 c).arrAt 6 cfg0.N = Adam.steps (grads m c) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  refine (others_at m c t y).1.trans ?_
  rw [grad_at, same2, same3, same4]; rfl

theorem final7 : (dats m 0 c).arrAt 7 cfg0.N = Adam.firsts (grads m c) (m ((c : Thread nD τ).loc main_arg3)) := by
  refine (dats m 0 c).arrAt_eq_of_covers 7 _ (by decide +kernel) fun t hf y => ?_
  blk_simp
  rw [after0_7]
  refine (others_at m c t y).2.1.trans ?_
  rw [grad_at, same3]; rfl

theorem final8 : (dats m 0 c).arrAt 8 cfg0.N = Adam.seconds (grads m c) (m ((c : Thread nD τ).loc main_arg4)) := by
  refine (dats m 0 c).arrAt_eq_of_covers 8 _ (by decide +kernel) fun t hf y => ?_
  blk_simp
  rw [after0_8]
  refine (others_at m c t y).2.2.trans ?_
  rw [grad_at, same4]; rfl

/-- The kernel runs, its four results functions of its arguments, its arguments unchanged. -/
theorem run (ρ : Dev nD → PrngReg) : θ_run defs (onTc (τ := τ) (main (F := F))) ⟨m, fun _ => 0, ρ⟩ fun r => ∀ c : Dev nD,
      r.2.mem ((c : Thread nD τ).loc main_v0_0) = grads m c
      ∧ r.2.mem ((c : Thread nD τ).loc main_v0_1)
        = Adam.steps (grads m c) (m ((c : Thread nD τ).loc main_arg2)) (m ((c : Thread nD τ).loc main_arg3)) (m ((c : Thread nD τ).loc main_arg4))
      ∧ r.2.mem ((c : Thread nD τ).loc main_v0_2) = Adam.firsts (grads m c) (m ((c : Thread nD τ).loc main_arg3))
      ∧ r.2.mem ((c : Thread nD τ).loc main_v0_3) = Adam.seconds (grads m c) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2.1.trans (final7 m c),
    (h c).2.2.2.1.trans (final8 m c), (h c).2.2.2.2⟩) (run_blocks m ρ)

end Kernel

section Reference

open Cert.AdamDownRefIdeal Cert.AdamDownRefIdeal.Gen

variable (m : (ℓ : Loc nD τ sig) → Buf (Elt Ideal) ℓ) (c : Dev nD)

/-- The reference's gradients. -/
def refGrads : FVec Ideal S2x352x1024 .f32 :=
  Adam.grads2 (F := Ideal) (wide (F := Ideal)) (m ((c.tc : Thread nD τ).loc main_arg0)) (m ((c.tc : Thread nD τ).loc main_arg1))

/-- The reference runs, its four results the same functions of its arguments, its arguments unchanged. -/
theorem ref_run (ρ : Dev nD → PrngReg) : θ_run defs (onTc (τ := τ) (main (F := Ideal))) ⟨m, fun _ => 0, ρ⟩ fun r => ∀ c : Dev nD,
      r.2.mem ((c.tc : Thread nD τ).loc main_v6) = refGrads m c
      ∧ r.2.mem ((c.tc : Thread nD τ).loc main_v30)
        = Adam.steps (refGrads m c) (m ((c.tc : Thread nD τ).loc main_arg2)) (m ((c.tc : Thread nD τ).loc main_arg3)) (m ((c.tc : Thread nD τ).loc main_arg4))
      ∧ r.2.mem ((c.tc : Thread nD τ).loc main_v11) = Adam.firsts (refGrads m c) (m ((c.tc : Thread nD τ).loc main_arg3))
      ∧ r.2.mem ((c.tc : Thread nD τ).loc main_v17) = Adam.seconds (refGrads m c) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.AdamDownRefIdeal.Value.run m ρ)
  have hg := Adam.grads2_eq (wide (F := Ideal)) reducesTo_S8x352x1024_S352x1024_d0 h_S_ bcast_S352x1024_S1x352x1024_1_2
    (m ((c.tc : Thread nD τ).loc main_arg0)) (m ((c.tc : Thread nD τ).loc main_arg1)) concatenates_S1x352x1024_S1x352x1024_S2x352x1024_d0
  obtain ⟨h0, h1, h2, h3, h4⟩ := h c
  refine ⟨h0.trans hg, h1.trans ?_, h2.trans ?_, h3.trans ?_, h4⟩
  · rw [← Adam.steps_eq bcast_S_S2x352x1024, ← Adam.firsts_eq bcast_S_S2x352x1024, ← Adam.seconds_eq bcast_S_S2x352x1024, refGrads, ← hg]; rfl
  · rw [← Adam.firsts_eq bcast_S_S2x352x1024, refGrads, ← hg]; rfl
  · rw [← Adam.seconds_eq bcast_S_S2x352x1024, refGrads, ← hg]; rfl

end Reference

end AdamDown

end
-- ==== Proof.AdamConvValue.lean ====
/- The AdamW step of the convolutions: the kernel's four results as functions of its arguments, and the reference's. -/
module

public import proofs.«01_k».proof.Proof.Adam
public import proofs.«01_k».proof.Proof.Gen.AdamConvIdeal.Value
public import proofs.«01_k».proof.Proof.Gen.AdamConvRefIdeal.Run

@[expose] public section

noncomputable section

namespace AdamConv

open Idealize.ShloMosaic Idealize.ShloMosaic.TcCoe Idealize.SL.Sem

section Kernel

open Cert.AdamConvIdeal Cert.AdamConvIdeal.Gen Cert.AdamConvIdeal.Value

variable {F : FTy → Type} [FloatOps F]
variable (m : (ℓ : Loc nD τ sig) → Buf (Elt F) ℓ) (c : Dev nD)

/-- How a partial gradient is widened. -/
def wide : F .f32 → F .f32 := fun x => x

/-! ## What a block computes -/

theorem pay_sum (L : FVec F S8x3x768 .f32) {x0 x1 x2 x3 x4 x5 x6 x7 : FVec F S1x3x768 .f32}
    (h0 : ∀ y, x0 y = L (ix3 0 (y 1) (y 2))) (h1 : ∀ y, x1 y = L (ix3 1 (y 1) (y 2))) (h2 : ∀ y, x2 y = L (ix3 2 (y 1) (y 2)))
    (h3 : ∀ y, x3 y = L (ix3 3 (y 1) (y 2))) (h4 : ∀ y, x4 y = L (ix3 4 (y 1) (y 2))) (h5 : ∀ y, x5 y = L (ix3 5 (y 1) (y 2)))
    (h6 : ∀ y, x6 y = L (ix3 6 (y 1) (y 2))) (h7 : ∀ y, x7 y = L (ix3 7 (y 1) (y 2))) (y : S1x3x768.Idx) :
    k0_pay2 x0 x1 x2 x3 x4 x5 x6 x7 y = Adam.total wide L (y 1) (y 2) :=
  Adam.sumBlock_apply shapeCasts_S1x3x768_S3x768 shapeCasts_S3x768_S1x3x768 wide L h0 h1 h2 h3 h4 h5 h6 h7 y

theorem pay_first (g x : FVec F S1x3x768 .f32) (y : S1x3x768.Idx) : k0_pay7 g x y = Adam.first (g y) (x y) :=
  Adam.firstBlock_apply shapeCasts_S1x3x768_S3x768 shapeCasts_S3x768_S1x3x768 g x y

theorem pay_second (g x : FVec F S1x3x768 .f32) (y : S1x3x768.Idx) : k0_pay8 g x y = Adam.second (g y) (x y) :=
  Adam.secondBlock_apply shapeCasts_S1x3x768_S3x768 shapeCasts_S3x768_S1x3x768 g x y

theorem pay_step (g w x v : FVec F S1x3x768 .f32) (y : S1x3x768.Idx) :
    k0_pay1 (k0_pay5 g x) (k0_pay6 g v) k0_pay9 w y = Adam.step (g y) (w y) (x y) (v y) :=
  Adam.stepBlock_apply shapeCasts_S1x3x768_S3x768 shapeCasts_S3x768_S1x3x768 g w x v y

/-! ## Where a block is -/

theorem at0 : ∀ t : Fin cfg0.N, t.val % 2 = 0 → win0_0.index t = win0_5.index t :=
  (by decide +kernel : ∀ t : Fin grid0.N, t.val % 2 = 0 → win0_0.index t = win0_5.index t)
theorem at1 : ∀ t : Fin cfg0.N, t.val % 2 = 1 → win0_1.index t = ![0, win0_5.index t 1, win0_5.index t 2] :=
  (by decide +kernel : ∀ t : Fin grid0.N, t.val % 2 = 1 → win0_1.index t = ![0, win0_5.index t 1, win0_5.index t 2])
theorem layer : ∀ t : Fin cfg0.N, (win0_5.index t 0 = if t.val % 2 = 0 then 0 else 1) ∧ win0_5.index t 2 = 0 :=
  (by decide +kernel : ∀ t : Fin grid0.N, (win0_5.index t 0 = if t.val % 2 = 0 then 0 else 1) ∧ win0_5.index t 2 = 0)

/-- The gradients. -/
def grads (m : (ℓ : Loc nD τ sig) → Buf (Elt F) ℓ) (c : Dev nD) : FVec F S2x3x768 .f32 :=
  Adam.grads2 wide (m ((c : Thread nD τ).loc main_arg0)) (m ((c : Thread nD τ).loc main_arg1))

/-- The place in the whole arrays of a place in block `t`. -/
abbrev place (t : Fin cfg0.N) (y : S1x3x768.Idx) : S2x3x768.Idx := ((cfg0.win 5).blk t).view.emb y

theorem place_val (t : Fin cfg0.N) (y : S1x3x768.Idx) :
    (place t y 0).val = (if t.val % 2 = 0 then 0 else 1) ∧ (place t y 1).val = win0_5.index t 1 * 3 + (y 1).val ∧ (place t y 2).val = (y 2).val := by
  have hl := layer t
  have h0 : (y 0).val = 0 := Nat.lt_one_iff.mp (y 0).isLt
  refine ⟨?_, ?_, ?_⟩
  · show ((((cfg0.win 5).blk t).view.emb y 0 : Fin _) : ℕ) = _
    blk_simp [hl.1]
  · show ((((cfg0.win 5).blk t).view.emb y 1 : Fin _) : ℕ) = _
    blk_simp
  · show ((((cfg0.win 5).blk t).view.emb y 2 : Fin _) : ℕ) = _
    blk_simp [hl.2]

theorem same2 (t : Fin cfg0.N) (y : S1x3x768.Idx) : iblk m c 2 t y = m ((c : Thread nD τ).loc main_arg2) (place t y) := by
  rw [← V_main_arg2 m c]; rfl
theorem same3 (t : Fin cfg0.N) (y : S1x3x768.Idx) : iblk m c 3 t y = m ((c : Thread nD τ).loc main_arg3) (place t y) := by
  rw [← V_main_arg3 m c]; rfl
theorem same4 (t : Fin cfg0.N) (y : S1x3x768.Idx) : iblk m c 4 t y = m ((c : Thread nD τ).loc main_arg4) (place t y) := by
  rw [← V_main_arg4 m c]; rfl

theorem land0 (t : Fin cfg0.N) (h : t.val % 2 = 0) (k : Fin 8) (y : S1x3x768.Idx) :
    iblk m c 0 t (ix3 k (y 1) (y 2)) = m ((c : Thread nD τ).loc main_arg0) (ix3 k (place t y 1) (place t y 2)) := by
  rw [← V_main_arg0 m c]
  have hp := place_val t y
  have hl := layer t
  blk_simp [iblk]
  refine congrArg _ (funext fun a => Fin.ext ?_)
  match a with
  | 0 => blk_simp [at0 t h, hl.1, if_pos h]
  | 1 => blk_simp [at0 t h]; exact hp.2.1.symm
  | 2 => blk_simp [at0 t h, hl.2]; exact hp.2.2.symm

theorem land1 (t : Fin cfg0.N) (h : ¬t.val % 2 = 0) (k : Fin 8) (y : S1x3x768.Idx) :
    iblk m c 1 t (ix3 k (y 1) (y 2)) = m ((c : Thread nD τ).loc main_arg1) (ix3 k (place t y 1) (place t y 2)) := by
  rw [← V_main_arg1 m c]
  have hp := place_val t y
  have hl := layer t
  have ha := at1 t (by omega)
  blk_simp [iblk]
  refine congrArg _ (funext fun a => Fin.ext ?_)
  match a with
  | 0 => blk_simp [ha]
  | 1 => blk_simp [ha]; exact hp.2.1.symm
  | 2 => blk_simp [ha, hl.2]; exact hp.2.2.symm

/-- At every point the first output's block is the gradients' block. -/
theorem grad_at (t : Fin cfg0.N) (y : S1x3x768.Idx) : (outsAt0 m c t.val t.isLt).1 y = grads m c (place t y) := by
  have hp := place_val t y
  by_cases h : t.val % 2 = 0
  · rw [outsAt0_A m c t h (by omega)]
    frame_out
    refine (pay_sum (iblk m c 0 t) (Adam.slab_load _ 0 _ rfl _) (Adam.slab_load _ 1 _ rfl _) (Adam.slab_load _ 2 _ rfl _) (Adam.slab_load _ 3 _ rfl _)
      (Adam.slab_load _ 4 _ rfl _) (Adam.slab_load _ 5 _ rfl _) (Adam.slab_load _ 6 _ rfl _) (Adam.slab_load _ 7 _ rfl _) y).trans ?_
    refine Eq.trans (Adam.total_congr wide _ _ _ _ _ _ fun k => land0 m c t h k y) (if_pos ?_).symm
    rw [hp.1, if_pos h]; exact Nat.one_pos
  · rw [outsAt0_B m c t h (by omega)]
    frame_out
    refine (pay_sum (iblk m c 1 t) (Adam.slab_load _ 0 _ rfl _) (Adam.slab_load _ 1 _ rfl _) (Adam.slab_load _ 2 _ rfl _) (Adam.slab_load _ 3 _ rfl _)
      (Adam.slab_load _ 4 _ rfl _) (Adam.slab_load _ 5 _ rfl _) (Adam.slab_load _ 6 _ rfl _) (Adam.slab_load _ 7 _ rfl _) y).trans ?_
    refine Eq.trans (Adam.total_congr wide _ _ _ _ _ _ fun k => land1 m c t h k y) (if_neg ?_).symm
    rw [hp.1, if_neg h]; exact Nat.lt_irrefl 1

/-- At every point the other outputs' blocks, from the first one's. -/
theorem others_at (t : Fin cfg0.N) (y : S1x3x768.Idx) :
    (outsAt0 m c t.val t.isLt).2.1 y = Adam.step ((outsAt0 m c t.val t.isLt).1 y) (iblk m c 2 t y) (iblk m c 3 t y) (iblk m c 4 t y)
    ∧ (outsAt0 m c t.val t.isLt).2.2.1 y = Adam.first ((outsAt0 m c t.val t.isLt).1 y) (iblk m c 3 t y)
    ∧ (outsAt0 m c t.val t.isLt).2.2.2 y = Adam.second ((outsAt0 m c t.val t.isLt).1 y) (iblk m c 4 t y) := by
  by_cases h : t.val % 2 = 0
  · rw [outsAt0_A m c t h (by omega)]
    refine ⟨?_, ?_, ?_⟩
    · frame_out; exact pay_step _ _ _ _ y
    · frame_out; exact pay_first _ _ y
    · frame_out; exact pay_second _ _ y
  · rw [outsAt0_B m c t h (by omega)]
    refine ⟨?_, ?_, ?_⟩
    · frame_out; exact pay_step _ _ _ _ y
    · frame_out; exact pay_first _ _ y
    · frame_out; exact pay_second _ _ y

/-! ## The arrays -/

theorem final5 : (dats m 0 c).arrAt 5 cfg0.N = grads m c := by
  refine (dats m 0 c).arrAt_eq_of_covers 5 _ (by decide +kernel) fun t hf y => ?_
  blk_simp
  rw [after0_5]
  exact grad_at m c t y

theorem final6 : (dats m 0 c).arrAt 6 cfg0.N = Adam.steps (grads m c) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  refine (others_at m c t y).1.trans ?_
  rw [grad_at, same2, same3, same4]; rfl

theorem final7 : (dats m 0 c).arrAt 7 cfg0.N = Adam.firsts (grads m c) (m ((c : Thread nD τ).loc main_arg3)) := by
  refine (dats m 0 c).arrAt_eq_of_covers 7 _ (by decide +kernel) fun t hf y => ?_
  blk_simp
  rw [after0_7]
  refine (others_at m c t y).2.1.trans ?_
  rw [grad_at, same3]; rfl

theorem final8 : (dats m 0 c).arrAt 8 cfg0.N = Adam.seconds (grads m c) (m ((c : Thread nD τ).loc main_arg4)) := by
  refine (dats m 0 c).arrAt_eq_of_covers 8 _ (by decide +kernel) fun t hf y => ?_
  blk_simp
  rw [after0_8]
  refine (others_at m c t y).2.2.trans ?_
  rw [grad_at, same4]; rfl

/-- The kernel runs, its four results functions of its arguments, its arguments unchanged. -/
theorem run (ρ : Dev nD → PrngReg) : θ_run defs (onTc (τ := τ) (main (F := F))) ⟨m, fun _ => 0, ρ⟩ fun r => ∀ c : Dev nD,
      r.2.mem ((c : Thread nD τ).loc main_v0_0) = grads m c
      ∧ r.2.mem ((c : Thread nD τ).loc main_v0_1)
        = Adam.steps (grads m c) (m ((c : Thread nD τ).loc main_arg2)) (m ((c : Thread nD τ).loc main_arg3)) (m ((c : Thread nD τ).loc main_arg4))
      ∧ r.2.mem ((c : Thread nD τ).loc main_v0_2) = Adam.firsts (grads m c) (m ((c : Thread nD τ).loc main_arg3))
      ∧ r.2.mem ((c : Thread nD τ).loc main_v0_3) = Adam.seconds (grads m c) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2.1.trans (final7 m c),
    (h c).2.2.2.1.trans (final8 m c), (h c).2.2.2.2⟩) (run_blocks m ρ)

end Kernel

section Reference

open Cert.AdamConvRefIdeal Cert.AdamConvRefIdeal.Gen

variable (m : (ℓ : Loc nD τ sig) → Buf (Elt Ideal) ℓ) (c : Dev nD)

/-- The reference's gradients. -/
def refGrads : FVec Ideal S2x3x768 .f32 :=
  Adam.grads2 (F := Ideal) (wide (F := Ideal)) (m ((c.tc : Thread nD τ).loc main_arg0)) (m ((c.tc : Thread nD τ).loc main_arg1))

/-- The reference runs, its four results the same functions of its arguments, its arguments unchanged. -/
theorem ref_run (ρ : Dev nD → PrngReg) : θ_run defs (onTc (τ := τ) (main (F := Ideal))) ⟨m, fun _ => 0, ρ⟩ fun r => ∀ c : Dev nD,
      r.2.mem ((c.tc : Thread nD τ).loc main_v4) = refGrads m c
      ∧ r.2.mem ((c.tc : Thread nD τ).loc main_v28)
        = Adam.steps (refGrads m c) (m ((c.tc : Thread nD τ).loc main_arg2)) (m ((c.tc : Thread nD τ).loc main_arg3)) (m ((c.tc : Thread nD τ).loc main_arg4))
      ∧ r.2.mem ((c.tc : Thread nD τ).loc main_v9) = Adam.firsts (refGrads m c) (m ((c.tc : Thread nD τ).loc main_arg3))
      ∧ r.2.mem ((c.tc : Thread nD τ).loc main_v15) = Adam.seconds (refGrads m c) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.AdamConvRefIdeal.Value.run m ρ)
  have hg := Adam.grads2_eq (wide (F := Ideal)) reducesTo_S8x3x768_S3x768_d0 h_S_ bcast_S3x768_S1x3x768_1_2
    (m ((c.tc : Thread nD τ).loc main_arg0)) (m ((c.tc : Thread nD τ).loc main_arg1)) concatenates_S1x3x768_S1x3x768_S2x3x768_d0
  obtain ⟨h0, h1, h2, h3, h4⟩ := h c
  refine ⟨h0.trans hg, h1.trans ?_, h2.trans ?_, h3.trans ?_, h4⟩
  · rw [← Adam.steps_eq bcast_S_S2x3x768, ← Adam.firsts_eq bcast_S_S2x3x768, ← Adam.seconds_eq bcast_S_S2x3x768, refGrads, ← hg]; rfl
  · rw [← Adam.firsts_eq bcast_S_S2x3x768, refGrads, ← hg]; rfl
  · rw [← Adam.seconds_eq bcast_S_S2x3x768, refGrads, ← hg]; rfl

end Reference

end AdamConv

end
-- ==== Proof.AdamGainsValue.lean ====
/- The AdamW step of the norm gains: the kernel's four results as functions of its arguments, and the reference's. -/
module

public import proofs.«01_k».proof.Proof.Adam
public import proofs.«01_k».proof.Proof.Gen.AdamGainsIdeal.Value
public import proofs.«01_k».proof.Proof.Gen.AdamGainsRefIdeal.Run

@[expose] public section

noncomputable section

namespace AdamGains

open Idealize.ShloMosaic Idealize.ShloMosaic.TcCoe Idealize.SL.Sem

section Kernel

open Cert.AdamGainsIdeal Cert.AdamGainsIdeal.Gen Cert.AdamGainsIdeal.Value

variable {F : FTy → Type} [FloatOps F]
variable (m : (ℓ : Loc nD τ sig) → Buf (Elt F) ℓ) (c : Dev nD)

/-- How a partial gradient is widened. -/
def wide : F .f32 → F .f32 := fun x => x

/-! ## What a block computes -/

theorem pay_sum (L : FVec F S8x8x1024 .f32) {x0 x1 x2 x3 x4 x5 x6 x7 : FVec F S1x8x1024 .f32}
    (h0 : ∀ y, x0 y = L (ix3 0 (y 1) (y 2))) (h1 : ∀ y, x1 y = L (ix3 1 (y 1) (y 2))) (h2 : ∀ y, x2 y = L (ix3 2 (y 1) (y 2)))
    (h3 : ∀ y, x3 y = L (ix3 3 (y 1) (y 2))) (h4 : ∀ y, x4 y = L (ix3 4 (y 1) (y 2))) (h5 : ∀ y, x5 y = L (ix3 5 (y 1) (y 2)))
    (h6 : ∀ y, x6 y = L (ix3 6 (y 1) (y 2))) (h7 : ∀ y, x7 y = L (ix3 7 (y 1) (y 2))) (y : S1x8x1024.Idx) :
    k0_pay2 x0 x1 x2 x3 x4 x5 x6 x7 y = Adam.total wide L (y 1) (y 2) :=
  Adam.sumBlock_apply shapeCasts_S1x8x1024_S8x1024 shapeCasts_S8x1024_S1x8x1024 wide L h0 h1 h2 h3 h4 h5 h6 h7 y

theorem pay_first (g x : FVec F S1x8x1024 .f32) (y : S1x8x1024.Idx) : k0_pay6 g x y = Adam.first (g y) (x y) :=
  Adam.firstBlock_apply shapeCasts_S1x8x1024_S8x1024 shapeCasts_S8x1024_S1x8x1024 g x y

theorem pay_second (g x : FVec F S1x8x1024 .f32) (y : S1x8x1024.Idx) : k0_pay7 g x y = Adam.second (g y) (x y) :=
  Adam.secondBlock_apply shapeCasts_S1x8x1024_S8x1024 shapeCasts_S8x1024_S1x8x1024 g x y

theorem pay_step (g w x v : FVec F S1x8x1024 .f32) (y : S1x8x1024.Idx) :
    k0_pay1 (k0_pay8 g x) (k0_pay9 g v) (Scalar.ofBits .f32 0x322BCC77#32) w y = Adam.step (g y) (w y) (x y) (v y) :=
  Adam.stepBlock_apply shapeCasts_S1x8x1024_S8x1024 shapeCasts_S8x1024_S1x8x1024 g w x v y

/-! ## Where a block is -/

theorem at0 : ∀ t : Fin cfg0.N, win0_0.index t = fun _ => 0 := (by decide +kernel : ∀ t : Fin grid0.N, win0_0.index t = fun _ => 0)
theorem at4 : ∀ t : Fin cfg0.N, win0_4.index t = fun _ => 0 := (by decide +kernel : ∀ t : Fin grid0.N, win0_4.index t = fun _ => 0)

/-- The gradients. -/
def grads (m : (ℓ : Loc nD τ sig) → Buf (Elt F) ℓ) (c : Dev nD) : FVec F S1x8x1024 .f32 :=
  Adam.grads1 wide (m ((c : Thread nD τ).loc main_arg0))

/-- The place in the whole arrays of a place in block `t`. -/
abbrev place (t : Fin cfg0.N) (y : S1x8x1024.Idx) : S1x8x1024.Idx := ((cfg0.win 4).blk t).view.emb y

theorem place_val (t : Fin cfg0.N) (y : S1x8x1024.Idx) :
    (place t y 0).val = 0 ∧ (place t y 1).val = (y 1).val ∧ (place t y 2).val = (y 2).val := by
  refine ⟨?_, ?_, ?_⟩
  · exact Nat.lt_one_iff.mp (place t y 0).isLt
  · show ((((cfg0.win 4).blk t).view.emb y 1 : Fin _) : ℕ) = _
    blk_simp [at4]
  · show ((((cfg0.win 4).blk t).view.emb y 2 : Fin _) : ℕ) = _
    blk_simp [at4]

theorem same1 (t : Fin cfg0.N) (y : S1x8x1024.Idx) : iblk m c 1 t y = m ((c : Thread nD τ).loc main_arg1) (place t y) := by
  rw [← V_main_arg1 m c]; rfl
theorem same2 (t : Fin cfg0.N) (y : S1x8x1024.Idx) : iblk m c 2 t y = m ((c : Thread nD τ).loc main_arg2) (place t y) := by
  rw [← V_main_arg2 m c]; rfl
theorem same3 (t : Fin cfg0.N) (y : S1x8x1024.Idx) : iblk m c 3 t y = m ((c : Thread nD τ).loc main_arg3) (place t y) := by
  rw [← V_main_arg3 m c]; rfl

theorem land0 (t : Fin cfg0.N) (k : Fin 8) (y : S1x8x1024.Idx) :
    iblk m c 0 t (ix3 k (y 1) (y 2)) = m ((c : Thread nD τ).loc main_arg0) (ix3 k (place t y 1) (place t y 2)) := by
  rw [← V_main_arg0 m c]
  have hp := place_val t y
  blk_simp [iblk]
  refine congrArg _ (funext fun a => Fin.ext ?_)
  match a with
  | 0 => blk_simp [at0 t]
  | 1 => blk_simp [at0 t]; exact hp.2.1.symm
  | 2 => blk_simp [at0 t]; exact hp.2.2.symm

/-- At the one point the first output's block is the gradients' block. -/
theorem grad_at (t : Fin cfg0.N) (y : S1x8x1024.Idx) : (outsAt0 m c t).1 y = grads m c (place t y) := by
  unfold outsAt0
  frame_out
  exact (pay_sum (iblk m c 0 t) (Adam.slab_load _ 0 _ rfl _) (Adam.slab_load _ 1 _ rfl _) (Adam.slab_load _ 2 _ rfl _) (Adam.slab_load _ 3 _ rfl _)
    (Adam.slab_load _ 4 _ rfl _) (Adam.slab_load _ 5 _ rfl _) (Adam.slab_load _ 6 _ rfl _) (Adam.slab_load _ 7 _ rfl _) y).trans
    (Adam.total_congr wide _ _ _ _ _ _ fun k => land0 m c t k y)

/-- At the one point the other outputs' blocks, from the first one's. -/
theorem others_at (t : Fin cfg0.N) (y : S1x8x1024.Idx) :
    (outsAt0 m c t).2.1 y = Adam.step ((outsAt0 m c t).1 y) (iblk m c 1 t y) (iblk m c 2 t y) (iblk m c 3 t y)
    ∧ (outsAt0 m c t).2.2.1 y = Adam.first ((outsAt0 m c t).1 y) (iblk m c 2 t y)
    ∧ (outsAt0 m c t).2.2.2 y = Adam.second ((outsAt0 m c t).1 y) (iblk m c 3 t y) := by
  unfold outsAt0
  refine ⟨?_, ?_, ?_⟩
  · frame_out; exact pay_step _ _ _ _ y
  · frame_out; exact pay_first _ _ y
  · frame_out; exact pay_second _ _ y

/-! ## The arrays -/

theorem final4 : (dats m 0 c).arrAt 4 cfg0.N = grads m c := by
  refine (dats m 0 c).arrAt_eq_of_covers 4 _ (by decide +kernel) fun t hf y => ?_
  blk_simp
  rw [after0_4]
  exact grad_at m c t y

theorem final5 : (dats m 0 c).arrAt 5 cfg0.N = Adam.steps (grads m c) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  refine (others_at m c t y).1.trans ?_
  rw [grad_at, same1, same2, same3]; rfl

theorem final6 : (dats m 0 c).arrAt 6 cfg0.N = Adam.firsts (grads m c) (m ((c : Thread nD τ).loc main_arg2)) := by
  refine (dats m 0 c).arrAt_eq_of_covers 6 _ (by decide +kernel) fun t hf y => ?_
  blk_simp
  rw [after0_6]
  refine (others_at m c t y).2.1.trans ?_
  rw [grad_at, same2]; rfl

theorem final7 : (dats m 0 c).arrAt 7 cfg0.N = Adam.seconds (grads m c) (m ((c : Thread nD τ).loc main_arg3)) := by
  refine (dats m 0 c).arrAt_eq_of_covers 7 _ (by decide +kernel) fun t hf y => ?_
  blk_simp
  rw [after0_7]
  refine (others_at m c t y).2.2.trans ?_
  rw [grad_at, same3]; rfl

/-- The kernel runs, its four results functions of its arguments, its arguments unchanged. -/
theorem run (ρ : Dev nD → PrngReg) : θ_run defs (onTc (τ := τ) (main (F := F))) ⟨m, fun _ => 0, ρ⟩ fun r => ∀ c : Dev nD,
      r.2.mem ((c : Thread nD τ).loc main_v0_0) = grads m c
      ∧ r.2.mem ((c : Thread nD τ).loc main_v0_1)
        = Adam.steps (grads m c) (m ((c : Thread nD τ).loc main_arg1)) (m ((c : Thread nD τ).loc main_arg2)) (m ((c : Thread nD τ).loc main_arg3))
      ∧ r.2.mem ((c : Thread nD τ).loc main_v0_2) = Adam.firsts (grads m c) (m ((c : Thread nD τ).loc main_arg2))
      ∧ r.2.mem ((c : Thread nD τ).loc main_v0_3) = Adam.seconds (grads m c) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c),
    (h c).2.2.2.1.trans (final7 m c), (h c).2.2.2.2⟩) (run_blocks m ρ)

end Kernel

section Reference

open Cert.AdamGainsRefIdeal Cert.AdamGainsRefIdeal.Gen

variable (m : (ℓ : Loc nD τ sig) → Buf (Elt Ideal) ℓ) (c : Dev nD)

/-- The reference's gradients. -/
def refGrads : FVec Ideal S1x8x1024 .f32 :=
  Adam.grads1 (F := Ideal) (wide (F := Ideal)) (m ((c.tc : Thread nD τ).loc main_arg0))

/-- The reference runs, its four results the same functions of its arguments, its arguments unchanged. -/
theorem ref_run (ρ : Dev nD → PrngReg) : θ_run defs (onTc (τ := τ) (main (F := Ideal))) ⟨m, fun _ => 0, ρ⟩ fun r => ∀ c : Dev nD,
      r.2.mem ((c.tc : Thread nD τ).loc main_v1) = refGrads m c
      ∧ r.2.mem ((c.tc : Thread nD τ).loc main_v25)
        = Adam.steps (refGrads m c) (m ((c.tc : Thread nD τ).loc main_arg1)) (m ((c.tc : Thread nD τ).loc main_arg2)) (m ((c.tc : Thread nD τ).loc main_arg3))
      ∧ r.2.mem ((c.tc : Thread nD τ).loc main_v6) = Adam.firsts (refGrads m c) (m ((c.tc : Thread nD τ).loc main_arg2))
      ∧ r.2.mem ((c.tc : Thread nD τ).loc main_v12) = Adam.seconds (refGrads m c) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.AdamGainsRefIdeal.Value.run m ρ)
  have hg := Adam.grads1_eq (wide (F := Ideal)) reducesTo_S8x8x1024_S8x1024_d0 h_S_ bcast_S8x1024_S1x8x1024_1_2
    (m ((c.tc : Thread nD τ).loc main_arg0))
  obtain ⟨h0, h1, h2, h3, h4⟩ := h c
  refine ⟨h0.trans hg, h1.trans ?_, h2.trans ?_, h3.trans ?_, h4⟩
  · rw [← Adam.steps_eq bcast_S_S1x8x1024, ← Adam.firsts_eq bcast_S_S1x8x1024, ← Adam.seconds_eq bcast_S_S1x8x1024, refGrads, ← hg]; rfl
  · rw [← Adam.firsts_eq bcast_S_S1x8x1024, refGrads, ← hg]; rfl
  · rw [← Adam.seconds_eq bcast_S_S1x8x1024, refGrads, ← hg]; rfl

end Reference

end AdamGains

end
-- ==== Proof.NormGrad.lean ====
/- The gradient through a root-mean-square norm, over the extended reals: the form that keeps the normalised row, and the one
   that differentiates the norm's operations one by one, are the same function of the row, of the gradient and of the gain. -/
module

public import Idealize.ShloMosaic.PureOps.Ideal.Laws
public import Idealize.ShloMosaic.Lib.Pointwise

@[expose] public section

noncomputable section

namespace NormGrad

open Idealize.ShloMosaic
open scoped BigOperators

variable {n : ℕ}

/-! ## The constants -/

/-- The width of a row, as both programs write it. -/
abbrev width : EReal := Ideal.ofBits .f32 0x44800000#32
/-- What is added to the mean of the squares, as both programs write it. -/
abbrev eps : EReal := Ideal.ofBits .f32 0x358637BD#32
/-- The reference's minus one half. -/
abbrev minusHalf : EReal := Ideal.ofBits .f32 0xBF000000#32

theorem width_eq : width = ((1024 : ℝ) : EReal) := by
  simp [Ideal.ofBits, Ideal.ieee, -EReal.coe_mul]; norm_num

theorem minusHalf_eq : minusHalf = ((-(1 / 2) : ℝ) : EReal) := by
  simp [Ideal.ofBits, Ideal.ieee, -EReal.coe_mul, -EReal.coe_neg]; norm_num

theorem eps_eq : ∃ e : ℝ, 0 < e ∧ eps = (e : EReal) := by
  refine ⟨8796093 * (2 : ℝ) ^ (-43 : ℤ), by positivity, ?_⟩
  simp [Ideal.ofBits, Ideal.ieee, -EReal.coe_mul]

/-- Division by the width is a product. -/
theorem div_width (a : EReal) : Ideal.div a width = a * ((1 / 1024 : ℝ) : EReal) := by
  rw [width_eq, Ideal.div, if_neg (by rw [← EReal.coe_zero, EReal.coe_eq_coe_iff]; norm_num), ← EReal.coe_inv, one_div]

/-! ## The norm's factor -/

/-- The mean of a row's squares, and a little more. -/
def meanSquare (x : Fin n → EReal) : EReal := Ideal.div (∑ k, x k * x k) width + eps

/-- What a row is multiplied by. -/
def factor (x : Fin n → EReal) : EReal := Ideal.rsqrt (meanSquare x)

theorem square_nonneg (a : EReal) : 0 ≤ a * a := by
  rw [EReal.mul_nonneg_iff]
  exact (le_total 0 a).imp (fun h => ⟨h, h⟩) fun h => ⟨h, h⟩

theorem meanSquare_cases (x : Fin n → EReal) : meanSquare x = ⊤ ∨ ∃ v : ℝ, 0 < v ∧ meanSquare x = (v : EReal) := by
  obtain ⟨e, he, hs⟩ := eps_eq
  have h : (0 : EReal) ≤ Ideal.div (∑ k, x k * x k) width := by
    rw [div_width]
    exact EReal.mul_nonneg (Finset.sum_nonneg fun k _ => square_nonneg _) (EReal.coe_nonneg.mpr (by norm_num))
  unfold meanSquare
  rw [hs]
  generalize Ideal.div (∑ k, x k * x k) width = a at h
  induction a with
  | bot => exact absurd h (by simp)
  | top => exact .inl (EReal.top_add_coe e)
  | coe a => exact .inr ⟨a + e, add_pos_of_nonneg_of_pos (EReal.coe_nonneg.mp h) he, (EReal.coe_add a e).symm⟩

/-- The factor is zero, or a real; the reference's quotient is its cube. -/
theorem factor_cases (x : Fin n → EReal) :
    (factor x = 0 ∧ Ideal.div (factor x) (meanSquare x) = 0)
    ∨ ∃ r : ℝ, 0 ≤ r ∧ factor x = (r : EReal) ∧ Ideal.div (factor x) (meanSquare x) = ((r * r * r : ℝ) : EReal) := by
  rcases meanSquare_cases x with h | ⟨v, hv, h⟩
  · refine .inl ⟨by rw [factor, h]; rfl, ?_⟩
    rw [factor, h, Ideal.rsqrt_top, Ideal.div, if_neg (by simp), zero_mul]
  · have hr : factor x = (((Real.sqrt v)⁻¹ : ℝ) : EReal) := by
      rw [factor, h, Ideal.rsqrt_coe, if_neg (not_lt.mpr hv.le), if_neg hv.ne']
    refine .inr ⟨(Real.sqrt v)⁻¹, inv_nonneg.mpr (Real.sqrt_nonneg v), hr, ?_⟩
    rw [hr, h, Ideal.div, if_neg (by rw [← EReal.coe_zero, EReal.coe_eq_coe_iff]; exact hv.ne'), ← EReal.coe_inv, ← EReal.coe_mul]
    congr 1
    have hi : v⁻¹ = (Real.sqrt v)⁻¹ * (Real.sqrt v)⁻¹ := by rw [← mul_inv, Real.mul_self_sqrt hv.le]
    rw [hi, mul_assoc]

/-! ## The two forms -/

/-- The gradient with the normalised row kept. -/
def kept (x d g : Fin n → EReal) (j : Fin n) : EReal :=
  factor x * (d j * g j - x j * factor x * Ideal.div (∑ k, d k * g k * (x k * factor x)) width)

/-- What the square's two operands share, operation by operation. -/
def shared (x d g : Fin n → EReal) : EReal :=
  Ideal.div ((∑ k, x k * (d k * g k)) * (minusHalf * Ideal.div (factor x) (meanSquare x))) width

/-- The gradient, operation by operation. -/
def stepwise (x d g : Fin n → EReal) (j : Fin n) : EReal :=
  d j * g j * factor x + x j * shared x d g + shared x d g * x j

/-- A sum of products with a nonnegative real comes out of the sum. -/
theorem sum_mul_real {r : ℝ} (hr : 0 ≤ r) (f : Fin n → EReal) : ∑ k, f k * (r : EReal) = (∑ k, f k) * (r : EReal) := by
  have h (s : Finset (Fin n)) : ∑ k ∈ s, f k * (r : EReal) = (∑ k ∈ s, f k) * (r : EReal) := by
    induction s using Finset.induction_on with
    | empty => simp
    | insert a s ha ih =>
      rw [Finset.sum_insert ha, Finset.sum_insert ha, ih]
      exact (EReal.right_distrib_of_nonneg_of_ne_top (EReal.coe_nonneg.mpr hr) (EReal.coe_ne_top r) _ _).symm
  exact h _

theorem kept_eq_stepwise (x d g : Fin n → EReal) (j : Fin n) : kept x d g j = stepwise x d g j := by
  unfold kept stepwise shared
  rw [div_width, div_width, minusHalf_eq]
  rcases factor_cases x with ⟨h0, hq⟩ | ⟨r, hr, h, hq⟩
  · rw [hq, h0]; simp
  · rw [hq, h]
    have hs : ∑ k, d k * g k * (x k * (r : EReal)) = (∑ k, x k * (d k * g k)) * (r : EReal) := by
      rw [← sum_mul_real hr]
      exact Finset.sum_congr rfl fun k _ => by rw [← mul_assoc, mul_comm (d k * g k)]
    rw [hs]
    generalize ∑ k, x k * (d k * g k) = S
    generalize d j * g j = D
    generalize x j = X
    have hr' : (0 : EReal) ≤ (r : EReal) := EReal.coe_nonneg.mpr hr
    rw [sub_eq_add_neg, EReal.left_distrib_of_nonneg_of_ne_top hr' (EReal.coe_ne_top r), add_assoc, mul_comm (r : EReal) D]
    congr 1
    have hq : (0 : ℝ) ≤ 1 / 2 * (r * r * r) * (1 / 1024) := by positivity
    have e1 : S * (((-(1 / 2) : ℝ) : EReal) * ((r * r * r : ℝ) : EReal)) * ((1 / 1024 : ℝ) : EReal)
        = -(S * ((1 / 2 * (r * r * r) * (1 / 1024) : ℝ) : EReal)) := by
      rw [mul_assoc, ← EReal.coe_mul, ← EReal.coe_mul, ← mul_neg, ← EReal.coe_neg]
      congr 2; ring
    have e2 : (r : EReal) * -(X * (r : EReal) * (S * (r : EReal) * ((1 / 1024 : ℝ) : EReal)))
        = -(X * S) * ((1 / 2 * (r * r * r) * (1 / 1024) + 1 / 2 * (r * r * r) * (1 / 1024) : ℝ) : EReal) := by
      have : ((1 / 2 * (r * r * r) * (1 / 1024) + 1 / 2 * (r * r * r) * (1 / 1024) : ℝ) : EReal)
          = (r : EReal) * (r : EReal) * (r : EReal) * ((1 / 1024 : ℝ) : EReal) := by
        rw [← EReal.coe_mul, ← EReal.coe_mul, ← EReal.coe_mul]; congr 1; ring
      rw [this, mul_neg, neg_mul]
      congr 1
      ac_rfl
    rw [e1, e2, EReal.coe_add, EReal.left_distrib_of_nonneg (EReal.coe_nonneg.mpr hq) (EReal.coe_nonneg.mpr hq)]
    rw [mul_neg, mul_comm (-(S * _)) X, mul_neg, neg_mul, mul_assoc]

end NormGrad

end
-- ==== Proof.GradXValue.lean ====
/- The gradient through the first projection and its norm: the kernel's three results as functions of its arguments, and the
   reference's. -/
module

public import proofs.«01_k».proof.Proof.NormGrad
public import proofs.«01_k».proof.Proof.Adam
public import proofs.«01_k».proof.Proof.Gen.GradXIdeal.Value
public import proofs.«01_k».proof.Proof.Gen.GradXRefIdeal.Run

@[expose] public section

noncomputable section

namespace GradX

open Idealize.ShloMosaic Idealize.ShloMosaic.TcCoe Idealize.SL.Sem
open NormGrad
open scoped BigOperators

/-! ## The three results -/

/-- The gradient of the normalised rows: the projection's gradient times the transposed weights. -/
def hidden (P : FVec Ideal ⟨2, ![4096, 3072]⟩ .bf16) (W : FVec Ideal ⟨2, ![1024, 3072]⟩ .bf16) (i : Fin 4096) (l : Fin 1024) : EReal :=
  ∑ k : Fin 3072, P (ix2 i k) * W (ix2 l k)

/-- The gradient of the rows, the residual's added. -/
def grad (P : FVec Ideal ⟨2, ![4096, 3072]⟩ .bf16) (W : FVec Ideal ⟨2, ![1024, 3072]⟩ .bf16) (x : FVec Ideal ⟨2, ![4096, 1024]⟩ .f32)
    (g : FVec Ideal ⟨2, ![1, 1024]⟩ .f32) (d : FVec Ideal ⟨2, ![4096, 1024]⟩ .f32) : FVec Ideal ⟨2, ![4096, 1024]⟩ .f32 :=
  fun i => (kept (fun k => x (ix2 (i 0) k)) (fun k => hidden P W (i 0) k) (fun k => g (ix2 0 k)) (i 1) + d i : EReal)

/-- What one row adds to the gains' gradient. -/
def share (P : FVec Ideal ⟨2, ![4096, 3072]⟩ .bf16) (W : FVec Ideal ⟨2, ![1024, 3072]⟩ .bf16) (x : FVec Ideal ⟨2, ![4096, 1024]⟩ .f32)
    (r : Fin 4096) (l : Fin 1024) : EReal :=
  hidden P W r l * (x (ix2 r l) * factor fun k => x (ix2 r k))

/-- The gradient of the gains. -/
def gain (P : FVec Ideal ⟨2, ![4096, 3072]⟩ .bf16) (W : FVec Ideal ⟨2, ![1024, 3072]⟩ .bf16) (x : FVec Ideal ⟨2, ![4096, 1024]⟩ .f32) :
    FVec Ideal ⟨2, ![1, 1024]⟩ .f32 :=
  fun i => (∑ r : Fin 4096, share P W x r (i 1) : EReal)

section Kernel

open Cert.GradXIdeal Cert.GradXIdeal.Gen Cert.GradXIdeal.Value

/-! ## What a block computes -/

theorem pay_dot (a : FVec Ideal S512x3072 .bf16) (w : FVec Ideal S1024x3072 .bf16) (r : Fin 512) (l : Fin 1024) :
    (k0_pay2 (F := Ideal) a w (ix2 r l) : EReal) = ∑ k : Fin 3072, a (ix2 r k) * w (ix2 l k) := by
  pointwise [k0_pay2]

theorem pay_factor (x : FVec Ideal S512x1024 .f32) (r : Fin 512) (u : Fin 1) :
    (k0_pay3 (F := Ideal) x (ix2 r u) : EReal) = factor fun k => x (ix2 r k) := by
  pointwise [k0_pay3]
  rfl

theorem pay_row (x : FVec Ideal S512x1024 .f32) (r : Fin 512) (l : Fin 1024) :
    (k0_pay4 (F := Ideal) x (ix2 r l) : EReal) = x (ix2 r l) * factor fun k => x (ix2 r k) := by
  unfold k0_pay4
  pointwise
  rw [pay_factor]

theorem pay_grad (a : FVec Ideal S512x3072 .bf16) (w : FVec Ideal S1024x3072 .bf16) (x : FVec Ideal S512x1024 .f32)
    (g : FVec Ideal S1x1024 .f32) (d : FVec Ideal S512x1024 .f32) (r : Fin 512) (l : Fin 1024) :
    (k0_pay5 (F := Ideal) a w x g d (ix2 r l) : EReal)
      = kept (fun k => x (ix2 r k)) (fun k => k0_pay2 (F := Ideal) a w (ix2 r k)) (fun k => g (ix2 0 k)) l + d (ix2 r l) := by
  unfold k0_pay5
  pointwise
  simp only [pay_factor, pay_row]
  rfl

theorem pay_part (a : FVec Ideal S512x3072 .bf16) (w : FVec Ideal S1024x3072 .bf16) (x : FVec Ideal S512x1024 .f32) (u : Fin 1) (l : Fin 1024) :
    (k0_pay7 (F := Ideal) a w x (ix2 u l) : EReal) = ∑ r : Fin 512, k0_pay2 (F := Ideal) a w (ix2 r l) * (x (ix2 r l) * factor fun k => x (ix2 r k)) := by
  unfold k0_pay7
  pointwise
  simp only [pay_row]

/-! ## Where a block is -/

variable (m : (ℓ : Loc nD τ sig) → Buf (Elt Ideal) ℓ) (c : Dev nD)

/-- The row of the whole array at row `r` of block `t`. -/
def row (t : Fin cfg0.N) (r : Fin 512) : Fin 4096 := ⟨t.val * 512 + r.val, by have := t.isLt; have : cfg0.N = 8 := rfl; omega⟩

theorem index_rows : ∀ t : Fin cfg0.N, (win0_0.index t = ![t.val, 0] ∧ win0_2.index t = ![t.val, 0] ∧ win0_4.index t = ![t.val, 0])
    ∧ win0_5.index t = ![t.val, 0] ∧ win0_6.index t = ![t.val, 0] :=
  (by decide +kernel : ∀ t : Fin grid0.N, (win0_0.index t = ![t.val, 0] ∧ win0_2.index t = ![t.val, 0] ∧ win0_4.index t = ![t.val, 0])
    ∧ win0_5.index t = ![t.val, 0] ∧ win0_6.index t = ![t.val, 0])
theorem index_whole : ∀ t : Fin cfg0.N, win0_1.index t = ![0, 0] ∧ win0_3.index t = ![0, 0] ∧ win0_7.index t = ![0, 0] :=
  (by decide +kernel : ∀ t : Fin grid0.N, win0_1.index t = ![0, 0] ∧ win0_3.index t = ![0, 0] ∧ win0_7.index t = ![0, 0])

theorem rows0 (t : Fin cfg0.N) (r : Fin 512) (k : Fin 3072) :
    iblk m c 0 t (ix2 r k) = m ((c : Thread nD τ).loc main_arg0) (ix2 (row t r) k) := by
  rw [← V_main_arg0 m c]
  have h := index_rows t
  blk_simp [iblk]
  refine congrArg _ (funext fun a => Fin.ext ?_)
  match a with
  | 0 => blk_simp [h.1.1]; rfl
  | 1 => blk_simp [h.1.1]

theorem whole1 (t : Fin cfg0.N) (l : Fin 1024) (k : Fin 3072) :
    iblk m c 1 t (ix2 l k) = m ((c : Thread nD τ).loc main_arg1) (ix2 l k) := by
  rw [← V_main_arg1 m c]
  have h := index_whole t
  blk_simp [iblk]
  refine congrArg _ (funext fun a => Fin.ext ?_)
  match a with
  | 0 => blk_simp [h.1]
  | 1 => blk_simp [h.1]

theorem rows2 (t : Fin cfg0.N) (r : Fin 512) (l : Fin 1024) :
    iblk m c 2 t (ix2 r l) = m ((c : Thread nD τ).loc main_arg2) (ix2 (row t r) l) := by
  rw [← V_main_arg2 m c]
  have h := index_rows t
  blk_simp [iblk]
  refine congrArg _ (funext fun a => Fin.ext ?_)
  match a with
  | 0 => blk_simp [h.1.2.1]; rfl
  | 1 => blk_simp [h.1.2.1]

theorem whole3 (t : Fin cfg0.N) (u : Fin 1) (l : Fin 1024) :
    iblk m c 3 t (ix2 u l) = m ((c : Thread nD τ).loc main_arg3) (ix2 u l) := by
  rw [← V_main_arg3 m c]
  have h := index_whole t
  blk_simp [iblk]
  refine congrArg _ (funext fun a => Fin.ext ?_)
  match a with
  | 0 => blk_simp [h.2.1]
  | 1 => blk_simp [h.2.1]

theorem rows4 (t : Fin cfg0.N) (r : Fin 512) (l : Fin 1024) :
    iblk m c 4 t (ix2 r l) = m ((c : Thread nD τ).loc main_arg4) (ix2 (row t r) l) := by
  rw [← V_main_arg4 m c]
  have h := index_rows t
  blk_simp [iblk]
  refine congrArg _ (funext fun a => Fin.ext ?_)
  match a with
  | 0 => blk_simp [h.1.2.2]; rfl
  | 1 => blk_simp [h.1.2.2]

theorem hidden_at (t : Fin cfg0.N) (r : Fin 512) (l : Fin 1024) :
    (k0_pay2 (F := Ideal) (iblk m c 0 t) (iblk m c 1 t) (ix2 r l) : EReal)
      = hidden (m ((c : Thread nD τ).loc main_arg0)) (m ((c : Thread nD τ).loc main_arg1)) (row t r) l := by
  refine (pay_dot _ _ r l).trans (Finset.sum_congr rfl fun k _ => ?_)
  rw [rows0, whole1]

/-- What a block's rows add to the gains' gradient. -/
def part (t : Fin cfg0.N) (y : S1x1024.Idx) : EReal :=
  ∑ r : Fin 512, share (m ((c : Thread nD τ).loc main_arg0)) (m ((c : Thread nD τ).loc main_arg1)) (m ((c : Thread nD τ).loc main_arg2)) (row t r) (y 1)

theorem part_at (t : Fin cfg0.N) (y : S1x1024.Idx) :
    (k0_pay7 (F := Ideal) (iblk m c 0 t) (iblk m c 1 t) (iblk m c 2 t) y : EReal) = part m c t y := by
  have h (u : Fin 1) (l : Fin 1024) : (k0_pay7 (F := Ideal) (iblk m c 0 t) (iblk m c 1 t) (iblk m c 2 t) (ix2 u l) : EReal)
      = ∑ r : Fin 512, share (m ((c : Thread nD τ).loc main_arg0)) (m ((c : Thread nD τ).loc main_arg1)) (m ((c : Thread nD τ).loc main_arg2))
        (row t r) l := by
    refine (pay_part _ _ _ u l).trans (Finset.sum_congr rfl fun r _ => ?_)
    simp only [hidden_at, rows2]
    rfl
  exact (congrArg _ (eq_ix2 y)).trans (h (y 0) (y 1))

/-- The first result's block, at every point. -/
theorem grad_at (t : Fin cfg0.N) (r : Fin 512) (l : Fin 1024) :
    (outsAt0 m c t.val t.isLt).1 (ix2 r l)
      = grad (m ((c : Thread nD τ).loc main_arg0)) (m ((c : Thread nD τ).loc main_arg1)) (m ((c : Thread nD τ).loc main_arg2))
        (m ((c : Thread nD τ).loc main_arg3)) (m ((c : Thread nD τ).loc main_arg4)) (ix2 (row t r) l) := by
  have hp : (k0_pay5 (F := Ideal) (iblk m c 0 t) (iblk m c 1 t) (iblk m c 2 t) (iblk m c 3 t) (iblk m c 4 t) (ix2 r l) : EReal)
      = grad (m ((c : Thread nD τ).loc main_arg0)) (m ((c : Thread nD τ).loc main_arg1)) (m ((c : Thread nD τ).loc main_arg2))
        (m ((c : Thread nD τ).loc main_arg3)) (m ((c : Thread nD τ).loc main_arg4)) (ix2 (row t r) l) := by
    refine (pay_grad _ _ _ _ _ r l).trans ?_
    simp only [rows2, whole3, rows4, hidden_at]
    rfl
  by_cases h : t.val % 8 = 0
  · rw [outsAt0_A m c t h (by have := t.isLt; have : cfg0.N = 8 := rfl; omega)]
    frame_out; exact hp
  · rw [outsAt0_B m c t h (by omega)]
    frame_out; exact hp

/-- The second result is the first one, rounded: over the extended reals the same. -/
theorem rounded_at (t : Fin cfg0.N) (y : S512x1024.Idx) : ((outsAt0 m c t.val t.isLt).2.1 y : EReal) = (outsAt0 m c t.val t.isLt).1 y := by
  by_cases h : t.val % 8 = 0
  · rw [outsAt0_A m c t h (by have := t.isLt; have : cfg0.N = 8 := rfl; omega)]
    frame_out; rfl
  · rw [outsAt0_B m c t h (by omega)]
    frame_out; rfl

/-- The third result's block is the first point's part … -/
theorem gain_first (t : Fin cfg0.N) (h : t.val % 8 = 0) (y : S1x1024.Idx) : ((outsAt0 m c t.val t.isLt).2.2 y : EReal) = 0 + part m c t y := by
  rw [outsAt0_A m c t h (by have := t.isLt; have : cfg0.N = 8 := rfl; omega), zero_add]
  frame_out
  exact part_at m c t y

/-- … and every later point adds its own. -/
theorem gain_later (t : Fin cfg0.N) (h : ¬t.val % 8 = 0) (y : S1x1024.Idx) :
    ((outsAt0 m c t.val t.isLt).2.2 y : EReal)
      = (outsAt0 m c (t.val - 1) (Nat.lt_of_le_of_lt (Nat.sub_le _ _) t.isLt)).2.2 y + part m c t y := by
  rw [outsAt0_B m c t h (by omega), ← part_at]
  frame_out
  unfold k0_pay1
  pointwise

/-! ## The arrays -/

/-- The three results, from the arguments. -/
abbrev outGrad : FVec Ideal S4096x1024 .f32 :=
  grad (m ((c : Thread nD τ).loc main_arg0)) (m ((c : Thread nD τ).loc main_arg1)) (m ((c : Thread nD τ).loc main_arg2))
    (m ((c : Thread nD τ).loc main_arg3)) (m ((c : Thread nD τ).loc main_arg4))
abbrev outGain : FVec Ideal S1x1024 .f32 :=
  gain (m ((c : Thread nD τ).loc main_arg0)) (m ((c : Thread nD τ).loc main_arg1)) (m ((c : Thread nD τ).loc main_arg2))

theorem final5 : (dats m 0 c).arrAt 5 cfg0.N = outGrad m c := by
  refine (dats m 0 c).arrAt_eq_of_covers 5 _ (by decide +kernel) fun t hf y => ?_
  have h := index_rows t
  blk_simp
  rw [after0_5]
  refine ((congrArg _ (eq_ix2 y)).trans (grad_at m c t (y 0) (y 1))).trans (congrArg _ (funext fun a => Fin.ext ?_))
  match a with
  | 0 => blk_simp [h.2.1]; rfl
  | 1 => blk_simp [h.2.1]

theorem final6 : (dats m 0 c).arrAt 6 cfg0.N = outGrad m c := by
  refine (dats m 0 c).arrAt_eq_of_covers 6 _ (by decide +kernel) fun t hf y => ?_
  have h := index_rows t
  blk_simp
  rw [after0_6]
  refine (rounded_at m c t y).trans ?_
  refine ((congrArg _ (eq_ix2 y)).trans (grad_at m c t (y 0) (y 1))).trans (congrArg _ (funext fun a => Fin.ext ?_))
  match a with
  | 0 => blk_simp [h.2.2]; rfl
  | 1 => blk_simp [h.2.2]

theorem final7 : (dats m 0 c).arrAt 7 cfg0.N = outGain m c := by
  refine (dats m 0 c).arrAt_eq_of_after_last 7 ⟨7, by decide⟩ (by decide +kernel) _ fun y => ?_
  refine (congrFun (after0_7 m c ⟨7, by decide⟩) _).trans ?_
  have hsum := Pipeline.eq_sum_fin_of_reset_step_apply_last (fun n h => (outsAt0 m c n h).2.2) 8 (fun _ => (0 : EReal)) (part m c)
    (gain_first m c) (gain_later m c) (le_refl 8) ⟨7, by decide⟩ rfl y
  refine hsum.trans ?_
  rw [zero_add]
  show _ = ∑ r : Fin 4096, _
  rw [Fin.sum_univ_tiles 8 512 rfl]
  rfl

/-- The kernel runs, its three results functions of its arguments, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = outGrad m c
      ∧ r.2.mem ((c : Thread nD τ).loc main_v0_1) = outGrad m c
      ∧ r.2.mem ((c : Thread nD τ).loc main_v0_2) = outGain m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2.1.trans (final7 m c),
    (h c).2.2.2⟩) (run_blocks m ρ)

end Kernel

section Reference

open Cert.GradXRefIdeal Cert.GradXRefIdeal.Gen Cert.GradXRefIdeal.Value

variable (m : (ℓ : Loc nD τ sig) → Buf (Elt Ideal) ℓ) (c : Dev nD)

/-- The three results, from the reference's arguments. -/
abbrev refGrad : FVec Ideal S4096x1024 .f32 :=
  grad (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))
abbrev refGain : FVec Ideal S1x1024 .f32 :=
  gain (m ((c.tc : Thread nD τ).loc main_arg0)) (m ((c.tc : Thread nD τ).loc main_arg1)) (m ((c.tc : Thread nD τ).loc main_arg2))

theorem ref_grad_at (r : Fin 4096) (l : Fin 1024) : (res_out0 m c (ix2 r l) : EReal) = refGrad m c (ix2 r l) := by
  refine Eq.trans ?_ (congrArg (· + (m ((c.tc : Thread nD τ).loc main_arg4) (ix2 r l) : EReal)) (kept_eq_stepwise
    (fun k => m ((c.tc : Thread nD τ).loc main_arg2) (ix2 r k))
    (fun k => hidden (m ((c.tc : Thread nD τ).loc main_arg0)) (m ((c.tc : Thread nD τ).loc main_arg1)) r k)
    (fun k => m ((c.tc : Thread nD τ).loc main_arg3) (ix2 0 k)) l).symm)
  unfold res_out0 res_main_v38
  pointwise
  simp only [Finset.univ_unique, Finset.sum_singleton]
  rfl

theorem ref_grad : res_out0 m c = refGrad m c :=
  funext fun i => (congrArg _ (eq_ix2 i)).trans ((ref_grad_at m c (i 0) (i 1)).trans (congrArg _ (eq_ix2 i).symm))

/-- Rounded, over the extended reals, it is the same. -/
theorem ref_rounded : (res_out1 m c : FVec Ideal S4096x1024 .bf16) = refGrad m c := ref_grad m c

/-- The reference runs, its three results the same functions of its arguments, its arguments unchanged. -/
theorem ref_run (ρ : Dev nD → PrngReg) : θ_run defs (onTc (τ := τ) (main (F := Ideal))) ⟨m, fun _ => 0, ρ⟩ fun r => ∀ c : Dev nD,
      r.2.mem ((c.tc : Thread nD τ).loc main_v38) = refGrad m c
      ∧ r.2.mem ((c.tc : Thread nD τ).loc main_v39) = refGrad m c
      ∧ r.2.mem ((c.tc : Thread nD τ).loc main_v21) = refGain m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans (ref_grad m c), (h c).2.1.trans (ref_rounded m c), (h c).2.2.1.trans ?_,
    (h c).2.2.2⟩) (Cert.GradXRefIdeal.Value.run m ρ)
  funext i
  rw [eq_ix2 i]
  pointwise
  refine Finset.sum_congr rfl fun r _ => ?_
  rw [mul_comm]
  rfl

end Reference

end GradX

end
-- ==== Proof.LossHeadValue.lean ====
/- The loss and its gradient through the last norm: the kernel's four results as functions of its arguments, and the
   reference's. -/
module

public import proofs.«01_k».proof.Proof.NormGrad
public import proofs.«01_k».proof.Proof.Adam
public import proofs.«01_k».proof.Proof.Gen.LossHeadIdeal.Value
public import proofs.«01_k».proof.Proof.Gen.LossHeadRefIdeal.Run

@[expose] public section

noncomputable section

namespace LossHead

open Idealize.ShloMosaic Idealize.ShloMosaic.TcCoe Idealize.SL.Sem
open NormGrad
open scoped BigOperators

/-! ## The constants -/

/-- The kernel's factor of the error: one over the width. -/
abbrev perWidth : EReal := Ideal.ofBits .f32 0x3A800000#32
/-- The kernel's factor of the squares' sum: a half over the width. -/
abbrev halfPerWidth : EReal := Ideal.ofBits .f32 0x3A000000#32
/-- The reference's half, one and two. -/
abbrev half : EReal := Ideal.ofBits .f32 0x3F000000#32
abbrev one : EReal := Ideal.ofBits .f32 0x3F800000#32
abbrev two : EReal := Ideal.ofBits .f32 0x40000000#32

theorem perWidth_eq : perWidth = ((1 / 1024 : ℝ) : EReal) := by
  simp [perWidth, Ideal.ofBits, Ideal.ieee, -EReal.coe_mul]; norm_num
theorem halfPerWidth_eq : halfPerWidth = ((1 / 2048 : ℝ) : EReal) := by
  simp [halfPerWidth, Ideal.ofBits, Ideal.ieee, -EReal.coe_mul]; norm_num
theorem half_eq : half = ((1 / 2 : ℝ) : EReal) := by
  simp [half, Ideal.ofBits, Ideal.ieee, -EReal.coe_mul]; norm_num
theorem one_eq : one = ((1 : ℝ) : EReal) := by
  simp [one, Ideal.ofBits, Ideal.ieee, -EReal.coe_mul]; norm_num
theorem two_eq : two = ((2 : ℝ) : EReal) := by
  simp [two, Ideal.ofBits, Ideal.ieee, -EReal.coe_mul]; norm_num

/-- The derivative of half a square over the width, operation by operation, is the error over the width. -/
theorem pull_eq (e : EReal) : Ideal.div (half * one) width * (two * e) = e * perWidth := by
  rw [div_width, half_eq, one_eq, two_eq, perWidth_eq, ← EReal.coe_mul, ← EReal.coe_mul, ← mul_assoc, ← EReal.coe_mul, mul_comm]
  norm_num

/-- The blocks' losses add up to the loss of all rows: the constant comes out of every sum. -/
theorem loss_eq {n k b : ℕ} (h : n = k * b) (f : Fin n → EReal) (p : Fin k → EReal)
    (hp : ∀ t, p t = halfPerWidth * ∑ r : Fin b, f (Fin.cast h.symm (finProdFinEquiv (t, r)))) :
    half * ∑ i, Ideal.div (f i) width = ∑ t, p t := by
  subst h
  have hl : ∑ i, Ideal.div (f i) width = (∑ i, f i) * ((1 / 1024 : ℝ) : EReal) := by
    rw [← sum_mul_real (by norm_num)]
    exact Finset.sum_congr rfl fun i _ => div_width _
  have hr : ∑ t, p t = (∑ i, f i) * ((1 / 2048 : ℝ) : EReal) := by
    have : ∑ i, f i = ∑ t : Fin k, ∑ r : Fin b, f (finProdFinEquiv (t, r)) := by
      rw [← Fintype.sum_prod_type', ← finProdFinEquiv.sum_comp]
    rw [this, ← sum_mul_real (by norm_num)]
    refine Finset.sum_congr rfl fun t _ => ?_
    rw [hp t, halfPerWidth_eq, mul_comm]
    rfl
  rw [hl, hr, half_eq, mul_left_comm, ← EReal.coe_mul]
  norm_num

/-! ## The four results -/

/-- How far a normalised row is from its target. -/
def miss (x : FVec Ideal ⟨2, ![4096, 1024]⟩ .f32) (g : FVec Ideal ⟨2, ![1, 1024]⟩ .f32) (t : FVec Ideal ⟨2, ![4096, 1024]⟩ .f32)
    (r : Fin 4096) (l : Fin 1024) : EReal :=
  (x (ix2 r l) * factor fun k => x (ix2 r k)) * g (ix2 0 l) - t (ix2 r l)

/-- The loss: a half of the rows' mean squares, added. -/
def loss (x : FVec Ideal ⟨2, ![4096, 1024]⟩ .f32) (g : FVec Ideal ⟨2, ![1, 1024]⟩ .f32) (t : FVec Ideal ⟨2, ![4096, 1024]⟩ .f32) :
    FVec Ideal ⟨2, ![1, 128]⟩ .f32 :=
  fun _ => (half * ∑ r : Fin 4096, Ideal.div (∑ l : Fin 1024, miss x g t r l * miss x g t r l) width : EReal)

/-- The gradient of the rows. -/
def grad (x : FVec Ideal ⟨2, ![4096, 1024]⟩ .f32) (g : FVec Ideal ⟨2, ![1, 1024]⟩ .f32) (t : FVec Ideal ⟨2, ![4096, 1024]⟩ .f32) :
    FVec Ideal ⟨2, ![4096, 1024]⟩ .f32 :=
  fun i => (kept (fun k => x (ix2 (i 0) k)) (fun k => miss x g t (i 0) k * perWidth) (fun k => g (ix2 0 k)) (i 1) : EReal)

/-- What one row adds to the gains' gradient. -/
def share (x : FVec Ideal ⟨2, ![4096, 1024]⟩ .f32) (g : FVec Ideal ⟨2, ![1, 1024]⟩ .f32) (t : FVec Ideal ⟨2, ![4096, 1024]⟩ .f32)
    (r : Fin 4096) (l : Fin 1024) : EReal :=
  miss x g t r l * perWidth * (x (ix2 r l) * factor fun k => x (ix2 r k))

/-- The same, operation by operation. -/
theorem share_eq (x : FVec Ideal ⟨2, ![4096, 1024]⟩ .f32) (g : FVec Ideal ⟨2, ![1, 1024]⟩ .f32) (t : FVec Ideal ⟨2, ![4096, 1024]⟩ .f32)
    (r : Fin 4096) (l : Fin 1024) :
    (x (ix2 r l) * factor fun k => x (ix2 r k)) * (Ideal.div half width * (two * miss x g t r l)) = share x g t r l := by
  have h : half * one = half := by rw [one_eq, EReal.coe_one, mul_one]
  rw [← h, pull_eq, mul_comm]
  rfl

/-- The gradient of the gains. -/
def gain (x : FVec Ideal ⟨2, ![4096, 1024]⟩ .f32) (g : FVec Ideal ⟨2, ![1, 1024]⟩ .f32) (t : FVec Ideal ⟨2, ![4096, 1024]⟩ .f32) :
    FVec Ideal ⟨2, ![1, 1024]⟩ .f32 :=
  fun i => (∑ r : Fin 4096, share x g t r (i 1) : EReal)

section Kernel

open Cert.LossHeadIdeal Cert.LossHeadIdeal.Gen Cert.LossHeadIdeal.Value

/-! ## What a block computes -/

theorem pay_factor (x : FVec Ideal S512x1024 .f32) (r : Fin 512) (u : Fin 1) :
    (k0_pay4 (F := Ideal) x (ix2 r u) : EReal) = factor fun k => x (ix2 r k) := by
  pointwise [k0_pay4]
  rfl

theorem pay_row (x : FVec Ideal S512x1024 .f32) (r : Fin 512) (l : Fin 1024) :
    (k0_pay5 (F := Ideal) x (ix2 r l) : EReal) = x (ix2 r l) * factor fun k => x (ix2 r k) := by
  unfold k0_pay5
  pointwise
  rw [pay_factor]

theorem pay_miss (x : FVec Ideal S512x1024 .f32) (g : FVec Ideal S1x1024 .f32) (d : FVec Ideal S512x1024 .f32) (r : Fin 512) (l : Fin 1024) :
    (k0_pay6 (F := Ideal) x g d (ix2 r l) : EReal) = (x (ix2 r l) * factor fun k => x (ix2 r k)) * g (ix2 0 l) - d (ix2 r l) := by
  unfold k0_pay6
  pointwise
  rw [pay_row]

theorem pay_loss (x : FVec Ideal S512x1024 .f32) (g : FVec Ideal S1x1024 .f32) (d : FVec Ideal S512x1024 .f32) (u : Fin 1) (l : Fin 128) :
    (k0_pay7 (F := Ideal) x g d (ix2 u l) : EReal)
      = halfPerWidth * ∑ r : Fin 512, ∑ k : Fin 1024, (k0_pay6 (F := Ideal) x g d (ix2 r k) : EReal) * k0_pay6 (F := Ideal) x g d (ix2 r k) := by
  unfold k0_pay7
  pointwise

theorem pay_pull (x : FVec Ideal S512x1024 .f32) (g : FVec Ideal S1x1024 .f32) (d : FVec Ideal S512x1024 .f32) (r : Fin 512) (l : Fin 1024) :
    (k0_pay8 (F := Ideal) x g d (ix2 r l) : EReal) = k0_pay6 (F := Ideal) x g d (ix2 r l) * perWidth := by
  unfold k0_pay8
  pointwise

theorem pay_grad (x : FVec Ideal S512x1024 .f32) (g : FVec Ideal S1x1024 .f32) (d : FVec Ideal S512x1024 .f32) (r : Fin 512) (l : Fin 1024) :
    (k0_pay9 (F := Ideal) x g d (ix2 r l) : EReal)
      = kept (fun k => x (ix2 r k)) (fun k => k0_pay6 (F := Ideal) x g d (ix2 r k) * perWidth) (fun k => g (ix2 0 k)) l := by
  unfold k0_pay9
  pointwise
  simp only [pay_factor, pay_row, pay_pull]
  rfl

theorem pay_part (x : FVec Ideal S512x1024 .f32) (g : FVec Ideal S1x1024 .f32) (d : FVec Ideal S512x1024 .f32) (u : Fin 1) (l : Fin 1024) :
    (k0_pay1 (F := Ideal) (k0_pay5 x) (k0_pay8 x g d) (ix2 u l) : EReal)
      = ∑ r : Fin 512, k0_pay6 (F := Ideal) x g d (ix2 r l) * perWidth * (x (ix2 r l) * factor fun k => x (ix2 r k)) := by
  unfold k0_pay1
  pointwise
  simp only [pay_row, pay_pull]

/-! ## Where a block is -/

variable (m : (ℓ : Loc nD τ sig) → Buf (Elt Ideal) ℓ) (c : Dev nD)

/-- The row of the whole array at row `r` of block `t`. -/
def row (t : Fin cfg0.N) (r : Fin 512) : Fin 4096 := ⟨t.val * 512 + r.val, by have := t.isLt; have : cfg0.N = 8 := rfl; omega⟩

theorem index_rows : ∀ t : Fin cfg0.N, (win0_0.index t = ![t.val, 0] ∧ win0_2.index t = ![t.val, 0])
    ∧ win0_4.index t = ![t.val, 0] ∧ win0_5.index t = ![t.val, 0] :=
  (by decide +kernel : ∀ t : Fin grid0.N, (win0_0.index t = ![t.val, 0] ∧ win0_2.index t = ![t.val, 0])
    ∧ win0_4.index t = ![t.val, 0] ∧ win0_5.index t = ![t.val, 0])
theorem index_whole : ∀ t : Fin cfg0.N, win0_1.index t = ![0, 0] :=
  (by decide +kernel : ∀ t : Fin grid0.N, win0_1.index t = ![0, 0])

theorem rows0 (t : Fin cfg0.N) (r : Fin 512) (l : Fin 1024) :
    iblk m c 0 t (ix2 r l) = m ((c : Thread nD τ).loc main_arg0) (ix2 (row t r) l) := by
  rw [← V_main_arg0 m c]
  have h := index_rows t
  blk_simp [iblk]
  refine congrArg _ (funext fun a => Fin.ext ?_)
  match a with
  | 0 => blk_simp [h.1.1]; rfl
  | 1 => blk_simp [h.1.1]

theorem whole1 (t : Fin cfg0.N) (u : Fin 1) (l : Fin 1024) :
    iblk m c 1 t (ix2 u l) = m ((c : Thread nD τ).loc main_arg1) (ix2 u l) := by
  rw [← V_main_arg1 m c]
  have h := index_whole t
  blk_simp [iblk]
  refine congrArg _ (funext fun a => Fin.ext ?_)
  match a with
  | 0 => blk_simp [h]
  | 1 => blk_simp [h]

theorem rows2 (t : Fin cfg0.N) (r : Fin 512) (l : Fin 1024) :
    iblk m c 2 t (ix2 r l) = m ((c : Thread nD τ).loc main_arg2) (ix2 (row t r) l) := by
  rw [← V_main_arg2 m c]
  have h := index_rows t
  blk_simp [iblk]
  refine congrArg _ (funext fun a => Fin.ext ?_)
  match a with
  | 0 => blk_simp [h.1.2]; rfl
  | 1 => blk_simp [h.1.2]

/-- The error of the whole arrays, of a block's rows. -/
abbrev missAt (r : Fin 4096) (l : Fin 1024) : EReal :=
  miss (m ((c : Thread nD τ).loc main_arg0)) (m ((c : Thread nD τ).loc main_arg1)) (m ((c : Thread nD τ).loc main_arg2)) r l

theorem miss_at (t : Fin cfg0.N) (r : Fin 512) (l : Fin 1024) :
    (k0_pay6 (F := Ideal) (iblk m c 0 t) (iblk m c 1 t) (iblk m c 2 t) (ix2 r l) : EReal) = missAt m c (row t r) l := by
  refine (pay_miss _ _ _ r l).trans ?_
  simp only [rows0, whole1, rows2]
  rfl

/-- What a block's rows add to the loss. -/
def lossPart (t : Fin cfg0.N) (_ : S1x128.Idx) : EReal :=
  halfPerWidth * ∑ r : Fin 512, ∑ l : Fin 1024, missAt m c (row t r) l * missAt m c (row t r) l

theorem lossPart_at (t : Fin cfg0.N) (y : S1x128.Idx) :
    (k0_pay7 (F := Ideal) (iblk m c 0 t) (iblk m c 1 t) (iblk m c 2 t) y : EReal) = lossPart m c t y := by
  refine (congrArg _ (eq_ix2 y)).trans ((pay_loss _ _ _ (y 0) (y 1)).trans ?_)
  simp only [miss_at]
  rfl

/-- What a block's rows add to the gains' gradient. -/
def part (t : Fin cfg0.N) (y : S1x1024.Idx) : EReal :=
  ∑ r : Fin 512, share (m ((c : Thread nD τ).loc main_arg0)) (m ((c : Thread nD τ).loc main_arg1)) (m ((c : Thread nD τ).loc main_arg2)) (row t r) (y 1)

theorem part_at (t : Fin cfg0.N) (y : S1x1024.Idx) :
    (k0_pay1 (F := Ideal) (k0_pay5 (iblk m c 0 t)) (k0_pay8 (iblk m c 0 t) (iblk m c 1 t) (iblk m c 2 t)) y : EReal) = part m c t y := by
  have h (u : Fin 1) (l : Fin 1024) :
      (k0_pay1 (F := Ideal) (k0_pay5 (iblk m c 0 t)) (k0_pay8 (iblk m c 0 t) (iblk m c 1 t) (iblk m c 2 t)) (ix2 u l) : EReal)
        = ∑ r : Fin 512, share (m ((c : Thread nD τ).loc main_arg0)) (m ((c : Thread nD τ).loc main_arg1))
          (m ((c : Thread nD τ).loc main_arg2)) (row t r) l := by
    refine (pay_part _ _ _ u l).trans (Finset.sum_congr rfl fun r _ => ?_)
    simp only [miss_at, rows0]
    rfl
  exact (congrArg _ (eq_ix2 y)).trans (h (y 0) (y 1))

theorem first (t : Fin cfg0.N) (h : t.val % 8 = 0) : ¬1 ≤ t.val := by have := t.isLt; have : cfg0.N = 8 := rfl; omega

/-- The second result's block, at every point. -/
theorem grad_at (t : Fin cfg0.N) (r : Fin 512) (l : Fin 1024) :
    (outsAt0 m c t.val t.isLt).2.1 (ix2 r l)
      = grad (m ((c : Thread nD τ).loc main_arg0)) (m ((c : Thread nD τ).loc main_arg1)) (m ((c : Thread nD τ).loc main_arg2)) (ix2 (row t r) l) := by
  have hp : (k0_pay9 (F := Ideal) (iblk m c 0 t) (iblk m c 1 t) (iblk m c 2 t) (ix2 r l) : EReal)
      = grad (m ((c : Thread nD τ).loc main_arg0)) (m ((c : Thread nD τ).loc main_arg1)) (m ((c : Thread nD τ).loc main_arg2)) (ix2 (row t r) l) := by
    refine (pay_grad _ _ _ r l).trans ?_
    simp only [rows0, whole1, miss_at]
    rfl
  by_cases h : t.val % 8 = 0
  · rw [outsAt0_A m c t h (first t h)]
    frame_out; exact hp
  · rw [outsAt0_B m c t h (by omega)]
    frame_out; exact hp

/-- The third result is the second one, rounded: over the extended reals the same. -/
theorem rounded_at (t : Fin cfg0.N) (y : S512x1024.Idx) : ((outsAt0 m c t.val t.isLt).2.2.1 y : EReal) = (outsAt0 m c t.val t.isLt).2.1 y := by
  by_cases h : t.val % 8 = 0
  · rw [outsAt0_A m c t h (first t h)]
    frame_out; rfl
  · rw [outsAt0_B m c t h (by omega)]
    frame_out; rfl

/-- The loss and the gains' gradient are the first point's parts … -/
theorem loss_first (t : Fin cfg0.N) (h : t.val % 8 = 0) (y : S1x128.Idx) :
    ((outsAt0 m c t.val t.isLt).1 y : EReal) = 0 + lossPart m c t y := by
  rw [outsAt0_A m c t h (first t h), zero_add]
  frame_out
  exact lossPart_at m c t y

theorem gain_first (t : Fin cfg0.N) (h : t.val % 8 = 0) (y : S1x1024.Idx) :
    ((outsAt0 m c t.val t.isLt).2.2.2 y : EReal) = 0 + part m c t y := by
  rw [outsAt0_A m c t h (first t h), zero_add]
  frame_out
  exact part_at m c t y

/-- … and every later point adds its own. -/
theorem loss_later (t : Fin cfg0.N) (h : ¬t.val % 8 = 0) (y : S1x128.Idx) :
    ((outsAt0 m c t.val t.isLt).1 y : EReal)
      = (outsAt0 m c (t.val - 1) (Nat.lt_of_le_of_lt (Nat.sub_le _ _) t.isLt)).1 y + lossPart m c t y := by
  rw [outsAt0_B m c t h (by omega), ← lossPart_at]
  frame_out
  unfold k0_pay3
  pointwise

theorem gain_later (t : Fin cfg0.N) (h : ¬t.val % 8 = 0) (y : S1x1024.Idx) :
    ((outsAt0 m c t.val t.isLt).2.2.2 y : EReal)
      = (outsAt0 m c (t.val - 1) (Nat.lt_of_le_of_lt (Nat.sub_le _ _) t.isLt)).2.2.2 y + part m c t y := by
  rw [outsAt0_B m c t h (by omega), ← part_at]
  frame_out
  unfold k0_pay2
  pointwise

/-! ## The arrays -/

/-- The results, from the arguments. -/
abbrev outLoss : FVec Ideal S1x128 .f32 :=
  loss (m ((c : Thread nD τ).loc main_arg0)) (m ((c : Thread nD τ).loc main_arg1)) (m ((c : Thread nD τ).loc main_arg2))
abbrev outGrad : FVec Ideal S4096x1024 .f32 :=
  grad (m ((c : Thread nD τ).loc main_arg0)) (m ((c : Thread nD τ).loc main_arg1)) (m ((c : Thread nD τ).loc main_arg2))
abbrev outGain : FVec Ideal S1x1024 .f32 :=
  gain (m ((c : Thread nD τ).loc main_arg0)) (m ((c : Thread nD τ).loc main_arg1)) (m ((c : Thread nD τ).loc main_arg2))

theorem final3 : (dats m 0 c).arrAt 3 cfg0.N = outLoss m c := by
  refine (dats m 0 c).arrAt_eq_of_after_last 3 ⟨7, by decide⟩ (by decide +kernel) _ fun y => ?_
  refine (congrFun (after0_3 m c ⟨7, by decide⟩) _).trans ?_
  have hsum := Pipeline.eq_sum_fin_of_reset_step_apply_last (fun n h => (outsAt0 m c n h).1) 8 (fun _ => (0 : EReal)) (lossPart m c)
    (loss_first m c) (loss_later m c) (le_refl 8) ⟨7, by decide⟩ rfl y
  refine hsum.trans ?_
  rw [zero_add]
  refine (loss_eq (k := 8) (b := 512) rfl (fun r => ∑ l : Fin 1024, missAt m c r l * missAt m c r l) _ fun t => ?_).symm
  refine congrArg _ (Finset.sum_congr rfl fun r _ => ?_)
  have : Fin.cast (by rfl) (finProdFinEquiv (t, r)) = row ⟨t.val, t.isLt⟩ r := Fin.ext (by show r.val + 512 * t.val = t.val * 512 + r.val; omega)
  rw [this]
  rfl

theorem final4 : (dats m 0 c).arrAt 4 cfg0.N = outGrad m c := by
  refine (dats m 0 c).arrAt_eq_of_covers 4 _ (by decide +kernel) fun t hf y => ?_
  have h := index_rows t
  blk_simp
  rw [after0_4]
  refine ((congrArg _ (eq_ix2 y)).trans (grad_at m c t (y 0) (y 1))).trans (congrArg _ (funext fun a => Fin.ext ?_))
  match a with
  | 0 => blk_simp [h.2.1]; rfl
  | 1 => blk_simp [h.2.1]

theorem final5 : (dats m 0 c).arrAt 5 cfg0.N = outGrad m c := by
  refine (dats m 0 c).arrAt_eq_of_covers 5 _ (by decide +kernel) fun t hf y => ?_
  have h := index_rows t
  blk_simp
  rw [after0_5]
  refine (rounded_at m c t y).trans ?_
  refine ((congrArg _ (eq_ix2 y)).trans (grad_at m c t (y 0) (y 1))).trans (congrArg _ (funext fun a => Fin.ext ?_))
  match a with
  | 0 => blk_simp [h.2.2]; rfl
  | 1 => blk_simp [h.2.2]

theorem final6 : (dats m 0 c).arrAt 6 cfg0.N = outGain m c := by
  refine (dats m 0 c).arrAt_eq_of_after_last 6 ⟨7, by decide⟩ (by decide +kernel) _ fun y => ?_
  refine (congrFun (after0_6 m c ⟨7, by decide⟩) _).trans ?_
  have hsum := Pipeline.eq_sum_fin_of_reset_step_apply_last (fun n h => (outsAt0 m c n h).2.2.2) 8 (fun _ => (0 : EReal)) (part m c)
    (gain_first m c) (gain_later m c) (le_refl 8) ⟨7, by decide⟩ rfl y
  refine hsum.trans ?_
  rw [zero_add]
  show _ = ∑ r : Fin 4096, _
  rw [Fin.sum_univ_tiles 8 512 rfl]
  rfl

/-- The kernel runs, its four results functions of its arguments, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = outLoss m c
      ∧ r.2.mem ((c : Thread nD τ).loc main_v0_1) = outGrad m c
      ∧ r.2.mem ((c : Thread nD τ).loc main_v0_2) = outGrad m c
      ∧ r.2.mem ((c : Thread nD τ).loc main_v0_3) = outGain m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2.1.trans (final5 m c),
    (h c).2.2.2.1.trans (final6 m c), (h c).2.2.2.2⟩) (run_blocks m ρ)

end Kernel

section Reference

open Cert.LossHeadRefIdeal Cert.LossHeadRefIdeal.Gen Cert.LossHeadRefIdeal.Value

variable (m : (ℓ : Loc nD τ sig) → Buf (Elt Ideal) ℓ) (c : Dev nD)

/-- The results, from the reference's arguments. -/
abbrev refLoss : FVec Ideal S1x128 .f32 :=
  loss (m ((c.tc : Thread nD τ).loc main_arg0)) (m ((c.tc : Thread nD τ).loc main_arg1)) (m ((c.tc : Thread nD τ).loc main_arg2))
abbrev refGrad : FVec Ideal S4096x1024 .f32 :=
  grad (m ((c.tc : Thread nD τ).loc main_arg0)) (m ((c.tc : Thread nD τ).loc main_arg1)) (m ((c.tc : Thread nD τ).loc main_arg2))
abbrev refGain : FVec Ideal S1x1024 .f32 :=
  gain (m ((c.tc : Thread nD τ).loc main_arg0)) (m ((c.tc : Thread nD τ).loc main_arg1)) (m ((c.tc : Thread nD τ).loc main_arg2))

theorem ref_grad_at (r : Fin 4096) (l : Fin 1024) : (res_out1 m c (ix2 r l) : EReal) = refGrad m c (ix2 r l) := by
  refine Eq.trans ?_ (kept_eq_stepwise (fun k => m ((c.tc : Thread nD τ).loc main_arg0) (ix2 r k))
    (fun k => miss (m ((c.tc : Thread nD τ).loc main_arg0)) (m ((c.tc : Thread nD τ).loc main_arg1)) (m ((c.tc : Thread nD τ).loc main_arg2)) r k
      * perWidth) (fun k => m ((c.tc : Thread nD τ).loc main_arg1) (ix2 0 k)) l).symm
  simp only [← pull_eq]
  unfold res_out1 res_main_v48
  pointwise
  simp only [Finset.univ_unique, Finset.sum_singleton]
  rfl

theorem ref_grad : res_out1 m c = refGrad m c :=
  funext fun i => (congrArg _ (eq_ix2 i)).trans ((ref_grad_at m c (i 0) (i 1)).trans (congrArg _ (eq_ix2 i).symm))

/-- Rounded, over the extended reals, it is the same. -/
theorem ref_rounded : (res_out2 m c : FVec Ideal S4096x1024 .bf16) = refGrad m c := ref_grad m c

/-- The reference runs, its four results the same functions of its arguments, its arguments unchanged. -/
theorem ref_run (ρ : Dev nD → PrngReg) : θ_run defs (onTc (τ := τ) (main (F := Ideal))) ⟨m, fun _ => 0, ρ⟩ fun r => ∀ c : Dev nD,
      r.2.mem ((c.tc : Thread nD τ).loc main_v49) = refLoss m c
      ∧ r.2.mem ((c.tc : Thread nD τ).loc main_v48) = refGrad m c
      ∧ r.2.mem ((c.tc : Thread nD τ).loc main_v50) = refGrad m c
      ∧ r.2.mem ((c.tc : Thread nD τ).loc main_v32) = refGain m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.1.trans (ref_grad m c), (h c).2.2.1.trans (ref_rounded m c),
    (h c).2.2.2.1.trans ?_, (h c).2.2.2.2⟩) (Cert.LossHeadRefIdeal.Value.run m ρ)
  · funext i
    rw [eq_ix2 i]
    pointwise
    rfl
  · funext i
    rw [eq_ix2 i]
    pointwise
    exact Finset.sum_congr rfl fun r _ => share_eq (m ((c.tc : Thread nD τ).loc main_arg0)) (m ((c.tc : Thread nD τ).loc main_arg1))
      (m ((c.tc : Thread nD τ).loc main_arg2)) r _

end Reference

end LossHead

end
-- ==== Proof.Products.lean ====
/- Products of matrices over the extended reals, entry by entry. -/
module

public import Idealize.ShloMosaic.PureOps.Ideal.Laws
public import Idealize.ShloMosaic.Lib.Pointwise

@[expose] public section

noncomputable section

namespace Products

open Idealize.ShloMosaic
open scoped BigOperators

variable {b k n l : ℕ}

/-- The transposed left matrix times the right one. -/
def tn (x : FVec Ideal ⟨2, ![k, n]⟩ .bf16) (y : FVec Ideal ⟨2, ![k, l]⟩ .bf16) : FVec Ideal ⟨2, ![n, l]⟩ .bf16 :=
  fun i => (∑ j : Fin k, (x (ix2 j (i 0)) : EReal) * y (ix2 j (i 1)) : EReal)

/-- The same of each of a batch of left matrices. -/
def batchTn (x : FVec Ideal ⟨3, ![b, k, n]⟩ .bf16) (y : FVec Ideal ⟨2, ![k, l]⟩ .bf16) : FVec Ideal ⟨3, ![b, n, l]⟩ .bf16 :=
  fun i => (∑ j : Fin k, (x (ix3 (i 0) j (i 1)) : EReal) * y (ix2 j (i 2)) : EReal)

/-- The left matrix times the right one. -/
def nn {f : FTy} (x : FVec Ideal ⟨2, ![n, k]⟩ .bf16) (y : FVec Ideal ⟨2, ![k, l]⟩ .bf16) : FVec Ideal ⟨2, ![n, l]⟩ f :=
  fun i => (∑ j : Fin k, (x (ix2 (i 0) j) : EReal) * y (ix2 j (i 1)) : EReal)

/-- The left matrix times the transposed right one. -/
def nt (x : FVec Ideal ⟨2, ![n, k]⟩ .bf16) (y : FVec Ideal ⟨2, ![l, k]⟩ .bf16) : FVec Ideal ⟨2, ![n, l]⟩ .bf16 :=
  fun i => (∑ j : Fin k, (x (ix2 (i 0) j) : EReal) * y (ix2 (i 1) j) : EReal)

/-- The same of each of a batch of right matrices. -/
def batchNt (x : FVec Ideal ⟨2, ![n, k]⟩ .bf16) (y : FVec Ideal ⟨3, ![b, l, k]⟩ .bf16) : FVec Ideal ⟨3, ![b, n, l]⟩ .bf16 :=
  fun i => (∑ j : Fin k, (x (ix2 (i 1) j) : EReal) * y (ix3 (i 0) (i 2) j) : EReal)

end Products

end
-- ==== Proof.GradInValue.lean ====
/- The input projection's weight gradient: the kernel's result as a function of its arguments, and the reference's. -/
module

public import proofs.«01_k».proof.Proof.Products
public import proofs.«01_k».proof.Proof.Adam
public import proofs.«01_k».proof.Proof.Gen.GradInIdeal.Value
public import proofs.«01_k».proof.Proof.Gen.GradInRefIdeal.Run

@[expose] public section

noncomputable section

namespace GradIn

open Idealize.ShloMosaic Idealize.ShloMosaic.TcCoe Idealize.SL.Sem
open scoped BigOperators

section Kernel

open Cert.GradInIdeal Cert.GradInIdeal.Gen Cert.GradInIdeal.Value

/-- What a block computes. -/
theorem pay (a : FVec Ideal S4096x1024 .bf16) (b : FVec Ideal S4096x768 .bf16) (r : Fin 1024) (l : Fin 768) :
    (k0_pay1 (F := Ideal) a b (ix2 r l) : EReal) = ∑ k : Fin 4096, (a (ix2 k r) : EReal) * b (ix2 k l) := by
  pointwise [k0_pay1]

variable (m : (ℓ : Loc nD τ sig) → Buf (Elt Ideal) ℓ) (c : Dev nD)

/-- The column of the whole array at column `l` of block `t`. -/
def col (t : Fin cfg0.N) (l : Fin 768) : Fin 3072 := ⟨t.val * 768 + l.val, by have := t.isLt; have : cfg0.N = 4 := rfl; omega⟩

theorem index : ∀ t : Fin cfg0.N, win0_0.index t = ![0, 0] ∧ win0_1.index t = ![0, t.val] ∧ win0_2.index t = ![0, t.val] :=
  (by decide +kernel : ∀ t : Fin grid0.N, win0_0.index t = ![0, 0] ∧ win0_1.index t = ![0, t.val] ∧ win0_2.index t = ![0, t.val])

theorem block0 (t : Fin cfg0.N) (k : Fin 4096) (r : Fin 1024) :
    iblk m c 0 t (ix2 k r) = m ((c : Thread nD τ).loc main_arg0) (ix2 k r) := by
  rw [← V_main_arg0 m c]
  have h := index t
  blk_simp [iblk]
  refine congrArg _ (funext fun a => Fin.ext ?_)
  match a with
  | 0 => blk_simp [h.1]
  | 1 => blk_simp [h.1]

theorem block1 (t : Fin cfg0.N) (k : Fin 4096) (l : Fin 768) :
    iblk m c 1 t (ix2 k l) = m ((c : Thread nD τ).loc main_arg1) (ix2 k (col t l)) := by
  rw [← V_main_arg1 m c]
  have h := index t
  blk_simp [iblk]
  refine congrArg _ (funext fun a => Fin.ext ?_)
  match a with
  | 0 => blk_simp [h.2.1]
  | 1 => blk_simp [h.2.1]; rfl

/-- The result, from the arguments. -/
abbrev out : FVec Ideal S1024x3072 .bf16 := Products.tn (m ((c : Thread nD τ).loc main_arg0)) (m ((c : Thread nD τ).loc main_arg1))

theorem final : (dats m 0 c).arrAt 2 cfg0.N = out m c := by
  refine (dats m 0 c).arrAt_eq_of_covers 2 _ (by decide +kernel) fun t hf y => ?_
  have h := index t
  blk_simp
  rw [after0_2]
  have hp (r : Fin 1024) (l : Fin 768) : (out0_2 (iblk m c 0 t) (iblk m c 1 t) (ix2 r l) : EReal) = out m c (ix2 r (col t l)) := by
    frame_out
    refine (pay _ _ r l).trans (Finset.sum_congr rfl fun k _ => ?_)
    rw [block0, block1]
    rfl
  refine ((congrArg _ (eq_ix2 y)).trans (hp (y 0) (y 1))).trans (congrArg _ (funext fun a => Fin.ext ?_))
  match a with
  | 0 => blk_simp [h.2.2]
  | 1 => blk_simp [h.2.2]; rfl

/-- The kernel runs, its result a function of its arguments, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Kernel

section Reference

open Cert.GradInRefIdeal Cert.GradInRefIdeal.Gen Cert.GradInRefIdeal.Value

variable (m : (ℓ : Loc nD τ sig) → Buf (Elt Ideal) ℓ) (c : Dev nD)

/-- The result, from the reference's arguments. -/
abbrev refOut : FVec Ideal S1024x3072 .bf16 := Products.tn (m ((c.tc : Thread nD τ).loc main_arg0)) (m ((c.tc : Thread nD τ).loc main_arg1))

/-- The reference runs, its result the same function of its arguments, its arguments unchanged. -/
theorem ref_run (ρ : Dev nD → PrngReg) : θ_run defs (onTc (τ := τ) (main (F := Ideal))) ⟨m, fun _ => 0, ρ⟩ fun r => ∀ c : Dev nD,
      r.2.mem ((c.tc : Thread nD τ).loc main_v4) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.GradInRefIdeal.Value.run m ρ)
  funext i
  rw [eq_ix2 i]
  pointwise
  rfl

end Reference

end GradIn

end
-- ==== Proof.GradOutValue.lean ====
/- The output projection's weight gradient, accumulated over the rows' blocks: the kernel's result as a function of its
   arguments, and the reference's. -/
module

public import proofs.«01_k».proof.Proof.Products
public import proofs.«01_k».proof.Proof.Adam
public import proofs.«01_k».proof.Proof.Gen.GradOutIdeal.Value
public import proofs.«01_k».proof.Proof.Gen.GradOutRefIdeal.Run

@[expose] public section

noncomputable section

namespace GradOut

open Idealize.ShloMosaic Idealize.ShloMosaic.TcCoe Idealize.SL.Sem
open scoped BigOperators

/-- What one row adds to an entry of the result. -/
def term (a b : FVec Ideal ⟨2, ![4096, 1024]⟩ .bf16) (j : Fin 4096) (r l : Fin 1024) : EReal := a (ix2 j r) * b (ix2 j l)

section Kernel

open Cert.GradOutIdeal Cert.GradOutIdeal.Gen Cert.GradOutIdeal.Value

/-- What a block computes. -/
theorem pay (a b : FVec Ideal S1024x1024 .bf16) (r l : Fin 1024) :
    (k0_pay1 (F := Ideal) a b (ix2 r l) : EReal) = ∑ k : Fin 1024, (a (ix2 k r) : EReal) * b (ix2 k l) := by
  pointwise [k0_pay1]

variable (m : (ℓ : Loc nD τ sig) → Buf (Elt Ideal) ℓ) (c : Dev nD)

/-- The row of the whole array at row `k` of block `t`. -/
def row (t : Fin cfg0.N) (k : Fin 1024) : Fin 4096 := ⟨t.val * 1024 + k.val, by have := t.isLt; have : cfg0.N = 4 := rfl; omega⟩

theorem index : ∀ t : Fin cfg0.N, win0_0.index t = ![t.val, 0] ∧ win0_1.index t = ![t.val, 0] :=
  (by decide +kernel : ∀ t : Fin grid0.N, win0_0.index t = ![t.val, 0] ∧ win0_1.index t = ![t.val, 0])

theorem block0 (t : Fin cfg0.N) (k r : Fin 1024) : iblk m c 0 t (ix2 k r) = m ((c : Thread nD τ).loc main_arg0) (ix2 (row t k) r) := by
  rw [← V_main_arg0 m c]
  have h := index t
  blk_simp [iblk]
  refine congrArg _ (funext fun a => Fin.ext ?_)
  match a with
  | 0 => blk_simp [h.1]; rfl
  | 1 => blk_simp [h.1]

theorem block1 (t : Fin cfg0.N) (k l : Fin 1024) : iblk m c 1 t (ix2 k l) = m ((c : Thread nD τ).loc main_arg1) (ix2 (row t k) l) := by
  rw [← V_main_arg1 m c]
  have h := index t
  blk_simp [iblk]
  refine congrArg _ (funext fun a => Fin.ext ?_)
  match a with
  | 0 => blk_simp [h.2]; rfl
  | 1 => blk_simp [h.2]

/-- What a block's rows add to the result. -/
def part (t : Fin cfg0.N) (y : S1024x1024.Idx) : EReal :=
  ∑ k : Fin 1024, term (m ((c : Thread nD τ).loc main_arg0)) (m ((c : Thread nD τ).loc main_arg1)) (row t k) (y 0) (y 1)

theorem part_at (t : Fin cfg0.N) (y : S1024x1024.Idx) : (k0_pay1 (F := Ideal) (iblk m c 0 t) (iblk m c 1 t) y : EReal) = part m c t y := by
  have h (r l : Fin 1024) : (k0_pay1 (F := Ideal) (iblk m c 0 t) (iblk m c 1 t) (ix2 r l) : EReal) = part m c t (ix2 r l) := by
    refine (pay _ _ r l).trans (Finset.sum_congr rfl fun k _ => ?_)
    rw [block0, block1]
    rfl
  exact (congrArg _ (eq_ix2 y)).trans ((h (y 0) (y 1)).trans (congrArg _ (eq_ix2 y).symm))

/-- The sum kept between the points is the first point's part … -/
theorem acc_first (t : Fin cfg0.N) (h : t.val % 4 = 0) (y : S1024x1024.Idx) : ((outsAt0 m c t.val t.isLt).2 y : EReal) = 0 + part m c t y := by
  rw [outsAt0_A m c t h (by have := t.isLt; have : cfg0.N = 4 := rfl; omega) (by omega), zero_add, ← part_at]
  frame_out
  unfold k0_pay2
  pointwise

/-- … and every later point adds its own. -/
theorem acc_later (t : Fin cfg0.N) (h : ¬t.val % 4 = 0) (y : S1024x1024.Idx) :
    ((outsAt0 m c t.val t.isLt).2 y : EReal)
      = (outsAt0 m c (t.val - 1) (Nat.lt_of_le_of_lt (Nat.sub_le _ _) t.isLt)).2 y + part m c t y := by
  by_cases h3 : t.val % 4 = 3
  · rw [outsAt0_C m c t h (by omega) h3, ← part_at]
    frame_out
    unfold k0_pay3
    pointwise
    exact congrArg (· + _) (congrFun (Memref.IsWhole.read_unread _ _) y)
  · rw [outsAt0_B m c t h (by omega) h3, ← part_at]
    frame_out
    unfold k0_pay3
    pointwise
    exact congrArg (· + _) (congrFun (Memref.IsWhole.read_unread _ _) y)

/-- The last point writes the sum, rounded: over the extended reals the sum. -/
theorem out_last (t : Fin cfg0.N) (h : t.val % 4 = 3) (y : S1024x1024.Idx) :
    ((outsAt0 m c t.val t.isLt).1 y : EReal) = (outsAt0 m c t.val t.isLt).2 y := by
  rw [outsAt0_C m c t (by omega) (by omega) h]
  frame_out
  rfl

/-- The result, from the arguments. -/
abbrev out : FVec Ideal S1024x1024 .bf16 := Products.tn (m ((c : Thread nD τ).loc main_arg0)) (m ((c : Thread nD τ).loc main_arg1))

theorem final : (dats m 0 c).arrAt 2 cfg0.N = out m c := by
  refine (dats m 0 c).arrAt_eq_of_after_last 2 ⟨3, by decide⟩ (by decide +kernel) _ fun y => ?_
  refine (congrFun (after0_2 m c ⟨3, by decide⟩) _).trans ((out_last m c ⟨3, by decide⟩ rfl _).trans ?_)
  have hsum := Pipeline.eq_sum_fin_of_reset_step_apply_last (fun n h => (outsAt0 m c n h).2) 4 (fun _ => (0 : EReal)) (part m c)
    (acc_first m c) (acc_later m c) (le_refl 4) ⟨3, by decide⟩ rfl y
  refine hsum.trans ?_
  rw [zero_add]
  show _ = ∑ k : Fin 4096, _
  rw [Fin.sum_univ_tiles 4 1024 rfl]
  rfl

/-- The kernel runs, its result a function of its arguments, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Kernel

section Reference

open Cert.GradOutRefIdeal Cert.GradOutRefIdeal.Gen Cert.GradOutRefIdeal.Value

variable (m : (ℓ : Loc nD τ sig) → Buf (Elt Ideal) ℓ) (c : Dev nD)

/-- The result, from the reference's arguments. -/
abbrev refOut : FVec Ideal S1024x1024 .bf16 := Products.tn (m ((c.tc : Thread nD τ).loc main_arg0)) (m ((c.tc : Thread nD τ).loc main_arg1))

/-- The reference runs, its result the same function of its arguments, its arguments unchanged. -/
theorem ref_run (ρ : Dev nD → PrngReg) : θ_run defs (onTc (τ := τ) (main (F := Ideal))) ⟨m, fun _ => 0, ρ⟩ fun r => ∀ c : Dev nD,
      r.2.mem ((c.tc : Thread nD τ).loc main_v4) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.GradOutRefIdeal.Value.run m ρ)
  funext i
  rw [eq_ix2 i]
  pointwise
  rfl

end Reference

end GradOut

end
-- ==== Proof.GradUpValue.lean ====
/- The up projection's weight gradient, in chunks: the kernel's result as a function of its arguments, and the
   reference's. -/
module

public import proofs.«01_k».proof.Proof.Products
public import proofs.«01_k».proof.Proof.Adam
public import proofs.«01_k».proof.Proof.Gen.GradUpIdeal.Value
public import proofs.«01_k».proof.Proof.Gen.GradUpRefIdeal.Run

@[expose] public section

noncomputable section

namespace GradUp

open Idealize.ShloMosaic Idealize.ShloMosaic.TcCoe Idealize.SL.Sem
open scoped BigOperators

section Kernel

open Cert.GradUpIdeal Cert.GradUpIdeal.Gen Cert.GradUpIdeal.Value

/-- What a block computes. -/
theorem pay (a : FVec Ideal S1x4096x704 .bf16) (b : FVec Ideal S4096x1024 .bf16) (u : Fin 1) (r : Fin 704) (l : Fin 1024) :
    (k0_pay1 (F := Ideal) a b (ix3 u r l) : EReal) = ∑ k : Fin 4096, (a (ix3 u k r) : EReal) * b (ix2 k l) := by
  obtain rfl : u = 0 := Subsingleton.elim _ _
  pointwise [k0_pay1]

variable (m : (ℓ : Loc nD τ sig) → Buf (Elt Ideal) ℓ) (c : Dev nD)

/-- The chunk of block `t`. -/
def chunk (t : Fin cfg0.N) : Fin 8 := ⟨t.val, t.isLt⟩

theorem index : ∀ t : Fin cfg0.N, win0_0.index t = ![t.val, 0, 0] ∧ win0_1.index t = ![0, 0] ∧ win0_2.index t = ![t.val, 0, 0] :=
  (by decide +kernel : ∀ t : Fin grid0.N, win0_0.index t = ![t.val, 0, 0] ∧ win0_1.index t = ![0, 0] ∧ win0_2.index t = ![t.val, 0, 0])

theorem block0 (t : Fin cfg0.N) (u : Fin 1) (k : Fin 4096) (r : Fin 704) :
    iblk m c 0 t (ix3 u k r) = m ((c : Thread nD τ).loc main_arg0) (ix3 (chunk t) k r) := by
  obtain rfl : u = 0 := Subsingleton.elim _ _
  rw [← V_main_arg0 m c]
  have h := index t
  blk_simp [iblk]
  refine congrArg _ (funext fun a => Fin.ext ?_)
  match a with
  | 0 => blk_simp [h.1]; rfl
  | 1 => blk_simp [h.1]
  | 2 => blk_simp [h.1]

theorem block1 (t : Fin cfg0.N) (k : Fin 4096) (l : Fin 1024) :
    iblk m c 1 t (ix2 k l) = m ((c : Thread nD τ).loc main_arg1) (ix2 k l) := by
  rw [← V_main_arg1 m c]
  have h := index t
  blk_simp [iblk]
  refine congrArg _ (funext fun a => Fin.ext ?_)
  match a with
  | 0 => blk_simp [h.2.1]
  | 1 => blk_simp [h.2.1]

/-- The result, from the arguments. -/
abbrev out : FVec Ideal S8x704x1024 .bf16 := Products.batchTn (m ((c : Thread nD τ).loc main_arg0)) (m ((c : Thread nD τ).loc main_arg1))

theorem final : (dats m 0 c).arrAt 2 cfg0.N = out m c := by
  refine (dats m 0 c).arrAt_eq_of_covers 2 _ (by decide +kernel) fun t hf y => ?_
  have h := index t
  blk_simp
  rw [after0_2]
  have hp (u : Fin 1) (r : Fin 704) (l : Fin 1024) : (out0_2 (iblk m c 0 t) (iblk m c 1 t) (ix3 u r l) : EReal) = out m c (ix3 (chunk t) r l) := by
    frame_out
    refine (pay _ _ u r l).trans (Finset.sum_congr rfl fun k _ => ?_)
    rw [block0, block1]
    rfl
  refine ((congrArg _ (eq_ix3 y)).trans (hp (y 0) (y 1) (y 2))).trans (congrArg _ (funext fun a => Fin.ext ?_))
  match a with
  | 0 => blk_simp [h.2.2]; rfl
  | 1 => blk_simp [h.2.2]
  | 2 => blk_simp [h.2.2]

/-- The kernel runs, its result a function of its arguments, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Kernel

section Reference

open Cert.GradUpRefIdeal Cert.GradUpRefIdeal.Gen Cert.GradUpRefIdeal.Value

variable (m : (ℓ : Loc nD τ sig) → Buf (Elt Ideal) ℓ) (c : Dev nD)

/-- The result, from the reference's arguments. -/
abbrev refOut : FVec Ideal S8x704x1024 .bf16 := Products.batchTn (m ((c.tc : Thread nD τ).loc main_arg0)) (m ((c.tc : Thread nD τ).loc main_arg1))

/-- The reference runs, its result the same function of its arguments, its arguments unchanged. -/
theorem ref_run (ρ : Dev nD → PrngReg) : θ_run defs (onTc (τ := τ) (main (F := Ideal))) ⟨m, fun _ => 0, ρ⟩ fun r => ∀ c : Dev nD,
      r.2.mem ((c.tc : Thread nD τ).loc main_v3) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.GradUpRefIdeal.Value.run m ρ)
  funext i
  rw [eq_ix3 i]
  pointwise
  rfl

end Reference

end GradUp

end
-- ==== Proof.GradDownValue.lean ====
/- The down projection's weight gradient, in chunks: the kernel's result as a function of its arguments, and the
   reference's. -/
module

public import proofs.«01_k».proof.Proof.Products
public import proofs.«01_k».proof.Proof.Adam
public import proofs.«01_k».proof.Proof.Gen.GradDownIdeal.Value
public import proofs.«01_k».proof.Proof.Gen.GradDownRefIdeal.Run

@[expose] public section

noncomputable section

namespace GradDown

open Idealize.ShloMosaic Idealize.ShloMosaic.TcCoe Idealize.SL.Sem
open scoped BigOperators

section Kernel

open Cert.GradDownIdeal Cert.GradDownIdeal.Gen Cert.GradDownIdeal.Value

/-- What a block computes. -/
theorem pay (a : FVec Ideal S1x4096x704 .bf16) (b : FVec Ideal S4096x1024 .bf16) (u : Fin 1) (r : Fin 704) (l : Fin 1024) :
    (k0_pay1 (F := Ideal) a b (ix3 u r l) : EReal) = ∑ k : Fin 4096, (a (ix3 u k r) : EReal) * b (ix2 k l) := by
  obtain rfl : u = 0 := Subsingleton.elim _ _
  pointwise [k0_pay1]

variable (m : (ℓ : Loc nD τ sig) → Buf (Elt Ideal) ℓ) (c : Dev nD)

/-- The chunk of block `t`. -/
def chunk (t : Fin cfg0.N) : Fin 4 := ⟨t.val, t.isLt⟩

theorem index : ∀ t : Fin cfg0.N, win0_0.index t = ![t.val, 0, 0] ∧ win0_1.index t = ![0, 0] ∧ win0_2.index t = ![t.val, 0, 0] :=
  (by decide +kernel : ∀ t : Fin grid0.N, win0_0.index t = ![t.val, 0, 0] ∧ win0_1.index t = ![0, 0] ∧ win0_2.index t = ![t.val, 0, 0])

theorem block0 (t : Fin cfg0.N) (u : Fin 1) (k : Fin 4096) (r : Fin 704) :
    iblk m c 0 t (ix3 u k r) = m ((c : Thread nD τ).loc main_arg0) (ix3 (chunk t) k r) := by
  obtain rfl : u = 0 := Subsingleton.elim _ _
  rw [← V_main_arg0 m c]
  have h := index t
  blk_simp [iblk]
  refine congrArg _ (funext fun a => Fin.ext ?_)
  match a with
  | 0 => blk_simp [h.1]; rfl
  | 1 => blk_simp [h.1]
  | 2 => blk_simp [h.1]

theorem block1 (t : Fin cfg0.N) (k : Fin 4096) (l : Fin 1024) :
    iblk m c 1 t (ix2 k l) = m ((c : Thread nD τ).loc main_arg1) (ix2 k l) := by
  rw [← V_main_arg1 m c]
  have h := index t
  blk_simp [iblk]
  refine congrArg _ (funext fun a => Fin.ext ?_)
  match a with
  | 0 => blk_simp [h.2.1]
  | 1 => blk_simp [h.2.1]

/-- The result, from the arguments. -/
abbrev out : FVec Ideal S4x704x1024 .bf16 := Products.batchTn (m ((c : Thread nD τ).loc main_arg0)) (m ((c : Thread nD τ).loc main_arg1))

theorem final : (dats m 0 c).arrAt 2 cfg0.N = out m c := by
  refine (dats m 0 c).arrAt_eq_of_covers 2 _ (by decide +kernel) fun t hf y => ?_
  have h := index t
  blk_simp
  rw [after0_2]
  have hp (u : Fin 1) (r : Fin 704) (l : Fin 1024) : (out0_2 (iblk m c 0 t) (iblk m c 1 t) (ix3 u r l) : EReal) = out m c (ix3 (chunk t) r l) := by
    frame_out
    refine (pay _ _ u r l).trans (Finset.sum_congr rfl fun k _ => ?_)
    rw [block0, block1]
    rfl
  refine ((congrArg _ (eq_ix3 y)).trans (hp (y 0) (y 1) (y 2))).trans (congrArg _ (funext fun a => Fin.ext ?_))
  match a with
  | 0 => blk_simp [h.2.2]; rfl
  | 1 => blk_simp [h.2.2]
  | 2 => blk_simp [h.2.2]

/-- The kernel runs, its result a function of its arguments, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Kernel

section Reference

open Cert.GradDownRefIdeal Cert.GradDownRefIdeal.Gen Cert.GradDownRefIdeal.Value

variable (m : (ℓ : Loc nD τ sig) → Buf (Elt Ideal) ℓ) (c : Dev nD)

/-- The result, from the reference's arguments. -/
abbrev refOut : FVec Ideal S4x704x1024 .bf16 := Products.batchTn (m ((c.tc : Thread nD τ).loc main_arg0)) (m ((c.tc : Thread nD τ).loc main_arg1))

/-- The reference runs, its result the same function of its arguments, its arguments unchanged. -/
theorem ref_run (ρ : Dev nD → PrngReg) : θ_run defs (onTc (τ := τ) (main (F := Ideal))) ⟨m, fun _ => 0, ρ⟩ fun r => ∀ c : Dev nD,
      r.2.mem ((c.tc : Thread nD τ).loc main_v3) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.GradDownRefIdeal.Value.run m ρ)
  funext i
  rw [eq_ix3 i]
  pointwise
  rfl

end Reference

end GradDown

end
-- ==== Proof.NormInValue.lean ====
/- The first norm: the kernel's result as a function of its arguments, and the reference's. -/
module

public import proofs.«01_k».proof.Proof.NormGrad
public import proofs.«01_k».proof.Proof.Adam
public import proofs.«01_k».proof.Proof.Gen.NormInIdeal.Value
public import proofs.«01_k».proof.Proof.Gen.NormInRefIdeal.Run

@[expose] public section

noncomputable section

namespace NormIn

open Idealize.ShloMosaic Idealize.ShloMosaic.TcCoe Idealize.SL.Sem
open scoped BigOperators

/-- The normalised rows. -/
def normed (x : FVec Ideal ⟨2, ![4096, 1024]⟩ .f32) (g : FVec Ideal ⟨2, ![1, 1024]⟩ .f32) : FVec Ideal ⟨2, ![4096, 1024]⟩ .bf16 :=
  fun i => ((x i * NormGrad.factor fun k => x (ix2 (i 0) k)) * g (ix2 0 (i 1)) : EReal)

section Kernel

open Cert.NormInIdeal Cert.NormInIdeal.Gen Cert.NormInIdeal.Value

/-- What a block computes. -/
theorem pay (x : FVec Ideal S512x1024 .f32) (g : FVec Ideal S1x1024 .f32) (r : Fin 512) (l : Fin 1024) :
    (k0_pay1 (F := Ideal) x g (ix2 r l) : EReal) = (x (ix2 r l) * NormGrad.factor fun k => x (ix2 r k)) * g (ix2 0 l) := by
  pointwise [k0_pay1]
  rfl

variable (m : (ℓ : Loc nD τ sig) → Buf (Elt Ideal) ℓ) (c : Dev nD)

/-- The row of the whole array at row `r` of block `t`. -/
def row (t : Fin cfg0.N) (r : Fin 512) : Fin 4096 := ⟨t.val * 512 + r.val, by have := t.isLt; have : cfg0.N = 8 := rfl; omega⟩

theorem index : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem block0 (t : Fin cfg0.N) (r : Fin 512) (k : Fin 1024) :
    iblk m c 0 t (ix2 r k) = m ((c : Thread nD τ).loc main_arg0) (ix2 (row t r) k) := by
  rw [← V_main_arg0 m c]
  have h := index t
  blk_simp [iblk]
  refine congrArg _ (funext fun a => Fin.ext ?_)
  match a with
  | 0 => blk_simp [h.1]; rfl
  | 1 => blk_simp [h.1]

theorem block1 (t : Fin cfg0.N) (u : Fin 1) (l : Fin 1024) :
    iblk m c 1 t (ix2 u l) = m ((c : Thread nD τ).loc main_arg1) (ix2 u l) := by
  rw [← V_main_arg1 m c]
  have h := index t
  blk_simp [iblk]
  refine congrArg _ (funext fun a => Fin.ext ?_)
  match a with
  | 0 => blk_simp [h.2.1]
  | 1 => blk_simp [h.2.1]

/-- The result, from the arguments. -/
abbrev out : FVec Ideal S4096x1024 .bf16 := normed (m ((c : Thread nD τ).loc main_arg0)) (m ((c : Thread nD τ).loc main_arg1))

theorem final : (dats m 0 c).arrAt 2 cfg0.N = out m c := by
  refine (dats m 0 c).arrAt_eq_of_covers 2 _ (by decide +kernel) fun t hf y => ?_
  have h := index t
  blk_simp
  rw [after0_2]
  have hp (r : Fin 512) (l : Fin 1024) : (out0_2 (iblk m c 0 t) (iblk m c 1 t) (ix2 r l) : EReal) = out m c (ix2 (row t r) l) := by
    frame_out
    refine (pay _ _ r l).trans ?_
    simp only [block0, block1]
    rfl
  refine ((congrArg _ (eq_ix2 y)).trans (hp (y 0) (y 1))).trans (congrArg _ (funext fun a => Fin.ext ?_))
  match a with
  | 0 => blk_simp [h.2.2]; rfl
  | 1 => blk_simp [h.2.2]

/-- The kernel runs, its result a function of its arguments, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Kernel

section Reference

open Cert.NormInRefIdeal Cert.NormInRefIdeal.Gen Cert.NormInRefIdeal.Value

variable (m : (ℓ : Loc nD τ sig) → Buf (Elt Ideal) ℓ) (c : Dev nD)

/-- The result, from the reference's arguments. -/
abbrev refOut : FVec Ideal S4096x1024 .bf16 := normed (m ((c.tc : Thread nD τ).loc main_arg0)) (m ((c.tc : Thread nD τ).loc main_arg1))

/-- The reference runs, its result the same function of its arguments, its arguments unchanged. -/
theorem ref_run (ρ : Dev nD → PrngReg) : θ_run defs (onTc (τ := τ) (main (F := Ideal))) ⟨m, fun _ => 0, ρ⟩ fun r => ∀ c : Dev nD,
      r.2.mem ((c.tc : Thread nD τ).loc main_v12) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.NormInRefIdeal.Value.run m ρ)
  funext i
  rw [eq_ix2 i]
  pointwise
  rfl

end Reference

end NormIn

end
-- ==== Proof.ProjectValue.lean ====
/- The input projection: the kernel's result as a function of its arguments, and the reference's. -/
module

public import proofs.«01_k».proof.Proof.Products
public import proofs.«01_k».proof.Proof.Adam
public import proofs.«01_k».proof.Proof.Gen.ProjectIdeal.Value
public import proofs.«01_k».proof.Proof.Gen.ProjectRefIdeal.Run

@[expose] public section

noncomputable section

namespace Project

open Idealize.ShloMosaic Idealize.ShloMosaic.TcCoe Idealize.SL.Sem
open scoped BigOperators

section Kernel

open Cert.ProjectIdeal Cert.ProjectIdeal.Gen Cert.ProjectIdeal.Value

/-- What a block computes. -/
theorem pay (a : FVec Ideal S1024x1024 .bf16) (b : FVec Ideal S1024x768 .bf16) (r : Fin 1024) (l : Fin 768) :
    (k0_pay1 (F := Ideal) a b (ix2 r l) : EReal) = ∑ k : Fin 1024, (a (ix2 r k) : EReal) * b (ix2 k l) := by
  pointwise [k0_pay1]

variable (m : (ℓ : Loc nD τ sig) → Buf (Elt Ideal) ℓ) (c : Dev nD)

/-- The row of the whole array at row `r` of block `t` … -/
def row (t : Fin cfg0.N) (r : Fin 1024) : Fin 4096 := ⟨t.val / 4 * 1024 + r.val, by have := t.isLt; have : cfg0.N = 16 := rfl; omega⟩
/-- … and its column at column `l`. -/
def col (t : Fin cfg0.N) (l : Fin 768) : Fin 3072 := ⟨t.val % 4 * 768 + l.val, by have := t.isLt; have : cfg0.N = 16 := rfl; omega⟩

theorem index : ∀ t : Fin cfg0.N, win0_0.index t = ![t.val / 4, 0] ∧ win0_1.index t = ![0, t.val % 4] ∧ win0_2.index t = ![t.val / 4, t.val % 4] :=
  (by decide +kernel : ∀ t : Fin grid0.N, win0_0.index t = ![t.val / 4, 0] ∧ win0_1.index t = ![0, t.val % 4] ∧ win0_2.index t = ![t.val / 4, t.val % 4])

theorem block0 (t : Fin cfg0.N) (r : Fin 1024) (k : Fin 1024) :
    iblk m c 0 t (ix2 r k) = m ((c : Thread nD τ).loc main_arg0) (ix2 (row t r) k) := by
  rw [← V_main_arg0 m c]
  have h := index t
  blk_simp [iblk]
  refine congrArg _ (funext fun a => Fin.ext ?_)
  match a with
  | 0 => blk_simp [h.1]; rfl
  | 1 => blk_simp [h.1]

theorem block1 (t : Fin cfg0.N) (k : Fin 1024) (l : Fin 768) :
    iblk m c 1 t (ix2 k l) = m ((c : Thread nD τ).loc main_arg1) (ix2 k (col t l)) := by
  rw [← V_main_arg1 m c]
  have h := index t
  blk_simp [iblk]
  refine congrArg _ (funext fun a => Fin.ext ?_)
  match a with
  | 0 => blk_simp [h.2.1]
  | 1 => blk_simp [h.2.1]; rfl

/-- The result, from the arguments. -/
abbrev out : FVec Ideal S4096x3072 .f32 := Products.nn (m ((c : Thread nD τ).loc main_arg0)) (m ((c : Thread nD τ).loc main_arg1))

theorem final : (dats m 0 c).arrAt 2 cfg0.N = out m c := by
  refine (dats m 0 c).arrAt_eq_of_covers 2 _ (by decide +kernel) fun t hf y => ?_
  have h := index t
  blk_simp
  rw [after0_2]
  have hp (r : Fin 1024) (l : Fin 768) : (out0_2 (iblk m c 0 t) (iblk m c 1 t) (ix2 r l) : EReal) = out m c (ix2 (row t r) (col t l)) := by
    frame_out
    refine (pay _ _ r l).trans (Finset.sum_congr rfl fun k _ => ?_)
    rw [block0, block1]
    rfl
  refine ((congrArg _ (eq_ix2 y)).trans (hp (y 0) (y 1))).trans (congrArg _ (funext fun a => Fin.ext ?_))
  match a with
  | 0 => blk_simp [h.2.2]; rfl
  | 1 => blk_simp [h.2.2]; rfl

/-- The kernel runs, its result a function of its arguments, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Kernel

section Reference

open Cert.ProjectRefIdeal Cert.ProjectRefIdeal.Gen Cert.ProjectRefIdeal.Value

variable (m : (ℓ : Loc nD τ sig) → Buf (Elt Ideal) ℓ) (c : Dev nD)

/-- The result, from the reference's arguments. -/
abbrev refOut : FVec Ideal S4096x3072 .f32 := Products.nn (m ((c.tc : Thread nD τ).loc main_arg0)) (m ((c.tc : Thread nD τ).loc main_arg1))

/-- The reference runs, its result the same function of its arguments, its arguments unchanged. -/
theorem ref_run (ρ : Dev nD → PrngReg) : θ_run defs (onTc (τ := τ) (main (F := Ideal))) ⟨m, fun _ => 0, ρ⟩ fun r => ∀ c : Dev nD,
      r.2.mem ((c.tc : Thread nD τ).loc main_v2) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.ProjectRefIdeal.Value.run m ρ)
  funext i
  rw [eq_ix2 i]
  pointwise
  rfl

end Reference

end Project

end
-- ==== Proof.MixOutValue.lean ====
/- The output projection added to the residual, and the second norm: the kernel's two results as functions of its arguments, and the
   reference's. -/
module

public import proofs.«01_k».proof.Proof.NormGrad
public import proofs.«01_k».proof.Proof.Adam
public import proofs.«01_k».proof.Proof.Gen.MixOutIdeal.Value
public import proofs.«01_k».proof.Proof.Gen.MixOutRefIdeal.Run

@[expose] public section

noncomputable section

namespace MixOut

open Idealize.ShloMosaic Idealize.ShloMosaic.TcCoe Idealize.SL.Sem
open scoped BigOperators

/-- The projection and the residual. -/
def mixed (a : FVec Ideal ⟨2, ![4096, 1024]⟩ .bf16) (w : FVec Ideal ⟨2, ![1024, 1024]⟩ .bf16) (x : FVec Ideal ⟨2, ![4096, 1024]⟩ .f32) :
    FVec Ideal ⟨2, ![4096, 1024]⟩ .f32 :=
  fun i => ((∑ k : Fin 1024, (a (ix2 (i 0) k) : EReal) * w (ix2 k (i 1))) + x i : EReal)

/-- The normalised rows of it. -/
def normed (a : FVec Ideal ⟨2, ![4096, 1024]⟩ .bf16) (w : FVec Ideal ⟨2, ![1024, 1024]⟩ .bf16) (x : FVec Ideal ⟨2, ![4096, 1024]⟩ .f32)
    (g : FVec Ideal ⟨2, ![1, 1024]⟩ .f32) : FVec Ideal ⟨2, ![4096, 1024]⟩ .bf16 :=
  fun i => ((mixed a w x i * NormGrad.factor fun k => mixed a w x (ix2 (i 0) k)) * g (ix2 0 (i 1)) : EReal)

section Kernel

open Cert.MixOutIdeal Cert.MixOutIdeal.Gen Cert.MixOutIdeal.Value

/-- What a block computes. -/
theorem pay_mixed (a : FVec Ideal S512x1024 .bf16) (w : FVec Ideal S1024x1024 .bf16) (x : FVec Ideal S512x1024 .f32) (r : Fin 512) (l : Fin 1024) :
    (k0_pay1 (F := Ideal) a w x (ix2 r l) : EReal) = (∑ k : Fin 1024, (a (ix2 r k) : EReal) * w (ix2 k l)) + x (ix2 r l) := by
  unfold k0_pay1
  pointwise

theorem pay_normed (a : FVec Ideal S512x1024 .bf16) (w : FVec Ideal S1024x1024 .bf16) (x : FVec Ideal S512x1024 .f32)
    (g : FVec Ideal S1x1024 .f32) (r : Fin 512) (l : Fin 1024) :
    (k0_pay2 (F := Ideal) a w x g (ix2 r l) : EReal)
      = ((k0_pay1 (F := Ideal) a w x (ix2 r l) : EReal) * NormGrad.factor fun k => k0_pay1 (F := Ideal) a w x (ix2 r k)) * g (ix2 0 l) := by
  unfold k0_pay2
  pointwise
  rfl

variable (m : (ℓ : Loc nD τ sig) → Buf (Elt Ideal) ℓ) (c : Dev nD)

/-- The row of the whole array at row `r` of block `t`. -/
def row (t : Fin cfg0.N) (r : Fin 512) : Fin 4096 := ⟨t.val * 512 + r.val, by have := t.isLt; have : cfg0.N = 8 := rfl; omega⟩

theorem index : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![t.val, 0] ∧ win0_3.index t = ![0, 0] ∧ win0_4.index t = ![t.val, 0] ∧ win0_5.index t = ![t.val, 0])

theorem block0 (t : Fin cfg0.N) (r : Fin 512) (k : Fin 1024) :
    iblk m c 0 t (ix2 r k) = m ((c : Thread nD τ).loc main_arg0) (ix2 (row t r) k) := by
  rw [← V_main_arg0 m c]
  have h := index t
  blk_simp [iblk]
  refine congrArg _ (funext fun a => Fin.ext ?_)
  match a with
  | 0 => blk_simp [h.1]; rfl
  | 1 => blk_simp [h.1]

theorem block1 (t : Fin cfg0.N) (k : Fin 1024) (l : Fin 1024) :
    iblk m c 1 t (ix2 k l) = m ((c : Thread nD τ).loc main_arg1) (ix2 k l) := by
  rw [← V_main_arg1 m c]
  have h := index t
  blk_simp [iblk]
  refine congrArg _ (funext fun a => Fin.ext ?_)
  match a with
  | 0 => blk_simp [h.2.1]
  | 1 => blk_simp [h.2.1]

theorem block2 (t : Fin cfg0.N) (r : Fin 512) (l : Fin 1024) :
    iblk m c 2 t (ix2 r l) = m ((c : Thread nD τ).loc main_arg2) (ix2 (row t r) l) := by
  rw [← V_main_arg2 m c]
  have h := index t
  blk_simp [iblk]
  refine congrArg _ (funext fun a => Fin.ext ?_)
  match a with
  | 0 => blk_simp [h.2.2.1]; rfl
  | 1 => blk_simp [h.2.2.1]

theorem block3 (t : Fin cfg0.N) (u : Fin 1) (l : Fin 1024) :
    iblk m c 3 t (ix2 u l) = m ((c : Thread nD τ).loc main_arg3) (ix2 u l) := by
  rw [← V_main_arg3 m c]
  have h := index t
  blk_simp [iblk]
  refine congrArg _ (funext fun a => Fin.ext ?_)
  match a with
  | 0 => blk_simp [h.2.2.2.1]
  | 1 => blk_simp [h.2.2.2.1]

/-- The results, from the arguments. -/
abbrev out : FVec Ideal S4096x1024 .f32 := mixed (m ((c : Thread nD τ).loc main_arg0)) (m ((c : Thread nD τ).loc main_arg1)) (m ((c : Thread nD τ).loc main_arg2))
abbrev outNormed : FVec Ideal S4096x1024 .bf16 :=
  normed (m ((c : Thread nD τ).loc main_arg0)) (m ((c : Thread nD τ).loc main_arg1)) (m ((c : Thread nD τ).loc main_arg2)) (m ((c : Thread nD τ).loc main_arg3))

theorem mixed_at (t : Fin cfg0.N) (r : Fin 512) (l : Fin 1024) :
    (k0_pay1 (F := Ideal) (iblk m c 0 t) (iblk m c 1 t) (iblk m c 2 t) (ix2 r l) : EReal) = out m c (ix2 (row t r) l) := by
  refine (pay_mixed _ _ _ r l).trans ?_
  simp only [block0, block1, block2]
  rfl

theorem final4 : (dats m 0 c).arrAt 4 cfg0.N = out m c := by
  refine (dats m 0 c).arrAt_eq_of_covers 4 _ (by decide +kernel) fun t hf y => ?_
  have h := index t
  blk_simp
  rw [after0_4]
  have hp (r : Fin 512) (l : Fin 1024) : (out0_4 (iblk m c 0 t) (iblk m c 1 t) (iblk m c 2 t) (iblk m c 3 t) (ix2 r l) : EReal) = out m c (ix2 (row t r) l) := by
    frame_out
    exact mixed_at m c t r l
  refine ((congrArg _ (eq_ix2 y)).trans (hp (y 0) (y 1))).trans (congrArg _ (funext fun a => Fin.ext ?_))
  match a with
  | 0 => blk_simp [h.2.2.2.2.1]; rfl
  | 1 => blk_simp [h.2.2.2.2.1]

theorem final5 : (dats m 0 c).arrAt 5 cfg0.N = outNormed m c := by
  refine (dats m 0 c).arrAt_eq_of_covers 5 _ (by decide +kernel) fun t hf y => ?_
  have h := index t
  blk_simp
  rw [after0_5]
  have hp (r : Fin 512) (l : Fin 1024) : (out0_5 (iblk m c 0 t) (iblk m c 1 t) (iblk m c 2 t) (iblk m c 3 t) (ix2 r l) : EReal) = outNormed m c (ix2 (row t r) l) := by
    frame_out
    refine (pay_normed _ _ _ _ r l).trans ?_
    simp only [mixed_at, block3]
    rfl
  refine ((congrArg _ (eq_ix2 y)).trans (hp (y 0) (y 1))).trans (congrArg _ (funext fun a => Fin.ext ?_))
  match a with
  | 0 => blk_simp [h.2.2.2.2.2]; rfl
  | 1 => blk_simp [h.2.2.2.2.2]

/-- The kernel runs, its results functions of its arguments, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = out m c
      ∧ r.2.mem ((c : Thread nD τ).loc main_v0_1) = outNormed m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (run_blocks m ρ)

end Kernel

section Reference

open Cert.MixOutRefIdeal Cert.MixOutRefIdeal.Gen Cert.MixOutRefIdeal.Value

variable (m : (ℓ : Loc nD τ sig) → Buf (Elt Ideal) ℓ) (c : Dev nD)

/-- The results, from the reference's arguments. -/
abbrev refOut : FVec Ideal S4096x1024 .f32 := mixed (m ((c.tc : Thread nD τ).loc main_arg0)) (m ((c.tc : Thread nD τ).loc main_arg1)) (m ((c.tc : Thread nD τ).loc main_arg2))
abbrev refNormed : FVec Ideal S4096x1024 .bf16 :=
  normed (m ((c.tc : Thread nD τ).loc main_arg0)) (m ((c.tc : Thread nD τ).loc main_arg1)) (m ((c.tc : Thread nD τ).loc main_arg2)) (m ((c.tc : Thread nD τ).loc main_arg3))

/-- The reference runs, its results the same functions of its arguments, its arguments unchanged. -/
theorem ref_run (ρ : Dev nD → PrngReg) : θ_run defs (onTc (τ := τ) (main (F := Ideal))) ⟨m, fun _ => 0, ρ⟩ fun r => ∀ c : Dev nD,
      r.2.mem ((c.tc : Thread nD τ).loc main_v3) = refOut m c
      ∧ r.2.mem ((c.tc : Thread nD τ).loc main_v16) = refNormed m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2.1.trans ?_, (h c).2.2⟩) (Cert.MixOutRefIdeal.Value.run m ρ)
  · funext i
    rw [eq_ix2 i]
    pointwise
    rfl
  · funext i
    rw [eq_ix2 i]
    pointwise
    rfl

end Reference

end MixOut

end
-- ==== Proof.FfnUpValue.lean ====
/- The up projection, in chunks: the kernel's result as a function of its arguments, and the reference's. -/
module

public import proofs.«01_k».proof.Proof.Products
public import proofs.«01_k».proof.Proof.Adam
public import proofs.«01_k».proof.Proof.Gen.FfnUpIdeal.Value
public import proofs.«01_k».proof.Proof.Gen.FfnUpRefIdeal.Run

@[expose] public section

noncomputable section

namespace FfnUp

open Idealize.ShloMosaic Idealize.ShloMosaic.TcCoe Idealize.SL.Sem
open scoped BigOperators

section Kernel

open Cert.FfnUpIdeal Cert.FfnUpIdeal.Gen Cert.FfnUpIdeal.Value

/-- What a block computes. -/
theorem pay (a : FVec Ideal S1024x1024 .bf16) (b : FVec Ideal S1x704x1024 .bf16) (u : Fin 1) (r : Fin 1024) (l : Fin 704) :
    (k0_pay1 (F := Ideal) a b (ix3 u r l) : EReal) = ∑ k : Fin 1024, (a (ix2 r k) : EReal) * b (ix3 u l k) := by
  obtain rfl : u = 0 := Subsingleton.elim _ _
  pointwise [k0_pay1]

variable (m : (ℓ : Loc nD τ sig) → Buf (Elt Ideal) ℓ) (c : Dev nD)

/-- The row of the whole array at row `r` of block `t` … -/
def row (t : Fin cfg0.N) (r : Fin 1024) : Fin 4096 := ⟨t.val / 8 * 1024 + r.val, by have := t.isLt; have : cfg0.N = 32 := rfl; omega⟩
/-- … and its chunk. -/
def chunk (t : Fin cfg0.N) : Fin 8 := ⟨t.val % 8, by omega⟩

theorem index : ∀ t : Fin cfg0.N, win0_0.index t = ![t.val / 8, 0] ∧ win0_1.index t = ![t.val % 8, 0, 0] ∧ win0_2.index t = ![t.val % 8, t.val / 8, 0] :=
  (by decide +kernel : ∀ t : Fin grid0.N, win0_0.index t = ![t.val / 8, 0] ∧ win0_1.index t = ![t.val % 8, 0, 0] ∧ win0_2.index t = ![t.val % 8, t.val / 8, 0])

theorem block0 (t : Fin cfg0.N) (r : Fin 1024) (k : Fin 1024) :
    iblk m c 0 t (ix2 r k) = m ((c : Thread nD τ).loc main_arg0) (ix2 (row t r) k) := by
  rw [← V_main_arg0 m c]
  have h := index t
  blk_simp [iblk]
  refine congrArg _ (funext fun a => Fin.ext ?_)
  match a with
  | 0 => blk_simp [h.1]; rfl
  | 1 => blk_simp [h.1]

theorem block1 (t : Fin cfg0.N) (u : Fin 1) (l : Fin 704) (k : Fin 1024) :
    iblk m c 1 t (ix3 u l k) = m ((c : Thread nD τ).loc main_arg1) (ix3 (chunk t) l k) := by
  obtain rfl : u = 0 := Subsingleton.elim _ _
  rw [← V_main_arg1 m c]
  have h := index t
  blk_simp [iblk]
  refine congrArg _ (funext fun a => Fin.ext ?_)
  match a with
  | 0 => blk_simp [h.2.1]; rfl
  | 1 => blk_simp [h.2.1]
  | 2 => blk_simp [h.2.1]

/-- The result, from the arguments. -/
abbrev out : FVec Ideal S8x4096x704 .bf16 := Products.batchNt (m ((c : Thread nD τ).loc main_arg0)) (m ((c : Thread nD τ).loc main_arg1))

theorem final : (dats m 0 c).arrAt 2 cfg0.N = out m c := by
  refine (dats m 0 c).arrAt_eq_of_covers 2 _ (by decide +kernel) fun t hf y => ?_
  have h := index t
  blk_simp
  rw [after0_2]
  have hp (u : Fin 1) (r : Fin 1024) (l : Fin 704) : (out0_2 (iblk m c 0 t) (iblk m c 1 t) (ix3 u r l) : EReal) = out m c (ix3 (chunk t) (row t r) l) := by
    frame_out
    refine (pay _ _ u r l).trans (Finset.sum_congr rfl fun k _ => ?_)
    rw [block0, block1]
    rfl
  refine ((congrArg _ (eq_ix3 y)).trans (hp (y 0) (y 1) (y 2))).trans (congrArg _ (funext fun a => Fin.ext ?_))
  match a with
  | 0 => blk_simp [h.2.2]; rfl
  | 1 => blk_simp [h.2.2]; rfl
  | 2 => blk_simp [h.2.2]

/-- The kernel runs, its result a function of its arguments, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Kernel

section Reference

open Cert.FfnUpRefIdeal Cert.FfnUpRefIdeal.Gen Cert.FfnUpRefIdeal.Value

variable (m : (ℓ : Loc nD τ sig) → Buf (Elt Ideal) ℓ) (c : Dev nD)

/-- The result, from the reference's arguments. -/
abbrev refOut : FVec Ideal S8x4096x704 .bf16 := Products.batchNt (m ((c.tc : Thread nD τ).loc main_arg0)) (m ((c.tc : Thread nD τ).loc main_arg1))

/-- The reference runs, its result the same function of its arguments, its arguments unchanged. -/
theorem ref_run (ρ : Dev nD → PrngReg) : θ_run defs (onTc (τ := τ) (main (F := Ideal))) ⟨m, fun _ => 0, ρ⟩ fun r => ∀ c : Dev nD,
      r.2.mem ((c.tc : Thread nD τ).loc main_v4) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.FfnUpRefIdeal.Value.run m ρ)
  funext i
  rw [eq_ix3 i]
  pointwise
  exact Finset.sum_congr rfl fun k _ => mul_comm _ _

end Reference

end FfnUp

end
-- ==== Proof.DCatValue.lean ====
/- The gradient through the output projection: the kernel's result as a function of its arguments, and the reference's. -/
module

public import proofs.«01_k».proof.Proof.Products
public import proofs.«01_k».proof.Proof.Adam
public import proofs.«01_k».proof.Proof.Gen.DCatIdeal.Value
public import proofs.«01_k».proof.Proof.Gen.DCatRefIdeal.Run

@[expose] public section

noncomputable section

namespace DCat

open Idealize.ShloMosaic Idealize.ShloMosaic.TcCoe Idealize.SL.Sem
open scoped BigOperators

section Kernel

open Cert.DCatIdeal Cert.DCatIdeal.Gen Cert.DCatIdeal.Value

/-- What a block computes. -/
theorem pay (a : FVec Ideal S512x1024 .bf16) (b : FVec Ideal S1024x1024 .bf16) (r : Fin 512) (l : Fin 1024) :
    (k0_pay1 (F := Ideal) a b (ix2 r l) : EReal) = ∑ k : Fin 1024, (a (ix2 r k) : EReal) * b (ix2 l k) := by
  pointwise [k0_pay1]

variable (m : (ℓ : Loc nD τ sig) → Buf (Elt Ideal) ℓ) (c : Dev nD)

/-- The row of the whole array at row `r` of block `t`. -/
def row (t : Fin cfg0.N) (r : Fin 512) : Fin 4096 := ⟨t.val * 512 + r.val, by have := t.isLt; have : cfg0.N = 8 := rfl; omega⟩

theorem index : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem block0 (t : Fin cfg0.N) (r : Fin 512) (k : Fin 1024) :
    iblk m c 0 t (ix2 r k) = m ((c : Thread nD τ).loc main_arg0) (ix2 (row t r) k) := by
  rw [← V_main_arg0 m c]
  have h := index t
  blk_simp [iblk]
  refine congrArg _ (funext fun a => Fin.ext ?_)
  match a with
  | 0 => blk_simp [h.1]; rfl
  | 1 => blk_simp [h.1]

theorem block1 (t : Fin cfg0.N) (l : Fin 1024) (k : Fin 1024) :
    iblk m c 1 t (ix2 l k) = m ((c : Thread nD τ).loc main_arg1) (ix2 l k) := by
  rw [← V_main_arg1 m c]
  have h := index t
  blk_simp [iblk]
  refine congrArg _ (funext fun a => Fin.ext ?_)
  match a with
  | 0 => blk_simp [h.2.1]
  | 1 => blk_simp [h.2.1]

/-- The result, from the arguments. -/
abbrev out : FVec Ideal S4096x1024 .bf16 := Products.nt (m ((c : Thread nD τ).loc main_arg0)) (m ((c : Thread nD τ).loc main_arg1))

theorem final : (dats m 0 c).arrAt 2 cfg0.N = out m c := by
  refine (dats m 0 c).arrAt_eq_of_covers 2 _ (by decide +kernel) fun t hf y => ?_
  have h := index t
  blk_simp
  rw [after0_2]
  have hp (r : Fin 512) (l : Fin 1024) : (out0_2 (iblk m c 0 t) (iblk m c 1 t) (ix2 r l) : EReal) = out m c (ix2 (row t r) l) := by
    frame_out
    refine (pay _ _ r l).trans (Finset.sum_congr rfl fun k _ => ?_)
    rw [block0, block1]
    rfl
  refine ((congrArg _ (eq_ix2 y)).trans (hp (y 0) (y 1))).trans (congrArg _ (funext fun a => Fin.ext ?_))
  match a with
  | 0 => blk_simp [h.2.2]; rfl
  | 1 => blk_simp [h.2.2]

/-- The kernel runs, its result a function of its arguments, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Kernel

section Reference

open Cert.DCatRefIdeal Cert.DCatRefIdeal.Gen Cert.DCatRefIdeal.Value

variable (m : (ℓ : Loc nD τ sig) → Buf (Elt Ideal) ℓ) (c : Dev nD)

/-- The result, from the reference's arguments. -/
abbrev refOut : FVec Ideal S4096x1024 .bf16 := Products.nt (m ((c.tc : Thread nD τ).loc main_arg0)) (m ((c.tc : Thread nD τ).loc main_arg1))

/-- The reference runs, its result the same function of its arguments, its arguments unchanged. -/
theorem ref_run (ρ : Dev nD → PrngReg) : θ_run defs (onTc (τ := τ) (main (F := Ideal))) ⟨m, fun _ => 0, ρ⟩ fun r => ∀ c : Dev nD,
      r.2.mem ((c.tc : Thread nD τ).loc main_v4) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.DCatRefIdeal.Value.run m ρ)
  funext i
  rw [eq_ix2 i]
  pointwise
  rfl

end Reference

end DCat

end
-- ==== Proof.lean ====
/- The claims: one run of each exchange at any float values gives the frames and the values of both programs. -/
module

public import proofs.«01_k».proof.Defs
public import proofs.«01_k».proof.Proof.Gen.GradX
public import proofs.«01_k».proof.Proof.Gen.GradXIdeal.Value
public import proofs.«01_k».proof.Proof.Gen.GradXRefIdeal.Run
public import proofs.«01_k».proof.Proof.Gen.LossHead
public import proofs.«01_k».proof.Proof.Gen.LossHeadIdeal.Value
public import proofs.«01_k».proof.Proof.Gen.LossHeadRefIdeal.Run
public import proofs.«01_k».proof.Proof.Gen.GradIn
public import proofs.«01_k».proof.Proof.Gen.GradInIdeal.Value
public import proofs.«01_k».proof.Proof.Gen.GradInRefIdeal.Run
public import proofs.«01_k».proof.Proof.Gen.GradOut
public import proofs.«01_k».proof.Proof.Gen.GradOutIdeal.Value
public import proofs.«01_k».proof.Proof.Gen.GradOutRefIdeal.Run
public import proofs.«01_k».proof.Proof.Gen.GradUp
public import proofs.«01_k».proof.Proof.Gen.GradUpIdeal.Value
public import proofs.«01_k».proof.Proof.Gen.GradUpRefIdeal.Run
public import proofs.«01_k».proof.Proof.Gen.GradDown
public import proofs.«01_k».proof.Proof.Gen.GradDownIdeal.Value
public import proofs.«01_k».proof.Proof.Gen.GradDownRefIdeal.Run
public import proofs.«01_k».proof.Proof.Gen.NormIn
public import proofs.«01_k».proof.Proof.Gen.NormInIdeal.Value
public import proofs.«01_k».proof.Proof.Gen.NormInRefIdeal.Run
public import proofs.«01_k».proof.Proof.Gen.Project
public import proofs.«01_k».proof.Proof.Gen.ProjectIdeal.Value
public import proofs.«01_k».proof.Proof.Gen.ProjectRefIdeal.Run
public import proofs.«01_k».proof.Proof.Gen.MixOut
public import proofs.«01_k».proof.Proof.Gen.MixOutIdeal.Value
public import proofs.«01_k».proof.Proof.Gen.MixOutRefIdeal.Run
public import proofs.«01_k».proof.Proof.Gen.FfnUp
public import proofs.«01_k».proof.Proof.Gen.FfnUpIdeal.Value
public import proofs.«01_k».proof.Proof.Gen.FfnUpRefIdeal.Run
public import proofs.«01_k».proof.Proof.Gen.DCat
public import proofs.«01_k».proof.Proof.Gen.DCatIdeal.Value
public import proofs.«01_k».proof.Proof.Gen.DCatRefIdeal.Run
public import proofs.«01_k».proof.Proof.Gen.AdamInIdeal.Value
public import proofs.«01_k».proof.Proof.Gen.AdamInRefIdeal.Run
public import proofs.«01_k».proof.Proof.Gen.AdamOutIdeal.Value
public import proofs.«01_k».proof.Proof.Gen.AdamOutRefIdeal.Run
public import proofs.«01_k».proof.Proof.Gen.AdamUpIdeal.Value
public import proofs.«01_k».proof.Proof.Gen.AdamUpRefIdeal.Run
public import proofs.«01_k».proof.Proof.Gen.AdamDownIdeal.Value
public import proofs.«01_k».proof.Proof.Gen.AdamDownRefIdeal.Run
public import proofs.«01_k».proof.Proof.Gen.AdamConvIdeal.Value
public import proofs.«01_k».proof.Proof.Gen.AdamConvRefIdeal.Run
public import proofs.«01_k».proof.Proof.Gen.AdamGainsIdeal.Value
public import proofs.«01_k».proof.Proof.Gen.AdamGainsRefIdeal.Run
public import proofs.«01_k».proof.Proof.Gen.Kernel
public import proofs.«01_k».proof.Proof.Gen.KernelIdeal
public import proofs.«01_k».proof.Proof.Gen.Reference
public import proofs.«01_k».proof.Proof.Gen.Scatter0a
public import proofs.«01_k».proof.Proof.Gen.Scatter0aIdeal
public import proofs.«01_k».proof.Proof.Gen.Scatter0aRef
public import proofs.«01_k».proof.Proof.Gen.Scatter0b
public import proofs.«01_k».proof.Proof.Gen.Scatter0bIdeal
public import proofs.«01_k».proof.Proof.Gen.Scatter0bRef
public import proofs.«01_k».proof.Proof.Gen.GatherE
public import proofs.«01_k».proof.Proof.Gen.GatherEIdeal
public import proofs.«01_k».proof.Proof.Gen.GatherERef
public import proofs.«01_k».proof.Proof.Gen.GatherB
public import proofs.«01_k».proof.Proof.Gen.GatherBIdeal
public import proofs.«01_k».proof.Proof.Gen.GatherBRef
public import proofs.«01_k».proof.Proof.Gen.GatherC
public import proofs.«01_k».proof.Proof.Gen.GatherCIdeal
public import proofs.«01_k».proof.Proof.Gen.GatherCRef
public import proofs.«01_k».proof.Proof.Gen.GatherD
public import proofs.«01_k».proof.Proof.Gen.GatherDIdeal
public import proofs.«01_k».proof.Proof.Gen.GatherDRef
public import proofs.«01_k».proof.Proof.Gen.GatherA
public import proofs.«01_k».proof.Proof.Gen.GatherAIdeal
public import proofs.«01_k».proof.Proof.Gen.GatherARef
public import proofs.«01_k».proof.Proof.Scatter1Value
public import proofs.«01_k».proof.Proof.Scatter0aValue
public import proofs.«01_k».proof.Proof.Scatter0bValue
public import proofs.«01_k».proof.Proof.GatherEValue
public import proofs.«01_k».proof.Proof.GatherBValue
public import proofs.«01_k».proof.Proof.GatherCValue
public import proofs.«01_k».proof.Proof.GatherDValue
public import proofs.«01_k».proof.Proof.GatherAValue
public import proofs.«01_k».proof.Proof.Gen.AdamIn
public import proofs.«01_k».proof.Proof.Gen.AdamOut
public import proofs.«01_k».proof.Proof.Gen.AdamUp
public import proofs.«01_k».proof.Proof.Gen.AdamDown
public import proofs.«01_k».proof.Proof.Gen.AdamConv
public import proofs.«01_k».proof.Proof.Gen.AdamGains
public import proofs.«01_k».proof.Proof.AdamInValue
public import proofs.«01_k».proof.Proof.AdamOutValue
public import proofs.«01_k».proof.Proof.AdamUpValue
public import proofs.«01_k».proof.Proof.AdamDownValue
public import proofs.«01_k».proof.Proof.AdamConvValue
public import proofs.«01_k».proof.Proof.AdamGainsValue
public import proofs.«01_k».proof.Proof.GradXValue
public import proofs.«01_k».proof.Proof.LossHeadValue
public import proofs.«01_k».proof.Proof.GradInValue
public import proofs.«01_k».proof.Proof.GradOutValue
public import proofs.«01_k».proof.Proof.GradUpValue
public import proofs.«01_k».proof.Proof.GradDownValue
public import proofs.«01_k».proof.Proof.NormInValue
public import proofs.«01_k».proof.Proof.ProjectValue
public import proofs.«01_k».proof.Proof.MixOutValue
public import proofs.«01_k».proof.Proof.FfnUpValue
public import proofs.«01_k».proof.Proof.DCatValue

@[expose] public section

noncomputable section

namespace Cert.Proof

open Idealize.ShloMosaic Idealize.SL.Sem

instance factsRI : Cert.ReferenceIdeal.Facts where
  shapeCasts_S8x1024x3072_S8x1024x8x384 := Cert.Reference.Gen.shapeCasts_S8x1024x3072_S8x1024x8x384
  transposes_S8x1024x8x384_S8x8x1024x384_2_0_1_3 := Cert.Reference.Gen.transposes_S8x1024x8x384_S8x8x1024x384_2_0_1_3
  transposes_S8x8x128x1024_S8x8x128x1024_1_0_2_3 := Cert.Reference.Gen.transposes_S8x8x128x1024_S8x8x128x1024_1_0_2_3
  transposes_S8x8x704x1024_S8x8x704x1024_1_0_2_3 := Cert.Reference.Gen.transposes_S8x8x704x1024_S8x8x704x1024_1_0_2_3
  transposes_S8x8x352x1024_S8x8x352x1024_1_0_2_3 := Cert.Reference.Gen.transposes_S8x8x352x1024_S8x8x352x1024_1_0_2_3
  transposes_S8x8x3x768_S8x8x3x768_1_0_2_3 := Cert.Reference.Gen.transposes_S8x8x3x768_S8x8x3x768_1_0_2_3

/-! ## The exchange of the second layer's gradients -/

theorem frame_kernel : Cert.quiescent_Kernel := fun m ρ _ =>
  (θ_run Cert.KernelIdeal.defs _ _).mono (fun _ h => ⟨fun c => (h.1 c).2, h.2⟩) (Scatter1.run_values (F := Bits) m ρ)

theorem frame_kernelIdeal : Cert.quiescent_KernelIdeal := fun m ρ _ =>
  (θ_run Cert.KernelIdeal.defs _ _).mono (fun _ h => ⟨fun c => (h.1 c).2, h.2⟩) (Scatter1.run_values (F := Ideal) m ρ)

theorem frame_referenceIdeal : Cert.quiescent_ReferenceIdeal := fun m ρ _ =>
  (θ_run Cert.Reference.defs _ _).mono (fun _ h => ⟨fun c => (h.1 c).2, h.2⟩) (Scatter1.Ref.run_values (F := Ideal) m ρ)

theorem frame_reference : Cert.quiescent_Reference := fun m ρ _ =>
  (θ_run Cert.Reference.defs _ _).mono (fun _ h => ⟨fun c => (h.1 c).2, h.2⟩) (Scatter1.Ref.run_values (F := Bits) m ρ)

/-- Device `c` ends with block `c` of what the reference computes, at the ideal values; -/
theorem value_ideal : Cert.algebraic_KernelIdeal_ReferenceIdeal := fun m ρ m' ρ' _ hin =>
  ⟨Scatter1.Ref.out0 (m' (((0 : Dev Cert.ReferenceIdeal.nD).tc : Thread Cert.ReferenceIdeal.nD Cert.ReferenceIdeal.τ).loc Cert.ReferenceIdeal.main_arg0)),
    Scatter1.Ref.out1 (m' (((0 : Dev Cert.ReferenceIdeal.nD).tc : Thread Cert.ReferenceIdeal.nD Cert.ReferenceIdeal.τ).loc Cert.ReferenceIdeal.main_arg1)),
    Scatter1.Ref.out2 (m' (((0 : Dev Cert.ReferenceIdeal.nD).tc : Thread Cert.ReferenceIdeal.nD Cert.ReferenceIdeal.τ).loc Cert.ReferenceIdeal.main_arg2)),
    Scatter1.Ref.out3 (m' (((0 : Dev Cert.ReferenceIdeal.nD).tc : Thread Cert.ReferenceIdeal.nD Cert.ReferenceIdeal.τ).loc Cert.ReferenceIdeal.main_arg3)),
    Scatter1.Ref.out4 (m' (((0 : Dev Cert.ReferenceIdeal.nD).tc : Thread Cert.ReferenceIdeal.nD Cert.ReferenceIdeal.τ).loc Cert.ReferenceIdeal.main_arg4)),
    (θ_run Cert.KernelIdeal.defs _ _).mono (fun _ h c => ⟨(h.1 c).1.1.trans (Scatter1.block0 m _ c fun d => (hin d).1), (h.1 c).1.2.1.trans (Scatter1.block1 m _ c fun d => (hin d).2.1),
        (h.1 c).1.2.2.1.trans (Scatter1.block2 m _ c fun d => (hin d).2.2.1), (h.1 c).1.2.2.2.1.trans (Scatter1.block3 m _ c fun d => (hin d).2.2.2.1),
        (h.1 c).1.2.2.2.2.trans (Scatter1.block4 m _ c fun d => (hin d).2.2.2.2), (h.1 c).2⟩)
      (Scatter1.run_values (F := Ideal) m ρ),
    (θ_run Cert.Reference.defs _ _).mono (fun _ h => ⟨(h.1 0).1.1, (h.1 0).1.2.1, (h.1 0).1.2.2.1, (h.1 0).1.2.2.2.1, (h.1 0).1.2.2.2.2, (h.1 0).2⟩) (Scatter1.Ref.run_values (F := Ideal) m' ρ')⟩

/-- and bit for bit. -/
theorem value_bits : Cert.bitexact_Kernel_Reference := fun m ρ m' ρ' _ hin =>
  ⟨Scatter1.Ref.out0 (m' (((0 : Dev Cert.Reference.nD).tc : Thread Cert.Reference.nD Cert.Reference.τ).loc Cert.Reference.main_arg0)),
    Scatter1.Ref.out1 (m' (((0 : Dev Cert.Reference.nD).tc : Thread Cert.Reference.nD Cert.Reference.τ).loc Cert.Reference.main_arg1)),
    Scatter1.Ref.out2 (m' (((0 : Dev Cert.Reference.nD).tc : Thread Cert.Reference.nD Cert.Reference.τ).loc Cert.Reference.main_arg2)),
    Scatter1.Ref.out3 (m' (((0 : Dev Cert.Reference.nD).tc : Thread Cert.Reference.nD Cert.Reference.τ).loc Cert.Reference.main_arg3)),
    Scatter1.Ref.out4 (m' (((0 : Dev Cert.Reference.nD).tc : Thread Cert.Reference.nD Cert.Reference.τ).loc Cert.Reference.main_arg4)),
    (θ_run Cert.KernelIdeal.defs _ _).mono (fun _ h c => ⟨(h.1 c).1.1.trans (Scatter1.block0 (F := Bits) m _ c fun d => (hin d).1), (h.1 c).1.2.1.trans (Scatter1.block1 (F := Bits) m _ c fun d => (hin d).2.1),
        (h.1 c).1.2.2.1.trans (Scatter1.block2 (F := Bits) m _ c fun d => (hin d).2.2.1), (h.1 c).1.2.2.2.1.trans (Scatter1.block3 (F := Bits) m _ c fun d => (hin d).2.2.2.1),
        (h.1 c).1.2.2.2.2.trans (Scatter1.block4 (F := Bits) m _ c fun d => (hin d).2.2.2.2), (h.1 c).2⟩)
      (Scatter1.run_values (F := Bits) m ρ),
    (θ_run Cert.Reference.defs _ _).mono (fun _ h => ⟨(h.1 0).1.1, (h.1 0).1.2.1, (h.1 0).1.2.2.1, (h.1 0).1.2.2.2.1, (h.1 0).1.2.2.2.2, (h.1 0).2⟩) (Scatter1.Ref.run_values (F := Bits) m' ρ')⟩

instance factsScatter0aRef : Cert.Scatter0aRefIdeal.Facts where
  transposes_S8x8x128x1024_S8x8x128x1024_1_0_2_3 := Cert.Scatter0aRef.Gen.transposes_S8x8x128x1024_S8x8x128x1024_1_0_2_3
  transposes_S8x8x704x1024_S8x8x704x1024_1_0_2_3 := Cert.Scatter0aRef.Gen.transposes_S8x8x704x1024_S8x8x704x1024_1_0_2_3
  transposes_S8x8x352x1024_S8x8x352x1024_1_0_2_3 := Cert.Scatter0aRef.Gen.transposes_S8x8x352x1024_S8x8x352x1024_1_0_2_3

/-! ## The exchange of the first layer's output-projection and feed-forward gradients -/

theorem frame_Scatter0a : Cert.quiescent_Scatter0a := fun m ρ _ =>
  (θ_run Cert.Scatter0aIdeal.defs _ _).mono (fun _ h => ⟨fun c => (h.1 c).2, h.2⟩) (Scatter0a.run_values (F := Bits) m ρ)
theorem frame_Scatter0aIdeal : Cert.quiescent_Scatter0aIdeal := fun m ρ _ =>
  (θ_run Cert.Scatter0aIdeal.defs _ _).mono (fun _ h => ⟨fun c => (h.1 c).2, h.2⟩) (Scatter0a.run_values (F := Ideal) m ρ)
theorem frame_Scatter0aRefIdeal : Cert.quiescent_Scatter0aRefIdeal := fun m ρ _ =>
  (θ_run Cert.Scatter0aRef.defs _ _).mono (fun _ h => ⟨fun c => (h.1 c).2, h.2⟩) (Scatter0a.Ref.run_values (F := Ideal) m ρ)
theorem frame_Scatter0aRef : Cert.quiescent_Scatter0aRef := fun m ρ _ =>
  (θ_run Cert.Scatter0aRef.defs _ _).mono (fun _ h => ⟨fun c => (h.1 c).2, h.2⟩) (Scatter0a.Ref.run_values (F := Bits) m ρ)

/-- Device `c` ends with block `c` of what the reference computes, at the ideal values; -/
theorem value_ideal_Scatter0a : Cert.algebraic_Scatter0aIdeal_Scatter0aRefIdeal := fun m ρ m' ρ' _ hin =>
  ⟨Scatter0a.Ref.out0 (F := Ideal) (m' (((0 : Dev Cert.Scatter0aRefIdeal.nD).tc : Thread Cert.Scatter0aRefIdeal.nD Cert.Scatter0aRefIdeal.τ).loc Cert.Scatter0aRefIdeal.main_arg0)),
    Scatter0a.Ref.out1 (F := Ideal) (m' (((0 : Dev Cert.Scatter0aRefIdeal.nD).tc : Thread Cert.Scatter0aRefIdeal.nD Cert.Scatter0aRefIdeal.τ).loc Cert.Scatter0aRefIdeal.main_arg1)),
    Scatter0a.Ref.out2 (F := Ideal) (m' (((0 : Dev Cert.Scatter0aRefIdeal.nD).tc : Thread Cert.Scatter0aRefIdeal.nD Cert.Scatter0aRefIdeal.τ).loc Cert.Scatter0aRefIdeal.main_arg2)),
    (θ_run Cert.Scatter0aIdeal.defs _ _).mono (fun _ h c => ⟨((h.1 c).1.1).trans (Scatter0a.value0 (F := Ideal) m _ c (fun d => (hin d).1)), ((h.1 c).1.2.1).trans (Scatter0a.value1 (F := Ideal) m _ c (fun d => (hin d).2.1)), ((h.1 c).1.2.2).trans (Scatter0a.value2 (F := Ideal) m _ c (fun d => (hin d).2.2)), (h.1 c).2⟩) (Scatter0a.run_values (F := Ideal) m ρ),
    (θ_run Cert.Scatter0aRef.defs _ _).mono (fun _ h => ⟨(h.1 0).1.1, (h.1 0).1.2.1, (h.1 0).1.2.2, (h.1 0).2⟩) (Scatter0a.Ref.run_values (F := Ideal) m' ρ')⟩
/-- and bit for bit. -/
theorem value_bits_Scatter0a : Cert.bitexact_Scatter0a_Scatter0aRef := fun m ρ m' ρ' _ hin =>
  ⟨Scatter0a.Ref.out0 (F := Bits) (m' (((0 : Dev Cert.Scatter0aRef.nD).tc : Thread Cert.Scatter0aRef.nD Cert.Scatter0aRef.τ).loc Cert.Scatter0aRef.main_arg0)),
    Scatter0a.Ref.out1 (F := Bits) (m' (((0 : Dev Cert.Scatter0aRef.nD).tc : Thread Cert.Scatter0aRef.nD Cert.Scatter0aRef.τ).loc Cert.Scatter0aRef.main_arg1)),
    Scatter0a.Ref.out2 (F := Bits) (m' (((0 : Dev Cert.Scatter0aRef.nD).tc : Thread Cert.Scatter0aRef.nD Cert.Scatter0aRef.τ).loc Cert.Scatter0aRef.main_arg2)),
    (θ_run Cert.Scatter0aIdeal.defs _ _).mono (fun _ h c => ⟨((h.1 c).1.1).trans (Scatter0a.value0 (F := Bits) m _ c (fun d => (hin d).1)), ((h.1 c).1.2.1).trans (Scatter0a.value1 (F := Bits) m _ c (fun d => (hin d).2.1)), ((h.1 c).1.2.2).trans (Scatter0a.value2 (F := Bits) m _ c (fun d => (hin d).2.2)), (h.1 c).2⟩) (Scatter0a.run_values (F := Bits) m ρ),
    (θ_run Cert.Scatter0aRef.defs _ _).mono (fun _ h => ⟨(h.1 0).1.1, (h.1 0).1.2.1, (h.1 0).1.2.2, (h.1 0).2⟩) (Scatter0a.Ref.run_values (F := Bits) m' ρ')⟩

instance factsScatter0bRef : Cert.Scatter0bRefIdeal.Facts where
  shapeCasts_S8x1024x3072_S8x1024x8x384 := Cert.Scatter0bRef.Gen.shapeCasts_S8x1024x3072_S8x1024x8x384
  transposes_S8x1024x8x384_S8x8x1024x384_2_0_1_3 := Cert.Scatter0bRef.Gen.transposes_S8x1024x8x384_S8x8x1024x384_2_0_1_3
  transposes_S8x8x3x768_S8x8x3x768_1_0_2_3 := Cert.Scatter0bRef.Gen.transposes_S8x8x3x768_S8x8x3x768_1_0_2_3

/-! ## The exchange of the first layer's input-projection and convolution gradients -/

theorem frame_Scatter0b : Cert.quiescent_Scatter0b := fun m ρ _ =>
  (θ_run Cert.Scatter0bIdeal.defs _ _).mono (fun _ h => ⟨fun c => (h.1 c).2, h.2⟩) (Scatter0b.run_values (F := Bits) m ρ)
theorem frame_Scatter0bIdeal : Cert.quiescent_Scatter0bIdeal := fun m ρ _ =>
  (θ_run Cert.Scatter0bIdeal.defs _ _).mono (fun _ h => ⟨fun c => (h.1 c).2, h.2⟩) (Scatter0b.run_values (F := Ideal) m ρ)
theorem frame_Scatter0bRefIdeal : Cert.quiescent_Scatter0bRefIdeal := fun m ρ _ =>
  (θ_run Cert.Scatter0bRef.defs _ _).mono (fun _ h => ⟨fun c => (h.1 c).2, h.2⟩) (Scatter0b.Ref.run_values (F := Ideal) m ρ)
theorem frame_Scatter0bRef : Cert.quiescent_Scatter0bRef := fun m ρ _ =>
  (θ_run Cert.Scatter0bRef.defs _ _).mono (fun _ h => ⟨fun c => (h.1 c).2, h.2⟩) (Scatter0b.Ref.run_values (F := Bits) m ρ)

/-- Device `c` ends with block `c` of what the reference computes, at the ideal values; -/
theorem value_ideal_Scatter0b : Cert.algebraic_Scatter0bIdeal_Scatter0bRefIdeal := fun m ρ m' ρ' _ hin =>
  ⟨Scatter0b.Ref.out0 (F := Ideal) (m' (((0 : Dev Cert.Scatter0bRefIdeal.nD).tc : Thread Cert.Scatter0bRefIdeal.nD Cert.Scatter0bRefIdeal.τ).loc Cert.Scatter0bRefIdeal.main_arg0)),
    Scatter0b.Ref.out1 (F := Ideal) (m' (((0 : Dev Cert.Scatter0bRefIdeal.nD).tc : Thread Cert.Scatter0bRefIdeal.nD Cert.Scatter0bRefIdeal.τ).loc Cert.Scatter0bRefIdeal.main_arg1)),
    (θ_run Cert.Scatter0bIdeal.defs _ _).mono (fun _ h c => ⟨((h.1 c).1.1).trans (Scatter0b.value0 (F := Ideal) m _ c (fun d => (hin d).1)), ((h.1 c).1.2).trans (Scatter0b.value1 (F := Ideal) m _ c (fun d => (hin d).2)), (h.1 c).2⟩) (Scatter0b.run_values (F := Ideal) m ρ),
    (θ_run Cert.Scatter0bRef.defs _ _).mono (fun _ h => ⟨(h.1 0).1.1, (h.1 0).1.2, (h.1 0).2⟩) (Scatter0b.Ref.run_values (F := Ideal) m' ρ')⟩
/-- and bit for bit. -/
theorem value_bits_Scatter0b : Cert.bitexact_Scatter0b_Scatter0bRef := fun m ρ m' ρ' _ hin =>
  ⟨Scatter0b.Ref.out0 (F := Bits) (m' (((0 : Dev Cert.Scatter0bRef.nD).tc : Thread Cert.Scatter0bRef.nD Cert.Scatter0bRef.τ).loc Cert.Scatter0bRef.main_arg0)),
    Scatter0b.Ref.out1 (F := Bits) (m' (((0 : Dev Cert.Scatter0bRef.nD).tc : Thread Cert.Scatter0bRef.nD Cert.Scatter0bRef.τ).loc Cert.Scatter0bRef.main_arg1)),
    (θ_run Cert.Scatter0bIdeal.defs _ _).mono (fun _ h c => ⟨((h.1 c).1.1).trans (Scatter0b.value0 (F := Bits) m _ c (fun d => (hin d).1)), ((h.1 c).1.2).trans (Scatter0b.value1 (F := Bits) m _ c (fun d => (hin d).2)), (h.1 c).2⟩) (Scatter0b.run_values (F := Bits) m ρ),
    (θ_run Cert.Scatter0bRef.defs _ _).mono (fun _ h => ⟨(h.1 0).1.1, (h.1 0).1.2, (h.1 0).2⟩) (Scatter0b.Ref.run_values (F := Bits) m' ρ')⟩

instance factsGatherERef : Cert.GatherERefIdeal.Facts where
  slices_S2x1024x5632_S1x1024x5632_1_0_0 := Cert.GatherERef.Gen.slices_S2x1024x5632_S1x1024x5632_1_0_0
  shapeCasts_S1x1024x5632_S1024x5632 := Cert.GatherERef.Gen.shapeCasts_S1x1024x5632_S1024x5632
  transposes_S1024x5632_S5632x1024_1_0 := Cert.GatherERef.Gen.transposes_S1024x5632_S5632x1024_1_0
  bitsLt_bf16_f32 := Cert.GatherERef.Gen.bitsLt_bf16_f32
  shapeCasts_S5632x1024_S8x704x1024 := Cert.GatherERef.Gen.shapeCasts_S5632x1024_S8x704x1024
  slices_S2x2816x1024_S1x2816x1024_1_0_0 := Cert.GatherERef.Gen.slices_S2x2816x1024_S1x2816x1024_1_0_0
  shapeCasts_S1x2816x1024_S2816x1024 := Cert.GatherERef.Gen.shapeCasts_S1x2816x1024_S2816x1024
  shapeCasts_S2816x1024_S8x352x1024 := Cert.GatherERef.Gen.shapeCasts_S2816x1024_S8x352x1024

/-! ## The gather of the second layer's feed-forward matrices -/

theorem frame_GatherE : Cert.quiescent_GatherE := fun m ρ _ =>
  (θ_run Cert.GatherEIdeal.defs _ _).mono (fun _ h => ⟨fun c => (h.1 c).2, h.2⟩) (GatherE.run_values (F := Bits) m ρ)
theorem frame_GatherEIdeal : Cert.quiescent_GatherEIdeal := fun m ρ _ =>
  (θ_run Cert.GatherEIdeal.defs _ _).mono (fun _ h => ⟨fun c => (h.1 c).2, h.2⟩) (GatherE.run_values (F := Ideal) m ρ)
theorem frame_GatherERefIdeal : Cert.quiescent_GatherERefIdeal := fun m ρ _ =>
  (θ_run Cert.GatherERef.defs _ _).mono (fun _ h => ⟨fun c => (h.1 c).2, h.2⟩) (GatherE.Ref.run_values (F := Ideal) m ρ)
theorem frame_GatherERef : Cert.quiescent_GatherERef := fun m ρ _ =>
  (θ_run Cert.GatherERef.defs _ _).mono (fun _ h => ⟨fun c => (h.1 c).2, h.2⟩) (GatherE.Ref.run_values (F := Bits) m ρ)

/-- Every device ends with what the reference computes, at the ideal values; -/
theorem value_ideal_GatherE : Cert.algebraic_GatherEIdeal_GatherERefIdeal := fun m ρ m' ρ' _ hin =>
  ⟨GatherE.Ref.out0 (F := Ideal) (m' (((0 : Dev Cert.GatherERefIdeal.nD).tc : Thread Cert.GatherERefIdeal.nD Cert.GatherERefIdeal.τ).loc Cert.GatherERefIdeal.main_arg0)),
    GatherE.Ref.out1 (F := Ideal) (m' (((0 : Dev Cert.GatherERefIdeal.nD).tc : Thread Cert.GatherERefIdeal.nD Cert.GatherERefIdeal.τ).loc Cert.GatherERefIdeal.main_arg1)),
    (θ_run Cert.GatherEIdeal.defs _ _).mono (fun _ h c => ⟨((h.1 c).1.1).trans (GatherE.value0 (F := Ideal) m _ c (fun d => (hin d).1)), ((h.1 c).1.2).trans (GatherE.value1 (F := Ideal) m _ c (fun d => (hin d).2)), (h.1 c).2⟩) (GatherE.run_values (F := Ideal) m ρ),
    (θ_run Cert.GatherERef.defs _ _).mono (fun _ h => ⟨(h.1 0).1.1, (h.1 0).1.2, (h.1 0).2⟩) (GatherE.Ref.run_values (F := Ideal) m' ρ')⟩
/-- and bit for bit. -/
theorem value_bits_GatherE : Cert.bitexact_GatherE_GatherERef := fun m ρ m' ρ' _ hin =>
  ⟨GatherE.Ref.out0 (F := Bits) (m' (((0 : Dev Cert.GatherERef.nD).tc : Thread Cert.GatherERef.nD Cert.GatherERef.τ).loc Cert.GatherERef.main_arg0)),
    GatherE.Ref.out1 (F := Bits) (m' (((0 : Dev Cert.GatherERef.nD).tc : Thread Cert.GatherERef.nD Cert.GatherERef.τ).loc Cert.GatherERef.main_arg1)),
    (θ_run Cert.GatherEIdeal.defs _ _).mono (fun _ h c => ⟨((h.1 c).1.1).trans (GatherE.value0 (F := Bits) m _ c (fun d => (hin d).1)), ((h.1 c).1.2).trans (GatherE.value1 (F := Bits) m _ c (fun d => (hin d).2)), (h.1 c).2⟩) (GatherE.run_values (F := Bits) m ρ),
    (θ_run Cert.GatherERef.defs _ _).mono (fun _ h => ⟨(h.1 0).1.1, (h.1 0).1.2, (h.1 0).2⟩) (GatherE.Ref.run_values (F := Bits) m' ρ')⟩

instance factsGatherBRef : Cert.GatherBRefIdeal.Facts where
  slices_S2x1024x1024_S1x1024x1024_0_0_0 := Cert.GatherBRef.Gen.slices_S2x1024x1024_S1x1024x1024_0_0_0
  shapeCasts_S1x1024x1024_S1024x1024 := Cert.GatherBRef.Gen.shapeCasts_S1x1024x1024_S1024x1024
  bitsLt_bf16_f32 := Cert.GatherBRef.Gen.bitsLt_bf16_f32
  shapeCasts_S1024x1024_S8x128x1024 := Cert.GatherBRef.Gen.shapeCasts_S1024x1024_S8x128x1024
  slices_S2x1024x5632_S1x1024x5632_0_0_0 := Cert.GatherBRef.Gen.slices_S2x1024x5632_S1x1024x5632_0_0_0
  shapeCasts_S1x1024x5632_S1024x5632 := Cert.GatherBRef.Gen.shapeCasts_S1x1024x5632_S1024x5632
  transposes_S1024x5632_S5632x1024_1_0 := Cert.GatherBRef.Gen.transposes_S1024x5632_S5632x1024_1_0
  shapeCasts_S5632x1024_S8x704x1024 := Cert.GatherBRef.Gen.shapeCasts_S5632x1024_S8x704x1024

/-! ## The gather of the first layer's output projection and up matrix -/

theorem frame_GatherB : Cert.quiescent_GatherB := fun m ρ _ =>
  (θ_run Cert.GatherBIdeal.defs _ _).mono (fun _ h => ⟨fun c => (h.1 c).2, h.2⟩) (GatherB.run_values (F := Bits) m ρ)
theorem frame_GatherBIdeal : Cert.quiescent_GatherBIdeal := fun m ρ _ =>
  (θ_run Cert.GatherBIdeal.defs _ _).mono (fun _ h => ⟨fun c => (h.1 c).2, h.2⟩) (GatherB.run_values (F := Ideal) m ρ)
theorem frame_GatherBRefIdeal : Cert.quiescent_GatherBRefIdeal := fun m ρ _ =>
  (θ_run Cert.GatherBRef.defs _ _).mono (fun _ h => ⟨fun c => (h.1 c).2, h.2⟩) (GatherB.Ref.run_values (F := Ideal) m ρ)
theorem frame_GatherBRef : Cert.quiescent_GatherBRef := fun m ρ _ =>
  (θ_run Cert.GatherBRef.defs _ _).mono (fun _ h => ⟨fun c => (h.1 c).2, h.2⟩) (GatherB.Ref.run_values (F := Bits) m ρ)

/-- Every device ends with what the reference computes, at the ideal values; -/
theorem value_ideal_GatherB : Cert.algebraic_GatherBIdeal_GatherBRefIdeal := fun m ρ m' ρ' _ hin =>
  ⟨GatherB.Ref.out0 (F := Ideal) (m' (((0 : Dev Cert.GatherBRefIdeal.nD).tc : Thread Cert.GatherBRefIdeal.nD Cert.GatherBRefIdeal.τ).loc Cert.GatherBRefIdeal.main_arg0)),
    GatherB.Ref.out1 (F := Ideal) (m' (((0 : Dev Cert.GatherBRefIdeal.nD).tc : Thread Cert.GatherBRefIdeal.nD Cert.GatherBRefIdeal.τ).loc Cert.GatherBRefIdeal.main_arg1)),
    (θ_run Cert.GatherBIdeal.defs _ _).mono (fun _ h c => ⟨((h.1 c).1.1).trans (GatherB.value0 (F := Ideal) m _ c (fun d => (hin d).1)), ((h.1 c).1.2).trans (GatherB.value1 (F := Ideal) m _ c (fun d => (hin d).2)), (h.1 c).2⟩) (GatherB.run_values (F := Ideal) m ρ),
    (θ_run Cert.GatherBRef.defs _ _).mono (fun _ h => ⟨(h.1 0).1.1, (h.1 0).1.2, (h.1 0).2⟩) (GatherB.Ref.run_values (F := Ideal) m' ρ')⟩
/-- and bit for bit. -/
theorem value_bits_GatherB : Cert.bitexact_GatherB_GatherBRef := fun m ρ m' ρ' _ hin =>
  ⟨GatherB.Ref.out0 (F := Bits) (m' (((0 : Dev Cert.GatherBRef.nD).tc : Thread Cert.GatherBRef.nD Cert.GatherBRef.τ).loc Cert.GatherBRef.main_arg0)),
    GatherB.Ref.out1 (F := Bits) (m' (((0 : Dev Cert.GatherBRef.nD).tc : Thread Cert.GatherBRef.nD Cert.GatherBRef.τ).loc Cert.GatherBRef.main_arg1)),
    (θ_run Cert.GatherBIdeal.defs _ _).mono (fun _ h c => ⟨((h.1 c).1.1).trans (GatherB.value0 (F := Bits) m _ c (fun d => (hin d).1)), ((h.1 c).1.2).trans (GatherB.value1 (F := Bits) m _ c (fun d => (hin d).2)), (h.1 c).2⟩) (GatherB.run_values (F := Bits) m ρ),
    (θ_run Cert.GatherBRef.defs _ _).mono (fun _ h => ⟨(h.1 0).1.1, (h.1 0).1.2, (h.1 0).2⟩) (GatherB.Ref.run_values (F := Bits) m' ρ')⟩

instance factsGatherCRef : Cert.GatherCRefIdeal.Facts where
  slices_S2x2816x1024_S1x2816x1024_0_0_0 := Cert.GatherCRef.Gen.slices_S2x2816x1024_S1x2816x1024_0_0_0
  shapeCasts_S1x2816x1024_S2816x1024 := Cert.GatherCRef.Gen.shapeCasts_S1x2816x1024_S2816x1024
  bitsLt_bf16_f32 := Cert.GatherCRef.Gen.bitsLt_bf16_f32
  shapeCasts_S2816x1024_S8x352x1024 := Cert.GatherCRef.Gen.shapeCasts_S2816x1024_S8x352x1024

/-! ## The gather of the first layer's down matrix -/

theorem frame_GatherC : Cert.quiescent_GatherC := fun m ρ _ =>
  (θ_run Cert.GatherCIdeal.defs _ _).mono (fun _ h => ⟨fun c => (h.1 c).2, h.2⟩) (GatherC.run_values (F := Bits) m ρ)
theorem frame_GatherCIdeal : Cert.quiescent_GatherCIdeal := fun m ρ _ =>
  (θ_run Cert.GatherCIdeal.defs _ _).mono (fun _ h => ⟨fun c => (h.1 c).2, h.2⟩) (GatherC.run_values (F := Ideal) m ρ)
theorem frame_GatherCRefIdeal : Cert.quiescent_GatherCRefIdeal := fun m ρ _ =>
  (θ_run Cert.GatherCRef.defs _ _).mono (fun _ h => ⟨fun c => (h.1 c).2, h.2⟩) (GatherC.Ref.run_values (F := Ideal) m ρ)
theorem frame_GatherCRef : Cert.quiescent_GatherCRef := fun m ρ _ =>
  (θ_run Cert.GatherCRef.defs _ _).mono (fun _ h => ⟨fun c => (h.1 c).2, h.2⟩) (GatherC.Ref.run_values (F := Bits) m ρ)

/-- Every device ends with what the reference computes, at the ideal values; -/
theorem value_ideal_GatherC : Cert.algebraic_GatherCIdeal_GatherCRefIdeal := fun m ρ m' ρ' _ hin =>
  ⟨GatherC.Ref.out0 (F := Ideal) (m' (((0 : Dev Cert.GatherCRefIdeal.nD).tc : Thread Cert.GatherCRefIdeal.nD Cert.GatherCRefIdeal.τ).loc Cert.GatherCRefIdeal.main_arg0)),
    (θ_run Cert.GatherCIdeal.defs _ _).mono (fun _ h c => ⟨((h.1 c).1).trans (GatherC.value0 (F := Ideal) m _ c (fun d => (hin d))), (h.1 c).2⟩) (GatherC.run_values (F := Ideal) m ρ),
    (θ_run Cert.GatherCRef.defs _ _).mono (fun _ h => ⟨(h.1 0).1, (h.1 0).2⟩) (GatherC.Ref.run_values (F := Ideal) m' ρ')⟩
/-- and bit for bit. -/
theorem value_bits_GatherC : Cert.bitexact_GatherC_GatherCRef := fun m ρ m' ρ' _ hin =>
  ⟨GatherC.Ref.out0 (F := Bits) (m' (((0 : Dev Cert.GatherCRef.nD).tc : Thread Cert.GatherCRef.nD Cert.GatherCRef.τ).loc Cert.GatherCRef.main_arg0)),
    (θ_run Cert.GatherCIdeal.defs _ _).mono (fun _ h c => ⟨((h.1 c).1).trans (GatherC.value0 (F := Bits) m _ c (fun d => (hin d))), (h.1 c).2⟩) (GatherC.run_values (F := Bits) m ρ),
    (θ_run Cert.GatherCRef.defs _ _).mono (fun _ h => ⟨(h.1 0).1, (h.1 0).2⟩) (GatherC.Ref.run_values (F := Bits) m' ρ')⟩

instance factsGatherDRef : Cert.GatherDRefIdeal.Facts where
  slices_S2x1024x3072_S1x1024x3072_1_0_0 := Cert.GatherDRef.Gen.slices_S2x1024x3072_S1x1024x3072_1_0_0
  shapeCasts_S1x1024x3072_S1024x3072 := Cert.GatherDRef.Gen.shapeCasts_S1x1024x3072_S1024x3072
  bitsLt_bf16_f32 := Cert.GatherDRef.Gen.bitsLt_bf16_f32
  slices_S2x1024x1024_S1x1024x1024_1_0_0 := Cert.GatherDRef.Gen.slices_S2x1024x1024_S1x1024x1024_1_0_0
  shapeCasts_S1x1024x1024_S1024x1024 := Cert.GatherDRef.Gen.shapeCasts_S1x1024x1024_S1024x1024
  shapeCasts_S1024x1024_S8x128x1024 := Cert.GatherDRef.Gen.shapeCasts_S1024x1024_S8x128x1024

/-! ## The gather of the second layer's two projections -/

theorem frame_GatherD : Cert.quiescent_GatherD := fun m ρ _ =>
  (θ_run Cert.GatherDIdeal.defs _ _).mono (fun _ h => ⟨fun c => (h.1 c).2, h.2⟩) (GatherD.run_values (F := Bits) m ρ)
theorem frame_GatherDIdeal : Cert.quiescent_GatherDIdeal := fun m ρ _ =>
  (θ_run Cert.GatherDIdeal.defs _ _).mono (fun _ h => ⟨fun c => (h.1 c).2, h.2⟩) (GatherD.run_values (F := Ideal) m ρ)
theorem frame_GatherDRefIdeal : Cert.quiescent_GatherDRefIdeal := fun m ρ _ =>
  (θ_run Cert.GatherDRef.defs _ _).mono (fun _ h => ⟨fun c => (h.1 c).2, h.2⟩) (GatherD.Ref.run_values (F := Ideal) m ρ)
theorem frame_GatherDRef : Cert.quiescent_GatherDRef := fun m ρ _ =>
  (θ_run Cert.GatherDRef.defs _ _).mono (fun _ h => ⟨fun c => (h.1 c).2, h.2⟩) (GatherD.Ref.run_values (F := Bits) m ρ)

/-- Every device ends with what the reference computes, at the ideal values; -/
theorem value_ideal_GatherD : Cert.algebraic_GatherDIdeal_GatherDRefIdeal := fun m ρ m' ρ' _ hin =>
  ⟨GatherD.Ref.out0 (F := Ideal) (m' (((0 : Dev Cert.GatherDRefIdeal.nD).tc : Thread Cert.GatherDRefIdeal.nD Cert.GatherDRefIdeal.τ).loc Cert.GatherDRefIdeal.main_arg0)),
    GatherD.Ref.out1 (F := Ideal) (m' (((0 : Dev Cert.GatherDRefIdeal.nD).tc : Thread Cert.GatherDRefIdeal.nD Cert.GatherDRefIdeal.τ).loc Cert.GatherDRefIdeal.main_arg1)),
    (θ_run Cert.GatherDIdeal.defs _ _).mono (fun _ h c => ⟨((h.1 c).1.1).trans (GatherD.value0 (F := Ideal) m _ c (fun d => (hin d).1)), ((h.1 c).1.2).trans (GatherD.value1 (F := Ideal) m _ c (fun d => (hin d).2)), (h.1 c).2⟩) (GatherD.run_values (F := Ideal) m ρ),
    (θ_run Cert.GatherDRef.defs _ _).mono (fun _ h => ⟨(h.1 0).1.1, (h.1 0).1.2, (h.1 0).2⟩) (GatherD.Ref.run_values (F := Ideal) m' ρ')⟩
/-- and bit for bit. -/
theorem value_bits_GatherD : Cert.bitexact_GatherD_GatherDRef := fun m ρ m' ρ' _ hin =>
  ⟨GatherD.Ref.out0 (F := Bits) (m' (((0 : Dev Cert.GatherDRef.nD).tc : Thread Cert.GatherDRef.nD Cert.GatherDRef.τ).loc Cert.GatherDRef.main_arg0)),
    GatherD.Ref.out1 (F := Bits) (m' (((0 : Dev Cert.GatherDRef.nD).tc : Thread Cert.GatherDRef.nD Cert.GatherDRef.τ).loc Cert.GatherDRef.main_arg1)),
    (θ_run Cert.GatherDIdeal.defs _ _).mono (fun _ h c => ⟨((h.1 c).1.1).trans (GatherD.value0 (F := Bits) m _ c (fun d => (hin d).1)), ((h.1 c).1.2).trans (GatherD.value1 (F := Bits) m _ c (fun d => (hin d).2)), (h.1 c).2⟩) (GatherD.run_values (F := Bits) m ρ),
    (θ_run Cert.GatherDRef.defs _ _).mono (fun _ h => ⟨(h.1 0).1.1, (h.1 0).1.2, (h.1 0).2⟩) (GatherD.Ref.run_values (F := Bits) m' ρ')⟩

instance factsGatherARef : Cert.GatherARefIdeal.Facts where
  shapeCasts_S2x3x5632_S2x3x8x704 := Cert.GatherARef.Gen.shapeCasts_S2x3x5632_S2x3x8x704
  transposes_S2x3x8x704_S8x2x3x704_2_0_1_3 := Cert.GatherARef.Gen.transposes_S2x3x8x704_S8x2x3x704_2_0_1_3
  shapeCasts_S2x3x512_S2x3x8x64 := Cert.GatherARef.Gen.shapeCasts_S2x3x512_S2x3x8x64
  transposes_S2x3x8x64_S8x2x3x64_2_0_1_3 := Cert.GatherARef.Gen.transposes_S2x3x8x64_S8x2x3x64_2_0_1_3
  concatenates_S8x2x3x704_S8x2x3x64_S8x2x3x768_d3 := Cert.GatherARef.Gen.concatenates_S8x2x3x704_S8x2x3x64_S8x2x3x768_d3
  slices_S2x1024x3072_S1x1024x3072_0_0_0 := Cert.GatherARef.Gen.slices_S2x1024x3072_S1x1024x3072_0_0_0
  shapeCasts_S1x1024x3072_S1024x3072 := Cert.GatherARef.Gen.shapeCasts_S1x1024x3072_S1024x3072
  bitsLt_bf16_f32 := Cert.GatherARef.Gen.bitsLt_bf16_f32

/-! ## The gather of the convolution weights and the first layer's input projection -/

theorem frame_GatherA : Cert.quiescent_GatherA := fun m ρ _ =>
  (θ_run Cert.GatherAIdeal.defs _ _).mono (fun _ h => ⟨fun c => (h.1 c).2, h.2⟩) (GatherA.run_values (F := Bits) m ρ)
theorem frame_GatherAIdeal : Cert.quiescent_GatherAIdeal := fun m ρ _ =>
  (θ_run Cert.GatherAIdeal.defs _ _).mono (fun _ h => ⟨fun c => (h.1 c).2, h.2⟩) (GatherA.run_values (F := Ideal) m ρ)
theorem frame_GatherARefIdeal : Cert.quiescent_GatherARefIdeal := fun m ρ _ =>
  (θ_run Cert.GatherARef.defs _ _).mono (fun _ h => ⟨fun c => (h.1 c).2, h.2⟩) (GatherA.Ref.run_values (F := Ideal) m ρ)
theorem frame_GatherARef : Cert.quiescent_GatherARef := fun m ρ _ =>
  (θ_run Cert.GatherARef.defs _ _).mono (fun _ h => ⟨fun c => (h.1 c).2, h.2⟩) (GatherA.Ref.run_values (F := Bits) m ρ)

/-- Every device ends with what the reference computes, at the ideal values; -/
theorem value_ideal_GatherA : Cert.algebraic_GatherAIdeal_GatherARefIdeal := fun m ρ m' ρ' _ hin =>
  ⟨GatherA.Ref.out0 (F := Ideal) (m' (((0 : Dev Cert.GatherARefIdeal.nD).tc : Thread Cert.GatherARefIdeal.nD Cert.GatherARefIdeal.τ).loc Cert.GatherARefIdeal.main_arg0)) (m' (((0 : Dev Cert.GatherARefIdeal.nD).tc : Thread Cert.GatherARefIdeal.nD Cert.GatherARefIdeal.τ).loc Cert.GatherARefIdeal.main_arg1)),
    GatherA.Ref.out1 (F := Ideal) (m' (((0 : Dev Cert.GatherARefIdeal.nD).tc : Thread Cert.GatherARefIdeal.nD Cert.GatherARefIdeal.τ).loc Cert.GatherARefIdeal.main_arg2)),
    (θ_run Cert.GatherAIdeal.defs _ _).mono (fun _ h c => ⟨((h.1 c).1.1).trans (GatherA.value0 (F := Ideal) m _ _ c (fun d => (hin d).1) (fun d => (hin d).2.1)), ((h.1 c).1.2).trans (GatherA.value1 (F := Ideal) m _ c (fun d => (hin d).2.2)), (h.1 c).2⟩) (GatherA.run_values (F := Ideal) m ρ),
    (θ_run Cert.GatherARef.defs _ _).mono (fun _ h => ⟨(h.1 0).1.1, (h.1 0).1.2, (h.1 0).2⟩) (GatherA.Ref.run_values (F := Ideal) m' ρ')⟩
/-- and bit for bit. -/
theorem value_bits_GatherA : Cert.bitexact_GatherA_GatherARef := fun m ρ m' ρ' _ hin =>
  ⟨GatherA.Ref.out0 (F := Bits) (m' (((0 : Dev Cert.GatherARef.nD).tc : Thread Cert.GatherARef.nD Cert.GatherARef.τ).loc Cert.GatherARef.main_arg0)) (m' (((0 : Dev Cert.GatherARef.nD).tc : Thread Cert.GatherARef.nD Cert.GatherARef.τ).loc Cert.GatherARef.main_arg1)),
    GatherA.Ref.out1 (F := Bits) (m' (((0 : Dev Cert.GatherARef.nD).tc : Thread Cert.GatherARef.nD Cert.GatherARef.τ).loc Cert.GatherARef.main_arg2)),
    (θ_run Cert.GatherAIdeal.defs _ _).mono (fun _ h c => ⟨((h.1 c).1.1).trans (GatherA.value0 (F := Bits) m _ _ c (fun d => (hin d).1) (fun d => (hin d).2.1)), ((h.1 c).1.2).trans (GatherA.value1 (F := Bits) m _ c (fun d => (hin d).2.2)), (h.1 c).2⟩) (GatherA.run_values (F := Bits) m ρ),
    (θ_run Cert.GatherARef.defs _ _).mono (fun _ h => ⟨(h.1 0).1.1, (h.1 0).1.2, (h.1 0).2⟩) (GatherA.Ref.run_values (F := Bits) m' ρ')⟩

/-! ## The optimiser's step

Each program has one device and no exchange; its reference has no semaphore at all. -/

/-- A machine without semaphores has them all at zero. -/
theorem atZero {nD : Nat} {τ : Topo} {sig : RefSig} [h : IsEmpty (SemLoc sig)] (σ : GSem nD τ sig → Int) : σ = fun _ => 0 :=
  funext fun g => h.elim g.2

/-! ### Of the input projections -/

instance : IsEmpty (SemLoc Cert.AdamInRefIdeal.sig) := by
  constructor; rintro (s | s) <;> exact absurd s.isLt (Nat.not_lt_zero _)
theorem bodies_AdamIn : Cert.AdamIn.defs (F := Bits) = Cert.AdamInIdeal.defs (F := Bits) :=
  congrArg (Pipeline.defs (Cert.AdamInIdeal.pcfgs (F := Bits))) (congrArg Defs.onTc (funext fun l => funext fun x => match l, x with
    | 0, (_, _) => rfl))
theorem frame_AdamIn : Cert.quiescent_AdamIn := fun m ρ _ => bodies_AdamIn.symm ▸ Cert.AdamInIdeal.Gen.frame (F := Bits) m ρ
theorem frame_AdamInIdeal : Cert.quiescent_AdamInIdeal := fun m ρ _ => Cert.AdamInIdeal.Gen.frame (F := Ideal) m ρ
theorem frame_AdamInRefIdeal : Cert.quiescent_AdamInRefIdeal := fun m ρ _ =>
  (θ_run Cert.AdamInRefIdeal.defs _ _).mono (fun _ h => ⟨fun c => (h c).2.2.2.2, atZero _⟩) (AdamIn.ref_run m ρ)
/-- Summed gradients, update and both new moments are the reference's. -/
theorem value_AdamIn : Cert.algebraic_AdamInIdeal_AdamInRefIdeal := fun m ρ m' ρ' _ hin =>
  ⟨_, _, _, _, AdamIn.run (F := Ideal) m ρ, (θ_run Cert.AdamInRefIdeal.defs _ _).mono (fun r h c => by
    have hg : AdamIn.refGrads m' c = AdamIn.grads (F := Ideal) m c := by rw [AdamIn.refGrads, AdamIn.grads, (hin c).1, (hin c).2.1]
    obtain ⟨_, _, i2, i3, i4⟩ := hin c
    obtain ⟨h0, h1, h2, h3, h4⟩ := h c
    rw [hg] at h0 h1 h2 h3
    rw [i2, i3, i4] at h1; rw [i3] at h2; rw [i4] at h3
    exact ⟨h0, h1, h2, h3, h4⟩) (AdamIn.ref_run m' ρ')⟩

/-! ### Of the output projections -/

instance : IsEmpty (SemLoc Cert.AdamOutRefIdeal.sig) := by
  constructor; rintro (s | s) <;> exact absurd s.isLt (Nat.not_lt_zero _)
theorem bodies_AdamOut : Cert.AdamOut.defs (F := Bits) = Cert.AdamOutIdeal.defs (F := Bits) :=
  congrArg (Pipeline.defs (Cert.AdamOutIdeal.pcfgs (F := Bits))) (congrArg Defs.onTc (funext fun l => funext fun x => match l, x with
    | 0, (_, _) => rfl))
theorem frame_AdamOut : Cert.quiescent_AdamOut := fun m ρ _ => bodies_AdamOut.symm ▸ Cert.AdamOutIdeal.Gen.frame (F := Bits) m ρ
theorem frame_AdamOutIdeal : Cert.quiescent_AdamOutIdeal := fun m ρ _ => Cert.AdamOutIdeal.Gen.frame (F := Ideal) m ρ
theorem frame_AdamOutRefIdeal : Cert.quiescent_AdamOutRefIdeal := fun m ρ _ =>
  (θ_run Cert.AdamOutRefIdeal.defs _ _).mono (fun _ h => ⟨fun c => (h c).2.2.2.2, atZero _⟩) (AdamOut.ref_run m ρ)
/-- Summed gradients, update and both new moments are the reference's. -/
theorem value_AdamOut : Cert.algebraic_AdamOutIdeal_AdamOutRefIdeal := fun m ρ m' ρ' _ hin =>
  ⟨_, _, _, _, AdamOut.run (F := Ideal) m ρ, (θ_run Cert.AdamOutRefIdeal.defs _ _).mono (fun r h c => by
    have hg : AdamOut.refGrads m' c = AdamOut.grads (F := Ideal) m c := by rw [AdamOut.refGrads, AdamOut.grads, (hin c).1, (hin c).2.1]
    obtain ⟨_, _, i2, i3, i4⟩ := hin c
    obtain ⟨h0, h1, h2, h3, h4⟩ := h c
    rw [hg] at h0 h1 h2 h3
    rw [i2, i3, i4] at h1; rw [i3] at h2; rw [i4] at h3
    exact ⟨h0, h1, h2, h3, h4⟩) (AdamOut.ref_run m' ρ')⟩

/-! ### Of the first feed-forward matrices -/

instance : IsEmpty (SemLoc Cert.AdamUpRefIdeal.sig) := by
  constructor; rintro (s | s) <;> exact absurd s.isLt (Nat.not_lt_zero _)
theorem bodies_AdamUp : Cert.AdamUp.defs (F := Bits) = Cert.AdamUpIdeal.defs (F := Bits) :=
  congrArg (Pipeline.defs (Cert.AdamUpIdeal.pcfgs (F := Bits))) (congrArg Defs.onTc (funext fun l => funext fun x => match l, x with
    | 0, (_, _) => rfl))
theorem frame_AdamUp : Cert.quiescent_AdamUp := fun m ρ _ => bodies_AdamUp.symm ▸ Cert.AdamUpIdeal.Gen.frame (F := Bits) m ρ
theorem frame_AdamUpIdeal : Cert.quiescent_AdamUpIdeal := fun m ρ _ => Cert.AdamUpIdeal.Gen.frame (F := Ideal) m ρ
theorem frame_AdamUpRefIdeal : Cert.quiescent_AdamUpRefIdeal := fun m ρ _ =>
  (θ_run Cert.AdamUpRefIdeal.defs _ _).mono (fun _ h => ⟨fun c => (h c).2.2.2.2, atZero _⟩) (AdamUp.ref_run m ρ)
/-- Summed gradients, update and both new moments are the reference's. -/
theorem value_AdamUp : Cert.algebraic_AdamUpIdeal_AdamUpRefIdeal := fun m ρ m' ρ' _ hin =>
  ⟨_, _, _, _, AdamUp.run (F := Ideal) m ρ, (θ_run Cert.AdamUpRefIdeal.defs _ _).mono (fun r h c => by
    have hg : AdamUp.refGrads m' c = AdamUp.grads (F := Ideal) m c := by rw [AdamUp.refGrads, AdamUp.grads, (hin c).1, (hin c).2.1]
    obtain ⟨_, _, i2, i3, i4⟩ := hin c
    obtain ⟨h0, h1, h2, h3, h4⟩ := h c
    rw [hg] at h0 h1 h2 h3
    rw [i2, i3, i4] at h1; rw [i3] at h2; rw [i4] at h3
    exact ⟨h0, h1, h2, h3, h4⟩) (AdamUp.ref_run m' ρ')⟩

/-! ### Of the second feed-forward matrices -/

instance : IsEmpty (SemLoc Cert.AdamDownRefIdeal.sig) := by
  constructor; rintro (s | s) <;> exact absurd s.isLt (Nat.not_lt_zero _)
theorem bodies_AdamDown : Cert.AdamDown.defs (F := Bits) = Cert.AdamDownIdeal.defs (F := Bits) :=
  congrArg (Pipeline.defs (Cert.AdamDownIdeal.pcfgs (F := Bits))) (congrArg Defs.onTc (funext fun l => funext fun x => match l, x with
    | 0, (_, _) => rfl))
theorem frame_AdamDown : Cert.quiescent_AdamDown := fun m ρ _ => bodies_AdamDown.symm ▸ Cert.AdamDownIdeal.Gen.frame (F := Bits) m ρ
theorem frame_AdamDownIdeal : Cert.quiescent_AdamDownIdeal := fun m ρ _ => Cert.AdamDownIdeal.Gen.frame (F := Ideal) m ρ
theorem frame_AdamDownRefIdeal : Cert.quiescent_AdamDownRefIdeal := fun m ρ _ =>
  (θ_run Cert.AdamDownRefIdeal.defs _ _).mono (fun _ h => ⟨fun c => (h c).2.2.2.2, atZero _⟩) (AdamDown.ref_run m ρ)
/-- Summed gradients, update and both new moments are the reference's. -/
theorem value_AdamDown : Cert.algebraic_AdamDownIdeal_AdamDownRefIdeal := fun m ρ m' ρ' _ hin =>
  ⟨_, _, _, _, AdamDown.run (F := Ideal) m ρ, (θ_run Cert.AdamDownRefIdeal.defs _ _).mono (fun r h c => by
    have hg : AdamDown.refGrads m' c = AdamDown.grads (F := Ideal) m c := by rw [AdamDown.refGrads, AdamDown.grads, (hin c).1, (hin c).2.1]
    obtain ⟨_, _, i2, i3, i4⟩ := hin c
    obtain ⟨h0, h1, h2, h3, h4⟩ := h c
    rw [hg] at h0 h1 h2 h3
    rw [i2, i3, i4] at h1; rw [i3] at h2; rw [i4] at h3
    exact ⟨h0, h1, h2, h3, h4⟩) (AdamDown.ref_run m' ρ')⟩

/-! ### Of the convolution weights -/

instance : IsEmpty (SemLoc Cert.AdamConvRefIdeal.sig) := by
  constructor; rintro (s | s) <;> exact absurd s.isLt (Nat.not_lt_zero _)
theorem bodies_AdamConv : Cert.AdamConv.defs (F := Bits) = Cert.AdamConvIdeal.defs (F := Bits) :=
  congrArg (Pipeline.defs (Cert.AdamConvIdeal.pcfgs (F := Bits))) (congrArg Defs.onTc (funext fun l => funext fun x => match l, x with
    | 0, (_, _) => rfl))
theorem frame_AdamConv : Cert.quiescent_AdamConv := fun m ρ _ => bodies_AdamConv.symm ▸ Cert.AdamConvIdeal.Gen.frame (F := Bits) m ρ
theorem frame_AdamConvIdeal : Cert.quiescent_AdamConvIdeal := fun m ρ _ => Cert.AdamConvIdeal.Gen.frame (F := Ideal) m ρ
theorem frame_AdamConvRefIdeal : Cert.quiescent_AdamConvRefIdeal := fun m ρ _ =>
  (θ_run Cert.AdamConvRefIdeal.defs _ _).mono (fun _ h => ⟨fun c => (h c).2.2.2.2, atZero _⟩) (AdamConv.ref_run m ρ)
/-- Summed gradients, update and both new moments are the reference's. -/
theorem value_AdamConv : Cert.algebraic_AdamConvIdeal_AdamConvRefIdeal := fun m ρ m' ρ' _ hin =>
  ⟨_, _, _, _, AdamConv.run (F := Ideal) m ρ, (θ_run Cert.AdamConvRefIdeal.defs _ _).mono (fun r h c => by
    have hg : AdamConv.refGrads m' c = AdamConv.grads (F := Ideal) m c := by rw [AdamConv.refGrads, AdamConv.grads, (hin c).1, (hin c).2.1]
    obtain ⟨_, _, i2, i3, i4⟩ := hin c
    obtain ⟨h0, h1, h2, h3, h4⟩ := h c
    rw [hg] at h0 h1 h2 h3
    rw [i2, i3, i4] at h1; rw [i3] at h2; rw [i4] at h3
    exact ⟨h0, h1, h2, h3, h4⟩) (AdamConv.ref_run m' ρ')⟩

/-! ### Of the gains -/

instance : IsEmpty (SemLoc Cert.AdamGainsRefIdeal.sig) := by
  constructor; rintro (s | s) <;> exact absurd s.isLt (Nat.not_lt_zero _)
theorem bodies_AdamGains : Cert.AdamGains.defs (F := Bits) = Cert.AdamGainsIdeal.defs (F := Bits) :=
  congrArg (Pipeline.defs (Cert.AdamGainsIdeal.pcfgs (F := Bits))) (congrArg Defs.onTc (funext fun l => funext fun x => match l, x with
    | 0, (_, _) => rfl))
theorem frame_AdamGains : Cert.quiescent_AdamGains := fun m ρ _ => bodies_AdamGains.symm ▸ Cert.AdamGainsIdeal.Gen.frame (F := Bits) m ρ
theorem frame_AdamGainsIdeal : Cert.quiescent_AdamGainsIdeal := fun m ρ _ => Cert.AdamGainsIdeal.Gen.frame (F := Ideal) m ρ
theorem frame_AdamGainsRefIdeal : Cert.quiescent_AdamGainsRefIdeal := fun m ρ _ =>
  (θ_run Cert.AdamGainsRefIdeal.defs _ _).mono (fun _ h => ⟨fun c => (h c).2.2.2.2, atZero _⟩) (AdamGains.ref_run m ρ)
/-- Summed gradients, update and both new moments are the reference's. -/
theorem value_AdamGains : Cert.algebraic_AdamGainsIdeal_AdamGainsRefIdeal := fun m ρ m' ρ' _ hin =>
  ⟨_, _, _, _, AdamGains.run (F := Ideal) m ρ, (θ_run Cert.AdamGainsRefIdeal.defs _ _).mono (fun r h c => by
    have hg : AdamGains.refGrads m' c = AdamGains.grads (F := Ideal) m c := by rw [AdamGains.refGrads, AdamGains.grads, (hin c).1]
    obtain ⟨_, i2, i3, i4⟩ := hin c
    obtain ⟨h0, h1, h2, h3, h4⟩ := h c
    rw [hg] at h0 h1 h2 h3
    rw [i2, i3, i4] at h1; rw [i3] at h2; rw [i4] at h3
    exact ⟨h0, h1, h2, h3, h4⟩) (AdamGains.ref_run m' ρ')⟩

/-! ## The gradient of the input -/

instance : IsEmpty (SemLoc Cert.GradXRefIdeal.sig) := by
  constructor; rintro (s | s) <;> exact absurd s.isLt (Nat.not_lt_zero _)
theorem bodies_GradX : Cert.GradX.defs (F := Bits) = Cert.GradXIdeal.defs (F := Bits) :=
  congrArg (Pipeline.defs (Cert.GradXIdeal.pcfgs (F := Bits))) (congrArg Defs.onTc (funext fun l => funext fun x => match l, x with
    | 0, (_, _) => rfl))
theorem frame_GradX : Cert.quiescent_GradX := fun m ρ _ => bodies_GradX.symm ▸ Cert.GradXIdeal.Gen.frame (F := Bits) m ρ
theorem frame_GradXIdeal : Cert.quiescent_GradXIdeal := fun m ρ _ => Cert.GradXIdeal.Gen.frame (F := Ideal) m ρ
theorem frame_GradXRefIdeal : Cert.quiescent_GradXRefIdeal := fun m ρ _ =>
  (θ_run Cert.GradXRefIdeal.defs _ _).mono (fun _ h => ⟨fun c => (h c).2.2.2, atZero _⟩) (GradX.ref_run m ρ)
/-- The gradient of the rows, the same rounded, and the gradient of the gain are the reference's. -/
theorem value_GradX : Cert.algebraic_GradXIdeal_GradXRefIdeal := fun m ρ m' ρ' _ hin =>
  ⟨_, _, _, GradX.run m ρ, (θ_run Cert.GradXRefIdeal.defs _ _).mono (fun r h c => by
    obtain ⟨i0, i1, i2, i3, i4⟩ := hin c
    have hx : GradX.refGrad m' c = GradX.outGrad m c := by rw [GradX.refGrad, GradX.outGrad, i0, i1, i2, i3, i4]
    have hg : GradX.refGain m' c = GradX.outGain m c := by rw [GradX.refGain, GradX.outGain, i0, i1, i2]
    obtain ⟨h0, h1, h2, h3⟩ := h c
    exact ⟨h0.trans hx, h1.trans hx, h2.trans hg, h3⟩) (GradX.ref_run m' ρ')⟩

/-! ## The loss and its gradient -/

instance : IsEmpty (SemLoc Cert.LossHeadRefIdeal.sig) := by
  constructor; rintro (s | s) <;> exact absurd s.isLt (Nat.not_lt_zero _)
theorem bodies_LossHead : Cert.LossHead.defs (F := Bits) = Cert.LossHeadIdeal.defs (F := Bits) :=
  congrArg (Pipeline.defs (Cert.LossHeadIdeal.pcfgs (F := Bits))) (congrArg Defs.onTc (funext fun l => funext fun x => match l, x with
    | 0, (_, _) => rfl))
theorem frame_LossHead : Cert.quiescent_LossHead := fun m ρ _ => bodies_LossHead.symm ▸ Cert.LossHeadIdeal.Gen.frame (F := Bits) m ρ
theorem frame_LossHeadIdeal : Cert.quiescent_LossHeadIdeal := fun m ρ _ => Cert.LossHeadIdeal.Gen.frame (F := Ideal) m ρ
theorem frame_LossHeadRefIdeal : Cert.quiescent_LossHeadRefIdeal := fun m ρ _ =>
  (θ_run Cert.LossHeadRefIdeal.defs _ _).mono (fun _ h => ⟨fun c => (h c).2.2.2.2, atZero _⟩) (LossHead.ref_run m ρ)
/-- The loss, the gradient of the rows, the same rounded, and the gradient of the gain are the reference's. -/
theorem value_LossHead : Cert.algebraic_LossHeadIdeal_LossHeadRefIdeal := fun m ρ m' ρ' _ hin =>
  ⟨_, _, _, _, LossHead.run m ρ, (θ_run Cert.LossHeadRefIdeal.defs _ _).mono (fun r h c => by
    obtain ⟨i0, i1, i2⟩ := hin c
    have hLoss : LossHead.refLoss m' c = LossHead.outLoss m c := by rw [LossHead.refLoss, LossHead.outLoss, i0, i1, i2]
    have hGrad : LossHead.refGrad m' c = LossHead.outGrad m c := by rw [LossHead.refGrad, LossHead.outGrad, i0, i1, i2]
    have hGain : LossHead.refGain m' c = LossHead.outGain m c := by rw [LossHead.refGain, LossHead.outGain, i0, i1, i2]
    obtain ⟨h0, h1, h2, h3, h4⟩ := h c
    exact ⟨h0.trans hLoss, h1.trans hGrad, h2.trans hGrad, h3.trans hGain, h4⟩) (LossHead.ref_run m' ρ')⟩

/-! ## The weight gradients -/

instance : IsEmpty (SemLoc Cert.GradInRefIdeal.sig) := by
  constructor; rintro (s | s) <;> exact absurd s.isLt (Nat.not_lt_zero _)
theorem bodies_GradIn : Cert.GradIn.defs (F := Bits) = Cert.GradInIdeal.defs (F := Bits) :=
  congrArg (Pipeline.defs (Cert.GradInIdeal.pcfgs (F := Bits))) (congrArg Defs.onTc (funext fun l => funext fun x => match l, x with
    | 0, (_, _) => rfl))
theorem frame_GradIn : Cert.quiescent_GradIn := fun m ρ _ => bodies_GradIn.symm ▸ Cert.GradInIdeal.Gen.frame (F := Bits) m ρ
theorem frame_GradInIdeal : Cert.quiescent_GradInIdeal := fun m ρ _ => Cert.GradInIdeal.Gen.frame (F := Ideal) m ρ
theorem frame_GradInRefIdeal : Cert.quiescent_GradInRefIdeal := fun m ρ _ =>
  (θ_run Cert.GradInRefIdeal.defs _ _).mono (fun _ h => ⟨fun c => (h c).2, atZero _⟩) (GradIn.ref_run m ρ)
/-- The input projection's weight gradient is the reference's. -/
theorem value_GradIn : Cert.algebraic_GradInIdeal_GradInRefIdeal := fun m ρ m' ρ' _ hin =>
  ⟨_, GradIn.run m ρ, (θ_run Cert.GradInRefIdeal.defs _ _).mono (fun r h c => by
    obtain ⟨i0, i1⟩ := hin c
    have hOut : GradIn.refOut m' c = GradIn.out m c := by rw [GradIn.refOut, GradIn.out, i0, i1]
    exact ⟨(h c).1.trans hOut, (h c).2⟩) (GradIn.ref_run m' ρ')⟩

instance : IsEmpty (SemLoc Cert.GradOutRefIdeal.sig) := by
  constructor; rintro (s | s) <;> exact absurd s.isLt (Nat.not_lt_zero _)
theorem bodies_GradOut : Cert.GradOut.defs (F := Bits) = Cert.GradOutIdeal.defs (F := Bits) :=
  congrArg (Pipeline.defs (Cert.GradOutIdeal.pcfgs (F := Bits))) (congrArg Defs.onTc (funext fun l => funext fun x => match l, x with
    | 0, (_, _) => rfl))
theorem frame_GradOut : Cert.quiescent_GradOut := fun m ρ _ => bodies_GradOut.symm ▸ Cert.GradOutIdeal.Gen.frame (F := Bits) m ρ
theorem frame_GradOutIdeal : Cert.quiescent_GradOutIdeal := fun m ρ _ => Cert.GradOutIdeal.Gen.frame (F := Ideal) m ρ
theorem frame_GradOutRefIdeal : Cert.quiescent_GradOutRefIdeal := fun m ρ _ =>
  (θ_run Cert.GradOutRefIdeal.defs _ _).mono (fun _ h => ⟨fun c => (h c).2, atZero _⟩) (GradOut.ref_run m ρ)
/-- The output projection's weight gradient is the reference's. -/
theorem value_GradOut : Cert.algebraic_GradOutIdeal_GradOutRefIdeal := fun m ρ m' ρ' _ hin =>
  ⟨_, GradOut.run m ρ, (θ_run Cert.GradOutRefIdeal.defs _ _).mono (fun r h c => by
    obtain ⟨i0, i1⟩ := hin c
    have hOut : GradOut.refOut m' c = GradOut.out m c := by rw [GradOut.refOut, GradOut.out, i0, i1]
    exact ⟨(h c).1.trans hOut, (h c).2⟩) (GradOut.ref_run m' ρ')⟩

instance : IsEmpty (SemLoc Cert.GradUpRefIdeal.sig) := by
  constructor; rintro (s | s) <;> exact absurd s.isLt (Nat.not_lt_zero _)
theorem bodies_GradUp : Cert.GradUp.defs (F := Bits) = Cert.GradUpIdeal.defs (F := Bits) :=
  congrArg (Pipeline.defs (Cert.GradUpIdeal.pcfgs (F := Bits))) (congrArg Defs.onTc (funext fun l => funext fun x => match l, x with
    | 0, (_, _) => rfl))
theorem frame_GradUp : Cert.quiescent_GradUp := fun m ρ _ => bodies_GradUp.symm ▸ Cert.GradUpIdeal.Gen.frame (F := Bits) m ρ
theorem frame_GradUpIdeal : Cert.quiescent_GradUpIdeal := fun m ρ _ => Cert.GradUpIdeal.Gen.frame (F := Ideal) m ρ
theorem frame_GradUpRefIdeal : Cert.quiescent_GradUpRefIdeal := fun m ρ _ =>
  (θ_run Cert.GradUpRefIdeal.defs _ _).mono (fun _ h => ⟨fun c => (h c).2, atZero _⟩) (GradUp.ref_run m ρ)
/-- The up projection's weight gradient is the reference's. -/
theorem value_GradUp : Cert.algebraic_GradUpIdeal_GradUpRefIdeal := fun m ρ m' ρ' _ hin =>
  ⟨_, GradUp.run m ρ, (θ_run Cert.GradUpRefIdeal.defs _ _).mono (fun r h c => by
    obtain ⟨i0, i1⟩ := hin c
    have hOut : GradUp.refOut m' c = GradUp.out m c := by rw [GradUp.refOut, GradUp.out, i0, i1]
    exact ⟨(h c).1.trans hOut, (h c).2⟩) (GradUp.ref_run m' ρ')⟩

instance : IsEmpty (SemLoc Cert.GradDownRefIdeal.sig) := by
  constructor; rintro (s | s) <;> exact absurd s.isLt (Nat.not_lt_zero _)
theorem bodies_GradDown : Cert.GradDown.defs (F := Bits) = Cert.GradDownIdeal.defs (F := Bits) :=
  congrArg (Pipeline.defs (Cert.GradDownIdeal.pcfgs (F := Bits))) (congrArg Defs.onTc (funext fun l => funext fun x => match l, x with
    | 0, (_, _) => rfl))
theorem frame_GradDown : Cert.quiescent_GradDown := fun m ρ _ => bodies_GradDown.symm ▸ Cert.GradDownIdeal.Gen.frame (F := Bits) m ρ
theorem frame_GradDownIdeal : Cert.quiescent_GradDownIdeal := fun m ρ _ => Cert.GradDownIdeal.Gen.frame (F := Ideal) m ρ
theorem frame_GradDownRefIdeal : Cert.quiescent_GradDownRefIdeal := fun m ρ _ =>
  (θ_run Cert.GradDownRefIdeal.defs _ _).mono (fun _ h => ⟨fun c => (h c).2, atZero _⟩) (GradDown.ref_run m ρ)
/-- The down projection's weight gradient is the reference's. -/
theorem value_GradDown : Cert.algebraic_GradDownIdeal_GradDownRefIdeal := fun m ρ m' ρ' _ hin =>
  ⟨_, GradDown.run m ρ, (θ_run Cert.GradDownRefIdeal.defs _ _).mono (fun r h c => by
    obtain ⟨i0, i1⟩ := hin c
    have hOut : GradDown.refOut m' c = GradDown.out m c := by rw [GradDown.refOut, GradDown.out, i0, i1]
    exact ⟨(h c).1.trans hOut, (h c).2⟩) (GradDown.ref_run m' ρ')⟩

/-! ## The forward pass's products and norms -/

instance : IsEmpty (SemLoc Cert.NormInRefIdeal.sig) := by
  constructor; rintro (s | s) <;> exact absurd s.isLt (Nat.not_lt_zero _)
theorem bodies_NormIn : Cert.NormIn.defs (F := Bits) = Cert.NormInIdeal.defs (F := Bits) :=
  congrArg (Pipeline.defs (Cert.NormInIdeal.pcfgs (F := Bits))) (congrArg Defs.onTc (funext fun l => funext fun x => match l, x with
    | 0, (_, _) => rfl))
theorem frame_NormIn : Cert.quiescent_NormIn := fun m ρ _ => bodies_NormIn.symm ▸ Cert.NormInIdeal.Gen.frame (F := Bits) m ρ
theorem frame_NormInIdeal : Cert.quiescent_NormInIdeal := fun m ρ _ => Cert.NormInIdeal.Gen.frame (F := Ideal) m ρ
theorem frame_NormInRefIdeal : Cert.quiescent_NormInRefIdeal := fun m ρ _ =>
  (θ_run Cert.NormInRefIdeal.defs _ _).mono (fun _ h => ⟨fun c => (h c).2, atZero _⟩) (NormIn.ref_run m ρ)
/-- The normalised rows are the reference's. -/
theorem value_NormIn : Cert.algebraic_NormInIdeal_NormInRefIdeal := fun m ρ m' ρ' _ hin =>
  ⟨_, NormIn.run m ρ, (θ_run Cert.NormInRefIdeal.defs _ _).mono (fun r h c => by
    obtain ⟨i0, i1⟩ := hin c
    have hOut : NormIn.refOut m' c = NormIn.out m c := by rw [NormIn.refOut, NormIn.out, i0, i1]
    exact ⟨(h c).1.trans hOut, (h c).2⟩) (NormIn.ref_run m' ρ')⟩

instance : IsEmpty (SemLoc Cert.ProjectRefIdeal.sig) := by
  constructor; rintro (s | s) <;> exact absurd s.isLt (Nat.not_lt_zero _)
theorem bodies_Project : Cert.Project.defs (F := Bits) = Cert.ProjectIdeal.defs (F := Bits) :=
  congrArg (Pipeline.defs (Cert.ProjectIdeal.pcfgs (F := Bits))) (congrArg Defs.onTc (funext fun l => funext fun x => match l, x with
    | 0, (_, _) => rfl))
theorem frame_Project : Cert.quiescent_Project := fun m ρ _ => bodies_Project.symm ▸ Cert.ProjectIdeal.Gen.frame (F := Bits) m ρ
theorem frame_ProjectIdeal : Cert.quiescent_ProjectIdeal := fun m ρ _ => Cert.ProjectIdeal.Gen.frame (F := Ideal) m ρ
theorem frame_ProjectRefIdeal : Cert.quiescent_ProjectRefIdeal := fun m ρ _ =>
  (θ_run Cert.ProjectRefIdeal.defs _ _).mono (fun _ h => ⟨fun c => (h c).2, atZero _⟩) (Project.ref_run m ρ)
/-- The input projection is the reference's. -/
theorem value_Project : Cert.algebraic_ProjectIdeal_ProjectRefIdeal := fun m ρ m' ρ' _ hin =>
  ⟨_, Project.run m ρ, (θ_run Cert.ProjectRefIdeal.defs _ _).mono (fun r h c => by
    obtain ⟨i0, i1⟩ := hin c
    have hOut : Project.refOut m' c = Project.out m c := by rw [Project.refOut, Project.out, i0, i1]
    exact ⟨(h c).1.trans hOut, (h c).2⟩) (Project.ref_run m' ρ')⟩

instance : IsEmpty (SemLoc Cert.MixOutRefIdeal.sig) := by
  constructor; rintro (s | s) <;> exact absurd s.isLt (Nat.not_lt_zero _)
theorem bodies_MixOut : Cert.MixOut.defs (F := Bits) = Cert.MixOutIdeal.defs (F := Bits) :=
  congrArg (Pipeline.defs (Cert.MixOutIdeal.pcfgs (F := Bits))) (congrArg Defs.onTc (funext fun l => funext fun x => match l, x with
    | 0, (_, _) => rfl))
theorem frame_MixOut : Cert.quiescent_MixOut := fun m ρ _ => bodies_MixOut.symm ▸ Cert.MixOutIdeal.Gen.frame (F := Bits) m ρ
theorem frame_MixOutIdeal : Cert.quiescent_MixOutIdeal := fun m ρ _ => Cert.MixOutIdeal.Gen.frame (F := Ideal) m ρ
theorem frame_MixOutRefIdeal : Cert.quiescent_MixOutRefIdeal := fun m ρ _ =>
  (θ_run Cert.MixOutRefIdeal.defs _ _).mono (fun _ h => ⟨fun c => (h c).2.2, atZero _⟩) (MixOut.ref_run m ρ)
/-- The output projection with the residual, and its normalised rows, are the reference's. -/
theorem value_MixOut : Cert.algebraic_MixOutIdeal_MixOutRefIdeal := fun m ρ m' ρ' _ hin =>
  ⟨_, _, MixOut.run m ρ, (θ_run Cert.MixOutRefIdeal.defs _ _).mono (fun r h c => by
    obtain ⟨i0, i1, i2, i3⟩ := hin c
    have hOut : MixOut.refOut m' c = MixOut.out m c := by rw [MixOut.refOut, MixOut.out, i0, i1, i2]
    have hNormed : MixOut.refNormed m' c = MixOut.outNormed m c := by rw [MixOut.refNormed, MixOut.outNormed, i0, i1, i2, i3]
    obtain ⟨h0, h1, h2⟩ := h c
    exact ⟨h0.trans hOut, h1.trans hNormed, h2⟩) (MixOut.ref_run m' ρ')⟩

instance : IsEmpty (SemLoc Cert.FfnUpRefIdeal.sig) := by
  constructor; rintro (s | s) <;> exact absurd s.isLt (Nat.not_lt_zero _)
theorem bodies_FfnUp : Cert.FfnUp.defs (F := Bits) = Cert.FfnUpIdeal.defs (F := Bits) :=
  congrArg (Pipeline.defs (Cert.FfnUpIdeal.pcfgs (F := Bits))) (congrArg Defs.onTc (funext fun l => funext fun x => match l, x with
    | 0, (_, _) => rfl))
theorem frame_FfnUp : Cert.quiescent_FfnUp := fun m ρ _ => bodies_FfnUp.symm ▸ Cert.FfnUpIdeal.Gen.frame (F := Bits) m ρ
theorem frame_FfnUpIdeal : Cert.quiescent_FfnUpIdeal := fun m ρ _ => Cert.FfnUpIdeal.Gen.frame (F := Ideal) m ρ
theorem frame_FfnUpRefIdeal : Cert.quiescent_FfnUpRefIdeal := fun m ρ _ =>
  (θ_run Cert.FfnUpRefIdeal.defs _ _).mono (fun _ h => ⟨fun c => (h c).2, atZero _⟩) (FfnUp.ref_run m ρ)
/-- The up projection is the reference's. -/
theorem value_FfnUp : Cert.algebraic_FfnUpIdeal_FfnUpRefIdeal := fun m ρ m' ρ' _ hin =>
  ⟨_, FfnUp.run m ρ, (θ_run Cert.FfnUpRefIdeal.defs _ _).mono (fun r h c => by
    obtain ⟨i0, i1⟩ := hin c
    have hOut : FfnUp.refOut m' c = FfnUp.out m c := by rw [FfnUp.refOut, FfnUp.out, i0, i1]
    exact ⟨(h c).1.trans hOut, (h c).2⟩) (FfnUp.ref_run m' ρ')⟩

instance : IsEmpty (SemLoc Cert.DCatRefIdeal.sig) := by
  constructor; rintro (s | s) <;> exact absurd s.isLt (Nat.not_lt_zero _)
theorem bodies_DCat : Cert.DCat.defs (F := Bits) = Cert.DCatIdeal.defs (F := Bits) :=
  congrArg (Pipeline.defs (Cert.DCatIdeal.pcfgs (F := Bits))) (congrArg Defs.onTc (funext fun l => funext fun x => match l, x with
    | 0, (_, _) => rfl))
theorem frame_DCat : Cert.quiescent_DCat := fun m ρ _ => bodies_DCat.symm ▸ Cert.DCatIdeal.Gen.frame (F := Bits) m ρ
theorem frame_DCatIdeal : Cert.quiescent_DCatIdeal := fun m ρ _ => Cert.DCatIdeal.Gen.frame (F := Ideal) m ρ
theorem frame_DCatRefIdeal : Cert.quiescent_DCatRefIdeal := fun m ρ _ =>
  (θ_run Cert.DCatRefIdeal.defs _ _).mono (fun _ h => ⟨fun c => (h c).2, atZero _⟩) (DCat.ref_run m ρ)
/-- The gradient through the output projection is the reference's. -/
theorem value_DCat : Cert.algebraic_DCatIdeal_DCatRefIdeal := fun m ρ m' ρ' _ hin =>
  ⟨_, DCat.run m ρ, (θ_run Cert.DCatRefIdeal.defs _ _).mono (fun r h c => by
    obtain ⟨i0, i1⟩ := hin c
    have hOut : DCat.refOut m' c = DCat.out m c := by rw [DCat.refOut, DCat.out, i0, i1]
    exact ⟨(h c).1.trans hOut, (h c).2⟩) (DCat.ref_run m' ρ')⟩

theorem claim : Cert.Claim := ⟨Cert.Kernel.Gen.facts, Cert.KernelIdeal.Gen.facts, factsRI, Cert.Reference.Gen.facts,
  Cert.Scatter0a.Gen.facts, Cert.Scatter0aIdeal.Gen.facts, factsScatter0aRef, Cert.Scatter0aRef.Gen.facts,
  Cert.Scatter0b.Gen.facts, Cert.Scatter0bIdeal.Gen.facts, factsScatter0bRef, Cert.Scatter0bRef.Gen.facts,
  Cert.GatherE.Gen.facts, Cert.GatherEIdeal.Gen.facts, factsGatherERef, Cert.GatherERef.Gen.facts,
  Cert.GatherB.Gen.facts, Cert.GatherBIdeal.Gen.facts, factsGatherBRef, Cert.GatherBRef.Gen.facts,
  Cert.GatherC.Gen.facts, Cert.GatherCIdeal.Gen.facts, factsGatherCRef, Cert.GatherCRef.Gen.facts,
  Cert.GatherD.Gen.facts, Cert.GatherDIdeal.Gen.facts, factsGatherDRef, Cert.GatherDRef.Gen.facts,
  Cert.GatherA.Gen.facts, Cert.GatherAIdeal.Gen.facts, factsGatherARef, Cert.GatherARef.Gen.facts,
  Cert.AdamIn.Gen.facts, Cert.AdamInIdeal.Gen.facts, Cert.AdamInRefIdeal.Gen.facts,
  Cert.AdamOut.Gen.facts, Cert.AdamOutIdeal.Gen.facts, Cert.AdamOutRefIdeal.Gen.facts,
  Cert.AdamUp.Gen.facts, Cert.AdamUpIdeal.Gen.facts, Cert.AdamUpRefIdeal.Gen.facts,
  Cert.AdamDown.Gen.facts, Cert.AdamDownIdeal.Gen.facts, Cert.AdamDownRefIdeal.Gen.facts,
  Cert.AdamConv.Gen.facts, Cert.AdamConvIdeal.Gen.facts, Cert.AdamConvRefIdeal.Gen.facts,
  Cert.AdamGains.Gen.facts, Cert.AdamGainsIdeal.Gen.facts, Cert.AdamGainsRefIdeal.Gen.facts,
  Cert.GradX.Gen.facts, Cert.GradXIdeal.Gen.facts, Cert.GradXRefIdeal.Gen.facts,
  Cert.LossHead.Gen.facts, Cert.LossHeadIdeal.Gen.facts, Cert.LossHeadRefIdeal.Gen.facts,
  Cert.GradIn.Gen.facts, Cert.GradInIdeal.Gen.facts, Cert.GradInRefIdeal.Gen.facts,
  Cert.GradOut.Gen.facts, Cert.GradOutIdeal.Gen.facts, Cert.GradOutRefIdeal.Gen.facts,
  Cert.GradUp.Gen.facts, Cert.GradUpIdeal.Gen.facts, Cert.GradUpRefIdeal.Gen.facts,
  Cert.GradDown.Gen.facts, Cert.GradDownIdeal.Gen.facts, Cert.GradDownRefIdeal.Gen.facts,
  Cert.NormIn.Gen.facts, Cert.NormInIdeal.Gen.facts, Cert.NormInRefIdeal.Gen.facts,
  Cert.Project.Gen.facts, Cert.ProjectIdeal.Gen.facts, Cert.ProjectRefIdeal.Gen.facts,
  Cert.MixOut.Gen.facts, Cert.MixOutIdeal.Gen.facts, Cert.MixOutRefIdeal.Gen.facts,
  Cert.FfnUp.Gen.facts, Cert.FfnUpIdeal.Gen.facts, Cert.FfnUpRefIdeal.Gen.facts,
  Cert.DCat.Gen.facts, Cert.DCatIdeal.Gen.facts, Cert.DCatRefIdeal.Gen.facts,
  frame_kernel, frame_kernelIdeal, frame_referenceIdeal, frame_reference,
  frame_Scatter0a, frame_Scatter0aIdeal, frame_Scatter0aRefIdeal, frame_Scatter0aRef,
  frame_Scatter0b, frame_Scatter0bIdeal, frame_Scatter0bRefIdeal, frame_Scatter0bRef,
  frame_GatherE, frame_GatherEIdeal, frame_GatherERefIdeal, frame_GatherERef,
  frame_GatherB, frame_GatherBIdeal, frame_GatherBRefIdeal, frame_GatherBRef,
  frame_GatherC, frame_GatherCIdeal, frame_GatherCRefIdeal, frame_GatherCRef,
  frame_GatherD, frame_GatherDIdeal, frame_GatherDRefIdeal, frame_GatherDRef,
  frame_GatherA, frame_GatherAIdeal, frame_GatherARefIdeal, frame_GatherARef,
  frame_AdamIn, frame_AdamInIdeal, frame_AdamInRefIdeal,
  frame_AdamOut, frame_AdamOutIdeal, frame_AdamOutRefIdeal,
  frame_AdamUp, frame_AdamUpIdeal, frame_AdamUpRefIdeal,
  frame_AdamDown, frame_AdamDownIdeal, frame_AdamDownRefIdeal,
  frame_AdamConv, frame_AdamConvIdeal, frame_AdamConvRefIdeal,
  frame_AdamGains, frame_AdamGainsIdeal, frame_AdamGainsRefIdeal,
  frame_GradX, frame_GradXIdeal, frame_GradXRefIdeal,
  frame_LossHead, frame_LossHeadIdeal, frame_LossHeadRefIdeal,
  frame_GradIn, frame_GradInIdeal, frame_GradInRefIdeal,
  frame_GradOut, frame_GradOutIdeal, frame_GradOutRefIdeal,
  frame_GradUp, frame_GradUpIdeal, frame_GradUpRefIdeal,
  frame_GradDown, frame_GradDownIdeal, frame_GradDownRefIdeal,
  frame_NormIn, frame_NormInIdeal, frame_NormInRefIdeal,
  frame_Project, frame_ProjectIdeal, frame_ProjectRefIdeal,
  frame_MixOut, frame_MixOutIdeal, frame_MixOutRefIdeal,
  frame_FfnUp, frame_FfnUpIdeal, frame_FfnUpRefIdeal,
  frame_DCat, frame_DCatIdeal, frame_DCatRefIdeal,
  trivial, value_ideal, value_bits,
  trivial, value_ideal_Scatter0a, value_bits_Scatter0a,
  trivial, value_ideal_Scatter0b, value_bits_Scatter0b,
  trivial, value_ideal_GatherE, value_bits_GatherE,
  trivial, value_ideal_GatherB, value_bits_GatherB,
  trivial, value_ideal_GatherC, value_bits_GatherC,
  trivial, value_ideal_GatherD, value_bits_GatherD,
  trivial, value_ideal_GatherA, value_bits_GatherA,
  trivial, value_AdamIn,
  trivial, value_AdamOut,
  trivial, value_AdamUp,
  trivial, value_AdamDown,
  trivial, value_AdamConv,
  trivial, value_AdamGains,
  trivial, value_GradX,
  trivial, value_LossHead,
  trivial, value_GradIn,
  trivial, value_GradOut,
  trivial, value_GradUp,
  trivial, value_GradDown,
  trivial, value_NormIn,
  trivial, value_Project,
  trivial, value_MixOut,
  trivial, value_FfnUp,
  trivial, value_DCat⟩

end Cert.Proof

end
